-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11)
      ∧ r.2.mem ((c.tc : Thread Cert.Kernel13.nD Cert.Kernel13.τ).loc Cert.Kernel13.main_arg12) = m ((c.tc : Thread Cert.Kernel13.nD Cert.Kernel13.τ).loc Cert.Kernel13.main_arg12)
      ∧ r.2.mem ((c.tc : Thread Cert.Kernel13.nD Cert.Kernel13.τ).loc Cert.Kernel13.main_arg13) = m ((c.tc : Thread Cert.Kernel13.nD Cert.Kernel13.τ).loc Cert.Kernel13.main_arg13))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
      ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
      ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v145) = v2 c
          ∧ r.2.mem ((c.tc : Thread Cert.ReferenceIdeal.nD Cert.ReferenceIdeal.τ).loc Cert.ReferenceIdeal.main_v121) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_1)) (v1 : (c : Dev Cert.Kernel2Ideal.nD) → Buf (Elt Ideal) ((c.tc : Thread Cert.Kernel2Ideal.nD Cert.Kernel2Ideal.τ).loc Cert.Kernel2Ideal.main_v1_2)) (v2 : (c : Dev Cert.Kernel2Ideal.nD) → Buf (Elt Ideal) ((c.tc : Thread Cert.Kernel2Ideal.nD Cert.Kernel2Ideal.τ).loc Cert.Kernel2Ideal.main_v1_0)) (v3 : (c : Dev Cert.Kernel2Ideal.nD) → Buf (Elt Ideal) ((c.tc : Thread Cert.Kernel2Ideal.nD Cert.Kernel2Ideal.τ).loc Cert.Kernel2Ideal.main_v0_0)) (v4 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_1) = v0 c
          ∧ r.2.mem ((c.tc : Thread Cert.Kernel2Ideal.nD Cert.Kernel2Ideal.τ).loc Cert.Kernel2Ideal.main_v1_2) = v1 c
          ∧ r.2.mem ((c.tc : Thread Cert.Kernel2Ideal.nD Cert.Kernel2Ideal.τ).loc Cert.Kernel2Ideal.main_v1_0) = v2 c
          ∧ r.2.mem ((c.tc : Thread Cert.Kernel2Ideal.nD Cert.Kernel2Ideal.τ).loc Cert.Kernel2Ideal.main_v0_0) = v3 c
          ∧ r.2.mem ((c.tc : Thread Cert.Kernel2Ideal.nD Cert.Kernel2Ideal.τ).loc Cert.Kernel2Ideal.main_v0_1) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v12) = v2 c
          ∧ r.2.mem ((c.tc : Thread Cert.Reference2Ideal.nD Cert.Reference2Ideal.τ).loc Cert.Reference2Ideal.main_v14) = v3 c
          ∧ r.2.mem ((c.tc : Thread Cert.Reference2Ideal.nD Cert.Reference2Ideal.τ).loc Cert.Reference2Ideal.main_v15) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v4)) (v2 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v4) = v1 c
          ∧ r.2.mem ((c.tc : Thread Cert.Kernel3Ideal.nD Cert.Kernel3Ideal.τ).loc Cert.Kernel3Ideal.main_v3) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v10) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v0)) (v1 : (c : Dev Cert.Kernel7Ideal.nD) → Buf (Elt Ideal) ((c.tc : Thread Cert.Kernel7Ideal.nD Cert.Kernel7Ideal.τ).loc Cert.Kernel7Ideal.main_v7)) (v2 : (c : Dev Cert.Kernel7Ideal.nD) → Buf (Elt Ideal) ((c.tc : Thread Cert.Kernel7Ideal.nD Cert.Kernel7Ideal.τ).loc Cert.Kernel7Ideal.main_v8)) (v3 : (c : Dev Cert.Kernel7Ideal.nD) → Buf (Elt Ideal) ((c.tc : Thread Cert.Kernel7Ideal.nD Cert.Kernel7Ideal.τ).loc Cert.Kernel7Ideal.main_v1)) (v4 : (c : Dev Cert.Kernel7Ideal.nD) → Buf (Elt Ideal) ((c.tc : Thread Cert.Kernel7Ideal.nD Cert.Kernel7Ideal.τ).loc Cert.Kernel7Ideal.main_v5)) (v5 : (c : Dev Cert.Kernel7Ideal.nD) → Buf (Elt Ideal) ((c.tc : Thread Cert.Kernel7Ideal.nD Cert.Kernel7Ideal.τ).loc Cert.Kernel7Ideal.main_v6)) (v6 : (c : Dev Cert.Kernel7Ideal.nD) → Buf (Elt Ideal) ((c.tc : Thread Cert.Kernel7Ideal.nD Cert.Kernel7Ideal.τ).loc Cert.Kernel7Ideal.main_v2)) (v7 : (c : Dev Cert.Kernel7Ideal.nD) → Buf (Elt Ideal) ((c.tc : Thread Cert.Kernel7Ideal.nD Cert.Kernel7Ideal.τ).loc Cert.Kernel7Ideal.main_v3)) (v8 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_v7) = v1 c
          ∧ r.2.mem ((c.tc : Thread Cert.Kernel7Ideal.nD Cert.Kernel7Ideal.τ).loc Cert.Kernel7Ideal.main_v8) = v2 c
          ∧ r.2.mem ((c.tc : Thread Cert.Kernel7Ideal.nD Cert.Kernel7Ideal.τ).loc Cert.Kernel7Ideal.main_v1) = v3 c
          ∧ r.2.mem ((c.tc : Thread Cert.Kernel7Ideal.nD Cert.Kernel7Ideal.τ).loc Cert.Kernel7Ideal.main_v5) = v4 c
          ∧ r.2.mem ((c.tc : Thread Cert.Kernel7Ideal.nD Cert.Kernel7Ideal.τ).loc Cert.Kernel7Ideal.main_v6) = v5 c
          ∧ r.2.mem ((c.tc : Thread Cert.Kernel7Ideal.nD Cert.Kernel7Ideal.τ).loc Cert.Kernel7Ideal.main_v2) = v6 c
          ∧ r.2.mem ((c.tc : Thread Cert.Kernel7Ideal.nD Cert.Kernel7Ideal.τ).loc Cert.Kernel7Ideal.main_v3) = v7 c
          ∧ r.2.mem ((c.tc : Thread Cert.Kernel7Ideal.nD Cert.Kernel7Ideal.τ).loc Cert.Kernel7Ideal.main_v4) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v11) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_v5) = v3 c
          ∧ r.2.mem ((c.tc : Thread Cert.Reference7Ideal.nD Cert.Reference7Ideal.τ).loc Cert.Reference7Ideal.main_v15) = v4 c
          ∧ r.2.mem ((c.tc : Thread Cert.Reference7Ideal.nD Cert.Reference7Ideal.τ).loc Cert.Reference7Ideal.main_v14) = v5 c
          ∧ r.2.mem ((c.tc : Thread Cert.Reference7Ideal.nD Cert.Reference7Ideal.τ).loc Cert.Reference7Ideal.main_v7) = v6 c
          ∧ r.2.mem ((c.tc : Thread Cert.Reference7Ideal.nD Cert.Reference7Ideal.τ).loc Cert.Reference7Ideal.main_v19) = v7 c
          ∧ r.2.mem ((c.tc : Thread Cert.Reference7Ideal.nD Cert.Reference7Ideal.τ).loc Cert.Reference7Ideal.main_v18) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v1)) (v4 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v1) = v3 c
          ∧ r.2.mem ((c.tc : Thread Cert.Kernel8Ideal.nD Cert.Kernel8Ideal.τ).loc Cert.Kernel8Ideal.main_v2) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_v28) = v2 c
          ∧ r.2.mem ((c.tc : Thread Cert.Reference8Ideal.nD Cert.Reference8Ideal.τ).loc Cert.Reference8Ideal.main_v32) = v3 c
          ∧ r.2.mem ((c.tc : Thread Cert.Reference8Ideal.nD Cert.Reference8Ideal.τ).loc Cert.Reference8Ideal.main_v31) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v48) = v0 c
          ∧ r.2.mem ((c.tc : Thread Cert.Reference9Ideal.nD Cert.Reference9Ideal.τ).loc Cert.Reference9Ideal.main_v49) = v1 c
          ∧ r.2.mem ((c.tc : Thread Cert.Reference9Ideal.nD Cert.Reference9Ideal.τ).loc Cert.Reference9Ideal.main_v50) = v2 c
          ∧ r.2.mem ((c.tc : Thread Cert.Reference9Ideal.nD Cert.Reference9Ideal.τ).loc Cert.Reference9Ideal.main_v51) = v3 c
          ∧ r.2.mem ((c.tc : Thread Cert.Reference9Ideal.nD Cert.Reference9Ideal.τ).loc Cert.Reference9Ideal.main_v46) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_v12) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_v6) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)
      ∧ m' ((c.tc : Thread Cert.Reference13Ideal.nD Cert.Reference13Ideal.τ).loc Cert.Reference13Ideal.main_arg12) = m ((c.tc : Thread Cert.Kernel13Ideal.nD Cert.Kernel13Ideal.τ).loc Cert.Kernel13Ideal.main_arg12)
      ∧ m' ((c.tc : Thread Cert.Reference13Ideal.nD Cert.Reference13Ideal.τ).loc Cert.Reference13Ideal.main_arg13) = m ((c.tc : Thread Cert.Kernel13Ideal.nD Cert.Kernel13Ideal.τ).loc Cert.Kernel13Ideal.main_arg13)) →
    ∃ (v0 : (c : Dev Cert.Kernel13Ideal.nD) → Buf (Elt Ideal) ((c.tc : Thread Cert.Kernel13Ideal.nD Cert.Kernel13Ideal.τ).loc Cert.Kernel13Ideal.main_v0)) (v1 : (c : Dev Cert.Kernel13Ideal.nD) → Buf (Elt Ideal) ((c.tc : Thread Cert.Kernel13Ideal.nD Cert.Kernel13Ideal.τ).loc Cert.Kernel13Ideal.main_v1)) (v2 : (c : Dev Cert.Kernel13Ideal.nD) → Buf (Elt Ideal) ((c.tc : Thread Cert.Kernel13Ideal.nD Cert.Kernel13Ideal.τ).loc Cert.Kernel13Ideal.main_v2)) (v3 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_v1) = v1 c
          ∧ r.2.mem ((c.tc : Thread Cert.Kernel13Ideal.nD Cert.Kernel13Ideal.τ).loc Cert.Kernel13Ideal.main_v2) = v2 c
          ∧ r.2.mem ((c.tc : Thread Cert.Kernel13Ideal.nD Cert.Kernel13Ideal.τ).loc Cert.Kernel13Ideal.main_v3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
          ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
          ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v49) = v0 c
          ∧ r.2.mem ((c.tc : Thread Cert.Reference13Ideal.nD Cert.Reference13Ideal.τ).loc Cert.Reference13Ideal.main_v50) = v1 c
          ∧ r.2.mem ((c.tc : Thread Cert.Reference13Ideal.nD Cert.Reference13Ideal.τ).loc Cert.Reference13Ideal.main_v23) = v2 c
          ∧ r.2.mem ((c.tc : Thread Cert.Reference13Ideal.nD Cert.Reference13Ideal.τ).loc Cert.Reference13Ideal.main_v48) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11)
          ∧ r.2.mem ((c.tc : Thread Cert.Reference13Ideal.nD Cert.Reference13Ideal.τ).loc Cert.Reference13Ideal.main_arg12) = m' ((c.tc : Thread Cert.Reference13Ideal.nD Cert.Reference13Ideal.τ).loc Cert.Reference13Ideal.main_arg12)
          ∧ r.2.mem ((c.tc : Thread Cert.Reference13Ideal.nD Cert.Reference13Ideal.τ).loc Cert.Reference13Ideal.main_arg13) = m' ((c.tc : Thread Cert.Reference13Ideal.nD Cert.Reference13Ideal.τ).loc Cert.Reference13Ideal.main_arg13))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)) (v1 : (c : Dev Cert.Kernel14Ideal.nD) → Buf (Elt Ideal) ((c.tc : Thread Cert.Kernel14Ideal.nD Cert.Kernel14Ideal.τ).loc Cert.Kernel14Ideal.main_v1)) (v2 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_v1) = v1 c
          ∧ r.2.mem ((c.tc : Thread Cert.Kernel14Ideal.nD Cert.Kernel14Ideal.τ).loc Cert.Kernel14Ideal.main_v2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v6) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v42) = v0 c
          ∧ r.2.mem ((c.tc : Thread Cert.Reference15Ideal.nD Cert.Reference15Ideal.τ).loc Cert.Reference15Ideal.main_v44) = v1 c
          ∧ r.2.mem ((c.tc : Thread Cert.Reference15Ideal.nD Cert.Reference15Ideal.τ).loc Cert.Reference15Ideal.main_v24) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v88) = v0 c
          ∧ r.2.mem ((c.tc : Thread Cert.Reference16Ideal.nD Cert.Reference16Ideal.τ).loc Cert.Reference16Ideal.main_v84) = v1 c
          ∧ r.2.mem ((c.tc : Thread Cert.Reference16Ideal.nD Cert.Reference16Ideal.τ).loc Cert.Reference16Ideal.main_v73) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v35) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v161) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v108) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S4096x9728 : Shape := ⟨2, ![4096, 9728]⟩
abbrev S12x128x256 : Shape := ⟨3, ![12, 128, 256]⟩
abbrev S4096x256 : Shape := ⟨2, ![4096, 256]⟩
abbrev S2x4096x128 : Shape := ⟨3, ![2, 4096, 128]⟩
abbrev S_ : Shape := ⟨0, ![]⟩

class Facts : Prop where
  bcast_S_S4096x9728 : S_.BroadcastsInDim S4096x9728 (![] : Fin 0 → Fin S4096x9728.rank)
  bcast_S_S12x128x256 : S_.BroadcastsInDim S12x128x256 (![] : Fin 0 → Fin S12x128x256.rank)
  bcast_S_S4096x256 : S_.BroadcastsInDim S4096x256 (![] : Fin 0 → Fin S4096x256.rank)
  bcast_S_S2x4096x128 : S_.BroadcastsInDim S2x4096x128 (![] : Fin 0 → Fin S2x4096x128.rank)

variable [Facts]

def fn {F : FTy → Type} [FloatOps F] (main_arg0 : FVec F S4096x9728 .f32) (main_arg1 : FVec F S12x128x256 .f32) (main_arg2 : FVec F S4096x256 .f32) (main_arg3 : FVec F S2x4096x128 .f32) : IVec S4096x9728 1 × IVec S12x128x256 1 × IVec S4096x256 1 × IVec S2x4096x128 1 :=
  let main_v0 : FVec F S4096x9728 .f32 := Host.absf main_arg0
  let main_cst : FVec F S_ .f32 := constant S_ .f32 0x7F800000#32
  let main_v1 : FVec F S4096x9728 .f32 := broadcastInDim S4096x9728 ![] bcast_S_S4096x9728 main_cst
  let main_v2 : IVec S4096x9728 1 := cmpf .olt main_v0 main_v1
  let main_v3 : FVec F S12x128x256 .f32 := Host.absf main_arg1
  let main_cst_0 : FVec F S_ .f32 := constant S_ .f32 0x7F800000#32
  let main_v4 : FVec F S12x128x256 .f32 := broadcastInDim S12x128x256 ![] bcast_S_S12x128x256 main_cst_0
  let main_v5 : IVec S12x128x256 1 := cmpf .olt main_v3 main_v4
  let main_v6 : FVec F S4096x256 .f32 := Host.absf main_arg2
  let main_cst_1 : FVec F S_ .f32 := constant S_ .f32 0x7F800000#32
  let main_v7 : FVec F S4096x256 .f32 := broadcastInDim S4096x256 ![] bcast_S_S4096x256 main_cst_1
  let main_v8 : IVec S4096x256 1 := cmpf .olt main_v6 main_v7
  let main_v9 : FVec F S2x4096x128 .f32 := Host.absf main_arg3
  let main_cst_2 : FVec F S_ .f32 := constant S_ .f32 0x7F800000#32
  let main_v10 : FVec F S2x4096x128 .f32 := broadcastInDim S2x4096x128 ![] bcast_S_S2x4096x128 main_cst_2
  let main_v11 : IVec S2x4096x128 1 := cmpf .olt main_v9 main_v10
  (main_v2, main_v5, main_v8, main_v11)
-- ==== Kernel.lean ====
abbrev S4096x9728 : Shape := ⟨2, ![4096, 9728]⟩
abbrev S12x128x256 : Shape := ⟨3, ![12, 128, 256]⟩
abbrev S4096x256 : Shape := ⟨2, ![4096, 256]⟩
abbrev S2x4096x128 : Shape := ⟨3, ![2, 4096, 128]⟩
abbrev S4x128x256 : Shape := ⟨3, ![4, 128, 256]⟩
abbrev S2048x128 : Shape := ⟨2, ![2048, 128]⟩
abbrev S2x128x256 : Shape := ⟨3, ![2, 128, 256]⟩
abbrev S1x2048x128 : Shape := ⟨3, ![1, 2048, 128]⟩
abbrev S128x256 : Shape := ⟨2, ![128, 256]⟩
abbrev S512x640 : Shape := ⟨2, ![512, 640]⟩
abbrev S512x512 : Shape := ⟨2, ![512, 512]⟩
abbrev S1x128 : Shape := ⟨2, ![1, 128]⟩
abbrev S1x128x256 : Shape := ⟨3, ![1, 128, 256]⟩
abbrev S128x128 : Shape := ⟨2, ![128, 128]⟩
abbrev S128x640 : Shape := ⟨2, ![128, 640]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩
abbrev S128x512 : Shape := ⟨2, ![128, 512]⟩
abbrev S640x128 : Shape := ⟨2, ![640, 128]⟩

abbrev nBuf : Space → Nat
  | .hbm => 8
  | .vmem => 21
  | .smem => 0
  | _ => 0

abbrev bufTy : (tb : Table) → Fin (tcTables nBuf tb) → BufTy
  | .hbm, ⟨0, _⟩ => ⟨S4096x9728, .f32⟩
  | .hbm, ⟨1, _⟩ => ⟨S12x128x256, .f32⟩
  | .hbm, ⟨2, _⟩ => ⟨S4096x256, .f32⟩
  | .hbm, ⟨3, _⟩ => ⟨S2x4096x128, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4x128x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2x128x256, .f32⟩
  | .local _ .vmem, ⟨7, _⟩ => ⟨S2x128x256, .f32⟩
  | .local _ .vmem, ⟨8, _⟩ => ⟨S2048x128, .f32⟩
  | .local _ .vmem, ⟨9, _⟩ => ⟨S2048x128, .f32⟩
  | .local _ .vmem, ⟨10, _⟩ => ⟨S1x2048x128, .f32⟩
  | .local _ .vmem, ⟨11, _⟩ => ⟨S1x2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2x128x256, .f32⟩
  | .local _ .vmem, ⟨19, _⟩ => ⟨S2x128x256, .f32⟩
  | .local _ .vmem, ⟨20, _⟩ => ⟨S128x256, .f32⟩
  | _, _ => ⟨S4096x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v462 : BitVec 1 := Scalar.cmpi .eq arg1 c0_i32
  let v463 : BitVec 32 := Scalar.extui v462
  let c0_i32_201 : BitVec 32 := 0#32
  let v464 : BitVec 1 := Scalar.cmpi .ne v463 c0_i32_201
  v464

def k0_cond2 (i : grid0.Coords) : BitVec 1 :=
  let arg1 : BitVec 32 := BitVec.ofNat 32 (i 1).val
  let c0_i32_202 : BitVec 32 := 0#32
  let v465 : BitVec 1 := Scalar.cmpi .sgt arg1 c0_i32_202
  let v466 : BitVec 32 := Scalar.extui v465
  let c0_i32_203 : BitVec 32 := 0#32
  let v467 : BitVec 1 := Scalar.cmpi .ne v466 c0_i32_203
  v467

def k0_cond3 (i : grid0.Coords) : BitVec 1 :=
  let arg1 : BitVec 32 := BitVec.ofNat 32 (i 1).val
  let c0_i32_415 : BitVec 32 := 0#32
  let v927 : BitVec 1 := Scalar.cmpi .eq arg1 c0_i32_415
  let v928 : BitVec 32 := Scalar.extui v927
  let c0_i32_416 : BitVec 32 := 0#32
  let v929 : BitVec 1 := Scalar.cmpi .ne v928 c0_i32_416
  v929

def k0_cond4 (i : grid0.Coords) : BitVec 1 :=
  let arg1 : BitVec 32 := BitVec.ofNat 32 (i 1).val
  let c0_i32_417 : BitVec 32 := 0#32
  let v930 : BitVec 1 := Scalar.cmpi .sgt arg1 c0_i32_417
  let v931 : BitVec 32 := Scalar.extui v930
  let c0_i32_418 : BitVec 32 := 0#32
  let v932 : BitVec 1 := Scalar.cmpi .ne v931 c0_i32_418
  v932

def cc0_transform_0 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4096x9728 : Shape := ⟨2, ![4096, 9728]⟩
abbrev S12x128x256 : Shape := ⟨3, ![12, 128, 256]⟩
abbrev S4096x256 : Shape := ⟨2, ![4096, 256]⟩
abbrev S2x4096x128 : Shape := ⟨3, ![2, 4096, 128]⟩
abbrev S2x2048x4x64 : Shape := ⟨4, ![2, 2048, 4, 64]⟩
abbrev S2x4096x2 : Shape := ⟨3, ![2, 4096, 2]⟩
abbrev S4096x2x2 : Shape := ⟨3, ![4096, 2, 2]⟩
abbrev S2x2048x4 : Shape := ⟨3, ![2, 2048, 4]⟩
abbrev S4x128x256 : Shape := ⟨3, ![4, 128, 256]⟩
abbrev S2x16x128x4x64 : Shape := ⟨5, ![2, 16, 128, 4, 64]⟩
abbrev S2x1x128x4x64 : Shape := ⟨5, ![2, 1, 128, 4, 64]⟩
abbrev S_ : Shape := ⟨0, ![]⟩
abbrev S2x15x128x4x64 : Shape := ⟨5, ![2, 15, 128, 4, 64]⟩
abbrev S2x16x256x4x64 : Shape := ⟨5, ![2, 16, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S2x16x4x128x256 : Shape := ⟨5, ![2, 16, 4, 128, 256]⟩
abbrev S1x1x4x128x256 : Shape := ⟨5, ![1, 1, 4, 128, 256]⟩
abbrev S1x16x1x128x256 : Shape := ⟨5, ![1, 16, 1, 128, 256]⟩
abbrev S2x16x4x128 : Shape := ⟨4, ![2, 16, 4, 128]⟩
abbrev S2x16x4x128x1 : Shape := ⟨5, ![2, 16, 4, 128, 1]⟩
abbrev S2x16x4x64x128 : Shape := ⟨5, ![2, 16, 4, 64, 128]⟩
abbrev S2x16x128x4 : Shape := ⟨4, ![2, 16, 128, 4]⟩
abbrev S2x16x4x64x256 : Shape := ⟨5, ![2, 16, 4, 64, 256]⟩
abbrev S2x16x4x256x64 : Shape := ⟨5, ![2, 16, 4, 256, 64]⟩
abbrev S2x16x4x128x64 : Shape := ⟨5, ![2, 16, 4, 128, 64]⟩

abbrev nBuf : Space → Nat
  | .hbm => 181
  | .vmem => 0
  | .smem => 0
  | _ => 0

abbrev hbmTy0_0 (i : Nat) : BufTy := match i % 128 with
  | 0 => ⟨S4096x9728, .f32⟩
  | 1 => ⟨S12x128x256, .f32⟩
  | 2 => ⟨S4096x256, .f32⟩
  | 3 => ⟨S2x4096x128, .f32⟩
  | 4 => ⟨S4096x256, .f32⟩
  | 5 => ⟨S2x2048x4x64, .f32⟩
  | 6 => ⟨S4096x256, .f32⟩
  | 7 => ⟨S2x2048x4x64, .f32⟩
  | 8 => ⟨S4096x256, .f32⟩
  | 9 => ⟨S2x2048x4x64, .f32⟩
  | 10 => ⟨S2x4096x2, .f32⟩
  | 11 => ⟨S4096x2x2, .f32⟩
  | 12 => ⟨S2x2048x4, .f32⟩
  | 13 => ⟨S4x128x256, .f32⟩
  | 14 => ⟨S2x16x128x4x64, .f32⟩
  | 15 => ⟨S2x16x128x4x64, .f32⟩
  | 16 => ⟨S2x1x128x4x64, .f32⟩
  | 17 => ⟨S_, .f32⟩
  | 18 => ⟨S2x1x128x4x64, .f32⟩
  | 19 => ⟨S2x15x128x4x64, .f32⟩
  | 20 => ⟨S2x16x128x4x64, .f32⟩
  | 21 => ⟨S_, .f32⟩
  | 22 => ⟨S2x1x128x4x64, .f32⟩
  | 23 => ⟨S2x16x256x4x64, .f32⟩
  | 24 => ⟨S2x16x128x4x64, .f32⟩
  | 25 => ⟨S2x1x128x4x64, .f32⟩
  | 26 => ⟨S_, .f32⟩
  | 27 => ⟨S2x1x128x4x64, .f32⟩
  | 28 => ⟨S2x15x128x4x64, .f32⟩
  | 29 => ⟨S2x16x128x4x64, .f32⟩
  | 30 => ⟨S_, .f32⟩
  | 31 => ⟨S2x1x128x4x64, .f32⟩
  | 32 => ⟨S2x16x256x4x64, .f32⟩
  | 33 => ⟨S128, .i32⟩
  | 34 => ⟨S128x1, .i32⟩
  | 35 => ⟨S256, .i32⟩
  | 36 => ⟨S1x256, .i32⟩
  | 37 => ⟨S128x256, .i32⟩
  | 38 => ⟨S128x256, .i32⟩
  | 39 => ⟨S128x256, .i32⟩
  | 40 => ⟨S_, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i1⟩
  | 49 => ⟨S128x256, .i1⟩
  | 50 => ⟨S16, .i32⟩
  | 51 => ⟨S16x1x1, .i32⟩
  | 52 => ⟨S_, .i32⟩
  | 53 => ⟨S16x1x1, .i32⟩
  | 54 => ⟨S16x1x1, .i1⟩
  | 55 => ⟨S_, .i32⟩
  | 56 => ⟨S1x256, .i32⟩
  | 57 => ⟨S1x256, .i1⟩
  | 58 => ⟨S1x1x256, .i1⟩
  | 59 => ⟨S16x1x256, .i1⟩
  | 60 => ⟨S16x1x256, .i1⟩
  | 61 => ⟨S16x1x256, .i1⟩
  | 62 => ⟨S1x128x256, .i1⟩
  | 63 => ⟨S16x128x256, .i1⟩
  | 64 => ⟨S16x128x256, .i1⟩
  | 65 => ⟨S16x128x256, .i1⟩
  | 66 => ⟨S2x16x4x128x256, .f32⟩
  | 67 => ⟨S_, .f32⟩
  | 68 => ⟨S2x16x4x128x256, .f32⟩
  | 69 => ⟨S2x16x4x128x256, .f32⟩
  | 70 => ⟨S1x1x4x128x256, .f32⟩
  | 71 => ⟨S2x16x4x128x256, .f32⟩
  | 72 => ⟨S2x16x4x128x256, .f32⟩
  | 73 => ⟨S1x16x1x128x256, .i1⟩
  | 74 => ⟨S_, .f32⟩
  | 75 => ⟨S_, .f32⟩
  | 76 => ⟨S2x16x4x128x256, .i1⟩
  | 77 => ⟨S2x16x4x128x256, .f32⟩
  | 78 => ⟨S2x16x4x128x256, .f32⟩
  | 79 => ⟨S_, .f32⟩
  | 80 => ⟨S2x16x4x128x256, .f32⟩
  | 81 => ⟨S_, .f32⟩
  | 82 => ⟨S2x16x4x128, .f32⟩
  | 83 => ⟨S2x16x4x128x1, .f32⟩
  | 84 => ⟨S2x16x4x128x256, .f32⟩
  | 85 => ⟨S2x16x4x128x256, .i1⟩
  | 86 => ⟨S2x16x4x128x256, .f32⟩
  | 87 => ⟨S_, .f32⟩
  | 88 => ⟨S2x16x4x128, .f32⟩
  | 89 => ⟨S2x16x4x128x1, .f32⟩
  | 90 => ⟨S2x16x4x128x256, .f32⟩
  | 91 => ⟨S2x16x4x128x256, .f32⟩
  | 92 => ⟨S2x16x4x128x256, .f32⟩
  | 93 => ⟨S_, .f32⟩
  | 94 => ⟨S2x16x4x128, .f32⟩
  | 95 => ⟨S2x16x4x128x1, .f32⟩
  | 96 => ⟨S2x16x4x128x256, .f32⟩
  | 97 => ⟨S2x16x4x128x256, .f32⟩
  | 98 => ⟨S2x16x4x128x1, .f32⟩
  | 99 => ⟨S_, .f32⟩
  | 100 => ⟨S2x16x4x128x1, .f32⟩
  | 101 => ⟨S2x16x4x128x1, .f32⟩
  | 102 => ⟨S2x16x4x64x128, .f32⟩
  | 103 => ⟨S2x16x128x4x64, .f32⟩
  | 104 => ⟨S2x16x4x128x1, .f32⟩
  | 105 => ⟨S2x16x4x128x1, .f32⟩
  | 106 => ⟨S2x16x4x128, .f32⟩
  | 107 => ⟨S2x2048x4x64, .f32⟩
  | 108 => ⟨S2x16x128x4, .f32⟩
  | 109 => ⟨S2x2048x4, .f32⟩
  | 110 => ⟨S2x2048x4x64, .f32⟩
  | 111 => ⟨S2x16x128x4, .f32⟩
  | 112 => ⟨S2x16x4x128, .f32⟩
  | 113 => ⟨S2x16x128x4x64, .f32⟩
  | 114 => ⟨S2x16x4x128x1, .f32⟩
  | 115 => ⟨S2x16x4x128x1, .f32⟩
  | 116 => ⟨S2x16x4x64x128, .f32⟩
  | 117 => ⟨S2x16x4x128x256, .f32⟩
  | 118 => ⟨S2x16x4x64x256, .f32⟩
  | 119 => ⟨S2x16x256x4x64, .f32⟩
  | 120 => ⟨S2x16x4x128x256, .f32⟩
  | 121 => ⟨S2x16x4x128x256, .f32⟩
  | 122 => ⟨S2x16x4x128x256, .f32⟩
  | 123 => ⟨S_, .f32⟩
  | 124 => ⟨S2x16x4x128, .f32⟩
  | 125 => ⟨S2x16x4x128x1, .f32⟩
  | 126 => ⟨S2x16x4x128x1, .f32⟩
  | 127 => ⟨S2x16x4x128x1, .f32⟩
  | _ => ⟨S4096x9728, .f32⟩

abbrev hbmTy0_1 (i : Nat) : BufTy := match i % 128 with
  | 0 => ⟨S2x16x4x128x256, .f32⟩
  | 1 => ⟨S2x16x4x128x256, .f32⟩
  | 2 => ⟨S_, .f32⟩
  | 3 => ⟨S2x16x4x128, .f32⟩
  | 4 => ⟨S2x16x4x128x256, .f32⟩
  | 5 => ⟨S2x16x4x128x256, .f32⟩
  | 6 => ⟨S2x16x4x128x256, .f32⟩
  | 7 => ⟨S2x16x4x128x256, .f32⟩
  | 8 => ⟨S_, .f32⟩
  | 9 => ⟨S2x16x4x128, .f32⟩
  | 10 => ⟨S2x16x4x128x1, .f32⟩
  | 11 => ⟨S2x16x4x128x1, .f32⟩
  | 12 => ⟨S_, .f32⟩
  | 13 => ⟨S2x16x4x128, .f32⟩
  | 14 => ⟨S2x16x4x128, .f32⟩
  | 15 => ⟨S2x16x4x128x256, .f32⟩
  | 16 => ⟨S2x16x4x128x256, .f32⟩
  | 17 => ⟨S2x16x4x128x256, .f32⟩
  | 18 => ⟨S_, .f32⟩
  | 19 => ⟨S2x16x4x128x256, .f32⟩
  | 20 => ⟨S2x16x4x128x256, .f32⟩
  | 21 => ⟨S_, .f32⟩
  | 22 => ⟨S4x128x256, .f32⟩
  | 23 => ⟨S1x1x4x128x256, .f32⟩
  | 24 => ⟨S_, .f32⟩
  | 25 => ⟨S4x128x256, .f32⟩
  | 26 => ⟨S_, .f32⟩
  | 27 => ⟨S2x16x4x128x256, .f32⟩
  | 28 => ⟨S2x16x4x128x256, .f32⟩
  | 29 => ⟨S2x16x4x256x64, .f32⟩
  | 30 => ⟨S2x16x256x4x64, .f32⟩
  | 31 => ⟨S2x16x4x128x64, .f32⟩
  | 32 => ⟨S2x16x128x4x64, .f32⟩
  | 33 => ⟨S2x16x128x4x64, .f32⟩
  | 34 => ⟨S2x16x128x4x64, .f32⟩
  | 35 => ⟨S2x1x128x4x64, .f32⟩
  | 36 => ⟨S2x15x128x4x64, .f32⟩
  | 37 => ⟨S_, .f32⟩
  | 38 => ⟨S2x16x128x4x64, .f32⟩
  | 39 => ⟨S2x16x128x4x64, .f32⟩
  | 40 => ⟨S2x2048x4x64, .f32⟩
  | 41 => ⟨S2x16x128x4x64, .f32⟩
  | 42 => ⟨S2x16x128x4x64, .f32⟩
  | 43 => ⟨S2x1x128x4x64, .f32⟩
  | 44 => ⟨S2x15x128x4x64, .f32⟩
  | 45 => ⟨S_, .f32⟩
  | 46 => ⟨S2x16x128x4x64, .f32⟩
  | 47 => ⟨S2x16x128x4x64, .f32⟩
  | 48 => ⟨S2x2048x4x64, .f32⟩
  | 49 => ⟨S2x2048x4x64, .f32⟩
  | 50 => ⟨S4096x256, .f32⟩
  | 51 => ⟨S4096x256, .f32⟩
  | 52 => ⟨S4096x256, .f32⟩
  | _ => ⟨S4096x9728, .f32⟩

abbrev hbmTy (i : Nat) : BufTy := match i / 128 with
  | 0 => hbmTy0_0 i
  | 1 => hbmTy0_1 i
  | _ => ⟨S4096x9728, .f32⟩

abbrev bufTy : (tb : Table) → Fin (tcTables nBuf tb) → BufTy
  | .hbm, ⟨i, _⟩ => hbmTy i
  | _, _ => ⟨S4096x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_v32 : Ref sig .tc := ⟨.hbm, 41, rfl⟩
abbrev main_v33 : Ref sig .tc := ⟨.hbm, 42, rfl⟩
abbrev main_c_3 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_call0_v0 : Ref sig .tc := ⟨.hbm, 75, rfl⟩
abbrev main_v60_1 : Ref sig .tc := ⟨.hbm, 76, rfl⟩
abbrev main_call0_v2 : Ref sig .tc := ⟨.hbm, 77, rfl⟩
abbrev main_v60_0 : Ref sig .tc := ⟨.hbm, 78, rfl⟩
abbrev main_call0_cst : Ref sig .tc := ⟨.hbm, 79, rfl⟩
abbrev main_v60_2 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_13 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_14 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_15 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_16 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_call1_cst : Ref sig .tc := ⟨.hbm, 146, rfl⟩
abbrev main_call1_v0 : Ref sig .tc := ⟨.hbm, 147, rfl⟩
abbrev main_v118 : Ref sig .tc := ⟨.hbm, 148, rfl⟩
abbrev main_cst_17 : Ref sig .tc := ⟨.hbm, 149, rfl⟩
abbrev main_v119 : Ref sig .tc := ⟨.hbm, 150, rfl⟩
abbrev main_v120 : Ref sig .tc := ⟨.hbm, 151, rfl⟩
abbrev main_cst_18 : Ref sig .tc := ⟨.hbm, 152, rfl⟩
abbrev main_v121 : Ref sig .tc := ⟨.hbm, 153, rfl⟩
abbrev main_cst_19 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_cst_20 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_cst_21 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S2816x1024 : Shape := ⟨2, ![2816, 1024]⟩
abbrev S1x1024 : Shape := ⟨2, ![1, 1024]⟩
abbrev S4096x2816 : Shape := ⟨2, ![4096, 2816]⟩
abbrev S512x1024 : Shape := ⟨2, ![512, 1024]⟩
abbrev S1024x1408 : Shape := ⟨2, ![1024, 1408]⟩
abbrev S512x1408 : Shape := ⟨2, ![512, 1408]⟩
abbrev S512x2816 : Shape := ⟨2, ![512, 2816]⟩
abbrev S512 : Shape := ⟨1, ![512]⟩
abbrev S512x1 : Shape := ⟨2, ![512, 1]⟩

abbrev nBuf : Space → Nat
  | .hbm => 11
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S4096x2816, .f32⟩
  | .hbm, ⟨6, _⟩ => ⟨S4096x2816, .f32⟩
  | .hbm, ⟨7, _⟩ => ⟨S4096x2816, .bf16⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | .local _ .vmem, ⟨12, _⟩ => ⟨S512x2816, .bf16⟩
  | .local _ .vmem, ⟨13, _⟩ => ⟨S512x2816, .bf16⟩
  | .local _ .vmem, ⟨14, _⟩ => ⟨S2816x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference2Ideal.lean ====
abbrev S4096x1024 : Shape := ⟨2, ![4096, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S4096x5632 : Shape := ⟨2, ![4096, 5632]⟩
abbrev S4096x2816 : Shape := ⟨2, ![4096, 2816]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x5632, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel3.lean ====
abbrev S4096x1024 : Shape := ⟨2, ![4096, 1024]⟩
abbrev S1024x5632 : Shape := ⟨2, ![1024, 5632]⟩
abbrev S2816x1024 : Shape := ⟨2, ![2816, 1024]⟩
abbrev S4096x2816 : Shape := ⟨2, ![4096, 2816]⟩
abbrev S512x1024 : Shape := ⟨2, ![512, 1024]⟩
abbrev S1024x1408 : Shape := ⟨2, ![1024, 1408]⟩
abbrev S512x1408 : Shape := ⟨2, ![512, 1408]⟩
abbrev S1024x1024 : Shape := ⟨2, ![1024, 1024]⟩
abbrev S1408x1024 : Shape := ⟨2, ![1408, 1024]⟩
abbrev S4096x5632 : Shape := ⟨2, ![4096, 5632]⟩
abbrev S256x2816 : Shape := ⟨2, ![256, 2816]⟩
abbrev S256x5632 : Shape := ⟨2, ![256, 5632]⟩
abbrev S4096x256 : Shape := ⟨2, ![4096, 256]⟩
abbrev S256x1024 : Shape := ⟨2, ![256, 1024]⟩
abbrev S4096x512 : Shape := ⟨2, ![4096, 512]⟩
abbrev S512x512 : Shape := ⟨2, ![512, 512]⟩

abbrev nBuf : Space → Nat
  | .hbm => 12
  | .vmem => 39
  | .smem => 0
  | _ => 0

abbrev bufTy : (tb : Table) → Fin (tcTables nBuf tb) → BufTy
  | .hbm, ⟨0, _⟩ => ⟨S4096x1024, .f32⟩
  | .hbm, ⟨1, _⟩ => ⟨S1024x5632, .bf16⟩
  | .hbm, ⟨2, _⟩ => ⟨S2816x1024, .bf16⟩
  | .hbm, ⟨3, _⟩ => ⟨S4096x1024, .bf16⟩
  | .hbm, ⟨4, _⟩ => ⟨S4096x2816, .f32⟩
  | .hbm, ⟨5, _⟩ => ⟨S4096x2816, .f32⟩
  | .hbm, ⟨6, _⟩ => ⟨S4096x2816, .bf16⟩
  | .hbm, ⟨7, _⟩ => ⟨S4096x2816, .f32⟩
  | .hbm, ⟨8, _⟩ => ⟨S4096x5632, .bf16⟩
  | .hbm, ⟨9, _⟩ => ⟨S4096x2816, .bf16⟩
  | .hbm, ⟨10, _⟩ => ⟨S2816x1024, .f32⟩
  | .hbm, ⟨11, _⟩ => ⟨S1024x5632, .f32⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | .local _ .vmem, ⟨12, _⟩ => ⟨S1024x1024, .bf16⟩
  | .local _ .vmem, ⟨13, _⟩ => ⟨S1024x1024, .bf16⟩
  | .local _ .vmem, ⟨14, _⟩ => ⟨S1408x1024, .bf16⟩
  | .local _ .vmem, ⟨15, _⟩ => ⟨S1408x1024, .bf16⟩
  | .local _ .vmem, ⟨16, _⟩ => ⟨S1024x1408, .f32⟩
  | .local _ .vmem, ⟨17, _⟩ => ⟨S1024x1408, .f32⟩
  | .local _ .vmem, ⟨18, _⟩ => ⟨S256x2816, .f32⟩
  | .local _ .vmem, ⟨19, _⟩ => ⟨S256x2816, .f32⟩
  | .local _ .vmem, ⟨20, _⟩ => ⟨S256x2816, .f32⟩
  | .local _ .vmem, ⟨21, _⟩ => ⟨S256x2816, .f32⟩
  | .local _ .vmem, ⟨22, _⟩ => ⟨S256x2816, .f32⟩
  | .local _ .vmem, ⟨23, _⟩ => ⟨S256x2816, .f32⟩
  | .local _ .vmem, ⟨24, _⟩ => ⟨S256x5632, .bf16⟩
  | .local _ .vmem, ⟨25, _⟩ => ⟨S256x5632, .bf16⟩
  | .local _ .vmem, ⟨26, _⟩ => ⟨S256x2816, .bf16⟩
  | .local _ .vmem, ⟨27, _⟩ => ⟨S256x2816, .bf16⟩
  | .local _ .vmem, ⟨28, _⟩ => ⟨S4096x256, .bf16⟩
  | .local _ .vmem, ⟨29, _⟩ => ⟨S4096x256, .bf16⟩
  | .local _ .vmem, ⟨30, _⟩ => ⟨S4096x1024, .bf16⟩
  | .local _ .vmem, ⟨31, _⟩ => ⟨S256x1024, .f32⟩
  | .local _ .vmem, ⟨32, _⟩ => ⟨S256x1024, .f32⟩
  | .local _ .vmem, ⟨33, _⟩ => ⟨S4096x512, .f32⟩
  | .local _ .vmem, ⟨34, _⟩ => ⟨S4096x512, .f32⟩
  | .local _ .vmem, ⟨35, _⟩ => ⟨S4096x512, .bf16⟩
  | .local _ .vmem, ⟨36, _⟩ => ⟨S4096x512, .bf16⟩
  | .local _ .vmem, ⟨37, _⟩ => ⟨S512x512, .f32⟩
  | .local _ .vmem, ⟨38, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2816 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2816 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2816 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x5632 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x2816 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨3, ![1, 11, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S4096x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false, true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 11, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference3Ideal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S1024x2816 : Shape := ⟨2, ![1024, 2816]⟩
abbrev S5632x1024 : Shape := ⟨2, ![5632, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .bf16⟩
  | .hbm, ⟨2, _⟩ => ⟨S2816x1024, .bf16⟩
  | .hbm, ⟨3, _⟩ => ⟨S4096x1024, .bf16⟩
  | .hbm, ⟨4, _⟩ => ⟨S1024x5632, .f32⟩
  | .hbm, ⟨5, _⟩ => ⟨S2816x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x1024, .f32⟩
  | .hbm, ⟨24, _⟩ => ⟨S4096x1024, .f32⟩
  | .hbm, ⟨25, _⟩ => ⟨S1024x2816, .f32⟩
  | .hbm, ⟨26, _⟩ => ⟨S2816x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x5632, .f32⟩
  | .hbm, ⟨35, _⟩ => ⟨S4096x5632, .bf16⟩
  | .hbm, ⟨36, _⟩ => ⟨S5632x1024, .f32⟩
  | .hbm, ⟨37, _⟩ => ⟨S1024x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Kernel4.lean ====
abbrev S4096x5632 : Shape := ⟨2, ![4096, 5632]⟩
abbrev S1024x5632 : Shape := ⟨2, ![1024, 5632]⟩
abbrev S4096x1024 : Shape := ⟨2, ![4096, 1024]⟩
abbrev S1024x2816 : Shape := ⟨2, ![1024, 2816]⟩
abbrev S512x2816 : Shape := ⟨2, ![512, 2816]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x5632 : Shape := ⟨2, ![4096, 5632]⟩
abbrev S1024x5632 : Shape := ⟨2, ![1024, 5632]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x5632, .f32⟩
  | .hbm, ⟨8, _⟩ => ⟨S4096x1024, .f32⟩
  | .hbm, ⟨9, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1024x9728 : Shape := ⟨2, ![1024, 9728]⟩
abbrev S4096x9728 : Shape := ⟨2, ![4096, 9728]⟩
abbrev S512x1024 : Shape := ⟨2, ![512, 1024]⟩
abbrev S1024x2432 : Shape := ⟨2, ![1024, 2432]⟩
abbrev S512x2432 : Shape := ⟨2, ![512, 2432]⟩
abbrev S4096x256 : Shape := ⟨2, ![4096, 256]⟩
abbrev S1024x256 : Shape := ⟨2, ![1024, 256]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x9728, .bf16⟩
  | .hbm, ⟨2, _⟩ => ⟨S4096x9728, .bf16⟩
  | .hbm, ⟨3, _⟩ => ⟨S4096x9728, .f32⟩
  | .hbm, ⟨4, _⟩ => ⟨S1024x9728, .f32⟩
  | .local _ .vmem, ⟨0, _⟩ => ⟨S512x1024, .bf16⟩
  | .local _ .vmem, ⟨1, _⟩ => ⟨S512x1024, .bf16⟩
  | .local _ .vmem, ⟨2, _⟩ => ⟨S1024x2432, .bf16⟩
  | .local _ .vmem, ⟨3, _⟩ => ⟨S1024x2432, .bf16⟩
  | .local _ .vmem, ⟨4, _⟩ => ⟨S512x2432, .f32⟩
  | .local _ .vmem, ⟨5, _⟩ => ⟨S512x2432, .f32⟩
  | .local _ .vmem, ⟨6, _⟩ => ⟨S4096x1024, .bf16⟩
  | .local _ .vmem, ⟨7, _⟩ => ⟨S4096x256, .bf16⟩
  | .local _ .vmem, ⟨8, _⟩ => ⟨S4096x256, .bf16⟩
  | .local _ .vmem, ⟨9, _⟩ => ⟨S1024x256, .f32⟩
  | .local _ .vmem, ⟨10, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 38, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference5Ideal.lean ====
abbrev S4096x1024 : Shape := ⟨2, ![4096, 1024]⟩
abbrev S1024x9728 : Shape := ⟨2, ![1024, 9728]⟩
abbrev S4096x9728 : Shape := ⟨2, ![4096, 9728]⟩
abbrev S9728x1024 : Shape := ⟨2, ![9728, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x9728, .bf16⟩
  | .hbm, ⟨2, _⟩ => ⟨S4096x9728, .bf16⟩
  | .hbm, ⟨3, _⟩ => ⟨S1024x9728, .f32⟩
  | .hbm, ⟨4, _⟩ => ⟨S4096x1024, .f32⟩
  | .hbm, ⟨5, _⟩ => ⟨S4096x9728, .f32⟩
  | .hbm, ⟨6, _⟩ => ⟨S4096x9728, .f32⟩
  | .hbm, ⟨7, _⟩ => ⟨S9728x1024, .f32⟩
  | .hbm, ⟨8, _⟩ => ⟨S1024x9728, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x9728 : Shape := ⟨2, ![4096, 9728]⟩
abbrev S1024x9728 : Shape := ⟨2, ![1024, 9728]⟩
abbrev S4096x1024 : Shape := ⟨2, ![4096, 1024]⟩
abbrev S1024x2432 : Shape := ⟨2, ![1024, 2432]⟩
abbrev S512x2432 : Shape := ⟨2, ![512, 2432]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x9728, .bf16⟩
  | .hbm, ⟨1, _⟩ => ⟨S1024x9728, .bf16⟩
  | .hbm, ⟨2, _⟩ => ⟨S4096x1024, .f32⟩
  | .hbm, ⟨3, _⟩ => ⟨S4096x1024, .f32⟩
  | .local _ .vmem, ⟨0, _⟩ => ⟨S1024x2432, .bf16⟩
  | .local _ .vmem, ⟨1, _⟩ => ⟨S1024x2432, .bf16⟩
  | .local _ .vmem, ⟨2, _⟩ => ⟨S512x2432, .bf16⟩
  | .local _ .vmem, ⟨3, _⟩ => ⟨S512x2432, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x9728 : Shape := ⟨2, ![4096, 9728]⟩
abbrev S1024x9728 : Shape := ⟨2, ![1024, 9728]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x9728, .bf16⟩
  | .hbm, ⟨1, _⟩ => ⟨S1024x9728, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x9728, .f32⟩
  | .hbm, ⟨6, _⟩ => ⟨S4096x9728, .f32⟩
  | .hbm, ⟨7, _⟩ => ⟨S4096x9728, .f32⟩
  | .hbm, ⟨8, _⟩ => ⟨S4096x1024, .f32⟩
  | .hbm, ⟨9, _⟩ => ⟨S4096x1024, .f32⟩
  | _, _ => ⟨S4096x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S4096x768 : Shape := ⟨2, ![4096, 768]⟩
abbrev S768x1024 : Shape := ⟨2, ![768, 1024]⟩
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩
abbrev S1024x768 : Shape := ⟨2, ![1024, 768]⟩
abbrev S1024x256 : Shape := ⟨2, ![1024, 256]⟩
abbrev S4096x512 : Shape := ⟨2, ![4096, 512]⟩
abbrev S768x512 : Shape := ⟨2, ![768, 512]⟩

abbrev nBuf : Space → Nat
  | .hbm => 18
  | .vmem => 43
  | .smem => 0
  | _ => 0

abbrev bufTy : (tb : Table) → Fin (tcTables nBuf tb) → BufTy
  | .hbm, ⟨0, _⟩ => ⟨S4096x768, .bf16⟩
  | .hbm, ⟨1, _⟩ => ⟨S768x1024, .bf16⟩
  | .hbm, ⟨2, _⟩ => ⟨S4096x1024, .bf16⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S4096x256, .f32⟩
  | .hbm, ⟨7, _⟩ => ⟨S256x1024, .bf16⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x256, .f32⟩
  | .hbm, ⟨13, _⟩ => ⟨S256x1024, .f32⟩
  | .hbm, ⟨14, _⟩ => ⟨S4096x1024, .f32⟩
  | .hbm, ⟨15, _⟩ => ⟨S1024x1024, .f32⟩
  | .hbm, ⟨16, _⟩ => ⟨S4096x768, .f32⟩
  | .hbm, ⟨17, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x256, .f32⟩
  | .local _ .vmem, ⟨11, _⟩ => ⟨S1024x256, .f32⟩
  | .local _ .vmem, ⟨12, _⟩ => ⟨S256x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S256x1024, .bf16⟩
  | .local _ .vmem, ⟨18, _⟩ => ⟨S1024x256, .f32⟩
  | .local _ .vmem, ⟨19, _⟩ => ⟨S1024x256, .f32⟩
  | .local _ .vmem, ⟨20, _⟩ => ⟨S4096x256, .f32⟩
  | .local _ .vmem, ⟨21, _⟩ => ⟨S4096x1024, .bf16⟩
  | .local _ .vmem, ⟨22, _⟩ => ⟨S256x1024, .f32⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .f32⟩
  | .local _ .vmem, ⟨27, _⟩ => ⟨S1024x1024, .f32⟩
  | .local _ .vmem, ⟨28, _⟩ => ⟨S4096x1024, .bf16⟩
  | .local _ .vmem, ⟨29, _⟩ => ⟨S4096x256, .bf16⟩
  | .local _ .vmem, ⟨30, _⟩ => ⟨S4096x256, .bf16⟩
  | .local _ .vmem, ⟨31, _⟩ => ⟨S1024x256, .f32⟩
  | .local _ .vmem, ⟨32, _⟩ => ⟨S1024x256, .f32⟩
  | .local _ .vmem, ⟨33, _⟩ => ⟨S1024x1024, .bf16⟩
  | .local _ .vmem, ⟨34, _⟩ => ⟨S1024x1024, .bf16⟩
  | .local _ .vmem, ⟨35, _⟩ => ⟨S768x1024, .bf16⟩
  | .local _ .vmem, ⟨36, _⟩ => ⟨S1024x768, .f32⟩
  | .local _ .vmem, ⟨37, _⟩ => ⟨S1024x768, .f32⟩
  | .local _ .vmem, ⟨38, _⟩ => ⟨S4096x768, .bf16⟩
  | .local _ .vmem, ⟨39, _⟩ => ⟨S4096x512, .bf16⟩
  | .local _ .vmem, ⟨40, _⟩ => ⟨S4096x512, .bf16⟩
  | .local _ .vmem, ⟨41, _⟩ => ⟨S768x512, .f32⟩
  | .local _ .vmem, ⟨42, _⟩ => ⟨S768x512, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg2_0 : Ref sig .tc := ⟨.vmem, 26, rfl⟩
abbrev cc5_stg2_1 : Ref sig .tc := ⟨.vmem, 27, rfl⟩
abbrev cc6_stg0_0 : Ref sig .tc := ⟨.vmem, 28, rfl⟩
abbrev cc6_stg1_0 : Ref sig .tc := ⟨.vmem, 29, rfl⟩
abbrev cc6_stg1_1 : Ref sig .tc := ⟨.vmem, 30, rfl⟩
abbrev cc6_stg2_0 : Ref sig .tc := ⟨.vmem, 31, rfl⟩
abbrev cc6_stg2_1 : Ref sig .tc := ⟨.vmem, 32, rfl⟩
abbrev cc7_stg0_0 : Ref sig .tc := ⟨.vmem, 33, rfl⟩
abbrev cc7_stg0_1 : Ref sig .tc := ⟨.vmem, 34, rfl⟩
abbrev cc7_stg1_0 : Ref sig .tc := ⟨.vmem, 35, rfl⟩
abbrev cc7_stg2_0 : Ref sig .tc := ⟨.vmem, 36, rfl⟩
abbrev cc7_stg2_1 : Ref sig .tc := ⟨.vmem, 37, rfl⟩
abbrev cc8_stg0_0 : Ref sig .tc := ⟨.vmem, 38, rfl⟩
abbrev cc8_stg1_0 : Ref sig .tc := ⟨.vmem, 39, rfl⟩
abbrev cc8_stg1_1 : Ref sig .tc := ⟨.vmem, 40, rfl⟩
abbrev cc8_stg2_0 : Ref sig .tc := ⟨.vmem, 41, rfl⟩
abbrev cc8_stg2_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem2_1 : DmaSem sig := 27
abbrev cc6_sem0_0 : DmaSem sig := 28
abbrev cc6_sem1_0 : DmaSem sig := 29
abbrev cc6_sem1_1 : DmaSem sig := 30
abbrev cc6_sem2_0 : DmaSem sig := 31
abbrev cc6_sem2_1 : DmaSem sig := 32
abbrev cc7_sem0_0 : DmaSem sig := 33
abbrev cc7_sem0_1 : DmaSem sig := 34
abbrev cc7_sem1_0 : DmaSem sig := 35
abbrev cc7_sem2_0 : DmaSem sig := 36
abbrev cc7_sem2_1 : DmaSem sig := 37
abbrev cc8_sem0_0 : DmaSem sig := 38
abbrev cc8_sem1_0 : DmaSem sig := 39
abbrev cc8_sem1_1 : DmaSem sig := 40
abbrev cc8_sem2_0 : DmaSem sig := 41
abbrev cc8_sem2_1 : DmaSem sig := 42

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 1 → Memref sig .tc .vmem S256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 1 → Memref sig .tc .vmem S256x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S4096x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S256x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![1, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S4096x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S4096x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![1, 4, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true, true]

abbrev stage7_1 : Fin 1 → Memref sig .tc .vmem S768x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true, false, true]

abbrev stage7_2 : Fin 2 → Memref sig .tc .vmem S1024x768 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .vmem S4096x768 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S4096x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S768x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== Reference7Ideal.lean ====
abbrev S4096x768 : Shape := ⟨2, ![4096, 768]⟩
abbrev S768x1024 : Shape := ⟨2, ![768, 1024]⟩
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩
abbrev S1024x768 : Shape := ⟨2, ![1024, 768]⟩
abbrev S1024x256 : Shape := ⟨2, ![1024, 256]⟩

abbrev nBuf : Space → Nat
  | .hbm => 29
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S768x1024, .bf16⟩
  | .hbm, ⟨2, _⟩ => ⟨S4096x1024, .bf16⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S4096x256, .f32⟩
  | .hbm, ⟨7, _⟩ => ⟨S256x1024, .bf16⟩
  | .hbm, ⟨8, _⟩ => ⟨S4096x1024, .bf16⟩
  | .hbm, ⟨9, _⟩ => ⟨S4096x768, .f32⟩
  | .hbm, ⟨10, _⟩ => ⟨S768x1024, .f32⟩
  | .hbm, ⟨11, _⟩ => ⟨S4096x1024, .f32⟩
  | .hbm, ⟨12, _⟩ => ⟨S4096x1024, .f32⟩
  | .hbm, ⟨13, _⟩ => ⟨S1024x1024, .f32⟩
  | .hbm, ⟨14, _⟩ => ⟨S4096x1024, .f32⟩
  | .hbm, ⟨15, _⟩ => ⟨S256x1024, .f32⟩
  | .hbm, ⟨16, _⟩ => ⟨S4096x1024, .f32⟩
  | .hbm, ⟨17, _⟩ => ⟨S4096x1024, .f32⟩
  | .hbm, ⟨18, _⟩ => ⟨S1024x768, .f32⟩
  | .hbm, ⟨19, _⟩ => ⟨S768x1024, .f32⟩
  | .hbm, ⟨20, _⟩ => ⟨S4096x768, .f32⟩
  | .hbm, ⟨21, _⟩ => ⟨S4096x1024, .f32⟩
  | .hbm, ⟨22, _⟩ => ⟨S1024x1024, .f32⟩
  | .hbm, ⟨23, _⟩ => ⟨S1024x1024, .f32⟩
  | .hbm, ⟨24, _⟩ => ⟨S4096x1024, .f32⟩
  | .hbm, ⟨25, _⟩ => ⟨S4096x1024, .f32⟩
  | .hbm, ⟨26, _⟩ => ⟨S1024x256, .f32⟩
  | .hbm, ⟨27, _⟩ => ⟨S256x1024, .f32⟩
  | .hbm, ⟨28, _⟩ => ⟨S4096x256, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S4096x256 : Shape := ⟨2, ![4096, 256]⟩
abbrev S1024x256 : Shape := ⟨2, ![1024, 256]⟩

abbrev nBuf : Space → Nat
  | .hbm => 11
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S4096x1024, .bf16⟩
  | .local _ .vmem, ⟨19, _⟩ => ⟨S4096x256, .bf16⟩
  | .local _ .vmem, ⟨20, _⟩ => ⟨S4096x256, .bf16⟩
  | .local _ .vmem, ⟨21, _⟩ => ⟨S1024x256, .f32⟩
  | .local _ .vmem, ⟨22, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference8Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S4096x1024, .f32⟩
  | .hbm, ⟨42, _⟩ => ⟨S1024x1024, .f32⟩
  | .hbm, ⟨43, _⟩ => ⟨S1024x1024, .f32⟩
  | .hbm, ⟨44, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel9.lean ====
abbrev S4096x9728 : Shape := ⟨2, ![4096, 9728]⟩
abbrev S1x3072 : Shape := ⟨2, ![1, 3072]⟩
abbrev S4096x1024 : Shape := ⟨2, ![4096, 1024]⟩
abbrev S4096x3072 : Shape := ⟨2, ![4096, 3072]⟩
abbrev S256x1024 : Shape := ⟨2, ![256, 1024]⟩
abbrev S256x3072 : Shape := ⟨2, ![256, 3072]⟩
abbrev S1x1024 : Shape := ⟨2, ![1, 1024]⟩
abbrev S1024 : Shape := ⟨1, ![1024]⟩
abbrev S1x2048 : Shape := ⟨2, ![1, 2048]⟩

abbrev nBuf : Space → Nat
  | .hbm => 11
  | .vmem => 24
  | .smem => 0
  | _ => 0

abbrev bufTy : (tb : Table) → Fin (tcTables nBuf tb) → BufTy
  | .hbm, ⟨0, _⟩ => ⟨S4096x9728, .f32⟩
  | .hbm, ⟨1, _⟩ => ⟨S1x3072, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x3072, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S1x3072, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x3072, .f32⟩
  | .local _ .vmem, ⟨15, _⟩ => ⟨S256x3072, .bf16⟩
  | .local _ .vmem, ⟨16, _⟩ => ⟨S256x3072, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S1x3072, .f32⟩
  | _, _ => ⟨S4096x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_33 : BitVec 32 := 0#32
  let v70 : BitVec 1 := Scalar.cmpi .ne v69 c0_i32_33
  v70

def k0_cond2 (i : grid0.Coords) : BitVec 1 :=
  let arg0 : BitVec 32 := BitVec.ofNat 32 (i 0).val
  let c0_i32 : BitVec 32 := 0#32
  let v68 : BitVec 1 := Scalar.cmpi .eq arg0 c0_i32
  let v_true : BitVec 1 := 1#1
  let v71 : BitVec 1 := Scalar.xori v68 v_true
  let v72 : BitVec 32 := Scalar.extui v71
  let c0_i32_34 : BitVec 32 := 0#32
  let v73 : BitVec 1 := Scalar.cmpi .ne v72 c0_i32_34
  v73

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference9Ideal.lean ====
abbrev S4096x9728 : Shape := ⟨2, ![4096, 9728]⟩
abbrev S1x3072 : Shape := ⟨2, ![1, 3072]⟩
abbrev S4096x1024 : Shape := ⟨2, ![4096, 1024]⟩
abbrev S4096x3072 : Shape := ⟨2, ![4096, 3072]⟩
abbrev S4096x3x1024 : Shape := ⟨3, ![4096, 3, 1024]⟩
abbrev S3x1024 : Shape := ⟨2, ![3, 1024]⟩
abbrev S1x3x1024 : Shape := ⟨3, ![1, 3, 1024]⟩
abbrev S_ : Shape := ⟨0, ![]⟩
abbrev S4096x1x1024 : Shape := ⟨3, ![4096, 1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x9728, .f32⟩
  | .hbm, ⟨1, _⟩ => ⟨S1x3072, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x3072, .f32⟩
  | .hbm, ⟨7, _⟩ => ⟨S4096x3x1024, .f32⟩
  | .hbm, ⟨8, _⟩ => ⟨S3x1024, .f32⟩
  | .hbm, ⟨9, _⟩ => ⟨S1x3x1024, .f32⟩
  | .hbm, ⟨10, _⟩ => ⟨S4096x3x1024, .f32⟩
  | .hbm, ⟨11, _⟩ => ⟨S4096x3x1024, .f32⟩
  | .hbm, ⟨12, _⟩ => ⟨S4096x3x1024, .f32⟩
  | .hbm, ⟨13, _⟩ => ⟨S4096x3x1024, .f32⟩
  | .hbm, ⟨14, _⟩ => ⟨S_, .f32⟩
  | .hbm, ⟨15, _⟩ => ⟨S4096x3x1024, .f32⟩
  | .hbm, ⟨16, _⟩ => ⟨S4096x3x1024, .f32⟩
  | .hbm, ⟨17, _⟩ => ⟨S_, .f32⟩
  | .hbm, ⟨18, _⟩ => ⟨S4096x3x1024, .f32⟩
  | .hbm, ⟨19, _⟩ => ⟨S4096x3x1024, .f32⟩
  | .hbm, ⟨20, _⟩ => ⟨S_, .f32⟩
  | .hbm, ⟨21, _⟩ => ⟨S4096x3x1024, .f32⟩
  | .hbm, ⟨22, _⟩ => ⟨S4096x3x1024, .f32⟩
  | .hbm, ⟨23, _⟩ => ⟨S4096x3x1024, .f32⟩
  | .hbm, ⟨24, _⟩ => ⟨S4096x1x1024, .f32⟩
  | .hbm, ⟨25, _⟩ => ⟨S4096x1024, .f32⟩
  | .hbm, ⟨26, _⟩ => ⟨S4096x1024, .f32⟩
  | .hbm, ⟨27, _⟩ => ⟨S4096x1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S_, .f32⟩
  | .hbm, ⟨41, _⟩ => ⟨S4096x3x1024, .f32⟩
  | .hbm, ⟨42, _⟩ => ⟨S4096x1024, .f32⟩
  | .hbm, ⟨43, _⟩ => ⟨S4096x1024, .f32⟩
  | .hbm, ⟨44, _⟩ => ⟨S4096x1x1024, .f32⟩
  | .hbm, ⟨45, _⟩ => ⟨S_, .f32⟩
  | .hbm, ⟨46, _⟩ => ⟨S4096x3x1024, .f32⟩
  | .hbm, ⟨47, _⟩ => ⟨S4096x3x1024, .f32⟩
  | .hbm, ⟨48, _⟩ => ⟨S4096x1024, .f32⟩
  | .hbm, ⟨49, _⟩ => ⟨S4096x1024, .f32⟩
  | .hbm, ⟨50, _⟩ => ⟨S4096x1x1024, .f32⟩
  | .hbm, ⟨51, _⟩ => ⟨S_, .f32⟩
  | .hbm, ⟨52, _⟩ => ⟨S4096x3x1024, .f32⟩
  | .hbm, ⟨53, _⟩ => ⟨S4096x3x1024, .f32⟩
  | .hbm, ⟨54, _⟩ => ⟨S4096x3x1024, .f32⟩
  | .hbm, ⟨55, _⟩ => ⟨S_, .f32⟩
  | .hbm, ⟨56, _⟩ => ⟨S3x1024, .f32⟩
  | .hbm, ⟨57, _⟩ => ⟨S1x3x1024, .f32⟩
  | .hbm, ⟨58, _⟩ => ⟨S_, .f32⟩
  | .hbm, ⟨59, _⟩ => ⟨S3x1024, .f32⟩
  | .hbm, ⟨60, _⟩ => ⟨S1x3072, .f32⟩
  | .hbm, ⟨61, _⟩ => ⟨S4096x3072, .f32⟩
  | .hbm, ⟨62, _⟩ => ⟨S4096x3072, .bf16⟩
  | .hbm, ⟨63, _⟩ => ⟨S4096x1024, .bf16⟩
  | .hbm, ⟨64, _⟩ => ⟨S4096x1024, .bf16⟩
  | .hbm, ⟨65, _⟩ => ⟨S4096x1024, .bf16⟩
  | _, _ => ⟨S4096x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel10.lean ====
abbrev S4096x768 : Shape := ⟨2, ![4096, 768]⟩
abbrev S1x768 : Shape := ⟨2, ![1, 768]⟩
abbrev S256x768 : Shape := ⟨2, ![256, 768]⟩
abbrev S768 : Shape := ⟨1, ![768]⟩

abbrev nBuf : Space → Nat
  | .hbm => 8
  | .vmem => 12
  | .smem => 0
  | _ => 0

abbrev bufTy : (tb : Table) → Fin (tcTables nBuf tb) → BufTy
  | .hbm, ⟨0, _⟩ => ⟨S4096x768, .f32⟩
  | .hbm, ⟨1, _⟩ => ⟨S1x768, .f32⟩
  | .hbm, ⟨2, _⟩ => ⟨S1x768, .f32⟩
  | .hbm, ⟨3, _⟩ => ⟨S4096x768, .f32⟩
  | .hbm, ⟨4, _⟩ => ⟨S4096x768, .bf16⟩
  | .hbm, ⟨5, _⟩ => ⟨S4096x768, .bf16⟩
  | .hbm, ⟨6, _⟩ => ⟨S1x768, .f32⟩
  | .hbm, ⟨7, _⟩ => ⟨S1x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S1x768, .f32⟩
  | .local _ .vmem, ⟨5, _⟩ => ⟨S1x768, .f32⟩
  | .local _ .vmem, ⟨6, _⟩ => ⟨S256x768, .bf16⟩
  | .local _ .vmem, ⟨7, _⟩ => ⟨S256x768, .bf16⟩
  | .local _ .vmem, ⟨8, _⟩ => ⟨S256x768, .bf16⟩
  | .local _ .vmem, ⟨9, _⟩ => ⟨S256x768, .bf16⟩
  | .local _ .vmem, ⟨10, _⟩ => ⟨S1x768, .f32⟩
  | .local _ .vmem, ⟨11, _⟩ => ⟨S1x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_12 : BitVec 32 := 0#32
  let v21 : BitVec 1 := Scalar.cmpi .ne v20 c0_i32_12
  v21

def k0_cond2 (i : grid0.Coords) : BitVec 1 :=
  let arg0 : BitVec 32 := BitVec.ofNat 32 (i 0).val
  let c0_i32 : BitVec 32 := 0#32
  let v19 : BitVec 1 := Scalar.cmpi .eq arg0 c0_i32
  let v_true : BitVec 1 := 1#1
  let v22 : BitVec 1 := Scalar.xori v19 v_true
  let v23 : BitVec 32 := Scalar.extui v22
  let c0_i32_13 : BitVec 32 := 0#32
  let v24 : BitVec 1 := Scalar.cmpi .ne v23 c0_i32_13
  v24

def k0_cond3 (i : grid0.Coords) : BitVec 1 :=
  let arg0 : BitVec 32 := BitVec.ofNat 32 (i 0).val
  let c0_i32 : BitVec 32 := 0#32
  let v19 : BitVec 1 := Scalar.cmpi .eq arg0 c0_i32
  let v25 : BitVec 32 := Scalar.extui v19
  let c0_i32_14 : BitVec 32 := 0#32
  let v26 : BitVec 1 := Scalar.cmpi .ne v25 c0_i32_14
  v26

def k0_cond4 (i : grid0.Coords) : BitVec 1 :=
  let arg0 : BitVec 32 := BitVec.ofNat 32 (i 0).val
  let c0_i32 : BitVec 32 := 0#32
  let v19 : BitVec 1 := Scalar.cmpi .eq arg0 c0_i32
  let true_15 : BitVec 1 := 1#1
  let v27 : BitVec 1 := Scalar.xori v19 true_15
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S4096x768 : Shape := ⟨2, ![4096, 768]⟩
abbrev S1x768 : Shape := ⟨2, ![1, 768]⟩
abbrev S_ : Shape := ⟨0, ![]⟩
abbrev S768 : Shape := ⟨1, ![768]⟩

abbrev nBuf : Space → Nat
  | .hbm => 19
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S1x768, .f32⟩
  | .hbm, ⟨2, _⟩ => ⟨S1x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S_, .f32⟩
  | .hbm, ⟨10, _⟩ => ⟨S768, .f32⟩
  | .hbm, ⟨11, _⟩ => ⟨S1x768, .f32⟩
  | .hbm, ⟨12, _⟩ => ⟨S4096x768, .f32⟩
  | .hbm, ⟨13, _⟩ => ⟨S4096x768, .f32⟩
  | .hbm, ⟨14, _⟩ => ⟨S_, .f32⟩
  | .hbm, ⟨15, _⟩ => ⟨S768, .f32⟩
  | .hbm, ⟨16, _⟩ => ⟨S1x768, .f32⟩
  | .hbm, ⟨17, _⟩ => ⟨S4096x768, .bf16⟩
  | .hbm, ⟨18, _⟩ => ⟨S4096x768, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel11.lean ====
abbrev S4096x1024 : Shape := ⟨2, ![4096, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32 : BitVec 32 := 0#32
  let v15 : BitVec 1 := Scalar.cmpi .eq arg0 c0_i32
  let v_true : BitVec 1 := 1#1
  let v18 : BitVec 1 := Scalar.xori v15 v_true
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference11Ideal.lean ====
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel12.lean ====
abbrev S4096x9728 : Shape := ⟨2, ![4096, 9728]⟩
abbrev S1x3072 : Shape := ⟨2, ![1, 3072]⟩
abbrev S4096x1024 : Shape := ⟨2, ![4096, 1024]⟩
abbrev S256x1024 : Shape := ⟨2, ![256, 1024]⟩
abbrev S1x1024 : Shape := ⟨2, ![1, 1024]⟩

abbrev nBuf : Space → Nat
  | .hbm => 6
  | .vmem => 15
  | .smem => 0
  | _ => 0

abbrev bufTy : (tb : Table) → Fin (tcTables nBuf tb) → BufTy
  | .hbm, ⟨0, _⟩ => ⟨S4096x9728, .f32⟩
  | .hbm, ⟨1, _⟩ => ⟨S1x3072, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x3072, .f32⟩
  | .local _ .vmem, ⟨13, _⟩ => ⟨S256x1024, .bf16⟩
  | .local _ .vmem, ⟨14, _⟩ => ⟨S256x1024, .bf16⟩
  | _, _ => ⟨S4096x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4096x9728 : Shape := ⟨2, ![4096, 9728]⟩
abbrev S1x3072 : Shape := ⟨2, ![1, 3072]⟩
abbrev S4096x1024 : Shape := ⟨2, ![4096, 1024]⟩
abbrev S4096x3072 : Shape := ⟨2, ![4096, 3072]⟩
abbrev S4096x3x1024 : Shape := ⟨3, ![4096, 3, 1024]⟩
abbrev S3x1024 : Shape := ⟨2, ![3, 1024]⟩
abbrev S1x3x1024 : Shape := ⟨3, ![1, 3, 1024]⟩
abbrev S_ : Shape := ⟨0, ![]⟩
abbrev S4096x1x1024 : Shape := ⟨3, ![4096, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x9728, .f32⟩
  | .hbm, ⟨1, _⟩ => ⟨S1x3072, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x3072, .f32⟩
  | .hbm, ⟨6, _⟩ => ⟨S4096x3x1024, .f32⟩
  | .hbm, ⟨7, _⟩ => ⟨S3x1024, .f32⟩
  | .hbm, ⟨8, _⟩ => ⟨S1x3x1024, .f32⟩
  | .hbm, ⟨9, _⟩ => ⟨S4096x3x1024, .f32⟩
  | .hbm, ⟨10, _⟩ => ⟨S4096x3x1024, .f32⟩
  | .hbm, ⟨11, _⟩ => ⟨S4096x3x1024, .f32⟩
  | .hbm, ⟨12, _⟩ => ⟨S4096x3x1024, .f32⟩
  | .hbm, ⟨13, _⟩ => ⟨S_, .f32⟩
  | .hbm, ⟨14, _⟩ => ⟨S4096x3x1024, .f32⟩
  | .hbm, ⟨15, _⟩ => ⟨S4096x3x1024, .f32⟩
  | .hbm, ⟨16, _⟩ => ⟨S_, .f32⟩
  | .hbm, ⟨17, _⟩ => ⟨S4096x3x1024, .f32⟩
  | .hbm, ⟨18, _⟩ => ⟨S4096x3x1024, .f32⟩
  | .hbm, ⟨19, _⟩ => ⟨S4096x1x1024, .f32⟩
  | .hbm, ⟨20, _⟩ => ⟨S4096x1024, .f32⟩
  | .hbm, ⟨21, _⟩ => ⟨S4096x1024, .f32⟩
  | .hbm, ⟨22, _⟩ => ⟨S4096x1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | _, _ => ⟨S4096x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel13.lean ====
abbrev S4096x768 : Shape := ⟨2, ![4096, 768]⟩
abbrev S1x768 : Shape := ⟨2, ![1, 768]⟩
abbrev S4096x1024 : Shape := ⟨2, ![4096, 1024]⟩
abbrev S4096x9728 : Shape := ⟨2, ![4096, 9728]⟩
abbrev S1x1024 : Shape := ⟨2, ![1, 1024]⟩
abbrev S4096x16 : Shape := ⟨2, ![4096, 16]⟩
abbrev S1x16 : Shape := ⟨2, ![1, 16]⟩
abbrev S4096x256 : Shape := ⟨2, ![4096, 256]⟩
abbrev S2x4096x128 : Shape := ⟨3, ![2, 4096, 128]⟩
abbrev S256x768 : Shape := ⟨2, ![256, 768]⟩
abbrev S256x256 : Shape := ⟨2, ![256, 256]⟩
abbrev S256x1024 : Shape := ⟨2, ![256, 1024]⟩
abbrev S1x256 : Shape := ⟨2, ![1, 256]⟩
abbrev S256 : Shape := ⟨1, ![256]⟩
abbrev S256x1 : Shape := ⟨2, ![256, 1]⟩
abbrev S1024x16 : Shape := ⟨2, ![1024, 16]⟩
abbrev S512x128 : Shape := ⟨2, ![512, 128]⟩
abbrev S1x512x128 : Shape := ⟨3, ![1, 512, 128]⟩
abbrev S512x64 : Shape := ⟨2, ![512, 64]⟩
abbrev S1x512x1 : Shape := ⟨3, ![1, 512, 1]⟩
abbrev S512x1 : Shape := ⟨2, ![512, 1]⟩

abbrev nBuf : Space → Nat
  | .hbm => 18
  | .vmem => 44
  | .smem => 0
  | _ => 0

abbrev bufTy : (tb : Table) → Fin (tcTables nBuf tb) → BufTy
  | .hbm, ⟨0, _⟩ => ⟨S4096x768, .f32⟩
  | .hbm, ⟨1, _⟩ => ⟨S1x768, .f32⟩
  | .hbm, ⟨2, _⟩ => ⟨S1x768, .f32⟩
  | .hbm, ⟨3, _⟩ => ⟨S4096x1024, .f32⟩
  | .hbm, ⟨4, _⟩ => ⟨S4096x9728, .f32⟩
  | .hbm, ⟨5, _⟩ => ⟨S1x1024, .f32⟩
  | .hbm, ⟨6, _⟩ => ⟨S4096x16, .f32⟩
  | .hbm, ⟨7, _⟩ => ⟨S1x16, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S2x4096x128, .f32⟩
  | .hbm, ⟨12, _⟩ => ⟨S2x4096x128, .f32⟩
  | .hbm, ⟨13, _⟩ => ⟨S2x4096x128, .f32⟩
  | .hbm, ⟨14, _⟩ => ⟨S4096x768, .bf16⟩
  | .hbm, ⟨15, _⟩ => ⟨S4096x1024, .bf16⟩
  | .hbm, ⟨16, _⟩ => ⟨S4096x16, .f32⟩
  | .hbm, ⟨17, _⟩ => ⟨S4096x256, .f32⟩
  | .local _ .vmem, ⟨0, _⟩ => ⟨S256x768, .f32⟩
  | .local _ .vmem, ⟨1, _⟩ => ⟨S256x768, .f32⟩
  | .local _ .vmem, ⟨2, _⟩ => ⟨S1x768, .f32⟩
  | .local _ .vmem, ⟨3, _⟩ => ⟨S1x768, .f32⟩
  | .local _ .vmem, ⟨4, _⟩ => ⟨S256x768, .bf16⟩
  | .local _ .vmem, ⟨5, _⟩ => ⟨S256x768, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S1x1024, .f32⟩
  | .local _ .vmem, ⟨23, _⟩ => ⟨S256x1024, .bf16⟩
  | .local _ .vmem, ⟨24, _⟩ => ⟨S256x1024, .bf16⟩
  | .local _ .vmem, ⟨25, _⟩ => ⟨S1024x16, .f32⟩
  | .local _ .vmem, ⟨26, _⟩ => ⟨S1024x16, .f32⟩
  | .local _ .vmem, ⟨27, _⟩ => ⟨S1x16, .f32⟩
  | .local _ .vmem, ⟨28, _⟩ => ⟨S1024x16, .f32⟩
  | .local _ .vmem, ⟨29, _⟩ => ⟨S1024x16, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S1x512x128, .f32⟩
  | .local _ .vmem, ⟨37, _⟩ => ⟨S1x512x128, .f32⟩
  | .local _ .vmem, ⟨38, _⟩ => ⟨S1x512x128, .f32⟩
  | .local _ .vmem, ⟨39, _⟩ => ⟨S1x512x128, .f32⟩
  | .local _ .vmem, ⟨40, _⟩ => ⟨S1x512x128, .f32⟩
  | .local _ .vmem, ⟨41, _⟩ => ⟨S1x512x128, .f32⟩
  | .local _ .vmem, ⟨42, _⟩ => ⟨S512x128, .f32⟩
  | .local _ .vmem, ⟨43, _⟩ => ⟨S512x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg2_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem9_0 : DmaSem sig := 23
abbrev cc1_sem9_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc3_sem5_0 : DmaSem sig := 40
abbrev cc3_sem5_1 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_4 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_5 (i : grid1.Coords) : Fin 2 → Nat :=
  let arg0 : BitVec 32 := BitVec.ofNat 32 (i 0).val
  let c4_i32 : BitVec 32 := 4#32
  let c0_i32 : BitVec 32 := 0#32
  ![arg0.toNat, c4_i32.toNat]

def cc1_transform_6 (i : grid1.Coords) : Fin 2 → Nat :=
  let arg0 : BitVec 32 := BitVec.ofNat 32 (i 0).val
  let c5_i32 : BitVec 32 := 5#32
  let c0_i32 : BitVec 32 := 0#32
  ![arg0.toNat, c5_i32.toNat]

def cc1_transform_7 (i : grid1.Coords) : Fin 2 → Nat :=
  let arg0 : BitVec 32 := BitVec.ofNat 32 (i 0).val
  let c6_i32 : BitVec 32 := 6#32
  let c0_i32 : BitVec 32 := 0#32
  ![arg0.toNat, c6_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S512x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x512x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x512x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S512x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]
-- ==== Reference13Ideal.lean ====
abbrev S4096x768 : Shape := ⟨2, ![4096, 768]⟩
abbrev S1x768 : Shape := ⟨2, ![1, 768]⟩
abbrev S4096x1024 : Shape := ⟨2, ![4096, 1024]⟩
abbrev S4096x9728 : Shape := ⟨2, ![4096, 9728]⟩
abbrev S1x1024 : Shape := ⟨2, ![1, 1024]⟩
abbrev S4096x16 : Shape := ⟨2, ![4096, 16]⟩
abbrev S1x16 : Shape := ⟨2, ![1, 16]⟩
abbrev S4096x256 : Shape := ⟨2, ![4096, 256]⟩
abbrev S2x4096x128 : Shape := ⟨3, ![2, 4096, 128]⟩
abbrev S_ : Shape := ⟨0, ![]⟩
abbrev S4096x4x256 : Shape := ⟨3, ![4096, 4, 256]⟩
abbrev S4096x4 : Shape := ⟨2, ![4096, 4]⟩
abbrev S4096x4x1 : Shape := ⟨3, ![4096, 4, 1]⟩
abbrev S1x2x4096x128 : Shape := ⟨4, ![1, 2, 4096, 128]⟩
abbrev S3x2x4096x128 : Shape := ⟨4, ![3, 2, 4096, 128]⟩
abbrev S3x2x4096x2 : Shape := ⟨4, ![3, 2, 4096, 2]⟩
abbrev S3x4096x2x2 : Shape := ⟨4, ![3, 4096, 2, 2]⟩
abbrev S3x4096x4 : Shape := ⟨3, ![3, 4096, 4]⟩
abbrev S1x4096x4 : Shape := ⟨3, ![1, 4096, 4]⟩
abbrev S1x4096x256 : Shape := ⟨3, ![1, 4096, 256]⟩
abbrev S3x4096x256 : Shape := ⟨3, ![3, 4096, 256]⟩
abbrev S3x4096x4x64 : Shape := ⟨4, ![3, 4096, 4, 64]⟩
abbrev S4096x4x64 : Shape := ⟨3, ![4096, 4, 64]⟩

abbrev nBuf : Space → Nat
  | .hbm => 92
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S1x768, .f32⟩
  | .hbm, ⟨2, _⟩ => ⟨S1x768, .f32⟩
  | .hbm, ⟨3, _⟩ => ⟨S4096x1024, .f32⟩
  | .hbm, ⟨4, _⟩ => ⟨S4096x9728, .f32⟩
  | .hbm, ⟨5, _⟩ => ⟨S1x1024, .f32⟩
  | .hbm, ⟨6, _⟩ => ⟨S4096x16, .f32⟩
  | .hbm, ⟨7, _⟩ => ⟨S1x16, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S2x4096x128, .f32⟩
  | .hbm, ⟨12, _⟩ => ⟨S2x4096x128, .f32⟩
  | .hbm, ⟨13, _⟩ => ⟨S2x4096x128, .f32⟩
  | .hbm, ⟨14, _⟩ => ⟨S4096x768, .f32⟩
  | .hbm, ⟨15, _⟩ => ⟨S4096x768, .f32⟩
  | .hbm, ⟨16, _⟩ => ⟨S4096x768, .f32⟩
  | .hbm, ⟨17, _⟩ => ⟨S4096x768, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x4x256, .f32⟩
  | .hbm, ⟨30, _⟩ => ⟨S4096x4x256, .f32⟩
  | .hbm, ⟨31, _⟩ => ⟨S_, .f32⟩
  | .hbm, ⟨32, _⟩ => ⟨S4096x4, .f32⟩
  | .hbm, ⟨33, _⟩ => ⟨S4096x4x1, .f32⟩
  | .hbm, ⟨34, _⟩ => ⟨S_, .f32⟩
  | .hbm, ⟨35, _⟩ => ⟨S4096x4x1, .f32⟩
  | .hbm, ⟨36, _⟩ => ⟨S4096x4x1, .f32⟩
  | .hbm, ⟨37, _⟩ => ⟨S_, .f32⟩
  | .hbm, ⟨38, _⟩ => ⟨S4096x4x1, .f32⟩
  | .hbm, ⟨39, _⟩ => ⟨S4096x4x1, .f32⟩
  | .hbm, ⟨40, _⟩ => ⟨S4096x4x1, .f32⟩
  | .hbm, ⟨41, _⟩ => ⟨S4096x4x256, .f32⟩
  | .hbm, ⟨42, _⟩ => ⟨S4096x4x256, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x16, .f32⟩
  | .hbm, ⟨47, _⟩ => ⟨S4096x16, .f32⟩
  | .hbm, ⟨48, _⟩ => ⟨S_, .f32⟩
  | .hbm, ⟨49, _⟩ => ⟨S4096x16, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S4096x16, .i1⟩
  | .hbm, ⟨54, _⟩ => ⟨S4096x16, .f32⟩
  | .hbm, ⟨55, _⟩ => ⟨S4096x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S1x2x4096x128, .f32⟩
  | .hbm, ⟨63, _⟩ => ⟨S1x2x4096x128, .f32⟩
  | .hbm, ⟨64, _⟩ => ⟨S1x2x4096x128, .f32⟩
  | .hbm, ⟨65, _⟩ => ⟨S3x2x4096x128, .f32⟩
  | .hbm, ⟨66, _⟩ => ⟨S3x2x4096x2, .f32⟩
  | .hbm, ⟨67, _⟩ => ⟨S3x4096x2x2, .f32⟩
  | .hbm, ⟨68, _⟩ => ⟨S3x4096x4, .f32⟩
  | .hbm, ⟨69, _⟩ => ⟨S_, .f32⟩
  | .hbm, ⟨70, _⟩ => ⟨S4096x4, .f32⟩
  | .hbm, ⟨71, _⟩ => ⟨S_, .f32⟩
  | .hbm, ⟨72, _⟩ => ⟨S4096x4, .f32⟩
  | .hbm, ⟨73, _⟩ => ⟨S4096x4, .f32⟩
  | .hbm, ⟨74, _⟩ => ⟨S1x4096x4, .f32⟩
  | .hbm, ⟨75, _⟩ => ⟨S3x4096x4, .f32⟩
  | .hbm, ⟨76, _⟩ => ⟨S3x4096x4, .f32⟩
  | .hbm, ⟨77, _⟩ => ⟨S3x4096x4, .f32⟩
  | .hbm, ⟨78, _⟩ => ⟨S_, .f32⟩
  | .hbm, ⟨79, _⟩ => ⟨S4096x4, .f32⟩
  | .hbm, ⟨80, _⟩ => ⟨S1x4096x4, .f32⟩
  | .hbm, ⟨81, _⟩ => ⟨S3x4096x4, .f32⟩
  | .hbm, ⟨82, _⟩ => ⟨S3x4096x4, .f32⟩
  | .hbm, ⟨83, _⟩ => ⟨S1x4096x256, .f32⟩
  | .hbm, ⟨84, _⟩ => ⟨S1x4096x256, .f32⟩
  | .hbm, ⟨85, _⟩ => ⟨S1x4096x256, .f32⟩
  | .hbm, ⟨86, _⟩ => ⟨S3x4096x256, .f32⟩
  | .hbm, ⟨87, _⟩ => ⟨S3x4096x4x64, .f32⟩
  | .hbm, ⟨88, _⟩ => ⟨S4096x4x64, .f32⟩
  | .hbm, ⟨89, _⟩ => ⟨S4096x256, .f32⟩
  | .hbm, ⟨90, _⟩ => ⟨S4096x768, .bf16⟩
  | .hbm, ⟨91, _⟩ => ⟨S4096x1024, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_2 : Ref sig .tc := ⟨.hbm, 69, rfl⟩
abbrev main_v31 : Ref sig .tc := ⟨.hbm, 70, rfl⟩
abbrev main_cst_3 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_4 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩

abbrev nD : Nat := 1
abbrev τ : Topo := Topo.v7x

variable {F : FTy → Type} [FloatOps F]
-- ==== Kernel14.lean ====
abbrev S4096x768 : Shape := ⟨2, ![4096, 768]⟩
abbrev S768x768 : Shape := ⟨2, ![768, 768]⟩
abbrev S1024x768 : Shape := ⟨2, ![1024, 768]⟩
abbrev S4096x384 : Shape := ⟨2, ![4096, 384]⟩
abbrev S768x384 : Shape := ⟨2, ![768, 384]⟩

abbrev nBuf : Space → Nat
  | .hbm => 6
  | .vmem => 15
  | .smem => 0
  | _ => 0

abbrev bufTy : (tb : Table) → Fin (tcTables nBuf tb) → BufTy
  | .hbm, ⟨0, _⟩ => ⟨S4096x768, .bf16⟩
  | .hbm, ⟨1, _⟩ => ⟨S768x768, .bf16⟩
  | .hbm, ⟨2, _⟩ => ⟨S4096x768, .bf16⟩
  | .hbm, ⟨3, _⟩ => ⟨S4096x768, .f32⟩
  | .hbm, ⟨4, _⟩ => ⟨S4096x768, .f32⟩
  | .hbm, ⟨5, _⟩ => ⟨S768x768, .f32⟩
  | .local _ .vmem, ⟨0, _⟩ => ⟨S1024x768, .bf16⟩
  | .local _ .vmem, ⟨1, _⟩ => ⟨S1024x768, .bf16⟩
  | .local _ .vmem, ⟨2, _⟩ => ⟨S768x768, .bf16⟩
  | .local _ .vmem, ⟨3, _⟩ => ⟨S1024x768, .f32⟩
  | .local _ .vmem, ⟨4, _⟩ => ⟨S1024x768, .f32⟩
  | .local _ .vmem, ⟨5, _⟩ => ⟨S1024x768, .bf16⟩
  | .local _ .vmem, ⟨6, _⟩ => ⟨S1024x768, .bf16⟩
  | .local _ .vmem, ⟨7, _⟩ => ⟨S768x768, .bf16⟩
  | .local _ .vmem, ⟨8, _⟩ => ⟨S1024x768, .f32⟩
  | .local _ .vmem, ⟨9, _⟩ => ⟨S1024x768, .f32⟩
  | .local _ .vmem, ⟨10, _⟩ => ⟨S4096x768, .bf16⟩
  | .local _ .vmem, ⟨11, _⟩ => ⟨S4096x384, .bf16⟩
  | .local _ .vmem, ⟨12, _⟩ => ⟨S4096x384, .bf16⟩
  | .local _ .vmem, ⟨13, _⟩ => ⟨S768x384, .f32⟩
  | .local _ .vmem, ⟨14, _⟩ => ⟨S768x384, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S1024x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S768x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S1024x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S4096x768 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x384 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S768x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference14Ideal.lean ====
abbrev S4096x768 : Shape := ⟨2, ![4096, 768]⟩
abbrev S768x768 : Shape := ⟨2, ![768, 768]⟩

abbrev nBuf : Space → Nat
  | .hbm => 10
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S768x768, .bf16⟩
  | .hbm, ⟨2, _⟩ => ⟨S4096x768, .bf16⟩
  | .hbm, ⟨3, _⟩ => ⟨S4096x768, .f32⟩
  | .hbm, ⟨4, _⟩ => ⟨S768x768, .f32⟩
  | .hbm, ⟨5, _⟩ => ⟨S4096x768, .f32⟩
  | .hbm, ⟨6, _⟩ => ⟨S4096x768, .f32⟩
  | .hbm, ⟨7, _⟩ => ⟨S768x768, .f32⟩
  | .hbm, ⟨8, _⟩ => ⟨S768x768, .f32⟩
  | .hbm, ⟨9, _⟩ => ⟨S4096x768, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x1024 : Shape := ⟨2, ![4096, 1024]⟩
abbrev S4096x9728 : Shape := ⟨2, ![4096, 9728]⟩
abbrev S1x1024 : Shape := ⟨2, ![1, 1024]⟩
abbrev S256x256 : Shape := ⟨2, ![256, 256]⟩
abbrev S256x1024 : Shape := ⟨2, ![256, 1024]⟩
abbrev S1x256 : Shape := ⟨2, ![1, 256]⟩
abbrev S256 : Shape := ⟨1, ![256]⟩
abbrev S256x1 : Shape := ⟨2, ![256, 1]⟩

abbrev nBuf : Space → Nat
  | .hbm => 7
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x9728, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S1x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .bf16⟩
  | .local _ .vmem, ⟨28, _⟩ => ⟨S256x1024, .bf16⟩
  | .local _ .vmem, ⟨29, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v209 : BitVec 1 := Scalar.cmpi .eq arg0 c0_i32
  let v210 : BitVec 32 := Scalar.extui v209
  let c0_i32_73 : BitVec 32 := 0#32
  let v211 : BitVec 1 := Scalar.cmpi .ne v210 c0_i32_73
  v211

def k0_cond2 (i : grid0.Coords) : BitVec 1 :=
  let arg0 : BitVec 32 := BitVec.ofNat 32 (i 0).val
  let c0_i32 : BitVec 32 := 0#32
  let v209 : BitVec 1 := Scalar.cmpi .eq arg0 c0_i32
  let v_true : BitVec 1 := 1#1
  let v212 : BitVec 1 := Scalar.xori v209 v_true
  let v213 : BitVec 32 := Scalar.extui v212
  let c0_i32_74 : BitVec 32 := 0#32
  let v214 : BitVec 1 := Scalar.cmpi .ne v213 c0_i32_74
  v214

def k0_cond3 (i : grid0.Coords) : BitVec 1 :=
  let arg0 : BitVec 32 := BitVec.ofNat 32 (i 0).val
  let c0_i32 : BitVec 32 := 0#32
  let v209 : BitVec 1 := Scalar.cmpi .eq arg0 c0_i32
  let v215 : BitVec 32 := Scalar.extui v209
  let c0_i32_75 : BitVec 32 := 0#32
  let v216 : BitVec 1 := Scalar.cmpi .ne v215 c0_i32_75
  v216

def k0_cond4 (i : grid0.Coords) : BitVec 1 :=
  let arg0 : BitVec 32 := BitVec.ofNat 32 (i 0).val
  let c0_i32 : BitVec 32 := 0#32
  let v209 : BitVec 1 := Scalar.cmpi .eq arg0 c0_i32
  let true_76 : BitVec 1 := 1#1
  let v217 : BitVec 1 := Scalar.xori v209 true_76
  let v218 : BitVec 32 := Scalar.extui v217
  let c0_i32_77 : BitVec 32 := 0#32
  let v219 : BitVec 1 := Scalar.cmpi .ne v218 c0_i32_77
  v219

def k0_cond5 (i : grid0.Coords) : BitVec 1 :=
  let arg0 : BitVec 32 := BitVec.ofNat 32 (i 0).val
  let c0_i32 : BitVec 32 := 0#32
  let v209 : BitVec 1 := Scalar.cmpi .eq arg0 c0_i32
  let v220 : BitVec 32 := Scalar.extui v209
  let c0_i32_78 : BitVec 32 := 0#32
  let v221 : BitVec 1 := Scalar.cmpi .ne v220 c0_i32_78
  v221

def k0_cond6 (i : grid0.Coords) : BitVec 1 :=
  let arg0 : BitVec 32 := BitVec.ofNat 32 (i 0).val
  let c0_i32 : BitVec 32 := 0#32
  let v209 : BitVec 1 := Scalar.cmpi .eq arg0 c0_i32
  let true_79 : BitVec 1 := 1#1
  let v222 : BitVec 1 := Scalar.xori v209 true_79
  let v223 : BitVec 32 := Scalar.extui v222
  let c0_i32_80 : BitVec 32 := 0#32
  let v224 : BitVec 1 := Scalar.cmpi .ne v223 c0_i32_80
  v224

def k0_cond7 (i : grid0.Coords) : BitVec 1 :=
  let arg0 : BitVec 32 := BitVec.ofNat 32 (i 0).val
  let c0_i32 : BitVec 32 := 0#32
  let v209 : BitVec 1 := Scalar.cmpi .eq arg0 c0_i32
  let v225 : BitVec 32 := Scalar.extui v209
  let c0_i32_81 : BitVec 32 := 0#32
  let v226 : BitVec 1 := Scalar.cmpi .ne v225 c0_i32_81
  v226

def k0_cond8 (i : grid0.Coords) : BitVec 1 :=
  let arg0 : BitVec 32 := BitVec.ofNat 32 (i 0).val
  let c0_i32 : BitVec 32 := 0#32
  let v209 : BitVec 1 := Scalar.cmpi .eq arg0 c0_i32
  let true_82 : BitVec 1 := 1#1
  let v227 : BitVec 1 := Scalar.xori v209 true_82
  let v228 : BitVec 32 := Scalar.extui v227
  let c0_i32_83 : BitVec 32 := 0#32
  let v229 : BitVec 1 := Scalar.cmpi .ne v228 c0_i32_83
  v229

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_11 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference15Ideal.lean ====
abbrev S4096x1024 : Shape := ⟨2, ![4096, 1024]⟩
abbrev S4096x9728 : Shape := ⟨2, ![4096, 9728]⟩
abbrev S1x1024 : Shape := ⟨2, ![1, 1024]⟩
abbrev S_ : Shape := ⟨0, ![]⟩
abbrev S4096x4x256 : Shape := ⟨3, ![4096, 4, 256]⟩
abbrev S4096x4 : Shape := ⟨2, ![4096, 4]⟩
abbrev S4096x4x1 : Shape := ⟨3, ![4096, 4, 1]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x9728, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x4x256, .f32⟩
  | .hbm, ⟨20, _⟩ => ⟨S4096x4x256, .f32⟩
  | .hbm, ⟨21, _⟩ => ⟨S_, .f32⟩
  | .hbm, ⟨22, _⟩ => ⟨S4096x4x256, .f32⟩
  | .hbm, ⟨23, _⟩ => ⟨S4096x4x256, .f32⟩
  | .hbm, ⟨24, _⟩ => ⟨S_, .f32⟩
  | .hbm, ⟨25, _⟩ => ⟨S4096x4, .f32⟩
  | .hbm, ⟨26, _⟩ => ⟨S4096x4x1, .f32⟩
  | .hbm, ⟨27, _⟩ => ⟨S_, .f32⟩
  | .hbm, ⟨28, _⟩ => ⟨S4096x4x1, .f32⟩
  | .hbm, ⟨29, _⟩ => ⟨S4096x4x1, .f32⟩
  | .hbm, ⟨30, _⟩ => ⟨S_, .f32⟩
  | .hbm, ⟨31, _⟩ => ⟨S4096x4x1, .f32⟩
  | .hbm, ⟨32, _⟩ => ⟨S4096x4x1, .f32⟩
  | .hbm, ⟨33, _⟩ => ⟨S4096x4x1, .f32⟩
  | .hbm, ⟨34, _⟩ => ⟨S4096x4x1, .f32⟩
  | .hbm, ⟨35, _⟩ => ⟨S_, .f32⟩
  | .hbm, ⟨36, _⟩ => ⟨S4096x4x1, .f32⟩
  | .hbm, ⟨37, _⟩ => ⟨S4096x4x1, .f32⟩
  | .hbm, ⟨38, _⟩ => ⟨S4096x4x256, .f32⟩
  | .hbm, ⟨39, _⟩ => ⟨S4096x4x256, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x4x256, .f32⟩
  | .hbm, ⟨50, _⟩ => ⟨S4096x4x256, .f32⟩
  | .hbm, ⟨51, _⟩ => ⟨S_, .f32⟩
  | .hbm, ⟨52, _⟩ => ⟨S4096x4, .f32⟩
  | .hbm, ⟨53, _⟩ => ⟨S4096x4x1, .f32⟩
  | .hbm, ⟨54, _⟩ => ⟨S4096x4x256, .f32⟩
  | .hbm, ⟨55, _⟩ => ⟨S4096x4x256, .f32⟩
  | .hbm, ⟨56, _⟩ => ⟨S4096x4x1, .f32⟩
  | .hbm, ⟨57, _⟩ => ⟨S_, .f32⟩
  | .hbm, ⟨58, _⟩ => ⟨S4096x4x1, .f32⟩
  | .hbm, ⟨59, _⟩ => ⟨S4096x4x1, .f32⟩
  | .hbm, ⟨60, _⟩ => ⟨S_, .f32⟩
  | .hbm, ⟨61, _⟩ => ⟨S4096x4, .f32⟩
  | .hbm, ⟨62, _⟩ => ⟨S4096x4x256, .f32⟩
  | .hbm, ⟨63, _⟩ => ⟨S4096x4x256, .f32⟩
  | .hbm, ⟨64, _⟩ => ⟨S4096x4x256, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v43 : Ref sig .tc := ⟨.hbm, 71, rfl⟩
abbrev main_v44 : Ref sig .tc := ⟨.hbm, 72, rfl⟩

abbrev nD : Nat := 1
abbrev τ : Topo := Topo.v7x

variable {F : FTy → Type} [FloatOps F]
-- ==== Kernel16.lean ====
abbrev S4096x9728 : Shape := ⟨2, ![4096, 9728]⟩
abbrev S4x2048 : Shape := ⟨2, ![4, 2048]⟩
abbrev S1x2048 : Shape := ⟨2, ![1, 2048]⟩
abbrev S4096x2048 : Shape := ⟨2, ![4096, 2048]⟩
abbrev S2048x128 : Shape := ⟨2, ![2048, 128]⟩
abbrev S4x128 : Shape := ⟨2, ![4, 128]⟩
abbrev S1x128 : Shape := ⟨2, ![1, 128]⟩
abbrev S2048x1 : Shape := ⟨2, ![2048, 1]⟩
abbrev S128 : Shape := ⟨1, ![128]⟩

abbrev nBuf : Space → Nat
  | .hbm => 7
  | .vmem => 14
  | .smem => 0
  | _ => 0

abbrev bufTy : (tb : Table) → Fin (tcTables nBuf tb) → BufTy
  | .hbm, ⟨0, _⟩ => ⟨S4096x9728, .f32⟩
  | .hbm, ⟨1, _⟩ => ⟨S4x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .hbm, ⟨5, _⟩ => ⟨S4x2048, .f32⟩
  | .hbm, ⟨6, _⟩ => ⟨S1x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S4096x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v88 : BitVec 1 := Scalar.cmpi .eq arg1 c0_i32
  let v92 : BitVec 32 := Scalar.extui v88
  let c0_i32_33 : BitVec 32 := 0#32
  let v93 : BitVec 1 := Scalar.cmpi .ne v92 c0_i32_33
  v93

def k0_cond2 (i : grid0.Coords) : BitVec 1 :=
  let arg1 : BitVec 32 := BitVec.ofNat 32 (i 1).val
  let c0_i32 : BitVec 32 := 0#32
  let v88 : BitVec 1 := Scalar.cmpi .eq arg1 c0_i32
  let v_true : BitVec 1 := 1#1
  let v94 : BitVec 1 := Scalar.xori v88 v_true
  let v95 : BitVec 32 := Scalar.extui v94
  let c0_i32_34 : BitVec 32 := 0#32
  let v96 : BitVec 1 := Scalar.cmpi .ne v95 c0_i32_34
  v96

def k0_cond3 (i : grid0.Coords) : BitVec 1 :=
  let arg1 : BitVec 32 := BitVec.ofNat 32 (i 1).val
  let c0_i32 : BitVec 32 := 0#32
  let v88 : BitVec 1 := Scalar.cmpi .eq arg1 c0_i32
  let v100 : BitVec 32 := Scalar.extui v88
  let c0_i32_36 : BitVec 32 := 0#32
  let v101 : BitVec 1 := Scalar.cmpi .ne v100 c0_i32_36
  v101

def k0_cond4 (i : grid0.Coords) : BitVec 1 :=
  let arg1 : BitVec 32 := BitVec.ofNat 32 (i 1).val
  let c0_i32 : BitVec 32 := 0#32
  let v88 : BitVec 1 := Scalar.cmpi .eq arg1 c0_i32
  let true_37 : BitVec 1 := 1#1
  let v102 : BitVec 1 := Scalar.xori v88 true_37
  let v103 : BitVec 32 := Scalar.extui v102
  let c0_i32_38 : BitVec 32 := 0#32
  let v104 : BitVec 1 := Scalar.cmpi .ne v103 c0_i32_38
  v104

def k0_cond5 (i : grid0.Coords) : BitVec 1 :=
  let arg1 : BitVec 32 := BitVec.ofNat 32 (i 1).val
  let c0_i32 : BitVec 32 := 0#32
  let v88 : BitVec 1 := Scalar.cmpi .eq arg1 c0_i32
  let v108 : BitVec 32 := Scalar.extui v88
  let c0_i32_40 : BitVec 32 := 0#32
  let v109 : BitVec 1 := Scalar.cmpi .ne v108 c0_i32_40
  v109

def k0_cond6 (i : grid0.Coords) : BitVec 1 :=
  let arg1 : BitVec 32 := BitVec.ofNat 32 (i 1).val
  let c0_i32 : BitVec 32 := 0#32
  let v88 : BitVec 1 := Scalar.cmpi .eq arg1 c0_i32
  let true_41 : BitVec 1 := 1#1
  let v110 : BitVec 1 := Scalar.xori v88 true_41
  let v111 : BitVec 32 := Scalar.extui v110
  let c0_i32_42 : BitVec 32 := 0#32
  let v112 : BitVec 1 := Scalar.cmpi .ne v111 c0_i32_42
  v112

def k0_cond7 (i : grid0.Coords) : BitVec 1 :=
  let arg1 : BitVec 32 := BitVec.ofNat 32 (i 1).val
  let c0_i32 : BitVec 32 := 0#32
  let v88 : BitVec 1 := Scalar.cmpi .eq arg1 c0_i32
  let v116 : BitVec 32 := Scalar.extui v88
  let c0_i32_44 : BitVec 32 := 0#32
  let v117 : BitVec 1 := Scalar.cmpi .ne v116 c0_i32_44
  v117

def k0_cond8 (i : grid0.Coords) : BitVec 1 :=
  let arg1 : BitVec 32 := BitVec.ofNat 32 (i 1).val
  let c0_i32 : BitVec 32 := 0#32
  let v88 : BitVec 1 := Scalar.cmpi .eq arg1 c0_i32
  let true_45 : BitVec 1 := 1#1
  let v118 : BitVec 1 := Scalar.xori v88 true_45
  let v119 : BitVec 32 := Scalar.extui v118
  let c0_i32_46 : BitVec 32 := 0#32
  let v120 : BitVec 1 := Scalar.cmpi .ne v119 c0_i32_46
  v120

def k0_cond9 (i : grid0.Coords) : BitVec 1 :=
  let arg1 : BitVec 32 := BitVec.ofNat 32 (i 1).val
  let c0_i32 : BitVec 32 := 0#32
  let v88 : BitVec 1 := Scalar.cmpi .eq arg1 c0_i32
  let v123 : BitVec 32 := Scalar.extui v88
  let c0_i32_48 : BitVec 32 := 0#32
  let v124 : BitVec 1 := Scalar.cmpi .ne v123 c0_i32_48
  v124

def k0_cond10 (i : grid0.Coords) : BitVec 1 :=
  let arg1 : BitVec 32 := BitVec.ofNat 32 (i 1).val
  let c0_i32 : BitVec 32 := 0#32
  let v88 : BitVec 1 := Scalar.cmpi .eq arg1 c0_i32
  let true_49 : BitVec 1 := 1#1
  let v125 : BitVec 1 := Scalar.xori v88 true_49
  let v126 : BitVec 32 := Scalar.extui v125
  let c0_i32_50 : BitVec 32 := 0#32
  let v127 : BitVec 1 := Scalar.cmpi .ne v126 c0_i32_50
  v127

def cc0_transform_0 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi arg0 c14_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference16Ideal.lean ====
abbrev S4096x9728 : Shape := ⟨2, ![4096, 9728]⟩
abbrev S4x2048 : Shape := ⟨2, ![4, 2048]⟩
abbrev S1x2048 : Shape := ⟨2, ![1, 2048]⟩
abbrev S4096x2048 : Shape := ⟨2, ![4096, 2048]⟩
abbrev S_ : Shape := ⟨0, ![]⟩
abbrev S2x3x2048 : Shape := ⟨3, ![2, 3, 2048]⟩
abbrev S2x2048x2048 : Shape := ⟨3, ![2, 2048, 2048]⟩
abbrev S2x2051x2048 : Shape := ⟨3, ![2, 2051, 2048]⟩
abbrev S2048 : Shape := ⟨1, ![2048]⟩
abbrev S1x1x2048 : Shape := ⟨3, ![1, 1, 2048]⟩

abbrev nBuf : Space → Nat
  | .hbm => 128
  | .vmem => 0
  | .smem => 0
  | _ => 0

abbrev bufTy : (tb : Table) → Fin (tcTables nBuf tb) → BufTy
  | .hbm, ⟨0, _⟩ => ⟨S4096x9728, .f32⟩
  | .hbm, ⟨1, _⟩ => ⟨S4x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S2x3x2048, .f32⟩
  | .hbm, ⟨7, _⟩ => ⟨S2x2048x2048, .f32⟩
  | .hbm, ⟨8, _⟩ => ⟨S2x2051x2048, .f32⟩
  | .hbm, ⟨9, _⟩ => ⟨S_, .f32⟩
  | .hbm, ⟨10, _⟩ => ⟨S2x3x2048, .f32⟩
  | .hbm, ⟨11, _⟩ => ⟨S1x2048, .f32⟩
  | .hbm, ⟨12, _⟩ => ⟨S2048, .f32⟩
  | .hbm, ⟨13, _⟩ => ⟨S2x2048x2048, .f32⟩
  | .hbm, ⟨14, _⟩ => ⟨S1x1x2048, .f32⟩
  | .hbm, ⟨15, _⟩ => ⟨S2x2048x2048, .f32⟩
  | .hbm, ⟨16, _⟩ => ⟨S2x2048x2048, .f32⟩
  | .hbm, ⟨17, _⟩ => ⟨S1x1x2048, .f32⟩
  | .hbm, ⟨18, _⟩ => ⟨S2x2048x2048, .f32⟩
  | .hbm, ⟨19, _⟩ => ⟨S2x2048x2048, .f32⟩
  | .hbm, ⟨20, _⟩ => ⟨S1x2048, .f32⟩
  | .hbm, ⟨21, _⟩ => ⟨S2048, .f32⟩
  | .hbm, ⟨22, _⟩ => ⟨S2x2048x2048, .f32⟩
  | .hbm, ⟨23, _⟩ => ⟨S1x1x2048, .f32⟩
  | .hbm, ⟨24, _⟩ => ⟨S2x2048x2048, .f32⟩
  | .hbm, ⟨25, _⟩ => ⟨S2x2048x2048, .f32⟩
  | .hbm, ⟨26, _⟩ => ⟨S2x2048x2048, .f32⟩
  | .hbm, ⟨27, _⟩ => ⟨S1x2048, .f32⟩
  | .hbm, ⟨28, _⟩ => ⟨S2048, .f32⟩
  | .hbm, ⟨29, _⟩ => ⟨S2x2048x2048, .f32⟩
  | .hbm, ⟨30, _⟩ => ⟨S1x1x2048, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S1x2048, .f32⟩
  | .hbm, ⟨35, _⟩ => ⟨S2048, .f32⟩
  | .hbm, ⟨36, _⟩ => ⟨S2x2048x2048, .f32⟩
  | .hbm, ⟨37, _⟩ => ⟨S1x1x2048, .f32⟩
  | .hbm, ⟨38, _⟩ => ⟨S2x2048x2048, .f32⟩
  | .hbm, ⟨39, _⟩ => ⟨S2x2048x2048, .f32⟩
  | .hbm, ⟨40, _⟩ => ⟨S2x2048x2048, .f32⟩
  | .hbm, ⟨41, _⟩ => ⟨S2x2048x2048, .f32⟩
  | .hbm, ⟨42, _⟩ => ⟨S2x2048x2048, .f32⟩
  | .hbm, ⟨43, _⟩ => ⟨S_, .f32⟩
  | .hbm, ⟨44, _⟩ => ⟨S2x2048x2048, .f32⟩
  | .hbm, ⟨45, _⟩ => ⟨S2x2048x2048, .f32⟩
  | .hbm, ⟨46, _⟩ => ⟨S_, .f32⟩
  | .hbm, ⟨47, _⟩ => ⟨S2x2048x2048, .f32⟩
  | .hbm, ⟨48, _⟩ => ⟨S2x2048x2048, .f32⟩
  | .hbm, ⟨49, _⟩ => ⟨S_, .f32⟩
  | .hbm, ⟨50, _⟩ => ⟨S2x2048x2048, .f32⟩
  | .hbm, ⟨51, _⟩ => ⟨S2x2048x2048, .f32⟩
  | .hbm, ⟨52, _⟩ => ⟨S2x2048x2048, .f32⟩
  | .hbm, ⟨53, _⟩ => ⟨S2x2048x2048, .f32⟩
  | .hbm, ⟨54, _⟩ => ⟨S4096x2048, .f32⟩
  | .hbm, ⟨55, _⟩ => ⟨S2x2048x2048, .f32⟩
  | .hbm, ⟨56, _⟩ => ⟨S2x2048x2048, .f32⟩
  | .hbm, ⟨57, _⟩ => ⟨S2x2048x2048, .f32⟩
  | .hbm, ⟨58, _⟩ => ⟨S2x2048x2048, .f32⟩
  | .hbm, ⟨59, _⟩ => ⟨S2x2048x2048, .f32⟩
  | .hbm, ⟨60, _⟩ => ⟨S2x2048x2048, .f32⟩
  | .hbm, ⟨61, _⟩ => ⟨S2x2048x2048, .f32⟩
  | .hbm, ⟨62, _⟩ => ⟨S2x2048x2048, .f32⟩
  | .hbm, ⟨63, _⟩ => ⟨S_, .f32⟩
  | .hbm, ⟨64, _⟩ => ⟨S2048, .f32⟩
  | .hbm, ⟨65, _⟩ => ⟨S1x1x2048, .f32⟩
  | .hbm, ⟨66, _⟩ => ⟨S_, .f32⟩
  | .hbm, ⟨67, _⟩ => ⟨S2048, .f32⟩
  | .hbm, ⟨68, _⟩ => ⟨S_, .f32⟩
  | .hbm, ⟨69, _⟩ => ⟨S2x2051x2048, .f32⟩
  | .hbm, ⟨70, _⟩ => ⟨S1x2048, .f32⟩
  | .hbm, ⟨71, _⟩ => ⟨S_, .f32⟩
  | .hbm, ⟨72, _⟩ => ⟨S4x2048, .f32⟩
  | .hbm, ⟨73, _⟩ => ⟨S2x2048x2048, .f32⟩
  | .hbm, ⟨74, _⟩ => ⟨S2x2048x2048, .f32⟩
  | .hbm, ⟨75, _⟩ => ⟨S2x2048x2048, .f32⟩
  | .hbm, ⟨76, _⟩ => ⟨S_, .f32⟩
  | .hbm, ⟨77, _⟩ => ⟨S2048, .f32⟩
  | .hbm, ⟨78, _⟩ => ⟨S1x1x2048, .f32⟩
  | .hbm, ⟨79, _⟩ => ⟨S_, .f32⟩
  | .hbm, ⟨80, _⟩ => ⟨S2048, .f32⟩
  | .hbm, ⟨81, _⟩ => ⟨S_, .f32⟩
  | .hbm, ⟨82, _⟩ => ⟨S2x2051x2048, .f32⟩
  | .hbm, ⟨83, _⟩ => ⟨S2x2051x2048, .f32⟩
  | .hbm, ⟨84, _⟩ => ⟨S1x2048, .f32⟩
  | .hbm, ⟨85, _⟩ => ⟨S_, .f32⟩
  | .hbm, ⟨86, _⟩ => ⟨S4x2048, .f32⟩
  | .hbm, ⟨87, _⟩ => ⟨S4x2048, .f32⟩
  | .hbm, ⟨88, _⟩ => ⟨S2x2048x2048, .f32⟩
  | .hbm, ⟨89, _⟩ => ⟨S2x2048x2048, .f32⟩
  | .hbm, ⟨90, _⟩ => ⟨S2x2048x2048, .f32⟩
  | .hbm, ⟨91, _⟩ => ⟨S_, .f32⟩
  | .hbm, ⟨92, _⟩ => ⟨S2048, .f32⟩
  | .hbm, ⟨93, _⟩ => ⟨S1x1x2048, .f32⟩
  | .hbm, ⟨94, _⟩ => ⟨S_, .f32⟩
  | .hbm, ⟨95, _⟩ => ⟨S2048, .f32⟩
  | .hbm, ⟨96, _⟩ => ⟨S_, .f32⟩
  | .hbm, ⟨97, _⟩ => ⟨S2x2051x2048, .f32⟩
  | .hbm, ⟨98, _⟩ => ⟨S2x2051x2048, .f32⟩
  | .hbm, ⟨99, _⟩ => ⟨S1x2048, .f32⟩
  | .hbm, ⟨100, _⟩ => ⟨S_, .f32⟩
  | .hbm, ⟨101, _⟩ => ⟨S4x2048, .f32⟩
  | .hbm, ⟨102, _⟩ => ⟨S4x2048, .f32⟩
  | .hbm, ⟨103, _⟩ => ⟨S_, .f32⟩
  | .hbm, ⟨104, _⟩ => ⟨S2048, .f32⟩
  | .hbm, ⟨105, _⟩ => ⟨S1x1x2048, .f32⟩
  | .hbm, ⟨106, _⟩ => ⟨S_, .f32⟩
  | .hbm, ⟨107, _⟩ => ⟨S2048, .f32⟩
  | .hbm, ⟨108, _⟩ => ⟨S1x2048, .f32⟩
  | .hbm, ⟨109, _⟩ => ⟨S2x2048x2048, .f32⟩
  | .hbm, ⟨110, _⟩ => ⟨S2x2048x2048, .f32⟩
  | .hbm, ⟨111, _⟩ => ⟨S2x2048x2048, .f32⟩
  | .hbm, ⟨112, _⟩ => ⟨S_, .f32⟩
  | .hbm, ⟨113, _⟩ => ⟨S2048, .f32⟩
  | .hbm, ⟨114, _⟩ => ⟨S1x1x2048, .f32⟩
  | .hbm, ⟨115, _⟩ => ⟨S_, .f32⟩
  | .hbm, ⟨116, _⟩ => ⟨S2048, .f32⟩
  | .hbm, ⟨117, _⟩ => ⟨S_, .f32⟩
  | .hbm, ⟨118, _⟩ => ⟨S2x2051x2048, .f32⟩
  | .hbm, ⟨119, _⟩ => ⟨S2x2051x2048, .f32⟩
  | .hbm, ⟨120, _⟩ => ⟨S1x2048, .f32⟩
  | .hbm, ⟨121, _⟩ => ⟨S_, .f32⟩
  | .hbm, ⟨122, _⟩ => ⟨S4x2048, .f32⟩
  | .hbm, ⟨123, _⟩ => ⟨S4x2048, .f32⟩
  | .hbm, ⟨124, _⟩ => ⟨S2x3x2048, .f32⟩
  | .hbm, ⟨125, _⟩ => ⟨S2x2048x2048, .f32⟩
  | .hbm, ⟨126, _⟩ => ⟨S4096x2048, .f32⟩
  | .hbm, ⟨127, _⟩ => ⟨S4096x2048, .bf16⟩
  | _, _ => ⟨S4096x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v35_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v35_1 : Ref sig .tc := ⟨.hbm, 52, rfl⟩
abbrev main_v35_0 : Ref sig .tc := ⟨.hbm, 53, rfl⟩
abbrev main_v36 : Ref sig .tc := ⟨.hbm, 54, rfl⟩
abbrev main_v37 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_1 : Ref sig .tc := ⟨.hbm, 63, rfl⟩
abbrev main_v42 : Ref sig .tc := ⟨.hbm, 64, rfl⟩
abbrev main_v43 : Ref sig .tc := ⟨.hbm, 65, rfl⟩
abbrev main_cst_2 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_v78 : Ref sig .tc := ⟨.hbm, 114, rfl⟩
abbrev main_cst_16 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_18 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩

abbrev nD : Nat := 1
abbrev τ : Topo := Topo.v7x

variable {F : FTy → Type} [FloatOps F]
-- ==== Kernel17.lean ====
abbrev S4096x9728 : Shape := ⟨2, ![4096, 9728]⟩
abbrev S4x2048 : Shape := ⟨2, ![4, 2048]⟩
abbrev S1x2048 : Shape := ⟨2, ![1, 2048]⟩
abbrev S4096x2048 : Shape := ⟨2, ![4096, 2048]⟩
abbrev S2048x128 : Shape := ⟨2, ![2048, 128]⟩
abbrev S4x128 : Shape := ⟨2, ![4, 128]⟩
abbrev S1x128 : Shape := ⟨2, ![1, 128]⟩
abbrev S2048x1 : Shape := ⟨2, ![2048, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x9728, .f32⟩
  | .hbm, ⟨1, _⟩ => ⟨S4x2048, .f32⟩
  | .hbm, ⟨2, _⟩ => ⟨S1x2048, .f32⟩
  | .hbm, ⟨3, _⟩ => ⟨S4096x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S4096x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi arg1 c14_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference17Ideal.lean ====
abbrev S4096x9728 : Shape := ⟨2, ![4096, 9728]⟩
abbrev S4x2048 : Shape := ⟨2, ![4, 2048]⟩
abbrev S1x2048 : Shape := ⟨2, ![1, 2048]⟩
abbrev S4096x2048 : Shape := ⟨2, ![4096, 2048]⟩
abbrev S_ : Shape := ⟨0, ![]⟩
abbrev S2x3x2048 : Shape := ⟨3, ![2, 3, 2048]⟩
abbrev S2x2048x2048 : Shape := ⟨3, ![2, 2048, 2048]⟩
abbrev S2x2051x2048 : Shape := ⟨3, ![2, 2051, 2048]⟩
abbrev S2048 : Shape := ⟨1, ![2048]⟩
abbrev S1x1x2048 : Shape := ⟨3, ![1, 1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x9728, .f32⟩
  | .hbm, ⟨1, _⟩ => ⟨S4x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S2x3x2048, .f32⟩
  | .hbm, ⟨6, _⟩ => ⟨S2x2048x2048, .f32⟩
  | .hbm, ⟨7, _⟩ => ⟨S2x2051x2048, .f32⟩
  | .hbm, ⟨8, _⟩ => ⟨S1x2048, .f32⟩
  | .hbm, ⟨9, _⟩ => ⟨S2048, .f32⟩
  | .hbm, ⟨10, _⟩ => ⟨S2x2048x2048, .f32⟩
  | .hbm, ⟨11, _⟩ => ⟨S1x1x2048, .f32⟩
  | .hbm, ⟨12, _⟩ => ⟨S2x2048x2048, .f32⟩
  | .hbm, ⟨13, _⟩ => ⟨S2x2048x2048, .f32⟩
  | .hbm, ⟨14, _⟩ => ⟨S1x1x2048, .f32⟩
  | .hbm, ⟨15, _⟩ => ⟨S2x2048x2048, .f32⟩
  | .hbm, ⟨16, _⟩ => ⟨S2x2048x2048, .f32⟩
  | .hbm, ⟨17, _⟩ => ⟨S1x2048, .f32⟩
  | .hbm, ⟨18, _⟩ => ⟨S2048, .f32⟩
  | .hbm, ⟨19, _⟩ => ⟨S2x2048x2048, .f32⟩
  | .hbm, ⟨20, _⟩ => ⟨S1x1x2048, .f32⟩
  | .hbm, ⟨21, _⟩ => ⟨S2x2048x2048, .f32⟩
  | .hbm, ⟨22, _⟩ => ⟨S2x2048x2048, .f32⟩
  | .hbm, ⟨23, _⟩ => ⟨S2x2048x2048, .f32⟩
  | .hbm, ⟨24, _⟩ => ⟨S1x2048, .f32⟩
  | .hbm, ⟨25, _⟩ => ⟨S2048, .f32⟩
  | .hbm, ⟨26, _⟩ => ⟨S2x2048x2048, .f32⟩
  | .hbm, ⟨27, _⟩ => ⟨S1x1x2048, .f32⟩
  | .hbm, ⟨28, _⟩ => ⟨S2x2048x2048, .f32⟩
  | .hbm, ⟨29, _⟩ => ⟨S2x2048x2048, .f32⟩
  | .hbm, ⟨30, _⟩ => ⟨S2x2048x2048, .f32⟩
  | .hbm, ⟨31, _⟩ => ⟨S1x2048, .f32⟩
  | .hbm, ⟨32, _⟩ => ⟨S2048, .f32⟩
  | .hbm, ⟨33, _⟩ => ⟨S2x2048x2048, .f32⟩
  | .hbm, ⟨34, _⟩ => ⟨S1x1x2048, .f32⟩
  | .hbm, ⟨35, _⟩ => ⟨S2x2048x2048, .f32⟩
  | .hbm, ⟨36, _⟩ => ⟨S2x2048x2048, .f32⟩
  | .hbm, ⟨37, _⟩ => ⟨S2x2048x2048, .f32⟩
  | .hbm, ⟨38, _⟩ => ⟨S2x2048x2048, .f32⟩
  | .hbm, ⟨39, _⟩ => ⟨S2x2048x2048, .f32⟩
  | .hbm, ⟨40, _⟩ => ⟨S_, .f32⟩
  | .hbm, ⟨41, _⟩ => ⟨S2x2048x2048, .f32⟩
  | .hbm, ⟨42, _⟩ => ⟨S2x2048x2048, .f32⟩
  | .hbm, ⟨43, _⟩ => ⟨S_, .f32⟩
  | .hbm, ⟨44, _⟩ => ⟨S2x2048x2048, .f32⟩
  | .hbm, ⟨45, _⟩ => ⟨S2x2048x2048, .f32⟩
  | .hbm, ⟨46, _⟩ => ⟨S2x2048x2048, .f32⟩
  | .hbm, ⟨47, _⟩ => ⟨S4096x2048, .f32⟩
  | _, _ => ⟨S4096x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel18.lean ====
abbrev S4096x768 : Shape := ⟨2, ![4096, 768]⟩
abbrev S2048x128 : Shape := ⟨2, ![2048, 128]⟩
abbrev S2048x1 : Shape := ⟨2, ![2048, 1]⟩
abbrev S1x128 : Shape := ⟨2, ![1, 128]⟩

abbrev nBuf : Space → Nat
  | .hbm => 2
  | .vmem => 4
  | .smem => 0
  | _ => 0

abbrev bufTy : (tb : Table) → Fin (tcTables nBuf tb) → BufTy
  | .hbm, ⟨0, _⟩ => ⟨S4096x768, .f32⟩
  | .hbm, ⟨1, _⟩ => ⟨S4096x768, .bf16⟩
  | .local _ .vmem, ⟨0, _⟩ => ⟨S2048x128, .f32⟩
  | .local _ .vmem, ⟨1, _⟩ => ⟨S2048x128, .f32⟩
  | .local _ .vmem, ⟨2, _⟩ => ⟨S2048x128, .bf16⟩
  | .local _ .vmem, ⟨3, _⟩ => ⟨S2048x128, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference18Ideal.lean ====
abbrev S4096x768 : Shape := ⟨2, ![4096, 768]⟩
abbrev S_ : Shape := ⟨0, ![]⟩
abbrev S2x2048x4x192 : Shape := ⟨4, ![2, 2048, 4, 192]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x2048x1x192 : Shape := ⟨4, ![2, 2048, 1, 192]⟩
abbrev S2x2048x192 : Shape := ⟨3, ![2, 2048, 192]⟩
abbrev S2x192x2048 : Shape := ⟨3, ![2, 192, 2048]⟩
abbrev S1x2048x1 : Shape := ⟨3, ![1, 2048, 1]⟩
abbrev S2x2048x768 : Shape := ⟨3, ![2, 2048, 768]⟩

abbrev nBuf : Space → Nat
  | .hbm => 200
  | .vmem => 0
  | .smem => 0
  | _ => 0

abbrev hbmTy0_0 (i : Nat) : BufTy := match i % 128 with
  | 0 => ⟨S4096x768, .f32⟩
  | 1 => ⟨S_, .f32⟩
  | 2 => ⟨S4096x768, .f32⟩
  | 3 => ⟨S2x2048x4x192, .f32⟩
  | 4 => ⟨S2048, .i32⟩
  | 5 => ⟨S2048x1, .i32⟩
  | 6 => ⟨S2048, .i32⟩
  | 7 => ⟨S1x2048, .i32⟩
  | 8 => ⟨S2048x2048, .i32⟩
  | 9 => ⟨S2048x2048, .i32⟩
  | 10 => ⟨S2048x2048, .i1⟩
  | 11 => ⟨S_, .i32⟩
  | 12 => ⟨S1x2048, .i32⟩
  | 13 => ⟨S1x2048, .i32⟩
  | 14 => ⟨S2048x2048, .i32⟩
  | 15 => ⟨S2048x2048, .i32⟩
  | 16 => ⟨S2048x2048, .i1⟩
  | 17 => ⟨S2048x2048, .i1⟩
  | 18 => ⟨S_, .f32⟩
  | 19 => ⟨S_, .f32⟩
  | 20 => ⟨S2048x2048, .f32⟩
  | 21 => ⟨S2048x2048, .f32⟩
  | 22 => ⟨S2048x2048, .f32⟩
  | 23 => ⟨S_, .i32⟩
  | 24 => ⟨S2048x1, .i32⟩
  | 25 => ⟨S2048x1, .i32⟩
  | 26 => ⟨S_, .i32⟩
  | 27 => ⟨S2048x1, .i32⟩
  | 28 => ⟨S2048x1, .i32⟩
  | 29 => ⟨S2048x1, .f32⟩
  | 30 => ⟨S2x2048x1x192, .f32⟩
  | 31 => ⟨S2x2048x192, .f32⟩
  | 32 => ⟨S2x192x2048, .f32⟩
  | 33 => ⟨S2x2048x192, .f32⟩
  | 34 => ⟨S1x2048x1, .f32⟩
  | 35 => ⟨S2x2048x192, .f32⟩
  | 36 => ⟨S2x2048x192, .f32⟩
  | 37 => ⟨S2x2048x1x192, .f32⟩
  | 38 => ⟨S2x2048x192, .f32⟩
  | 39 => ⟨S2x2048x192, .f32⟩
  | 40 => ⟨S2048x2048, .i32⟩
  | 41 => ⟨S2048x2048, .i32⟩
  | 42 => ⟨S2048x2048, .i1⟩
  | 43 => ⟨S_, .i32⟩
  | 44 => ⟨S1x2048, .i32⟩
  | 45 => ⟨S1x2048, .i32⟩
  | 46 => ⟨S2048x2048, .i32⟩
  | 47 => ⟨S2048x2048, .i32⟩
  | 48 => ⟨S2048x2048, .i1⟩
  | 49 => ⟨S2048x2048, .i1⟩
  | 50 => ⟨S_, .f32⟩
  | 51 => ⟨S_, .f32⟩
  | 52 => ⟨S2048x2048, .f32⟩
  | 53 => ⟨S2048x2048, .f32⟩
  | 54 => ⟨S2048x2048, .f32⟩
  | 55 => ⟨S_, .i32⟩
  | 56 => ⟨S2048x1, .i32⟩
  | 57 => ⟨S2048x1, .i32⟩
  | 58 => ⟨S_, .i32⟩
  | 59 => ⟨S2048x1, .i32⟩
  | 60 => ⟨S2048x1, .i32⟩
  | 61 => ⟨S2048x1, .f32⟩
  | 62 => ⟨S2x2048x1x192, .f32⟩
  | 63 => ⟨S2x2048x192, .f32⟩
  | 64 => ⟨S2x192x2048, .f32⟩
  | 65 => ⟨S2x2048x192, .f32⟩
  | 66 => ⟨S1x2048x1, .f32⟩
  | 67 => ⟨S2x2048x192, .f32⟩
  | 68 => ⟨S2x2048x192, .f32⟩
  | 69 => ⟨S2x2048x1x192, .f32⟩
  | 70 => ⟨S2x2048x192, .f32⟩
  | 71 => ⟨S2x2048x192, .f32⟩
  | 72 => ⟨S2048x2048, .i32⟩
  | 73 => ⟨S2048x2048, .i32⟩
  | 74 => ⟨S2048x2048, .i1⟩
  | 75 => ⟨S_, .i32⟩
  | 76 => ⟨S1x2048, .i32⟩
  | 77 => ⟨S1x2048, .i32⟩
  | 78 => ⟨S2048x2048, .i32⟩
  | 79 => ⟨S2048x2048, .i32⟩
  | 80 => ⟨S2048x2048, .i1⟩
  | 81 => ⟨S2048x2048, .i1⟩
  | 82 => ⟨S_, .f32⟩
  | 83 => ⟨S_, .f32⟩
  | 84 => ⟨S2048x2048, .f32⟩
  | 85 => ⟨S2048x2048, .f32⟩
  | 86 => ⟨S2048x2048, .f32⟩
  | 87 => ⟨S_, .i32⟩
  | 88 => ⟨S2048x1, .i32⟩
  | 89 => ⟨S2048x1, .i32⟩
  | 90 => ⟨S_, .i32⟩
  | 91 => ⟨S2048x1, .i32⟩
  | 92 => ⟨S2048x1, .i32⟩
  | 93 => ⟨S2048x1, .f32⟩
  | 94 => ⟨S2x2048x1x192, .f32⟩
  | 95 => ⟨S2x2048x192, .f32⟩
  | 96 => ⟨S2x192x2048, .f32⟩
  | 97 => ⟨S2x2048x192, .f32⟩
  | 98 => ⟨S1x2048x1, .f32⟩
  | 99 => ⟨S2x2048x192, .f32⟩
  | 100 => ⟨S2x2048x192, .f32⟩
  | 101 => ⟨S2x2048x1x192, .f32⟩
  | 102 => ⟨S2x2048x192, .f32⟩
  | 103 => ⟨S2x2048x192, .f32⟩
  | 104 => ⟨S2048x2048, .i32⟩
  | 105 => ⟨S2048x2048, .i32⟩
  | 106 => ⟨S2048x2048, .i1⟩
  | 107 => ⟨S_, .i32⟩
  | 108 => ⟨S1x2048, .i32⟩
  | 109 => ⟨S1x2048, .i32⟩
  | 110 => ⟨S2048x2048, .i32⟩
  | 111 => ⟨S2048x2048, .i32⟩
  | 112 => ⟨S2048x2048, .i1⟩
  | 113 => ⟨S2048x2048, .i1⟩
  | 114 => ⟨S_, .f32⟩
  | 115 => ⟨S_, .f32⟩
  | 116 => ⟨S2048x2048, .f32⟩
  | 117 => ⟨S2048x2048, .f32⟩
  | 118 => ⟨S2048x2048, .f32⟩
  | 119 => ⟨S_, .i32⟩
  | 120 => ⟨S2048x1, .i32⟩
  | 121 => ⟨S2048x1, .i32⟩
  | 122 => ⟨S_, .i32⟩
  | 123 => ⟨S2048x1, .i32⟩
  | 124 => ⟨S2048x1, .i32⟩
  | 125 => ⟨S2048x1, .f32⟩
  | 126 => ⟨S2x2048x1x192, .f32⟩
  | 127 => ⟨S2x2048x192, .f32⟩
  | _ => ⟨S4096x768, .f32⟩

abbrev hbmTy0_1 (i : Nat) : BufTy := match i % 128 with
  | 0 => ⟨S2x192x2048, .f32⟩
  | 1 => ⟨S2x2048x192, .f32⟩
  | 2 => ⟨S1x2048x1, .f32⟩
  | 3 => ⟨S2x2048x192, .f32⟩
  | 4 => ⟨S2x2048x192, .f32⟩
  | 5 => ⟨S2x2048x1x192, .f32⟩
  | 6 => ⟨S2x2048x192, .f32⟩
  | 7 => ⟨S2x2048x192, .f32⟩
  | 8 => ⟨S2x2048x768, .f32⟩
  | 9 => ⟨S4096x768, .f32⟩
  | 10 => ⟨S2x2048x768, .f32⟩
  | 11 => ⟨S2x2048x192, .f32⟩
  | 12 => ⟨S2x2048x192, .f32⟩
  | 13 => ⟨S2x2048x192, .f32⟩
  | 14 => ⟨S2x2048x192, .f32⟩
  | 15 => ⟨S2x2048x192, .f32⟩
  | 16 => ⟨S2x2048x1x192, .f32⟩
  | 17 => ⟨S_, .f32⟩
  | 18 => ⟨S2x2048x4x192, .f32⟩
  | 19 => ⟨S2x2048x192, .f32⟩
  | 20 => ⟨S2x2048x192, .f32⟩
  | 21 => ⟨S2x192x2048, .f32⟩
  | 22 => ⟨S2x192x2048, .f32⟩
  | 23 => ⟨S2x2048x192, .f32⟩
  | 24 => ⟨S2x2048x1x192, .f32⟩
  | 25 => ⟨S_, .f32⟩
  | 26 => ⟨S2x2048x4x192, .f32⟩
  | 27 => ⟨S2x2048x4x192, .f32⟩
  | 28 => ⟨S2x2048x192, .f32⟩
  | 29 => ⟨S2x2048x1x192, .f32⟩
  | 30 => ⟨S_, .f32⟩
  | 31 => ⟨S2x2048x4x192, .f32⟩
  | 32 => ⟨S2x2048x4x192, .f32⟩
  | 33 => ⟨S2x2048x192, .f32⟩
  | 34 => ⟨S2x2048x192, .f32⟩
  | 35 => ⟨S2x192x2048, .f32⟩
  | 36 => ⟨S2x192x2048, .f32⟩
  | 37 => ⟨S2x2048x192, .f32⟩
  | 38 => ⟨S2x2048x1x192, .f32⟩
  | 39 => ⟨S_, .f32⟩
  | 40 => ⟨S2x2048x4x192, .f32⟩
  | 41 => ⟨S2x2048x4x192, .f32⟩
  | 42 => ⟨S2x2048x192, .f32⟩
  | 43 => ⟨S2x2048x1x192, .f32⟩
  | 44 => ⟨S_, .f32⟩
  | 45 => ⟨S2x2048x4x192, .f32⟩
  | 46 => ⟨S2x2048x4x192, .f32⟩
  | 47 => ⟨S2x2048x192, .f32⟩
  | 48 => ⟨S2x2048x192, .f32⟩
  | 49 => ⟨S2x192x2048, .f32⟩
  | 50 => ⟨S2x192x2048, .f32⟩
  | 51 => ⟨S2x2048x192, .f32⟩
  | 52 => ⟨S2x2048x1x192, .f32⟩
  | 53 => ⟨S_, .f32⟩
  | 54 => ⟨S2x2048x4x192, .f32⟩
  | 55 => ⟨S2x2048x4x192, .f32⟩
  | 56 => ⟨S2x2048x192, .f32⟩
  | 57 => ⟨S2x2048x1x192, .f32⟩
  | 58 => ⟨S_, .f32⟩
  | 59 => ⟨S2x2048x4x192, .f32⟩
  | 60 => ⟨S2x2048x4x192, .f32⟩
  | 61 => ⟨S2x2048x192, .f32⟩
  | 62 => ⟨S2x2048x192, .f32⟩
  | 63 => ⟨S2x192x2048, .f32⟩
  | 64 => ⟨S2x192x2048, .f32⟩
  | 65 => ⟨S2x2048x192, .f32⟩
  | 66 => ⟨S2x2048x1x192, .f32⟩
  | 67 => ⟨S_, .f32⟩
  | 68 => ⟨S2x2048x4x192, .f32⟩
  | 69 => ⟨S2x2048x4x192, .f32⟩
  | 70 => ⟨S4096x768, .f32⟩
  | 71 => ⟨S4096x768, .bf16⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_c_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_cst_11 : Ref sig .tc := ⟨.hbm, 83, rfl⟩
abbrev main_call2_v0 : Ref sig .tc := ⟨.hbm, 84, rfl⟩
abbrev main_call2_v1 : Ref sig .tc := ⟨.hbm, 85, rfl⟩
abbrev main_v65 : Ref sig .tc := ⟨.hbm, 86, rfl⟩
abbrev main_c_12 : Ref sig .tc := ⟨.hbm, 87, rfl⟩
abbrev main_v66 : Ref sig .tc := ⟨.hbm, 88, rfl⟩
abbrev main_v67 : Ref sig .tc := ⟨.hbm, 89, rfl⟩
abbrev main_c_13 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_14 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_15 : Ref sig .tc := ⟨.hbm, 114, rfl⟩
abbrev main_cst_16 : Ref sig .tc := ⟨.hbm, 115, rfl⟩
abbrev main_call3_v0 : Ref sig .tc := ⟨.hbm, 116, rfl⟩
abbrev main_call3_v1 : Ref sig .tc := ⟨.hbm, 117, rfl⟩
abbrev main_v90 : Ref sig .tc := ⟨.hbm, 118, rfl⟩
abbrev main_c_17 : Ref sig .tc := ⟨.hbm, 119, rfl⟩
abbrev main_v91 : Ref sig .tc := ⟨.hbm, 120, rfl⟩
abbrev main_v92 : Ref sig .tc := ⟨.hbm, 121, rfl⟩
abbrev main_c_18 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_19 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_20 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_21 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_22 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_cst_23 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_24 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_cst_25 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_cst_26 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩

abbrev nD : Nat := 1
abbrev τ : Topo := Topo.v7x

variable {F : FTy → Type} [FloatOps F]
-- ==== Kernel19.lean ====
abbrev S4096x9728 : Shape := ⟨2, ![4096, 9728]⟩
abbrev S4096x768 : Shape := ⟨2, ![4096, 768]⟩
abbrev S2048x128 : Shape := ⟨2, ![2048, 128]⟩
abbrev S2048x1 : Shape := ⟨2, ![2048, 1]⟩
abbrev S1x128 : Shape := ⟨2, ![1, 128]⟩

abbrev nBuf : Space → Nat
  | .hbm => 2
  | .vmem => 4
  | .smem => 0
  | _ => 0

abbrev bufTy : (tb : Table) → Fin (tcTables nBuf tb) → BufTy
  | .hbm, ⟨0, _⟩ => ⟨S4096x9728, .f32⟩
  | .hbm, ⟨1, _⟩ => ⟨S4096x768, .bf16⟩
  | .local _ .vmem, ⟨0, _⟩ => ⟨S2048x128, .f32⟩
  | .local _ .vmem, ⟨1, _⟩ => ⟨S2048x128, .f32⟩
  | .local _ .vmem, ⟨2, _⟩ => ⟨S2048x128, .bf16⟩
  | .local _ .vmem, ⟨3, _⟩ => ⟨S2048x128, .bf16⟩
  | _, _ => ⟨S4096x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference19Ideal.lean ====
abbrev S4096x9728 : Shape := ⟨2, ![4096, 9728]⟩
abbrev S4096x768 : Shape := ⟨2, ![4096, 768]⟩
abbrev S2x2048x4x192 : Shape := ⟨4, ![2, 2048, 4, 192]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2x2048x1x192 : Shape := ⟨4, ![2, 2048, 1, 192]⟩
abbrev S2x2048x192 : Shape := ⟨3, ![2, 2048, 192]⟩
abbrev S2x192x2048 : Shape := ⟨3, ![2, 192, 2048]⟩
abbrev S1x2048x1 : Shape := ⟨3, ![1, 2048, 1]⟩
abbrev S2x2048x768 : Shape := ⟨3, ![2, 2048, 768]⟩

abbrev nBuf : Space → Nat
  | .hbm => 138
  | .vmem => 0
  | .smem => 0
  | _ => 0

abbrev hbmTy0_0 (i : Nat) : BufTy := match i % 128 with
  | 0 => ⟨S4096x9728, .f32⟩
  | 1 => ⟨S4096x768, .f32⟩
  | 2 => ⟨S2x2048x4x192, .f32⟩
  | 3 => ⟨S2048, .i32⟩
  | 4 => ⟨S2048x1, .i32⟩
  | 5 => ⟨S2048, .i32⟩
  | 6 => ⟨S1x2048, .i32⟩
  | 7 => ⟨S2048x2048, .i32⟩
  | 8 => ⟨S2048x2048, .i32⟩
  | 9 => ⟨S2048x2048, .i1⟩
  | 10 => ⟨S_, .i32⟩
  | 11 => ⟨S1x2048, .i32⟩
  | 12 => ⟨S1x2048, .i32⟩
  | 13 => ⟨S2048x2048, .i32⟩
  | 14 => ⟨S2048x2048, .i32⟩
  | 15 => ⟨S2048x2048, .i1⟩
  | 16 => ⟨S2048x2048, .i1⟩
  | 17 => ⟨S_, .f32⟩
  | 18 => ⟨S_, .f32⟩
  | 19 => ⟨S2048x2048, .f32⟩
  | 20 => ⟨S2048x2048, .f32⟩
  | 21 => ⟨S2048x2048, .f32⟩
  | 22 => ⟨S_, .i32⟩
  | 23 => ⟨S2048x1, .i32⟩
  | 24 => ⟨S2048x1, .i32⟩
  | 25 => ⟨S_, .i32⟩
  | 26 => ⟨S2048x1, .i32⟩
  | 27 => ⟨S2048x1, .i32⟩
  | 28 => ⟨S2048x1, .f32⟩
  | 29 => ⟨S2x2048x1x192, .f32⟩
  | 30 => ⟨S2x2048x192, .f32⟩
  | 31 => ⟨S2x192x2048, .f32⟩
  | 32 => ⟨S2x2048x192, .f32⟩
  | 33 => ⟨S1x2048x1, .f32⟩
  | 34 => ⟨S2x2048x192, .f32⟩
  | 35 => ⟨S2x2048x192, .f32⟩
  | 36 => ⟨S2x2048x1x192, .f32⟩
  | 37 => ⟨S2x2048x192, .f32⟩
  | 38 => ⟨S2x2048x192, .f32⟩
  | 39 => ⟨S2048x2048, .i32⟩
  | 40 => ⟨S2048x2048, .i32⟩
  | 41 => ⟨S2048x2048, .i1⟩
  | 42 => ⟨S_, .i32⟩
  | 43 => ⟨S1x2048, .i32⟩
  | 44 => ⟨S1x2048, .i32⟩
  | 45 => ⟨S2048x2048, .i32⟩
  | 46 => ⟨S2048x2048, .i32⟩
  | 47 => ⟨S2048x2048, .i1⟩
  | 48 => ⟨S2048x2048, .i1⟩
  | 49 => ⟨S_, .f32⟩
  | 50 => ⟨S_, .f32⟩
  | 51 => ⟨S2048x2048, .f32⟩
  | 52 => ⟨S2048x2048, .f32⟩
  | 53 => ⟨S2048x2048, .f32⟩
  | 54 => ⟨S_, .i32⟩
  | 55 => ⟨S2048x1, .i32⟩
  | 56 => ⟨S2048x1, .i32⟩
  | 57 => ⟨S_, .i32⟩
  | 58 => ⟨S2048x1, .i32⟩
  | 59 => ⟨S2048x1, .i32⟩
  | 60 => ⟨S2048x1, .f32⟩
  | 61 => ⟨S2x2048x1x192, .f32⟩
  | 62 => ⟨S2x2048x192, .f32⟩
  | 63 => ⟨S2x192x2048, .f32⟩
  | 64 => ⟨S2x2048x192, .f32⟩
  | 65 => ⟨S1x2048x1, .f32⟩
  | 66 => ⟨S2x2048x192, .f32⟩
  | 67 => ⟨S2x2048x192, .f32⟩
  | 68 => ⟨S2x2048x1x192, .f32⟩
  | 69 => ⟨S2x2048x192, .f32⟩
  | 70 => ⟨S2x2048x192, .f32⟩
  | 71 => ⟨S2048x2048, .i32⟩
  | 72 => ⟨S2048x2048, .i32⟩
  | 73 => ⟨S2048x2048, .i1⟩
  | 74 => ⟨S_, .i32⟩
  | 75 => ⟨S1x2048, .i32⟩
  | 76 => ⟨S1x2048, .i32⟩
  | 77 => ⟨S2048x2048, .i32⟩
  | 78 => ⟨S2048x2048, .i32⟩
  | 79 => ⟨S2048x2048, .i1⟩
  | 80 => ⟨S2048x2048, .i1⟩
  | 81 => ⟨S_, .f32⟩
  | 82 => ⟨S_, .f32⟩
  | 83 => ⟨S2048x2048, .f32⟩
  | 84 => ⟨S2048x2048, .f32⟩
  | 85 => ⟨S2048x2048, .f32⟩
  | 86 => ⟨S_, .i32⟩
  | 87 => ⟨S2048x1, .i32⟩
  | 88 => ⟨S2048x1, .i32⟩
  | 89 => ⟨S_, .i32⟩
  | 90 => ⟨S2048x1, .i32⟩
  | 91 => ⟨S2048x1, .i32⟩
  | 92 => ⟨S2048x1, .f32⟩
  | 93 => ⟨S2x2048x1x192, .f32⟩
  | 94 => ⟨S2x2048x192, .f32⟩
  | 95 => ⟨S2x192x2048, .f32⟩
  | 96 => ⟨S2x2048x192, .f32⟩
  | 97 => ⟨S1x2048x1, .f32⟩
  | 98 => ⟨S2x2048x192, .f32⟩
  | 99 => ⟨S2x2048x192, .f32⟩
  | 100 => ⟨S2x2048x1x192, .f32⟩
  | 101 => ⟨S2x2048x192, .f32⟩
  | 102 => ⟨S2x2048x192, .f32⟩
  | 103 => ⟨S2048x2048, .i32⟩
  | 104 => ⟨S2048x2048, .i32⟩
  | 105 => ⟨S2048x2048, .i1⟩
  | 106 => ⟨S_, .i32⟩
  | 107 => ⟨S1x2048, .i32⟩
  | 108 => ⟨S1x2048, .i32⟩
  | 109 => ⟨S2048x2048, .i32⟩
  | 110 => ⟨S2048x2048, .i32⟩
  | 111 => ⟨S2048x2048, .i1⟩
  | 112 => ⟨S2048x2048, .i1⟩
  | 113 => ⟨S_, .f32⟩
  | 114 => ⟨S_, .f32⟩
  | 115 => ⟨S2048x2048, .f32⟩
  | 116 => ⟨S2048x2048, .f32⟩
  | 117 => ⟨S2048x2048, .f32⟩
  | 118 => ⟨S_, .i32⟩
  | 119 => ⟨S2048x1, .i32⟩
  | 120 => ⟨S2048x1, .i32⟩
  | 121 => ⟨S_, .i32⟩
  | 122 => ⟨S2048x1, .i32⟩
  | 123 => ⟨S2048x1, .i32⟩
  | 124 => ⟨S2048x1, .f32⟩
  | 125 => ⟨S2x2048x1x192, .f32⟩
  | 126 => ⟨S2x2048x192, .f32⟩
  | 127 => ⟨S2x192x2048, .f32⟩
  | _ => ⟨S4096x9728, .f32⟩

abbrev hbmTy0_1 (i : Nat) : BufTy := match i % 128 with
  | 0 => ⟨S2x2048x192, .f32⟩
  | 1 => ⟨S1x2048x1, .f32⟩
  | 2 => ⟨S2x2048x192, .f32⟩
  | 3 => ⟨S2x2048x192, .f32⟩
  | 4 => ⟨S2x2048x1x192, .f32⟩
  | 5 => ⟨S2x2048x192, .f32⟩
  | 6 => ⟨S2x2048x192, .f32⟩
  | 7 => ⟨S2x2048x768, .f32⟩
  | 8 => ⟨S4096x768, .f32⟩
  | 9 => ⟨S4096x768, .bf16⟩
  | _ => ⟨S4096x9728, .f32⟩

abbrev hbmTy (i : Nat) : BufTy := match i / 128 with
  | 0 => hbmTy0_0 i
  | 1 => hbmTy0_1 i
  | _ => ⟨S4096x9728, .f32⟩

abbrev bufTy : (tb : Table) → Fin (tcTables nBuf tb) → BufTy
  | .hbm, ⟨i, _⟩ => hbmTy i
  | _, _ => ⟨S4096x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_v40 : Ref sig .tc := ⟨.hbm, 53, rfl⟩
abbrev main_c_6 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_cst_10 : Ref sig .tc := ⟨.hbm, 82, rfl⟩
abbrev main_call2_v0 : Ref sig .tc := ⟨.hbm, 83, rfl⟩
abbrev main_call2_v1 : Ref sig .tc := ⟨.hbm, 84, rfl⟩
abbrev main_v65 : Ref sig .tc := ⟨.hbm, 85, rfl⟩
abbrev main_c_11 : Ref sig .tc := ⟨.hbm, 86, rfl⟩
abbrev main_v66 : Ref sig .tc := ⟨.hbm, 87, rfl⟩
abbrev main_v67 : Ref sig .tc := ⟨.hbm, 88, rfl⟩
abbrev main_c_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_c_13 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_14 : Ref sig .tc := ⟨.hbm, 113, rfl⟩
abbrev main_cst_15 : Ref sig .tc := ⟨.hbm, 114, rfl⟩
abbrev main_call3_v0 : Ref sig .tc := ⟨.hbm, 115, rfl⟩
abbrev main_call3_v1 : Ref sig .tc := ⟨.hbm, 116, rfl⟩
abbrev main_v90 : Ref sig .tc := ⟨.hbm, 117, rfl⟩
abbrev main_c_16 : Ref sig .tc := ⟨.hbm, 118, rfl⟩
abbrev main_v91 : Ref sig .tc := ⟨.hbm, 119, rfl⟩
abbrev main_v92 : Ref sig .tc := ⟨.hbm, 120, rfl⟩
abbrev main_c_17 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩

abbrev nD : Nat := 1
abbrev τ : Topo := Topo.v7x

variable {F : FTy → Type} [FloatOps F]
-- ==== Proof.Block.lean ====
/-
  WHAT ONE BLOCK OF THE KERNEL COMPUTES. The kernel takes one head of one batch entry in four blocks of 512 queries: the first
  against its own 512 keys, the others against 640 keys, the 128 before the block and its own. The definitions below name
  the steps of such a block over any float model, and what a grid point does with the blocks: `dqOf`, `dkOf`, `dvOf`, `dbOf`.
-/
module

public import proofs.«01_k».proof.Proof.Gen.KernelIdeal.Value

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F]

/-- A head's lanes in every row of a block. -/
def lanes (mine : IVec S1x128 1) : IVec S512x128 1 :=
  broadcastTo S512x128 (shapeCast S1x128 mine shapeCasts_S1x128_S1x128) broadcasts_S1x128_S512x128
/-- A block with the other head's lanes set to zero. -/
def only (mine : IVec S1x128 1) (x : Vec F S512x128 .f32) : Vec F S512x128 .f32 :=
  select (lanes mine) x (broadcast S512x128 (Scalar.ofBits .f32 0x00000000#32))
/-- The lanes of head `e` of the pair, `b` the word of `e = 0`. -/
def mineOf (b : BitVec 1) : IVec S1x128 1 :=
  xori (xori k0_pay5 (broadcastTo S1x128 (broadcast S1x128 b) broadcasts_S1x128_S1x128)) (constantI S1x128 1 1#1)

/-! ### A block of 512 queries against 512 keys -/

section B512
variable (mask : IVec S512x512 1) (mine : IVec S1x128 1) (bias : FVec F S512x512 .f32)
  (q : Vec F S512x128 .f32) (k v : Vec F S512x128 .f32) (o : Vec F S512x128 .f32) (dl : Vec F S1x512x1 .f32)

/-- The masked logits. -/
def logits512 : FVec F S512x512 .f32 :=
  select mask (addf (mulf (matmul dot_S512x128_S512x128_S512x512_1_1_0_0_n_n none (truncf .bf16 (only mine q) bitsLt_bf16_f32)
    (truncf .bf16 k bitsLt_bf16_f32) (constant S512x512 .f32 0x00000000#32)) (broadcast S512x512 (Scalar.ofBits .f32 0x3E000000#32))) bias)
    (broadcast S512x512 (Scalar.ofBits .f32 0xFF800000#32))
/-- The softmax numerators. -/
def num512 : FVec F S512x512 .f32 :=
  exp (subf (logits512 mask mine bias q k) (broadcastTo S512x512 (shapeCast S512x1
    (multiReduction .maximumf [1] S512 (logits512 mask mine bias q k) 0xFF800000#32 reduces_S512x512_S512 (.inl rfl) rfl)
    shapeCasts_S512_S512x1) broadcasts_S512x1_S512x512))
/-- The softmax denominators. -/
def den512 : FVec F S512x1 .f32 :=
  shapeCast S512x1 (multiReduction .add [1] S512 (num512 mask mine bias q k) 0x00000000#32 reduces_S512x512_S512 (.inl rfl) rfl)
    shapeCasts_S512_S512x1
/-- The scores that the output's gradient gives the keys. -/
def score512 : FVec F S512x512 .f32 :=
  extf .f32 (truncf .bf16 (matmul dot_S512x128_S512x128_S512x512_1_1_0_0_n_n none (only mine o) (truncf .bf16 v bitsLt_bf16_f32)
    (constant S512x512 .f32 0x00000000#32)) bitsLt_bf16_f32) bitsLt_bf16_f32
/-- The gradient of the denominators. -/
def dden512 : FVec F S512x1 .f32 :=
  addf (divf (shapeCast S512x1 dl shapeCasts_S1x512x1_S512x1) (den512 mask mine bias q k))
    (subf (broadcast S512x1 (Scalar.ofBits .f32 0x00000000#32)) (shapeCast S512x1 (multiReduction .add [1] S512
      (mulf (mulf (score512 mine v o) (broadcastTo S512x512 (divf (broadcast S512x1 (Scalar.ofBits .f32 0x3F800000#32))
        (mulf (den512 mask mine bias q k) (den512 mask mine bias q k))) broadcasts_S512x1_S512x512)) (num512 mask mine bias q k))
      0x00000000#32 reduces_S512x512_S512 (.inl rfl) rfl) shapeCasts_S512_S512x1))
/-- The gradient of the logits. -/
def ds512 : FVec F S512x512 .f32 :=
  select mask (mulf (addf (divf (score512 mine v o) (broadcastTo S512x512 (den512 mask mine bias q k) broadcasts_S512x1_S512x512))
      (broadcastTo S512x512 (shapeCast S512x1 (multiReduction .add [1] S512 (dden512 mask mine bias q k v o dl) 0x00000000#32
        reduces_S512x1_S512 (.inl rfl) rfl) shapeCasts_S512_S512x1) broadcasts_S512x1_S512x512)) (num512 mask mine bias q k))
    (broadcast S512x512 (Scalar.ofBits .f32 0x00000000#32))
/-- The gradient of the products of queries and keys. -/
def dsc512 : FVec F S512x512 .f32 :=
  mulf (ds512 mask mine bias q k v o dl) (broadcast S512x512 (Scalar.ofBits .f32 0x3E000000#32))
/-- The block's gradient of its queries. -/
def dq512 : FVec F S512x128 .f32 :=
  select (lanes mine) (extf .f32 (truncf .bf16 (matmul dot_S512x512_S512x128_S512x128_1_0_0_1_n_n none (dsc512 mask mine bias q k v o dl)
    (truncf .bf16 k bitsLt_bf16_f32) (constant S512x128 .f32 0x00000000#32)) bitsLt_bf16_f32) bitsLt_bf16_f32)
    (broadcast S512x128 (Scalar.ofBits .f32 0x00000000#32))
/-- The block's share of its keys' gradient. -/
def dk512 : FVec F S512x128 .f32 :=
  extf .f32 (truncf .bf16 (matmul dot_S512x512_S512x128_S512x128_0_0_1_1_n_n none (dsc512 mask mine bias q k v o dl)
    (truncf .bf16 (only mine q) bitsLt_bf16_f32) (constant S512x128 .f32 0x00000000#32)) bitsLt_bf16_f32) bitsLt_bf16_f32
/-- The block's share of its values' gradient. -/
def dv512 : FVec F S512x128 .f32 :=
  extf .f32 (truncf .bf16 (transpose S512x128 [1, 0] (matmul dot_S512x128_S512x512_S128x512_0_0_1_1_n_n none (only mine o)
    (truncf .bf16 (divf (num512 mask mine bias q k) (broadcastTo S512x512 (den512 mask mine bias q k) broadcasts_S512x1_S512x512)) bitsLt_bf16_f32)
    (constant S128x512 .f32 0x00000000#32)) transposes_S128x512_p1_0_S512x128) bitsLt_bf16_f32) bitsLt_bf16_f32
end B512

/-- Rows `[k0, k0 + 512)` of a staging buffer increased by a block. -/
def addRows512 (k0 : ℕ) (h : ∀ a, (![k0, 0] : Fin 2 → ℕ) a + S512x128.size a ≤ S2048x128.size a) (st : Vec F S2048x128 .f32)
    (blk : FVec F S512x128 .f32) : Vec F S2048x128 .f32 :=
  (Rect.unit (s := S2048x128) ![k0, 0] S512x128.size h).overlay st
    (addf (shapeCast S512x128 (fun j => st ((Rect.unit (s := S2048x128) ![k0, 0] S512x128.size h).idx j)) shapeCasts_S512x128_S512x128) blk)

/-- The rows `[k0, k0 + 512)` of a block of an argument. -/
abbrev rows512 (k0 : ℕ) (h : ∀ a, (![k0, 0] : Fin 2 → ℕ) a + S512x128.size a ≤ S2048x128.size a) (x : Vec F S2048x128 .f32) :
    Vec F S512x128 .f32 := View.ld x (Rect.unit (s := S2048x128) ![k0, 0] S512x128.size h)

/-! ### A block of 512 queries against 640 keys -/

section B640
variable (mask : IVec S512x640 1) (mine : IVec S1x128 1) (bias : FVec F S512x640 .f32)
  (q : Vec F S512x128 .f32) (k v : Vec F S640x128 .f32) (o : Vec F S512x128 .f32) (dl : Vec F S1x512x1 .f32)

/-- The masked logits. -/
def logits640 : FVec F S512x640 .f32 :=
  select mask (addf (mulf (matmul dot_S512x128_S640x128_S512x640_1_1_0_0_n_n none (truncf .bf16 (only mine q) bitsLt_bf16_f32)
    (truncf .bf16 k bitsLt_bf16_f32) (constant S512x640 .f32 0x00000000#32)) (broadcast S512x640 (Scalar.ofBits .f32 0x3E000000#32))) bias)
    (broadcast S512x640 (Scalar.ofBits .f32 0xFF800000#32))
/-- The softmax numerators. -/
def num640 : FVec F S512x640 .f32 :=
  exp (subf (logits640 mask mine bias q k) (broadcastTo S512x640 (shapeCast S512x1
    (multiReduction .maximumf [1] S512 (logits640 mask mine bias q k) 0xFF800000#32 reduces_S512x640_S512 (.inl rfl) rfl)
    shapeCasts_S512_S512x1) broadcasts_S512x1_S512x640))
/-- The softmax denominators. -/
def den640 : FVec F S512x1 .f32 :=
  shapeCast S512x1 (multiReduction .add [1] S512 (num640 mask mine bias q k) 0x00000000#32 reduces_S512x640_S512 (.inl rfl) rfl)
    shapeCasts_S512_S512x1
/-- The scores that the output's gradient gives the keys. -/
def score640 : FVec F S512x640 .f32 :=
  extf .f32 (truncf .bf16 (matmul dot_S512x128_S640x128_S512x640_1_1_0_0_n_n none (only mine o) (truncf .bf16 v bitsLt_bf16_f32)
    (constant S512x640 .f32 0x00000000#32)) bitsLt_bf16_f32) bitsLt_bf16_f32
/-- The gradient of the denominators. -/
def dden640 : FVec F S512x1 .f32 :=
  addf (divf (shapeCast S512x1 dl shapeCasts_S1x512x1_S512x1) (den640 mask mine bias q k))
    (subf (broadcast S512x1 (Scalar.ofBits .f32 0x00000000#32)) (shapeCast S512x1 (multiReduction .add [1] S512
      (mulf (mulf (score640 mine v o) (broadcastTo S512x640 (divf (broadcast S512x1 (Scalar.ofBits .f32 0x3F800000#32))
        (mulf (den640 mask mine bias q k) (den640 mask mine bias q k))) broadcasts_S512x1_S512x640)) (num640 mask mine bias q k))
      0x00000000#32 reduces_S512x640_S512 (.inl rfl) rfl) shapeCasts_S512_S512x1))
/-- The gradient of the logits. -/
def ds640 : FVec F S512x640 .f32 :=
  select mask (mulf (addf (divf (score640 mine v o) (broadcastTo S512x640 (den640 mask mine bias q k) broadcasts_S512x1_S512x640))
      (broadcastTo S512x640 (shapeCast S512x1 (multiReduction .add [1] S512 (dden640 mask mine bias q k v o dl) 0x00000000#32
        reduces_S512x1_S512 (.inl rfl) rfl) shapeCasts_S512_S512x1) broadcasts_S512x1_S512x640)) (num640 mask mine bias q k))
    (broadcast S512x640 (Scalar.ofBits .f32 0x00000000#32))
/-- The gradient of the products of queries and keys. -/
def dsc640 : FVec F S512x640 .f32 :=
  mulf (ds640 mask mine bias q k v o dl) (broadcast S512x640 (Scalar.ofBits .f32 0x3E000000#32))
/-- The block's gradient of its queries. -/
def dq640 : FVec F S512x128 .f32 :=
  select (lanes mine) (extf .f32 (truncf .bf16 (matmul dot_S512x640_S640x128_S512x128_1_0_0_1_n_n none (dsc640 mask mine bias q k v o dl)
    (truncf .bf16 k bitsLt_bf16_f32) (constant S512x128 .f32 0x00000000#32)) bitsLt_bf16_f32) bitsLt_bf16_f32)
    (broadcast S512x128 (Scalar.ofBits .f32 0x00000000#32))
/-- The block's share of its keys' gradient. -/
def dk640 : FVec F S640x128 .f32 :=
  extf .f32 (truncf .bf16 (matmul dot_S512x640_S512x128_S640x128_0_0_1_1_n_n none (dsc640 mask mine bias q k v o dl)
    (truncf .bf16 (only mine q) bitsLt_bf16_f32) (constant S640x128 .f32 0x00000000#32)) bitsLt_bf16_f32) bitsLt_bf16_f32
/-- The block's share of its values' gradient. -/
def dv640 : FVec F S640x128 .f32 :=
  extf .f32 (truncf .bf16 (transpose S640x128 [1, 0] (matmul dot_S512x128_S512x640_S128x640_0_0_1_1_n_n none (only mine o)
    (truncf .bf16 (divf (num640 mask mine bias q k) (broadcastTo S512x640 (den640 mask mine bias q k) broadcasts_S512x1_S512x640)) bitsLt_bf16_f32)
    (constant S128x640 .f32 0x00000000#32)) transposes_S128x640_p1_0_S640x128) bitsLt_bf16_f32) bitsLt_bf16_f32
end B640

/-- Rows `[k0, k0 + 640)` of a staging buffer increased by a block. -/
def addRows640 (k0 : ℕ) (h : ∀ a, (![k0, 0] : Fin 2 → ℕ) a + S640x128.size a ≤ S2048x128.size a) (st : Vec F S2048x128 .f32)
    (blk : FVec F S640x128 .f32) : Vec F S2048x128 .f32 :=
  (Rect.unit (s := S2048x128) ![k0, 0] S640x128.size h).overlay st
    (addf (shapeCast S640x128 (fun j => st ((Rect.unit (s := S2048x128) ![k0, 0] S640x128.size h).idx j)) shapeCasts_S640x128_S640x128) blk)

/-- The rows `[k0, k0 + 640)` of a block of an argument. -/
abbrev rows640 (k0 : ℕ) (h : ∀ a, (![k0, 0] : Fin 2 → ℕ) a + S640x128.size a ≤ S2048x128.size a) (x : Vec F S2048x128 .f32) :
    Vec F S640x128 .f32 := View.ld x (Rect.unit (s := S2048x128) ![k0, 0] S640x128.size h)

/-- The first block's share of the bias gradient at the previous keys. -/
def prevFold512 (ds : FVec F S512x512 .f32) : FVec F S128x128 .f32 :=
  addf (addf (addf (broadcast S128x128 (Scalar.ofBits .f32 0x00000000#32)) (extractStridedSlice S128x128 ![128, 0] ds slices_S512x512_o128_0_S128x128)) (extractStridedSlice S128x128 ![256, 128] ds slices_S512x512_o256_128_S128x128)) (extractStridedSlice S128x128 ![384, 256] ds slices_S512x512_o384_256_S128x128)

/-- The first block's share of the bias gradient at the own keys. -/
def hereFold512 (ds : FVec F S512x512 .f32) : FVec F S128x128 .f32 :=
  addf (addf (addf (addf (broadcast S128x128 (Scalar.ofBits .f32 0x00000000#32)) (extractStridedSlice S128x128 ![0, 0] ds slices_S512x512_o0_0_S128x128)) (extractStridedSlice S128x128 ![128, 128] ds slices_S512x512_o128_128_S128x128)) (extractStridedSlice S128x128 ![256, 256] ds slices_S512x512_o256_256_S128x128)) (extractStridedSlice S128x128 ![384, 384] ds slices_S512x512_o384_384_S128x128)

/-- A later block's share of the bias gradient at the previous keys. -/
def prevFold640 (ds : FVec F S512x640 .f32) : FVec F S128x128 .f32 :=
  addf (addf (addf (addf (broadcast S128x128 (Scalar.ofBits .f32 0x00000000#32)) (extractStridedSlice S128x128 ![0, 0] ds slices_S512x640_o0_0_S128x128)) (extractStridedSlice S128x128 ![128, 128] ds slices_S512x640_o128_128_S128x128)) (extractStridedSlice S128x128 ![256, 256] ds slices_S512x640_o256_256_S128x128)) (extractStridedSlice S128x128 ![384, 384] ds slices_S512x640_o384_384_S128x128)

/-- A later block's share of the bias gradient at the own keys. -/
def hereFold640 (ds : FVec F S512x640 .f32) : FVec F S128x128 .f32 :=
  addf (addf (addf (addf (broadcast S128x128 (Scalar.ofBits .f32 0x00000000#32)) (extractStridedSlice S128x128 ![0, 128] ds slices_S512x640_o0_128_S128x128)) (extractStridedSlice S128x128 ![128, 256] ds slices_S512x640_o128_256_S128x128)) (extractStridedSlice S128x128 ![256, 384] ds slices_S512x640_o256_384_S128x128)) (extractStridedSlice S128x128 ![384, 512] ds slices_S512x640_o384_512_S128x128)

/-! ### A grid point -/

section point
variable (x0 x1 x2 : Vec F S2048x128 .f32) (x3 : Vec F S2x128x256 .f32) (x4 : Vec F S2048x128 .f32) (x5 : Vec F S1x2048x128 .f32)

/-- The bias table of head 0 of the pair. -/
abbrev bias0 : Vec F S1x128x256 .f32 := View.ld x3 (Rect.unit (s := S2x128x256) ![0, 0, 0] S1x128x256.size inb_S2x128x256_S1x128x256_0_0_0)
/-- The bias table of head 1 of the pair. -/
abbrev bias1 : Vec F S1x128x256 .f32 := View.ld x3 (Rect.unit (s := S2x128x256) ![1, 0, 0] S1x128x256.size inb_S2x128x256_S1x128x256_1_0_0)

/-- Block 0 of head 0. -/
abbrev ds_00 : FVec F S512x512 .f32 := ds512 k0_pay2 (mineOf 1#1) (k0_pay8 (bias0 x3)) (rows512 0 inb_S2048x128_S512x128_0_0 x0) (rows512 0 inb_S2048x128_S512x128_0_0 x1) (rows512 0 inb_S2048x128_S512x128_0_0 x2) (rows512 0 inb_S2048x128_S512x128_0_0 x4) (View.ld x5 (Rect.unit (s := S1x2048x128) ![0, 0, 0] S1x512x1.size inb_S1x2048x128_S1x512x1_0_0_0))
abbrev dq_00 : FVec F S512x128 .f32 := dq512 k0_pay2 (mineOf 1#1) (k0_pay8 (bias0 x3)) (rows512 0 inb_S2048x128_S512x128_0_0 x0) (rows512 0 inb_S2048x128_S512x128_0_0 x1) (rows512 0 inb_S2048x128_S512x128_0_0 x2) (rows512 0 inb_S2048x128_S512x128_0_0 x4) (View.ld x5 (Rect.unit (s := S1x2048x128) ![0, 0, 0] S1x512x1.size inb_S1x2048x128_S1x512x1_0_0_0))
abbrev dk_00 : FVec F S512x128 .f32 := dk512 k0_pay2 (mineOf 1#1) (k0_pay8 (bias0 x3)) (rows512 0 inb_S2048x128_S512x128_0_0 x0) (rows512 0 inb_S2048x128_S512x128_0_0 x1) (rows512 0 inb_S2048x128_S512x128_0_0 x2) (rows512 0 inb_S2048x128_S512x128_0_0 x4) (View.ld x5 (Rect.unit (s := S1x2048x128) ![0, 0, 0] S1x512x1.size inb_S1x2048x128_S1x512x1_0_0_0))
abbrev dv_00 : FVec F S512x128 .f32 := dv512 k0_pay2 (mineOf 1#1) (k0_pay8 (bias0 x3)) (rows512 0 inb_S2048x128_S512x128_0_0 x0) (rows512 0 inb_S2048x128_S512x128_0_0 x1) (rows512 0 inb_S2048x128_S512x128_0_0 x4)

/-- Block 1 of head 0. -/
abbrev ds_01 : FVec F S512x640 .f32 := ds640 k0_pay1 (mineOf 1#1) (k0_pay7 (bias0 x3)) (rows512 512 inb_S2048x128_S512x128_512_0 x0) (rows640 384 inb_S2048x128_S640x128_384_0 x1) (rows640 384 inb_S2048x128_S640x128_384_0 x2) (rows512 512 inb_S2048x128_S512x128_512_0 x4) (View.ld x5 (Rect.unit (s := S1x2048x128) ![0, 512, 0] S1x512x1.size inb_S1x2048x128_S1x512x1_0_512_0))
abbrev dq_01 : FVec F S512x128 .f32 := dq640 k0_pay1 (mineOf 1#1) (k0_pay7 (bias0 x3)) (rows512 512 inb_S2048x128_S512x128_512_0 x0) (rows640 384 inb_S2048x128_S640x128_384_0 x1) (rows640 384 inb_S2048x128_S640x128_384_0 x2) (rows512 512 inb_S2048x128_S512x128_512_0 x4) (View.ld x5 (Rect.unit (s := S1x2048x128) ![0, 512, 0] S1x512x1.size inb_S1x2048x128_S1x512x1_0_512_0))
abbrev dk_01 : FVec F S640x128 .f32 := dk640 k0_pay1 (mineOf 1#1) (k0_pay7 (bias0 x3)) (rows512 512 inb_S2048x128_S512x128_512_0 x0) (rows640 384 inb_S2048x128_S640x128_384_0 x1) (rows640 384 inb_S2048x128_S640x128_384_0 x2) (rows512 512 inb_S2048x128_S512x128_512_0 x4) (View.ld x5 (Rect.unit (s := S1x2048x128) ![0, 512, 0] S1x512x1.size inb_S1x2048x128_S1x512x1_0_512_0))
abbrev dv_01 : FVec F S640x128 .f32 := dv640 k0_pay1 (mineOf 1#1) (k0_pay7 (bias0 x3)) (rows512 512 inb_S2048x128_S512x128_512_0 x0) (rows640 384 inb_S2048x128_S640x128_384_0 x1) (rows512 512 inb_S2048x128_S512x128_512_0 x4)

/-- Block 2 of head 0. -/
abbrev ds_02 : FVec F S512x640 .f32 := ds640 k0_pay1 (mineOf 1#1) (k0_pay7 (bias0 x3)) (rows512 1024 inb_S2048x128_S512x128_1024_0 x0) (rows640 896 inb_S2048x128_S640x128_896_0 x1) (rows640 896 inb_S2048x128_S640x128_896_0 x2) (rows512 1024 inb_S2048x128_S512x128_1024_0 x4) (View.ld x5 (Rect.unit (s := S1x2048x128) ![0, 1024, 0] S1x512x1.size inb_S1x2048x128_S1x512x1_0_1024_0))
abbrev dq_02 : FVec F S512x128 .f32 := dq640 k0_pay1 (mineOf 1#1) (k0_pay7 (bias0 x3)) (rows512 1024 inb_S2048x128_S512x128_1024_0 x0) (rows640 896 inb_S2048x128_S640x128_896_0 x1) (rows640 896 inb_S2048x128_S640x128_896_0 x2) (rows512 1024 inb_S2048x128_S512x128_1024_0 x4) (View.ld x5 (Rect.unit (s := S1x2048x128) ![0, 1024, 0] S1x512x1.size inb_S1x2048x128_S1x512x1_0_1024_0))
abbrev dk_02 : FVec F S640x128 .f32 := dk640 k0_pay1 (mineOf 1#1) (k0_pay7 (bias0 x3)) (rows512 1024 inb_S2048x128_S512x128_1024_0 x0) (rows640 896 inb_S2048x128_S640x128_896_0 x1) (rows640 896 inb_S2048x128_S640x128_896_0 x2) (rows512 1024 inb_S2048x128_S512x128_1024_0 x4) (View.ld x5 (Rect.unit (s := S1x2048x128) ![0, 1024, 0] S1x512x1.size inb_S1x2048x128_S1x512x1_0_1024_0))
abbrev dv_02 : FVec F S640x128 .f32 := dv640 k0_pay1 (mineOf 1#1) (k0_pay7 (bias0 x3)) (rows512 1024 inb_S2048x128_S512x128_1024_0 x0) (rows640 896 inb_S2048x128_S640x128_896_0 x1) (rows512 1024 inb_S2048x128_S512x128_1024_0 x4)

/-- Block 3 of head 0. -/
abbrev ds_03 : FVec F S512x640 .f32 := ds640 k0_pay1 (mineOf 1#1) (k0_pay7 (bias0 x3)) (rows512 1536 inb_S2048x128_S512x128_1536_0 x0) (rows640 1408 inb_S2048x128_S640x128_1408_0 x1) (rows640 1408 inb_S2048x128_S640x128_1408_0 x2) (rows512 1536 inb_S2048x128_S512x128_1536_0 x4) (View.ld x5 (Rect.unit (s := S1x2048x128) ![0, 1536, 0] S1x512x1.size inb_S1x2048x128_S1x512x1_0_1536_0))
abbrev dq_03 : FVec F S512x128 .f32 := dq640 k0_pay1 (mineOf 1#1) (k0_pay7 (bias0 x3)) (rows512 1536 inb_S2048x128_S512x128_1536_0 x0) (rows640 1408 inb_S2048x128_S640x128_1408_0 x1) (rows640 1408 inb_S2048x128_S640x128_1408_0 x2) (rows512 1536 inb_S2048x128_S512x128_1536_0 x4) (View.ld x5 (Rect.unit (s := S1x2048x128) ![0, 1536, 0] S1x512x1.size inb_S1x2048x128_S1x512x1_0_1536_0))
abbrev dk_03 : FVec F S640x128 .f32 := dk640 k0_pay1 (mineOf 1#1) (k0_pay7 (bias0 x3)) (rows512 1536 inb_S2048x128_S512x128_1536_0 x0) (rows640 1408 inb_S2048x128_S640x128_1408_0 x1) (rows640 1408 inb_S2048x128_S640x128_1408_0 x2) (rows512 1536 inb_S2048x128_S512x128_1536_0 x4) (View.ld x5 (Rect.unit (s := S1x2048x128) ![0, 1536, 0] S1x512x1.size inb_S1x2048x128_S1x512x1_0_1536_0))
abbrev dv_03 : FVec F S640x128 .f32 := dv640 k0_pay1 (mineOf 1#1) (k0_pay7 (bias0 x3)) (rows512 1536 inb_S2048x128_S512x128_1536_0 x0) (rows640 1408 inb_S2048x128_S640x128_1408_0 x1) (rows512 1536 inb_S2048x128_S512x128_1536_0 x4)

/-- Block 0 of head 1. -/
abbrev ds_10 : FVec F S512x512 .f32 := ds512 k0_pay2 (mineOf 0#1) (k0_pay8 (bias1 x3)) (rows512 0 inb_S2048x128_S512x128_0_0 x0) (rows512 0 inb_S2048x128_S512x128_0_0 x1) (rows512 0 inb_S2048x128_S512x128_0_0 x2) (rows512 0 inb_S2048x128_S512x128_0_0 x4) (View.ld x5 (Rect.unit (s := S1x2048x128) ![0, 0, 1] S1x512x1.size inb_S1x2048x128_S1x512x1_0_0_1))
abbrev dq_10 : FVec F S512x128 .f32 := dq512 k0_pay2 (mineOf 0#1) (k0_pay8 (bias1 x3)) (rows512 0 inb_S2048x128_S512x128_0_0 x0) (rows512 0 inb_S2048x128_S512x128_0_0 x1) (rows512 0 inb_S2048x128_S512x128_0_0 x2) (rows512 0 inb_S2048x128_S512x128_0_0 x4) (View.ld x5 (Rect.unit (s := S1x2048x128) ![0, 0, 1] S1x512x1.size inb_S1x2048x128_S1x512x1_0_0_1))
abbrev dk_10 : FVec F S512x128 .f32 := dk512 k0_pay2 (mineOf 0#1) (k0_pay8 (bias1 x3)) (rows512 0 inb_S2048x128_S512x128_0_0 x0) (rows512 0 inb_S2048x128_S512x128_0_0 x1) (rows512 0 inb_S2048x128_S512x128_0_0 x2) (rows512 0 inb_S2048x128_S512x128_0_0 x4) (View.ld x5 (Rect.unit (s := S1x2048x128) ![0, 0, 1] S1x512x1.size inb_S1x2048x128_S1x512x1_0_0_1))
abbrev dv_10 : FVec F S512x128 .f32 := dv512 k0_pay2 (mineOf 0#1) (k0_pay8 (bias1 x3)) (rows512 0 inb_S2048x128_S512x128_0_0 x0) (rows512 0 inb_S2048x128_S512x128_0_0 x1) (rows512 0 inb_S2048x128_S512x128_0_0 x4)

/-- Block 1 of head 1. -/
abbrev ds_11 : FVec F S512x640 .f32 := ds640 k0_pay1 (mineOf 0#1) (k0_pay7 (bias1 x3)) (rows512 512 inb_S2048x128_S512x128_512_0 x0) (rows640 384 inb_S2048x128_S640x128_384_0 x1) (rows640 384 inb_S2048x128_S640x128_384_0 x2) (rows512 512 inb_S2048x128_S512x128_512_0 x4) (View.ld x5 (Rect.unit (s := S1x2048x128) ![0, 512, 1] S1x512x1.size inb_S1x2048x128_S1x512x1_0_512_1))
abbrev dq_11 : FVec F S512x128 .f32 := dq640 k0_pay1 (mineOf 0#1) (k0_pay7 (bias1 x3)) (rows512 512 inb_S2048x128_S512x128_512_0 x0) (rows640 384 inb_S2048x128_S640x128_384_0 x1) (rows640 384 inb_S2048x128_S640x128_384_0 x2) (rows512 512 inb_S2048x128_S512x128_512_0 x4) (View.ld x5 (Rect.unit (s := S1x2048x128) ![0, 512, 1] S1x512x1.size inb_S1x2048x128_S1x512x1_0_512_1))
abbrev dk_11 : FVec F S640x128 .f32 := dk640 k0_pay1 (mineOf 0#1) (k0_pay7 (bias1 x3)) (rows512 512 inb_S2048x128_S512x128_512_0 x0) (rows640 384 inb_S2048x128_S640x128_384_0 x1) (rows640 384 inb_S2048x128_S640x128_384_0 x2) (rows512 512 inb_S2048x128_S512x128_512_0 x4) (View.ld x5 (Rect.unit (s := S1x2048x128) ![0, 512, 1] S1x512x1.size inb_S1x2048x128_S1x512x1_0_512_1))
abbrev dv_11 : FVec F S640x128 .f32 := dv640 k0_pay1 (mineOf 0#1) (k0_pay7 (bias1 x3)) (rows512 512 inb_S2048x128_S512x128_512_0 x0) (rows640 384 inb_S2048x128_S640x128_384_0 x1) (rows512 512 inb_S2048x128_S512x128_512_0 x4)

/-- Block 2 of head 1. -/
abbrev ds_12 : FVec F S512x640 .f32 := ds640 k0_pay1 (mineOf 0#1) (k0_pay7 (bias1 x3)) (rows512 1024 inb_S2048x128_S512x128_1024_0 x0) (rows640 896 inb_S2048x128_S640x128_896_0 x1) (rows640 896 inb_S2048x128_S640x128_896_0 x2) (rows512 1024 inb_S2048x128_S512x128_1024_0 x4) (View.ld x5 (Rect.unit (s := S1x2048x128) ![0, 1024, 1] S1x512x1.size inb_S1x2048x128_S1x512x1_0_1024_1))
abbrev dq_12 : FVec F S512x128 .f32 := dq640 k0_pay1 (mineOf 0#1) (k0_pay7 (bias1 x3)) (rows512 1024 inb_S2048x128_S512x128_1024_0 x0) (rows640 896 inb_S2048x128_S640x128_896_0 x1) (rows640 896 inb_S2048x128_S640x128_896_0 x2) (rows512 1024 inb_S2048x128_S512x128_1024_0 x4) (View.ld x5 (Rect.unit (s := S1x2048x128) ![0, 1024, 1] S1x512x1.size inb_S1x2048x128_S1x512x1_0_1024_1))
abbrev dk_12 : FVec F S640x128 .f32 := dk640 k0_pay1 (mineOf 0#1) (k0_pay7 (bias1 x3)) (rows512 1024 inb_S2048x128_S512x128_1024_0 x0) (rows640 896 inb_S2048x128_S640x128_896_0 x1) (rows640 896 inb_S2048x128_S640x128_896_0 x2) (rows512 1024 inb_S2048x128_S512x128_1024_0 x4) (View.ld x5 (Rect.unit (s := S1x2048x128) ![0, 1024, 1] S1x512x1.size inb_S1x2048x128_S1x512x1_0_1024_1))
abbrev dv_12 : FVec F S640x128 .f32 := dv640 k0_pay1 (mineOf 0#1) (k0_pay7 (bias1 x3)) (rows512 1024 inb_S2048x128_S512x128_1024_0 x0) (rows640 896 inb_S2048x128_S640x128_896_0 x1) (rows512 1024 inb_S2048x128_S512x128_1024_0 x4)

/-- Block 3 of head 1. -/
abbrev ds_13 : FVec F S512x640 .f32 := ds640 k0_pay1 (mineOf 0#1) (k0_pay7 (bias1 x3)) (rows512 1536 inb_S2048x128_S512x128_1536_0 x0) (rows640 1408 inb_S2048x128_S640x128_1408_0 x1) (rows640 1408 inb_S2048x128_S640x128_1408_0 x2) (rows512 1536 inb_S2048x128_S512x128_1536_0 x4) (View.ld x5 (Rect.unit (s := S1x2048x128) ![0, 1536, 1] S1x512x1.size inb_S1x2048x128_S1x512x1_0_1536_1))
abbrev dq_13 : FVec F S512x128 .f32 := dq640 k0_pay1 (mineOf 0#1) (k0_pay7 (bias1 x3)) (rows512 1536 inb_S2048x128_S512x128_1536_0 x0) (rows640 1408 inb_S2048x128_S640x128_1408_0 x1) (rows640 1408 inb_S2048x128_S640x128_1408_0 x2) (rows512 1536 inb_S2048x128_S512x128_1536_0 x4) (View.ld x5 (Rect.unit (s := S1x2048x128) ![0, 1536, 1] S1x512x1.size inb_S1x2048x128_S1x512x1_0_1536_1))
abbrev dk_13 : FVec F S640x128 .f32 := dk640 k0_pay1 (mineOf 0#1) (k0_pay7 (bias1 x3)) (rows512 1536 inb_S2048x128_S512x128_1536_0 x0) (rows640 1408 inb_S2048x128_S640x128_1408_0 x1) (rows640 1408 inb_S2048x128_S640x128_1408_0 x2) (rows512 1536 inb_S2048x128_S512x128_1536_0 x4) (View.ld x5 (Rect.unit (s := S1x2048x128) ![0, 1536, 1] S1x512x1.size inb_S1x2048x128_S1x512x1_0_1536_1))
abbrev dv_13 : FVec F S640x128 .f32 := dv640 k0_pay1 (mineOf 0#1) (k0_pay7 (bias1 x3)) (rows512 1536 inb_S2048x128_S512x128_1536_0 x0) (rows640 1408 inb_S2048x128_S640x128_1408_0 x1) (rows512 1536 inb_S2048x128_S512x128_1536_0 x4)

/-- A staging buffer of zeros (`w`: what it held). -/
def zeros (w : Vec F S2048x128 .f32) : Vec F S2048x128 .f32 :=
  (Rect.unit (s := S2048x128) ![0, 0] S2048x128.size inb_S2048x128_S2048x128_0_0).overlay w
    (broadcast S2048x128 (Scalar.ofBits .f32 0x00000000#32))
/-- The point's gradient of the queries. -/
def dqOf (w : Vec F S2048x128 .f32) : Vec F S2048x128 .f32 :=
  addRows512 1536 inb_S2048x128_S512x128_1536_0 (addRows512 1024 inb_S2048x128_S512x128_1024_0 (addRows512 512 inb_S2048x128_S512x128_512_0 (addRows512 0 inb_S2048x128_S512x128_0_0 ((Rect.unit (s := S2048x128) ![1536, 0] S512x128.size inb_S2048x128_S512x128_1536_0).overlay ((Rect.unit (s := S2048x128) ![1024, 0] S512x128.size inb_S2048x128_S512x128_1024_0).overlay ((Rect.unit (s := S2048x128) ![512, 0] S512x128.size inb_S2048x128_S512x128_512_0).overlay ((Rect.unit (s := S2048x128) ![0, 0] S512x128.size inb_S2048x128_S512x128_0_0).overlay (w) (dq_00 x0 x1 x2 x3 x4 x5)) (dq_01 x0 x1 x2 x3 x4 x5)) (dq_02 x0 x1 x2 x3 x4 x5)) (dq_03 x0 x1 x2 x3 x4 x5)) (dq_10 x0 x1 x2 x3 x4 x5)) (dq_11 x0 x1 x2 x3 x4 x5)) (dq_12 x0 x1 x2 x3 x4 x5)) (dq_13 x0 x1 x2 x3 x4 x5)
/-- The point's gradient of the keys. -/
def dkOf (w : Vec F S2048x128 .f32) : Vec F S2048x128 .f32 :=
  addRows640 1408 inb_S2048x128_S640x128_1408_0 (addRows640 896 inb_S2048x128_S640x128_896_0 (addRows640 384 inb_S2048x128_S640x128_384_0 (addRows512 0 inb_S2048x128_S512x128_0_0 (addRows640 1408 inb_S2048x128_S640x128_1408_0 (addRows640 896 inb_S2048x128_S640x128_896_0 (addRows640 384 inb_S2048x128_S640x128_384_0 (addRows512 0 inb_S2048x128_S512x128_0_0 (zeros w) (dk_00 x0 x1 x2 x3 x4 x5)) (dk_01 x0 x1 x2 x3 x4 x5)) (dk_02 x0 x1 x2 x3 x4 x5)) (dk_03 x0 x1 x2 x3 x4 x5)) (dk_10 x0 x1 x2 x3 x4 x5)) (dk_11 x0 x1 x2 x3 x4 x5)) (dk_12 x0 x1 x2 x3 x4 x5)) (dk_13 x0 x1 x2 x3 x4 x5)
/-- The point's gradient of the values. -/
def dvOf (w : Vec F S2048x128 .f32) : Vec F S2048x128 .f32 :=
  addRows640 1408 inb_S2048x128_S640x128_1408_0 (addRows640 896 inb_S2048x128_S640x128_896_0 (addRows640 384 inb_S2048x128_S640x128_384_0 (addRows512 0 inb_S2048x128_S512x128_0_0 (addRows640 1408 inb_S2048x128_S640x128_1408_0 (addRows640 896 inb_S2048x128_S640x128_896_0 (addRows640 384 inb_S2048x128_S640x128_384_0 (addRows512 0 inb_S2048x128_S512x128_0_0 (zeros w) (dv_00 x0 x1 x3 x4)) (dv_01 x0 x1 x3 x4)) (dv_02 x0 x1 x3 x4)) (dv_03 x0 x1 x3 x4)) (dv_10 x0 x1 x3 x4)) (dv_11 x0 x1 x3 x4)) (dv_12 x0 x1 x3 x4)) (dv_13 x0 x1 x3 x4)

/-- The bias accumulator of zeros. -/
def zacc (w : Vec F S128x256 .f32) : Vec F S128x256 .f32 :=
  (Rect.unit (s := S128x256) ![0, 0] S128x256.size inb_S128x256_S128x256_0_0).overlay w
    (shapeCast S128x256 (broadcast S128x256 (Scalar.ofBits .f32 0x00000000#32)) shapeCasts_S128x256_S128x256)
/-- The bias accumulator's left half increased. -/
def accPrev (w : Vec F S128x256 .f32) (p : FVec F S128x128 .f32) : Vec F S128x256 .f32 :=
  (Rect.unit (s := S128x256) ![0, 0] S128x128.size inb_S128x256_S128x128_0_0).overlay w
    (shapeCast S128x128 (addf (fun j => w ((Rect.unit (s := S128x256) ![0, 0] S128x128.size inb_S128x256_S128x128_0_0).idx j)) p) shapeCasts_S128x128_S128x128)
/-- The bias accumulator's right half increased. -/
def accHere (w : Vec F S128x256 .f32) (p : FVec F S128x128 .f32) : Vec F S128x256 .f32 :=
  (Rect.unit (s := S128x256) ![0, 128] S128x128.size inb_S128x256_S128x128_0_128).overlay w
    (shapeCast S128x128 (addf (fun j => w ((Rect.unit (s := S128x256) ![0, 128] S128x128.size inb_S128x256_S128x128_0_128).idx j)) p) shapeCasts_S128x128_S128x128)

/-- The bias accumulator after head 0's blocks. -/
def acc_0 (w : Vec F S128x256 .f32) : Vec F S128x256 .f32 :=
  accHere (accPrev (accHere (accPrev (accHere (accPrev (accHere (accPrev (zacc w) (prevFold512 (ds_00 x0 x1 x2 x3 x4 x5))) (hereFold512 (ds_00 x0 x1 x2 x3 x4 x5))) (prevFold640 (ds_01 x0 x1 x2 x3 x4 x5))) (hereFold640 (ds_01 x0 x1 x2 x3 x4 x5))) (prevFold640 (ds_02 x0 x1 x2 x3 x4 x5))) (hereFold640 (ds_02 x0 x1 x2 x3 x4 x5))) (prevFold640 (ds_03 x0 x1 x2 x3 x4 x5))) (hereFold640 (ds_03 x0 x1 x2 x3 x4 x5))

/-- The bias accumulator after head 1's blocks. -/
def acc_1 (w : Vec F S128x256 .f32) : Vec F S128x256 .f32 :=
  accHere (accPrev (accHere (accPrev (accHere (accPrev (accHere (accPrev (zacc w) (prevFold512 (ds_10 x0 x1 x2 x3 x4 x5))) (hereFold512 (ds_10 x0 x1 x2 x3 x4 x5))) (prevFold640 (ds_11 x0 x1 x2 x3 x4 x5))) (hereFold640 (ds_11 x0 x1 x2 x3 x4 x5))) (prevFold640 (ds_12 x0 x1 x2 x3 x4 x5))) (hereFold640 (ds_12 x0 x1 x2 x3 x4 x5))) (prevFold640 (ds_13 x0 x1 x2 x3 x4 x5))) (hereFold640 (ds_13 x0 x1 x2 x3 x4 x5))

/-- The bias gradient's staging buffer after a point of the first batch entry: the two accumulators. -/
def dbFirst (w : Vec F S2x128x256 .f32) (w0 w1 : Vec F S128x256 .f32) : Vec F S2x128x256 .f32 :=
  (Rect.unit (s := S2x128x256) ![1, 0, 0] S1x128x256.size inb_S2x128x256_S1x128x256_1_0_0).overlay ((Rect.unit (s := S2x128x256) ![0, 0, 0] S1x128x256.size inb_S2x128x256_S1x128x256_0_0_0).overlay w (shapeCast S1x128x256 (fun j => (acc_0 x0 x1 x2 x3 x4 x5 w0) ((Rect.unit (s := S128x256) ![0, 0] S128x256.size inb_S128x256_S128x256_0_0).idx j)) shapeCasts_S128x256_S1x128x256))
    (shapeCast S1x128x256 (fun j => (acc_1 x0 x1 x2 x3 x4 x5 w1) ((Rect.unit (s := S128x256) ![0, 0] S128x256.size inb_S128x256_S128x256_0_0).idx j)) shapeCasts_S128x256_S1x128x256)
/-- The same after a later one: what it held (`d`) and the two accumulators. -/
def dbNext (d w : Vec F S2x128x256 .f32) (w0 w1 : Vec F S128x256 .f32) : Vec F S2x128x256 .f32 :=
  (Rect.unit (s := S2x128x256) ![1, 0, 0] S1x128x256.size inb_S2x128x256_S1x128x256_1_0_0).overlay ((Rect.unit (s := S2x128x256) ![0, 0, 0] S1x128x256.size inb_S2x128x256_S1x128x256_0_0_0).overlay w (shapeCast S1x128x256 (addf (shapeCast S128x256 (View.ld d (Rect.unit (s := S2x128x256) ![0, 0, 0] S1x128x256.size inb_S2x128x256_S1x128x256_0_0_0)) shapeCasts_S1x128x256_S128x256)
      (fun j => (acc_0 x0 x1 x2 x3 x4 x5 w0) ((Rect.unit (s := S128x256) ![0, 0] S128x256.size inb_S128x256_S128x256_0_0).idx j))) shapeCasts_S128x256_S1x128x256))
    (shapeCast S1x128x256 (addf (shapeCast S128x256 (View.ld d (Rect.unit (s := S2x128x256) ![1, 0, 0] S1x128x256.size inb_S2x128x256_S1x128x256_1_0_0)) shapeCasts_S1x128x256_S128x256)
      (fun j => (acc_1 x0 x1 x2 x3 x4 x5 w1) ((Rect.unit (s := S128x256) ![0, 0] S128x256.size inb_S128x256_S128x256_0_0).idx j))) shapeCasts_S128x256_S1x128x256)
end point

end Cert.KernelIdeal.Attn

end
-- ==== Proof.Row.lean ====
/-
  ONE ROW OF THE ATTENTION'S BACKWARD PASS, as mathematics over the extended reals.

  A row has a finite set of key positions, some of them live; for every position a logit `s` and the score `dp` that the
  output's gradient gives it, and one number `dl`, the gradient of the row's log-sum-exp. The definitions below are the
  row's softmax numerator, its sum and the gradient of the logits; the theorems say that they do not depend on which
  index set numbers the live positions, and what they are when the inputs are finite.
-/
module

public import Idealize.ShloMosaic.Lib.Pointwise
public import Idealize.ShloMosaic.Lib.IdealHost

@[expose] public section

noncomputable section

namespace Cert.AttnRow

open Idealize.ShloMosaic

section defs
variable {J : Type} [Fintype J] (live : J → Prop) [DecidablePred live] (s dp : J → EReal) (dl : EReal)

/-- The masked logit: `−∞` off the live positions. -/
def rmask (j : J) : EReal := if live j then s j else ⊥
/-- The row's maximum. -/
def rmax : EReal := Finset.univ.sup (rmask live s)
/-- The softmax numerator. -/
def rp (j : J) : EReal := Ideal.exp (rmask live s j - rmax live s)
/-- The softmax denominator. -/
def rden : EReal := ∑ j, rp live s j
/-- The gradient of the denominator, of the output's part and of the log-sum-exp's. -/
def rdd : EReal :=
  Ideal.div dl (rden live s) + (0 - ∑ j, dp j * Ideal.div 1 (rden live s * rden live s) * rp live s j)
/-- The gradient of the logits. -/
def rds (j : J) : EReal :=
  if live j then (Ideal.div (dp j) (rden live s) + rdd live s dp dl) * rp live s j else 0
/-- The attention weight, zero off the live positions. -/
def rw_ (j : J) : EReal := if live j then Ideal.div (rp live s j) (rden live s) else 0
end defs

theorem exp_bot : Ideal.exp ⊥ = 0 := rfl

/-- Off the live positions the softmax numerator is zero. -/
theorem rp_of_not {J : Type} [Fintype J] (live : J → Prop) [DecidablePred live] (s : J → EReal) {j : J} (h : ¬ live j) :
    rp live s j = 0 := by
  simp [rp, rmask, h, exp_bot]

section transport
variable {J U : Type} [Fintype J] [Fintype U] (lJ : J → Prop) [DecidablePred lJ] (lU : U → Prop) [DecidablePred lU]
  (f : J → U)

/-- `f` numbers the live positions of `U` by those of `J`, each once. -/
structure Numbers : Prop where
  live : ∀ j, lJ j → lU (f j)
  onto : ∀ u, lU u → ∃ j, lJ j ∧ f j = u
  inj : ∀ i j, lJ i → lJ j → f i = f j → i = j

variable {lJ lU f} (N : Numbers lJ lU f)
include N

/-- A sum over the live positions does not depend on the numbering. -/
theorem Numbers.sum (gJ : J → EReal) (gU : U → EReal) (hg : ∀ j, lJ j → gJ j = gU (f j))
    (zJ : ∀ j, ¬ lJ j → gJ j = 0) (zU : ∀ u, ¬ lU u → gU u = 0) : ∑ j, gJ j = ∑ u, gU u := by
  refine Finset.sum_bij_ne_zero (fun j _ _ => f j) (fun _ _ _ => Finset.mem_univ _) ?_ ?_ ?_
  · intro i _ hi j _ hj e
    exact N.inj i j (by by_contra h; exact hi (zJ i h)) (by by_contra h; exact hj (zJ j h)) e
  · intro u _ hu
    obtain ⟨j, hj, rfl⟩ := N.onto u (by by_contra h; exact hu (zU u h))
    exact ⟨j, Finset.mem_univ _, by rwa [hg j hj], rfl⟩
  · intro j _ hj
    exact hg j (by by_contra h; exact hj (zJ j h))

variable {sJ : J → EReal} {sU : U → EReal} (hs : ∀ j, lJ j → sJ j = sU (f j))
include hs

theorem Numbers.rmax : rmax lJ sJ = rmax lU sU := by
  unfold AttnRow.rmax
  apply le_antisymm
  · refine Finset.sup_le fun j _ => ?_
    by_cases h : lJ j
    · have := Finset.le_sup (f := rmask lU sU) (Finset.mem_univ (f j))
      simpa [rmask, h, N.live j h, hs j h] using this
    · simp [rmask, h]
  · refine Finset.sup_le fun u _ => ?_
    by_cases h : lU u
    · obtain ⟨j, hj, rfl⟩ := N.onto u h
      have := Finset.le_sup (f := rmask lJ sJ) (Finset.mem_univ j)
      simpa [rmask, h, hj, hs j hj] using this
    · simp [rmask, h]

theorem Numbers.rp (j : J) (hj : lJ j) : rp lJ sJ j = rp lU sU (f j) := by
  simp [AttnRow.rp, rmask, hj, N.live j hj, hs j hj, N.rmax hs]

theorem Numbers.rden : rden lJ sJ = rden lU sU :=
  N.sum _ _ (fun j hj => N.rp hs j hj) (fun _ h => rp_of_not _ _ h) (fun _ h => rp_of_not _ _ h)

theorem Numbers.rw_ (j : J) (hj : lJ j) : rw_ lJ sJ j = rw_ lU sU (f j) := by
  simp [AttnRow.rw_, hj, N.live j hj, N.rden hs, N.rp hs j hj]

variable {dJ : J → EReal} {dU : U → EReal} (hd : ∀ j, lJ j → dJ j = dU (f j)) (dl : EReal)
include hd

theorem Numbers.rdd : rdd lJ sJ dJ dl = rdd lU sU dU dl := by
  unfold AttnRow.rdd
  rw [N.rden hs]
  congr 2
  refine N.sum _ _ (fun j hj => ?_) (fun j h => ?_) (fun u h => ?_)
  · rw [hd j hj, N.rp hs j hj]
  · rw [rp_of_not _ _ h, mul_zero]
  · rw [rp_of_not _ _ h, mul_zero]

theorem Numbers.rds (j : J) (hj : lJ j) : rds lJ sJ dJ dl j = rds lU sU dU dl (f j) := by
  simp only [AttnRow.rds, hj, N.live j hj, if_true, N.rden hs, N.rp hs j hj, N.rdd hs hd, hd j hj]

end transport

/-! ### With finite inputs -/

section finite
variable {J : Type} [Fintype J] (live : J → Prop) [DecidablePred live] (s dp : J → ℝ) (dl : ℝ) (hl : ∃ j, live j)

theorem div_coe (x y : ℝ) (hy : y ≠ 0) : Ideal.div (x : EReal) (y : EReal) = ((x / y : ℝ) : EReal) := by
  have : (y : EReal) ≠ 0 := by exact_mod_cast hy
  rw [Ideal.div, if_neg this, ← EReal.coe_inv, ← EReal.coe_mul, div_eq_mul_inv]

include hl in
/-- With a live position and finite logits the maximum is one of the live logits. -/
theorem exists_rmax : ∃ j, live j ∧ rmax live (fun j => (s j : EReal)) = (s j : EReal) := by
  obtain ⟨j0, h0⟩ := hl
  obtain ⟨j, -, hj⟩ := Finset.exists_mem_eq_sup Finset.univ ⟨j0, Finset.mem_univ _⟩ (rmask live fun j => (s j : EReal))
  have hle : (s j0 : EReal) ≤ rmask live (fun j => (s j : EReal)) j := by
    have := Finset.le_sup (f := rmask live fun j => (s j : EReal)) (Finset.mem_univ j0)
    rw [hj] at this
    simpa [rmask, h0] using this
  refine ⟨j, ?_, ?_⟩
  · by_contra h
    simp [rmask, h] at hle
  · have h : live j := by
      by_contra h
      simp [rmask, h] at hle
    simpa [rmax, rmask, h] using hj

/-- The softmax numerator as a real number, `M` the row's maximum. -/
def pR (M : ℝ) (j : J) : ℝ := if live j then Real.exp (s j - M) else 0

theorem rp_coe {M : ℝ} (hM : rmax live (fun j => (s j : EReal)) = M) (j : J) :
    rp live (fun j => (s j : EReal)) j = (pR live s M j : EReal) := by
  by_cases h : live j
  · simp only [rp, rmask, h, if_true, hM, pR, ← EReal.coe_sub]
    rfl
  · rw [rp_of_not _ _ h]; simp [pR, h]

theorem pR_nonneg (M : ℝ) (j : J) : 0 ≤ pR live s M j := by
  unfold pR; split
  · exact (Real.exp_pos _).le
  · exact le_rfl

theorem sum_coe {ι : Type} [Fintype ι] (g : ι → ℝ) : ∑ i, ((g i : ℝ) : EReal) = ((∑ i, g i : ℝ) : EReal) := by
  classical
  refine Finset.induction_on (Finset.univ : Finset ι) (by simp) fun a t ha ih => ?_
  rw [Finset.sum_insert ha, Finset.sum_insert ha, ih, EReal.coe_add]

include hl in
/-- With a live position and finite logits: the maximum and the denominator are real, the denominator positive. -/
theorem exists_real : ∃ M D : ℝ, rmax live (fun j => (s j : EReal)) = M ∧ 0 < D ∧ D = ∑ j, pR live s M j ∧
    rden live (fun j => (s j : EReal)) = D := by
  obtain ⟨j, hj, hM⟩ := exists_rmax live s hl
  refine ⟨s j, ∑ i, pR live s (s j) i, hM, ?_, rfl, ?_⟩
  · refine Finset.sum_pos' (fun i _ => pR_nonneg live s _ i) ⟨j, Finset.mem_univ _, ?_⟩
    simp [pR, hj]
  · rw [rden, ← sum_coe]
    exact Finset.sum_congr rfl fun i _ => rp_coe live s hM i

include hl in
theorem rden_ne_zero : rden live (fun j => (s j : EReal)) ≠ 0 := by
  obtain ⟨M, D, -, hD, -, h⟩ := exists_real live s hl
  rw [h]; exact_mod_cast hD.ne'

include hl in
/-- With finite inputs the gradient of the logits sums to the gradient of the row's log-sum-exp. -/
theorem sum_rds : ∑ j, -rds live (fun j => (s j : EReal)) (fun j => (dp j : EReal)) dl j = -(dl : EReal) := by
  obtain ⟨M, D, hM, hD, hDs, hden⟩ := exists_real live s hl
  have hD0 : D ≠ 0 := hD.ne'
  have hdd : rdd live (fun j => (s j : EReal)) (fun j => (dp j : EReal)) dl
      = ((dl / D + (0 - ∑ j, dp j * (1 / (D * D)) * pR live s M j) : ℝ) : EReal) := by
    unfold rdd
    rw [hden, div_coe _ _ hD0, ← EReal.coe_mul, show (1 : EReal) = ((1 : ℝ) : EReal) from rfl, div_coe _ _ (mul_ne_zero hD0 hD0)]
    simp only [rp_coe live s hM, ← EReal.coe_mul, sum_coe]
    norm_cast
  have hds : ∀ j, -rds live (fun j => (s j : EReal)) (fun j => (dp j : EReal)) dl j
      = ((-((dp j / D + (dl / D + (0 - ∑ j, dp j * (1 / (D * D)) * pR live s M j))) * pR live s M j) : ℝ) : EReal) := by
    intro j
    by_cases h : live j
    · simp only [rds, h, if_true, hden, hdd, rp_coe live s hM, div_coe _ _ hD0]
      norm_cast
    · simp [rds, h, pR]
  rw [Finset.sum_congr rfl fun j _ => hds j, sum_coe, ← EReal.coe_neg]
  congr 1
  rw [Finset.sum_neg_distrib]
  congr 1
  have e1 : ∀ j, (dp j / D + (dl / D + (0 - ∑ j, dp j * (1 / (D * D)) * pR live s M j))) * pR live s M j
      = D * (dp j * (1 / (D * D)) * pR live s M j) + (dl / D + (0 - ∑ j, dp j * (1 / (D * D)) * pR live s M j)) * pR live s M j := by
    intro j; field_simp
  rw [Finset.sum_congr rfl fun j _ => e1 j, Finset.sum_add_distrib, ← Finset.mul_sum, ← Finset.mul_sum, ← hDs]
  field_simp
  ring

end finite

end Cert.AttnRow

end
-- ==== Proof.Spec.lean ====
/-
  THE BACKWARD PASS OF ONE HEAD of the banded attention, as mathematics: 2048 positions, 64 lanes, a query at `t` attending to
  the keys `u ≤ t ≤ u + 128`, with a bias table of 128 × 256 entries (own row in its block of 128, column counted from the
  block before). Everything is over the extended reals; `AttnRow` (Row.lean) is one row of it.
-/
module

public import proofs.«01_k».proof.Proof.Row

@[expose] public section

noncomputable section

namespace Cert.AttnSpec

open Idealize.ShloMosaic Cert.AttnRow

/-- The scale of the logits, 1/8. -/
def c8 : EReal := Ideal.ofBits .f32 0x3E000000#32

/-- The query at `t` attends to the key at `u`. -/
def live (t u : Fin 2048) : Prop := u.val ≤ t.val ∧ t.val ≤ u.val + 128

instance (t : Fin 2048) : DecidablePred (live t) := fun _ => inferInstanceAs (Decidable (_ ∧ _))

theorem live_self (t : Fin 2048) : live t t := ⟨le_rfl, by omega⟩

variable (Q K V O : Fin 2048 → Fin 64 → EReal) (D : Fin 2048 → EReal) (B : Fin 128 → Fin 256 → EReal)

/-- The bias between `t` and `u`. -/
def biasAt (t u : Fin 2048) : EReal :=
  B ⟨t.val % 128, Nat.mod_lt _ (by omega)⟩ ⟨(u.val + 128 - 128 * (t.val / 128)) % 256, Nat.mod_lt _ (by omega)⟩
/-- The logit of `t` and `u`. -/
def logit (t u : Fin 2048) : EReal := (∑ l, Q t l * K u l) * c8 + biasAt B t u
/-- The score that the output's gradient `O` gives the key `u`. -/
def score (t u : Fin 2048) : EReal := ∑ l, O t l * V u l
/-- The gradient of the logit of `t` and `u`. -/
def ds (t u : Fin 2048) : EReal := rds (live t) (logit Q K B t) (score V O t) (D t) u
/-- The attention weight of `u` for `t`. -/
def wt (t u : Fin 2048) : EReal := rw_ (live t) (logit Q K B t) u

/-- The gradient of the queries. -/
def gQ (t : Fin 2048) (l : Fin 64) : EReal := ∑ u, ds Q K V O D B t u * c8 * K u l
/-- The gradient of the keys. -/
def gK (u : Fin 2048) (l : Fin 64) : EReal := ∑ t, ds Q K V O D B t u * c8 * Q t l
/-- The gradient of the values. -/
def gV (u : Fin 2048) (l : Fin 64) : EReal := ∑ t, O t l * wt Q K B t u
/-- Block `n`'s gradient of the bias table, zero where the column lies before the sequence's start. -/
def gBblk (n : Fin 16) (i : Fin 128) (j : Fin 256) : EReal :=
  if h : 128 ≤ 128 * n.val + j.val ∧ 128 * n.val + j.val < 2176 then
    ds Q K V O D B ⟨128 * n.val + i.val, by omega⟩ ⟨128 * n.val + j.val - 128, by omega⟩ else 0
/-- The gradient of the bias table. -/
def gB (i : Fin 128) (j : Fin 256) : EReal := ∑ n, gBblk Q K V O D B n i j

theorem ds_of_not {t u : Fin 2048} (h : ¬ live t u) : ds Q K V O D B t u = 0 := if_neg h
theorem wt_of_not {t u : Fin 2048} (h : ¬ live t u) : wt Q K B t u = 0 := if_neg h

/-- A function of finite values. -/
def Fin2 {α β : Type} (f : α → β → EReal) : Prop := ∃ g : α → β → ℝ, ∀ a b, f a b = (g a b : EReal)

theorem logit_real (hQ : Fin2 Q) (hK : Fin2 K) (hB : Fin2 B) : ∃ g : Fin 2048 → Fin 2048 → ℝ, ∀ t, logit Q K B t = fun u => (g t u : EReal) := by
  obtain ⟨q, hq⟩ := hQ; obtain ⟨k, hk⟩ := hK; obtain ⟨b, hb⟩ := hB
  obtain ⟨c, hc⟩ : ∃ c : ℝ, c8 = (c : EReal) := by
    refine ⟨c8.toReal, (EReal.coe_toReal ?_ ?_).symm⟩ <;> simp [c8, Ideal.ofBits, Ideal.ieee] <;>
      rw [← EReal.coe_mul]
    · exact EReal.coe_ne_top _
    · exact EReal.coe_ne_bot _
  refine ⟨fun t u => (∑ l, q t l * k u l) * c + b ⟨t.val % 128, Nat.mod_lt _ (by omega)⟩ ⟨(u.val + 128 - 128 * (t.val / 128)) % 256, Nat.mod_lt _ (by omega)⟩,
    fun t => funext fun u => ?_⟩
  simp only [logit, biasAt, hq, hk, hb, hc, ← EReal.coe_mul, sum_coe, ← EReal.coe_add]

theorem score_real (hV : Fin2 V) (hO : Fin2 O) : ∃ g : Fin 2048 → Fin 2048 → ℝ, ∀ t, score V O t = fun u => (g t u : EReal) := by
  obtain ⟨v, hv⟩ := hV; obtain ⟨o, ho⟩ := hO
  refine ⟨fun t u => ∑ l, o t l * v u l, fun t => funext fun u => ?_⟩
  simp only [score, hv, ho, ← EReal.coe_mul, sum_coe]

/-- With finite inputs no row's denominator is zero. -/
theorem den_ne_zero (hQ : Fin2 Q) (hK : Fin2 K) (hB : Fin2 B) (t : Fin 2048) : rden (live t) (logit Q K B t) ≠ 0 := by
  obtain ⟨g, hg⟩ := logit_real Q K B hQ hK hB
  rw [hg]; exact rden_ne_zero _ _ ⟨t, live_self t⟩

end Cert.AttnSpec

end
-- ==== Proof.BlockRead.lean ====
/-
  WHAT ONE BLOCK COMPUTES, over the extended reals: each step of a block (Block.lean) read at an index, in the terms of the
  head's mathematics (Spec.lean). `BlockIs` says what a block is given: its queries `qi`, its keys `ki`, the head's lanes.
-/
module

public import proofs.«01_k».proof.Proof.Block
public import proofs.«01_k».proof.Proof.Spec
public import Idealize.ShloMosaic.Lib.FinSumWindow

@[expose] public section

set_option maxRecDepth 16384

noncomputable section

namespace Cert.KernelIdeal.Attn

open Cert.KernelIdeal Cert.KernelIdeal.Gen Idealize.ShloMosaic Idealize.ShloMosaic.TcCoe Idealize.SL.Sem Cert.AttnRow Cert.AttnSpec

/-- The lanes of head `e` of a pair. -/
def hd {T : Type} (e : Fin 2) (X : T → Fin 128 → EReal) : T → Fin 64 → EReal := fun t l => X t ⟨64 * e.val + l.val, by omega⟩

/-- A sum over the lanes of a pair, the other head's left out, is the sum over the head's. -/
theorem sum_hd (e : Fin 2) (f : Fin 128 → EReal) :
    ∑ x : Fin 128, (if x.val / 64 = e.val then f x else 0) = ∑ l : Fin 64, f ⟨64 * e.val + l.val, by omega⟩ := by
  rw [FinSumWindow.sum_window (W := 64) (64 * e.val) (by omega) _ (fun P hP => if_neg (by omega))]
  exact Finset.sum_congr rfl fun l _ => if_pos (by simp only; omega)

/-- A select on the word of a decidable proposition. -/
theorem select_word {α : Type} (p : Prop) [Decidable p] (a b : α) : Scalar.select (if p then 1#1 else 0#1) a b = if p then a else b := by
  by_cases h : p <;> simp [h, Scalar.select]

theorem ofBits_neg_inf : Ideal.ofBits .f32 0xFF800000#32 = ⊥ := by simp [Ideal.ofBits, Ideal.ieee]

theorem fold_max_bot {J : Type} [Fintype J] (f : J → EReal) : Finset.fold max ⊥ f Finset.univ = Finset.univ.sup f := rfl

/-! ### 512 queries against 512 keys -/

/-- What a block of 512 keys is given. -/
structure BlockIs512 (e : Fin 2) (X0 X1 X2 X4 : Fin 2048 → Fin 128 → EReal) (D : Fin 2048 → EReal) (B : Fin 128 → Fin 256 → EReal)
    (qi : Fin 512 → Fin 2048) (ki : Fin 512 → Fin 2048) (mask : IVec S512x512 1) (mine : IVec S1x128 1) (bias : FVec Ideal S512x512 .f32)
    (q : Vec Ideal S512x128 .f32) (k v : Vec Ideal S512x128 .f32) (o : Vec Ideal S512x128 .f32) (dl : Vec Ideal S1x512x1 .f32) : Prop where
  mask : ∀ r j, mask (ix2 r j) = if live (qi r) (ki j) then 1#1 else 0#1
  mine : ∀ x, mine (ix2 0 x) = if x.val / 64 = e.val then 1#1 else 0#1
  bias : ∀ r j, live (qi r) (ki j) → bias (ix2 r j) = biasAt B (qi r) (ki j)
  q : ∀ r x, q (ix2 r x) = X0 (qi r) x
  k : ∀ j x, k (ix2 j x) = X1 (ki j) x
  v : ∀ j x, v (ix2 j x) = X2 (ki j) x
  o : ∀ r x, o (ix2 r x) = X4 (qi r) x
  dl : ∀ r, dl (ix3 0 r 0) = D (qi r)
  num : ∀ r, Numbers (fun j => live (qi r) (ki j)) (live (qi r)) ki

section R512
variable {e : Fin 2} {X0 X1 X2 X4 : Fin 2048 → Fin 128 → EReal} {D : Fin 2048 → EReal} {B : Fin 128 → Fin 256 → EReal}
  {qi : Fin 512 → Fin 2048} {ki : Fin 512 → Fin 2048} {mask : IVec S512x512 1} {mine : IVec S1x128 1} {bias : FVec Ideal S512x512 .f32}
  {q : Vec Ideal S512x128 .f32} {k v : Vec Ideal S512x128 .f32} {o : Vec Ideal S512x128 .f32} {dl : Vec Ideal S1x512x1 .f32}
  (H : BlockIs512 e X0 X1 X2 X4 D B qi ki mask mine bias q k v o dl)
include H

/-- The masked logits of a row. -/
theorem logits512_eq (r : Fin 512) (j : Fin 512) : logits512 mask mine bias q k (ix2 r j) =
    rmask (fun j => live (qi r) (ki j)) (fun j => logit (hd e X0) (hd e X1) B (qi r) (ki j)) j := by
  pointwise [logits512, only, lanes]
  simp only [H.mask, H.mine, H.q, H.k, select_word, sum_hd]
  unfold rmask
  by_cases h : live (qi r) (ki j)
  · rw [if_pos h, if_pos h, H.bias r j h]; rfl
  · rw [if_neg h, if_neg h]; exact ofBits_neg_inf

/-- The softmax numerators of a row. -/
theorem num512_eq (r : Fin 512) (j : Fin 512) : num512 mask mine bias q k (ix2 r j) =
    rp (fun j => live (qi r) (ki j)) (fun j => logit (hd e X0) (hd e X1) B (qi r) (ki j)) j := by
  pointwise [num512]
  simp only [logits512_eq H]
  unfold rp rmax
  rw [← fold_max_bot, ← ofBits_neg_inf]

/-- A row's denominator. -/
theorem den512_eq (r : Fin 512) : den512 mask mine bias q k (ix2 r 0) =
    rden (fun j => live (qi r) (ki j)) (fun j => logit (hd e X0) (hd e X1) B (qi r) (ki j)) := by
  pointwise [den512]
  simp only [num512_eq H]
  rfl

/-- The scores of a row. -/
theorem score512_eq (r : Fin 512) (j : Fin 512) : score512 mine v o (ix2 r j) = score (hd e X2) (hd e X4) (qi r) (ki j) := by
  pointwise [score512, only, lanes]
  simp only [H.mine, H.o, H.v, select_word, sum_hd]
  rfl

/-- The gradient of a row's denominator. -/
theorem dden512_eq (r : Fin 512) : dden512 mask mine bias q k v o dl (ix2 r 0) =
    rdd (fun j => live (qi r) (ki j)) (fun j => logit (hd e X0) (hd e X1) B (qi r) (ki j))
      (fun j => score (hd e X2) (hd e X4) (qi r) (ki j)) (D (qi r)) := by
  pointwise [dden512]
  simp only [num512_eq H, den512_eq H, score512_eq H, H.dl]
  rfl

/-- The gradient of the logits of a row is the head's. -/
theorem ds512_eq (r : Fin 512) (j : Fin 512) : ds512 mask mine bias q k v o dl (ix2 r j) =
    ds (hd e X0) (hd e X1) (hd e X2) (hd e X4) D B (qi r) (ki j) := by
  pointwise [ds512]
  simp only [num512_eq H, den512_eq H, score512_eq H, H.mask, select_word, Finset.univ_unique, Finset.sum_singleton, Fin.default_eq_zero, dden512_eq H]
  unfold ds
  by_cases h : live (qi r) (ki j)
  · rw [← (H.num r).rds (fun _ _ => rfl) (fun _ _ => rfl) (D (qi r)) j h]; rfl
  · rw [if_neg h]; exact (if_neg h).symm

/-- The weights of a row are the head's, its denominator not zero. -/
theorem wt512_eq (hden : ∀ t, rden (live t) (logit (hd e X0) (hd e X1) B t) ≠ 0) (r : Fin 512) (j : Fin 512) :
    Ideal.div (num512 mask mine bias q k (ix2 r j)) (den512 mask mine bias q k (ix2 r 0)) = wt (hd e X0) (hd e X1) B (qi r) (ki j) := by
  rw [num512_eq H, den512_eq H]
  unfold wt
  by_cases h : live (qi r) (ki j)
  · rw [← (H.num r).rw_ (fun _ _ => rfl) j h]; exact (if_pos h).symm
  · rw [rp_of_not (fun j => live (qi r) (ki j)) _ h, (H.num r).rden (fun _ _ => rfl)]
    exact (Ideal.zero_div (hden _)).trans (if_neg h).symm

/-- The gradient of the block's queries. -/
theorem dq512_eq (r : Fin 512) (x : Fin 128) : dq512 mask mine bias q k v o dl (ix2 r x) =
    if x.val / 64 = e.val then ∑ u, ds (hd e X0) (hd e X1) (hd e X2) (hd e X4) D B (qi r) u * c8 * X1 u x else 0 := by
  pointwise [dq512, dsc512, lanes]
  simp only [H.mine, H.k, select_word, ds512_eq H]
  refine if_congr Iff.rfl ?_ rfl
  exact (H.num r).sum _ (fun u => ds (hd e X0) (hd e X1) (hd e X2) (hd e X4) D B (qi r) u * c8 * X1 u x) (fun _ _ => rfl)
    (fun j hj => by rw [ds_of_not _ _ _ _ _ _ hj, zero_mul, zero_mul]) (fun u hu => by rw [ds_of_not _ _ _ _ _ _ hu, zero_mul, zero_mul])

/-- The block's share of its keys' gradient. -/
theorem dk512_eq (u : Fin 512) (x : Fin 128) : dk512 mask mine bias q k v o dl (ix2 u x) =
    if x.val / 64 = e.val then ∑ r, ds (hd e X0) (hd e X1) (hd e X2) (hd e X4) D B (qi r) (ki u) * c8 * X0 (qi r) x else 0 := by
  pointwise [dk512, dsc512, only, lanes]
  simp only [H.mine, H.q, select_word, ds512_eq H]
  by_cases h : x.val / 64 = e.val
  · simp only [if_pos h]; rfl
  · simp only [if_neg h, Finset.sum_const_zero]

/-- The block's share of its values' gradient. -/
theorem dv512_eq (hden : ∀ t, rden (live t) (logit (hd e X0) (hd e X1) B t) ≠ 0) (u : Fin 512) (x : Fin 128) :
    dv512 mask mine bias q k o (ix2 u x) =
    if x.val / 64 = e.val then ∑ r, X4 (qi r) x * wt (hd e X0) (hd e X1) B (qi r) (ki u) else 0 := by
  pointwise [dv512, only, lanes]
  simp only [H.mine, H.o, select_word, wt512_eq H hden]
  by_cases h : x.val / 64 = e.val
  · simp only [if_pos h]
  · simp only [if_neg h, Finset.sum_const_zero]
end R512

/-! ### 512 queries against 640 keys -/

/-- What a block of 640 keys is given. -/
structure BlockIs640 (e : Fin 2) (X0 X1 X2 X4 : Fin 2048 → Fin 128 → EReal) (D : Fin 2048 → EReal) (B : Fin 128 → Fin 256 → EReal)
    (qi : Fin 512 → Fin 2048) (ki : Fin 640 → Fin 2048) (mask : IVec S512x640 1) (mine : IVec S1x128 1) (bias : FVec Ideal S512x640 .f32)
    (q : Vec Ideal S512x128 .f32) (k v : Vec Ideal S640x128 .f32) (o : Vec Ideal S512x128 .f32) (dl : Vec Ideal S1x512x1 .f32) : Prop where
  mask : ∀ r j, mask (ix2 r j) = if live (qi r) (ki j) then 1#1 else 0#1
  mine : ∀ x, mine (ix2 0 x) = if x.val / 64 = e.val then 1#1 else 0#1
  bias : ∀ r j, live (qi r) (ki j) → bias (ix2 r j) = biasAt B (qi r) (ki j)
  q : ∀ r x, q (ix2 r x) = X0 (qi r) x
  k : ∀ j x, k (ix2 j x) = X1 (ki j) x
  v : ∀ j x, v (ix2 j x) = X2 (ki j) x
  o : ∀ r x, o (ix2 r x) = X4 (qi r) x
  dl : ∀ r, dl (ix3 0 r 0) = D (qi r)
  num : ∀ r, Numbers (fun j => live (qi r) (ki j)) (live (qi r)) ki

section R640
variable {e : Fin 2} {X0 X1 X2 X4 : Fin 2048 → Fin 128 → EReal} {D : Fin 2048 → EReal} {B : Fin 128 → Fin 256 → EReal}
  {qi : Fin 512 → Fin 2048} {ki : Fin 640 → Fin 2048} {mask : IVec S512x640 1} {mine : IVec S1x128 1} {bias : FVec Ideal S512x640 .f32}
  {q : Vec Ideal S512x128 .f32} {k v : Vec Ideal S640x128 .f32} {o : Vec Ideal S512x128 .f32} {dl : Vec Ideal S1x512x1 .f32}
  (H : BlockIs640 e X0 X1 X2 X4 D B qi ki mask mine bias q k v o dl)
include H

/-- The masked logits of a row. -/
theorem logits640_eq (r : Fin 512) (j : Fin 640) : logits640 mask mine bias q k (ix2 r j) =
    rmask (fun j => live (qi r) (ki j)) (fun j => logit (hd e X0) (hd e X1) B (qi r) (ki j)) j := by
  pointwise [logits640, only, lanes]
  simp only [H.mask, H.mine, H.q, H.k, select_word, sum_hd]
  unfold rmask
  by_cases h : live (qi r) (ki j)
  · rw [if_pos h, if_pos h, H.bias r j h]; rfl
  · rw [if_neg h, if_neg h]; exact ofBits_neg_inf

/-- The softmax numerators of a row. -/
theorem num640_eq (r : Fin 512) (j : Fin 640) : num640 mask mine bias q k (ix2 r j) =
    rp (fun j => live (qi r) (ki j)) (fun j => logit (hd e X0) (hd e X1) B (qi r) (ki j)) j := by
  pointwise [num640]
  simp only [logits640_eq H]
  unfold rp rmax
  rw [← fold_max_bot, ← ofBits_neg_inf]

/-- A row's denominator. -/
theorem den640_eq (r : Fin 512) : den640 mask mine bias q k (ix2 r 0) =
    rden (fun j => live (qi r) (ki j)) (fun j => logit (hd e X0) (hd e X1) B (qi r) (ki j)) := by
  pointwise [den640]
  simp only [num640_eq H]
  rfl

/-- The scores of a row. -/
theorem score640_eq (r : Fin 512) (j : Fin 640) : score640 mine v o (ix2 r j) = score (hd e X2) (hd e X4) (qi r) (ki j) := by
  pointwise [score640, only, lanes]
  simp only [H.mine, H.o, H.v, select_word, sum_hd]
  rfl

/-- The gradient of a row's denominator. -/
theorem dden640_eq (r : Fin 512) : dden640 mask mine bias q k v o dl (ix2 r 0) =
    rdd (fun j => live (qi r) (ki j)) (fun j => logit (hd e X0) (hd e X1) B (qi r) (ki j))
      (fun j => score (hd e X2) (hd e X4) (qi r) (ki j)) (D (qi r)) := by
  pointwise [dden640]
  simp only [num640_eq H, den640_eq H, score640_eq H, H.dl]
  rfl

/-- The gradient of the logits of a row is the head's. -/
theorem ds640_eq (r : Fin 512) (j : Fin 640) : ds640 mask mine bias q k v o dl (ix2 r j) =
    ds (hd e X0) (hd e X1) (hd e X2) (hd e X4) D B (qi r) (ki j) := by
  pointwise [ds640]
  simp only [num640_eq H, den640_eq H, score640_eq H, H.mask, select_word, Finset.univ_unique, Finset.sum_singleton, Fin.default_eq_zero, dden640_eq H]
  unfold ds
  by_cases h : live (qi r) (ki j)
  · rw [← (H.num r).rds (fun _ _ => rfl) (fun _ _ => rfl) (D (qi r)) j h]; rfl
  · rw [if_neg h]; exact (if_neg h).symm

/-- The weights of a row are the head's, its denominator not zero. -/
theorem wt640_eq (hden : ∀ t, rden (live t) (logit (hd e X0) (hd e X1) B t) ≠ 0) (r : Fin 512) (j : Fin 640) :
    Ideal.div (num640 mask mine bias q k (ix2 r j)) (den640 mask mine bias q k (ix2 r 0)) = wt (hd e X0) (hd e X1) B (qi r) (ki j) := by
  rw [num640_eq H, den640_eq H]
  unfold wt
  by_cases h : live (qi r) (ki j)
  · rw [← (H.num r).rw_ (fun _ _ => rfl) j h]; exact (if_pos h).symm
  · rw [rp_of_not (fun j => live (qi r) (ki j)) _ h, (H.num r).rden (fun _ _ => rfl)]
    exact (Ideal.zero_div (hden _)).trans (if_neg h).symm

/-- The gradient of the block's queries. -/
theorem dq640_eq (r : Fin 512) (x : Fin 128) : dq640 mask mine bias q k v o dl (ix2 r x) =
    if x.val / 64 = e.val then ∑ u, ds (hd e X0) (hd e X1) (hd e X2) (hd e X4) D B (qi r) u * c8 * X1 u x else 0 := by
  pointwise [dq640, dsc640, lanes]
  simp only [H.mine, H.k, select_word, ds640_eq H]
  refine if_congr Iff.rfl ?_ rfl
  exact (H.num r).sum _ (fun u => ds (hd e X0) (hd e X1) (hd e X2) (hd e X4) D B (qi r) u * c8 * X1 u x) (fun _ _ => rfl)
    (fun j hj => by rw [ds_of_not _ _ _ _ _ _ hj, zero_mul, zero_mul]) (fun u hu => by rw [ds_of_not _ _ _ _ _ _ hu, zero_mul, zero_mul])

/-- The block's share of its keys' gradient. -/
theorem dk640_eq (u : Fin 640) (x : Fin 128) : dk640 mask mine bias q k v o dl (ix2 u x) =
    if x.val / 64 = e.val then ∑ r, ds (hd e X0) (hd e X1) (hd e X2) (hd e X4) D B (qi r) (ki u) * c8 * X0 (qi r) x else 0 := by
  pointwise [dk640, dsc640, only, lanes]
  simp only [H.mine, H.q, select_word, ds640_eq H]
  by_cases h : x.val / 64 = e.val
  · simp only [if_pos h]; rfl
  · simp only [if_neg h, Finset.sum_const_zero]

/-- The block's share of its values' gradient. -/
theorem dv640_eq (hden : ∀ t, rden (live t) (logit (hd e X0) (hd e X1) B t) ≠ 0) (u : Fin 640) (x : Fin 128) :
    dv640 mask mine bias q k o (ix2 u x) =
    if x.val / 64 = e.val then ∑ r, X4 (qi r) x * wt (hd e X0) (hd e X1) B (qi r) (ki u) else 0 := by
  pointwise [dv640, only, lanes]
  simp only [H.mine, H.o, select_word, wt640_eq H hden]
  by_cases h : x.val / 64 = e.val
  · simp only [if_pos h]
  · simp only [if_neg h, Finset.sum_const_zero]
end R640

end Cert.KernelIdeal.Attn

end
-- ==== Proof.Masks.lean ====
/-
  WHAT THE BLOCKS OF A GRID POINT ARE GIVEN: the masks, the head's lanes, the bias tables and the rows of the argument blocks
  read at an index, and from them `BlockIs` of each of the point's eight blocks.
-/
module

public import proofs.«01_k».proof.Proof.BlockRead

@[expose] public section

set_option maxRecDepth 16384

noncomputable section

namespace Cert.KernelIdeal.Attn

open Cert.KernelIdeal Cert.KernelIdeal.Gen Idealize.ShloMosaic Idealize.ShloMosaic.TcCoe Idealize.SL.Sem Cert.AttnRow Cert.AttnSpec

theorem ofBool_word (p : Prop) [Decidable p] : BitVec.ofBool (decide p) = if p then 1#1 else 0#1 := by
  by_cases h : p <;> simp [h]

/-- The wide mask: key `j` of the block, counted from 128 before its first query, is in query `r`'s window. -/
theorem pay1_eq (r : Fin 512) (j : Fin 640) : k0_pay1 (ix2 r j) = if r.val ≤ j.val ∧ j.val ≤ r.val + 128 then 1#1 else 0#1 := by
  pointwise [k0_pay1]
  have e : IntOp.addi (BitVec.ofNat 32 r.val) 128#32 = BitVec.ofNat 32 (r.val + 128) := by
    show BitVec.ofNat 32 r.val + BitVec.ofNat 32 128 = _
    exact (BitVec.ofNat_add _ _).symm
  rw [e]
  rw [WordCmp.cmpi_sge_ofNat (by omega) (by omega), WordCmp.cmpi_sle_ofNat (by omega) (by omega), ofBool_word, ofBool_word]
  by_cases h1 : r.val ≤ j.val <;> by_cases h2 : j.val ≤ r.val + 128 <;> simp [h1, h2, IntOp.andi]

/-- The narrow mask: the wide one without the 128 keys before the block. -/
theorem pay2_eq (r : Fin 512) (j : Fin 512) : k0_pay2 (ix2 r j) = if r.val ≤ 128 + j.val ∧ 128 + j.val ≤ r.val + 128 then 1#1 else 0#1 := by
  have h : k0_pay2 (ix2 r j) = k0_pay1 (ix2 r ⟨128 + j.val, by omega⟩) := by pointwise [k0_pay2]
  rw [h, pay1_eq]

theorem mine0_eq (x : Fin 128) : mineOf 1#1 (ix2 0 x) = if x.val / 64 = (0 : Fin 2).val then 1#1 else 0#1 := by
  pointwise [mineOf, k0_pay5]
  rw [WordCmp.cmpi_slt_ofNat (by omega) (by omega), ofBool_word]
  by_cases h : x.val < 64
  · rw [if_pos h, if_pos (by show x.val / 64 = 0; omega)]; rfl
  · rw [if_neg h, if_neg (by show ¬ x.val / 64 = 0; omega)]; rfl
theorem mine1_eq (x : Fin 128) : mineOf 0#1 (ix2 0 x) = if x.val / 64 = (1 : Fin 2).val then 1#1 else 0#1 := by
  pointwise [mineOf, k0_pay5]
  rw [WordCmp.cmpi_slt_ofNat (by omega) (by omega), ofBool_word]
  by_cases h : x.val < 64
  · rw [if_pos h, if_neg (by show ¬ x.val / 64 = 1; omega)]; rfl
  · rw [if_neg h, if_pos (by show x.val / 64 = 1; omega)]; rfl

/-- The wide bias at a key of the query's window. -/
theorem pay7_eq (b : Vec Ideal S1x128x256 .f32) (r : Fin 512) (j : Fin 640) (h1 : r.val ≤ j.val) (h2 : j.val ≤ r.val + 128) :
    k0_pay7 b (ix2 r j) = b (ix3 0 ⟨r.val % 128, Nat.mod_lt _ (by omega)⟩ ⟨(j.val - 128 * (r.val / 128)) % 256, Nat.mod_lt _ (by omega)⟩) := by
  pointwise [k0_pay7]
  split_ifs <;> first
    | (exfalso; omega)
    | exact congrArg₂ (fun x y => b (ix3 0 x y)) (Fin.ext (by dsimp only; omega)) (Fin.ext (by dsimp only; omega))

/-- The narrow bias at a key of the query's window. -/
theorem pay8_eq (b : Vec Ideal S1x128x256 .f32) (r j : Fin 512) (h1 : r.val ≤ 128 + j.val) (h2 : 128 + j.val ≤ r.val + 128) :
    k0_pay8 b (ix2 r j) = b (ix3 0 ⟨r.val % 128, Nat.mod_lt _ (by omega)⟩ ⟨(128 + j.val - 128 * (r.val / 128)) % 256, Nat.mod_lt _ (by omega)⟩) := by
  have h : k0_pay8 b (ix2 r j) = k0_pay7 b (ix2 r ⟨128 + j.val, by omega⟩) := by pointwise [k0_pay8]
  rw [h, pay7_eq b _ _ h1 h2]

/-- The first block's keys are all that its queries see. -/
theorem numbers512 (r : Fin 512) : Numbers (fun j : Fin 512 => live ⟨0 + r.val, by omega⟩ ⟨0 + j.val, by omega⟩) (live ⟨0 + r.val, by omega⟩)
    (fun j : Fin 512 => ⟨0 + j.val, by omega⟩) where
  live j h := h
  onto u hu := by
    have h1 := hu.1; have h2 := hu.2; dsimp only at h1 h2
    have e : (⟨0 + u.val, by omega⟩ : Fin 2048) = u := Fin.ext (by dsimp only; omega)
    exact ⟨⟨u.val, by omega⟩, e.symm ▸ hu, e⟩
  inj i j _ _ e := Fin.ext (by have := congrArg Fin.val e; dsimp only at this; omega)

/-- A later block's keys are all that its queries see. -/
theorem numbers640 (k0 : ℕ) (hk : k0 + 640 ≤ 2048) (r : Fin 512) :
    Numbers (fun j : Fin 640 => live ⟨k0 + 128 + r.val, by omega⟩ ⟨k0 + j.val, by omega⟩) (live ⟨k0 + 128 + r.val, by omega⟩)
    (fun j : Fin 640 => ⟨k0 + j.val, by omega⟩) where
  live j h := h
  onto u hu := by
    have h1 := hu.1; have h2 := hu.2; dsimp only at h1 h2
    have e : (⟨k0 + (u.val - k0), by omega⟩ : Fin 2048) = u := Fin.ext (by dsimp only; omega)
    exact ⟨⟨u.val - k0, by omega⟩, e.symm ▸ hu, e⟩
  inj i j _ _ e := Fin.ext (by have := congrArg Fin.val e; dsimp only at this; omega)

section point
variable (x0 x1 x2 : Vec Ideal S2048x128 .f32) (x3 : Vec Ideal S2x128x256 .f32) (x4 : Vec Ideal S2048x128 .f32) (x5 : Vec Ideal S1x2048x128 .f32)

/-- A block of an argument as a function of position and lane. -/
abbrev fn2 (x : Vec Ideal S2048x128 .f32) : Fin 2048 → Fin 128 → EReal := fun t l => x (ix2 t l)
/-- The log-sum-exp gradient of head `e` of the pair. -/
abbrev dlOf (x5 : Vec Ideal S1x2048x128 .f32) (e : Fin 2) : Fin 2048 → EReal := fun t => x5 (ix3 0 t ⟨e.val, by omega⟩)
/-- The bias table of head `e` of the pair. -/
abbrev biasOf (x3 : Vec Ideal S2x128x256 .f32) (e : Fin 2) : Fin 128 → Fin 256 → EReal := fun i j => x3 (ix3 e i j)

theorem bias0_eq (i : Fin 128) (j : Fin 256) : bias0 x3 (ix3 0 i j) = biasOf x3 0 i j := by pointwise [bias0]
theorem bias1_eq (i : Fin 128) (j : Fin 256) : bias1 x3 (ix3 0 i j) = biasOf x3 1 i j := by pointwise [bias1]

/-- Block 0 of head 0. -/
theorem is_00 : BlockIs512 0 (fn2 x0) (fn2 x1) (fn2 x2) (fn2 x4) (dlOf x5 0) (biasOf x3 0) (fun r => ⟨0 + r.val, by omega⟩) (fun j => ⟨0 + j.val, by omega⟩)
    k0_pay2 (mineOf 1#1) (k0_pay8 (bias0 x3)) (rows512 0 inb_S2048x128_S512x128_0_0 x0) (rows512 0 inb_S2048x128_S512x128_0_0 x1)
    (rows512 0 inb_S2048x128_S512x128_0_0 x2) (rows512 0 inb_S2048x128_S512x128_0_0 x4)
    (View.ld x5 (Rect.unit (s := S1x2048x128) ![0, 0, 0] S1x512x1.size inb_S1x2048x128_S1x512x1_0_0_0)) where
  mask r j := by
    rw [pay2_eq]; exact if_congr (by unfold live; simp only; omega) rfl rfl
  mine := mine0_eq
  bias r j h := by
    have h1 := h.1; have h2 := h.2; simp only at h1 h2
    rw [pay8_eq _ _ _ (by omega) (by omega), bias0_eq]
    exact congrArg₂ (biasOf x3 0) (Fin.ext (by simp only; omega)) (Fin.ext (by simp only; omega))
  q r x := by pointwise [rows512, fn2]
  k j x := by pointwise [rows512, rows640, fn2]
  v j x := by pointwise [rows512, rows640, fn2]
  o r x := by pointwise [rows512, fn2]
  dl r := by pointwise [dlOf]
  num r := numbers512 r

/-- Block 1 of head 0. -/
theorem is_01 : BlockIs640 0 (fn2 x0) (fn2 x1) (fn2 x2) (fn2 x4) (dlOf x5 0) (biasOf x3 0) (fun r => ⟨384 + 128 + r.val, by omega⟩) (fun j => ⟨384 + j.val, by omega⟩)
    k0_pay1 (mineOf 1#1) (k0_pay7 (bias0 x3)) (rows512 512 inb_S2048x128_S512x128_512_0 x0) (rows640 384 inb_S2048x128_S640x128_384_0 x1)
    (rows640 384 inb_S2048x128_S640x128_384_0 x2) (rows512 512 inb_S2048x128_S512x128_512_0 x4)
    (View.ld x5 (Rect.unit (s := S1x2048x128) ![0, 512, 0] S1x512x1.size inb_S1x2048x128_S1x512x1_0_512_0)) where
  mask r j := by
    rw [pay1_eq]; exact if_congr (by unfold live; simp only; omega) rfl rfl
  mine := mine0_eq
  bias r j h := by
    have h1 := h.1; have h2 := h.2; simp only at h1 h2
    rw [pay7_eq _ _ _ (by omega) (by omega), bias0_eq]
    exact congrArg₂ (biasOf x3 0) (Fin.ext (by simp only; omega)) (Fin.ext (by simp only; omega))
  q r x := by pointwise [rows512, fn2]
  k j x := by pointwise [rows512, rows640, fn2]
  v j x := by pointwise [rows512, rows640, fn2]
  o r x := by pointwise [rows512, fn2]
  dl r := by pointwise [dlOf]
  num r := numbers640 384 (by omega) r

/-- Block 2 of head 0. -/
theorem is_02 : BlockIs640 0 (fn2 x0) (fn2 x1) (fn2 x2) (fn2 x4) (dlOf x5 0) (biasOf x3 0) (fun r => ⟨896 + 128 + r.val, by omega⟩) (fun j => ⟨896 + j.val, by omega⟩)
    k0_pay1 (mineOf 1#1) (k0_pay7 (bias0 x3)) (rows512 1024 inb_S2048x128_S512x128_1024_0 x0) (rows640 896 inb_S2048x128_S640x128_896_0 x1)
    (rows640 896 inb_S2048x128_S640x128_896_0 x2) (rows512 1024 inb_S2048x128_S512x128_1024_0 x4)
    (View.ld x5 (Rect.unit (s := S1x2048x128) ![0, 1024, 0] S1x512x1.size inb_S1x2048x128_S1x512x1_0_1024_0)) where
  mask r j := by
    rw [pay1_eq]; exact if_congr (by unfold live; simp only; omega) rfl rfl
  mine := mine0_eq
  bias r j h := by
    have h1 := h.1; have h2 := h.2; simp only at h1 h2
    rw [pay7_eq _ _ _ (by omega) (by omega), bias0_eq]
    exact congrArg₂ (biasOf x3 0) (Fin.ext (by simp only; omega)) (Fin.ext (by simp only; omega))
  q r x := by pointwise [rows512, fn2]
  k j x := by pointwise [rows512, rows640, fn2]
  v j x := by pointwise [rows512, rows640, fn2]
  o r x := by pointwise [rows512, fn2]
  dl r := by pointwise [dlOf]
  num r := numbers640 896 (by omega) r

/-- Block 3 of head 0. -/
theorem is_03 : BlockIs640 0 (fn2 x0) (fn2 x1) (fn2 x2) (fn2 x4) (dlOf x5 0) (biasOf x3 0) (fun r => ⟨1408 + 128 + r.val, by omega⟩) (fun j => ⟨1408 + j.val, by omega⟩)
    k0_pay1 (mineOf 1#1) (k0_pay7 (bias0 x3)) (rows512 1536 inb_S2048x128_S512x128_1536_0 x0) (rows640 1408 inb_S2048x128_S640x128_1408_0 x1)
    (rows640 1408 inb_S2048x128_S640x128_1408_0 x2) (rows512 1536 inb_S2048x128_S512x128_1536_0 x4)
    (View.ld x5 (Rect.unit (s := S1x2048x128) ![0, 1536, 0] S1x512x1.size inb_S1x2048x128_S1x512x1_0_1536_0)) where
  mask r j := by
    rw [pay1_eq]; exact if_congr (by unfold live; simp only; omega) rfl rfl
  mine := mine0_eq
  bias r j h := by
    have h1 := h.1; have h2 := h.2; simp only at h1 h2
    rw [pay7_eq _ _ _ (by omega) (by omega), bias0_eq]
    exact congrArg₂ (biasOf x3 0) (Fin.ext (by simp only; omega)) (Fin.ext (by simp only; omega))
  q r x := by pointwise [rows512, fn2]
  k j x := by pointwise [rows512, rows640, fn2]
  v j x := by pointwise [rows512, rows640, fn2]
  o r x := by pointwise [rows512, fn2]
  dl r := by pointwise [dlOf]
  num r := numbers640 1408 (by omega) r

/-- Block 0 of head 1. -/
theorem is_10 : BlockIs512 1 (fn2 x0) (fn2 x1) (fn2 x2) (fn2 x4) (dlOf x5 1) (biasOf x3 1) (fun r => ⟨0 + r.val, by omega⟩) (fun j => ⟨0 + j.val, by omega⟩)
    k0_pay2 (mineOf 0#1) (k0_pay8 (bias1 x3)) (rows512 0 inb_S2048x128_S512x128_0_0 x0) (rows512 0 inb_S2048x128_S512x128_0_0 x1)
    (rows512 0 inb_S2048x128_S512x128_0_0 x2) (rows512 0 inb_S2048x128_S512x128_0_0 x4)
    (View.ld x5 (Rect.unit (s := S1x2048x128) ![0, 0, 1] S1x512x1.size inb_S1x2048x128_S1x512x1_0_0_1)) where
  mask r j := by
    rw [pay2_eq]; exact if_congr (by unfold live; simp only; omega) rfl rfl
  mine := mine1_eq
  bias r j h := by
    have h1 := h.1; have h2 := h.2; simp only at h1 h2
    rw [pay8_eq _ _ _ (by omega) (by omega), bias1_eq]
    exact congrArg₂ (biasOf x3 1) (Fin.ext (by simp only; omega)) (Fin.ext (by simp only; omega))
  q r x := by pointwise [rows512, fn2]
  k j x := by pointwise [rows512, rows640, fn2]
  v j x := by pointwise [rows512, rows640, fn2]
  o r x := by pointwise [rows512, fn2]
  dl r := by pointwise [dlOf]
  num r := numbers512 r

/-- Block 1 of head 1. -/
theorem is_11 : BlockIs640 1 (fn2 x0) (fn2 x1) (fn2 x2) (fn2 x4) (dlOf x5 1) (biasOf x3 1) (fun r => ⟨384 + 128 + r.val, by omega⟩) (fun j => ⟨384 + j.val, by omega⟩)
    k0_pay1 (mineOf 0#1) (k0_pay7 (bias1 x3)) (rows512 512 inb_S2048x128_S512x128_512_0 x0) (rows640 384 inb_S2048x128_S640x128_384_0 x1)
    (rows640 384 inb_S2048x128_S640x128_384_0 x2) (rows512 512 inb_S2048x128_S512x128_512_0 x4)
    (View.ld x5 (Rect.unit (s := S1x2048x128) ![0, 512, 1] S1x512x1.size inb_S1x2048x128_S1x512x1_0_512_1)) where
  mask r j := by
    rw [pay1_eq]; exact if_congr (by unfold live; simp only; omega) rfl rfl
  mine := mine1_eq
  bias r j h := by
    have h1 := h.1; have h2 := h.2; simp only at h1 h2
    rw [pay7_eq _ _ _ (by omega) (by omega), bias1_eq]
    exact congrArg₂ (biasOf x3 1) (Fin.ext (by simp only; omega)) (Fin.ext (by simp only; omega))
  q r x := by pointwise [rows512, fn2]
  k j x := by pointwise [rows512, rows640, fn2]
  v j x := by pointwise [rows512, rows640, fn2]
  o r x := by pointwise [rows512, fn2]
  dl r := by pointwise [dlOf]
  num r := numbers640 384 (by omega) r

/-- Block 2 of head 1. -/
theorem is_12 : BlockIs640 1 (fn2 x0) (fn2 x1) (fn2 x2) (fn2 x4) (dlOf x5 1) (biasOf x3 1) (fun r => ⟨896 + 128 + r.val, by omega⟩) (fun j => ⟨896 + j.val, by omega⟩)
    k0_pay1 (mineOf 0#1) (k0_pay7 (bias1 x3)) (rows512 1024 inb_S2048x128_S512x128_1024_0 x0) (rows640 896 inb_S2048x128_S640x128_896_0 x1)
    (rows640 896 inb_S2048x128_S640x128_896_0 x2) (rows512 1024 inb_S2048x128_S512x128_1024_0 x4)
    (View.ld x5 (Rect.unit (s := S1x2048x128) ![0, 1024, 1] S1x512x1.size inb_S1x2048x128_S1x512x1_0_1024_1)) where
  mask r j := by
    rw [pay1_eq]; exact if_congr (by unfold live; simp only; omega) rfl rfl
  mine := mine1_eq
  bias r j h := by
    have h1 := h.1; have h2 := h.2; simp only at h1 h2
    rw [pay7_eq _ _ _ (by omega) (by omega), bias1_eq]
    exact congrArg₂ (biasOf x3 1) (Fin.ext (by simp only; omega)) (Fin.ext (by simp only; omega))
  q r x := by pointwise [rows512, fn2]
  k j x := by pointwise [rows512, rows640, fn2]
  v j x := by pointwise [rows512, rows640, fn2]
  o r x := by pointwise [rows512, fn2]
  dl r := by pointwise [dlOf]
  num r := numbers640 896 (by omega) r

/-- Block 3 of head 1. -/
theorem is_13 : BlockIs640 1 (fn2 x0) (fn2 x1) (fn2 x2) (fn2 x4) (dlOf x5 1) (biasOf x3 1) (fun r => ⟨1408 + 128 + r.val, by omega⟩) (fun j => ⟨1408 + j.val, by omega⟩)
    k0_pay1 (mineOf 0#1) (k0_pay7 (bias1 x3)) (rows512 1536 inb_S2048x128_S512x128_1536_0 x0) (rows640 1408 inb_S2048x128_S640x128_1408_0 x1)
    (rows640 1408 inb_S2048x128_S640x128_1408_0 x2) (rows512 1536 inb_S2048x128_S512x128_1536_0 x4)
    (View.ld x5 (Rect.unit (s := S1x2048x128) ![0, 1536, 1] S1x512x1.size inb_S1x2048x128_S1x512x1_0_1536_1)) where
  mask r j := by
    rw [pay1_eq]; exact if_congr (by unfold live; simp only; omega) rfl rfl
  mine := mine1_eq
  bias r j h := by
    have h1 := h.1; have h2 := h.2; simp only at h1 h2
    rw [pay7_eq _ _ _ (by omega) (by omega), bias1_eq]
    exact congrArg₂ (biasOf x3 1) (Fin.ext (by simp only; omega)) (Fin.ext (by simp only; omega))
  q r x := by pointwise [rows512, fn2]
  k j x := by pointwise [rows512, rows640, fn2]
  v j x := by pointwise [rows512, rows640, fn2]
  o r x := by pointwise [rows512, fn2]
  dl r := by pointwise [dlOf]
  num r := numbers640 1408 (by omega) r

end point

end Cert.KernelIdeal.Attn

end
-- ==== Proof.Point.lean ====
/-
  WHAT A GRID POINT COMPUTES: the staging buffers that a point leaves (Block.lean's `dqOf`, `dkOf`, `dvOf`, `dbFirst`, `dbNext`)
  hold, head by head, the gradients of Spec.lean.
-/
module

public import proofs.«01_k».proof.Proof.Masks

@[expose] public section

set_option maxRecDepth 16384

noncomputable section

namespace Cert.KernelIdeal.Attn

open Cert.KernelIdeal Cert.KernelIdeal.Gen Idealize.ShloMosaic Idealize.ShloMosaic.TcCoe Idealize.SL.Sem Cert.AttnRow Cert.AttnSpec

/-- A rectangle of a matrix overlaid, read at an index. -/
theorem overlay2 {α : Type} {m n K L k0 l0 : ℕ} (h : ∀ a, (![k0, l0] : Fin 2 → ℕ) a + (![K, L] : Fin 2 → ℕ) a ≤ (⟨2, ![m, n]⟩ : Shape).size a)
    (X : (⟨2, ![m, n]⟩ : Shape).Idx → α) (G : (⟨2, ![K, L]⟩ : Shape).Idx → α) (t : Fin m) (l : Fin n) :
    (Rect.unit (s := ⟨2, ![m, n]⟩) ![k0, l0] ![K, L] h).overlay X G (ix2 t l) =
      if hh : (k0 ≤ t.val ∧ t.val < k0 + K) ∧ (l0 ≤ l.val ∧ l.val < l0 + L) then
        G (ix2 ⟨t.val - k0, by omega⟩ ⟨l.val - l0, by omega⟩) else X (ix2 t l) := by
  by_cases hh : (k0 ≤ t.val ∧ t.val < k0 + K) ∧ (l0 ≤ l.val ∧ l.val < l0 + L)
  · rw [dif_pos hh]
    have e : (ix2 t l : (⟨2, ![m, n]⟩ : Shape).Idx) = (Rect.unit (s := ⟨2, ![m, n]⟩) ![k0, l0] ![K, L] h).emb
        (ix2 ⟨t.val - k0, by omega⟩ ⟨l.val - l0, by omega⟩) := by
      funext a
      revert a
      refine Fin.forall_fin_two.mpr ⟨Fin.ext ?_, Fin.ext ?_⟩
      · show t.val = k0 + 1 * (t.val - k0); omega
      · show l.val = l0 + 1 * (l.val - l0); omega
    rw [e]; exact Rect.overlay_emb _ _ _ _
  · rw [dif_neg hh]
    refine Rect.overlay_of_not_mem _ _ _ fun hm => hh ?_
    have := Rect.mem_set_unit.1 hm
    exact ⟨this 0, this 1⟩

/-- A sub-array of a stack overlaid, read at an index. -/
theorem overlay3 {α : Type} {p m n a0 : ℕ} (h : ∀ a, (![a0, 0, 0] : Fin 3 → ℕ) a + (![1, m, n] : Fin 3 → ℕ) a ≤ (⟨3, ![p, m, n]⟩ : Shape).size a)
    (X : (⟨3, ![p, m, n]⟩ : Shape).Idx → α) (G : (⟨3, ![1, m, n]⟩ : Shape).Idx → α) (e : Fin p) (i : Fin m) (j : Fin n) :
    (Rect.unit (s := ⟨3, ![p, m, n]⟩) ![a0, 0, 0] ![1, m, n] h).overlay X G (ix3 e i j) =
      if e.val = a0 then G (ix3 0 i j) else X (ix3 e i j) := by
  by_cases hh : e.val = a0
  · rw [if_pos hh]
    have e : (ix3 e i j : (⟨3, ![p, m, n]⟩ : Shape).Idx) = (Rect.unit (s := ⟨3, ![p, m, n]⟩) ![a0, 0, 0] ![1, m, n] h).emb (ix3 0 i j) := by
      funext a
      match a with
      | ⟨0, _⟩ => exact Fin.ext (by show e.val = a0 + 1 * 0; omega)
      | ⟨1, _⟩ => exact Fin.ext (by show i.val = 0 + 1 * i.val; omega)
      | ⟨2, _⟩ => exact Fin.ext (by show j.val = 0 + 1 * j.val; omega)
    rw [e]; exact Rect.overlay_emb _ _ _ _
  · rw [if_neg hh]
    refine Rect.overlay_of_not_mem _ _ _ fun hm => hh ?_
    have h0 : a0 ≤ e.val ∧ e.val < a0 + 1 := Rect.mem_set_unit.1 hm 0
    omega

/-- A sum over 2048 positions in four runs of 512. -/
theorem sum_runs (f : Fin 2048 → EReal) : ∑ t, f t = (((∑ r : Fin 512, f ⟨0 + r.val, by omega⟩) + ∑ r : Fin 512, f ⟨512 + r.val, by omega⟩) +
    ∑ r : Fin 512, f ⟨1024 + r.val, by omega⟩) + ∑ r : Fin 512, f ⟨1536 + r.val, by omega⟩ := by
  rw [show ∑ t, f t = ∑ t : Fin (512 + 1536), f t from rfl, Fin.sum_univ_add,
    show ∑ i : Fin 1536, f (Fin.natAdd 512 i) = ∑ i : Fin (512 + 1024), f (Fin.natAdd 512 i) from rfl, Fin.sum_univ_add,
    show ∑ i : Fin 1024, f (Fin.natAdd 512 (Fin.natAdd 512 i)) = ∑ i : Fin (512 + 512), f (Fin.natAdd 512 (Fin.natAdd 512 i)) from rfl,
    Fin.sum_univ_add, ← add_assoc, ← add_assoc]
  refine congrArg₂ (· + ·) (congrArg₂ (· + ·) (congrArg₂ (· + ·) ?_ ?_) ?_) ?_ <;>
    exact Finset.sum_congr rfl fun r _ => congrArg f (Fin.ext (by
      simp only [Fin.val_castAdd, Fin.val_natAdd] <;> omega))

theorem addRows512_eq (k0 : ℕ) (h) (st : Vec Ideal S2048x128 .f32) (blk : FVec Ideal S512x128 .f32) (t : Fin 2048) (x : Fin 128) :
    addRows512 k0 h st blk (ix2 t x) = st (ix2 t x) + if hh : k0 ≤ t.val ∧ t.val < k0 + 512 then blk (ix2 ⟨t.val - k0, by omega⟩ x) else 0 := by
  refine (overlay2 h _ _ t x).trans ?_
  by_cases hh : k0 ≤ t.val ∧ t.val < k0 + 512
  · rw [dif_pos hh, dif_pos ⟨hh, by omega⟩]
    pointwise
    refine congrArg₂ (· + ·) (congrArg st ?_) ?_
    · exact congrArg₂ ix2 (Fin.ext (by dsimp only <;> omega)) (Fin.ext (by dsimp only <;> omega))
    · exact congrArg blk (congrArg₂ ix2 rfl (Fin.ext (by dsimp only <;> omega)))
  · rw [dif_neg hh, dif_neg (fun hc => hh hc.1), add_zero]

theorem addRows640_eq (k0 : ℕ) (h) (st : Vec Ideal S2048x128 .f32) (blk : FVec Ideal S640x128 .f32) (t : Fin 2048) (x : Fin 128) :
    addRows640 k0 h st blk (ix2 t x) = st (ix2 t x) + if hh : k0 ≤ t.val ∧ t.val < k0 + 640 then blk (ix2 ⟨t.val - k0, by omega⟩ x) else 0 := by
  refine (overlay2 h _ _ t x).trans ?_
  by_cases hh : k0 ≤ t.val ∧ t.val < k0 + 640
  · rw [dif_pos hh, dif_pos ⟨hh, by omega⟩]
    pointwise
    refine congrArg₂ (· + ·) (congrArg st ?_) ?_
    · exact congrArg₂ ix2 (Fin.ext (by dsimp only <;> omega)) (Fin.ext (by dsimp only <;> omega))
    · exact congrArg blk (congrArg₂ ix2 rfl (Fin.ext (by dsimp only <;> omega)))
  · rw [dif_neg hh, dif_neg (fun hc => hh hc.1), add_zero]

section point
variable (x0 x1 x2 : Vec Ideal S2048x128 .f32) (x3 : Vec Ideal S2x128x256 .f32) (x4 : Vec Ideal S2048x128 .f32) (x5 : Vec Ideal S1x2048x128 .f32)

/-- The gradient of the logits of head `e` of the pair. -/
abbrev dsOf (e : Fin 2) : Fin 2048 → Fin 2048 → EReal :=
  ds (hd e (fn2 x0)) (hd e (fn2 x1)) (hd e (fn2 x2)) (hd e (fn2 x4)) (dlOf x5 e) (biasOf x3 e)
/-- The attention weights of head `e` of the pair. -/
abbrev wtOf (e : Fin 2) : Fin 2048 → Fin 2048 → EReal := wt (hd e (fn2 x0)) (hd e (fn2 x1)) (biasOf x3 e)
/-- No row of head `e` has a zero denominator. -/
abbrev DenOf (e : Fin 2) : Prop := ∀ t, rden (live t) (logit (hd e (fn2 x0)) (hd e (fn2 x1)) (biasOf x3 e) t) ≠ 0

/-- Head `e`'s gradient of the queries, at every lane. -/
def qLane (e : Fin 2) (t : Fin 2048) (x : Fin 128) : EReal :=
  if x.val / 64 = e.val then ∑ u, dsOf x0 x1 x2 x3 x4 x5 e t u * c8 * fn2 x1 u x else 0
/-- What the 512 queries from `q0` add to head `e`'s gradient of the keys, at every lane. -/
def kLane (e : Fin 2) (q0 : ℕ) (hq : q0 + 512 ≤ 2048) (u : Fin 2048) (x : Fin 128) : EReal :=
  if x.val / 64 = e.val then ∑ r : Fin 512, dsOf x0 x1 x2 x3 x4 x5 e ⟨q0 + r.val, by omega⟩ u * c8 * fn2 x0 ⟨q0 + r.val, by omega⟩ x else 0
/-- What the 512 queries from `q0` add to head `e`'s gradient of the values, at every lane. -/
def vLane (e : Fin 2) (q0 : ℕ) (hq : q0 + 512 ≤ 2048) (u : Fin 2048) (x : Fin 128) : EReal :=
  if x.val / 64 = e.val then ∑ r : Fin 512, fn2 x4 ⟨q0 + r.val, by omega⟩ x * wtOf x0 x1 x3 e ⟨q0 + r.val, by omega⟩ u else 0
/-- Block `n`'s gradient of head `e`'s bias table. -/
abbrev bBlk (e : Fin 2) (n : Fin 16) (i : Fin 128) (j : Fin 256) : EReal :=
  gBblk (hd e (fn2 x0)) (hd e (fn2 x1)) (hd e (fn2 x2)) (hd e (fn2 x4)) (dlOf x5 e) (biasOf x3 e) n i j

theorem bBlk_of (e : Fin 2) (t u : Fin 2048) (n : Fin 16) (i : Fin 128) (j : Fin 256) (ht : t.val = 128 * n.val + i.val)
    (hu : u.val + 128 = 128 * n.val + j.val) : dsOf x0 x1 x2 x3 x4 x5 e t u = bBlk x0 x1 x2 x3 x4 x5 e n i j := by
  unfold bBlk gBblk
  rw [dif_pos (by omega)]
  exact congrArg₂ (dsOf x0 x1 x2 x3 x4 x5 e) (Fin.ext ht) (Fin.ext (by dsimp only <;> omega))
theorem bBlk_none (e : Fin 2) (n : Fin 16) (i : Fin 128) (j : Fin 256) (h : 128 * n.val + j.val < 128) : bBlk x0 x1 x2 x3 x4 x5 e n i j = 0 :=
  dif_neg (by omega)

theorem dq_00_at (t : Fin 2048) (r : Fin 512) (h : t.val = 0 + r.val) (x : Fin 128) :
    dq_00 x0 x1 x2 x3 x4 x5 (ix2 r x) = qLane x0 x1 x2 x3 x4 x5 0 t x := by
  refine (dq512_eq (is_00 x0 x1 x2 x3 x4 x5) r x).trans ?_
  have e : (⟨0 + r.val, by omega⟩ : Fin 2048) = t := Fin.ext (by dsimp only <;> omega)
  simp only [e]; rfl
theorem dk_00_at (u : Fin 2048) (x : Fin 128) :
    (if hh : 0 ≤ u.val ∧ u.val < 0 + 512 then dk_00 x0 x1 x2 x3 x4 x5 (ix2 ⟨u.val - 0, by omega⟩ x) else 0) = kLane x0 x1 x2 x3 x4 x5 0 0 (by omega) u x := by
  by_cases hh : 0 ≤ u.val ∧ u.val < 0 + 512
  · rw [dif_pos hh]
    refine (dk512_eq (is_00 x0 x1 x2 x3 x4 x5) _ x).trans ?_
    have e : (⟨0 + (u.val - 0), by omega⟩ : Fin 2048) = u := Fin.ext (by dsimp only <;> omega)
    simp only [e]; rfl
  · rw [dif_neg hh]
    unfold kLane
    split_ifs
    · exact (Finset.sum_eq_zero fun r _ => by
        rw [show dsOf x0 x1 x2 x3 x4 x5 0 ⟨0 + r.val, by omega⟩ u = 0 from ds_of_not _ _ _ _ _ _ (by unfold live; dsimp only <;> omega), zero_mul, zero_mul]).symm
    · rfl
theorem dv_00_at (hden : DenOf x0 x1 x3 0) (u : Fin 2048) (x : Fin 128) :
    (if hh : 0 ≤ u.val ∧ u.val < 0 + 512 then dv_00 x0 x1 x3 x4 (ix2 ⟨u.val - 0, by omega⟩ x) else 0) = vLane x0 x1 x3 x4 0 0 (by omega) u x := by
  by_cases hh : 0 ≤ u.val ∧ u.val < 0 + 512
  · rw [dif_pos hh]
    refine (dv512_eq (is_00 x0 x1 x0 x3 x4 (fun _ => 0)) hden _ x).trans ?_
    have e : (⟨0 + (u.val - 0), by omega⟩ : Fin 2048) = u := Fin.ext (by dsimp only <;> omega)
    simp only [e]; rfl
  · rw [dif_neg hh]
    unfold vLane
    split_ifs
    · exact (Finset.sum_eq_zero fun r _ => by
        rw [show wtOf x0 x1 x3 0 ⟨0 + r.val, by omega⟩ u = 0 from wt_of_not _ _ _ (by unfold live; dsimp only <;> omega), mul_zero]).symm
    · rfl
theorem fold_00 (i : Fin 128) (j : Fin 256) :
    (if hh : j.val < 128 then prevFold512 (ds_00 x0 x1 x2 x3 x4 x5) (ix2 i ⟨j.val, hh⟩) else 0) +
      (if hh : 128 ≤ j.val then hereFold512 (ds_00 x0 x1 x2 x3 x4 x5) (ix2 i ⟨j.val - 128, by omega⟩) else 0) =
    ((bBlk x0 x1 x2 x3 x4 x5 0 0 i j + bBlk x0 x1 x2 x3 x4 x5 0 1 i j) + bBlk x0 x1 x2 x3 x4 x5 0 2 i j) + bBlk x0 x1 x2 x3 x4 x5 0 3 i j := by
  by_cases hh : j.val < 128
  · rw [dif_pos hh, dif_neg (by omega), add_zero]
    pointwise [prevFold512]
    simp only [ds512_eq (is_00 x0 x1 x2 x3 x4 x5)]
    rw [bBlk_none _ _ _ _ _ _ 0 0 i j (by show 128 * 0 + _ < _; omega), zero_add (bBlk x0 x1 x2 x3 x4 x5 0 1 i j)]
    exact congrArg₂ (· + ·) (congrArg₂ (· + ·) (bBlk_of _ _ _ _ _ _ 0 _ _ 1 i j (by show _ = 128 * 1 + _ <;> first | omega | (dsimp only <;> omega)) (by show _ = 128 * 1 + _ <;> first | omega | (dsimp only <;> omega))) (bBlk_of _ _ _ _ _ _ 0 _ _ 2 i j (by show _ = 128 * 2 + _ <;> first | omega | (dsimp only <;> omega)) (by show _ = 128 * 2 + _ <;> first | omega | (dsimp only <;> omega)))) (bBlk_of _ _ _ _ _ _ 0 _ _ 3 i j (by show _ = 128 * 3 + _ <;> first | omega | (dsimp only <;> omega)) (by show _ = 128 * 3 + _ <;> first | omega | (dsimp only <;> omega)))
  · rw [dif_neg hh, dif_pos (by omega), zero_add]
    pointwise [hereFold512]
    simp only [ds512_eq (is_00 x0 x1 x2 x3 x4 x5)]
    exact congrArg₂ (· + ·) (congrArg₂ (· + ·) (congrArg₂ (· + ·) (bBlk_of _ _ _ _ _ _ 0 _ _ 0 i j (by show _ = 128 * 0 + _ <;> first | omega | (dsimp only <;> omega)) (by show _ = 128 * 0 + _ <;> first | omega | (dsimp only <;> omega))) (bBlk_of _ _ _ _ _ _ 0 _ _ 1 i j (by show _ = 128 * 1 + _ <;> first | omega | (dsimp only <;> omega)) (by show _ = 128 * 1 + _ <;> first | omega | (dsimp only <;> omega)))) (bBlk_of _ _ _ _ _ _ 0 _ _ 2 i j (by show _ = 128 * 2 + _ <;> first | omega | (dsimp only <;> omega)) (by show _ = 128 * 2 + _ <;> first | omega | (dsimp only <;> omega)))) (bBlk_of _ _ _ _ _ _ 0 _ _ 3 i j (by show _ = 128 * 3 + _ <;> first | omega | (dsimp only <;> omega)) (by show _ = 128 * 3 + _ <;> first | omega | (dsimp only <;> omega)))

theorem dq_01_at (t : Fin 2048) (r : Fin 512) (h : t.val = 512 + r.val) (x : Fin 128) :
    dq_01 x0 x1 x2 x3 x4 x5 (ix2 r x) = qLane x0 x1 x2 x3 x4 x5 0 t x := by
  refine (dq640_eq (is_01 x0 x1 x2 x3 x4 x5) r x).trans ?_
  have e : (⟨384 + 128 + r.val, by omega⟩ : Fin 2048) = t := Fin.ext (by dsimp only <;> omega)
  simp only [e]; rfl
theorem dk_01_at (u : Fin 2048) (x : Fin 128) :
    (if hh : 384 ≤ u.val ∧ u.val < 384 + 640 then dk_01 x0 x1 x2 x3 x4 x5 (ix2 ⟨u.val - 384, by omega⟩ x) else 0) = kLane x0 x1 x2 x3 x4 x5 0 512 (by omega) u x := by
  by_cases hh : 384 ≤ u.val ∧ u.val < 384 + 640
  · rw [dif_pos hh]
    refine (dk640_eq (is_01 x0 x1 x2 x3 x4 x5) _ x).trans ?_
    have e : (⟨384 + (u.val - 384), by omega⟩ : Fin 2048) = u := Fin.ext (by dsimp only <;> omega)
    simp only [e]; rfl
  · rw [dif_neg hh]
    unfold kLane
    split_ifs
    · exact (Finset.sum_eq_zero fun r _ => by
        rw [show dsOf x0 x1 x2 x3 x4 x5 0 ⟨512 + r.val, by omega⟩ u = 0 from ds_of_not _ _ _ _ _ _ (by unfold live; dsimp only <;> omega), zero_mul, zero_mul]).symm
    · rfl
theorem dv_01_at (hden : DenOf x0 x1 x3 0) (u : Fin 2048) (x : Fin 128) :
    (if hh : 384 ≤ u.val ∧ u.val < 384 + 640 then dv_01 x0 x1 x3 x4 (ix2 ⟨u.val - 384, by omega⟩ x) else 0) = vLane x0 x1 x3 x4 0 512 (by omega) u x := by
  by_cases hh : 384 ≤ u.val ∧ u.val < 384 + 640
  · rw [dif_pos hh]
    refine (dv640_eq (is_01 x0 x1 x0 x3 x4 (fun _ => 0)) hden _ x).trans ?_
    have e : (⟨384 + (u.val - 384), by omega⟩ : Fin 2048) = u := Fin.ext (by dsimp only <;> omega)
    simp only [e]; rfl
  · rw [dif_neg hh]
    unfold vLane
    split_ifs
    · exact (Finset.sum_eq_zero fun r _ => by
        rw [show wtOf x0 x1 x3 0 ⟨512 + r.val, by omega⟩ u = 0 from wt_of_not _ _ _ (by unfold live; dsimp only <;> omega), mul_zero]).symm
    · rfl
theorem fold_01 (i : Fin 128) (j : Fin 256) :
    (if hh : j.val < 128 then prevFold640 (ds_01 x0 x1 x2 x3 x4 x5) (ix2 i ⟨j.val, hh⟩) else 0) +
      (if hh : 128 ≤ j.val then hereFold640 (ds_01 x0 x1 x2 x3 x4 x5) (ix2 i ⟨j.val - 128, by omega⟩) else 0) =
    ((bBlk x0 x1 x2 x3 x4 x5 0 4 i j + bBlk x0 x1 x2 x3 x4 x5 0 5 i j) + bBlk x0 x1 x2 x3 x4 x5 0 6 i j) + bBlk x0 x1 x2 x3 x4 x5 0 7 i j := by
  by_cases hh : j.val < 128
  · rw [dif_pos hh, dif_neg (by omega), add_zero]
    pointwise [prevFold640]
    simp only [ds640_eq (is_01 x0 x1 x2 x3 x4 x5)]
    exact congrArg₂ (· + ·) (congrArg₂ (· + ·) (congrArg₂ (· + ·) (bBlk_of _ _ _ _ _ _ 0 _ _ 4 i j (by show _ = 128 * 4 + _ <;> first | omega | (dsimp only <;> omega)) (by show _ = 128 * 4 + _ <;> first | omega | (dsimp only <;> omega))) (bBlk_of _ _ _ _ _ _ 0 _ _ 5 i j (by show _ = 128 * 5 + _ <;> first | omega | (dsimp only <;> omega)) (by show _ = 128 * 5 + _ <;> first | omega | (dsimp only <;> omega)))) (bBlk_of _ _ _ _ _ _ 0 _ _ 6 i j (by show _ = 128 * 6 + _ <;> first | omega | (dsimp only <;> omega)) (by show _ = 128 * 6 + _ <;> first | omega | (dsimp only <;> omega)))) (bBlk_of _ _ _ _ _ _ 0 _ _ 7 i j (by show _ = 128 * 7 + _ <;> first | omega | (dsimp only <;> omega)) (by show _ = 128 * 7 + _ <;> first | omega | (dsimp only <;> omega)))
  · rw [dif_neg hh, dif_pos (by omega), zero_add]
    pointwise [hereFold640]
    simp only [ds640_eq (is_01 x0 x1 x2 x3 x4 x5)]
    exact congrArg₂ (· + ·) (congrArg₂ (· + ·) (congrArg₂ (· + ·) (bBlk_of _ _ _ _ _ _ 0 _ _ 4 i j (by show _ = 128 * 4 + _ <;> first | omega | (dsimp only <;> omega)) (by show _ = 128 * 4 + _ <;> first | omega | (dsimp only <;> omega))) (bBlk_of _ _ _ _ _ _ 0 _ _ 5 i j (by show _ = 128 * 5 + _ <;> first | omega | (dsimp only <;> omega)) (by show _ = 128 * 5 + _ <;> first | omega | (dsimp only <;> omega)))) (bBlk_of _ _ _ _ _ _ 0 _ _ 6 i j (by show _ = 128 * 6 + _ <;> first | omega | (dsimp only <;> omega)) (by show _ = 128 * 6 + _ <;> first | omega | (dsimp only <;> omega)))) (bBlk_of _ _ _ _ _ _ 0 _ _ 7 i j (by show _ = 128 * 7 + _ <;> first | omega | (dsimp only <;> omega)) (by show _ = 128 * 7 + _ <;> first | omega | (dsimp only <;> omega)))

theorem dq_02_at (t : Fin 2048) (r : Fin 512) (h : t.val = 1024 + r.val) (x : Fin 128) :
    dq_02 x0 x1 x2 x3 x4 x5 (ix2 r x) = qLane x0 x1 x2 x3 x4 x5 0 t x := by
  refine (dq640_eq (is_02 x0 x1 x2 x3 x4 x5) r x).trans ?_
  have e : (⟨896 + 128 + r.val, by omega⟩ : Fin 2048) = t := Fin.ext (by dsimp only <;> omega)
  simp only [e]; rfl
theorem dk_02_at (u : Fin 2048) (x : Fin 128) :
    (if hh : 896 ≤ u.val ∧ u.val < 896 + 640 then dk_02 x0 x1 x2 x3 x4 x5 (ix2 ⟨u.val - 896, by omega⟩ x) else 0) = kLane x0 x1 x2 x3 x4 x5 0 1024 (by omega) u x := by
  by_cases hh : 896 ≤ u.val ∧ u.val < 896 + 640
  · rw [dif_pos hh]
    refine (dk640_eq (is_02 x0 x1 x2 x3 x4 x5) _ x).trans ?_
    have e : (⟨896 + (u.val - 896), by omega⟩ : Fin 2048) = u := Fin.ext (by dsimp only <;> omega)
    simp only [e]; rfl
  · rw [dif_neg hh]
    unfold kLane
    split_ifs
    · exact (Finset.sum_eq_zero fun r _ => by
        rw [show dsOf x0 x1 x2 x3 x4 x5 0 ⟨1024 + r.val, by omega⟩ u = 0 from ds_of_not _ _ _ _ _ _ (by unfold live; dsimp only <;> omega), zero_mul, zero_mul]).symm
    · rfl
theorem dv_02_at (hden : DenOf x0 x1 x3 0) (u : Fin 2048) (x : Fin 128) :
    (if hh : 896 ≤ u.val ∧ u.val < 896 + 640 then dv_02 x0 x1 x3 x4 (ix2 ⟨u.val - 896, by omega⟩ x) else 0) = vLane x0 x1 x3 x4 0 1024 (by omega) u x := by
  by_cases hh : 896 ≤ u.val ∧ u.val < 896 + 640
  · rw [dif_pos hh]
    refine (dv640_eq (is_02 x0 x1 x0 x3 x4 (fun _ => 0)) hden _ x).trans ?_
    have e : (⟨896 + (u.val - 896), by omega⟩ : Fin 2048) = u := Fin.ext (by dsimp only <;> omega)
    simp only [e]; rfl
  · rw [dif_neg hh]
    unfold vLane
    split_ifs
    · exact (Finset.sum_eq_zero fun r _ => by
        rw [show wtOf x0 x1 x3 0 ⟨1024 + r.val, by omega⟩ u = 0 from wt_of_not _ _ _ (by unfold live; dsimp only <;> omega), mul_zero]).symm
    · rfl
theorem fold_02 (i : Fin 128) (j : Fin 256) :
    (if hh : j.val < 128 then prevFold640 (ds_02 x0 x1 x2 x3 x4 x5) (ix2 i ⟨j.val, hh⟩) else 0) +
      (if hh : 128 ≤ j.val then hereFold640 (ds_02 x0 x1 x2 x3 x4 x5) (ix2 i ⟨j.val - 128, by omega⟩) else 0) =
    ((bBlk x0 x1 x2 x3 x4 x5 0 8 i j + bBlk x0 x1 x2 x3 x4 x5 0 9 i j) + bBlk x0 x1 x2 x3 x4 x5 0 10 i j) + bBlk x0 x1 x2 x3 x4 x5 0 11 i j := by
  by_cases hh : j.val < 128
  · rw [dif_pos hh, dif_neg (by omega), add_zero]
    pointwise [prevFold640]
    simp only [ds640_eq (is_02 x0 x1 x2 x3 x4 x5)]
    exact congrArg₂ (· + ·) (congrArg₂ (· + ·) (congrArg₂ (· + ·) (bBlk_of _ _ _ _ _ _ 0 _ _ 8 i j (by show _ = 128 * 8 + _ <;> first | omega | (dsimp only <;> omega)) (by show _ = 128 * 8 + _ <;> first | omega | (dsimp only <;> omega))) (bBlk_of _ _ _ _ _ _ 0 _ _ 9 i j (by show _ = 128 * 9 + _ <;> first | omega | (dsimp only <;> omega)) (by show _ = 128 * 9 + _ <;> first | omega | (dsimp only <;> omega)))) (bBlk_of _ _ _ _ _ _ 0 _ _ 10 i j (by show _ = 128 * 10 + _ <;> first | omega | (dsimp only <;> omega)) (by show _ = 128 * 10 + _ <;> first | omega | (dsimp only <;> omega)))) (bBlk_of _ _ _ _ _ _ 0 _ _ 11 i j (by show _ = 128 * 11 + _ <;> first | omega | (dsimp only <;> omega)) (by show _ = 128 * 11 + _ <;> first | omega | (dsimp only <;> omega)))
  · rw [dif_neg hh, dif_pos (by omega), zero_add]
    pointwise [hereFold640]
    simp only [ds640_eq (is_02 x0 x1 x2 x3 x4 x5)]
    exact congrArg₂ (· + ·) (congrArg₂ (· + ·) (congrArg₂ (· + ·) (bBlk_of _ _ _ _ _ _ 0 _ _ 8 i j (by show _ = 128 * 8 + _ <;> first | omega | (dsimp only <;> omega)) (by show _ = 128 * 8 + _ <;> first | omega | (dsimp only <;> omega))) (bBlk_of _ _ _ _ _ _ 0 _ _ 9 i j (by show _ = 128 * 9 + _ <;> first | omega | (dsimp only <;> omega)) (by show _ = 128 * 9 + _ <;> first | omega | (dsimp only <;> omega)))) (bBlk_of _ _ _ _ _ _ 0 _ _ 10 i j (by show _ = 128 * 10 + _ <;> first | omega | (dsimp only <;> omega)) (by show _ = 128 * 10 + _ <;> first | omega | (dsimp only <;> omega)))) (bBlk_of _ _ _ _ _ _ 0 _ _ 11 i j (by show _ = 128 * 11 + _ <;> first | omega | (dsimp only <;> omega)) (by show _ = 128 * 11 + _ <;> first | omega | (dsimp only <;> omega)))

theorem dq_03_at (t : Fin 2048) (r : Fin 512) (h : t.val = 1536 + r.val) (x : Fin 128) :
    dq_03 x0 x1 x2 x3 x4 x5 (ix2 r x) = qLane x0 x1 x2 x3 x4 x5 0 t x := by
  refine (dq640_eq (is_03 x0 x1 x2 x3 x4 x5) r x).trans ?_
  have e : (⟨1408 + 128 + r.val, by omega⟩ : Fin 2048) = t := Fin.ext (by dsimp only <;> omega)
  simp only [e]; rfl
theorem dk_03_at (u : Fin 2048) (x : Fin 128) :
    (if hh : 1408 ≤ u.val ∧ u.val < 1408 + 640 then dk_03 x0 x1 x2 x3 x4 x5 (ix2 ⟨u.val - 1408, by omega⟩ x) else 0) = kLane x0 x1 x2 x3 x4 x5 0 1536 (by omega) u x := by
  by_cases hh : 1408 ≤ u.val ∧ u.val < 1408 + 640
  · rw [dif_pos hh]
    refine (dk640_eq (is_03 x0 x1 x2 x3 x4 x5) _ x).trans ?_
    have e : (⟨1408 + (u.val - 1408), by omega⟩ : Fin 2048) = u := Fin.ext (by dsimp only <;> omega)
    simp only [e]; rfl
  · rw [dif_neg hh]
    unfold kLane
    split_ifs
    · exact (Finset.sum_eq_zero fun r _ => by
        rw [show dsOf x0 x1 x2 x3 x4 x5 0 ⟨1536 + r.val, by omega⟩ u = 0 from ds_of_not _ _ _ _ _ _ (by unfold live; dsimp only <;> omega), zero_mul, zero_mul]).symm
    · rfl
theorem dv_03_at (hden : DenOf x0 x1 x3 0) (u : Fin 2048) (x : Fin 128) :
    (if hh : 1408 ≤ u.val ∧ u.val < 1408 + 640 then dv_03 x0 x1 x3 x4 (ix2 ⟨u.val - 1408, by omega⟩ x) else 0) = vLane x0 x1 x3 x4 0 1536 (by omega) u x := by
  by_cases hh : 1408 ≤ u.val ∧ u.val < 1408 + 640
  · rw [dif_pos hh]
    refine (dv640_eq (is_03 x0 x1 x0 x3 x4 (fun _ => 0)) hden _ x).trans ?_
    have e : (⟨1408 + (u.val - 1408), by omega⟩ : Fin 2048) = u := Fin.ext (by dsimp only <;> omega)
    simp only [e]; rfl
  · rw [dif_neg hh]
    unfold vLane
    split_ifs
    · exact (Finset.sum_eq_zero fun r _ => by
        rw [show wtOf x0 x1 x3 0 ⟨1536 + r.val, by omega⟩ u = 0 from wt_of_not _ _ _ (by unfold live; dsimp only <;> omega), mul_zero]).symm
    · rfl
theorem fold_03 (i : Fin 128) (j : Fin 256) :
    (if hh : j.val < 128 then prevFold640 (ds_03 x0 x1 x2 x3 x4 x5) (ix2 i ⟨j.val, hh⟩) else 0) +
      (if hh : 128 ≤ j.val then hereFold640 (ds_03 x0 x1 x2 x3 x4 x5) (ix2 i ⟨j.val - 128, by omega⟩) else 0) =
    ((bBlk x0 x1 x2 x3 x4 x5 0 12 i j + bBlk x0 x1 x2 x3 x4 x5 0 13 i j) + bBlk x0 x1 x2 x3 x4 x5 0 14 i j) + bBlk x0 x1 x2 x3 x4 x5 0 15 i j := by
  by_cases hh : j.val < 128
  · rw [dif_pos hh, dif_neg (by omega), add_zero]
    pointwise [prevFold640]
    simp only [ds640_eq (is_03 x0 x1 x2 x3 x4 x5)]
    exact congrArg₂ (· + ·) (congrArg₂ (· + ·) (congrArg₂ (· + ·) (bBlk_of _ _ _ _ _ _ 0 _ _ 12 i j (by show _ = 128 * 12 + _ <;> first | omega | (dsimp only <;> omega)) (by show _ = 128 * 12 + _ <;> first | omega | (dsimp only <;> omega))) (bBlk_of _ _ _ _ _ _ 0 _ _ 13 i j (by show _ = 128 * 13 + _ <;> first | omega | (dsimp only <;> omega)) (by show _ = 128 * 13 + _ <;> first | omega | (dsimp only <;> omega)))) (bBlk_of _ _ _ _ _ _ 0 _ _ 14 i j (by show _ = 128 * 14 + _ <;> first | omega | (dsimp only <;> omega)) (by show _ = 128 * 14 + _ <;> first | omega | (dsimp only <;> omega)))) (bBlk_of _ _ _ _ _ _ 0 _ _ 15 i j (by show _ = 128 * 15 + _ <;> first | omega | (dsimp only <;> omega)) (by show _ = 128 * 15 + _ <;> first | omega | (dsimp only <;> omega)))
  · rw [dif_neg hh, dif_pos (by omega), zero_add]
    pointwise [hereFold640]
    simp only [ds640_eq (is_03 x0 x1 x2 x3 x4 x5)]
    exact congrArg₂ (· + ·) (congrArg₂ (· + ·) (congrArg₂ (· + ·) (bBlk_of _ _ _ _ _ _ 0 _ _ 12 i j (by show _ = 128 * 12 + _ <;> first | omega | (dsimp only <;> omega)) (by show _ = 128 * 12 + _ <;> first | omega | (dsimp only <;> omega))) (bBlk_of _ _ _ _ _ _ 0 _ _ 13 i j (by show _ = 128 * 13 + _ <;> first | omega | (dsimp only <;> omega)) (by show _ = 128 * 13 + _ <;> first | omega | (dsimp only <;> omega)))) (bBlk_of _ _ _ _ _ _ 0 _ _ 14 i j (by show _ = 128 * 14 + _ <;> first | omega | (dsimp only <;> omega)) (by show _ = 128 * 14 + _ <;> first | omega | (dsimp only <;> omega)))) (bBlk_of _ _ _ _ _ _ 0 _ _ 15 i j (by show _ = 128 * 15 + _ <;> first | omega | (dsimp only <;> omega)) (by show _ = 128 * 15 + _ <;> first | omega | (dsimp only <;> omega)))

theorem dq_10_at (t : Fin 2048) (r : Fin 512) (h : t.val = 0 + r.val) (x : Fin 128) :
    dq_10 x0 x1 x2 x3 x4 x5 (ix2 r x) = qLane x0 x1 x2 x3 x4 x5 1 t x := by
  refine (dq512_eq (is_10 x0 x1 x2 x3 x4 x5) r x).trans ?_
  have e : (⟨0 + r.val, by omega⟩ : Fin 2048) = t := Fin.ext (by dsimp only <;> omega)
  simp only [e]; rfl
theorem dk_10_at (u : Fin 2048) (x : Fin 128) :
    (if hh : 0 ≤ u.val ∧ u.val < 0 + 512 then dk_10 x0 x1 x2 x3 x4 x5 (ix2 ⟨u.val - 0, by omega⟩ x) else 0) = kLane x0 x1 x2 x3 x4 x5 1 0 (by omega) u x := by
  by_cases hh : 0 ≤ u.val ∧ u.val < 0 + 512
  · rw [dif_pos hh]
    refine (dk512_eq (is_10 x0 x1 x2 x3 x4 x5) _ x).trans ?_
    have e : (⟨0 + (u.val - 0), by omega⟩ : Fin 2048) = u := Fin.ext (by dsimp only <;> omega)
    simp only [e]; rfl
  · rw [dif_neg hh]
    unfold kLane
    split_ifs
    · exact (Finset.sum_eq_zero fun r _ => by
        rw [show dsOf x0 x1 x2 x3 x4 x5 1 ⟨0 + r.val, by omega⟩ u = 0 from ds_of_not _ _ _ _ _ _ (by unfold live; dsimp only <;> omega), zero_mul, zero_mul]).symm
    · rfl
theorem dv_10_at (hden : DenOf x0 x1 x3 1) (u : Fin 2048) (x : Fin 128) :
    (if hh : 0 ≤ u.val ∧ u.val < 0 + 512 then dv_10 x0 x1 x3 x4 (ix2 ⟨u.val - 0, by omega⟩ x) else 0) = vLane x0 x1 x3 x4 1 0 (by omega) u x := by
  by_cases hh : 0 ≤ u.val ∧ u.val < 0 + 512
  · rw [dif_pos hh]
    refine (dv512_eq (is_10 x0 x1 x0 x3 x4 (fun _ => 0)) hden _ x).trans ?_
    have e : (⟨0 + (u.val - 0), by omega⟩ : Fin 2048) = u := Fin.ext (by dsimp only <;> omega)
    simp only [e]; rfl
  · rw [dif_neg hh]
    unfold vLane
    split_ifs
    · exact (Finset.sum_eq_zero fun r _ => by
        rw [show wtOf x0 x1 x3 1 ⟨0 + r.val, by omega⟩ u = 0 from wt_of_not _ _ _ (by unfold live; dsimp only <;> omega), mul_zero]).symm
    · rfl
theorem fold_10 (i : Fin 128) (j : Fin 256) :
    (if hh : j.val < 128 then prevFold512 (ds_10 x0 x1 x2 x3 x4 x5) (ix2 i ⟨j.val, hh⟩) else 0) +
      (if hh : 128 ≤ j.val then hereFold512 (ds_10 x0 x1 x2 x3 x4 x5) (ix2 i ⟨j.val - 128, by omega⟩) else 0) =
    ((bBlk x0 x1 x2 x3 x4 x5 1 0 i j + bBlk x0 x1 x2 x3 x4 x5 1 1 i j) + bBlk x0 x1 x2 x3 x4 x5 1 2 i j) + bBlk x0 x1 x2 x3 x4 x5 1 3 i j := by
  by_cases hh : j.val < 128
  · rw [dif_pos hh, dif_neg (by omega), add_zero]
    pointwise [prevFold512]
    simp only [ds512_eq (is_10 x0 x1 x2 x3 x4 x5)]
    rw [bBlk_none _ _ _ _ _ _ 1 0 i j (by show 128 * 0 + _ < _; omega), zero_add (bBlk x0 x1 x2 x3 x4 x5 1 1 i j)]
    exact congrArg₂ (· + ·) (congrArg₂ (· + ·) (bBlk_of _ _ _ _ _ _ 1 _ _ 1 i j (by show _ = 128 * 1 + _ <;> first | omega | (dsimp only <;> omega)) (by show _ = 128 * 1 + _ <;> first | omega | (dsimp only <;> omega))) (bBlk_of _ _ _ _ _ _ 1 _ _ 2 i j (by show _ = 128 * 2 + _ <;> first | omega | (dsimp only <;> omega)) (by show _ = 128 * 2 + _ <;> first | omega | (dsimp only <;> omega)))) (bBlk_of _ _ _ _ _ _ 1 _ _ 3 i j (by show _ = 128 * 3 + _ <;> first | omega | (dsimp only <;> omega)) (by show _ = 128 * 3 + _ <;> first | omega | (dsimp only <;> omega)))
  · rw [dif_neg hh, dif_pos (by omega), zero_add]
    pointwise [hereFold512]
    simp only [ds512_eq (is_10 x0 x1 x2 x3 x4 x5)]
    exact congrArg₂ (· + ·) (congrArg₂ (· + ·) (congrArg₂ (· + ·) (bBlk_of _ _ _ _ _ _ 1 _ _ 0 i j (by show _ = 128 * 0 + _ <;> first | omega | (dsimp only <;> omega)) (by show _ = 128 * 0 + _ <;> first | omega | (dsimp only <;> omega))) (bBlk_of _ _ _ _ _ _ 1 _ _ 1 i j (by show _ = 128 * 1 + _ <;> first | omega | (dsimp only <;> omega)) (by show _ = 128 * 1 + _ <;> first | omega | (dsimp only <;> omega)))) (bBlk_of _ _ _ _ _ _ 1 _ _ 2 i j (by show _ = 128 * 2 + _ <;> first | omega | (dsimp only <;> omega)) (by show _ = 128 * 2 + _ <;> first | omega | (dsimp only <;> omega)))) (bBlk_of _ _ _ _ _ _ 1 _ _ 3 i j (by show _ = 128 * 3 + _ <;> first | omega | (dsimp only <;> omega)) (by show _ = 128 * 3 + _ <;> first | omega | (dsimp only <;> omega)))

theorem dq_11_at (t : Fin 2048) (r : Fin 512) (h : t.val = 512 + r.val) (x : Fin 128) :
    dq_11 x0 x1 x2 x3 x4 x5 (ix2 r x) = qLane x0 x1 x2 x3 x4 x5 1 t x := by
  refine (dq640_eq (is_11 x0 x1 x2 x3 x4 x5) r x).trans ?_
  have e : (⟨384 + 128 + r.val, by omega⟩ : Fin 2048) = t := Fin.ext (by dsimp only <;> omega)
  simp only [e]; rfl
theorem dk_11_at (u : Fin 2048) (x : Fin 128) :
    (if hh : 384 ≤ u.val ∧ u.val < 384 + 640 then dk_11 x0 x1 x2 x3 x4 x5 (ix2 ⟨u.val - 384, by omega⟩ x) else 0) = kLane x0 x1 x2 x3 x4 x5 1 512 (by omega) u x := by
  by_cases hh : 384 ≤ u.val ∧ u.val < 384 + 640
  · rw [dif_pos hh]
    refine (dk640_eq (is_11 x0 x1 x2 x3 x4 x5) _ x).trans ?_
    have e : (⟨384 + (u.val - 384), by omega⟩ : Fin 2048) = u := Fin.ext (by dsimp only <;> omega)
    simp only [e]; rfl
  · rw [dif_neg hh]
    unfold kLane
    split_ifs
    · exact (Finset.sum_eq_zero fun r _ => by
        rw [show dsOf x0 x1 x2 x3 x4 x5 1 ⟨512 + r.val, by omega⟩ u = 0 from ds_of_not _ _ _ _ _ _ (by unfold live; dsimp only <;> omega), zero_mul, zero_mul]).symm
    · rfl
theorem dv_11_at (hden : DenOf x0 x1 x3 1) (u : Fin 2048) (x : Fin 128) :
    (if hh : 384 ≤ u.val ∧ u.val < 384 + 640 then dv_11 x0 x1 x3 x4 (ix2 ⟨u.val - 384, by omega⟩ x) else 0) = vLane x0 x1 x3 x4 1 512 (by omega) u x := by
  by_cases hh : 384 ≤ u.val ∧ u.val < 384 + 640
  · rw [dif_pos hh]
    refine (dv640_eq (is_11 x0 x1 x0 x3 x4 (fun _ => 0)) hden _ x).trans ?_
    have e : (⟨384 + (u.val - 384), by omega⟩ : Fin 2048) = u := Fin.ext (by dsimp only <;> omega)
    simp only [e]; rfl
  · rw [dif_neg hh]
    unfold vLane
    split_ifs
    · exact (Finset.sum_eq_zero fun r _ => by
        rw [show wtOf x0 x1 x3 1 ⟨512 + r.val, by omega⟩ u = 0 from wt_of_not _ _ _ (by unfold live; dsimp only <;> omega), mul_zero]).symm
    · rfl
theorem fold_11 (i : Fin 128) (j : Fin 256) :
    (if hh : j.val < 128 then prevFold640 (ds_11 x0 x1 x2 x3 x4 x5) (ix2 i ⟨j.val, hh⟩) else 0) +
      (if hh : 128 ≤ j.val then hereFold640 (ds_11 x0 x1 x2 x3 x4 x5) (ix2 i ⟨j.val - 128, by omega⟩) else 0) =
    ((bBlk x0 x1 x2 x3 x4 x5 1 4 i j + bBlk x0 x1 x2 x3 x4 x5 1 5 i j) + bBlk x0 x1 x2 x3 x4 x5 1 6 i j) + bBlk x0 x1 x2 x3 x4 x5 1 7 i j := by
  by_cases hh : j.val < 128
  · rw [dif_pos hh, dif_neg (by omega), add_zero]
    pointwise [prevFold640]
    simp only [ds640_eq (is_11 x0 x1 x2 x3 x4 x5)]
    exact congrArg₂ (· + ·) (congrArg₂ (· + ·) (congrArg₂ (· + ·) (bBlk_of _ _ _ _ _ _ 1 _ _ 4 i j (by show _ = 128 * 4 + _ <;> first | omega | (dsimp only <;> omega)) (by show _ = 128 * 4 + _ <;> first | omega | (dsimp only <;> omega))) (bBlk_of _ _ _ _ _ _ 1 _ _ 5 i j (by show _ = 128 * 5 + _ <;> first | omega | (dsimp only <;> omega)) (by show _ = 128 * 5 + _ <;> first | omega | (dsimp only <;> omega)))) (bBlk_of _ _ _ _ _ _ 1 _ _ 6 i j (by show _ = 128 * 6 + _ <;> first | omega | (dsimp only <;> omega)) (by show _ = 128 * 6 + _ <;> first | omega | (dsimp only <;> omega)))) (bBlk_of _ _ _ _ _ _ 1 _ _ 7 i j (by show _ = 128 * 7 + _ <;> first | omega | (dsimp only <;> omega)) (by show _ = 128 * 7 + _ <;> first | omega | (dsimp only <;> omega)))
  · rw [dif_neg hh, dif_pos (by omega), zero_add]
    pointwise [hereFold640]
    simp only [ds640_eq (is_11 x0 x1 x2 x3 x4 x5)]
    exact congrArg₂ (· + ·) (congrArg₂ (· + ·) (congrArg₂ (· + ·) (bBlk_of _ _ _ _ _ _ 1 _ _ 4 i j (by show _ = 128 * 4 + _ <;> first | omega | (dsimp only <;> omega)) (by show _ = 128 * 4 + _ <;> first | omega | (dsimp only <;> omega))) (bBlk_of _ _ _ _ _ _ 1 _ _ 5 i j (by show _ = 128 * 5 + _ <;> first | omega | (dsimp only <;> omega)) (by show _ = 128 * 5 + _ <;> first | omega | (dsimp only <;> omega)))) (bBlk_of _ _ _ _ _ _ 1 _ _ 6 i j (by show _ = 128 * 6 + _ <;> first | omega | (dsimp only <;> omega)) (by show _ = 128 * 6 + _ <;> first | omega | (dsimp only <;> omega)))) (bBlk_of _ _ _ _ _ _ 1 _ _ 7 i j (by show _ = 128 * 7 + _ <;> first | omega | (dsimp only <;> omega)) (by show _ = 128 * 7 + _ <;> first | omega | (dsimp only <;> omega)))

theorem dq_12_at (t : Fin 2048) (r : Fin 512) (h : t.val = 1024 + r.val) (x : Fin 128) :
    dq_12 x0 x1 x2 x3 x4 x5 (ix2 r x) = qLane x0 x1 x2 x3 x4 x5 1 t x := by
  refine (dq640_eq (is_12 x0 x1 x2 x3 x4 x5) r x).trans ?_
  have e : (⟨896 + 128 + r.val, by omega⟩ : Fin 2048) = t := Fin.ext (by dsimp only <;> omega)
  simp only [e]; rfl
theorem dk_12_at (u : Fin 2048) (x : Fin 128) :
    (if hh : 896 ≤ u.val ∧ u.val < 896 + 640 then dk_12 x0 x1 x2 x3 x4 x5 (ix2 ⟨u.val - 896, by omega⟩ x) else 0) = kLane x0 x1 x2 x3 x4 x5 1 1024 (by omega) u x := by
  by_cases hh : 896 ≤ u.val ∧ u.val < 896 + 640
  · rw [dif_pos hh]
    refine (dk640_eq (is_12 x0 x1 x2 x3 x4 x5) _ x).trans ?_
    have e : (⟨896 + (u.val - 896), by omega⟩ : Fin 2048) = u := Fin.ext (by dsimp only <;> omega)
    simp only [e]; rfl
  · rw [dif_neg hh]
    unfold kLane
    split_ifs
    · exact (Finset.sum_eq_zero fun r _ => by
        rw [show dsOf x0 x1 x2 x3 x4 x5 1 ⟨1024 + r.val, by omega⟩ u = 0 from ds_of_not _ _ _ _ _ _ (by unfold live; dsimp only <;> omega), zero_mul, zero_mul]).symm
    · rfl
theorem dv_12_at (hden : DenOf x0 x1 x3 1) (u : Fin 2048) (x : Fin 128) :
    (if hh : 896 ≤ u.val ∧ u.val < 896 + 640 then dv_12 x0 x1 x3 x4 (ix2 ⟨u.val - 896, by omega⟩ x) else 0) = vLane x0 x1 x3 x4 1 1024 (by omega) u x := by
  by_cases hh : 896 ≤ u.val ∧ u.val < 896 + 640
  · rw [dif_pos hh]
    refine (dv640_eq (is_12 x0 x1 x0 x3 x4 (fun _ => 0)) hden _ x).trans ?_
    have e : (⟨896 + (u.val - 896), by omega⟩ : Fin 2048) = u := Fin.ext (by dsimp only <;> omega)
    simp only [e]; rfl
  · rw [dif_neg hh]
    unfold vLane
    split_ifs
    · exact (Finset.sum_eq_zero fun r _ => by
        rw [show wtOf x0 x1 x3 1 ⟨1024 + r.val, by omega⟩ u = 0 from wt_of_not _ _ _ (by unfold live; dsimp only <;> omega), mul_zero]).symm
    · rfl
theorem fold_12 (i : Fin 128) (j : Fin 256) :
    (if hh : j.val < 128 then prevFold640 (ds_12 x0 x1 x2 x3 x4 x5) (ix2 i ⟨j.val, hh⟩) else 0) +
      (if hh : 128 ≤ j.val then hereFold640 (ds_12 x0 x1 x2 x3 x4 x5) (ix2 i ⟨j.val - 128, by omega⟩) else 0) =
    ((bBlk x0 x1 x2 x3 x4 x5 1 8 i j + bBlk x0 x1 x2 x3 x4 x5 1 9 i j) + bBlk x0 x1 x2 x3 x4 x5 1 10 i j) + bBlk x0 x1 x2 x3 x4 x5 1 11 i j := by
  by_cases hh : j.val < 128
  · rw [dif_pos hh, dif_neg (by omega), add_zero]
    pointwise [prevFold640]
    simp only [ds640_eq (is_12 x0 x1 x2 x3 x4 x5)]
    exact congrArg₂ (· + ·) (congrArg₂ (· + ·) (congrArg₂ (· + ·) (bBlk_of _ _ _ _ _ _ 1 _ _ 8 i j (by show _ = 128 * 8 + _ <;> first | omega | (dsimp only <;> omega)) (by show _ = 128 * 8 + _ <;> first | omega | (dsimp only <;> omega))) (bBlk_of _ _ _ _ _ _ 1 _ _ 9 i j (by show _ = 128 * 9 + _ <;> first | omega | (dsimp only <;> omega)) (by show _ = 128 * 9 + _ <;> first | omega | (dsimp only <;> omega)))) (bBlk_of _ _ _ _ _ _ 1 _ _ 10 i j (by show _ = 128 * 10 + _ <;> first | omega | (dsimp only <;> omega)) (by show _ = 128 * 10 + _ <;> first | omega | (dsimp only <;> omega)))) (bBlk_of _ _ _ _ _ _ 1 _ _ 11 i j (by show _ = 128 * 11 + _ <;> first | omega | (dsimp only <;> omega)) (by show _ = 128 * 11 + _ <;> first | omega | (dsimp only <;> omega)))
  · rw [dif_neg hh, dif_pos (by omega), zero_add]
    pointwise [hereFold640]
    simp only [ds640_eq (is_12 x0 x1 x2 x3 x4 x5)]
    exact congrArg₂ (· + ·) (congrArg₂ (· + ·) (congrArg₂ (· + ·) (bBlk_of _ _ _ _ _ _ 1 _ _ 8 i j (by show _ = 128 * 8 + _ <;> first | omega | (dsimp only <;> omega)) (by show _ = 128 * 8 + _ <;> first | omega | (dsimp only <;> omega))) (bBlk_of _ _ _ _ _ _ 1 _ _ 9 i j (by show _ = 128 * 9 + _ <;> first | omega | (dsimp only <;> omega)) (by show _ = 128 * 9 + _ <;> first | omega | (dsimp only <;> omega)))) (bBlk_of _ _ _ _ _ _ 1 _ _ 10 i j (by show _ = 128 * 10 + _ <;> first | omega | (dsimp only <;> omega)) (by show _ = 128 * 10 + _ <;> first | omega | (dsimp only <;> omega)))) (bBlk_of _ _ _ _ _ _ 1 _ _ 11 i j (by show _ = 128 * 11 + _ <;> first | omega | (dsimp only <;> omega)) (by show _ = 128 * 11 + _ <;> first | omega | (dsimp only <;> omega)))

theorem dq_13_at (t : Fin 2048) (r : Fin 512) (h : t.val = 1536 + r.val) (x : Fin 128) :
    dq_13 x0 x1 x2 x3 x4 x5 (ix2 r x) = qLane x0 x1 x2 x3 x4 x5 1 t x := by
  refine (dq640_eq (is_13 x0 x1 x2 x3 x4 x5) r x).trans ?_
  have e : (⟨1408 + 128 + r.val, by omega⟩ : Fin 2048) = t := Fin.ext (by dsimp only <;> omega)
  simp only [e]; rfl
theorem dk_13_at (u : Fin 2048) (x : Fin 128) :
    (if hh : 1408 ≤ u.val ∧ u.val < 1408 + 640 then dk_13 x0 x1 x2 x3 x4 x5 (ix2 ⟨u.val - 1408, by omega⟩ x) else 0) = kLane x0 x1 x2 x3 x4 x5 1 1536 (by omega) u x := by
  by_cases hh : 1408 ≤ u.val ∧ u.val < 1408 + 640
  · rw [dif_pos hh]
    refine (dk640_eq (is_13 x0 x1 x2 x3 x4 x5) _ x).trans ?_
    have e : (⟨1408 + (u.val - 1408), by omega⟩ : Fin 2048) = u := Fin.ext (by dsimp only <;> omega)
    simp only [e]; rfl
  · rw [dif_neg hh]
    unfold kLane
    split_ifs
    · exact (Finset.sum_eq_zero fun r _ => by
        rw [show dsOf x0 x1 x2 x3 x4 x5 1 ⟨1536 + r.val, by omega⟩ u = 0 from ds_of_not _ _ _ _ _ _ (by unfold live; dsimp only <;> omega), zero_mul, zero_mul]).symm
    · rfl
theorem dv_13_at (hden : DenOf x0 x1 x3 1) (u : Fin 2048) (x : Fin 128) :
    (if hh : 1408 ≤ u.val ∧ u.val < 1408 + 640 then dv_13 x0 x1 x3 x4 (ix2 ⟨u.val - 1408, by omega⟩ x) else 0) = vLane x0 x1 x3 x4 1 1536 (by omega) u x := by
  by_cases hh : 1408 ≤ u.val ∧ u.val < 1408 + 640
  · rw [dif_pos hh]
    refine (dv640_eq (is_13 x0 x1 x0 x3 x4 (fun _ => 0)) hden _ x).trans ?_
    have e : (⟨1408 + (u.val - 1408), by omega⟩ : Fin 2048) = u := Fin.ext (by dsimp only <;> omega)
    simp only [e]; rfl
  · rw [dif_neg hh]
    unfold vLane
    split_ifs
    · exact (Finset.sum_eq_zero fun r _ => by
        rw [show wtOf x0 x1 x3 1 ⟨1536 + r.val, by omega⟩ u = 0 from wt_of_not _ _ _ (by unfold live; dsimp only <;> omega), mul_zero]).symm
    · rfl
theorem fold_13 (i : Fin 128) (j : Fin 256) :
    (if hh : j.val < 128 then prevFold640 (ds_13 x0 x1 x2 x3 x4 x5) (ix2 i ⟨j.val, hh⟩) else 0) +
      (if hh : 128 ≤ j.val then hereFold640 (ds_13 x0 x1 x2 x3 x4 x5) (ix2 i ⟨j.val - 128, by omega⟩) else 0) =
    ((bBlk x0 x1 x2 x3 x4 x5 1 12 i j + bBlk x0 x1 x2 x3 x4 x5 1 13 i j) + bBlk x0 x1 x2 x3 x4 x5 1 14 i j) + bBlk x0 x1 x2 x3 x4 x5 1 15 i j := by
  by_cases hh : j.val < 128
  · rw [dif_pos hh, dif_neg (by omega), add_zero]
    pointwise [prevFold640]
    simp only [ds640_eq (is_13 x0 x1 x2 x3 x4 x5)]
    exact congrArg₂ (· + ·) (congrArg₂ (· + ·) (congrArg₂ (· + ·) (bBlk_of _ _ _ _ _ _ 1 _ _ 12 i j (by show _ = 128 * 12 + _ <;> first | omega | (dsimp only <;> omega)) (by show _ = 128 * 12 + _ <;> first | omega | (dsimp only <;> omega))) (bBlk_of _ _ _ _ _ _ 1 _ _ 13 i j (by show _ = 128 * 13 + _ <;> first | omega | (dsimp only <;> omega)) (by show _ = 128 * 13 + _ <;> first | omega | (dsimp only <;> omega)))) (bBlk_of _ _ _ _ _ _ 1 _ _ 14 i j (by show _ = 128 * 14 + _ <;> first | omega | (dsimp only <;> omega)) (by show _ = 128 * 14 + _ <;> first | omega | (dsimp only <;> omega)))) (bBlk_of _ _ _ _ _ _ 1 _ _ 15 i j (by show _ = 128 * 15 + _ <;> first | omega | (dsimp only <;> omega)) (by show _ = 128 * 15 + _ <;> first | omega | (dsimp only <;> omega)))
  · rw [dif_neg hh, dif_pos (by omega), zero_add]
    pointwise [hereFold640]
    simp only [ds640_eq (is_13 x0 x1 x2 x3 x4 x5)]
    exact congrArg₂ (· + ·) (congrArg₂ (· + ·) (congrArg₂ (· + ·) (bBlk_of _ _ _ _ _ _ 1 _ _ 12 i j (by show _ = 128 * 12 + _ <;> first | omega | (dsimp only <;> omega)) (by show _ = 128 * 12 + _ <;> first | omega | (dsimp only <;> omega))) (bBlk_of _ _ _ _ _ _ 1 _ _ 13 i j (by show _ = 128 * 13 + _ <;> first | omega | (dsimp only <;> omega)) (by show _ = 128 * 13 + _ <;> first | omega | (dsimp only <;> omega)))) (bBlk_of _ _ _ _ _ _ 1 _ _ 14 i j (by show _ = 128 * 14 + _ <;> first | omega | (dsimp only <;> omega)) (by show _ = 128 * 14 + _ <;> first | omega | (dsimp only <;> omega)))) (bBlk_of _ _ _ _ _ _ 1 _ _ 15 i j (by show _ = 128 * 15 + _ <;> first | omega | (dsimp only <;> omega)) (by show _ = 128 * 15 + _ <;> first | omega | (dsimp only <;> omega)))

/-- The point's gradient of the queries. -/
theorem dqOf_lane (w : Vec Ideal S2048x128 .f32) (t : Fin 2048) (x : Fin 128) :
    dqOf x0 x1 x2 x3 x4 x5 w (ix2 t x) = qLane x0 x1 x2 x3 x4 x5 0 t x + qLane x0 x1 x2 x3 x4 x5 1 t x := by
  unfold dqOf
  rw [addRows512_eq, addRows512_eq, addRows512_eq, addRows512_eq]
  have hs : t.val / 512 = 0 ∨ t.val / 512 = 1 ∨ t.val / 512 = 2 ∨ t.val / 512 = 3 := by omega
  rcases hs with hc | hc | hc | hc
  · rw [show ∀ X G, (Rect.unit (s := S2048x128) ![1536, 0] S512x128.size inb_S2048x128_S512x128_1536_0).overlay X G (ix2 t x) = _ from fun X G => overlay2 (α := EReal) (m := 2048) (n := 128) (K := 512) (L := 128) inb_S2048x128_S512x128_1536_0 X G t x]
    rw [dif_neg (by omega)]
    rw [show ∀ X G, (Rect.unit (s := S2048x128) ![1024, 0] S512x128.size inb_S2048x128_S512x128_1024_0).overlay X G (ix2 t x) = _ from fun X G => overlay2 (α := EReal) (m := 2048) (n := 128) (K := 512) (L := 128) inb_S2048x128_S512x128_1024_0 X G t x]
    rw [dif_neg (by omega)]
    rw [show ∀ X G, (Rect.unit (s := S2048x128) ![512, 0] S512x128.size inb_S2048x128_S512x128_512_0).overlay X G (ix2 t x) = _ from fun X G => overlay2 (α := EReal) (m := 2048) (n := 128) (K := 512) (L := 128) inb_S2048x128_S512x128_512_0 X G t x]
    rw [dif_neg (by omega)]
    rw [show ∀ X G, (Rect.unit (s := S2048x128) ![0, 0] S512x128.size inb_S2048x128_S512x128_0_0).overlay X G (ix2 t x) = _ from fun X G => overlay2 (α := EReal) (m := 2048) (n := 128) (K := 512) (L := 128) inb_S2048x128_S512x128_0_0 X G t x]
    rw [dif_pos (by omega)]
    rw [dif_pos (by omega), dif_neg (by omega), dif_neg (by omega), dif_neg (by omega)]
    simp only [add_zero]
    exact congrArg₂ (· + ·) (dq_00_at x0 x1 x2 x3 x4 x5 t ⟨t.val - 0, by omega⟩ (by dsimp only <;> omega) ⟨x.val - 0, by omega⟩) (dq_10_at x0 x1 x2 x3 x4 x5 t ⟨t.val - 0, by omega⟩ (by dsimp only <;> omega) x)
  · rw [show ∀ X G, (Rect.unit (s := S2048x128) ![1536, 0] S512x128.size inb_S2048x128_S512x128_1536_0).overlay X G (ix2 t x) = _ from fun X G => overlay2 (α := EReal) (m := 2048) (n := 128) (K := 512) (L := 128) inb_S2048x128_S512x128_1536_0 X G t x]
    rw [dif_neg (by omega)]
    rw [show ∀ X G, (Rect.unit (s := S2048x128) ![1024, 0] S512x128.size inb_S2048x128_S512x128_1024_0).overlay X G (ix2 t x) = _ from fun X G => overlay2 (α := EReal) (m := 2048) (n := 128) (K := 512) (L := 128) inb_S2048x128_S512x128_1024_0 X G t x]
    rw [dif_neg (by omega)]
    rw [show ∀ X G, (Rect.unit (s := S2048x128) ![512, 0] S512x128.size inb_S2048x128_S512x128_512_0).overlay X G (ix2 t x) = _ from fun X G => overlay2 (α := EReal) (m := 2048) (n := 128) (K := 512) (L := 128) inb_S2048x128_S512x128_512_0 X G t x]
    rw [dif_pos (by omega)]
    rw [dif_neg (by omega), dif_pos (by omega), dif_neg (by omega), dif_neg (by omega)]
    simp only [add_zero]
    exact congrArg₂ (· + ·) (dq_01_at x0 x1 x2 x3 x4 x5 t ⟨t.val - 512, by omega⟩ (by dsimp only <;> omega) ⟨x.val - 0, by omega⟩) (dq_11_at x0 x1 x2 x3 x4 x5 t ⟨t.val - 512, by omega⟩ (by dsimp only <;> omega) x)
  · rw [show ∀ X G, (Rect.unit (s := S2048x128) ![1536, 0] S512x128.size inb_S2048x128_S512x128_1536_0).overlay X G (ix2 t x) = _ from fun X G => overlay2 (α := EReal) (m := 2048) (n := 128) (K := 512) (L := 128) inb_S2048x128_S512x128_1536_0 X G t x]
    rw [dif_neg (by omega)]
    rw [show ∀ X G, (Rect.unit (s := S2048x128) ![1024, 0] S512x128.size inb_S2048x128_S512x128_1024_0).overlay X G (ix2 t x) = _ from fun X G => overlay2 (α := EReal) (m := 2048) (n := 128) (K := 512) (L := 128) inb_S2048x128_S512x128_1024_0 X G t x]
    rw [dif_pos (by omega)]
    rw [dif_neg (by omega), dif_neg (by omega), dif_pos (by omega), dif_neg (by omega)]
    simp only [add_zero]
    exact congrArg₂ (· + ·) (dq_02_at x0 x1 x2 x3 x4 x5 t ⟨t.val - 1024, by omega⟩ (by dsimp only <;> omega) ⟨x.val - 0, by omega⟩) (dq_12_at x0 x1 x2 x3 x4 x5 t ⟨t.val - 1024, by omega⟩ (by dsimp only <;> omega) x)
  · rw [show ∀ X G, (Rect.unit (s := S2048x128) ![1536, 0] S512x128.size inb_S2048x128_S512x128_1536_0).overlay X G (ix2 t x) = _ from fun X G => overlay2 (α := EReal) (m := 2048) (n := 128) (K := 512) (L := 128) inb_S2048x128_S512x128_1536_0 X G t x]
    rw [dif_pos (by omega)]
    rw [dif_neg (by omega), dif_neg (by omega), dif_neg (by omega), dif_pos (by omega)]
    simp only [add_zero]
    exact congrArg₂ (· + ·) (dq_03_at x0 x1 x2 x3 x4 x5 t ⟨t.val - 1536, by omega⟩ (by dsimp only <;> omega) ⟨x.val - 0, by omega⟩) (dq_13_at x0 x1 x2 x3 x4 x5 t ⟨t.val - 1536, by omega⟩ (by dsimp only <;> omega) x)

/-- The point's gradient of the keys. -/
theorem dkOf_lane (w : Vec Ideal S2048x128 .f32) (u : Fin 2048) (x : Fin 128) :
    dkOf x0 x1 x2 x3 x4 x5 w (ix2 u x) = (if x.val / 64 = (0 : Fin 2).val then ∑ t, dsOf x0 x1 x2 x3 x4 x5 0 t u * c8 * fn2 x0 t x else 0) +
      (if x.val / 64 = (1 : Fin 2).val then ∑ t, dsOf x0 x1 x2 x3 x4 x5 1 t u * c8 * fn2 x0 t x else 0) := by
  unfold dkOf zeros
  simp only [addRows512_eq, addRows640_eq]
  rw [show ∀ X G, (Rect.unit (s := S2048x128) ![0, 0] S2048x128.size inb_S2048x128_S2048x128_0_0).overlay X G (ix2 u x) = _ from
    fun X G => overlay2 (α := EReal) (m := 2048) (n := 128) (K := 2048) (L := 128) inb_S2048x128_S2048x128_0_0 X G u x]
  rw [dif_pos (by omega)]
  rw [show (broadcast S2048x128 (Scalar.ofBits (F := Ideal) .f32 0x00000000#32) : FVec Ideal S2048x128 .f32) _ = 0 from Ideal.ofBits_zero_f32, zero_add]
  rw [dk_00_at x0 x1 x2 x3 x4 x5, dk_01_at x0 x1 x2 x3 x4 x5, dk_02_at x0 x1 x2 x3 x4 x5, dk_03_at x0 x1 x2 x3 x4 x5, dk_10_at x0 x1 x2 x3 x4 x5, dk_11_at x0 x1 x2 x3 x4 x5, dk_12_at x0 x1 x2 x3 x4 x5, dk_13_at x0 x1 x2 x3 x4 x5]
  unfold kLane
  rw [sum_runs, sum_runs]
  by_cases h0' : x.val / 64 = (0 : Fin 2).val
  · have h1' : ¬ x.val / 64 = (1 : Fin 2).val := by rw [h0']; decide
    simp only [if_pos h0', if_neg h1', add_zero]
  · by_cases h1' : x.val / 64 = (1 : Fin 2).val
    · simp only [if_pos h1', if_neg h0', zero_add]
    · simp only [if_neg h1', if_neg h0', add_zero]

/-- The point's gradient of the values. -/
theorem dvOf_lane (h0 : DenOf x0 x1 x3 0) (h1 : DenOf x0 x1 x3 1) (w : Vec Ideal S2048x128 .f32) (u : Fin 2048) (x : Fin 128) :
    dvOf x0 x1 x3 x4 w (ix2 u x) = (if x.val / 64 = (0 : Fin 2).val then ∑ t, fn2 x4 t x * wtOf x0 x1 x3 0 t u else 0) +
      (if x.val / 64 = (1 : Fin 2).val then ∑ t, fn2 x4 t x * wtOf x0 x1 x3 1 t u else 0) := by
  unfold dvOf zeros
  simp only [addRows512_eq, addRows640_eq]
  rw [show ∀ X G, (Rect.unit (s := S2048x128) ![0, 0] S2048x128.size inb_S2048x128_S2048x128_0_0).overlay X G (ix2 u x) = _ from
    fun X G => overlay2 (α := EReal) (m := 2048) (n := 128) (K := 2048) (L := 128) inb_S2048x128_S2048x128_0_0 X G u x]
  rw [dif_pos (by omega)]
  rw [show (broadcast S2048x128 (Scalar.ofBits (F := Ideal) .f32 0x00000000#32) : FVec Ideal S2048x128 .f32) _ = 0 from Ideal.ofBits_zero_f32, zero_add]
  rw [dv_00_at x0 x1 x3 x4 h0, dv_01_at x0 x1 x3 x4 h0, dv_02_at x0 x1 x3 x4 h0, dv_03_at x0 x1 x3 x4 h0, dv_10_at x0 x1 x3 x4 h1, dv_11_at x0 x1 x3 x4 h1, dv_12_at x0 x1 x3 x4 h1, dv_13_at x0 x1 x3 x4 h1]
  unfold vLane
  rw [sum_runs, sum_runs]
  by_cases h0' : x.val / 64 = (0 : Fin 2).val
  · have h1' : ¬ x.val / 64 = (1 : Fin 2).val := by rw [h0']; decide
    simp only [if_pos h0', if_neg h1', add_zero]
  · by_cases h1' : x.val / 64 = (1 : Fin 2).val
    · simp only [if_pos h1', if_neg h0', zero_add]
    · simp only [if_neg h1', if_neg h0', add_zero]

theorem regroup (a b c d e f g h : EReal) : ((((((a + b) + c) + d) + e) + f) + g) + h = (((a + b) + (c + d)) + (e + f)) + (g + h) := by
  simp only [add_assoc]

theorem accPrev_eq (w : Vec Ideal S128x256 .f32) (p : FVec Ideal S128x128 .f32) (i : Fin 128) (j : Fin 256) :
    accPrev w p (ix2 i j) = w (ix2 i j) + if hh : j.val < 128 then p (ix2 i ⟨j.val, hh⟩) else 0 := by
  refine (overlay2 (α := EReal) (m := 128) (n := 256) (K := 128) (L := 128) inb_S128x256_S128x128_0_0 _ _ i j).trans ?_
  by_cases hh : j.val < 128
  · rw [dif_pos hh, dif_pos (by omega)]
    pointwise
  · rw [dif_neg hh, dif_neg (by omega), add_zero]
theorem accHere_eq (w : Vec Ideal S128x256 .f32) (p : FVec Ideal S128x128 .f32) (i : Fin 128) (j : Fin 256) :
    accHere w p (ix2 i j) = w (ix2 i j) + if hh : 128 ≤ j.val then p (ix2 i ⟨j.val - 128, by omega⟩) else 0 := by
  refine (overlay2 (α := EReal) (m := 128) (n := 256) (K := 128) (L := 128) inb_S128x256_S128x128_0_128 _ _ i j).trans ?_
  by_cases hh : 128 ≤ j.val
  · rw [dif_pos hh, dif_pos (by omega)]
    pointwise
    exact congrArg₂ (· + ·) (congrArg w (congrArg₂ ix2 (Fin.ext (by dsimp only <;> omega)) (Fin.ext (by dsimp only <;> omega)))) rfl
  · rw [dif_neg hh, dif_neg (by omega), add_zero]
theorem zacc_eq (w : Vec Ideal S128x256 .f32) (i : Fin 128) (j : Fin 256) : zacc w (ix2 i j) = 0 := by
  refine (overlay2 (α := EReal) (m := 128) (n := 256) (K := 128) (L := 256) inb_S128x256_S128x256_0_0 _ _ i j).trans ?_
  rw [dif_pos (by omega)]
  exact Ideal.ofBits_zero_f32

/-- The bias accumulator of head 0. -/
theorem acc_0_eq (w : Vec Ideal S128x256 .f32) (i : Fin 128) (j : Fin 256) :
    acc_0 x0 x1 x2 x3 x4 x5 w (ix2 i j) = ∑ n, bBlk x0 x1 x2 x3 x4 x5 0 n i j := by
  unfold acc_0
  simp only [accPrev_eq, accHere_eq, zacc_eq, zero_add]
  have h0 := fold_00 x0 x1 x2 x3 x4 x5 i j
  have h1 := fold_01 x0 x1 x2 x3 x4 x5 i j
  have h2 := fold_02 x0 x1 x2 x3 x4 x5 i j
  have h3 := fold_03 x0 x1 x2 x3 x4 x5 i j
  refine (regroup _ _ _ _ _ _ _ _).trans ?_
  rw [h0, h1, h2, h3]
  simp only [Fin.sum_univ_succ, Fin.sum_univ_zero, add_zero, ← add_assoc]
  rfl

/-- The bias accumulator of head 1. -/
theorem acc_1_eq (w : Vec Ideal S128x256 .f32) (i : Fin 128) (j : Fin 256) :
    acc_1 x0 x1 x2 x3 x4 x5 w (ix2 i j) = ∑ n, bBlk x0 x1 x2 x3 x4 x5 1 n i j := by
  unfold acc_1
  simp only [accPrev_eq, accHere_eq, zacc_eq, zero_add]
  have h0 := fold_10 x0 x1 x2 x3 x4 x5 i j
  have h1 := fold_11 x0 x1 x2 x3 x4 x5 i j
  have h2 := fold_12 x0 x1 x2 x3 x4 x5 i j
  have h3 := fold_13 x0 x1 x2 x3 x4 x5 i j
  refine (regroup _ _ _ _ _ _ _ _).trans ?_
  rw [h0, h1, h2, h3]
  simp only [Fin.sum_univ_succ, Fin.sum_univ_zero, add_zero, ← add_assoc]
  rfl

/-- The bias gradient's staging buffer after the first batch entry's point. -/
theorem dbFirst_eq (w : Vec Ideal S2x128x256 .f32) (w0 w1 : Vec Ideal S128x256 .f32) (e : Fin 2) (i : Fin 128) (j : Fin 256) :
    dbFirst x0 x1 x2 x3 x4 x5 w w0 w1 (ix3 e i j) = ∑ n, bBlk x0 x1 x2 x3 x4 x5 e n i j := by
  unfold dbFirst
  refine (overlay3 (α := EReal) (p := 2) (m := 128) (n := 256) (a0 := 1) inb_S2x128x256_S1x128x256_1_0_0 _ _ e i j).trans ?_
  rw [show ∀ X G, (Rect.unit (s := S2x128x256) ![0, 0, 0] S1x128x256.size inb_S2x128x256_S1x128x256_0_0_0).overlay X G (ix3 e i j) = _ from
    fun X G => overlay3 (α := EReal) (p := 2) (m := 128) (n := 256) (a0 := 0) inb_S2x128x256_S1x128x256_0_0_0 X G e i j]
  match e with
  | ⟨0, _⟩ =>
    rw [if_neg (show ¬ (0 : ℕ) = 1 by omega), if_pos rfl]
    pointwise
    exact (acc_0_eq x0 x1 x2 x3 x4 x5 w0 i j)
  | ⟨1, _⟩ =>
    rw [if_pos rfl]
    pointwise
    exact (acc_1_eq x0 x1 x2 x3 x4 x5 w1 i j)
/-- The same after a later batch entry's point: the point's own gradient added to what was there. -/
theorem dbNext_eq (d w : Vec Ideal S2x128x256 .f32) (w0 w1 : Vec Ideal S128x256 .f32) (e : Fin 2) (i : Fin 128) (j : Fin 256) :
    dbNext x0 x1 x2 x3 x4 x5 d w w0 w1 (ix3 e i j) = d (ix3 e i j) + ∑ n, bBlk x0 x1 x2 x3 x4 x5 e n i j := by
  unfold dbNext
  refine (overlay3 (α := EReal) (p := 2) (m := 128) (n := 256) (a0 := 1) inb_S2x128x256_S1x128x256_1_0_0 _ _ e i j).trans ?_
  rw [show ∀ X G, (Rect.unit (s := S2x128x256) ![0, 0, 0] S1x128x256.size inb_S2x128x256_S1x128x256_0_0_0).overlay X G (ix3 e i j) = _ from
    fun X G => overlay3 (α := EReal) (p := 2) (m := 128) (n := 256) (a0 := 0) inb_S2x128x256_S1x128x256_0_0_0 X G e i j]
  match e with
  | ⟨0, _⟩ =>
    rw [if_neg (show ¬ (0 : ℕ) = 1 by omega), if_pos rfl]
    pointwise
    exact congrArg₂ (· + ·) rfl (acc_0_eq x0 x1 x2 x3 x4 x5 w0 i j)
  | ⟨1, _⟩ =>
    rw [if_pos rfl]
    pointwise
    exact congrArg₂ (· + ·) rfl (acc_1_eq x0 x1 x2 x3 x4 x5 w1 i j)

end point

end Cert.KernelIdeal.Attn

end
-- ==== Proof.Outs.lean ====
/-
  WHAT A GRID POINT LEAVES in the four results' staging buffers, in the names of Block.lean: the generated run's stores,
  laid one over the other, are `dqOf`, `dkOf`, `dvOf` and the two bias accumulators.
-/
module

public import proofs.«01_k».proof.Proof.Block

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- Output 6 after a point of the first batch entry. -/
theorem out6_A (c : Dev nD) (t : Fin cfg0.N) (h0 : t.val % 2 = 0) (h1 : ¬t.val % 2 = 1) (h2 : t.val % 2 = 0) (h3 : ¬t.val % 2 = 1) :
    ∃ w, (outsAt0 m c t.val t.isLt).1 = dqOf (iblk m c 0 t) (iblk m c 1 t) (iblk m c 2 t) (iblk m c 3 t) (iblk m c 4 t) (iblk m c 5 t) w := by
  rw [outsAt0_A m c t h0 h1 h2 h3]
  dsimp only
  unfold out0_A_6
  rw [View.read_writes_eq_canon _ _ _ (cover0_A_6 c _ _ _ _ _ _ _ _ _ _ _ _ _ _ _ _ _ _ _ _ _ _ _ _ _ _ _ _ _ _ _ _ _)]
  unfold kernelRun0_A; dsimp only
  sl_unfold_words
  simp only [View.readAt_eq_ld, (hs0_0 t).read_unread, (hs0_1 t).read_unread, (hs0_2 t).read_unread, (hs0_3 t).read_unread,
    (hs0_4 t).read_unread, (hs0_5 t).read_unread, View.readCov_eq_canon']
  exact ⟨_, rfl⟩

/-- Output 6 after a point of a later batch entry. -/
theorem out6_B (c : Dev nD) (t : Fin cfg0.N) (h0 : ¬t.val % 2 = 0) (h1 : t.val % 2 = 1) (h2 : ¬t.val % 2 = 0) (h3 : t.val % 2 = 1) :
    ∃ w, (outsAt0 m c t.val t.isLt).1 = dqOf (iblk m c 0 t) (iblk m c 1 t) (iblk m c 2 t) (iblk m c 3 t) (iblk m c 4 t) (iblk m c 5 t) w := by
  rw [outsAt0_B m c t h0 h1 h2 h3]
  dsimp only
  unfold out0_B_6
  rw [View.read_writes_eq_canon _ _ _ (cover0_B_6 c _ _ _ _ _ _ _ _ _ _ _ _ _ _ _ _ _ _ _ _ _ _ _ _ _ _ _ _ _ _ _ _ _ _)]
  unfold kernelRun0_B; dsimp only
  sl_unfold_words
  simp only [View.readAt_eq_ld, (hs0_0 t).read_unread, (hs0_1 t).read_unread, (hs0_2 t).read_unread, (hs0_3 t).read_unread,
    (hs0_4 t).read_unread, (hs0_5 t).read_unread, View.readCov_eq_canon']
  exact ⟨_, rfl⟩

/-- Output 7 after a point of the first batch entry. -/
theorem out7_A (c : Dev nD) (t : Fin cfg0.N) (h0 : t.val % 2 = 0) (h1 : ¬t.val % 2 = 1) (h2 : t.val % 2 = 0) (h3 : ¬t.val % 2 = 1) :
    ∃ w, (outsAt0 m c t.val t.isLt).2.1 = dkOf (iblk m c 0 t) (iblk m c 1 t) (iblk m c 2 t) (iblk m c 3 t) (iblk m c 4 t) (iblk m c 5 t) w := by
  rw [outsAt0_A m c t h0 h1 h2 h3]
  dsimp only
  unfold out0_A_7
  rw [View.read_writes_eq_canon _ _ _ (cover0_A_7 c _ _ _ _ _ _ _ _ _ _ _ _ _ _ _ _ _ _ _ _ _ _ _ _ _ _ _ _ _ _ _ _ _)]
  unfold kernelRun0_A; dsimp only
  sl_unfold_words
  simp only [View.readAt_eq_ld, (hs0_0 t).read_unread, (hs0_1 t).read_unread, (hs0_2 t).read_unread, (hs0_3 t).read_unread,
    (hs0_4 t).read_unread, (hs0_5 t).read_unread, View.readCov_eq_canon']
  exact ⟨_, rfl⟩

/-- Output 7 after a point of a later batch entry. -/
theorem out7_B (c : Dev nD) (t : Fin cfg0.N) (h0 : ¬t.val % 2 = 0) (h1 : t.val % 2 = 1) (h2 : ¬t.val % 2 = 0) (h3 : t.val % 2 = 1) :
    ∃ w, (outsAt0 m c t.val t.isLt).2.1 = dkOf (iblk m c 0 t) (iblk m c 1 t) (iblk m c 2 t) (iblk m c 3 t) (iblk m c 4 t) (iblk m c 5 t) w := by
  rw [outsAt0_B m c t h0 h1 h2 h3]
  dsimp only
  unfold out0_B_7
  rw [View.read_writes_eq_canon _ _ _ (cover0_B_7 c _ _ _ _ _ _ _ _ _ _ _ _ _ _ _ _ _ _ _ _ _ _ _ _ _ _ _ _ _ _ _ _ _ _)]
  unfold kernelRun0_B; dsimp only
  sl_unfold_words
  simp only [View.readAt_eq_ld, (hs0_0 t).read_unread, (hs0_1 t).read_unread, (hs0_2 t).read_unread, (hs0_3 t).read_unread,
    (hs0_4 t).read_unread, (hs0_5 t).read_unread, View.readCov_eq_canon']
  exact ⟨_, rfl⟩

/-- Output 8 after a point of the first batch entry. -/
theorem out8_A (c : Dev nD) (t : Fin cfg0.N) (h0 : t.val % 2 = 0) (h1 : ¬t.val % 2 = 1) (h2 : t.val % 2 = 0) (h3 : ¬t.val % 2 = 1) :
    ∃ w, (outsAt0 m c t.val t.isLt).2.2.1 = dvOf (iblk m c 0 t) (iblk m c 1 t) (iblk m c 3 t) (iblk m c 4 t) w := by
  rw [outsAt0_A m c t h0 h1 h2 h3]
  dsimp only
  unfold out0_A_8
  rw [View.read_writes_eq_canon _ _ _ (cover0_A_8 c _ _ _ _ _ _ _ _ _ _ _ _ _ _ _ _ _ _ _ _ _ _ _ _ _ _ _ _ _ _ _ _ _)]
  unfold kernelRun0_A; dsimp only
  sl_unfold_words
  simp only [View.readAt_eq_ld, (hs0_0 t).read_unread, (hs0_1 t).read_unread, (hs0_2 t).read_unread, (hs0_3 t).read_unread,
    (hs0_4 t).read_unread, (hs0_5 t).read_unread, View.readCov_eq_canon']
  exact ⟨_, rfl⟩

/-- Output 8 after a point of a later batch entry. -/
theorem out8_B (c : Dev nD) (t : Fin cfg0.N) (h0 : ¬t.val % 2 = 0) (h1 : t.val % 2 = 1) (h2 : ¬t.val % 2 = 0) (h3 : t.val % 2 = 1) :
    ∃ w, (outsAt0 m c t.val t.isLt).2.2.1 = dvOf (iblk m c 0 t) (iblk m c 1 t) (iblk m c 3 t) (iblk m c 4 t) w := by
  rw [outsAt0_B m c t h0 h1 h2 h3]
  dsimp only
  unfold out0_B_8
  rw [View.read_writes_eq_canon _ _ _ (cover0_B_8 c _ _ _ _ _ _ _ _ _ _ _ _ _ _ _ _ _ _ _ _ _ _ _ _ _ _ _ _ _ _ _ _ _ _)]
  unfold kernelRun0_B; dsimp only
  sl_unfold_words
  simp only [View.readAt_eq_ld, (hs0_0 t).read_unread, (hs0_1 t).read_unread, (hs0_2 t).read_unread, (hs0_3 t).read_unread,
    (hs0_4 t).read_unread, (hs0_5 t).read_unread, View.readCov_eq_canon']
  exact ⟨_, rfl⟩

/-! ### The bias gradient, store by store -/

/-- A store that increases the accumulator's left half. -/
theorem accPrev_of {Ls : List (View.Piece (Elt F) S128x256 .f32)} {w' : Vec F S128x256 .f32} (hw : View.canon Ls = w')
    (pay : Vec F S128x128 .f32 → FVec F S128x128 .f32) (p : FVec F S128x128 .f32)
    (hp : ∀ x, pay x = shapeCast S128x128 (addf x p) shapeCasts_S128x128_S128x128) :
    View.canon (⟨(Rect.unit (s := S128x256) ![0, 0] S128x128.size inb_S128x256_S128x128_0_0), pay (fun j => View.canon Ls ((Rect.unit (s := S128x256) ![0, 0] S128x128.size inb_S128x256_S128x128_0_0).idx j))⟩ :: Ls) = accPrev w' p := by
  subst hw; rw [hp]; rfl

/-- A store that increases the accumulator's right half. -/
theorem accHere_of {Ls : List (View.Piece (Elt F) S128x256 .f32)} {w' : Vec F S128x256 .f32} (hw : View.canon Ls = w')
    (pay : Vec F S128x128 .f32 → FVec F S128x128 .f32) (p : FVec F S128x128 .f32)
    (hp : ∀ x, pay x = shapeCast S128x128 (addf x p) shapeCasts_S128x128_S128x128) :
    View.canon (⟨(Rect.unit (s := S128x256) ![0, 128] S128x128.size inb_S128x256_S128x128_0_128), pay (fun j => View.canon Ls ((Rect.unit (s := S128x256) ![0, 128] S128x128.size inb_S128x256_S128x128_0_128).idx j))⟩ :: Ls) = accHere w' p := by
  subst hw; rw [hp]; rfl

/-- A store of an accumulator at head `0` of an empty buffer. -/
theorem db0_of {La : List (View.Piece (Elt F) S128x256 .f32)} {a : Vec F S128x256 .f32} (ha : View.canon La = a)
    (Ls : List (View.Piece (Elt F) S2x128x256 .f32)) :
    View.canon (⟨(Rect.unit (s := S2x128x256) ![0, 0, 0] S1x128x256.size inb_S2x128x256_S1x128x256_0_0_0), k0_pay80 (fun j => View.canon La ((Rect.unit (s := S128x256) ![0, 0] S128x256.size inb_S128x256_S128x256_0_0).idx j))⟩ :: Ls)
      = (Rect.unit (s := S2x128x256) ![0, 0, 0] S1x128x256.size inb_S2x128x256_S1x128x256_0_0_0).overlay (View.canon Ls) (shapeCast S1x128x256 (fun j => a ((Rect.unit (s := S128x256) ![0, 0] S128x256.size inb_S128x256_S128x256_0_0).idx j)) shapeCasts_S128x256_S1x128x256) := by
  subst ha; rfl

/-- A store of an accumulator at head `1`. -/
theorem db1_of {La : List (View.Piece (Elt F) S128x256 .f32)} {a : Vec F S128x256 .f32} (ha : View.canon La = a)
    {Ls : List (View.Piece (Elt F) S2x128x256 .f32)} {w' : Vec F S2x128x256 .f32} (hw : View.canon Ls = w') :
    View.canon (⟨(Rect.unit (s := S2x128x256) ![1, 0, 0] S1x128x256.size inb_S2x128x256_S1x128x256_1_0_0), k0_pay159 (fun j => View.canon La ((Rect.unit (s := S128x256) ![0, 0] S128x256.size inb_S128x256_S128x256_0_0).idx j))⟩ :: Ls)
      = (Rect.unit (s := S2x128x256) ![1, 0, 0] S1x128x256.size inb_S2x128x256_S1x128x256_1_0_0).overlay w' (shapeCast S1x128x256 (fun j => a ((Rect.unit (s := S128x256) ![0, 0] S128x256.size inb_S128x256_S128x256_0_0).idx j)) shapeCasts_S128x256_S1x128x256) := by
  subst ha; subst hw; rfl

/-- A store of head `0`'s old value increased by an accumulator. -/
theorem dbn0_of (d : Vec F S2x128x256 .f32) {La : List (View.Piece (Elt F) S128x256 .f32)} {a : Vec F S128x256 .f32} (ha : View.canon La = a)
    (Ls : List (View.Piece (Elt F) S2x128x256 .f32)) :
    View.canon (⟨(Rect.unit (s := S2x128x256) ![0, 0, 0] S1x128x256.size inb_S2x128x256_S1x128x256_0_0_0), k0_pay81 (View.ld d (Rect.unit (s := S2x128x256) ![0, 0, 0] S1x128x256.size inb_S2x128x256_S1x128x256_0_0_0)) (fun j => View.canon La ((Rect.unit (s := S128x256) ![0, 0] S128x256.size inb_S128x256_S128x256_0_0).idx j))⟩ :: Ls)
      = (Rect.unit (s := S2x128x256) ![0, 0, 0] S1x128x256.size inb_S2x128x256_S1x128x256_0_0_0).overlay (View.canon Ls) (shapeCast S1x128x256 (addf (shapeCast S128x256 (View.ld d (Rect.unit (s := S2x128x256) ![0, 0, 0] S1x128x256.size inb_S2x128x256_S1x128x256_0_0_0)) shapeCasts_S1x128x256_S128x256)
      (fun j => a ((Rect.unit (s := S128x256) ![0, 0] S128x256.size inb_S128x256_S128x256_0_0).idx j))) shapeCasts_S128x256_S1x128x256) := by
  subst ha; rfl

/-- A store of head `1`'s old value increased by an accumulator. -/
theorem dbn1_of (d : Vec F S2x128x256 .f32) {La : List (View.Piece (Elt F) S128x256 .f32)} {a : Vec F S128x256 .f32} (ha : View.canon La = a)
    {Ls : List (View.Piece (Elt F) S2x128x256 .f32)} {w' : Vec F S2x128x256 .f32} (hw : View.canon Ls = w') :
    View.canon (⟨(Rect.unit (s := S2x128x256) ![1, 0, 0] S1x128x256.size inb_S2x128x256_S1x128x256_1_0_0), k0_pay160 (View.ld d (Rect.unit (s := S2x128x256) ![1, 0, 0] S1x128x256.size inb_S2x128x256_S1x128x256_1_0_0)) (fun j => View.canon La ((Rect.unit (s := S128x256) ![0, 0] S128x256.size inb_S128x256_S128x256_0_0).idx j))⟩ :: Ls)
      = (Rect.unit (s := S2x128x256) ![1, 0, 0] S1x128x256.size inb_S2x128x256_S1x128x256_1_0_0).overlay w' (shapeCast S1x128x256 (addf (shapeCast S128x256 (View.ld d (Rect.unit (s := S2x128x256) ![1, 0, 0] S1x128x256.size inb_S2x128x256_S1x128x256_1_0_0)) shapeCasts_S1x128x256_S128x256)
      (fun j => a ((Rect.unit (s := S128x256) ![0, 0] S128x256.size inb_S128x256_S128x256_0_0).idx j))) shapeCasts_S128x256_S1x128x256) := by
  subst ha; subst hw; rfl

/-- Output 9 after a point of the first batch entry. -/
theorem out9_A (c : Dev nD) (t : Fin cfg0.N) (h0 : t.val % 2 = 0) (h1 : ¬t.val % 2 = 1) (h2 : t.val % 2 = 0) (h3 : ¬t.val % 2 = 1) :
    ∃ w w0 w1, (outsAt0 m c t.val t.isLt).2.2.2 = dbFirst (iblk m c 0 t) (iblk m c 1 t) (iblk m c 2 t) (iblk m c 3 t) (iblk m c 4 t) (iblk m c 5 t) w w0 w1 := by
  rw [outsAt0_A m c t h0 h1 h2 h3]
  dsimp only
  unfold out0_A_9
  rw [View.read_writes_eq_canon _ _ _ (cover0_A_9 c _ _ _ _ _ _ _ _ _ _ _ _ _ _ _ _ _ _ _ _ _ _ _ _ _ _ _ _ _ _ _ _ _)]
  unfold kernelRun0_A; dsimp only
  sl_unfold_words
  simp only [View.readAt_eq_ld, (hs0_0 t).read_unread, (hs0_1 t).read_unread, (hs0_2 t).read_unread, (hs0_3 t).read_unread,
    (hs0_4 t).read_unread, (hs0_5 t).read_unread, View.readCov_eq_canon']
  apply Exists.intro
  apply Exists.intro
  apply Exists.intro
  unfold dbFirst
  refine db1_of ?_ (db0_of ?_ _)
  · unfold acc_1
    refine accHere_of ?_ (k0_pay158 _ _ _) _ ?_; rotate_left; · intro x; rfl
    refine accPrev_of ?_ (k0_pay157 _) _ ?_; rotate_left; · intro x; rfl
    refine accHere_of ?_ (k0_pay139 _) _ ?_; rotate_left; · intro x; rfl
    refine accPrev_of ?_ (k0_pay138 _ _ _) _ ?_; rotate_left; · intro x; rfl
    refine accHere_of ?_ (k0_pay121 _) _ ?_; rotate_left; · intro x; rfl
    refine accPrev_of ?_ (k0_pay120 _) _ ?_; rotate_left; · intro x; rfl
    refine accHere_of ?_ (fun x => k0_pay103 (k0_pay102 _ x)) _ ?_; rotate_left; · intro x; rfl
    refine accPrev_of ?_ (k0_pay101 _) _ ?_; rotate_left; · intro x; rfl
    exact rfl
  · unfold acc_0
    refine accHere_of ?_ (k0_pay79 _) _ ?_; rotate_left; · intro x; rfl
    refine accPrev_of ?_ (k0_pay78 _) _ ?_; rotate_left; · intro x; rfl
    refine accHere_of ?_ (k0_pay62 _) _ ?_; rotate_left; · intro x; rfl
    refine accPrev_of ?_ (k0_pay61 _) _ ?_; rotate_left; · intro x; rfl
    refine accHere_of ?_ (k0_pay44 _) _ ?_; rotate_left; · intro x; rfl
    refine accPrev_of ?_ (fun x => k0_pay43 (k0_pay42 _ x)) _ ?_; rotate_left; · intro x; rfl
    refine accHere_of ?_ (k0_pay27 _ _) _ ?_; rotate_left; · intro x; rfl
    refine accPrev_of ?_ (k0_pay26 _) _ ?_; rotate_left; · intro x; rfl
    exact rfl
/-- Output 9 after a point of a later batch entry. -/
theorem out9_B (c : Dev nD) (t : Fin cfg0.N) (h0 : ¬t.val % 2 = 0) (h1 : t.val % 2 = 1) (h2 : ¬t.val % 2 = 0) (h3 : t.val % 2 = 1) :
    ∃ w w0 w1, (outsAt0 m c t.val t.isLt).2.2.2 = dbNext (iblk m c 0 t) (iblk m c 1 t) (iblk m c 2 t) (iblk m c 3 t) (iblk m c 4 t) (iblk m c 5 t) (outsAt0 m c (t.val - 1) (Nat.lt_of_le_of_lt (Nat.sub_le _ _) t.isLt)).2.2.2 w w0 w1 := by
  rw [outsAt0_B m c t h0 h1 h2 h3]
  dsimp only
  unfold out0_B_9
  rw [View.read_writes_eq_canon _ _ _ (cover0_B_9 c _ _ _ _ _ _ _ _ _ _ _ _ _ _ _ _ _ _ _ _ _ _ _ _ _ _ _ _ _ _ _ _ _ _)]
  unfold kernelRun0_B; dsimp only
  sl_unfold_words
  simp only [View.readAt_eq_ld, (hs0_0 t).read_unread, (hs0_1 t).read_unread, (hs0_2 t).read_unread, (hs0_3 t).read_unread,
    (hs0_4 t).read_unread, (hs0_5 t).read_unread, (hs0_9 t).read_unread, View.readCov_eq_canon']
  apply Exists.intro
  apply Exists.intro
  apply Exists.intro
  unfold dbNext
  refine dbn1_of _ ?_ (dbn0_of _ ?_ _)
  · unfold acc_1
    refine accHere_of ?_ (k0_pay158 _ _ _) _ ?_; rotate_left; · intro x; rfl
    refine accPrev_of ?_ (k0_pay157 _) _ ?_; rotate_left; · intro x; rfl
    refine accHere_of ?_ (k0_pay139 _) _ ?_; rotate_left; · intro x; rfl
    refine accPrev_of ?_ (k0_pay138 _ _ _) _ ?_; rotate_left; · intro x; rfl
    refine accHere_of ?_ (k0_pay121 _) _ ?_; rotate_left; · intro x; rfl
    refine accPrev_of ?_ (k0_pay120 _) _ ?_; rotate_left; · intro x; rfl
    refine accHere_of ?_ (fun x => k0_pay103 (k0_pay102 _ x)) _ ?_; rotate_left; · intro x; rfl
    refine accPrev_of ?_ (k0_pay101 _) _ ?_; rotate_left; · intro x; rfl
    exact rfl
  · unfold acc_0
    refine accHere_of ?_ (k0_pay79 _) _ ?_; rotate_left; · intro x; rfl
    refine accPrev_of ?_ (k0_pay78 _) _ ?_; rotate_left; · intro x; rfl
    refine accHere_of ?_ (k0_pay62 _) _ ?_; rotate_left; · intro x; rfl
    refine accPrev_of ?_ (k0_pay61 _) _ ?_; rotate_left; · intro x; rfl
    refine accHere_of ?_ (k0_pay44 _) _ ?_; rotate_left; · intro x; rfl
    refine accPrev_of ?_ (fun x => k0_pay43 (k0_pay42 _ x)) _ ?_; rotate_left; · intro x; rfl
    refine accHere_of ?_ (k0_pay27 _ _) _ ?_; rotate_left; · intro x; rfl
    refine accPrev_of ?_ (k0_pay26 _) _ ?_; rotate_left; · intro x; rfl
    exact rfl
end Cert.KernelIdeal.Attn

end
-- ==== Proof.KernelValue.lean ====
/-
  WHAT THE KERNEL COMPUTES. A grid point is a pair of heads and a batch entry. Its blocks of the arguments are the pair's lanes of
  the batch entry's rows, so that its results (Point.lean) are the gradients of Spec.lean of the two heads, and the four result
  arrays hold them: `run_kernel`. The bias table's gradient is the sum over the two batch entries.
-/
module

public import proofs.«01_k».proof.Proof.Point
public import proofs.«01_k».proof.Proof.Outs
public import Idealize.ShloMosaic.Lib.Pipeline.ValueKit

@[expose] public section

set_option maxRecDepth 16384

noncomputable section

namespace Cert.AttnSpec

open Idealize.ShloMosaic

/-- Lanes `off + 64 h …` of batch entry `b`: one head of one of the packed arrays. -/
def lanesOf {C : ℕ} (a : (⟨2, ![4096, C]⟩ : Shape).Idx → EReal) (off : ℕ) (hC : off + 256 ≤ C) (b : Fin 2) (h : Fin 4) : Fin 2048 → Fin 64 → EReal :=
  fun t l => a (ix2 ⟨2048 * b.val + t.val, by omega⟩ ⟨off + 64 * h.val + l.val, by omega⟩)
/-- The log-sum-exp gradient of one head of batch entry `b`. -/
def lseOf (a : (⟨3, ![2, 4096, 128]⟩ : Shape).Idx → EReal) (b : Fin 2) (h : Fin 4) : Fin 2048 → EReal :=
  fun t => a (ix3 ⟨h.val / 2, by omega⟩ ⟨2048 * b.val + t.val, by omega⟩ ⟨h.val % 2, by omega⟩)
/-- The bias table of one head. -/
def tableOf (a : (⟨3, ![12, 128, 256]⟩ : Shape).Idx → EReal) (h : Fin 4) : Fin 128 → Fin 256 → EReal :=
  fun i j => a (ix3 ⟨h.val, by omega⟩ i j)

section arrays
variable (a0 : (⟨2, ![4096, 9728]⟩ : Shape).Idx → EReal) (a1 : (⟨3, ![12, 128, 256]⟩ : Shape).Idx → EReal)
  (a2 : (⟨2, ![4096, 256]⟩ : Shape).Idx → EReal) (a3 : (⟨3, ![2, 4096, 128]⟩ : Shape).Idx → EReal)

abbrev qOf (b : Fin 2) (h : Fin 4) := lanesOf a0 3840 (by omega) b h
abbrev kOf (b : Fin 2) (h : Fin 4) := lanesOf a0 4608 (by omega) b h
abbrev vOf (b : Fin 2) (h : Fin 4) := lanesOf a0 5376 (by omega) b h
abbrev oOf (b : Fin 2) (h : Fin 4) := lanesOf a2 0 (by omega) b h

/-- The gradient of all heads' queries, as the kernel lays it out. -/
def arrQ : (⟨2, ![4096, 256]⟩ : Shape).Idx → EReal := fun i =>
  let b : Fin 2 := ⟨(i 0).val / 2048, by have : (i 0).val < 4096 := (i 0).isLt; omega⟩
  let h : Fin 4 := ⟨(i 1).val / 64, by have : (i 1).val < 256 := (i 1).isLt; omega⟩
  gQ (qOf a0 b h) (kOf a0 b h) (vOf a0 b h) (oOf a2 b h) (lseOf a3 b h) (tableOf a1 h) ⟨(i 0).val % 2048, by omega⟩ ⟨(i 1).val % 64, by omega⟩
/-- The gradient of all heads' keys. -/
def arrK : (⟨2, ![4096, 256]⟩ : Shape).Idx → EReal := fun i =>
  let b : Fin 2 := ⟨(i 0).val / 2048, by have : (i 0).val < 4096 := (i 0).isLt; omega⟩
  let h : Fin 4 := ⟨(i 1).val / 64, by have : (i 1).val < 256 := (i 1).isLt; omega⟩
  gK (qOf a0 b h) (kOf a0 b h) (vOf a0 b h) (oOf a2 b h) (lseOf a3 b h) (tableOf a1 h) ⟨(i 0).val % 2048, by omega⟩ ⟨(i 1).val % 64, by omega⟩
/-- The gradient of all heads' values. -/
def arrV : (⟨2, ![4096, 256]⟩ : Shape).Idx → EReal := fun i =>
  let b : Fin 2 := ⟨(i 0).val / 2048, by have : (i 0).val < 4096 := (i 0).isLt; omega⟩
  let h : Fin 4 := ⟨(i 1).val / 64, by have : (i 1).val < 256 := (i 1).isLt; omega⟩
  gV (qOf a0 b h) (kOf a0 b h) (oOf a2 b h) (tableOf a1 h) ⟨(i 0).val % 2048, by omega⟩ ⟨(i 1).val % 64, by omega⟩
/-- One batch entry's gradient of a head's bias table. -/
def tabB (b : Fin 2) (h : Fin 4) (i : Fin 128) (j : Fin 256) : EReal :=
  gB (qOf a0 b h) (kOf a0 b h) (vOf a0 b h) (oOf a2 b h) (lseOf a3 b h) (tableOf a1 h) i j
/-- The gradient of all heads' bias tables. -/
def arrB : (⟨3, ![4, 128, 256]⟩ : Shape).Idx → EReal := fun i =>
  tabB a0 a1 a2 a3 0 (i 0) (i 1) (i 2) + tabB a0 a1 a2 a3 1 (i 0) (i 1) (i 2)

/-- No row of any head has a zero denominator. -/
def Dens : Prop := ∀ b h t, AttnRow.rden (live t) (logit (qOf a0 b h) (kOf a0 b h) (tableOf a1 h) t) ≠ 0
end arrays

end Cert.AttnSpec

namespace Cert.KernelIdeal.Attn

open Cert.KernelIdeal Cert.KernelIdeal.Gen Idealize.ShloMosaic Idealize.ShloMosaic.TcCoe Idealize.SL.Sem Cert.AttnRow Cert.AttnSpec
open Idealize.ShloMosaic.Pipeline (Dat)

section point
variable (x0 x1 x2 : Vec Ideal S2048x128 .f32) (x3 : Vec Ideal S2x128x256 .f32) (x4 : Vec Ideal S2048x128 .f32) (x5 : Vec Ideal S1x2048x128 .f32)

/-- The point's gradient of the queries, head by head. -/
theorem dqOf_eq (w : Vec Ideal S2048x128 .f32) (e : Fin 2) (t : Fin 2048) (l : Fin 64) :
    dqOf x0 x1 x2 x3 x4 x5 w (ix2 t ⟨64 * e.val + l.val, by omega⟩) =
      gQ (hd e (fn2 x0)) (hd e (fn2 x1)) (hd e (fn2 x2)) (hd e (fn2 x4)) (dlOf x5 e) (biasOf x3 e) t l := by
  rw [dqOf_lane]
  unfold qLane
  match e with
  | ⟨0, _⟩ => rw [if_pos (by dsimp only [Fin.isValue] <;> omega), if_neg (by dsimp only [Fin.isValue] <;> omega), add_zero]; rfl
  | ⟨1, _⟩ => rw [if_neg (by dsimp only [Fin.isValue] <;> omega), if_pos (by dsimp only [Fin.isValue] <;> omega), zero_add]; rfl
/-- The point's gradient of the keys, head by head. -/
theorem dkOf_eq (w : Vec Ideal S2048x128 .f32) (e : Fin 2) (t : Fin 2048) (l : Fin 64) :
    dkOf x0 x1 x2 x3 x4 x5 w (ix2 t ⟨64 * e.val + l.val, by omega⟩) =
      gK (hd e (fn2 x0)) (hd e (fn2 x1)) (hd e (fn2 x2)) (hd e (fn2 x4)) (dlOf x5 e) (biasOf x3 e) t l := by
  rw [dkOf_lane]
  match e with
  | ⟨0, _⟩ => rw [if_pos (by dsimp only [Fin.isValue] <;> omega), if_neg (by dsimp only [Fin.isValue] <;> omega), add_zero]; rfl
  | ⟨1, _⟩ => rw [if_neg (by dsimp only [Fin.isValue] <;> omega), if_pos (by dsimp only [Fin.isValue] <;> omega), zero_add]; rfl
/-- The point's gradient of the values, head by head. -/
theorem dvOf_eq (hden : ∀ e, DenOf x0 x1 x3 e) (w : Vec Ideal S2048x128 .f32) (e : Fin 2) (t : Fin 2048) (l : Fin 64) :
    dvOf x0 x1 x3 x4 w (ix2 t ⟨64 * e.val + l.val, by omega⟩) =
      gV (hd e (fn2 x0)) (hd e (fn2 x1)) (hd e (fn2 x4)) (biasOf x3 e) t l := by
  rw [dvOf_lane _ _ _ _ (hden 0) (hden 1)]
  match e with
  | ⟨0, _⟩ => rw [if_pos (by dsimp only [Fin.isValue] <;> omega), if_neg (by dsimp only [Fin.isValue] <;> omega), add_zero]; rfl
  | ⟨1, _⟩ => rw [if_neg (by dsimp only [Fin.isValue] <;> omega), if_pos (by dsimp only [Fin.isValue] <;> omega), zero_add]; rfl
end point

variable (m : (ℓ : Loc nD τ sig) → Buf (Elt Ideal) ℓ)

/-! ### The blocks of the arguments -/

theorem idx0 : ∀ t : Fin grid0.N, win0_0.index t 0 = t.val % 2 ∧ win0_0.index t 1 = 30 + t.val / 2 := by decide +kernel
theorem idx1 : ∀ t : Fin grid0.N, win0_1.index t 0 = t.val % 2 ∧ win0_1.index t 1 = 36 + t.val / 2 := by decide +kernel
theorem idx2 : ∀ t : Fin grid0.N, win0_2.index t 0 = t.val % 2 ∧ win0_2.index t 1 = 42 + t.val / 2 := by decide +kernel
theorem idx3 : ∀ t : Fin grid0.N, win0_3.index t 0 = t.val / 2 ∧ win0_3.index t 1 = 0 ∧ win0_3.index t 2 = 0 := by decide +kernel
theorem idx4 : ∀ t : Fin grid0.N, win0_4.index t 0 = t.val % 2 ∧ win0_4.index t 1 = t.val / 2 := by decide +kernel
theorem idx5 : ∀ t : Fin grid0.N, win0_5.index t 0 = t.val / 2 ∧ win0_5.index t 1 = t.val % 2 ∧ win0_5.index t 2 = 0 := by decide +kernel
theorem idx6 : ∀ t : Fin grid0.N, win0_6.index t 0 = t.val % 2 ∧ win0_6.index t 1 = t.val / 2 := by decide +kernel
theorem idx7 : ∀ t : Fin grid0.N, win0_7.index t 0 = t.val % 2 ∧ win0_7.index t 1 = t.val / 2 := by decide +kernel
theorem idx8 : ∀ t : Fin grid0.N, win0_8.index t 0 = t.val % 2 ∧ win0_8.index t 1 = t.val / 2 := by decide +kernel
theorem idx9 : ∀ t : Fin grid0.N, win0_9.index t 0 = t.val / 2 ∧ win0_9.index t 1 = 0 ∧ win0_9.index t 2 = 0 := by decide +kernel

/-- A point's batch entry. -/
def pb (t : Fin cfg0.N) : Fin 2 := ⟨t.val % 2, by omega⟩
/-- A point's head `e`. -/
def ph (t : Fin cfg0.N) (e : Fin 2) : Fin 4 := ⟨2 * (t.val / 2) + e.val, by have := t.isLt; have h : cfg0.N = 4 := rfl; omega⟩

variable (c : Dev nD) (t : Fin cfg0.N) (e : Fin 2)

/-- The packed projections. -/
abbrev A0 : (⟨2, ![4096, 9728]⟩ : Shape).Idx → EReal := m ((c : Thread nD τ).loc main_arg0)
/-- The bias tables. -/
abbrev A1 : (⟨3, ![12, 128, 256]⟩ : Shape).Idx → EReal := m ((c : Thread nD τ).loc main_arg1)
/-- The output's gradient. -/
abbrev A2 : (⟨2, ![4096, 256]⟩ : Shape).Idx → EReal := m ((c : Thread nD τ).loc main_arg2)
/-- The log-sum-exp's gradient. -/
abbrev A3 : (⟨3, ![2, 4096, 128]⟩ : Shape).Idx → EReal := m ((c : Thread nD τ).loc main_arg3)

theorem in0 : hd e (fn2 (iblk m c 0 t)) = lanesOf (A0 m c) 3840 (by omega) (pb t) (ph t e) := by
  have ht : t.val < 4 := t.isLt
  funext s l
  show iblk m c 0 t _ = _
  unfold lanesOf
  dsimp only [pb, ph]
  blk_ext [iblk, V, (idx0 t).1, (idx0 t).2]

theorem in1 : hd e (fn2 (iblk m c 1 t)) = lanesOf (A0 m c) 4608 (by omega) (pb t) (ph t e) := by
  have ht : t.val < 4 := t.isLt
  funext s l
  show iblk m c 1 t _ = _
  unfold lanesOf
  dsimp only [pb, ph]
  blk_ext [iblk, V, (idx1 t).1, (idx1 t).2]

theorem in2 : hd e (fn2 (iblk m c 2 t)) = lanesOf (A0 m c) 5376 (by omega) (pb t) (ph t e) := by
  have ht : t.val < 4 := t.isLt
  funext s l
  show iblk m c 2 t _ = _
  unfold lanesOf
  dsimp only [pb, ph]
  blk_ext [iblk, V, (idx2 t).1, (idx2 t).2]

theorem in4 : hd e (fn2 (iblk m c 4 t)) = lanesOf (A2 m c) 0 (by omega) (pb t) (ph t e) := by
  have ht : t.val < 4 := t.isLt
  funext s l
  show iblk m c 4 t _ = _
  unfold lanesOf
  dsimp only [pb, ph]
  blk_ext [iblk, V, (idx4 t).1, (idx4 t).2]

theorem in3 : biasOf (iblk m c 3 t) e = tableOf (A1 m c) (ph t e) := by
  have ht : t.val < 4 := t.isLt
  funext i j
  show iblk m c 3 t _ = _
  unfold tableOf
  dsimp only [pb, ph]
  blk_ext [iblk, V, (idx3 t).1, (idx3 t).2.1, (idx3 t).2.2]

theorem in5 : dlOf (iblk m c 5 t) e = lseOf (A3 m c) (pb t) (ph t e) := by
  have ht : t.val < 4 := t.isLt
  funext s
  show iblk m c 5 t _ = _
  unfold lseOf
  dsimp only [pb, ph]
  blk_ext [iblk, V, (idx5 t).1, (idx5 t).2.1, (idx5 t).2.2]

/-! ### The result arrays -/

theorem den_pt (hd : Dens (A0 m c) (A1 m c)) : ∀ e, DenOf (iblk m c 0 t) (iblk m c 1 t) (iblk m c 3 t) e := fun e s => by
  rw [in0, in1, in3]; exact hd _ _ s

/-- An index of a block of lanes, as position, head and lane. -/
theorem block_idx (y : S2048x128.Idx) : ∃ (s : Fin 2048) (e : Fin 2) (l : Fin 64), y = ix2 s ⟨64 * e.val + l.val, by omega⟩ := by
  have h1 : (y 1).val < 128 := (y 1).isLt
  refine ⟨y 0, ⟨(y 1).val / 64, by omega⟩, ⟨(y 1).val % 64, by omega⟩, ?_⟩
  funext a
  match a with
  | ⟨0, _⟩ => rfl
  | ⟨1, _⟩ => exact Fin.ext (by show (y 1).val = 64 * ((y 1).val / 64) + (y 1).val % 64; omega)

theorem out6_eq (t : Fin cfg0.N) : ∃ w, (outsAt0 m c t.val t.isLt).1 = dqOf (iblk m c 0 t) (iblk m c 1 t) (iblk m c 2 t) (iblk m c 3 t) (iblk m c 4 t) (iblk m c 5 t) w := by
  by_cases h : t.val % 2 = 0
  · exact out6_A m c t h (by omega) h (by omega)
  · exact out6_B m c t h (by omega) h (by omega)

/-- Result array 0. -/
theorem arr6_eq : (Gen.dats m 0 c).arrAt 6 (cfgs 0).N = arrQ (A0 m c) (A1 m c) (A2 m c) (A3 m c) := by
  refine (dats m 0 c).arrAt_eq_of_covers 6 _ (by decide +kernel) fun t hf y => ?_
  blk_simp
  rw [after0_6]
  obtain ⟨s, e, l, rfl⟩ := block_idx y
  obtain ⟨w, hw⟩ := out6_eq m c t
  have ht : t.val < 4 := t.isLt
  have h1 := dqOf_eq (iblk m c 0 t) (iblk m c 1 t) (iblk m c 2 t) (iblk m c 3 t) (iblk m c 4 t) (iblk m c 5 t) w e s l
  rw [← hw] at h1
  refine Eq.trans (b := gQ _ _ _ _ _ _ s l) h1 ?_
  rw [in0, in1, in2, in3, in4, in5]
  have hi : ((cfg0.win 6).blk t).view.emb (ix2 s ⟨64 * e.val + l.val, by omega⟩) =
      (ix2 ⟨2048 * (t.val % 2) + s.val, by omega⟩ ⟨128 * (t.val / 2) + (64 * e.val + l.val), by omega⟩ : S4096x256.Idx) := by
    blk_ext [(idx6 t).1, (idx6 t).2]
  rw [hi]
  unfold arrQ
  have hb : pb t = (⟨(2048 * (t.val % 2) + s.val) / 2048, by omega⟩ : Fin 2) := Fin.ext (by dsimp only [pb] <;> omega)
  have hh : ph t e = (⟨(128 * (t.val / 2) + (64 * e.val + l.val)) / 64, by omega⟩ : Fin 4) := Fin.ext (by dsimp only [ph] <;> omega)
  have hs : s = (⟨(2048 * (t.val % 2) + s.val) % 2048, by omega⟩ : Fin 2048) := Fin.ext (by dsimp only <;> omega)
  have hl : l = (⟨(128 * (t.val / 2) + (64 * e.val + l.val)) % 64, by omega⟩ : Fin 64) := Fin.ext (by dsimp only <;> omega)
  rw [hb, hh]
  exact congrArg₂ (gQ _ _ _ _ _ _) hs hl

theorem out7_eq (t : Fin cfg0.N) : ∃ w, (outsAt0 m c t.val t.isLt).2.1 = dkOf (iblk m c 0 t) (iblk m c 1 t) (iblk m c 2 t) (iblk m c 3 t) (iblk m c 4 t) (iblk m c 5 t) w := by
  by_cases h : t.val % 2 = 0
  · exact out7_A m c t h (by omega) h (by omega)
  · exact out7_B m c t h (by omega) h (by omega)

/-- Result array 1. -/
theorem arr7_eq : (Gen.dats m 0 c).arrAt 7 (cfgs 0).N = arrK (A0 m c) (A1 m c) (A2 m c) (A3 m c) := by
  refine (dats m 0 c).arrAt_eq_of_covers 7 _ (by decide +kernel) fun t hf y => ?_
  blk_simp
  rw [after0_7]
  obtain ⟨s, e, l, rfl⟩ := block_idx y
  obtain ⟨w, hw⟩ := out7_eq m c t
  have ht : t.val < 4 := t.isLt
  have h1 := dkOf_eq (iblk m c 0 t) (iblk m c 1 t) (iblk m c 2 t) (iblk m c 3 t) (iblk m c 4 t) (iblk m c 5 t) w e s l
  rw [← hw] at h1
  refine Eq.trans (b := gK _ _ _ _ _ _ s l) h1 ?_
  rw [in0, in1, in2, in3, in4, in5]
  have hi : ((cfg0.win 7).blk t).view.emb (ix2 s ⟨64 * e.val + l.val, by omega⟩) =
      (ix2 ⟨2048 * (t.val % 2) + s.val, by omega⟩ ⟨128 * (t.val / 2) + (64 * e.val + l.val), by omega⟩ : S4096x256.Idx) := by
    blk_ext [(idx7 t).1, (idx7 t).2]
  rw [hi]
  unfold arrK
  have hb : pb t = (⟨(2048 * (t.val % 2) + s.val) / 2048, by omega⟩ : Fin 2) := Fin.ext (by dsimp only [pb] <;> omega)
  have hh : ph t e = (⟨(128 * (t.val / 2) + (64 * e.val + l.val)) / 64, by omega⟩ : Fin 4) := Fin.ext (by dsimp only [ph] <;> omega)
  have hs : s = (⟨(2048 * (t.val % 2) + s.val) % 2048, by omega⟩ : Fin 2048) := Fin.ext (by dsimp only <;> omega)
  have hl : l = (⟨(128 * (t.val / 2) + (64 * e.val + l.val)) % 64, by omega⟩ : Fin 64) := Fin.ext (by dsimp only <;> omega)
  rw [hb, hh]
  exact congrArg₂ (gK _ _ _ _ _ _) hs hl

theorem out8_eq (t : Fin cfg0.N) : ∃ w, (outsAt0 m c t.val t.isLt).2.2.1 = dvOf (iblk m c 0 t) (iblk m c 1 t) (iblk m c 3 t) (iblk m c 4 t) w := by
  by_cases h : t.val % 2 = 0
  · exact out8_A m c t h (by omega) h (by omega)
  · exact out8_B m c t h (by omega) h (by omega)

/-- Result array 2. -/
theorem arr8_eq (hd : Dens (A0 m c) (A1 m c)) : (Gen.dats m 0 c).arrAt 8 (cfgs 0).N = arrV (A0 m c) (A1 m c) (A2 m c) := by
  refine (dats m 0 c).arrAt_eq_of_covers 8 _ (by decide +kernel) fun t hf y => ?_
  blk_simp
  rw [after0_8]
  obtain ⟨s, e, l, rfl⟩ := block_idx y
  obtain ⟨w, hw⟩ := out8_eq m c t
  have ht : t.val < 4 := t.isLt
  have h1 := dvOf_eq (iblk m c 0 t) (iblk m c 1 t) (iblk m c 3 t) (iblk m c 4 t) (den_pt m c t hd) w e s l
  rw [← hw] at h1
  refine Eq.trans (b := gV _ _ _ _ s l) h1 ?_
  rw [in0, in1, in3, in4]
  have hi : ((cfg0.win 8).blk t).view.emb (ix2 s ⟨64 * e.val + l.val, by omega⟩) =
      (ix2 ⟨2048 * (t.val % 2) + s.val, by omega⟩ ⟨128 * (t.val / 2) + (64 * e.val + l.val), by omega⟩ : S4096x256.Idx) := by
    blk_ext [(idx8 t).1, (idx8 t).2]
  rw [hi]
  unfold arrV
  have hb : pb t = (⟨(2048 * (t.val % 2) + s.val) / 2048, by omega⟩ : Fin 2) := Fin.ext (by dsimp only [pb] <;> omega)
  have hh : ph t e = (⟨(128 * (t.val / 2) + (64 * e.val + l.val)) / 64, by omega⟩ : Fin 4) := Fin.ext (by dsimp only [ph] <;> omega)
  have hs : s = (⟨(2048 * (t.val % 2) + s.val) % 2048, by omega⟩ : Fin 2048) := Fin.ext (by dsimp only <;> omega)
  have hl : l = (⟨(128 * (t.val / 2) + (64 * e.val + l.val)) % 64, by omega⟩ : Fin 64) := Fin.ext (by dsimp only <;> omega)
  rw [hb, hh]
  exact congrArg₂ (gV _ _ _ _) hs hl

/-- Result array 3: the bias tables' gradient, written back once per pair of heads. -/
theorem arr9_eq : (Gen.dats m 0 c).arrAt 9 (cfgs 0).N = arrB (A0 m c) (A1 m c) (A2 m c) (A3 m c) := by
  refine (dats m 0 c).arrAt_eq_of_covers 9 _ (by decide +kernel) fun t hf y => ?_
  blk_simp
  rw [after0_9]
  have ht : t.val < 4 := t.isLt
  have hodd : t.val % 2 = 1 := by
    have : ∀ t : Fin grid0.N, win0_9.flush t = true → t.val % 2 = 1 := by decide +kernel
    exact this t hf
  obtain ⟨w, w0, w1, hw⟩ := out9_B m c t (by omega) hodd (by omega) hodd
  obtain ⟨e, i, j, rfl⟩ : ∃ (e : Fin 2) (i : Fin 128) (j : Fin 256), y = ix3 e i j := ⟨y 0, y 1, y 2, eq_ix3 y⟩
  have h0 : ∀ u : Fin cfg0.N, u.val % 2 = 0 → (outsAt0 m c u.val u.isLt).2.2.2 (ix3 e i j) = tabB (A0 m c) (A1 m c) (A2 m c) (A3 m c) (pb u) (ph u e) i j := by
    intro u hu
    obtain ⟨v, v0, v1, hv⟩ := out9_A m c u hu (by omega) hu (by omega)
    have h2 := dbFirst_eq (iblk m c 0 u) (iblk m c 1 u) (iblk m c 2 u) (iblk m c 3 u) (iblk m c 4 u) (iblk m c 5 u) v v0 v1 e i j
    rw [← hv] at h2
    refine Eq.trans (b := gB _ _ _ _ _ _ i j) h2 ?_
    rw [in0, in1, in2, in3, in4, in5]; rfl
  have hN : t.val - 1 < cfg0.N := lt_of_le_of_lt (Nat.sub_le _ _) t.isLt
  have h1 := dbNext_eq (iblk m c 0 t) (iblk m c 1 t) (iblk m c 2 t) (iblk m c 3 t) (iblk m c 4 t) (iblk m c 5 t)
    ((outsAt0 m c (t.val - 1) hN).2.2.2) w w0 w1 e i j
  rw [h0 ⟨t.val - 1, hN⟩ (by dsimp only <;> omega)] at h1
  rw [← hw] at h1
  refine Eq.trans (b := _ + gB _ _ _ _ _ _ i j) h1 ?_
  rw [in0, in1, in2, in3, in4, in5]
  have hi : ((cfg0.win 9).blk t).view.emb (ix3 e i j) = (ix3 ⟨2 * (t.val / 2) + e.val, by omega⟩ i j : S4x128x256.Idx) := by
    blk_ext [(idx9 t).1, (idx9 t).2.1, (idx9 t).2.2]
  rw [hi]
  have hb0 : pb ⟨t.val - 1, hN⟩ = 0 := Fin.ext (by show (t.val - 1) % 2 = 0; omega)
  have hb1 : pb t = 1 := Fin.ext hodd
  have hh : ph ⟨t.val - 1, hN⟩ e = ph t e := Fin.ext (by show 2 * ((t.val - 1) / 2) + e.val = 2 * (t.val / 2) + e.val; omega)
  rw [hb0, hb1, hh]
  rfl

/-- The kernel's run: the four result arrays hold the gradients, the arguments end as they began. -/
theorem run_kernel (ρ : Dev nD → PrngReg) (hd : ∀ c, Dens (A0 m c) (A1 m c)) :
    θ_run defs (onTc (τ := τ) (main (F := Ideal))) ⟨m, fun _ => 0, ρ⟩ fun r => ∀ c : Dev nD,
      r.2.mem ((c : Thread nD τ).loc main_v0_0) = arrQ (A0 m c) (A1 m c) (A2 m c) (A3 m c)
      ∧ r.2.mem ((c : Thread nD τ).loc main_v0_1) = arrK (A0 m c) (A1 m c) (A2 m c) (A3 m c)
      ∧ r.2.mem ((c : Thread nD τ).loc main_v0_2) = arrV (A0 m c) (A1 m c) (A2 m c)
      ∧ r.2.mem ((c : Thread nD τ).loc main_v0_3) = arrB (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h6, h7, h8, h9, hr⟩ := h c
    exact ⟨h6.trans (arr6_eq m c), h7.trans (arr7_eq m c), h8.trans (arr8_eq m c (hd c)), h9.trans (arr9_eq m c), hr⟩)
    (Value.run_blocks m ρ)

end Cert.KernelIdeal.Attn

end
-- ==== Proof.RefRead.lean ====
/-
  THE REFERENCE READ AT AN INDEX. The reference works on blocks of 128 queries, each against a band of 256 keys: its own block
  and the one before, which is zero for the first block. Here each of its stages is read at batch entry `b`, block `n`, head `h`,
  query `q` and key `k` as the corresponding part of a row (Row.lean) over the 256 keys of the band.
-/
module

public import proofs.«01_k».proof.Proof.KernelValue
public import proofs.«01_k».proof.Proof.Gen.ReferenceIdeal.Read
public import Idealize.ShloMosaic.Lib.KernelVsHost

@[expose] public section

set_option maxRecDepth 16384

noncomputable section

namespace Cert.ReferenceIdeal.Attn

open Cert.ReferenceIdeal Cert.ReferenceIdeal.Gen Cert.ReferenceIdeal.Read Idealize.ShloMosaic Idealize.SL.Sem Cert.AttnRow Cert.AttnSpec
open Cert.KernelIdeal.Attn (select_word ofBits_neg_inf fold_max_bot ofBool_word)

/-- Key `k` of block `n`'s band is there and in query `q`'s window. -/
def liveR (n : Fin 16) (q : Fin 128) (k : Fin 256) : Prop := (q.val ≤ k.val ∧ k.val ≤ q.val + 128) ∧ 128 ≤ 128 * n.val + k.val

instance (n : Fin 16) (q : Fin 128) : DecidablePred (liveR n q) := fun _ => inferInstanceAs (Decidable (_ ∧ _))

/-- The position of query `q` of block `n`. -/
abbrev pos (n : Fin 16) (q : Fin 128) : Fin 2048 := ⟨128 * n.val + q.val, by omega⟩
/-- The position of key `k` of block `n`'s band. -/
abbrev kpos (n : Fin 16) (k : Fin 256) : Fin 2048 := ⟨128 * n.val + k.val - 128, by omega⟩

/-- A block's band has all that its queries see. -/
theorem numbers (n : Fin 16) (q : Fin 128) : Numbers (liveR n q) (live (pos n q)) (kpos n) where
  live k h := by
    obtain ⟨⟨h1, h2⟩, h3⟩ := h
    constructor <;> dsimp only <;> omega
  onto u hu := by
    obtain ⟨h1, h2⟩ := hu
    dsimp only at h1 h2
    exact ⟨⟨u.val + 128 - 128 * n.val, by omega⟩, ⟨⟨by dsimp only; omega, by dsimp only; omega⟩, by dsimp only; omega⟩,
      Fin.ext (by dsimp only; omega)⟩
  inj i j hi hj e := by
    have := congrArg Fin.val e
    dsimp only at this
    exact Fin.ext (by have := hi.2; have := hj.2; omega)

/-- The band of an array of positions: zero before the sequence's start. -/
def band (X : Fin 2048 → Fin 64 → EReal) (n : Fin 16) (k : Fin 256) (l : Fin 64) : EReal :=
  if 128 ≤ 128 * n.val + k.val then X (kpos n k) l else 0

section row
variable (Q K V O : Fin 2048 → Fin 64 → EReal) (D : Fin 2048 → EReal) (B : Fin 128 → Fin 256 → EReal)
/-- A logit. -/
def lgR (n : Fin 16) (q : Fin 128) (k : Fin 256) : EReal := (∑ l, Q (pos n q) l * band K n k l) * c8 + B q k
/-- A score. -/
def scR (n : Fin 16) (q : Fin 128) (k : Fin 256) : EReal := ∑ l, O (pos n q) l * band V n k l
/-- The gradient of the logits, without the maximum's part. -/
def dsR (n : Fin 16) (q : Fin 128) (k : Fin 256) : EReal := rds (liveR n q) (lgR Q K B n q) (scR V O n q) (D (pos n q)) k
end row

theorem e5 {n0 n1 n2 n3 n4 : ℕ} {x y : (⟨5, ![n0, n1, n2, n3, n4]⟩ : Shape).Idx} (h0 : (x 0).val = (y 0).val := by rfl) (h1 : (x 1).val = (y 1).val := by rfl)
    (h2 : (x 2).val = (y 2).val := by rfl) (h3 : (x 3).val = (y 3).val := by rfl) (h4 : (x 4).val = (y 4).val := by rfl) : x = y := by
  funext a
  match a with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4
theorem e4 {n0 n1 n2 n3 : ℕ} {x y : (⟨4, ![n0, n1, n2, n3]⟩ : Shape).Idx} (h0 : (x 0).val = (y 0).val := by rfl) (h1 : (x 1).val = (y 1).val := by rfl)
    (h2 : (x 2).val = (y 2).val := by rfl) (h3 : (x 3).val = (y 3).val := by rfl) : x = y := by
  funext a
  match a with
  | ⟨0, _⟩ => exact Fin.ext h0
  | ⟨1, _⟩ => exact Fin.ext h1
  | ⟨2, _⟩ => exact Fin.ext h2
  | ⟨3, _⟩ => exact Fin.ext h3
theorem zero_word (i : S_.Idx) : (FloatOps.ofBits (F := Ideal) .f32 0x00000000#32 : EReal) = 0 := by
  show Ideal.ofBits .f32 0x00000000#32 = 0
  simp [Ideal.ofBits, Ideal.ieee]

/-- The host's maximum over the last axis. -/
theorem reduce_max (v : S2x16x4x128x256.Idx → EReal) (b : Fin 2) (n : Fin 16) (h : Fin 4) (q : Fin 128) :
    Host.reduce (FloatOps.maximumf (F := Ideal) (φ := .f32)) v (constant S_ .f32 0xFF800000#32) reducesTo_S2x16x4x128x256_S2x16x4x128_d4 h_S_ (ix4 b n h q)
      = Finset.univ.sup fun k : Fin 256 => v (ix5 b n h q k) := by
  have hr : S2x16x4x128x256.Reduces [4] S2x16x4x128 := by decide
  refine (congrFun (hostReduce_maximumf_eq_multiReduction (F := Ideal) (φ := .f32) v 0xFF800000#32 _ _ hr (.inl rfl) rfl) _).trans
    ((Ideal.multiReduction_maximumf_single v _ hr (.inl rfl) rfl _).trans ?_)
  rw [← fold_max_bot]
  refine congrArg₂ (fun z f => Finset.fold max z f Finset.univ) ofBits_neg_inf (funext fun k => ?_)
  exact congrArg v (e5 (by rfl) (by rfl) (by rfl) (by rfl) (by rfl))

theorem one_word : Ideal.ofBits .f32 0x3F800000#32 = 1 := by
  simp [Ideal.ofBits, Ideal.ieee]
  rw [← EReal.coe_mul]
  norm_num

variable (x0 : (⟨S4096x9728, .f32⟩ : BufTy).Contents (Elt Ideal)) (x1 : (⟨S12x128x256, .f32⟩ : BufTy).Contents (Elt Ideal))
  (x2 : (⟨S4096x256, .f32⟩ : BufTy).Contents (Elt Ideal)) (x3 : (⟨S2x4096x128, .f32⟩ : BufTy).Contents (Elt Ideal))
  (b : Fin 2) (n : Fin 16) (h : Fin 4)

/-! ### The operands -/

theorem q_eq (q : Fin 128) (l : Fin 64) : val_main_v10 (F := Ideal) x0 (ix5 b n q h l) = qOf x0 b h (pos n q) l := by
  rw [val_main_v10_apply, val_main_v1_apply, val_main_v0_apply]
  unfold qOf lanesOf
  congr 1
  funext a
  match a with
  | ⟨0, _⟩ => exact Fin.ext (by dsimp [ix5] <;> omega)
  | ⟨1, _⟩ => exact Fin.ext (by dsimp [ix5] <;> omega)
theorem k_eq (q : Fin 128) (l : Fin 64) : val_main_v11 (F := Ideal) x0 (ix5 b n q h l) = kOf x0 b h (pos n q) l := by
  rw [val_main_v11_apply, val_main_v3_apply, val_main_v2_apply]
  unfold kOf lanesOf
  congr 1
  funext a
  match a with
  | ⟨0, _⟩ => exact Fin.ext (by dsimp [ix5] <;> omega)
  | ⟨1, _⟩ => exact Fin.ext (by dsimp [ix5] <;> omega)
theorem v_eq (q : Fin 128) (l : Fin 64) : val_main_v18 (F := Ideal) x0 (ix5 b n q h l) = vOf x0 b h (pos n q) l := by
  rw [val_main_v18_apply, val_main_v5_apply, val_main_v4_apply]
  unfold vOf lanesOf
  congr 1
  funext a
  match a with
  | ⟨0, _⟩ => exact Fin.ext (by dsimp [ix5] <;> omega)
  | ⟨1, _⟩ => exact Fin.ext (by dsimp [ix5] <;> omega)
theorem o_eq (l : Fin 64) (q : Fin 128) : val_main_v92 (F := Ideal) x2 (ix5 b n h l q) = oOf x2 b h (pos n q) l := by
  rw [val_main_v92_apply, val_main_v89_apply, val_main_v86_apply]
  unfold oOf lanesOf
  congr 1
  funext a
  match a with
  | ⟨0, _⟩ => exact Fin.ext (by dsimp [ix5] <;> omega)
  | ⟨1, _⟩ => exact Fin.ext (by dsimp [ix5] <;> omega)
theorem d_eq (q : Fin 128) : val_main_v88 (F := Ideal) x3 (ix4 b n h q) = lseOf x3 b h (pos n q) := by
  rw [val_main_v88_apply, val_main_v87_apply, val_main_v8_apply, val_main_v7_apply, val_main_v6_apply]
  unfold lseOf
  congr 1
  funext a
  match a with
  | ⟨0, _⟩ => exact Fin.ext (by dsimp [ix4] <;> omega)
  | ⟨1, _⟩ => exact Fin.ext (by dsimp [ix4] <;> omega)
  | ⟨2, _⟩ => exact Fin.ext (by dsimp [ix4] <;> omega)
theorem bias_eq (q : Fin 128) (k : Fin 256) : val_main_v57 (F := Ideal) x1 (ix5 b n h q k) = tableOf x1 h q k := by
  rw [val_main_v57_apply, val_main_v56_apply, val_main_v9_apply]
  unfold tableOf
  congr 1
  funext a
  match a with
  | ⟨0, _⟩ => rfl
  | ⟨1, _⟩ => rfl
  | ⟨2, _⟩ => rfl

/-- The band of an array of blocks. -/
theorem band_read (X : FVec Ideal S2x16x128x4x64 .f32) (f : Fin 2048 → Fin 64 → EReal) (b : Fin 2) (n : Fin 16) (h : Fin 4)
    (hX : ∀ n q l, X (ix5 b n q h l) = f (pos n q) l) (k : Fin 256) (l : Fin 64) :
    concatenate S2x16x256x4x64 2 [⟨S2x16x128x4x64, concatenate S2x16x128x4x64 1 [⟨S2x1x128x4x64, broadcastInDim S2x1x128x4x64 ![] bcast_S_S2x1x128x4x64 (constant (F := Ideal) S_ .f32 0x00000000#32)⟩,
      ⟨S2x15x128x4x64, extractStridedSlice S2x15x128x4x64 ![0, 0, 0, 0, 0] X slices_S2x16x128x4x64_S2x15x128x4x64_0_0_0_0_0⟩] concatenates_S2x1x128x4x64_S2x15x128x4x64_S2x16x128x4x64_d1⟩,
      ⟨S2x16x128x4x64, X⟩] concatenates_S2x16x128x4x64_S2x16x128x4x64_S2x16x256x4x64_d2 (ix5 b n k h l) = band f n k l := by
  pointwise
  unfold band
  by_cases hk : k.val < 128
  · rw [dif_pos hk]
    by_cases hn : n.val < 1
    · rw [dif_pos hn, if_neg (by omega)]
    · rw [dif_neg hn]
      exact (hX _ _ _).trans ((congrArg (f · l) (Fin.ext (by dsimp only <;> omega))).trans (if_pos (by omega)).symm)
  · rw [dif_neg hk]
    exact (hX _ _ _).trans ((congrArg (f · l) (Fin.ext (by dsimp only <;> omega))).trans (if_pos (by omega)).symm)
theorem kb_eq (k : Fin 256) (l : Fin 64) : val_main_v17 (F := Ideal) x0 (ix5 b n k h l) = band (kOf x0 b h) n k l :=
  band_read _ _ b n h (fun n => k_eq x0 b n h) k l
theorem vb_eq (k : Fin 256) (l : Fin 64) : val_main_v24 (F := Ideal) x0 (ix5 b n k h l) = band (vOf x0 b h) n k l :=
  band_read _ _ b n h (fun n => v_eq x0 b n h) k l

/-- The mask. -/
theorem mask_eq (q : Fin 128) (k : Fin 256) : val_main_v60_1 (F := Ideal) (ix5 b n h q k) = if liveR n q k then 1#1 else 0#1 := by
  pointwise [val_main_v60_1, val_main_v59, val_main_v52, val_main_v50, val_main_v51, val_main_v49, val_main_v48, val_main_v47, val_main_v46, val_main_v45, val_main_v44, val_main_v43, val_main_c_6, val_main_v42, val_main_v41, val_main_c_5, val_main_v40, val_main_v39, val_main_v38, val_main_v37, val_main_v36, val_main_c_4, val_main_v35, val_main_v34, val_main_c_3, val_main_v33, val_main_v32, val_main_c, val_main_v31, val_main_v30, val_main_v29, val_main_v28, val_main_v27, val_main_v26, val_main_v25]
  have hx : (IntOp.addi (IntOp.subi (BitVec.ofNat 32 q.val) (BitVec.ofNat 32 k.val)) 128#32).toInt = (q.val : Int) + 128 - k.val := by
    show (BitVec.ofNat 32 q.val - BitVec.ofNat 32 k.val + 128#32).toInt = _
    rw [BitVec.toInt_eq_toNat_cond, BitVec.toNat_add, BitVec.toNat_sub, BitVec.toNat_ofNat, BitVec.toNat_ofNat, BitVec.toNat_ofNat]
    split_ifs <;> omega
  rw [WordCmp.cmpi_sge_eq, WordCmp.cmpi_sle_eq, hx, WordCmp.cmpi_sgt_ofNat (by omega) (by omega), WordCmp.cmpi_sge_ofNat (by omega) (by omega),
    ofBool_word, ofBool_word, ofBool_word, ofBool_word]
  have e0 : (0#32 : BitVec 32).toInt = 0 := rfl
  have e1 : (128#32 : BitVec 32).toInt = 128 := rfl
  rw [e0, e1]
  unfold liveR
  by_cases h1 : k.val ≤ q.val + 128 <;> by_cases h2 : q.val ≤ k.val <;> by_cases h3 : 0 < n.val <;> by_cases h4 : 128 ≤ k.val
  all_goals
    simp only [show ((0 : Int) ≤ (q.val : Int) + 128 - k.val) = (k.val ≤ q.val + 128) from propext (by omega),
      show ((q.val : Int) + 128 - k.val ≤ 128) = (q.val ≤ k.val) from propext (by omega),
      show (128 ≤ 128 * n.val + k.val) = (0 < n.val ∨ 128 ≤ k.val) from propext (by omega), h1, h2, h3, h4]
    decide

/-! ### The forward part -/

variable (q : Fin 128) (k : Fin 256)

theorem logit_eq : val_main_v60_0 (F := Ideal) x0 x1 (ix5 b n h q k)
    = rmask (liveR n q) (lgR (qOf x0 b h) (kOf x0 b h) (tableOf x1 h) n q) k := by
  rw [val_main_v60_0_apply, mask_eq, select_word]
  refine if_congr Iff.rfl ?_ ?_
  · rw [val_main_v58_apply, val_main_v55_apply, bias_eq, val_main_v53_apply]
    refine congrArg (· + _) (congrArg₂ (· * ·) (Finset.sum_congr rfl fun l _ => congrArg₂ (· * ·) ?_ ?_) ?_)
    · exact (congrArg _ (e5 (y := ix5 b n q h l))).trans (q_eq x0 b n h q l)
    · exact (congrArg _ (e5 (y := ix5 b n k h l))).trans (kb_eq x0 b n h k l)
    · rw [val_main_v54_apply, val_main_cst_7_apply]; rfl
  · rw [val_main_call0_v2_apply, val_main_call0_v0_apply, val_main_cst_8_apply]
    exact ofBits_neg_inf

theorem max_eq : val_main_v61 (F := Ideal) x0 x1 (ix4 b n h q)
    = rmax (liveR n q) (lgR (qOf x0 b h) (kOf x0 b h) (tableOf x1 h) n q) := by
  unfold val_main_v61 val_main_cst_9
  refine (reduce_max _ b n h q).trans ?_
  unfold rmax
  exact congrArg (Finset.sup Finset.univ) (funext fun k => logit_eq x0 x1 b n h q k)

theorem p_eq : val_main_v70 (F := Ideal) x0 x1 (ix5 b n h q k)
    = rp (liveR n q) (lgR (qOf x0 b h) (kOf x0 b h) (tableOf x1 h) n q) k := by
  rw [val_main_v70_apply, val_main_v69_apply, val_main_v68_apply, val_main_v67_apply, logit_eq]
  have := (congrArg (val_main_v61 (F := Ideal) x0 x1) (e4 (x := idx_main_v67 (idx_main_v68 (ix5 b n h q k))) (y := ix4 b n h q))).trans (max_eq x0 x1 b n h q)
  rw [this]
  unfold rp
  rfl

theorem den_eq : val_main_v71 (F := Ideal) x0 x1 (ix4 b n h q)
    = rden (liveR n q) (lgR (qOf x0 b h) (kOf x0 b h) (tableOf x1 h) n q) := by
  rw [val_main_v71_apply, val_main_cst_11_apply, zero_word ix0, zero_add]
  exact Finset.sum_congr rfl fun k _ => (congrArg _ (e5 (y := ix5 b n h q k))).trans (p_eq x0 x1 b n h q k)

theorem den1_eq (z : Fin 1) : val_main_v72 (F := Ideal) x0 x1 (ix5 b n h q z)
    = rden (liveR n q) (lgR (qOf x0 b h) (kOf x0 b h) (tableOf x1 h) n q) := by
  rw [val_main_v72_apply]
  exact (congrArg _ (e4 (y := ix4 b n h q))).trans (den_eq x0 x1 b n h q)

theorem w_eq : val_main_v74 (F := Ideal) x0 x1 (ix5 b n h q k)
    = Ideal.div (rp (liveR n q) (lgR (qOf x0 b h) (kOf x0 b h) (tableOf x1 h) n q) k)
      (rden (liveR n q) (lgR (qOf x0 b h) (kOf x0 b h) (tableOf x1 h) n q)) := by
  rw [val_main_v74_apply, p_eq, val_main_v73_apply]
  exact congrArg (Ideal.div _) ((congrArg _ (e5 (y := ix5 b n h q 0))).trans (den1_eq x0 x1 b n h q 0))

theorem score_eq : val_main_v93 (F := Ideal) x0 x2 (ix5 b n h q k) = scR (vOf x0 b h) (oOf x2 b h) n q k := by
  rw [val_main_v93_apply]
  refine Finset.sum_congr rfl fun l _ => congrArg₂ (· * ·) ?_ ?_
  · exact (congrArg _ (e5 (y := ix5 b n h l q))).trans (o_eq x2 b n h l q)
  · exact (congrArg _ (e5 (y := ix5 b n k h l))).trans (vb_eq x0 b n h k l)

/-! ### The gradient of the logits -/

theorem dd_eq : val_main_v105 (F := Ideal) x0 x1 x2 x3 (ix4 b n h q)
    = rdd (liveR n q) (lgR (qOf x0 b h) (kOf x0 b h) (tableOf x1 h) n q) (scR (vOf x0 b h) (oOf x2 b h) n q) (lseOf x3 b h (pos n q)) := by
  rw [val_main_v105_apply, val_main_cst_14_apply, zero_word ix0, zero_add, Fin.sum_univ_one, val_main_v102_apply, val_main_v91_apply,
    val_main_v90_apply, val_main_v101_apply, val_main_v100_apply]
  unfold rdd
  refine congrArg₂ (· + ·) (congrArg₂ Ideal.div ?_ ?_) ?_
  · exact (congrArg _ (e4 (y := ix4 b n h q))).trans (d_eq x3 b n h q)
  · exact (congrArg _ (e5 (y := ix5 b n h q 0))).trans (den1_eq x0 x1 b n h q 0)
  · rw [zero_sub]
    refine congrArg (fun z : EReal => -z) ?_
    rw [show idx_main_v100 (idx_main_v105 (ix4 b n h q) 0) = ix4 b n h q from e4 (by dsimp [ix4]; omega) (by dsimp [ix4]; omega) (by dsimp [ix4]; omega) (by dsimp [ix4]; omega),
      val_main_v99_apply, val_main_cst_13_apply, zero_word ix0, zero_add]
    refine Finset.sum_congr rfl fun k _ => ?_
    rw [show idx_main_v99 (ix4 b n h q) k = ix5 b n h q k from e5 (by rfl) (by rfl) (by rfl) (by rfl) (by rfl), val_main_v98_apply, val_main_v97_apply, score_eq, p_eq,
      val_main_v96_apply, show idx_main_v96 (ix5 b n h q k) = ix5 b n h q 0 from e5 (by rfl) (by rfl) (by rfl) (by rfl) (by rfl), val_main_v77_apply, val_main_v75_apply, den1_eq,
      val_main_v76_apply, val_main_cst_12_apply]
    refine congrArg (· * _) (congrArg (_ * ·) (congrArg (Ideal.div · _) ?_))
    exact one_word

theorem ds0_eq : val_main_v108 (F := Ideal) x0 x1 x2 x3 (ix5 b n h q k)
    = dsR (qOf x0 b h) (kOf x0 b h) (vOf x0 b h) (oOf x2 b h) (lseOf x3 b h) (tableOf x1 h) n q k := by
  rw [val_main_v108_apply, val_main_v107_apply, val_main_v104_apply, score_eq, p_eq, val_main_v103_apply,
    show idx_main_v103 (ix5 b n h q k) = ix5 b n h q 0 from e5 (by rfl) (by rfl) (by rfl) (by rfl) (by rfl), den1_eq, val_main_v106_apply,
    show idx_main_v106 (ix5 b n h q k) = ix4 b n h q from e4 (by rfl) (by rfl) (by rfl) (by rfl), dd_eq]
  unfold dsR rds
  by_cases hl : liveR n q k
  · rw [if_pos hl]; rfl
  · rw [if_neg hl, rp_of_not _ _ hl]; exact mul_zero _

/-- The number of keys at which a row's maximum is reached is not zero. -/
theorem count_ne (hf : ∃ j, rmask (liveR n q) (lgR (qOf x0 b h) (kOf x0 b h) (tableOf x1 h) n q) j
    = rmax (liveR n q) (lgR (qOf x0 b h) (kOf x0 b h) (tableOf x1 h) n q)) : val_main_v66 (F := Ideal) x0 x1 (ix4 b n h q) ≠ 0 := by
  rw [val_main_v66_apply, val_main_cst_10_apply, zero_word ix0, zero_add]
  obtain ⟨j, hj⟩ := hf
  have he : ∀ k, val_main_v65 (F := Ideal) x0 x1 (idx_main_v66 (ix4 b n h q) k)
      = if rmask (liveR n q) (lgR (qOf x0 b h) (kOf x0 b h) (tableOf x1 h) n q) k
        = rmax (liveR n q) (lgR (qOf x0 b h) (kOf x0 b h) (tableOf x1 h) n q) then (1 : EReal) else 0 := by
    intro k
    rw [show idx_main_v66 (ix4 b n h q) k = ix5 b n h q k from e5 (by rfl) (by rfl) (by rfl) (by rfl) (by rfl), val_main_v65_apply, val_main_v64_apply,
      logit_eq, val_main_v63_apply, val_main_v62_apply, show idx_main_v62 (idx_main_v63 (ix5 b n h q k)) = ix4 b n h q from
        e4 (by dsimp [ix4, ix5]; omega) (by dsimp [ix4, ix5]; omega) (by dsimp [ix4, ix5]; omega) (by dsimp [ix4, ix5]; omega), max_eq]
    show (((BitVec.ofBool (decide (rmask (liveR n q) (lgR (qOf x0 b h) (kOf x0 b h) (tableOf x1 h) n q) k
        = rmax (liveR n q) (lgR (qOf x0 b h) (kOf x0 b h) (tableOf x1 h) n q)))).toNat : ℝ) : EReal) = _
    by_cases hm : rmask (liveR n q) (lgR (qOf x0 b h) (kOf x0 b h) (tableOf x1 h) n q) k
        = rmax (liveR n q) (lgR (qOf x0 b h) (kOf x0 b h) (tableOf x1 h) n q)
    · rw [if_pos hm, decide_eq_true hm]; simp
    · rw [if_neg hm, decide_eq_false hm]; simp
  intro h0
  have h1 : (1 : EReal) ≤ ∑ k, val_main_v65 (F := Ideal) x0 x1 (idx_main_v66 (ix4 b n h q) k) := by
    have := Finset.single_le_sum (f := fun k => val_main_v65 (F := Ideal) x0 x1 (idx_main_v66 (ix4 b n h q) k)) (s := Finset.univ)
      (fun k _ => by dsimp only; rw [he]; split_ifs <;> norm_num) (Finset.mem_univ j)
    dsimp only at this
    rw [he j, if_pos hj] at this
    exact this
  rw [h0] at h1
  exact absurd h1 (by norm_num)

end Cert.ReferenceIdeal.Attn

end
-- ==== Proof.RefValue.lean ====
/-
  THE REFERENCE'S RESULTS. With finite inputs the part of a logit's gradient that goes through the row's maximum is zero, so that
  the gradient is the row's of Row.lean; its sums over the blocks are then the sums over the positions of Spec.lean.
-/
module

public import proofs.«01_k».proof.Proof.RefRead

@[expose] public section

set_option maxRecDepth 16384

noncomputable section

namespace Cert.ReferenceIdeal.Attn

open Cert.ReferenceIdeal Cert.ReferenceIdeal.Gen Cert.ReferenceIdeal.Read Idealize.ShloMosaic Idealize.SL.Sem Cert.AttnRow Cert.AttnSpec
open Cert.KernelIdeal.Attn (select_word ofBits_neg_inf fold_max_bot ofBool_word)

/-! ### From a block's band to the positions -/

section row
variable (Q K V O : Fin 2048 → Fin 64 → EReal) (D : Fin 2048 → EReal) (B : Fin 128 → Fin 256 → EReal) (n : Fin 16) (q : Fin 128)

theorem lgR_eq (k : Fin 256) (hk : liveR n q k) : lgR Q K B n q k = logit Q K B (pos n q) (kpos n k) := by
  unfold lgR logit band biasAt
  simp only [if_pos hk.2]
  refine congrArg (_ + ·) (congrArg₂ B (Fin.ext ?_) (Fin.ext ?_))
  · dsimp only; omega
  · have := hk.2; dsimp only; omega
theorem scR_eq (k : Fin 256) (hk : liveR n q k) : scR V O n q k = score V O (pos n q) (kpos n k) := by
  unfold scR score band
  simp only [if_pos hk.2]
theorem live_iff (k : Fin 256) (hk : 128 ≤ 128 * n.val + k.val) : liveR n q k ↔ live (pos n q) (kpos n k) := by
  unfold liveR live
  dsimp only
  omega
/-- A logit's gradient in the band is that of the positions. -/
theorem dsR_eq (k : Fin 256) (hk : 128 ≤ 128 * n.val + k.val) : dsR Q K V O D B n q k = ds Q K V O D B (pos n q) (kpos n k) := by
  by_cases h : liveR n q k
  · exact (numbers n q).rds (lgR_eq Q K B n q) (scR_eq V O n q) (D (pos n q)) k h
  · rw [ds_of_not Q K V O D B (fun h' => h ((live_iff n q k hk).2 h'))]
    exact if_neg h
theorem dsR_out (k : Fin 256) (hk : ¬ 128 ≤ 128 * n.val + k.val) : dsR Q K V O D B n q k = 0 := if_neg fun h => hk h.2
theorem denR_eq : rden (liveR n q) (lgR Q K B n q) = rden (live (pos n q)) (logit Q K B (pos n q)) := (numbers n q).rden (lgR_eq Q K B n q)
/-- An attention weight in the band is that of the positions. -/
theorem wR_eq (hden : rden (live (pos n q)) (logit Q K B (pos n q)) ≠ 0) (k : Fin 256) (hk : 128 ≤ 128 * n.val + k.val) :
    Ideal.div (rp (liveR n q) (lgR Q K B n q) k) (rden (liveR n q) (lgR Q K B n q)) = wt Q K B (pos n q) (kpos n k) := by
  by_cases h : liveR n q k
  · rw [denR_eq, (numbers n q).rp (lgR_eq Q K B n q) k h]
    exact (if_pos ((live_iff n q k hk).1 h)).symm
  · rw [rp_of_not _ _ h, denR_eq, wt_of_not Q K B (fun h' => h ((live_iff n q k hk).2 h'))]
    exact Ideal.zero_div hden

/-- The maximum is reached. -/
theorem max_reached (hQ : Fin2 Q) (hK : Fin2 K) (hB : Fin2 B) :
    ∃ j, rmask (liveR n q) (lgR Q K B n q) j = rmax (liveR n q) (lgR Q K B n q) := by
  obtain ⟨g, hg⟩ := logit_real Q K B hQ hK hB
  obtain ⟨u, hu, hm⟩ := exists_rmax (live (pos n q)) (g (pos n q)) ⟨pos n q, live_self _⟩
  obtain ⟨j, hj, rfl⟩ := (numbers n q).onto u hu
  refine ⟨j, ?_⟩
  rw [(numbers n q).rmax (lgR_eq Q K B n q), hg, hm]
  unfold rmask
  rw [if_pos hj, lgR_eq Q K B n q j hj, hg]
/-- The gradient of a row's maximum is zero. -/
theorem max_grad (hQ : Fin2 Q) (hK : Fin2 K) (hB : Fin2 B) (hV : Fin2 V) (hO : Fin2 O) (hD : ∀ t, ∃ r : ℝ, D t = (r : EReal)) :
    D (pos n q) + ∑ k, -dsR Q K V O D B n q k = 0 := by
  obtain ⟨g, hg⟩ := logit_real Q K B hQ hK hB
  obtain ⟨s, hs⟩ := score_real V O hV hO
  obtain ⟨d, hd⟩ := hD (pos n q)
  have e : ∑ k, -dsR Q K V O D B n q k = ∑ u, -ds Q K V O D B (pos n q) u := by
    refine (numbers n q).sum _ _ (fun k hk => ?_) (fun k hk => ?_) (fun u hu => ?_)
    · rw [dsR_eq _ _ _ _ _ _ _ _ _ hk.2]
    · rw [show dsR Q K V O D B n q k = 0 from if_neg hk, neg_zero]
    · rw [ds_of_not _ _ _ _ _ _ hu, neg_zero]
  rw [e]
  unfold ds
  rw [hg, hs, hd, sum_rds _ _ _ _ ⟨pos n q, live_self _⟩, ← EReal.coe_neg, ← EReal.coe_add, add_neg_cancel, EReal.coe_zero]
end row

/-- A sum over the positions that has only the terms of block `n` and of the next one. -/
theorem sum_blocks (g : Fin 2048 → EReal) (n : Fin 16) (hz : ∀ n' q, n' ≠ n → n'.val ≠ n.val + 1 → g (pos n' q) = 0) :
    ∑ t, g t = (∑ q, g (pos n q)) + if hn : n.val < 15 then ∑ q, g (pos ⟨n.val + 1, by omega⟩ q) else 0 := by
  have e : ∑ t, g t = ∑ n', ∑ q, g (pos n' q) := by
    rw [← Fintype.sum_prod_type' (f := fun n' q => g (pos n' q))]
    refine (Fintype.sum_equiv (finProdFinEquiv (m := 16) (n := 128)) _ _ fun p => ?_).symm
    exact congrArg g (Fin.ext (by show 128 * p.1.val + p.2.val = p.2.val + 128 * p.1.val; omega))
  rw [e]
  by_cases hn : n.val < 15
  · rw [dif_pos hn]
    exact Fintype.sum_eq_add n ⟨n.val + 1, by omega⟩ (fun h => by have := congrArg Fin.val h; dsimp only at this; omega)
      fun c hc => Finset.sum_eq_zero fun q _ => hz c q hc.1 fun h => hc.2 (Fin.ext h)
  · rw [dif_neg hn, add_zero]
    exact Fintype.sum_eq_single n fun c hc => Finset.sum_eq_zero fun q _ => hz c q hc (by have := c.isLt; omega)

/-- A band's gradient put back: block `n`'s own half and the next block's half of the block before. -/
theorem shift_read (X : FVec Ideal S2x16x256x4x64 .f32) (b : Fin 2) (n : Fin 16) (q : Fin 128) (h : Fin 4) (l : Fin 64) :
    addf (extractStridedSlice S2x16x128x4x64 ![0, 0, 128, 0, 0] X slices_S2x16x256x4x64_S2x16x128x4x64_0_0_128_0_0)
      (pad S2x16x128x4x64 ![0, 0, 0, 0, 0] ![0, 1, 0, 0, 0] ![0, 0, 0, 0, 0] (extractStridedSlice S2x15x128x4x64 ![0, 1, 0, 0, 0]
        (extractStridedSlice S2x16x128x4x64 ![0, 0, 0, 0, 0] X slices_S2x16x256x4x64_S2x16x128x4x64_0_0_0_0_0) slices_S2x16x128x4x64_S2x15x128x4x64_0_1_0_0_0)
        (constant (F := Ideal) S_ .f32 0x00000000#32) pads_S2x15x128x4x64_S2x16x128x4x64_000_010_000_000_000 h_S_) (ix5 b n q h l)
      = X (ix5 b n ⟨128 + q.val, by omega⟩ h l) + if hn : n.val < 15 then X (ix5 b ⟨n.val + 1, by omega⟩ ⟨q.val, by omega⟩ h l) else 0 := by
  pointwise
  refine congrArg (X _ + ·) ?_
  by_cases hn : n.val < 15
  · rw [dif_pos hn, dif_pos hn]
    exact congrArg X (e5 (by rfl) (by dsimp [ix5]; omega) (by rfl) (by rfl) (by rfl))
  · rw [dif_neg hn, dif_neg hn]

variable (x0 : (⟨S4096x9728, .f32⟩ : BufTy).Contents (Elt Ideal)) (x1 : (⟨S12x128x256, .f32⟩ : BufTy).Contents (Elt Ideal))
  (x2 : (⟨S4096x256, .f32⟩ : BufTy).Contents (Elt Ideal)) (x3 : (⟨S2x4096x128, .f32⟩ : BufTy).Contents (Elt Ideal))

/-- Every head's operands are finite. -/
structure Finite : Prop where
  q : ∀ b h, Fin2 (qOf x0 b h)
  k : ∀ b h, Fin2 (kOf x0 b h)
  v : ∀ b h, Fin2 (vOf x0 b h)
  o : ∀ b h, Fin2 (oOf x2 b h)
  t : ∀ h, Fin2 (tableOf x1 h)
  d : ∀ b h t, ∃ r : ℝ, lseOf x3 b h t = (r : EReal)

variable {x0 x1 x2 x3} (H : Finite x0 x1 x2 x3) (b : Fin 2) (n : Fin 16) (h : Fin 4)
include H

theorem Finite.den : Dens x0 x1 := fun b h t => den_ne_zero _ _ _ (H.q b h) (H.k b h) (H.t h) t

/-- The reference's gradient of the logits. -/
theorem ds_eq (q : Fin 128) (k : Fin 256) : val_main_v118 (F := Ideal) x0 x1 x2 x3 (ix5 b n h q k)
    = dsR (qOf x0 b h) (kOf x0 b h) (vOf x0 b h) (oOf x2 b h) (lseOf x3 b h) (tableOf x1 h) n q k := by
  have hg : val_main_v113 (F := Ideal) x0 x1 x2 x3 (ix4 b n h q) = 0 := by
    rw [val_main_v113_apply, val_main_cst_16_apply, zero_word ix0, zero_add, Fin.sum_univ_one,
      show idx_main_v113 (ix4 b n h q) 0 = ix5 b n h q 0 from e5 (by rfl) (by rfl) (by rfl) (by rfl) (by rfl), val_main_v112_apply, val_main_v90_apply, val_main_v111_apply,
      show idx_main_v90 (ix5 b n h q 0) = ix4 b n h q from e4 (by rfl) (by rfl) (by rfl) (by rfl), d_eq,
      show idx_main_v111 (ix5 b n h q 0) = ix4 b n h q from e4 (by dsimp [ix4, ix5]; omega) (by dsimp [ix4, ix5]; omega) (by dsimp [ix4, ix5]; omega) (by dsimp [ix4, ix5]; omega),
      val_main_v110_apply, val_main_cst_15_apply, zero_word ix0, zero_add]
    refine Eq.trans ?_ (max_grad (qOf x0 b h) (kOf x0 b h) (vOf x0 b h) (oOf x2 b h) (lseOf x3 b h) (tableOf x1 h) n q (H.q b h) (H.k b h) (H.t h) (H.v b h) (H.o b h) (H.d b h))
    refine congrArg (lseOf x3 b h (pos n q) + ·) (Finset.sum_congr rfl fun k _ => ?_)
    rw [show idx_main_v110 (ix4 b n h q) k = ix5 b n h q k from e5 (by rfl) (by rfl) (by rfl) (by rfl) (by rfl), val_main_v109_apply, ds0_eq]
    rfl
  have h116 : val_main_v116 (F := Ideal) x0 x1 x2 x3 (ix5 b n h q k) = 0 := by
    rw [val_main_v116_apply, val_main_v115_apply, show idx_main_v115 (ix5 b n h q k) = ix4 b n h q from e4 (by rfl) (by rfl) (by rfl) (by rfl),
      val_main_v114_apply, hg]
    exact (congrArg (· * _) (Ideal.zero_div (count_ne x0 x1 b n h q (max_reached _ _ _ n q (H.q b h) (H.k b h) (H.t h))))).trans (zero_mul _)
  rw [val_main_v118_apply, mask_eq, select_word, val_main_v117_apply, h116, ds0_eq]
  by_cases hl : liveR n q k
  · rw [if_pos hl]; exact add_zero _
  · rw [if_neg hl, val_main_call1_v0_apply, val_main_call1_cst_apply, zero_word ix0]; exact (if_neg hl).symm

/-- … scaled. -/
theorem dss_eq (q : Fin 128) (k : Fin 256) : val_main_v123 (F := Ideal) x0 x1 x2 x3 (ix5 b n h q k)
    = dsR (qOf x0 b h) (kOf x0 b h) (vOf x0 b h) (oOf x2 b h) (lseOf x3 b h) (tableOf x1 h) n q k * c8 := by
  rw [val_main_v123_apply, ds_eq H, val_main_v122_apply]
  refine congrArg (dsR (qOf x0 b h) (kOf x0 b h) (vOf x0 b h) (oOf x2 b h) (lseOf x3 b h) (tableOf x1 h) n q k * ·) ?_
  first | rfl | (rw [val_main_cst_19_apply]; rfl)

/-- The queries' gradient. -/
theorem gq_eq (q : Fin 128) (l : Fin 64) : val_main_v126 (F := Ideal) x0 x1 x2 x3 (ix5 b n h q l)
    = gQ (qOf x0 b h) (kOf x0 b h) (vOf x0 b h) (oOf x2 b h) (lseOf x3 b h) (tableOf x1 h) (pos n q) l := by
  rw [val_main_v126_apply]
  unfold gQ
  refine (Finset.sum_congr rfl fun k _ => ?_).trans ((numbers n q).sum (fun k => dsR (qOf x0 b h) (kOf x0 b h) (vOf x0 b h) (oOf x2 b h) (lseOf x3 b h) (tableOf x1 h) n q k * c8 * band (kOf x0 b h) n k l) _ (fun k hk => ?_) (fun k hk => ?_) (fun u hu => ?_))
  · rw [show lidx_main_v126 (ix5 b n h q l) k = ix5 b n h q k from e5 (by rfl) (by rfl) (by rfl) (by rfl) (by rfl),
      show ridx_main_v126 (ix5 b n h q l) k = ix5 b n k h l from e5 (by rfl) (by rfl) (by rfl) (by rfl) (by rfl), dss_eq H, kb_eq]
  · rw [dsR_eq _ _ _ _ _ _ _ _ _ hk.2]
    exact congrArg (_ * ·) (if_pos hk.2)
  · rw [show dsR (qOf x0 b h) (kOf x0 b h) (vOf x0 b h) (oOf x2 b h) (lseOf x3 b h) (tableOf x1 h) n q k = 0 from if_neg hk, zero_mul, zero_mul]
  · rw [ds_of_not _ _ _ _ _ _ hu, zero_mul, zero_mul]

/-- A band's part of the keys' gradient. -/
theorem gkb_eq (k : Fin 256) (l : Fin 64) : val_main_v125 (F := Ideal) x0 x1 x2 x3 (ix5 b n k h l)
    = ∑ q, dsR (qOf x0 b h) (kOf x0 b h) (vOf x0 b h) (oOf x2 b h) (lseOf x3 b h) (tableOf x1 h) n q k * c8 * qOf x0 b h (pos n q) l := by
  rw [val_main_v125_apply, val_main_v124_apply]
  refine Finset.sum_congr rfl fun q _ => ?_
  rw [show lidx_main_v124 (idx_main_v125 (ix5 b n k h l)) q = ix5 b n h q k from e5 (by rfl) (by rfl) (by rfl) (by rfl) (by rfl),
    show ridx_main_v124 (idx_main_v125 (ix5 b n k h l)) q = ix5 b n q h l from e5 (by rfl) (by rfl) (by rfl) (by rfl) (by rfl), dss_eq H, q_eq]

/-- The keys' gradient. -/
theorem gk_eq (q : Fin 128) (l : Fin 64) : val_main_v140 (F := Ideal) x0 x1 x2 x3 (ix5 b n q h l)
    = gK (qOf x0 b h) (kOf x0 b h) (vOf x0 b h) (oOf x2 b h) (lseOf x3 b h) (tableOf x1 h) (pos n q) l := by
  refine (shift_read (val_main_v125 (F := Ideal) x0 x1 x2 x3) b n q h l).trans ?_
  unfold gK
  rw [sum_blocks _ n fun n' q' h1 h2 => by
    rw [ds_of_not _ _ _ _ _ _ (fun hl => by
      obtain ⟨h3, h4⟩ := hl
      dsimp only at h3 h4
      have : n'.val ≠ n.val := fun e => h1 (Fin.ext e)
      omega), zero_mul, zero_mul]]
  refine congrArg₂ (· + ·) ((gkb_eq H b n h _ l).trans (Finset.sum_congr rfl fun q' _ => ?_)) ?_
  · rw [dsR_eq _ _ _ _ _ _ _ _ _ (by dsimp only; omega)]
    refine congrArg (fun u => ds _ _ _ _ _ _ _ u * c8 * _) (Fin.ext (by dsimp only; omega))
  · by_cases hn : n.val < 15
    · rw [dif_pos hn, dif_pos hn]
      refine (gkb_eq H b _ h _ l).trans (Finset.sum_congr rfl fun q' _ => ?_)
      rw [dsR_eq _ _ _ _ _ _ _ _ _ (by dsimp only; omega)]
      refine congrArg (fun u => ds _ _ _ _ _ _ _ u * c8 * _) (Fin.ext (by dsimp only; omega))
    · rw [dif_neg hn, dif_neg hn]

/-- A band's part of the values' gradient. -/
theorem gvb_eq (k : Fin 256) (hk : 128 ≤ 128 * n.val + k.val) (l : Fin 64) : val_main_v95 (F := Ideal) x0 x1 x2 (ix5 b n k h l)
    = ∑ q, oOf x2 b h (pos n q) l * wt (qOf x0 b h) (kOf x0 b h) (tableOf x1 h) (pos n q) (kpos n k) := by
  rw [val_main_v95_apply, val_main_v94_apply]
  refine Finset.sum_congr rfl fun q _ => ?_
  rw [show lidx_main_v94 (idx_main_v95 (ix5 b n k h l)) q = ix5 b n h l q from e5 (by rfl) (by rfl) (by rfl) (by rfl) (by rfl),
    show ridx_main_v94 (idx_main_v95 (ix5 b n k h l)) q = ix5 b n h q k from e5 (by rfl) (by rfl) (by rfl) (by rfl) (by rfl), o_eq, w_eq,
    wR_eq _ _ _ _ _ (H.den b h _) k hk]

/-- The values' gradient. -/
theorem gv_eq (q : Fin 128) (l : Fin 64) : val_main_v133 (F := Ideal) x0 x1 x2 (ix5 b n q h l)
    = gV (qOf x0 b h) (kOf x0 b h) (oOf x2 b h) (tableOf x1 h) (pos n q) l := by
  refine (shift_read (val_main_v95 (F := Ideal) x0 x1 x2) b n q h l).trans ?_
  unfold gV
  rw [sum_blocks _ n fun n' q' h1 h2 => by
    rw [wt_of_not _ _ _ (fun hl => by
      obtain ⟨h3, h4⟩ := hl
      dsimp only at h3 h4
      have : n'.val ≠ n.val := fun e => h1 (Fin.ext e)
      omega), mul_zero]]
  refine congrArg₂ (· + ·) ((gvb_eq H b n h _ (by dsimp only; omega) l).trans (Finset.sum_congr rfl fun q' _ => ?_)) ?_
  · refine congrArg (fun u => _ * wt _ _ _ _ u) (Fin.ext (by dsimp only; omega))
  · by_cases hn : n.val < 15
    · rw [dif_pos hn, dif_pos hn]
      refine (gvb_eq H b _ h _ (by dsimp only; omega) l).trans (Finset.sum_congr rfl fun q' _ => ?_)
      refine congrArg (fun u => _ * wt _ _ _ _ u) (Fin.ext (by dsimp only; omega))
    · rw [dif_neg hn, dif_neg hn]

/-! ### The four results -/

theorem res_q : val_main_v143 (F := Ideal) x0 x1 x2 x3 = arrQ x0 x1 x2 x3 := by
  funext i
  have h0 : (i 0).val < 4096 := (i 0).isLt
  have h1 : (i 1).val < 256 := (i 1).isLt
  rw [val_main_v143_apply, val_main_v142_apply, val_main_v127_apply,
    show idx_main_v127 (idx_main_v142 (idx_main_v143 i)) = ix5 ⟨(i 0).val / 2048, by omega⟩ ⟨(i 0).val % 2048 / 128, by omega⟩ ⟨(i 1).val / 64, by omega⟩
      ⟨(i 0).val % 128, by omega⟩ ⟨(i 1).val % 64, by omega⟩ from e5 (by dsimp [ix5]; omega) (by dsimp [ix5]; omega) (by dsimp [ix5]; omega) (by dsimp [ix5]; omega) (by dsimp [ix5]; omega),
    gq_eq H]
  unfold arrQ
  exact congrArg (gQ _ _ _ _ _ _ · _) (Fin.ext (by dsimp only; omega))
theorem res_k : val_main_v144 (F := Ideal) x0 x1 x2 x3 = arrK x0 x1 x2 x3 := by
  funext i
  have h0 : (i 0).val < 4096 := (i 0).isLt
  have h1 : (i 1).val < 256 := (i 1).isLt
  rw [val_main_v144_apply, val_main_v141_apply,
    show idx_main_v141 (idx_main_v144 i) = ix5 ⟨(i 0).val / 2048, by omega⟩ ⟨(i 0).val % 2048 / 128, by omega⟩
      ⟨(i 0).val % 128, by omega⟩ ⟨(i 1).val / 64, by omega⟩ ⟨(i 1).val % 64, by omega⟩ from e5 (by dsimp [ix5]; omega) (by dsimp [ix5]; omega) (by dsimp [ix5]; omega) (by dsimp [ix5]; omega) (by dsimp [ix5]; omega),
    gk_eq H]
  unfold arrK
  exact congrArg (gK _ _ _ _ _ _ · _) (Fin.ext (by dsimp only; omega))
theorem res_v : val_main_v145 (F := Ideal) x0 x1 x2 = arrV x0 x1 x2 := by
  funext i
  have h0 : (i 0).val < 4096 := (i 0).isLt
  have h1 : (i 1).val < 256 := (i 1).isLt
  rw [val_main_v145_apply, val_main_v134_apply,
    show idx_main_v134 (idx_main_v145 i) = ix5 ⟨(i 0).val / 2048, by omega⟩ ⟨(i 0).val % 2048 / 128, by omega⟩
      ⟨(i 0).val % 128, by omega⟩ ⟨(i 1).val / 64, by omega⟩ ⟨(i 1).val % 64, by omega⟩ from e5 (by dsimp [ix5]; omega) (by dsimp [ix5]; omega) (by dsimp [ix5]; omega) (by dsimp [ix5]; omega) (by dsimp [ix5]; omega),
    gv_eq H]
  unfold arrV
  exact congrArg (gV _ _ _ _ · _) (Fin.ext (by dsimp only; omega))

omit H in
/-- The host's sum over the first two axes. -/
theorem sum_first_two {a c : ℕ} (X : (⟨5, ![a, c, 4, 128, 256]⟩ : Shape).Idx → EReal) (r : (⟨5, ![a, c, 4, 128, 256]⟩ : Shape).ReducesTo [0, 1] S4x128x256) (h : Fin 4) (i : Fin 128) (j : Fin 256) :
    Ideal.hostReduceAdd r X 0 (ix3 h i j) = ∑ b : Fin a, ∑ n : Fin c, X (ix5 b n h i j) := by
  unfold Ideal.hostReduceAdd
  rw [zero_add, ← Fintype.sum_prod_type' (f := fun b n => X (ix5 b n h i j))]
  have hd : ∀ y : (⟨5, ![a, c, 4, 128, 256]⟩ : Shape).Idx, r.drop y = ix3 (y 2) (y 3) (y 4) := fun y => by
    funext e
    match e with
    | ⟨0, _⟩ => rfl
    | ⟨1, _⟩ => rfl
    | ⟨2, _⟩ => rfl
  refine Finset.sum_bij' (fun y _ => (y 0, y 1)) (fun p _ => ix5 p.1 p.2 h i j) (fun _ _ => Finset.mem_univ _) (fun p _ => ?_) (fun y hy => ?_) (fun p _ => rfl) (fun y hy => ?_)
  · simp only [Finset.mem_filter, Finset.mem_univ, true_and, hd]; rfl
  · have hy := (Finset.mem_filter.1 hy).2
    rw [hd] at hy
    have h2 := congrFun hy 0; have h3 := congrFun hy 1; have h4 := congrFun hy 2
    exact e5 (by rfl) (by rfl) (congrArg Fin.val h2.symm) (congrArg Fin.val h3.symm) (congrArg Fin.val h4.symm)
  · have hy := (Finset.mem_filter.1 hy).2
    rw [hd] at hy
    have h2 := congrFun hy 0; have h3 := congrFun hy 1; have h4 := congrFun hy 2
    exact congrArg X (e5 (by rfl) (by rfl) (congrArg Fin.val h2) (congrArg Fin.val h3) (congrArg Fin.val h4))

theorem res_b : val_main_v121 (F := Ideal) x0 x1 x2 x3 = arrB x0 x1 x2 x3 := by
  funext y
  obtain ⟨h, i, j, rfl⟩ : ∃ h i j, y = ix3 h i j := ⟨y 0, y 1, y 2, eq_ix3 y⟩
  have e2 : val_main_v121 (F := Ideal) x0 x1 x2 x3 (ix3 h i j) = Ideal.hostReduceAdd reducesTo_S1x1x4x128x256_S4x128x256_d0_1 (val_main_v120 (F := Ideal) x0 x1 x2 x3) 0 (ix3 h i j) := by
    rw [← zero_word ix0]; rfl
  have e1 : val_main_v119 (F := Ideal) x0 x1 x2 x3 (ix3 h i j) = Ideal.hostReduceAdd reducesTo_S2x16x4x128x256_S4x128x256_d0_1 (val_main_v118 (F := Ideal) x0 x1 x2 x3) 0 (ix3 h i j) := by
    rw [← zero_word ix0]; rfl
  rw [e2, sum_first_two, Fin.sum_univ_one, Fin.sum_univ_one, val_main_v120_apply,
    show idx_main_v120 (ix5 0 0 h i j) = ix3 h i j from by
      funext e
      match e with
      | ⟨0, _⟩ => exact Fin.ext (by dsimp [ix5, ix3] <;> omega)
      | ⟨1, _⟩ => exact Fin.ext (by dsimp [ix5, ix3] <;> omega)
      | ⟨2, _⟩ => exact Fin.ext (by dsimp [ix5, ix3] <;> omega), e1, sum_first_two, Fin.sum_univ_two]
  unfold arrB tabB gB
  refine congrArg₂ (· + ·) (Finset.sum_congr rfl fun n _ => ?_) (Finset.sum_congr rfl fun n _ => ?_) <;>
  · rw [ds_eq H]
    unfold gBblk
    by_cases hk : 128 ≤ 128 * n.val + j.val
    · rw [dsR_eq _ _ _ _ _ _ _ _ _ hk, dif_pos ⟨hk, by omega⟩]; rfl
    · rw [dsR_out _ _ _ _ _ _ _ _ _ hk, dif_neg fun h' => hk h'.1]

end Cert.ReferenceIdeal.Attn

end
-- ==== Proof.Finite.lean ====
/-
  THE PRECONDITION: every entry of the four arguments is finite. Its side conditions, and what it says of the heads' operands.
-/
module

public import proofs.«01_k».proof.Defs
public import proofs.«01_k».proof.Proof.RefValue

@[expose] public section

set_option maxRecDepth 16384

noncomputable section

namespace Cert.Pre_finite

open Idealize.ShloMosaic Cert.AttnSpec

theorem facts : Facts := ⟨by decide, by decide, by decide, by decide⟩

theorem ofBits_inf : Ideal.ofBits .f32 0x7F800000#32 = ⊤ := by simp [Ideal.ofBits, Ideal.ieee]

/-- A value that compares below infinity in absolute value is a real number. -/
theorem real_of_bit {S : Shape} (x : S.Idx → EReal) (b : (⟨0, ![]⟩ : Shape).BroadcastsInDim S (![] : Fin 0 → Fin S.rank))
    (h : cmpf (F := Ideal) (φ := .f32) .olt (Host.absf (F := Ideal) (s := S) (φ := .f32) x) (broadcastInDim S ![] b (constant (F := Ideal) ⟨0, ![]⟩ .f32 0x7F800000#32)) = fun _ => 1#1) (i : S.Idx) :
    ∃ r : ℝ, x i = (r : EReal) := by
  have hi : BitVec.ofBool (decide (max (x i) (-x i) < Ideal.ofBits .f32 0x7F800000#32)) = 1#1 := congrFun h i
  rw [ofBits_inf] at hi
  have hlt : max (x i) (-x i) < ⊤ := by
    by_contra hn
    rw [decide_eq_false hn] at hi
    exact absurd hi (by decide)
  have h1 := (max_lt_iff.1 hlt).1
  have h2 := (max_lt_iff.1 hlt).2
  exact ⟨(x i).toReal, (EReal.coe_toReal h1.ne (fun e => by rw [e] at h2; exact absurd h2 (by simp))).symm⟩

theorem lanes_real {C : ℕ} (a : (⟨2, ![4096, C]⟩ : Shape).Idx → EReal) (ha : ∀ i, ∃ r : ℝ, a i = (r : EReal)) (off : ℕ) (hC : off + 256 ≤ C) (b : Fin 2) (h : Fin 4) :
    Fin2 (lanesOf a off hC b h) := by
  choose g hg using ha
  exact ⟨fun t l => g (ix2 ⟨2048 * b.val + t.val, by omega⟩ ⟨off + 64 * h.val + l.val, by omega⟩), fun t l => hg _⟩
theorem table_real (a : (⟨3, ![12, 128, 256]⟩ : Shape).Idx → EReal) (ha : ∀ i, ∃ r : ℝ, a i = (r : EReal)) (h : Fin 4) : Fin2 (tableOf a h) := by
  choose g hg using ha
  exact ⟨fun i j => g (ix3 ⟨h.val, by omega⟩ i j), fun i j => hg _⟩

variable [hPre : Facts]

/-- Under the precondition every head's operands are finite. -/
theorem finite (m : (ℓ : Loc Cert.KernelIdeal.nD Cert.KernelIdeal.τ Cert.KernelIdeal.sig) → Buf (Elt Ideal) ℓ) (hm : Cert.Pre_KernelIdeal_finite m) (c : Dev Cert.KernelIdeal.nD) :
    Cert.ReferenceIdeal.Attn.Finite (Cert.KernelIdeal.Attn.A0 m c) (Cert.KernelIdeal.Attn.A1 m c) (Cert.KernelIdeal.Attn.A2 m c) (Cert.KernelIdeal.Attn.A3 m c) := by
  obtain ⟨h0, h1, h2, h3⟩ := hm c
  have r0 := real_of_bit (Cert.KernelIdeal.Attn.A0 m c) _ h0
  have r1 := real_of_bit (Cert.KernelIdeal.Attn.A1 m c) _ h1
  have r2 := real_of_bit (Cert.KernelIdeal.Attn.A2 m c) _ h2
  have r3 := real_of_bit (Cert.KernelIdeal.Attn.A3 m c) _ h3
  exact ⟨fun b h => lanes_real _ r0 _ _ b h, fun b h => lanes_real _ r0 _ _ b h, fun b h => lanes_real _ r0 _ _ b h, fun b h => lanes_real _ r2 _ _ b h,
    fun h => table_real _ r1 h, fun b h t => r3 _⟩

end Cert.Pre_finite

end
-- ==== Proof.FfnSpec.lean ====
/-
  THE SWIGLU LAYER AND ITS LAYER NORM, as mathematics over the extended reals: arrays are functions of their indices.
-/
module

public import Idealize.ShloMosaic.Lib.Pointwise
public import Idealize.ShloMosaic.Lib.IdealHost

@[expose] public section

noncomputable section

namespace Cert.FfnSpec

open Idealize.ShloMosaic

/-- A matrix of extended reals. -/
abbrev Mat (m n : ℕ) : Type := (⟨2, ![m, n]⟩ : Shape).Idx → EReal

/-- The residual's weight. -/
def alpha : EReal := Ideal.ofBits .f32 0x3FD744FD#32
/-- The half step's weight. -/
def half : EReal := Ideal.ofBits .f32 0x3F000000#32
/-- The row length, as the mean divides by it. -/
def rowLen : EReal := Ideal.ofBits .f32 0x44800000#32
/-- What the variance is kept away from zero by. -/
def eps : EReal := Ideal.ofBits .f32 0x3727C5AC#32

/-- The two halves of the hidden row: columns `off …` of `x · w13`. -/
def hidOf (off : ℕ) (ho : off + 2816 ≤ 5632) (x : Mat 4096 1024) (w13 : Mat 1024 5632) : Mat 4096 2816 := fun i =>
  ∑ k : Fin 1024, x (ix2 (i 0) k) * w13 (ix2 k ⟨off + (i 1).val, by have : (i 1).val < 2816 := (i 1).isLt; omega⟩)
/-- The gated half. -/
abbrev haOf := hidOf 0 (by omega)
/-- The gating half's partner. -/
abbrev hgOf := hidOf 2816 (by omega)
/-- The gate. -/
def gate (a g : EReal) : EReal := a * Ideal.logistic a * g
/-- The gated hidden rows. -/
def midOf (x : Mat 4096 1024) (w13 : Mat 1024 5632) : Mat 4096 2816 := fun i => gate (haOf x w13 i) (hgOf x w13 i)
/-- The residual sum that the layer norm takes. -/
def sumOf (x : Mat 4096 1024) (s : Mat 4096 2816) (w2 : Mat 2816 1024) : Mat 4096 1024 := fun i =>
  alpha * x i + half * ∑ j : Fin 2816, s (ix2 (i 0) j) * w2 (ix2 j (i 1))

section row
variable (f : Fin 1024 → EReal)
/-- A row's mean. -/
def mean : EReal := Ideal.div (∑ k, f k) rowLen
/-- The row less its mean. -/
def cent (d : Fin 1024) : EReal := f d - mean f
/-- The reciprocal of its standard deviation. -/
def rstd : EReal := Ideal.rsqrt (Ideal.div (∑ k, cent f k * cent f k) rowLen + eps)
end row

/-- The layer norm of every row. -/
def normOf (r : Mat 4096 1024) (g b : Mat 1 1024) : Mat 4096 1024 := fun i =>
  cent (fun k => r (ix2 (i 0) k)) (i 1) * rstd (fun k => r (ix2 (i 0) k)) * g (ix2 0 (i 1)) + b (ix2 0 (i 1))

end Cert.FfnSpec

end
-- ==== Proof.FfnFwd.lean ====
/-
  THE SWIGLU LAYER'S FORWARD HALF STEP. Two kernels run one after the other: the first takes the hidden halves and their gated
  product, tile by tile; the second the product with the second weight, the residual sum and its layer norm, a row tile at a
  time. Their results are FfnSpec.lean's, and so are the reference's.
-/
module

public import proofs.«01_k».proof.Proof.FfnSpec
public import proofs.«01_k».proof.Proof.Gen.Kernel2Ideal.Frame
public import proofs.«01_k».proof.Proof.Gen.Reference2Ideal.Run
public import proofs.«01_k».proof.Proof.Gen.Reference2Ideal.Read
public import Idealize.ShloMosaic.Lib.Pipeline.ValueKit

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Cert.FfnSpec
open Idealize.ShloMosaic.Pipeline (Dat Cfg Window BodyObligation cellOf)

/-! ### The first kernel -/

section first
variable (V : (c : Dev nD) → (b : Ref sig .tc) → Buf (Elt Ideal) ((c : Thread nD τ).loc b)) (c : Dev nD)

theorem idx0_0 : ∀ t : Fin grid0.N, win0_0.index t 0 = t.val % 8 ∧ win0_0.index t 1 = 0 := by decide +kernel
theorem idx0_1 : ∀ t : Fin grid0.N, win0_1.index t 0 = 0 ∧ win0_1.index t 1 = t.val / 8 := by decide +kernel
theorem idx0_2 : ∀ t : Fin grid0.N, win0_2.index t 0 = 0 ∧ win0_2.index t 1 = 2 + t.val / 8 := by decide +kernel
theorem idx0_3 : ∀ t : Fin grid0.N, win0_3.index t 0 = t.val % 8 ∧ win0_3.index t 1 = t.val / 8 := by decide +kernel
theorem idx0_4 : ∀ t : Fin grid0.N, win0_4.index t 0 = t.val % 8 ∧ win0_4.index t 1 = t.val / 8 := by decide +kernel
theorem idx0_5 : ∀ t : Fin grid0.N, win0_5.index t 0 = t.val % 8 ∧ win0_5.index t 1 = t.val / 8 := by decide +kernel

/-- The input rows, and the first weight. -/
abbrev X : Mat 4096 1024 := V c main_arg0
abbrev W13 : Mat 1024 5632 := V c main_arg1

theorem arr0_3 : (dat0 V c).arrAt 3 cfg0.N = haOf (X V c) (W13 V c) := by
  refine (dat0 V c).arrAt_eq_of_covers 3 _ (by decide +kernel) fun t hf y => ?_
  blk_simp
  rw [after0_3]
  frame_out
  have ht : t.val < 16 := t.isLt
  pointwise [k0_pay2, k0_pay1, hidOf]
  unfold X W13
  blk_point [iblk0, (idx0_0 t).1, (idx0_0 t).2, (idx0_1 t).1, (idx0_1 t).2, (idx0_3 t).1, (idx0_3 t).2]

theorem arr0_4 : (dat0 V c).arrAt 4 cfg0.N = hgOf (X V c) (W13 V c) := by
  refine (dat0 V c).arrAt_eq_of_covers 4 _ (by decide +kernel) fun t hf y => ?_
  blk_simp
  rw [after0_4]
  frame_out
  have ht : t.val < 16 := t.isLt
  pointwise [k0_pay3, k0_pay1, hidOf]
  unfold X W13
  blk_point [iblk0, (idx0_0 t).1, (idx0_0 t).2, (idx0_2 t).1, (idx0_2 t).2, (idx0_4 t).1, (idx0_4 t).2]

theorem arr0_5 : (dat0 V c).arrAt 5 cfg0.N = midOf (X V c) (W13 V c) := by
  refine (dat0 V c).arrAt_eq_of_covers 5 _ (by decide +kernel) fun t hf y => ?_
  blk_simp
  rw [after0_5]
  frame_out
  have ht : t.val < 16 := t.isLt
  pointwise [k0_pay4, k0_pay3, k0_pay2, k0_pay1, hidOf, midOf, gate]
  unfold X W13
  blk_point [iblk0, (idx0_0 t).1, (idx0_0 t).2, (idx0_1 t).1, (idx0_1 t).2, (idx0_2 t).1, (idx0_2 t).2, (idx0_5 t).1, (idx0_5 t).2]
end first

/-! ### The second kernel -/

section second
variable (V : (c : Dev nD) → (b : Ref sig .tc) → Buf (Elt Ideal) ((c : Thread nD τ).loc b)) (c : Dev nD)

theorem idx1_0 : ∀ t : Fin grid1.N, win1_0.index t 0 = t.val ∧ win1_0.index t 1 = 0 := by decide +kernel
theorem idx1_1 : ∀ t : Fin grid1.N, win1_1.index t 0 = 0 ∧ win1_1.index t 1 = 0 := by decide +kernel
theorem idx1_2 : ∀ t : Fin grid1.N, win1_2.index t 0 = t.val ∧ win1_2.index t 1 = 0 := by decide +kernel
theorem idx1_3 : ∀ t : Fin grid1.N, win1_3.index t 0 = 0 ∧ win1_3.index t 1 = 0 := by decide +kernel
theorem idx1_4 : ∀ t : Fin grid1.N, win1_4.index t 0 = 0 ∧ win1_4.index t 1 = 0 := by decide +kernel
theorem idx1_5 : ∀ t : Fin grid1.N, win1_5.index t 0 = t.val ∧ win1_5.index t 1 = 0 := by decide +kernel
theorem idx1_6 : ∀ t : Fin grid1.N, win1_6.index t 0 = t.val ∧ win1_6.index t 1 = 0 := by decide +kernel

/-- The gated hidden rows, the second weight, and the layer norm's parameters. -/
abbrev S : Mat 4096 2816 := V c main_v0_2
abbrev W2_ : Mat 2816 1024 := V c main_arg2
abbrev Gn : Mat 1 1024 := V c main_arg3
abbrev Bn : Mat 1 1024 := V c main_arg4

theorem arr1_5 : (dat1 V c).arrAt 5 cfg1.N = sumOf (X V c) (S V c) (W2_ V c) := by
  refine (dat1 V c).arrAt_eq_of_covers 5 _ (by decide +kernel) fun t hf y => ?_
  blk_simp
  rw [after1_5]
  frame_out
  have ht : t.val < 8 := t.isLt
  pointwise [k1_pay1, sumOf, alpha, half]
  unfold X S W2_
  blk_point [iblk1, (idx1_0 t).1, (idx1_0 t).2, (idx1_1 t).1, (idx1_1 t).2, (idx1_2 t).1, (idx1_2 t).2, (idx1_5 t).1, (idx1_5 t).2]

theorem arr1_6 : (dat1 V c).arrAt 6 cfg1.N = normOf (sumOf (X V c) (S V c) (W2_ V c)) (Gn V c) (Bn V c) := by
  refine (dat1 V c).arrAt_eq_of_covers 6 _ (by decide +kernel) fun t hf y => ?_
  blk_simp
  rw [after1_6]
  frame_out
  have ht : t.val < 8 := t.isLt
  pointwise [k1_pay2, k1_pay1, sumOf, normOf, cent, rstd, mean, alpha, half, rowLen, eps]
  unfold X S W2_ Gn Bn
  blk_point [iblk1, (idx1_0 t).1, (idx1_0 t).2, (idx1_1 t).1, (idx1_1 t).2, (idx1_2 t).1, (idx1_2 t).2, (idx1_3 t).1, (idx1_3 t).2,
    (idx1_4 t).1, (idx1_4 t).2, (idx1_6 t).1, (idx1_6 t).2]

theorem idx1_7 : ∀ t : Fin grid1.N, win1_7.index t 0 = t.val ∧ win1_7.index t 1 = 0 := by decide +kernel

theorem arr1_7 : (dat1 V c).arrAt 7 cfg1.N = normOf (sumOf (X V c) (S V c) (W2_ V c)) (Gn V c) (Bn V c) := by
  refine (dat1 V c).arrAt_eq_of_covers 7 _ (by decide +kernel) fun t hf y => ?_
  blk_simp
  rw [after1_7]
  frame_out
  have ht : t.val < 8 := t.isLt
  pointwise [k1_pay3, k1_pay2, k1_pay1, sumOf, normOf, cent, rstd, mean, alpha, half, rowLen, eps]
  unfold X S W2_ Gn Bn
  blk_point [iblk1, (idx1_0 t).1, (idx1_0 t).2, (idx1_1 t).1, (idx1_1 t).2, (idx1_2 t).1, (idx1_2 t).2, (idx1_3 t).1, (idx1_3 t).2,
    (idx1_4 t).1, (idx1_4 t).2, (idx1_7 t).1, (idx1_7 t).2]
end second

/-! ### The run -/

section run
open Idealize.ShloMosaic.Tactic Idealize.SL Idealize.SL.RA Idealize.SL.BI
open scoped Idealize.SL.BI
open Idealize.SL.BI.BIBase Idealize.SL.BI.Laws Idealize.SL.ProofMode Idealize.ShloMosaic.Rounds

/-- The resources of the run. -/
abbrev Res : Type := MT nD τ sig Unit (Elt Ideal) ℕ (UR sig nD τ) ℕ

variable (m : (ℓ : Loc nD τ sig) → Buf (Elt Ideal) ℓ) (ρ : Dev nD → PrngReg)

-- the launch's implicit arguments are found by unifying its conclusion with this one, through plain definitions in types
set_option backward.isDefEq.respectTransparency.types false in
/-- Both kernels run, and leave every buffer as the second region's exit has it. -/
theorem run_all : θ_run defs (onTc (τ := τ) (main (F := Ideal))) ⟨m, fun _ => 0, ρ⟩ fun r =>
    ∀ c : Dev nD, ∀ b ∈ Pipeline.ucRefs τ sig, r.2.mem (((c : Thread nD τ)).1, b) = W2 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

variable (c : Dev nD)

/-- The arguments. -/
abbrev A0 : Mat 4096 1024 := m ((c : Thread nD τ).loc main_arg0)
abbrev A1 : Mat 1024 5632 := m ((c : Thread nD τ).loc main_arg1)
abbrev A2 : Mat 2816 1024 := m ((c : Thread nD τ).loc main_arg2)
abbrev A3 : Mat 1 1024 := m ((c : Thread nD τ).loc main_arg3)
abbrev A4 : Mat 1 1024 := m ((c : Thread nD τ).loc main_arg4)

theorem kept (b : Ref sig .tc) (h : ∀ w : Fin cfg1.W, Pipeline.arrRef spec1 w = b → (cfg1.win w).isOut = false) :
    W2 m ρ c (Proc.devRef .tc b) = W1 m ρ c (Proc.devRef .tc b) := W2_of m ρ c b h

theorem end_ha : W2 m ρ c (Proc.devRef .tc main_v0_0) = haOf (A0 m c) (A1 m c) :=
  (kept m ρ c main_v0_0 (by decide +kernel)).trans ((W1_arr m ρ c 3).trans (arr0_3 (V0 m ρ) c))
theorem end_hg : W2 m ρ c (Proc.devRef .tc main_v0_1) = hgOf (A0 m c) (A1 m c) :=
  (kept m ρ c main_v0_1 (by decide +kernel)).trans ((W1_arr m ρ c 4).trans (arr0_4 (V0 m ρ) c))
theorem mid_s : V1 m ρ c main_v0_2 = midOf (A0 m c) (A1 m c) := (W1_arr m ρ c 5).trans (arr0_5 (V0 m ρ) c)
theorem mid_arg (b : Ref sig .tc) (hb : b ∈ argRefs) : V1 m ρ c b = m ((c : Thread nD τ).loc b) := W1_args m ρ c b hb

theorem end_sum : W2 m ρ c (Proc.devRef .tc main_v1_0) = sumOf (A0 m c) (midOf (A0 m c) (A1 m c)) (A2 m c) := by
  refine (W2_arr m ρ c 5).trans ((arr1_5 (V1 m ρ) c).trans ?_)
  unfold X S W2_
  rw [mid_s, mid_arg m ρ c main_arg0 (by decide), mid_arg m ρ c main_arg2 (by decide)]
theorem end_out : W2 m ρ c (Proc.devRef .tc main_v1_1) = normOf (sumOf (A0 m c) (midOf (A0 m c) (A1 m c)) (A2 m c)) (A3 m c) (A4 m c) := by
  refine (W2_arr m ρ c 6).trans ((arr1_6 (V1 m ρ) c).trans ?_)
  unfold X S W2_ Gn Bn
  rw [mid_s, mid_arg m ρ c main_arg0 (by decide), mid_arg m ρ c main_arg2 (by decide), mid_arg m ρ c main_arg3 (by decide), mid_arg m ρ c main_arg4 (by decide)]
theorem end_outm : W2 m ρ c (Proc.devRef .tc main_v1_2) = normOf (sumOf (A0 m c) (midOf (A0 m c) (A1 m c)) (A2 m c)) (A3 m c) (A4 m c) := by
  refine (W2_arr m ρ c 7).trans ((arr1_7 (V1 m ρ) c).trans ?_)
  unfold X S W2_ Gn Bn
  rw [mid_s, mid_arg m ρ c main_arg0 (by decide), mid_arg m ρ c main_arg2 (by decide), mid_arg m ρ c main_arg3 (by decide), mid_arg m ρ c main_arg4 (by decide)]

/-- The five results, and the arguments kept. -/
theorem run_kernel : θ_run defs (onTc (τ := τ) (main (F := Ideal))) ⟨m, fun _ => 0, ρ⟩ fun r => ∀ c : Dev nD,
    r.2.mem ((c : Thread nD τ).loc main_v1_1) = normOf (sumOf (A0 m c) (midOf (A0 m c) (A1 m c)) (A2 m c)) (A3 m c) (A4 m c)
    ∧ r.2.mem ((c : Thread nD τ).loc main_v1_2) = normOf (sumOf (A0 m c) (midOf (A0 m c) (A1 m c)) (A2 m c)) (A3 m c) (A4 m c)
    ∧ r.2.mem ((c : Thread nD τ).loc main_v1_0) = sumOf (A0 m c) (midOf (A0 m c) (A1 m c)) (A2 m c)
    ∧ r.2.mem ((c : Thread nD τ).loc main_v0_0) = haOf (A0 m c) (A1 m c)
    ∧ r.2.mem ((c : Thread nD τ).loc main_v0_1) = hgOf (A0 m c) (A1 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c =>
    ⟨(h c _ (mem_uc main_v1_1 (by decide))).trans (end_out m ρ c), (h c _ (mem_uc main_v1_2 (by decide))).trans (end_outm m ρ c),
      (h c _ (mem_uc main_v1_0 (by decide))).trans (end_sum m ρ c), (h c _ (mem_uc main_v0_0 (by decide))).trans (end_ha m ρ c),
      (h c _ (mem_uc main_v0_1 (by decide))).trans (end_hg m ρ c),
      (h c _ (mem_uc main_arg0 (by decide))).trans (W2_main_arg0 m ρ c), (h c _ (mem_uc main_arg1 (by decide))).trans (W2_main_arg1 m ρ c),
      (h c _ (mem_uc main_arg2 (by decide))).trans (W2_main_arg2 m ρ c), (h c _ (mem_uc main_arg3 (by decide))).trans (W2_main_arg3 m ρ c),
      (h c _ (mem_uc main_arg4 (by decide))).trans (W2_main_arg4 m ρ c)⟩) (run_all m ρ)
end run

end Cert.Kernel2Ideal.Ffn

namespace Cert.Reference2Ideal.Ffn

open Cert.Reference2Ideal Cert.Reference2Ideal.Gen Cert.Reference2Ideal.Read Idealize.ShloMosaic Idealize.ShloMosaic.TcCoe Idealize.SL.Sem Cert.FfnSpec

variable (a0 : Mat 4096 1024) (a1 : Mat 1024 5632) (a2 : Mat 2816 1024) (a3 a4 : Mat 1 1024)

theorem res_ha : val_main_v14 (F := Ideal) a0 a1 = haOf a0 a1 := by
  funext i
  pointwise [val_main_v14, val_main_v13, val_main_v0, haOf, hidOf]

theorem res_hg : val_main_v15 (F := Ideal) a0 a1 = hgOf a0 a1 := by
  funext i
  pointwise [val_main_v15, val_main_v13, val_main_v0, hgOf, hidOf]

theorem res_sum : val_main_v12 (F := Ideal) a0 a1 a2 = sumOf a0 (midOf a0 a1) a2 := by
  funext i
  pointwise [val_main_v12, val_main_v11, val_main_v10, val_main_cst_0, val_main_v9, val_main_v8, val_main_v7, val_main_v6,
    val_main_call0_v5, val_main_call0_v4, val_main_call0_cst_0, val_main_call0_v3, val_main_call0_v2, val_main_call0_cst, val_main_call0_v1,
    val_main_call0_v0, val_main_v5, val_main_v4, val_main_v3, val_main_v2, val_main_cst, val_main_v1, val_main_v0, hidOf, sumOf, midOf, gate,
    alpha, half, Ideal.logistic]

theorem res_out : val_main_v37 (F := Ideal) a0 a1 a2 a3 a4 = normOf (val_main_v12 (F := Ideal) a0 a1 a2) a3 a4 := by
  funext i
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19,
    val_main_v18, val_main_v17, val_main_v16, val_main_cst_1, val_main_cst_2, val_main_cst_3, val_main_cst_4, val_main_cst_5, normOf, cent, rstd,
    mean, rowLen, eps]

theorem res_outm : val_main_v38 (F := Ideal) a0 a1 a2 a3 a4 = val_main_v37 (F := Ideal) a0 a1 a2 a3 a4 := by
  funext i
  pointwise [val_main_v38]

end Cert.Reference2Ideal.Ffn

end
-- ==== Proof.FfnGrad.lean ====
/-
  THE SWIGLU LAYER'S GRADIENTS, all but the last product. Five kernels one after the other: the hidden halves again, the gradient
  of the gated rows, the gradients of the halves, and the two weights' gradients. The results are FfnGrad.lean's functions, and so
  are the reference's.
-/
module

public import proofs.«01_k».proof.Proof.FfnSpec
public import proofs.«01_k».proof.Proof.Gen.Kernel3Ideal.Frame
public import Idealize.ShloMosaic.Lib.Pipeline.ValueKit

@[expose] public section

set_option maxRecDepth 16384

noncomputable section

namespace Cert.FfnSpec
open Idealize.ShloMosaic

/-- The gradient of the gated rows. -/
def dsOf (dy : Mat 4096 1024) (w2 : Mat 2816 1024) : Mat 4096 2816 := fun i => ∑ k : Fin 1024, dy (ix2 (i 0) k) * w2 (ix2 (i 1) k)
/-- The gated half's gradient at one place. -/
def gateA (a g d : EReal) : EReal := d * g * Ideal.logistic a + a * (d * g) * (Ideal.logistic a * (1 - Ideal.logistic a))
/-- The other half's. -/
def gateG (a d : EReal) : EReal := a * Ideal.logistic a * d
/-- Both halves' gradients, one after the other. -/
def dhOf (a g d : Mat 4096 2816) : Mat 4096 5632 := fun i =>
  if h : (i 1).val < 2816 then gateA (a (ix2 (i 0) ⟨(i 1).val, h⟩)) (g (ix2 (i 0) ⟨(i 1).val, h⟩)) (d (ix2 (i 0) ⟨(i 1).val, h⟩))
  else gateG (a (ix2 (i 0) ⟨(i 1).val - 2816, by have : (i 1).val < 5632 := (i 1).isLt; omega⟩))
    (d (ix2 (i 0) ⟨(i 1).val - 2816, by have : (i 1).val < 5632 := (i 1).isLt; omega⟩))
theorem dhOf_lo (a g d : Mat 4096 2816) (i : (⟨2, ![4096, 5632]⟩ : Shape).Idx) (q : Fin 2816) (h : (i 1).val = q.val) :
    dhOf a g d i = gateA (a (ix2 (i 0) q)) (g (ix2 (i 0) q)) (d (ix2 (i 0) q)) := by
  have hq : q = ⟨(i 1).val, by rw [h]; exact q.isLt⟩ := Fin.ext h.symm
  rw [hq]; exact dif_pos _
theorem dhOf_hi (a g d : Mat 4096 2816) (i : (⟨2, ![4096, 5632]⟩ : Shape).Idx) (q : Fin 2816) (h : (i 1).val = 2816 + q.val) :
    dhOf a g d i = gateG (a (ix2 (i 0) q)) (d (ix2 (i 0) q)) := by
  have hq : q = ⟨(i 1).val - 2816, by rw [h]; have := q.isLt; omega⟩ := Fin.ext (by dsimp only; omega)
  rw [hq]; exact dif_neg (by omega)
/-- The gated rows, from the halves. -/
def gateOf (a g : Mat 4096 2816) : Mat 4096 2816 := fun i => gate (a i) (g i)
/-- The second weight's gradient. -/
def dw2Of (s : Mat 4096 2816) (dy : Mat 4096 1024) : Mat 2816 1024 := fun i => ∑ k : Fin 4096, s (ix2 k (i 0)) * dy (ix2 k (i 1))
/-- The first weight's gradient. -/
def dw13Of (x : Mat 4096 1024) (dh : Mat 4096 5632) : Mat 1024 5632 := fun i => ∑ k : Fin 4096, x (ix2 k (i 0)) * dh (ix2 k (i 1))

end Cert.FfnSpec

namespace Cert.Kernel3Ideal.Ffn

open Cert.Kernel3Ideal Cert.Kernel3Ideal.Gen Idealize.ShloMosaic Idealize.ShloMosaic.TcCoe Idealize.SL.Sem Cert.FfnSpec
open Idealize.ShloMosaic.Pipeline (Dat Cfg Window BodyObligation cellOf)

section arrays
variable (V : (c : Dev nD) → (b : Ref sig .tc) → Buf (Elt Ideal) ((c : Thread nD τ).loc b)) (c : Dev nD)

/-- The input rows, the weights, and the gradient that arrives. -/
abbrev X : Mat 4096 1024 := V c main_arg0
abbrev W13 : Mat 1024 5632 := V c main_arg1
abbrev W2_ : Mat 2816 1024 := V c main_arg2
abbrev Dy : Mat 4096 1024 := V c main_arg3
/-- The arrays between the kernels. -/
abbrev Ha : Mat 4096 2816 := V c main_v0_0
abbrev Hg : Mat 4096 2816 := V c main_v0_1
abbrev Ds : Mat 4096 2816 := V c main_v1
abbrev Dh : Mat 4096 5632 := V c main_v2_0
abbrev S : Mat 4096 2816 := V c main_v2_1

theorem idx0_0 : ∀ t : Fin grid0.N, win0_0.index t 0 = t.val % 8 ∧ win0_0.index t 1 = 0 := by decide +kernel
theorem idx0_1 : ∀ t : Fin grid0.N, win0_1.index t 0 = 0 ∧ win0_1.index t 1 = t.val / 8 := by decide +kernel
theorem idx0_2 : ∀ t : Fin grid0.N, win0_2.index t 0 = 0 ∧ win0_2.index t 1 = 2 + t.val / 8 := by decide +kernel
theorem idx0_3 : ∀ t : Fin grid0.N, win0_3.index t 0 = t.val % 8 ∧ win0_3.index t 1 = t.val / 8 := by decide +kernel
theorem idx0_4 : ∀ t : Fin grid0.N, win0_4.index t 0 = t.val % 8 ∧ win0_4.index t 1 = t.val / 8 := by decide +kernel
theorem idx1_0 : ∀ t : Fin grid1.N, win1_0.index t 0 = t.val % 4 ∧ win1_0.index t 1 = 0 := by decide +kernel
theorem idx1_1 : ∀ t : Fin grid1.N, win1_1.index t 0 = t.val / 4 ∧ win1_1.index t 1 = 0 := by decide +kernel
theorem idx1_2 : ∀ t : Fin grid1.N, win1_2.index t 0 = t.val % 4 ∧ win1_2.index t 1 = t.val / 4 := by decide +kernel
theorem idx2_0 : ∀ t : Fin grid2.N, win2_0.index t 0 = t.val ∧ win2_0.index t 1 = 0 := by decide +kernel
theorem idx2_1 : ∀ t : Fin grid2.N, win2_1.index t 0 = t.val ∧ win2_1.index t 1 = 0 := by decide +kernel
theorem idx2_2 : ∀ t : Fin grid2.N, win2_2.index t 0 = t.val ∧ win2_2.index t 1 = 0 := by decide +kernel
theorem idx2_3 : ∀ t : Fin grid2.N, win2_3.index t 0 = t.val ∧ win2_3.index t 1 = 0 := by decide +kernel
theorem idx2_4 : ∀ t : Fin grid2.N, win2_4.index t 0 = t.val ∧ win2_4.index t 1 = 0 := by decide +kernel
theorem idx3_0 : ∀ t : Fin grid3.N, win3_0.index t 0 = 0 ∧ win3_0.index t 1 = t.val := by decide +kernel
theorem idx3_1 : ∀ t : Fin grid3.N, win3_1.index t 0 = 0 ∧ win3_1.index t 1 = 0 := by decide +kernel
theorem idx3_2 : ∀ t : Fin grid3.N, win3_2.index t 0 = t.val ∧ win3_2.index t 1 = 0 := by decide +kernel
theorem idx4_0 : ∀ t : Fin grid4.N, win4_0.index t 0 = 0 ∧ win4_0.index t 1 = t.val / 11 := by decide +kernel
theorem idx4_1 : ∀ t : Fin grid4.N, win4_1.index t 0 = 0 ∧ win4_1.index t 1 = t.val % 11 := by decide +kernel
theorem idx4_2 : ∀ t : Fin grid4.N, win4_2.index t 0 = t.val / 11 ∧ win4_2.index t 1 = t.val % 11 := by decide +kernel

theorem arr0_3 : (dat0 V c).arrAt 3 cfg0.N = haOf (X V c) (W13 V c) := by
  refine (dat0 V c).arrAt_eq_of_covers 3 _ (by decide +kernel) fun t hf y => ?_
  blk_simp
  rw [after0_3]
  frame_out
  have ht : t.val < 16 := t.isLt
  pointwise [k0_pay2, k0_pay1, hidOf]
  unfold X W13
  blk_point [iblk0, (idx0_0 t).1, (idx0_0 t).2, (idx0_1 t).1, (idx0_1 t).2, (idx0_3 t).1, (idx0_3 t).2]

theorem arr0_4 : (dat0 V c).arrAt 4 cfg0.N = hgOf (X V c) (W13 V c) := by
  refine (dat0 V c).arrAt_eq_of_covers 4 _ (by decide +kernel) fun t hf y => ?_
  blk_simp
  rw [after0_4]
  frame_out
  have ht : t.val < 16 := t.isLt
  pointwise [k0_pay3, k0_pay1, hidOf]
  unfold X W13
  blk_point [iblk0, (idx0_0 t).1, (idx0_0 t).2, (idx0_2 t).1, (idx0_2 t).2, (idx0_4 t).1, (idx0_4 t).2]

theorem arr1_2 : (dat1 V c).arrAt 2 cfg1.N = dsOf (Dy V c) (W2_ V c) := by
  refine (dat1 V c).arrAt_eq_of_covers 2 _ (by decide +kernel) fun t hf y => ?_
  blk_simp
  rw [after1_2]
  frame_out
  have ht : t.val < 8 := t.isLt
  pointwise [k1_pay1, dsOf]
  unfold Dy W2_
  blk_point [iblk1, (idx1_0 t).1, (idx1_0 t).2, (idx1_1 t).1, (idx1_1 t).2, (idx1_2 t).1, (idx1_2 t).2]

theorem arr2_4 : (dat2 V c).arrAt 4 cfg2.N = gateOf (Ha V c) (Hg V c) := by
  refine (dat2 V c).arrAt_eq_of_covers 4 _ (by decide +kernel) fun t hf y => ?_
  blk_simp
  rw [after2_4]
  frame_out
  have ht : t.val < 16 := t.isLt
  pointwise [k2_pay8, k2_pay5, k2_pay4, k2_pay2, k2_pay1, gateOf, gate]
  unfold Ha Hg
  blk_point [iblk2, (idx2_0 t).1, (idx2_0 t).2, (idx2_1 t).1, (idx2_1 t).2, (idx2_4 t).1, (idx2_4 t).2]

theorem arr3_2 : (dat3 V c).arrAt 2 cfg3.N = dw2Of (S V c) (Dy V c) := by
  refine (dat3 V c).arrAt_eq_of_covers 2 _ (by decide +kernel) fun t hf y => ?_
  blk_simp
  rw [after3_2]
  frame_out
  have ht : t.val < 11 := t.isLt
  pointwise [k3_pay1, dw2Of]
  unfold S Dy
  blk_point [iblk3, (idx3_0 t).1, (idx3_0 t).2, (idx3_1 t).1, (idx3_1 t).2, (idx3_2 t).1, (idx3_2 t).2]

theorem arr4_2 : (dat4 V c).arrAt 2 cfg4.N = dw13Of (X V c) (Dh V c) := by
  refine (dat4 V c).arrAt_eq_of_covers 2 _ (by decide +kernel) fun t hf y => ?_
  blk_simp
  rw [after4_2]
  frame_out
  have ht : t.val < 22 := t.isLt
  pointwise [k4_pay1, dw13Of]
  unfold X Dh
  blk_point [iblk4, (idx4_0 t).1, (idx4_0 t).2, (idx4_1 t).1, (idx4_1 t).2, (idx4_2 t).1, (idx4_2 t).2]

theorem arr2_3 : (dat2 V c).arrAt 3 cfg2.N = dhOf (Ha V c) (Hg V c) (Ds V c) := by
  refine (dat2 V c).arrAt_eq_of_covers 3 _ (by decide +kernel) fun t hf y => ?_
  blk_simp
  rw [after2_3]
  have ht : t.val < 16 := t.isLt
  unfold out2_3
  canon_tiles x h
  · rw [dhOf_hi _ _ _ _ (x 1) (by blk_simp [(idx2_3 t).2]; omega)]
    pointwise [k2_pay7, k2_pay5, k2_pay4, k2_pay3, k2_pay1, gateG]
    unfold Ha Ds
    blk_point [iblk2, (idx2_0 t).1, (idx2_0 t).2, (idx2_2 t).1, (idx2_2 t).2, (idx2_3 t).1, (idx2_3 t).2]
  · rw [dhOf_lo _ _ _ _ (x 1) (by blk_simp [(idx2_3 t).2]; omega)]
    pointwise [k2_pay6, k2_pay4, k2_pay3, k2_pay2, k2_pay1, gateA]
    unfold Ha Hg Ds
    blk_point [iblk2, (idx2_0 t).1, (idx2_0 t).2, (idx2_1 t).1, (idx2_1 t).2, (idx2_2 t).1, (idx2_2 t).2, (idx2_3 t).1, (idx2_3 t).2]
end arrays

/-! ### The run -/

section run
open Idealize.ShloMosaic.Tactic Idealize.SL Idealize.SL.RA Idealize.SL.BI
open scoped Idealize.SL.BI
open Idealize.SL.BI.BIBase Idealize.SL.BI.Laws Idealize.SL.ProofMode Idealize.ShloMosaic.Rounds

/-- The resources of the run. -/
abbrev Res : Type := MT nD τ sig Unit (Elt Ideal) ℕ (UR sig nD τ) ℕ

variable (m : (ℓ : Loc nD τ sig) → Buf (Elt Ideal) ℓ) (ρ : Dev nD → PrngReg)

-- the launch's implicit arguments are found by unifying its conclusion with this one, through plain definitions in types
set_option backward.isDefEq.respectTransparency.types false in
/-- The five kernels run, and leave every buffer as the last region's exit has it. -/
theorem run_all : θ_run defs (onTc (τ := τ) (main (F := Ideal))) ⟨m, fun _ => 0, ρ⟩ fun r =>
    ∀ c : Dev nD, ∀ b ∈ Pipeline.ucRefs τ sig, r.2.mem (((c : Thread nD τ)).1, b) = W5 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

variable (c : Dev nD)

/-- The arguments. -/
abbrev A0 : Mat 4096 1024 := m ((c : Thread nD τ).loc main_arg0)
abbrev A1 : Mat 1024 5632 := m ((c : Thread nD τ).loc main_arg1)
abbrev A2 : Mat 2816 1024 := m ((c : Thread nD τ).loc main_arg2)
abbrev A3 : Mat 4096 1024 := m ((c : Thread nD τ).loc main_arg3)
/-- What is between the kernels, of the arguments. -/
abbrev dsM : Mat 4096 2816 := dsOf (A3 m c) (A2 m c)
abbrev dhM : Mat 4096 5632 := dhOf (haOf (A0 m c) (A1 m c)) (hgOf (A0 m c) (A1 m c)) (dsM m c)
abbrev sM : Mat 4096 2816 := gateOf (haOf (A0 m c) (A1 m c)) (hgOf (A0 m c) (A1 m c))

theorem v2_ha : V2 m ρ c main_v0_0 = haOf (A0 m c) (A1 m c) :=
  (W2_of m ρ c main_v0_0 (by decide +kernel)).trans ((W1_arr m ρ c 3).trans (arr0_3 (V0 m ρ) c))
theorem v2_hg : V2 m ρ c main_v0_1 = hgOf (A0 m c) (A1 m c) :=
  (W2_of m ρ c main_v0_1 (by decide +kernel)).trans ((W1_arr m ρ c 4).trans (arr0_4 (V0 m ρ) c))
theorem v2_ds : V2 m ρ c main_v1 = dsM m c := by
  refine (W2_arr m ρ c 2).trans ((arr1_2 (V1 m ρ) c).trans ?_)
  unfold Dy W2_
  rw [show V1 m ρ c main_arg3 = A3 m c from W1_args m ρ c main_arg3 (by decide),
    show V1 m ρ c main_arg2 = A2 m c from W1_args m ρ c main_arg2 (by decide)]
theorem v3_dh : V3 m ρ c main_v2_0 = dhM m c := by
  refine (W3_arr m ρ c 3).trans ((arr2_3 (V2 m ρ) c).trans ?_)
  unfold Ha Hg Ds
  rw [v2_ha, v2_hg, v2_ds]
theorem v3_s : V3 m ρ c main_v2_1 = sM m c := by
  refine (W3_arr m ρ c 4).trans ((arr2_4 (V2 m ρ) c).trans ?_)
  unfold Ha Hg
  rw [v2_ha, v2_hg]
theorem v4_dh : V4 m ρ c main_v2_0 = dhM m c := (W4_of m ρ c main_v2_0 (by decide +kernel)).trans (v3_dh m ρ c)
theorem end_dh : W5 m ρ c (Proc.devRef .tc main_v2_0) = dhM m c := (W5_of m ρ c main_v2_0 (by decide +kernel)).trans (v4_dh m ρ c)
theorem end_dw2 : W5 m ρ c (Proc.devRef .tc main_v3) = dw2Of (sM m c) (A3 m c) := by
  refine (W5_of m ρ c main_v3 (by decide +kernel)).trans ((W4_arr m ρ c 2).trans ((arr3_2 (V3 m ρ) c).trans ?_))
  unfold S Dy
  rw [v3_s, show V3 m ρ c main_arg3 = A3 m c from W3_args m ρ c main_arg3 (by decide)]
theorem end_dw13 : W5 m ρ c (Proc.devRef .tc main_v4) = dw13Of (A0 m c) (dhM m c) := by
  refine (W5_arr m ρ c 2).trans ((arr4_2 (V4 m ρ) c).trans ?_)
  unfold X Dh
  rw [v4_dh, show V4 m ρ c main_arg0 = A0 m c from W4_args m ρ c main_arg0 (by decide)]

/-- The three results, and the arguments kept. -/
theorem run_kernel : θ_run defs (onTc (τ := τ) (main (F := Ideal))) ⟨m, fun _ => 0, ρ⟩ fun r => ∀ c : Dev nD,
    r.2.mem ((c : Thread nD τ).loc main_v2_0) = dhM m c
    ∧ r.2.mem ((c : Thread nD τ).loc main_v4) = dw13Of (A0 m c) (dhM m c)
    ∧ r.2.mem ((c : Thread nD τ).loc main_v3) = dw2Of (sM m c) (A3 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c =>
    ⟨(h c _ (mem_uc main_v2_0 (by decide))).trans (end_dh m ρ c), (h c _ (mem_uc main_v4 (by decide))).trans (end_dw13 m ρ c),
      (h c _ (mem_uc main_v3 (by decide))).trans (end_dw2 m ρ c),
      (h c _ (mem_uc main_arg0 (by decide))).trans (W5_main_arg0 m ρ c), (h c _ (mem_uc main_arg1 (by decide))).trans (W5_main_arg1 m ρ c),
      (h c _ (mem_uc main_arg2 (by decide))).trans (W5_main_arg2 m ρ c), (h c _ (mem_uc main_arg3 (by decide))).trans (W5_main_arg3 m ρ c)⟩)
    (run_all m ρ)
end run

end Cert.Kernel3Ideal.Ffn

end
-- ==== Proof.FfnGradRef.lean ====
/-
  THE SWIGLU LAYER'S GRADIENTS, the reference: the derivative of the gate and of the products is FfnGrad.lean's functions.
-/
module

public import proofs.«01_k».proof.Proof.FfnGrad
public import proofs.«01_k».proof.Proof.Gen.Reference3Ideal.Run
public import proofs.«01_k».proof.Proof.Gen.Reference3Ideal.Read

@[expose] public section

set_option maxRecDepth 16384

noncomputable section

namespace Cert.Reference3Ideal.Ffn

open Cert.Reference3Ideal Cert.Reference3Ideal.Gen Cert.Reference3Ideal.Read Idealize.ShloMosaic Idealize.ShloMosaic.TcCoe Idealize.SL.Sem Cert.FfnSpec

variable (a0 : Mat 4096 1024) (a1 : Mat 1024 5632) (a2 : Mat 2816 1024) (a3 : Mat 4096 1024)

theorem ref_ha : val_main_v3 (F := Ideal) a0 a1 = haOf a0 a1 := by
  funext i
  pointwise [val_main_v3, val_main_v2, val_main_v0, hidOf]
theorem ref_hg : val_main_v4 (F := Ideal) a0 a1 = hgOf a0 a1 := by
  funext i
  pointwise [val_main_v4, val_main_v2, val_main_v0, hidOf]
theorem ref_ds : val_main_v11 (F := Ideal) a2 a3 = dsOf a3 a2 := by
  funext i
  pointwise [val_main_v11, val_main_v8, val_main_v1, dsOf]
theorem ref_s : val_main_v6 (F := Ideal) a0 a1 = gateOf (haOf a0 a1) (hgOf a0 a1) := by
  funext i
  pointwise [val_main_v6, val_main_v5_0, val_main_v5_2, val_main_call0_v4, val_main_call0_cst_0, val_main_call0_v3, val_main_call0_v2,
    val_main_call0_cst, val_main_call0_v1, val_main_call0_v0, gateOf, gate, Ideal.logistic]
  rw [ref_ha, ref_hg]
theorem ref_lo (i : S4096x2816.Idx) : val_main_v14 (F := Ideal) a0 a1 a2 a3 i = gateA (haOf a0 a1 i) (hgOf a0 a1 i) (dsOf a3 a2 i) := by
  pointwise [val_main_v14, val_main_call1_v2, val_main_call1_v1, val_main_call1_v0, val_main_v13, val_main_v5_1, val_main_call0_v7,
    val_main_call0_v6, val_main_call0_cst_1, val_main_v5_2, val_main_call0_v4, val_main_call0_cst_0, val_main_call0_v3, val_main_call0_v2,
    val_main_call0_cst, val_main_call0_v1, val_main_call0_v0, gateA, Ideal.logistic]
  rw [ref_ha, ref_hg, ref_ds]
theorem ref_hi (i : S4096x2816.Idx) : val_main_v12 (F := Ideal) a0 a1 a2 a3 i = gateG (haOf a0 a1 i) (dsOf a3 a2 i) := by
  pointwise [val_main_v12, val_main_v5_0, val_main_v5_2, val_main_call0_v4, val_main_call0_cst_0, val_main_call0_v3, val_main_call0_v2,
    val_main_call0_cst, val_main_call0_v1, val_main_call0_v0, gateG, Ideal.logistic]
  rw [ref_ha, ref_ds]
theorem ref_dh : val_main_v15 (F := Ideal) a0 a1 a2 a3 = dhOf (haOf a0 a1) (hgOf a0 a1) (dsOf a3 a2) := by
  funext i
  by_cases h : (i 1).val < 2816
  · refine Eq.trans ?_ ((ref_lo a0 a1 a2 a3 (ix2 (i 0) ⟨(i 1).val, h⟩)).trans (dhOf_lo _ _ _ i ⟨_, h⟩ rfl).symm)
    pointwise [val_main_v15]
    exact dif_pos h
  · have h' : (i 1).val < 5632 := (i 1).isLt
    refine Eq.trans ?_ ((ref_hi a0 a1 a2 a3 (ix2 (i 0) ⟨(i 1).val - 2816, by omega⟩)).trans (dhOf_hi _ _ _ i ⟨_, by omega⟩ (by dsimp only; omega)).symm)
    pointwise [val_main_v15]
    exact dif_neg h
theorem res_dh : val_main_v16 (F := Ideal) a0 a1 a2 a3 = dhOf (haOf a0 a1) (hgOf a0 a1) (dsOf a3 a2) := by
  rw [← ref_dh]
  funext i
  pointwise [val_main_v16]
theorem res_dw13 : val_main_v18 (F := Ideal) a0 a1 a2 a3 = dw13Of a0 (dhOf (haOf a0 a1) (hgOf a0 a1) (dsOf a3 a2)) := by
  rw [← ref_dh]
  funext i
  pointwise [val_main_v18, val_main_v17, dw13Of]
  exact Finset.sum_congr rfl fun k _ => mul_comm _ _
theorem res_dw2 : val_main_v10 (F := Ideal) a0 a1 a3 = dw2Of (gateOf (haOf a0 a1) (hgOf a0 a1)) a3 := by
  rw [← ref_s]
  funext i
  pointwise [val_main_v10, val_main_v9, val_main_v8, dw2Of]
  exact Finset.sum_congr rfl fun k _ => mul_comm _ _

end Cert.Reference3Ideal.Ffn

end
-- ==== Proof.FfnDx.lean ====
/-
  THE LAST PRODUCT OF THE SWIGLU LAYER'S BACKWARD PASS: the gradient of the layer's input is the hidden gradient times the
  first weight's transpose, plus the gradient that skips the layer. The kernel accumulates the product over two runs of the
  hidden axis; the reference takes it at once.
-/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.IdealHost

@[expose] public section

set_option maxRecDepth 16384

noncomputable section

namespace Cert.FfnSpec

open Idealize.ShloMosaic

/-- The input's gradient: a product with a transposed weight, plus what skips the layer. -/
def dxOf (a0 : (⟨2, ![4096, 5632]⟩ : Shape).Idx → EReal) (a1 : (⟨2, ![1024, 5632]⟩ : Shape).Idx → EReal)
    (a2 : (⟨2, ![4096, 1024]⟩ : Shape).Idx → EReal) : (⟨2, ![4096, 1024]⟩ : Shape).Idx → EReal := fun i =>
  (∑ k : Fin 5632, a0 (ix2 (i 0) k) * a1 (ix2 (i 1) k)) + a2 i

end Cert.FfnSpec

namespace Cert.Kernel4Ideal.Ffn

open Cert.Kernel4Ideal Cert.Kernel4Ideal.Gen Idealize.ShloMosaic Idealize.ShloMosaic.TcCoe Idealize.SL.Sem Cert.FfnSpec
open Idealize.ShloMosaic.Pipeline (Dat)

variable (m : (ℓ : Loc nD τ sig) → Buf (Elt Ideal) ℓ) (c : Dev nD)

/-- The hidden gradient. -/
abbrev A0 : (⟨2, ![4096, 5632]⟩ : Shape).Idx → EReal := m ((c : Thread nD τ).loc main_arg0)
/-- The first weight. -/
abbrev A1 : (⟨2, ![1024, 5632]⟩ : Shape).Idx → EReal := m ((c : Thread nD τ).loc main_arg1)
/-- The gradient that skips the layer. -/
abbrev A2 : (⟨2, ![4096, 1024]⟩ : Shape).Idx → EReal := m ((c : Thread nD τ).loc main_arg2)

/-- What the carried accumulator holds after the first run of the hidden axis. -/
theorem scratch_A (t : Fin cfg0.N) (h0 : t.val % 2 = 0) :
    (outsAt0 m c t.val t.isLt).2 = k0_pay2 (iblk m c 0 t) (iblk m c 1 t) := by
  rw [outsAt0_A m c t h0 (by omega) (by omega)]; frame_out

/-- What is written back after the second run. -/
theorem out_B (n : ℕ) (h : n + 1 < cfg0.N) (h0 : ¬(n + 1) % 2 = 0) :
    (outsAt0 m c (n + 1) h).1 =
      k0_pay4 (k0_pay3 (iblk m c 0 ⟨n + 1, h⟩) (iblk m c 1 ⟨n + 1, h⟩) (outsAt0 m c n (Nat.lt_of_succ_lt h)).2) (iblk m c 2 ⟨n + 1, h⟩) := by
  have e := outsAt0_B m c ⟨n + 1, h⟩ h0 (by dsimp only <;> omega) (by dsimp only <;> omega)
  refine (congrArg Prod.fst e).trans ?_
  frame_out
  exact congrArg (fun z => k0_pay4 (k0_pay3 _ _ z) _) ((Memref.isWhole_whole _).read_unread _)

theorem idx0 : ∀ t : Fin grid0.N, win0_0.index t 0 = t.val / 4 ∧ win0_0.index t 1 = t.val % 2 := by decide +kernel
theorem idx1 : ∀ t : Fin grid0.N, win0_1.index t 0 = t.val / 2 % 2 ∧ win0_1.index t 1 = t.val % 2 := by decide +kernel
theorem idx2 : ∀ t : Fin grid0.N, win0_2.index t 0 = t.val / 4 ∧ win0_2.index t 1 = t.val / 2 % 2 := by decide +kernel
theorem idx3 : ∀ t : Fin grid0.N, win0_3.index t 0 = t.val / 4 ∧ win0_3.index t 1 = t.val / 2 % 2 := by decide +kernel
theorem flush3 : ∀ t : Fin grid0.N, win0_3.flush t = true → t.val % 2 = 1 := by decide +kernel

/-- A sum over the hidden axis in its two runs. -/
theorem sum_hidden (f : Fin 5632 → EReal) :
    (∑ k : Fin 2816, f ⟨k.val, by omega⟩) + ∑ k : Fin 2816, f ⟨2816 + k.val, by omega⟩ = ∑ k, f k := by
  rw [show ∑ k, f k = ∑ k : Fin (2816 + 2816), f k from rfl, Fin.sum_univ_add]; rfl

/-- The result array. -/
theorem arr3_eq : (Gen.dats m 0 c).arrAt 3 (cfgs 0).N = dxOf (A0 m c) (A1 m c) (A2 m c) := by
  refine (dats m 0 c).arrAt_eq_of_covers 3 _ (by decide +kernel) fun t hf y => ?_
  have h1 := flush3 t hf
  obtain ⟨t, ht⟩ := t
  obtain ⟨n, rfl⟩ : ∃ n, t = n + 1 := ⟨t - 1, by dsimp only at h1; omega⟩
  dsimp only at h1
  blk_simp
  rw [after0_3]
  rw [out_B m c n ht (by omega), scratch_A m c ⟨n, Nat.lt_of_succ_lt ht⟩ (by dsimp only; omega)]
  have hn : n + 1 < 16 := ht
  pointwise [k0_pay4, k0_pay3, k0_pay2, k0_pay1, dxOf]
  rw [← sum_hidden]
  unfold A0 A1 A2
  blk_point [iblk, V, (idx0 ⟨n, Nat.lt_of_succ_lt ht⟩).1, (idx0 ⟨n, Nat.lt_of_succ_lt ht⟩).2, (idx1 ⟨n, Nat.lt_of_succ_lt ht⟩).1,
    (idx1 ⟨n, Nat.lt_of_succ_lt ht⟩).2, (idx0 ⟨n + 1, ht⟩).1, (idx0 ⟨n + 1, ht⟩).2, (idx1 ⟨n + 1, ht⟩).1, (idx1 ⟨n + 1, ht⟩).2,
    (idx2 ⟨n + 1, ht⟩).1, (idx2 ⟨n + 1, ht⟩).2, (idx3 ⟨n + 1, ht⟩).1, (idx3 ⟨n + 1, ht⟩).2]

/-- The kernel's run. -/
theorem run_kernel (ρ : Dev nD → PrngReg) :
    θ_run defs (onTc (τ := τ) (main (F := Ideal))) ⟨m, fun _ => 0, ρ⟩ fun r => ∀ c : Dev nD,
      r.2.mem ((c : Thread nD τ).loc main_v0) = dxOf (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3_eq m c), (h c).2⟩) (Value.run_blocks m ρ)

end Cert.Kernel4Ideal.Ffn

namespace Cert.Reference4Ideal.Ffn

open Cert.Reference4Ideal Cert.Reference4Ideal.Gen Cert.Reference4Ideal.Read Idealize.ShloMosaic Idealize.ShloMosaic.TcCoe Idealize.SL.Sem Cert.FfnSpec

/-- The reference's result. -/
theorem res_dx (a0 : (⟨2, ![4096, 5632]⟩ : Shape).Idx → EReal) (a1 : (⟨2, ![1024, 5632]⟩ : Shape).Idx → EReal)
    (a2 : (⟨2, ![4096, 1024]⟩ : Shape).Idx → EReal) : val_main_v5 (F := Ideal) a0 a1 a2 = dxOf a0 a1 a2 := by
  funext i
  rw [val_main_v5_apply, val_main_v4_apply]
  refine congrArg (· + a2 i) (Finset.sum_congr rfl fun k _ => ?_)
  rw [val_main_v3_apply, val_main_v1_apply]
  refine congrArg₂ (· * ·) (congrArg a0 ?_) (congrArg a1 ?_)
  · funext a; match a with
    | ⟨0, _⟩ => rfl
    | ⟨1, _⟩ => rfl
  · funext a; match a with
    | ⟨0, _⟩ => rfl
    | ⟨1, _⟩ => rfl

end Cert.Reference4Ideal.Ffn

end
-- ==== Proof.FfnClaims.lean ====
/-
  THE SWIGLU LAYER'S CLAIMS: each reference keeps its arguments and ends quiescent, and computes what its kernel does.
-/
module

public import proofs.«01_k».proof.Defs
public import proofs.«01_k».proof.Proof.FfnFwd
public import proofs.«01_k».proof.Proof.FfnGrad
public import proofs.«01_k».proof.Proof.FfnGradRef
public import proofs.«01_k».proof.Proof.FfnDx
public import Idealize.ShloMosaic.Adequacy
public import Idealize.ShloMosaic.Init

@[expose] public section

set_option maxRecDepth 16384

noncomputable section

namespace Cert.Proof

open Idealize.ShloMosaic Idealize.SL.Sem Cert.FfnSpec

theorem reference2_frame : Cert.quiescent_Reference2Ideal := fun m ρ _ =>
  (θ_run _ _ _).mono (fun r h => ⟨fun c => (h c).2.2.2.2.2, sem_eq_zero_of_no_sems rfl r.2⟩) (Cert.Reference2Ideal.Value.run m ρ)
theorem reference3_frame : Cert.quiescent_Reference3Ideal := fun m ρ _ =>
  (θ_run _ _ _).mono (fun r h => ⟨fun c => (h c).2.2.2, sem_eq_zero_of_no_sems rfl r.2⟩) (Cert.Reference3Ideal.Value.run m ρ)
theorem reference4_frame : Cert.quiescent_Reference4Ideal := fun m ρ _ =>
  (θ_run _ _ _).mono (fun r h => ⟨fun c => (h c).2, sem_eq_zero_of_no_sems rfl r.2⟩) (Cert.Reference4Ideal.Value.run m ρ)

/-- The forward half step. -/
theorem algebraic2 : Cert.algebraic_Kernel2Ideal_Reference2Ideal := by
  intro m g m' g' _ hargs
  refine ⟨_, _, _, _, _, Cert.Kernel2Ideal.Ffn.run_kernel m g, ?_⟩
  refine (θ_run _ _ _).mono (fun r hr c => ?_) (Cert.Reference2Ideal.Value.run m' g')
  obtain ⟨e0, e1, e2, e3, e4⟩ := hargs c
  obtain ⟨r0, r1, r2, r3, r4, rest⟩ := hr c
  have s := Cert.Reference2Ideal.Ffn.res_sum (Cert.Kernel2Ideal.Ffn.A0 m c) (Cert.Kernel2Ideal.Ffn.A1 m c) (Cert.Kernel2Ideal.Ffn.A2 m c)
  refine ⟨r0.trans ?_, r1.trans ?_, r2.trans ?_, r3.trans ?_, r4.trans ?_, rest⟩
  · refine (Cert.Reference2Ideal.Read.val_main_v37_eq m' c).trans ?_
    rw [e0, e1, e2, e3, e4]
    exact (Cert.Reference2Ideal.Ffn.res_out _ _ _ _ _).trans (by rw [s])
  · refine (Cert.Reference2Ideal.Read.val_main_v38_eq m' c).trans ?_
    rw [e0, e1, e2, e3, e4]
    exact (Cert.Reference2Ideal.Ffn.res_outm _ _ _ _ _).trans ((Cert.Reference2Ideal.Ffn.res_out _ _ _ _ _).trans (by rw [s]))
  · refine (Cert.Reference2Ideal.Read.val_main_v12_eq _ _ _).trans ?_
    rw [e0, e1, e2]; exact s
  · refine (Cert.Reference2Ideal.Read.val_main_v14_eq _ _).trans ?_
    rw [e0, e1]; exact Cert.Reference2Ideal.Ffn.res_ha _ _
  · refine (Cert.Reference2Ideal.Read.val_main_v15_eq _ _).trans ?_
    rw [e0, e1]; exact Cert.Reference2Ideal.Ffn.res_hg _ _

/-- The hidden halves' and both weights' gradients. -/
theorem algebraic3 : Cert.algebraic_Kernel3Ideal_Reference3Ideal := by
  intro m g m' g' _ hargs
  refine ⟨_, _, _, Cert.Kernel3Ideal.Ffn.run_kernel m g, ?_⟩
  refine (θ_run _ _ _).mono (fun r hr c => ?_) (Cert.Reference3Ideal.Value.run m' g')
  obtain ⟨e0, e1, e2, e3⟩ := hargs c
  obtain ⟨r0, r1, r2, rest⟩ := hr c
  refine ⟨r0.trans ?_, r1.trans ?_, r2.trans ?_, rest⟩
  · refine (Cert.Reference3Ideal.Read.val_main_v16_eq _ _ _ _).trans ?_
    rw [e0, e1, e2, e3]; exact Cert.Reference3Ideal.Ffn.res_dh _ _ _ _
  · refine (Cert.Reference3Ideal.Read.val_main_v18_eq _ _ _ _).trans ?_
    rw [e0, e1, e2, e3]; exact Cert.Reference3Ideal.Ffn.res_dw13 _ _ _ _
  · refine (Cert.Reference3Ideal.Read.val_main_v10_eq _ _ _).trans ?_
    rw [e0, e1, e3]; exact Cert.Reference3Ideal.Ffn.res_dw2 _ _ _

/-- The rows' gradient. -/
theorem algebraic4 : Cert.algebraic_Kernel4Ideal_Reference4Ideal := by
  intro m g m' g' _ hargs
  refine ⟨_, Cert.Kernel4Ideal.Ffn.run_kernel m g, ?_⟩
  refine (θ_run _ _ _).mono (fun r hr c => ?_) (Cert.Reference4Ideal.Value.run m' g')
  obtain ⟨e0, e1, e2⟩ := hargs c
  obtain ⟨r0, rest⟩ := hr c
  refine ⟨r0.trans ?_, rest⟩
  refine (Cert.Reference4Ideal.Read.val_main_v5_eq _ _ _).trans ?_
  rw [e0, e1, e2]; exact Cert.Reference4Ideal.Ffn.res_dx _ _ _

end Cert.Proof

end
-- ==== Proof.MixSpec.lean ====
/-
  THE THREE PRODUCTS OF A LINEAR MAP'S FORWARD AND BACKWARD STEP, as mathematics over the extended reals: the map itself, the
  gradient of its rows, and the gradient of its weight.
-/
module

public import proofs.«01_k».proof.Proof.FfnSpec

@[expose] public section

noncomputable section

namespace Cert.MixSpec

open Idealize.ShloMosaic Cert.FfnSpec

/-- The product `x · w`. -/
def mulOf {m k n : ℕ} (x : Mat m k) (w : Mat k n) : Mat m n := fun i => ∑ j : Fin k, x (ix2 (i 0) j) * w (ix2 j (i 1))
/-- The product with the weight turned, `dy · wᵀ`. -/
def mulRows {m k n : ℕ} (dy : Mat m n) (w : Mat k n) : Mat m k := fun i => ∑ j : Fin n, dy (ix2 (i 0) j) * w (ix2 (i 1) j)
/-- The product with the rows turned, `xᵀ · dy`. -/
def mulCols {m k n : ℕ} (x : Mat m k) (dy : Mat m n) : Mat k n := fun i => ∑ j : Fin m, x (ix2 j (i 0)) * dy (ix2 j (i 1))

end Cert.MixSpec

end
-- ==== Proof.MixIn.lean ====
/-
  THE MIXER'S FIRST PRODUCT AND ITS WEIGHT'S GRADIENT. Two kernels, each a product tile by tile; their results are MixSpec.lean's,
  and so are the reference's.
-/
module

public import proofs.«01_k».proof.Proof.MixSpec
public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pipeline.ValueKit

@[expose] public section

set_option maxRecDepth 16384

noncomputable section

namespace Cert.Kernel5Ideal.Mix

open Cert.Kernel5Ideal Cert.Kernel5Ideal.Gen Idealize.ShloMosaic Idealize.ShloMosaic.TcCoe Idealize.SL.Sem Cert.FfnSpec Cert.MixSpec
open Idealize.ShloMosaic.Pipeline (Dat Cfg Window BodyObligation cellOf)

section arrays
variable (V : (c : Dev nD) → (b : Ref sig .tc) → Buf (Elt Ideal) ((c : Thread nD τ).loc b)) (c : Dev nD)

/-- The rows, the weight and the product's gradient. -/
abbrev X : Mat 4096 1024 := V c main_arg0
abbrev W : Mat 1024 9728 := V c main_arg1
abbrev G : Mat 4096 9728 := V c main_arg2

theorem idx0_0 : ∀ t : Fin grid0.N, win0_0.index t 0 = t.val % 8 ∧ win0_0.index t 1 = 0 := by decide +kernel
theorem idx0_1 : ∀ t : Fin grid0.N, win0_1.index t 0 = 0 ∧ win0_1.index t 1 = t.val / 8 := by decide +kernel
theorem idx0_2 : ∀ t : Fin grid0.N, win0_2.index t 0 = t.val % 8 ∧ win0_2.index t 1 = t.val / 8 := by decide +kernel
theorem idx1_0 : ∀ t : Fin grid1.N, win1_0.index t 0 = 0 ∧ win1_0.index t 1 = 0 := by decide +kernel
theorem idx1_1 : ∀ t : Fin grid1.N, win1_1.index t 0 = 0 ∧ win1_1.index t 1 = t.val := by decide +kernel
theorem idx1_2 : ∀ t : Fin grid1.N, win1_2.index t 0 = 0 ∧ win1_2.index t 1 = t.val := by decide +kernel

/-- The product. -/
theorem arr0_2 : (dat0 V c).arrAt 2 cfg0.N = mulOf (X V c) (W V c) := by
  refine (dat0 V c).arrAt_eq_of_covers 2 _ (by decide +kernel) fun t hf y => ?_
  blk_simp
  rw [after0_2]
  frame_out
  have ht : t.val < 32 := t.isLt
  pointwise [k0_pay1, mulOf]
  unfold X W
  blk_point [iblk0, (idx0_0 t).1, (idx0_0 t).2, (idx0_1 t).1, (idx0_1 t).2, (idx0_2 t).1, (idx0_2 t).2]

/-- The weight's gradient. -/
theorem arr1_2 : (dat1 V c).arrAt 2 cfg1.N = mulCols (X V c) (G V c) := by
  refine (dat1 V c).arrAt_eq_of_covers 2 _ (by decide +kernel) fun t hf y => ?_
  blk_simp
  rw [after1_2]
  frame_out
  have ht : t.val < 38 := t.isLt
  pointwise [k1_pay1, mulCols]
  unfold X G
  blk_point [iblk1, (idx1_0 t).1, (idx1_0 t).2, (idx1_1 t).1, (idx1_1 t).2, (idx1_2 t).1, (idx1_2 t).2]
end arrays

/-! ### The run -/

section run
open Idealize.ShloMosaic.Tactic Idealize.SL Idealize.SL.RA Idealize.SL.BI
open scoped Idealize.SL.BI
open Idealize.SL.BI.BIBase Idealize.SL.BI.Laws Idealize.SL.ProofMode Idealize.ShloMosaic.Rounds

/-- The resources of the run. -/
abbrev Res : Type := MT nD τ sig Unit (Elt Ideal) ℕ (UR sig nD τ) ℕ

variable (m : (ℓ : Loc nD τ sig) → Buf (Elt Ideal) ℓ) (ρ : Dev nD → PrngReg)

-- the launch's implicit arguments are found by unifying its conclusion with this one, through plain definitions in types
set_option backward.isDefEq.respectTransparency.types false in
/-- The two kernels run, and leave every buffer as the last region's exit has it. -/
theorem run_all : θ_run defs (onTc (τ := τ) (main (F := Ideal))) ⟨m, fun _ => 0, ρ⟩ fun r =>
    ∀ c : Dev nD, ∀ b ∈ Pipeline.ucRefs τ sig, r.2.mem (((c : Thread nD τ)).1, b) = W2 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

variable (c : Dev nD)

/-- The arguments. -/
abbrev A0 : Mat 4096 1024 := m ((c : Thread nD τ).loc main_arg0)
abbrev A1 : Mat 1024 9728 := m ((c : Thread nD τ).loc main_arg1)
abbrev A2 : Mat 4096 9728 := m ((c : Thread nD τ).loc main_arg2)

theorem end_0 : W2 m ρ c (Proc.devRef .tc main_v0) = mulOf (A0 m c) (A1 m c) :=
  (W2_of m ρ c main_v0 (by decide +kernel)).trans ((W1_arr m ρ c 2).trans (arr0_2 (V0 m ρ) c))
theorem end_1 : W2 m ρ c (Proc.devRef .tc main_v1) = mulCols (A0 m c) (A2 m c) := by
  refine (W2_arr m ρ c 2).trans ((arr1_2 (V1 m ρ) c).trans ?_)
  unfold X G
  rw [show V1 m ρ c main_arg0 = A0 m c from W1_args m ρ c main_arg0 (by decide),
    show V1 m ρ c main_arg2 = A2 m c from W1_args m ρ c main_arg2 (by decide)]

/-- The two results, and the arguments kept. -/
theorem run_kernel : θ_run defs (onTc (τ := τ) (main (F := Ideal))) ⟨m, fun _ => 0, ρ⟩ fun r => ∀ c : Dev nD,
    r.2.mem ((c : Thread nD τ).loc main_v0) = mulOf (A0 m c) (A1 m c)
    ∧ r.2.mem ((c : Thread nD τ).loc main_v1) = mulCols (A0 m c) (A2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c =>
    ⟨(h c _ (mem_uc main_v0 (by decide))).trans (end_0 m ρ c), (h c _ (mem_uc main_v1 (by decide))).trans (end_1 m ρ c),
      (h c _ (mem_uc main_arg0 (by decide))).trans (W2_main_arg0 m ρ c), (h c _ (mem_uc main_arg1 (by decide))).trans (W2_main_arg1 m ρ c),
      (h c _ (mem_uc main_arg2 (by decide))).trans (W2_main_arg2 m ρ c)⟩)
    (run_all m ρ)
end run

end Cert.Kernel5Ideal.Mix

namespace Cert.Reference5Ideal.Mix

open Cert.Reference5Ideal Cert.Reference5Ideal.Gen Cert.Reference5Ideal.Read Idealize.ShloMosaic Idealize.ShloMosaic.TcCoe Idealize.SL.Sem Cert.FfnSpec Cert.MixSpec

theorem res_0 (a0 : Mat 4096 1024) (a1 : Mat 1024 9728) : val_main_v2 (F := Ideal) a0 a1 = mulOf a0 a1 := by
  funext i
  pointwise [val_main_v2, val_main_v1, val_main_v0, mulOf]
theorem res_1 (a0 : Mat 4096 1024) (a2 : Mat 4096 9728) : val_main_v5 (F := Ideal) a0 a2 = mulCols a0 a2 := by
  funext i
  pointwise [val_main_v5, val_main_v4, val_main_v3, val_main_v1, mulCols]
  exact Finset.sum_congr rfl fun k _ => mul_comm _ _

end Cert.Reference5Ideal.Mix

end
-- ==== Proof.MixDx.lean ====
/-
  THE GRADIENT OF THE MIXER'S ROWS. The kernel takes a product in four runs of the long axis into a carried accumulator, adds
  what the other layers left, and writes back after the last; the result is MixSpec.lean's product plus what was left, and so is
  the reference's.
-/
module

public import proofs.«01_k».proof.Proof.MixSpec
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit

@[expose] public section

set_option maxRecDepth 16384

noncomputable section

namespace Cert.Kernel6Ideal.Mix

open Cert.Kernel6Ideal Cert.Kernel6Ideal.Gen Idealize.ShloMosaic Idealize.ShloMosaic.TcCoe Idealize.SL.Sem Cert.FfnSpec Cert.MixSpec
open Idealize.ShloMosaic.Pipeline (Dat Cfg Window BodyObligation cellOf)

/-- The rows' gradient: the product with the weight turned, plus what was there. -/
abbrev dxOf (a0 : Mat 4096 9728) (a1 : Mat 1024 9728) (a2 : Mat 4096 1024) : Mat 4096 1024 := fun i => mulRows a0 a1 i + a2 i

variable (m : (ℓ : Loc nD τ sig) → Buf (Elt Ideal) ℓ) (c : Dev nD)

/-- The product's gradient. -/
abbrev A0 : Mat 4096 9728 := m ((c : Thread nD τ).loc main_arg0)
/-- The weight. -/
abbrev A1 : Mat 1024 9728 := m ((c : Thread nD τ).loc main_arg1)
/-- What the other layers left. -/
abbrev A2 : Mat 4096 1024 := m ((c : Thread nD τ).loc main_arg2)

/-- What the carried accumulator holds after the first run of the long axis. -/
theorem scratch_A (n : ℕ) (h : n < cfg0.N) (h0 : n % 4 = 0) :
    (outsAt0 m c n h).2 = k0_pay2 (iblk m c 0 ⟨n, h⟩) (iblk m c 1 ⟨n, h⟩) := by
  refine (congrArg Prod.snd (outsAt0_A m c ⟨n, h⟩ h0 (by dsimp only <;> omega) (by dsimp only <;> omega))).trans ?_
  frame_out

/-- What it holds after a run in between. -/
theorem scratch_B (n : ℕ) (h : n + 1 < cfg0.N) (h0 : ¬(n + 1) % 4 = 0) (h3 : ¬(n + 1) % 4 = 3) :
    (outsAt0 m c (n + 1) h).2 = k0_pay3 (iblk m c 0 ⟨n + 1, h⟩) (iblk m c 1 ⟨n + 1, h⟩) (outsAt0 m c n (Nat.lt_of_succ_lt h)).2 := by
  refine (congrArg Prod.snd (outsAt0_B m c ⟨n + 1, h⟩ h0 (by dsimp only <;> omega) h3)).trans ?_
  frame_out
  exact congrArg (fun z => k0_pay3 _ _ z) ((Memref.isWhole_whole _).read_unread _)

/-- What is written back after the last run. -/
theorem out_C (n : ℕ) (h : n + 1 < cfg0.N) (h3 : (n + 1) % 4 = 3) :
    (outsAt0 m c (n + 1) h).1 =
      k0_pay4 (k0_pay3 (iblk m c 0 ⟨n + 1, h⟩) (iblk m c 1 ⟨n + 1, h⟩) (outsAt0 m c n (Nat.lt_of_succ_lt h)).2) (iblk m c 2 ⟨n + 1, h⟩) := by
  refine (congrArg Prod.fst (outsAt0_C m c ⟨n + 1, h⟩ (by dsimp only <;> omega) (by dsimp only <;> omega) h3)).trans ?_
  frame_out
  exact congrArg (fun z => k0_pay4 (k0_pay3 _ _ z) _) ((Memref.isWhole_whole _).read_unread _)

theorem idx0 : ∀ t : Fin grid0.N, win0_0.index t 0 = t.val / 8 ∧ win0_0.index t 1 = t.val % 4 := by decide +kernel
theorem idx1 : ∀ t : Fin grid0.N, win0_1.index t 0 = t.val / 4 % 2 ∧ win0_1.index t 1 = t.val % 4 := by decide +kernel
theorem idx2 : ∀ t : Fin grid0.N, win0_2.index t 0 = t.val / 8 ∧ win0_2.index t 1 = t.val / 4 % 2 := by decide +kernel
theorem idx3 : ∀ t : Fin grid0.N, win0_3.index t 0 = t.val / 8 ∧ win0_3.index t 1 = t.val / 4 % 2 := by decide +kernel
theorem flush3 : ∀ t : Fin grid0.N, win0_3.flush t = true → t.val % 4 = 3 := by decide +kernel

/-- A sum over the long axis in its four runs. -/
theorem sum_runs (f : Fin 9728 → EReal) :
    (((∑ k : Fin 2432, f ⟨k.val, by omega⟩) + ∑ k : Fin 2432, f ⟨2432 + k.val, by omega⟩) + ∑ k : Fin 2432, f ⟨4864 + k.val, by omega⟩)
      + ∑ k : Fin 2432, f ⟨7296 + k.val, by omega⟩ = ∑ k, f k := by
  rw [show ∑ k, f k = ∑ k : Fin (2432 + 2432 + 2432 + 2432), f k from rfl, Fin.sum_univ_add, Fin.sum_univ_add, Fin.sum_univ_add]; rfl

/-- The result array. -/
theorem arr3_eq : (Gen.dats m 0 c).arrAt 3 (cfgs 0).N = dxOf (A0 m c) (A1 m c) (A2 m c) := by
  refine (dats m 0 c).arrAt_eq_of_covers 3 _ (by decide +kernel) fun t hf y => ?_
  have h3 := flush3 t hf
  obtain ⟨t, ht⟩ := t
  obtain ⟨n, rfl⟩ : ∃ n, t = n + 1 + 1 + 1 := ⟨t - 3, by dsimp only at h3; omega⟩
  dsimp only at h3
  have hn : n + 3 < 32 := ht
  have h2 : n + 1 + 1 < cfg0.N := Nat.lt_of_succ_lt ht
  have h1 : n + 1 < cfg0.N := Nat.lt_of_succ_lt h2
  have h0 : n < cfg0.N := Nat.lt_of_succ_lt h1
  blk_simp
  rw [after0_3]
  rw [out_C m c (n + 1 + 1) ht h3, scratch_B m c (n + 1) h2 (by omega) (by omega), scratch_B m c n h1 (by omega) (by omega),
    scratch_A m c n h0 (by omega)]
  pointwise [k0_pay4, k0_pay3, k0_pay2, k0_pay1, dxOf, mulRows]
  rw [← sum_runs]
  unfold A0 A1 A2
  blk_point [iblk, V, (idx0 ⟨n, h0⟩).1, (idx0 ⟨n, h0⟩).2, (idx1 ⟨n, h0⟩).1, (idx1 ⟨n, h0⟩).2,
    (idx0 ⟨n + 1, h1⟩).1, (idx0 ⟨n + 1, h1⟩).2, (idx1 ⟨n + 1, h1⟩).1, (idx1 ⟨n + 1, h1⟩).2,
    (idx0 ⟨n + 1 + 1, h2⟩).1, (idx0 ⟨n + 1 + 1, h2⟩).2, (idx1 ⟨n + 1 + 1, h2⟩).1, (idx1 ⟨n + 1 + 1, h2⟩).2,
    (idx0 ⟨n + 1 + 1 + 1, ht⟩).1, (idx0 ⟨n + 1 + 1 + 1, ht⟩).2, (idx1 ⟨n + 1 + 1 + 1, ht⟩).1, (idx1 ⟨n + 1 + 1 + 1, ht⟩).2,
    (idx2 ⟨n + 1 + 1 + 1, ht⟩).1, (idx2 ⟨n + 1 + 1 + 1, ht⟩).2, (idx3 ⟨n + 1 + 1 + 1, ht⟩).1, (idx3 ⟨n + 1 + 1 + 1, ht⟩).2]

/-- The kernel's run. -/
theorem run_kernel (ρ : Dev nD → PrngReg) :
    θ_run defs (onTc (τ := τ) (main (F := Ideal))) ⟨m, fun _ => 0, ρ⟩ fun r => ∀ c : Dev nD,
      r.2.mem ((c : Thread nD τ).loc main_v0) = dxOf (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3_eq m c), (h c).2⟩) (Value.run_blocks m ρ)

end Cert.Kernel6Ideal.Mix

namespace Cert.Reference6Ideal.Mix

open Cert.Reference6Ideal Cert.Reference6Ideal.Gen Cert.Reference6Ideal.Read Idealize.ShloMosaic Idealize.ShloMosaic.TcCoe Idealize.SL.Sem Cert.FfnSpec Cert.MixSpec

theorem res_dx (a0 : Mat 4096 9728) (a1 : Mat 1024 9728) (a2 : Mat 4096 1024) :
    val_main_v5 (F := Ideal) a0 a1 a2 = fun i => mulRows a0 a1 i + a2 i := by
  funext i
  pointwise [val_main_v5, val_main_v4, val_main_v3, val_main_v1, mulRows]

end Cert.Reference6Ideal.Mix

end
-- ==== Proof.MixProj.lean ====
/-
  THE THREE BRANCHES' OUTPUT PROJECTIONS AND THEIR GRADIENTS. Nine kernels, each a product tile by tile; their results are
  MixSpec.lean's, and so are the reference's.
-/
module

public import proofs.«01_k».proof.Proof.MixSpec
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pipeline.ValueKit

@[expose] public section

set_option maxRecDepth 16384

noncomputable section

namespace Cert.Kernel7Ideal.Mix

open Cert.Kernel7Ideal Cert.Kernel7Ideal.Gen Idealize.ShloMosaic Idealize.ShloMosaic.TcCoe Idealize.SL.Sem Cert.FfnSpec Cert.MixSpec
open Idealize.ShloMosaic.Pipeline (Dat Cfg Window BodyObligation cellOf)

section arrays
variable (V : (c : Dev nD) → (b : Ref sig .tc) → Buf (Elt Ideal) ((c : Thread nD τ).loc b)) (c : Dev nD)

/-- The pooled rows, their weight and their product's gradient; the same of the scan; the same of the attention. -/
abbrev T : Mat 4096 768 := V c main_arg0
abbrev Pp : Mat 768 1024 := V c main_arg1
abbrev Dya : Mat 4096 1024 := V c main_arg2
abbrev Yb : Mat 4096 1024 := V c main_arg3
abbrev Ps : Mat 1024 1024 := V c main_arg4
abbrev Dyb : Mat 4096 1024 := V c main_arg5
abbrev Yc : Mat 4096 256 := V c main_arg6
abbrev Pa : Mat 256 1024 := V c main_arg7
abbrev Dyc : Mat 4096 1024 := V c main_arg8

theorem idx0_0 : ∀ t : Fin grid0.N, win0_0.index t 0 = t.val ∧ win0_0.index t 1 = 0 := by decide +kernel
theorem idx0_1 : ∀ t : Fin grid0.N, win0_1.index t 0 = 0 ∧ win0_1.index t 1 = 0 := by decide +kernel
theorem idx0_2 : ∀ t : Fin grid0.N, win0_2.index t 0 = t.val ∧ win0_2.index t 1 = 0 := by decide +kernel
theorem idx1_0 : ∀ t : Fin grid1.N, win1_0.index t 0 = t.val ∧ win1_0.index t 1 = 0 := by decide +kernel
theorem idx1_1 : ∀ t : Fin grid1.N, win1_1.index t 0 = 0 ∧ win1_1.index t 1 = 0 := by decide +kernel
theorem idx1_2 : ∀ t : Fin grid1.N, win1_2.index t 0 = t.val ∧ win1_2.index t 1 = 0 := by decide +kernel
theorem idx2_0 : ∀ t : Fin grid2.N, win2_0.index t 0 = t.val ∧ win2_0.index t 1 = 0 := by decide +kernel
theorem idx2_1 : ∀ t : Fin grid2.N, win2_1.index t 0 = 0 ∧ win2_1.index t 1 = 0 := by decide +kernel
theorem idx2_2 : ∀ t : Fin grid2.N, win2_2.index t 0 = t.val ∧ win2_2.index t 1 = 0 := by decide +kernel
theorem idx3_0 : ∀ t : Fin grid3.N, win3_0.index t 0 = t.val ∧ win3_0.index t 1 = 0 := by decide +kernel
theorem idx3_1 : ∀ t : Fin grid3.N, win3_1.index t 0 = 0 ∧ win3_1.index t 1 = 0 := by decide +kernel
theorem idx3_2 : ∀ t : Fin grid3.N, win3_2.index t 0 = t.val ∧ win3_2.index t 1 = 0 := by decide +kernel
theorem idx4_0 : ∀ t : Fin grid4.N, win4_0.index t 0 = 0 ∧ win4_0.index t 1 = 0 := by decide +kernel
theorem idx4_1 : ∀ t : Fin grid4.N, win4_1.index t 0 = 0 ∧ win4_1.index t 1 = t.val := by decide +kernel
theorem idx4_2 : ∀ t : Fin grid4.N, win4_2.index t 0 = 0 ∧ win4_2.index t 1 = t.val := by decide +kernel
theorem idx5_0 : ∀ t : Fin grid5.N, win5_0.index t 0 = t.val ∧ win5_0.index t 1 = 0 := by decide +kernel
theorem idx5_1 : ∀ t : Fin grid5.N, win5_1.index t 0 = 0 ∧ win5_1.index t 1 = 0 := by decide +kernel
theorem idx5_2 : ∀ t : Fin grid5.N, win5_2.index t 0 = t.val ∧ win5_2.index t 1 = 0 := by decide +kernel
theorem idx6_0 : ∀ t : Fin grid6.N, win6_0.index t 0 = 0 ∧ win6_0.index t 1 = 0 := by decide +kernel
theorem idx6_1 : ∀ t : Fin grid6.N, win6_1.index t 0 = 0 ∧ win6_1.index t 1 = t.val := by decide +kernel
theorem idx6_2 : ∀ t : Fin grid6.N, win6_2.index t 0 = 0 ∧ win6_2.index t 1 = t.val := by decide +kernel
theorem idx7_0 : ∀ t : Fin grid7.N, win7_0.index t 0 = t.val ∧ win7_0.index t 1 = 0 := by decide +kernel
theorem idx7_1 : ∀ t : Fin grid7.N, win7_1.index t 0 = 0 ∧ win7_1.index t 1 = 0 := by decide +kernel
theorem idx7_2 : ∀ t : Fin grid7.N, win7_2.index t 0 = t.val ∧ win7_2.index t 1 = 0 := by decide +kernel
theorem idx8_0 : ∀ t : Fin grid8.N, win8_0.index t 0 = 0 ∧ win8_0.index t 1 = 0 := by decide +kernel
theorem idx8_1 : ∀ t : Fin grid8.N, win8_1.index t 0 = 0 ∧ win8_1.index t 1 = t.val := by decide +kernel
theorem idx8_2 : ∀ t : Fin grid8.N, win8_2.index t 0 = 0 ∧ win8_2.index t 1 = t.val := by decide +kernel

/-- The pooling branch's product. -/
theorem arr0_2 : (dat0 V c).arrAt 2 cfg0.N = mulOf (T V c) (Pp V c) := by
  refine (dat0 V c).arrAt_eq_of_covers 2 _ (by decide +kernel) fun t hf y => ?_
  blk_simp
  rw [after0_2]
  frame_out
  have ht : t.val < 4 := t.isLt
  pointwise [k0_pay1, mulOf]
  unfold T Pp
  blk_point [iblk0, (idx0_0 t).1, (idx0_0 t).2, (idx0_1 t).1, (idx0_1 t).2, (idx0_2 t).1, (idx0_2 t).2]

/-- The scan branch's. -/
theorem arr1_2 : (dat1 V c).arrAt 2 cfg1.N = mulOf (Yb V c) (Ps V c) := by
  refine (dat1 V c).arrAt_eq_of_covers 2 _ (by decide +kernel) fun t hf y => ?_
  blk_simp
  rw [after1_2]
  frame_out
  have ht : t.val < 4 := t.isLt
  pointwise [k1_pay1, mulOf]
  unfold Yb Ps
  blk_point [iblk1, (idx1_0 t).1, (idx1_0 t).2, (idx1_1 t).1, (idx1_1 t).2, (idx1_2 t).1, (idx1_2 t).2]

/-- The attention branch's. -/
theorem arr2_2 : (dat2 V c).arrAt 2 cfg2.N = mulOf (Yc V c) (Pa V c) := by
  refine (dat2 V c).arrAt_eq_of_covers 2 _ (by decide +kernel) fun t hf y => ?_
  blk_simp
  rw [after2_2]
  frame_out
  have ht : t.val < 4 := t.isLt
  pointwise [k2_pay1, mulOf]
  unfold Yc Pa
  blk_point [iblk2, (idx2_0 t).1, (idx2_0 t).2, (idx2_1 t).1, (idx2_1 t).2, (idx2_2 t).1, (idx2_2 t).2]

/-- The attention rows' gradient. -/
theorem arr3_2 : (dat3 V c).arrAt 2 cfg3.N = mulRows (Dyc V c) (Pa V c) := by
  refine (dat3 V c).arrAt_eq_of_covers 2 _ (by decide +kernel) fun t hf y => ?_
  blk_simp
  rw [after3_2]
  frame_out
  have ht : t.val < 4 := t.isLt
  pointwise [k3_pay1, mulRows]
  unfold Dyc Pa
  blk_point [iblk3, (idx3_0 t).1, (idx3_0 t).2, (idx3_1 t).1, (idx3_1 t).2, (idx3_2 t).1, (idx3_2 t).2]

/-- The attention weight's. -/
theorem arr4_2 : (dat4 V c).arrAt 2 cfg4.N = mulCols (Yc V c) (Dyc V c) := by
  refine (dat4 V c).arrAt_eq_of_covers 2 _ (by decide +kernel) fun t hf y => ?_
  blk_simp
  rw [after4_2]
  frame_out
  have ht : t.val < 1 := t.isLt
  pointwise [k4_pay1, mulCols]
  unfold Yc Dyc
  blk_point [iblk4, (idx4_0 t).1, (idx4_0 t).2, (idx4_1 t).1, (idx4_1 t).2, (idx4_2 t).1, (idx4_2 t).2]

/-- The scan rows' gradient. -/
theorem arr5_2 : (dat5 V c).arrAt 2 cfg5.N = mulRows (Dyb V c) (Ps V c) := by
  refine (dat5 V c).arrAt_eq_of_covers 2 _ (by decide +kernel) fun t hf y => ?_
  blk_simp
  rw [after5_2]
  frame_out
  have ht : t.val < 4 := t.isLt
  pointwise [k5_pay1, mulRows]
  unfold Dyb Ps
  blk_point [iblk5, (idx5_0 t).1, (idx5_0 t).2, (idx5_1 t).1, (idx5_1 t).2, (idx5_2 t).1, (idx5_2 t).2]

/-- The scan weight's. -/
theorem arr6_2 : (dat6 V c).arrAt 2 cfg6.N = mulCols (Yb V c) (Dyb V c) := by
  refine (dat6 V c).arrAt_eq_of_covers 2 _ (by decide +kernel) fun t hf y => ?_
  blk_simp
  rw [after6_2]
  frame_out
  have ht : t.val < 4 := t.isLt
  pointwise [k6_pay1, mulCols]
  unfold Yb Dyb
  blk_point [iblk6, (idx6_0 t).1, (idx6_0 t).2, (idx6_1 t).1, (idx6_1 t).2, (idx6_2 t).1, (idx6_2 t).2]

/-- The pooling rows' gradient. -/
theorem arr7_2 : (dat7 V c).arrAt 2 cfg7.N = mulRows (Dya V c) (Pp V c) := by
  refine (dat7 V c).arrAt_eq_of_covers 2 _ (by decide +kernel) fun t hf y => ?_
  blk_simp
  rw [after7_2]
  frame_out
  have ht : t.val < 4 := t.isLt
  pointwise [k7_pay1, mulRows]
  unfold Dya Pp
  blk_point [iblk7, (idx7_0 t).1, (idx7_0 t).2, (idx7_1 t).1, (idx7_1 t).2, (idx7_2 t).1, (idx7_2 t).2]

/-- The pooling weight's. -/
theorem arr8_2 : (dat8 V c).arrAt 2 cfg8.N = mulCols (T V c) (Dya V c) := by
  refine (dat8 V c).arrAt_eq_of_covers 2 _ (by decide +kernel) fun t hf y => ?_
  blk_simp
  rw [after8_2]
  frame_out
  have ht : t.val < 2 := t.isLt
  pointwise [k8_pay1, mulCols]
  unfold T Dya
  blk_point [iblk8, (idx8_0 t).1, (idx8_0 t).2, (idx8_1 t).1, (idx8_1 t).2, (idx8_2 t).1, (idx8_2 t).2]

end arrays

/-! ### The run -/

section run
open Idealize.ShloMosaic.Tactic Idealize.SL Idealize.SL.RA Idealize.SL.BI
open scoped Idealize.SL.BI
open Idealize.SL.BI.BIBase Idealize.SL.BI.Laws Idealize.SL.ProofMode Idealize.ShloMosaic.Rounds

/-- The resources of the run. -/
abbrev Res : Type := MT nD τ sig Unit (Elt Ideal) ℕ (UR sig nD τ) ℕ

variable (m : (ℓ : Loc nD τ sig) → Buf (Elt Ideal) ℓ) (ρ : Dev nD → PrngReg)

-- the launch's implicit arguments are found by unifying its conclusion with this one, through plain definitions in types
set_option backward.isDefEq.respectTransparency.types false in
/-- The nine kernels run, and leave every buffer as the last region's exit has it. -/
theorem run_all : θ_run defs (onTc (τ := τ) (main (F := Ideal))) ⟨m, fun _ => 0, ρ⟩ fun r =>
    ∀ c : Dev nD, ∀ b ∈ Pipeline.ucRefs τ sig, r.2.mem (((c : Thread nD τ)).1, b) = W9 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

variable (c : Dev nD)

/-- The arguments. -/
abbrev A0 : Mat 4096 768 := m ((c : Thread nD τ).loc main_arg0)
abbrev A1 : Mat 768 1024 := m ((c : Thread nD τ).loc main_arg1)
abbrev A2 : Mat 4096 1024 := m ((c : Thread nD τ).loc main_arg2)
abbrev A3 : Mat 4096 1024 := m ((c : Thread nD τ).loc main_arg3)
abbrev A4 : Mat 1024 1024 := m ((c : Thread nD τ).loc main_arg4)
abbrev A5 : Mat 4096 1024 := m ((c : Thread nD τ).loc main_arg5)
abbrev A6 : Mat 4096 256 := m ((c : Thread nD τ).loc main_arg6)
abbrev A7 : Mat 256 1024 := m ((c : Thread nD τ).loc main_arg7)
abbrev A8 : Mat 4096 1024 := m ((c : Thread nD τ).loc main_arg8)

theorem at_0 : W1 m ρ c (Proc.devRef .tc main_v0) = mulOf (A0 m c) (A1 m c) := by
  refine (W1_arr m ρ c 2).trans ((arr0_2 (V0 m ρ) c).trans ?_)
  rfl
theorem at_1 : W2 m ρ c (Proc.devRef .tc main_v1) = mulOf (A3 m c) (A4 m c) := by
  refine (W2_arr m ρ c 2).trans ((arr1_2 (V1 m ρ) c).trans ?_)
  unfold Yb Ps
  rw [show V1 m ρ c main_arg3 = A3 m c from W1_args m ρ c main_arg3 (by decide),
    show V1 m ρ c main_arg4 = A4 m c from W1_args m ρ c main_arg4 (by decide)]
theorem at_2 : W3 m ρ c (Proc.devRef .tc main_v2) = mulOf (A6 m c) (A7 m c) := by
  refine (W3_arr m ρ c 2).trans ((arr2_2 (V2 m ρ) c).trans ?_)
  unfold Yc Pa
  rw [show V2 m ρ c main_arg6 = A6 m c from W2_args m ρ c main_arg6 (by decide),
    show V2 m ρ c main_arg7 = A7 m c from W2_args m ρ c main_arg7 (by decide)]
theorem at_3 : W4 m ρ c (Proc.devRef .tc main_v3) = mulRows (A8 m c) (A7 m c) := by
  refine (W4_arr m ρ c 2).trans ((arr3_2 (V3 m ρ) c).trans ?_)
  unfold Dyc Pa
  rw [show V3 m ρ c main_arg8 = A8 m c from W3_args m ρ c main_arg8 (by decide),
    show V3 m ρ c main_arg7 = A7 m c from W3_args m ρ c main_arg7 (by decide)]
theorem at_4 : W5 m ρ c (Proc.devRef .tc main_v4) = mulCols (A6 m c) (A8 m c) := by
  refine (W5_arr m ρ c 2).trans ((arr4_2 (V4 m ρ) c).trans ?_)
  unfold Yc Dyc
  rw [show V4 m ρ c main_arg6 = A6 m c from W4_args m ρ c main_arg6 (by decide),
    show V4 m ρ c main_arg8 = A8 m c from W4_args m ρ c main_arg8 (by decide)]
theorem at_5 : W6 m ρ c (Proc.devRef .tc main_v5) = mulRows (A5 m c) (A4 m c) := by
  refine (W6_arr m ρ c 2).trans ((arr5_2 (V5 m ρ) c).trans ?_)
  unfold Dyb Ps
  rw [show V5 m ρ c main_arg5 = A5 m c from W5_args m ρ c main_arg5 (by decide),
    show V5 m ρ c main_arg4 = A4 m c from W5_args m ρ c main_arg4 (by decide)]
theorem at_6 : W7 m ρ c (Proc.devRef .tc main_v6) = mulCols (A3 m c) (A5 m c) := by
  refine (W7_arr m ρ c 2).trans ((arr6_2 (V6 m ρ) c).trans ?_)
  unfold Yb Dyb
  rw [show V6 m ρ c main_arg3 = A3 m c from W6_args m ρ c main_arg3 (by decide),
    show V6 m ρ c main_arg5 = A5 m c from W6_args m ρ c main_arg5 (by decide)]
theorem at_7 : W8 m ρ c (Proc.devRef .tc main_v7) = mulRows (A2 m c) (A1 m c) := by
  refine (W8_arr m ρ c 2).trans ((arr7_2 (V7 m ρ) c).trans ?_)
  unfold Dya Pp
  rw [show V7 m ρ c main_arg2 = A2 m c from W7_args m ρ c main_arg2 (by decide),
    show V7 m ρ c main_arg1 = A1 m c from W7_args m ρ c main_arg1 (by decide)]
theorem at_8 : W9 m ρ c (Proc.devRef .tc main_v8) = mulCols (A0 m c) (A2 m c) := by
  refine (W9_arr m ρ c 2).trans ((arr8_2 (V8 m ρ) c).trans ?_)
  unfold T Dya
  rw [show V8 m ρ c main_arg0 = A0 m c from W8_args m ρ c main_arg0 (by decide),
    show V8 m ρ c main_arg2 = A2 m c from W8_args m ρ c main_arg2 (by decide)]

theorem end_0 : W9 m ρ c (Proc.devRef .tc main_v0) = mulOf (A0 m c) (A1 m c) :=
  ((W9_of m ρ c main_v0 (by decide +kernel)).trans ((W8_of m ρ c main_v0 (by decide +kernel)).trans ((W7_of m ρ c main_v0 (by decide +kernel)).trans ((W6_of m ρ c main_v0 (by decide +kernel)).trans ((W5_of m ρ c main_v0 (by decide +kernel)).trans ((W4_of m ρ c main_v0 (by decide +kernel)).trans ((W3_of m ρ c main_v0 (by decide +kernel)).trans ((W2_of m ρ c main_v0 (by decide +kernel)).trans (at_0 m ρ c)))))))))
theorem end_1 : W9 m ρ c (Proc.devRef .tc main_v1) = mulOf (A3 m c) (A4 m c) :=
  ((W9_of m ρ c main_v1 (by decide +kernel)).trans ((W8_of m ρ c main_v1 (by decide +kernel)).trans ((W7_of m ρ c main_v1 (by decide +kernel)).trans ((W6_of m ρ c main_v1 (by decide +kernel)).trans ((W5_of m ρ c main_v1 (by decide +kernel)).trans ((W4_of m ρ c main_v1 (by decide +kernel)).trans ((W3_of m ρ c main_v1 (by decide +kernel)).trans (at_1 m ρ c))))))))
theorem end_2 : W9 m ρ c (Proc.devRef .tc main_v2) = mulOf (A6 m c) (A7 m c) :=
  ((W9_of m ρ c main_v2 (by decide +kernel)).trans ((W8_of m ρ c main_v2 (by decide +kernel)).trans ((W7_of m ρ c main_v2 (by decide +kernel)).trans ((W6_of m ρ c main_v2 (by decide +kernel)).trans ((W5_of m ρ c main_v2 (by decide +kernel)).trans ((W4_of m ρ c main_v2 (by decide +kernel)).trans (at_2 m ρ c)))))))
theorem end_3 : W9 m ρ c (Proc.devRef .tc main_v3) = mulRows (A8 m c) (A7 m c) :=
  ((W9_of m ρ c main_v3 (by decide +kernel)).trans ((W8_of m ρ c main_v3 (by decide +kernel)).trans ((W7_of m ρ c main_v3 (by decide +kernel)).trans ((W6_of m ρ c main_v3 (by decide +kernel)).trans ((W5_of m ρ c main_v3 (by decide +kernel)).trans (at_3 m ρ c))))))
theorem end_4 : W9 m ρ c (Proc.devRef .tc main_v4) = mulCols (A6 m c) (A8 m c) :=
  ((W9_of m ρ c main_v4 (by decide +kernel)).trans ((W8_of m ρ c main_v4 (by decide +kernel)).trans ((W7_of m ρ c main_v4 (by decide +kernel)).trans ((W6_of m ρ c main_v4 (by decide +kernel)).trans (at_4 m ρ c)))))
theorem end_5 : W9 m ρ c (Proc.devRef .tc main_v5) = mulRows (A5 m c) (A4 m c) :=
  ((W9_of m ρ c main_v5 (by decide +kernel)).trans ((W8_of m ρ c main_v5 (by decide +kernel)).trans ((W7_of m ρ c main_v5 (by decide +kernel)).trans (at_5 m ρ c))))
theorem end_6 : W9 m ρ c (Proc.devRef .tc main_v6) = mulCols (A3 m c) (A5 m c) :=
  ((W9_of m ρ c main_v6 (by decide +kernel)).trans ((W8_of m ρ c main_v6 (by decide +kernel)).trans (at_6 m ρ c)))
theorem end_7 : W9 m ρ c (Proc.devRef .tc main_v7) = mulRows (A2 m c) (A1 m c) :=
  ((W9_of m ρ c main_v7 (by decide +kernel)).trans (at_7 m ρ c))
theorem end_8 : W9 m ρ c (Proc.devRef .tc main_v8) = mulCols (A0 m c) (A2 m c) :=
  (at_8 m ρ c)

/-- The nine results, and the arguments kept. -/
theorem run_kernel : θ_run defs (onTc (τ := τ) (main (F := Ideal))) ⟨m, fun _ => 0, ρ⟩ fun r => ∀ c : Dev nD,
    r.2.mem ((c : Thread nD τ).loc main_v0) = mulOf (A0 m c) (A1 m c)
    ∧ r.2.mem ((c : Thread nD τ).loc main_v7) = mulRows (A2 m c) (A1 m c)
    ∧ r.2.mem ((c : Thread nD τ).loc main_v8) = mulCols (A0 m c) (A2 m c)
    ∧ r.2.mem ((c : Thread nD τ).loc main_v1) = mulOf (A3 m c) (A4 m c)
    ∧ r.2.mem ((c : Thread nD τ).loc main_v5) = mulRows (A5 m c) (A4 m c)
    ∧ r.2.mem ((c : Thread nD τ).loc main_v6) = mulCols (A3 m c) (A5 m c)
    ∧ r.2.mem ((c : Thread nD τ).loc main_v2) = mulOf (A6 m c) (A7 m c)
    ∧ r.2.mem ((c : Thread nD τ).loc main_v3) = mulRows (A8 m c) (A7 m c)
    ∧ r.2.mem ((c : Thread nD τ).loc main_v4) = mulCols (A6 m c) (A8 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  (θ_run defs _ _).mono (fun r h c =>
    ⟨(h c _ (mem_uc main_v0 (by decide))).trans (end_0 m ρ c),
      (h c _ (mem_uc main_v7 (by decide))).trans (end_7 m ρ c),
      (h c _ (mem_uc main_v8 (by decide))).trans (end_8 m ρ c),
      (h c _ (mem_uc main_v1 (by decide))).trans (end_1 m ρ c),
      (h c _ (mem_uc main_v5 (by decide))).trans (end_5 m ρ c),
      (h c _ (mem_uc main_v6 (by decide))).trans (end_6 m ρ c),
      (h c _ (mem_uc main_v2 (by decide))).trans (end_2 m ρ c),
      (h c _ (mem_uc main_v3 (by decide))).trans (end_3 m ρ c),
      (h c _ (mem_uc main_v4 (by decide))).trans (end_4 m ρ c),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c)⟩)
    (run_all m ρ)
end run

end Cert.Kernel7Ideal.Mix

namespace Cert.Reference7Ideal.Mix

open Cert.Reference7Ideal Cert.Reference7Ideal.Gen Cert.Reference7Ideal.Read Idealize.ShloMosaic Idealize.ShloMosaic.TcCoe Idealize.SL.Sem Cert.FfnSpec Cert.MixSpec

variable (a0 : Mat 4096 768) (a1 : Mat 768 1024) (a2 : Mat 4096 1024) (a3 : Mat 4096 1024) (a4 : Mat 1024 1024) (a5 : Mat 4096 1024) (a6 : Mat 4096 256) (a7 : Mat 256 1024) (a8 : Mat 4096 1024)

theorem res_0 : val_main_v2 (F := Ideal) a0 a1 = mulOf a0 a1 := by
  funext i
  pointwise [val_main_v2, val_main_v1, val_main_v0, mulOf]
theorem res_7 : val_main_v11 (F := Ideal) a1 a2 = mulRows a2 a1 := by
  funext i
  pointwise [val_main_v11, val_main_v8, val_main_v1, mulRows]
theorem res_8 : val_main_v10 (F := Ideal) a0 a2 = mulCols a0 a2 := by
  funext i
  pointwise [val_main_v10, val_main_v9, val_main_v8, val_main_v0, mulCols]
  exact Finset.sum_congr rfl fun k _ => mul_comm _ _
theorem res_1 : val_main_v5 (F := Ideal) a3 a4 = mulOf a3 a4 := by
  funext i
  pointwise [val_main_v5, val_main_v4, val_main_v3, mulOf]
theorem res_5 : val_main_v15 (F := Ideal) a4 a5 = mulRows a5 a4 := by
  funext i
  pointwise [val_main_v15, val_main_v12, val_main_v4, mulRows]
theorem res_6 : val_main_v14 (F := Ideal) a3 a5 = mulCols a3 a5 := by
  funext i
  pointwise [val_main_v14, val_main_v13, val_main_v12, val_main_v3, mulCols]
  exact Finset.sum_congr rfl fun k _ => mul_comm _ _
theorem res_2 : val_main_v7 (F := Ideal) a6 a7 = mulOf a6 a7 := by
  funext i
  pointwise [val_main_v7, val_main_v6, mulOf]
theorem res_3 : val_main_v19 (F := Ideal) a7 a8 = mulRows a8 a7 := by
  funext i
  pointwise [val_main_v19, val_main_v16, val_main_v6, mulRows]
theorem res_4 : val_main_v18 (F := Ideal) a6 a8 = mulCols a6 a8 := by
  funext i
  pointwise [val_main_v18, val_main_v17, val_main_v16, mulCols]
  exact Finset.sum_congr rfl fun k _ => mul_comm _ _

end Cert.Reference7Ideal.Mix

end
-- ==== Proof.MixOut.lean ====
/-
  THE MIXER'S LAST PRODUCT, THE RESIDUAL SUM AND ITS LAYER NORM, and the product's gradients. Three kernels: the first a row tile
  at a time, the others products tile by tile. Their results are FfnSpec.lean's layer norm and MixSpec.lean's products, and so are
  the reference's.
-/
module

public import proofs.«01_k».proof.Proof.MixSpec
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pipeline.ValueKit

@[expose] public section

set_option maxRecDepth 16384

noncomputable section

namespace Cert.Kernel8Ideal.Mix

open Cert.Kernel8Ideal Cert.Kernel8Ideal.Gen Idealize.ShloMosaic Idealize.ShloMosaic.TcCoe Idealize.SL.Sem Cert.FfnSpec Cert.MixSpec
open Idealize.ShloMosaic.Pipeline (Dat Cfg Window BodyObligation cellOf)

/-- The residual sum that the layer norm takes. -/
def skipOf (x : Mat 4096 1024) (y : Mat 4096 1024) : Mat 4096 1024 := fun i => alpha * x i + y i

section arrays
variable (V : (c : Dev nD) → (b : Ref sig .tc) → Buf (Elt Ideal) ((c : Thread nD τ).loc b)) (c : Dev nD)

/-- The merged rows, the weight, the residual, the layer norm's two rows, and the sum's gradient. -/
abbrev M : Mat 4096 1024 := V c main_arg0
abbrev W : Mat 1024 1024 := V c main_arg1
abbrev X : Mat 4096 1024 := V c main_arg2
abbrev G : Mat 1 1024 := V c main_arg3
abbrev B : Mat 1 1024 := V c main_arg4
abbrev Dr : Mat 4096 1024 := V c main_arg5

theorem idx0_0 : ∀ t : Fin grid0.N, win0_0.index t 0 = t.val ∧ win0_0.index t 1 = 0 := by decide +kernel
theorem idx0_1 : ∀ t : Fin grid0.N, win0_1.index t 0 = 0 ∧ win0_1.index t 1 = 0 := by decide +kernel
theorem idx0_2 : ∀ t : Fin grid0.N, win0_2.index t 0 = t.val ∧ win0_2.index t 1 = 0 := by decide +kernel
theorem idx0_3 : ∀ t : Fin grid0.N, win0_3.index t 0 = 0 ∧ win0_3.index t 1 = 0 := by decide +kernel
theorem idx0_4 : ∀ t : Fin grid0.N, win0_4.index t 0 = 0 ∧ win0_4.index t 1 = 0 := by decide +kernel
theorem idx0_5 : ∀ t : Fin grid0.N, win0_5.index t 0 = t.val ∧ win0_5.index t 1 = 0 := by decide +kernel
theorem idx0_6 : ∀ t : Fin grid0.N, win0_6.index t 0 = t.val ∧ win0_6.index t 1 = 0 := by decide +kernel
theorem idx0_7 : ∀ t : Fin grid0.N, win0_7.index t 0 = t.val ∧ win0_7.index t 1 = 0 := by decide +kernel
theorem idx1_0 : ∀ t : Fin grid1.N, win1_0.index t 0 = t.val ∧ win1_0.index t 1 = 0 := by decide +kernel
theorem idx1_1 : ∀ t : Fin grid1.N, win1_1.index t 0 = 0 ∧ win1_1.index t 1 = 0 := by decide +kernel
theorem idx1_2 : ∀ t : Fin grid1.N, win1_2.index t 0 = t.val ∧ win1_2.index t 1 = 0 := by decide +kernel
theorem idx2_0 : ∀ t : Fin grid2.N, win2_0.index t 0 = 0 ∧ win2_0.index t 1 = 0 := by decide +kernel
theorem idx2_1 : ∀ t : Fin grid2.N, win2_1.index t 0 = 0 ∧ win2_1.index t 1 = t.val := by decide +kernel
theorem idx2_2 : ∀ t : Fin grid2.N, win2_2.index t 0 = 0 ∧ win2_2.index t 1 = t.val := by decide +kernel

/-- The residual sum. -/
theorem arr0_5 : (dat0 V c).arrAt 5 cfg0.N = skipOf (X V c) (mulOf (M V c) (W V c)) := by
  refine (dat0 V c).arrAt_eq_of_covers 5 _ (by decide +kernel) fun t hf y => ?_
  blk_simp
  rw [after0_5]
  frame_out
  have ht : t.val < 8 := t.isLt
  pointwise [k0_pay1, skipOf, mulOf, alpha]
  unfold M W X
  blk_point [iblk0, (idx0_0 t).1, (idx0_0 t).2, (idx0_1 t).1, (idx0_1 t).2, (idx0_2 t).1, (idx0_2 t).2, (idx0_5 t).1, (idx0_5 t).2]

/-- Its layer norm. -/
theorem arr0_6 : (dat0 V c).arrAt 6 cfg0.N = normOf (skipOf (X V c) (mulOf (M V c) (W V c))) (G V c) (B V c) := by
  refine (dat0 V c).arrAt_eq_of_covers 6 _ (by decide +kernel) fun t hf y => ?_
  blk_simp
  rw [after0_6]
  frame_out
  have ht : t.val < 8 := t.isLt
  pointwise [k0_pay2, k0_pay1, skipOf, mulOf, alpha, normOf, cent, rstd, mean, rowLen, eps]
  unfold M W X G B
  blk_point [iblk0, (idx0_0 t).1, (idx0_0 t).2, (idx0_1 t).1, (idx0_1 t).2, (idx0_2 t).1, (idx0_2 t).2, (idx0_3 t).1, (idx0_3 t).2, (idx0_4 t).1, (idx0_4 t).2, (idx0_6 t).1, (idx0_6 t).2]

/-- The same, in the narrow type. -/
theorem arr0_7 : (dat0 V c).arrAt 7 cfg0.N = normOf (skipOf (X V c) (mulOf (M V c) (W V c))) (G V c) (B V c) := by
  refine (dat0 V c).arrAt_eq_of_covers 7 _ (by decide +kernel) fun t hf y => ?_
  blk_simp
  rw [after0_7]
  frame_out
  have ht : t.val < 8 := t.isLt
  pointwise [k0_pay3, k0_pay2, k0_pay1, skipOf, mulOf, alpha, normOf, cent, rstd, mean, rowLen, eps]
  unfold M W X G B
  blk_point [iblk0, (idx0_0 t).1, (idx0_0 t).2, (idx0_1 t).1, (idx0_1 t).2, (idx0_2 t).1, (idx0_2 t).2, (idx0_3 t).1, (idx0_3 t).2, (idx0_4 t).1, (idx0_4 t).2, (idx0_7 t).1, (idx0_7 t).2]

/-- The merged rows' gradient. -/
theorem arr1_2 : (dat1 V c).arrAt 2 cfg1.N = mulRows (Dr V c) (W V c) := by
  refine (dat1 V c).arrAt_eq_of_covers 2 _ (by decide +kernel) fun t hf y => ?_
  blk_simp
  rw [after1_2]
  frame_out
  have ht : t.val < 4 := t.isLt
  pointwise [k1_pay1, mulRows]
  unfold Dr W
  blk_point [iblk1, (idx1_0 t).1, (idx1_0 t).2, (idx1_1 t).1, (idx1_1 t).2, (idx1_2 t).1, (idx1_2 t).2]

/-- The weight's gradient. -/
theorem arr2_2 : (dat2 V c).arrAt 2 cfg2.N = mulCols (M V c) (Dr V c) := by
  refine (dat2 V c).arrAt_eq_of_covers 2 _ (by decide +kernel) fun t hf y => ?_
  blk_simp
  rw [after2_2]
  frame_out
  have ht : t.val < 4 := t.isLt
  pointwise [k2_pay1, mulCols]
  unfold M Dr
  blk_point [iblk2, (idx2_0 t).1, (idx2_0 t).2, (idx2_1 t).1, (idx2_1 t).2, (idx2_2 t).1, (idx2_2 t).2]
end arrays

/-! ### The run -/

section run
open Idealize.ShloMosaic.Tactic Idealize.SL Idealize.SL.RA Idealize.SL.BI
open scoped Idealize.SL.BI
open Idealize.SL.BI.BIBase Idealize.SL.BI.Laws Idealize.SL.ProofMode Idealize.ShloMosaic.Rounds

/-- The resources of the run. -/
abbrev Res : Type := MT nD τ sig Unit (Elt Ideal) ℕ (UR sig nD τ) ℕ

variable (m : (ℓ : Loc nD τ sig) → Buf (Elt Ideal) ℓ) (ρ : Dev nD → PrngReg)

-- the launch's implicit arguments are found by unifying its conclusion with this one, through plain definitions in types
set_option backward.isDefEq.respectTransparency.types false in
/-- The three kernels run, and leave every buffer as the last region's exit has it. -/
theorem run_all : θ_run defs (onTc (τ := τ) (main (F := Ideal))) ⟨m, fun _ => 0, ρ⟩ fun r =>
    ∀ c : Dev nD, ∀ b ∈ Pipeline.ucRefs τ sig, r.2.mem (((c : Thread nD τ)).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

variable (c : Dev nD)

/-- The arguments. -/
abbrev A0 : Mat 4096 1024 := m ((c : Thread nD τ).loc main_arg0)
abbrev A1 : Mat 1024 1024 := m ((c : Thread nD τ).loc main_arg1)
abbrev A2 : Mat 4096 1024 := m ((c : Thread nD τ).loc main_arg2)
abbrev A3 : Mat 1 1024 := m ((c : Thread nD τ).loc main_arg3)
abbrev A4 : Mat 1 1024 := m ((c : Thread nD τ).loc main_arg4)
abbrev A5 : Mat 4096 1024 := m ((c : Thread nD τ).loc main_arg5)
/-- The residual sum, of the arguments. -/
abbrev sumM : Mat 4096 1024 := skipOf (A2 m c) (mulOf (A0 m c) (A1 m c))

theorem end_0 : W3 m ρ c (Proc.devRef .tc main_v0_0) = sumM m c :=
  (W3_of m ρ c main_v0_0 (by decide +kernel)).trans ((W2_of m ρ c main_v0_0 (by decide +kernel)).trans
    ((W1_arr m ρ c 5).trans (arr0_5 (V0 m ρ) c)))
theorem end_1 : W3 m ρ c (Proc.devRef .tc main_v0_1) = normOf (sumM m c) (A3 m c) (A4 m c) :=
  (W3_of m ρ c main_v0_1 (by decide +kernel)).trans ((W2_of m ρ c main_v0_1 (by decide +kernel)).trans
    ((W1_arr m ρ c 6).trans (arr0_6 (V0 m ρ) c)))
theorem end_2 : W3 m ρ c (Proc.devRef .tc main_v0_2) = normOf (sumM m c) (A3 m c) (A4 m c) :=
  (W3_of m ρ c main_v0_2 (by decide +kernel)).trans ((W2_of m ρ c main_v0_2 (by decide +kernel)).trans
    ((W1_arr m ρ c 7).trans (arr0_7 (V0 m ρ) c)))
theorem end_3 : W3 m ρ c (Proc.devRef .tc main_v1) = mulRows (A5 m c) (A1 m c) := by
  refine (W3_of m ρ c main_v1 (by decide +kernel)).trans ((W2_arr m ρ c 2).trans ((arr1_2 (V1 m ρ) c).trans ?_))
  unfold Dr W
  rw [show V1 m ρ c main_arg5 = A5 m c from W1_args m ρ c main_arg5 (by decide),
    show V1 m ρ c main_arg1 = A1 m c from W1_args m ρ c main_arg1 (by decide)]
theorem end_4 : W3 m ρ c (Proc.devRef .tc main_v2) = mulCols (A0 m c) (A5 m c) := by
  refine (W3_arr m ρ c 2).trans ((arr2_2 (V2 m ρ) c).trans ?_)
  unfold M Dr
  rw [show V2 m ρ c main_arg0 = A0 m c from W2_args m ρ c main_arg0 (by decide),
    show V2 m ρ c main_arg5 = A5 m c from W2_args m ρ c main_arg5 (by decide)]

/-- The five results, and the arguments kept. -/
theorem run_kernel : θ_run defs (onTc (τ := τ) (main (F := Ideal))) ⟨m, fun _ => 0, ρ⟩ fun r => ∀ c : Dev nD,
    r.2.mem ((c : Thread nD τ).loc main_v0_0) = sumM m c
    ∧ r.2.mem ((c : Thread nD τ).loc main_v0_1) = normOf (sumM m c) (A3 m c) (A4 m c)
    ∧ r.2.mem ((c : Thread nD τ).loc main_v0_2) = normOf (sumM m c) (A3 m c) (A4 m c)
    ∧ r.2.mem ((c : Thread nD τ).loc main_v1) = mulRows (A5 m c) (A1 m c)
    ∧ r.2.mem ((c : Thread nD τ).loc main_v2) = mulCols (A0 m c) (A5 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun r h c =>
    ⟨(h c _ (mem_uc main_v0_0 (by decide))).trans (end_0 m ρ c),
      (h c _ (mem_uc main_v0_1 (by decide))).trans (end_1 m ρ c),
      (h c _ (mem_uc main_v0_2 (by decide))).trans (end_2 m ρ c),
      (h c _ (mem_uc main_v1 (by decide))).trans (end_3 m ρ c),
      (h c _ (mem_uc main_v2 (by decide))).trans (end_4 m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c)⟩)
    (run_all m ρ)
end run

end Cert.Kernel8Ideal.Mix

namespace Cert.Reference8Ideal.Mix

open Cert.Reference8Ideal Cert.Reference8Ideal.Gen Cert.Reference8Ideal.Read Idealize.ShloMosaic Idealize.ShloMosaic.TcCoe Idealize.SL.Sem Cert.FfnSpec Cert.MixSpec

variable (a0 : Mat 4096 1024) (a1 : Mat 1024 1024) (a2 : Mat 4096 1024) (a3 : Mat 1 1024) (a4 : Mat 1 1024) (a5 : Mat 4096 1024)

theorem res_sum : val_main_v5 (F := Ideal) a0 a1 a2 = Cert.Kernel8Ideal.Mix.skipOf a2 (mulOf a0 a1) := by
  funext i
  pointwise [val_main_v5, val_main_v4, val_main_v3, val_main_cst, val_main_v2, val_main_v1, val_main_v0, Cert.Kernel8Ideal.Mix.skipOf,
    mulOf, alpha]
theorem res_norm : val_main_v27 (F := Ideal) a0 a1 a2 a3 a4 = normOf (val_main_v5 (F := Ideal) a0 a1 a2) a3 a4 := by
  funext i
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6,
    val_main_cst_0, val_main_cst_1, val_main_cst_2, val_main_cst_3, val_main_cst_4, normOf, cent, rstd, mean, rowLen, eps]
theorem res_narrow : val_main_v28 (F := Ideal) a0 a1 a2 a3 a4 = normOf (val_main_v5 (F := Ideal) a0 a1 a2) a3 a4 := by
  rw [← res_norm]
  funext i
  pointwise [val_main_v28]
theorem res_rows : val_main_v32 (F := Ideal) a1 a5 = mulRows a5 a1 := by
  funext i
  pointwise [val_main_v32, val_main_v29, val_main_v1, mulRows]
theorem res_cols : val_main_v31 (F := Ideal) a0 a5 = mulCols a0 a5 := by
  funext i
  pointwise [val_main_v31, val_main_v30, val_main_v29, val_main_v0, mulCols]
  exact Finset.sum_congr rfl fun k _ => mul_comm _ _

end Cert.Reference8Ideal.Mix

end
-- ==== Proof.MixClaims.lean ====
/-
  THE MIXER'S PRODUCTS' CLAIMS: each reference keeps its arguments and ends quiescent, and computes what its kernel does.
-/
module

public import proofs.«01_k».proof.Defs
public import proofs.«01_k».proof.Proof.MixIn
public import proofs.«01_k».proof.Proof.MixDx
public import proofs.«01_k».proof.Proof.MixProj
public import proofs.«01_k».proof.Proof.MixOut
public import Idealize.ShloMosaic.Adequacy
public import Idealize.ShloMosaic.Init

@[expose] public section

set_option maxRecDepth 16384

noncomputable section

namespace Cert.Proof

open Idealize.ShloMosaic Idealize.SL.Sem Cert.FfnSpec Cert.MixSpec

theorem reference5_frame : Cert.quiescent_Reference5Ideal := fun m ρ _ =>
  (θ_run _ _ _).mono (fun r h => ⟨fun c => (h c).2.2, sem_eq_zero_of_no_sems rfl r.2⟩) (Cert.Reference5Ideal.Value.run m ρ)
theorem reference6_frame : Cert.quiescent_Reference6Ideal := fun m ρ _ =>
  (θ_run _ _ _).mono (fun r h => ⟨fun c => (h c).2, sem_eq_zero_of_no_sems rfl r.2⟩) (Cert.Reference6Ideal.Value.run m ρ)
theorem reference7_frame : Cert.quiescent_Reference7Ideal := fun m ρ _ =>
  (θ_run _ _ _).mono (fun r h => ⟨fun c => (h c).2.2.2.2.2.2.2.2.2, sem_eq_zero_of_no_sems rfl r.2⟩) (Cert.Reference7Ideal.Value.run m ρ)
theorem reference8_frame : Cert.quiescent_Reference8Ideal := fun m ρ _ =>
  (θ_run _ _ _).mono (fun r h => ⟨fun c => (h c).2.2.2.2.2, sem_eq_zero_of_no_sems rfl r.2⟩) (Cert.Reference8Ideal.Value.run m ρ)

/-- The first product and its weight's gradient. -/
theorem algebraic5 : Cert.algebraic_Kernel5Ideal_Reference5Ideal := by
  intro m g m' g' _ hargs
  refine ⟨_, _, Cert.Kernel5Ideal.Mix.run_kernel m g, ?_⟩
  refine (θ_run _ _ _).mono (fun r hr c => ?_) (Cert.Reference5Ideal.Value.run m' g')
  obtain ⟨e0, e1, e2⟩ := hargs c
  obtain ⟨r0, r1, rest⟩ := hr c
  refine ⟨r0.trans ?_, r1.trans ?_, rest⟩
  · refine (Cert.Reference5Ideal.Read.val_main_v2_eq _ _).trans ?_
    rw [e0, e1]; exact Cert.Reference5Ideal.Mix.res_0 _ _
  · refine (Cert.Reference5Ideal.Read.val_main_v5_eq _ _).trans ?_
    rw [e0, e2]; exact Cert.Reference5Ideal.Mix.res_1 _ _

/-- The rows' gradient. -/
theorem algebraic6 : Cert.algebraic_Kernel6Ideal_Reference6Ideal := by
  intro m g m' g' _ hargs
  refine ⟨_, Cert.Kernel6Ideal.Mix.run_kernel m g, ?_⟩
  refine (θ_run _ _ _).mono (fun r hr c => ?_) (Cert.Reference6Ideal.Value.run m' g')
  obtain ⟨e0, e1, e2⟩ := hargs c
  obtain ⟨r0, rest⟩ := hr c
  refine ⟨r0.trans ?_, rest⟩
  · refine (Cert.Reference6Ideal.Read.val_main_v5_eq _ _ _).trans ?_
    rw [e0, e1, e2]; exact Cert.Reference6Ideal.Mix.res_dx _ _ _

/-- The branches' projections and their gradients. -/
theorem algebraic7 : Cert.algebraic_Kernel7Ideal_Reference7Ideal := by
  intro m g m' g' _ hargs
  refine ⟨_, _, _, _, _, _, _, _, _, Cert.Kernel7Ideal.Mix.run_kernel m g, ?_⟩
  refine (θ_run _ _ _).mono (fun r hr c => ?_) (Cert.Reference7Ideal.Value.run m' g')
  obtain ⟨e0, e1, e2, e3, e4, e5, e6, e7, e8⟩ := hargs c
  obtain ⟨r0, r1, r2, r3, r4, r5, r6, r7, r8, rest⟩ := hr c
  refine ⟨r0.trans ?_, r1.trans ?_, r2.trans ?_, r3.trans ?_, r4.trans ?_, r5.trans ?_, r6.trans ?_, r7.trans ?_, r8.trans ?_, rest⟩
  · refine (Cert.Reference7Ideal.Read.val_main_v2_eq _ _).trans ?_
    rw [e0, e1]; exact Cert.Reference7Ideal.Mix.res_0 _ _
  · refine (Cert.Reference7Ideal.Read.val_main_v11_eq _ _).trans ?_
    rw [e1, e2]; exact Cert.Reference7Ideal.Mix.res_7 _ _
  · refine (Cert.Reference7Ideal.Read.val_main_v10_eq _ _).trans ?_
    rw [e0, e2]; exact Cert.Reference7Ideal.Mix.res_8 _ _
  · refine (Cert.Reference7Ideal.Read.val_main_v5_eq _ _).trans ?_
    rw [e3, e4]; exact Cert.Reference7Ideal.Mix.res_1 _ _
  · refine (Cert.Reference7Ideal.Read.val_main_v15_eq _ _).trans ?_
    rw [e4, e5]; exact Cert.Reference7Ideal.Mix.res_5 _ _
  · refine (Cert.Reference7Ideal.Read.val_main_v14_eq _ _).trans ?_
    rw [e3, e5]; exact Cert.Reference7Ideal.Mix.res_6 _ _
  · refine (Cert.Reference7Ideal.Read.val_main_v7_eq _ _).trans ?_
    rw [e6, e7]; exact Cert.Reference7Ideal.Mix.res_2 _ _
  · refine (Cert.Reference7Ideal.Read.val_main_v19_eq _ _).trans ?_
    rw [e7, e8]; exact Cert.Reference7Ideal.Mix.res_3 _ _
  · refine (Cert.Reference7Ideal.Read.val_main_v18_eq _ _).trans ?_
    rw [e6, e8]; exact Cert.Reference7Ideal.Mix.res_4 _ _

/-- The last product, its layer norm and its gradients. -/
theorem algebraic8 : Cert.algebraic_Kernel8Ideal_Reference8Ideal := by
  intro m g m' g' _ hargs
  refine ⟨_, _, _, _, _, Cert.Kernel8Ideal.Mix.run_kernel m g, ?_⟩
  refine (θ_run _ _ _).mono (fun r hr c => ?_) (Cert.Reference8Ideal.Value.run m' g')
  obtain ⟨e0, e1, e2, e3, e4, e5⟩ := hargs c
  obtain ⟨r0, r1, r2, r3, r4, rest⟩ := hr c
  refine ⟨r0.trans ?_, r1.trans ?_, r2.trans ?_, r3.trans ?_, r4.trans ?_, rest⟩
  · refine (Cert.Reference8Ideal.Read.val_main_v5_eq _ _ _).trans ?_
    rw [e0, e1, e2]; exact Cert.Reference8Ideal.Mix.res_sum _ _ _
  · refine (Cert.Reference8Ideal.Read.val_main_v27_eq _ _ _ _ _).trans ?_
    rw [e0, e1, e2, e3, e4]; exact (Cert.Reference8Ideal.Mix.res_norm _ _ _ _ _).trans (by rw [Cert.Reference8Ideal.Mix.res_sum])
  · refine (Cert.Reference8Ideal.Read.val_main_v28_eq _ _ _ _ _).trans ?_
    rw [e0, e1, e2, e3, e4]; exact (Cert.Reference8Ideal.Mix.res_narrow _ _ _ _ _).trans (by rw [Cert.Reference8Ideal.Mix.res_sum])
  · refine (Cert.Reference8Ideal.Read.val_main_v32_eq _ _).trans ?_
    rw [e1, e5]; exact Cert.Reference8Ideal.Mix.res_rows _ _
  · refine (Cert.Reference8Ideal.Read.val_main_v31_eq _ _).trans ?_
    rw [e0, e5]; exact Cert.Reference8Ideal.Mix.res_cols _ _

end Cert.Proof

end
-- ==== Proof.RowSpec.lean ====
/-
  THE GATED MERGE OF THREE BRANCHES AND ITS BACKWARD STEP, as mathematics over the extended reals: the gates are logistic values,
  three runs of them out of the mixer's wide product, one run per branch.
-/
module

public import proofs.«01_k».proof.Proof.MixSpec

@[expose] public section

noncomputable section

namespace Cert.RowSpec

open Idealize.ShloMosaic Cert.FfnSpec

/-- The gate's logistic value, branch `p`'s at column `q`. -/
abbrev gOf (a0 : Mat 4096 9728) (a1 : Mat 1 3072) (p : Fin 3) (r : Fin 4096) (q : Fin 1024) : EReal :=
  Ideal.logistic (a0 (ix2 r ⟨6144 + (1024 * p.val + q.val), by omega⟩) + a1 (ix2 0 ⟨1024 * p.val + q.val, by omega⟩))
/-- The gates' gradient of branch `p`, whose rows are `y`. -/
abbrev dgPart (a0 : Mat 4096 9728) (a1 : Mat 1 3072) (y d : Mat 4096 1024) (p : Fin 3) (r : Fin 4096) (q : Fin 1024) : EReal :=
  d (ix2 r q) * y (ix2 r q) * (gOf a0 a1 p r q * (1 - gOf a0 a1 p r q))
/-- The three branches' rows. -/
abbrev pick (ya yb yc : Mat 4096 1024) (p : Fin 3) : Mat 4096 1024 := match p with | 0 => ya | 1 => yb | 2 => yc
/-- The gates' gradient. -/
def dgOf (a0 : Mat 4096 9728) (a1 : Mat 1 3072) (ya yb yc d : Mat 4096 1024) : Mat 4096 3072 := fun i =>
  dgPart a0 a1 (pick ya yb yc ⟨(i 1).val / 1024, by have : (i 1).val < 3072 := (i 1).isLt; omega⟩) d
    ⟨(i 1).val / 1024, by have : (i 1).val < 3072 := (i 1).isLt; omega⟩ (i 0) ⟨(i 1).val % 1024, by omega⟩
theorem dgOf_at (a0 : Mat 4096 9728) (a1 : Mat 1 3072) (ya yb yc d : Mat 4096 1024) (i : (⟨2, ![4096, 3072]⟩ : Shape).Idx)
    (p : Fin 3) (q : Fin 1024) (h : (i 1).val = 1024 * p.val + q.val) :
    dgOf a0 a1 ya yb yc d i = dgPart a0 a1 (pick ya yb yc p) d p (i 0) q := by
  have hp : (⟨(i 1).val / 1024, by have : (i 1).val < 3072 := (i 1).isLt; omega⟩ : Fin 3) = p := Fin.ext (by dsimp only; omega)
  have hq : (⟨(i 1).val % 1024, by omega⟩ : Fin 1024) = q := Fin.ext (by dsimp only; omega)
  unfold dgOf; rw [hp, hq]
/-- The bias's gradient. -/
def dgbOf (a0 : Mat 4096 9728) (a1 : Mat 1 3072) (ya yb yc d : Mat 4096 1024) : Mat 1 3072 := fun i =>
  ∑ k : Fin 4096, dgOf a0 a1 ya yb yc d (ix2 k (i 1))
/-- A branch's gradient. -/
def dyOf (a0 : Mat 4096 9728) (a1 : Mat 1 3072) (d : Mat 4096 1024) (p : Fin 3) : Mat 4096 1024 := fun i => gOf a0 a1 p (i 0) (i 1) * d i

/-- The merged rows. -/
def mergedOf (a0 : Mat 4096 9728) (a1 : Mat 1 3072) (ya yb yc : Mat 4096 1024) : Mat 4096 1024 := fun i =>
  gOf a0 a1 0 (i 0) (i 1) * ya i + gOf a0 a1 1 (i 0) (i 1) * yb i + gOf a0 a1 2 (i 0) (i 1) * yc i

/-- The scan's rows, gated: `y · z·σ(z)`. -/
abbrev gyOf (a3 : Mat 4096 1024) (a4 : Mat 4096 9728) (g : Fin 4) (r : Fin 4096) (q : Fin 256) : EReal :=
  a3 (ix2 r ⟨256 * g.val + q.val, by omega⟩) * (a4 (ix2 r ⟨768 + (256 * g.val + q.val), by omega⟩)
    * Ideal.logistic (a4 (ix2 r ⟨768 + (256 * g.val + q.val), by omega⟩)))
/-- The reciprocal root of a group's mean square. -/
abbrev rsOf (a3 : Mat 4096 1024) (a4 : Mat 4096 9728) (g : Fin 4) (r : Fin 4096) : EReal :=
  Ideal.rsqrt (Ideal.div (∑ l : Fin 256, gyOf a3 a4 g r l * gyOf a3 a4 g r l) (Ideal.ofBits .f32 0x43800000#32) + Ideal.ofBits .f32 0x3727C5AC#32)
/-- The gated rows normed in groups of 256. -/
def ybnOf (a3 : Mat 4096 1024) (a4 : Mat 4096 9728) (a5 : Mat 1 1024) : Mat 4096 1024 := fun i =>
  gyOf a3 a4 ⟨(i 1).val / 256, by have : (i 1).val < 1024 := (i 1).isLt; omega⟩ (i 0) ⟨(i 1).val % 256, by omega⟩
    * rsOf a3 a4 ⟨(i 1).val / 256, by have : (i 1).val < 1024 := (i 1).isLt; omega⟩ (i 0) * a5 (ix2 0 (i 1))
theorem ybnOf_at (a3 : Mat 4096 1024) (a4 : Mat 4096 9728) (a5 : Mat 1 1024) (i : (⟨2, ![4096, 1024]⟩ : Shape).Idx)
    (g : Fin 4) (q : Fin 256) (h : (i 1).val = 256 * g.val + q.val) :
    ybnOf a3 a4 a5 i = gyOf a3 a4 g (i 0) q * rsOf a3 a4 g (i 0) * a5 (ix2 0 (i 1)) := by
  have hg : (⟨(i 1).val / 256, by have : (i 1).val < 1024 := (i 1).isLt; omega⟩ : Fin 4) = g := Fin.ext (by dsimp only; omega)
  have hq : (⟨(i 1).val % 256, by omega⟩ : Fin 256) = q := Fin.ext (by dsimp only; omega)
  unfold ybnOf; rw [hg, hq]

/-- The cotangent of the normed rows: the incoming gradient times the norm's weight. -/
abbrev dwOf (a5 : Mat 1 1024) (d : Mat 4096 1024) (g : Fin 4) (r : Fin 4096) (q : Fin 256) : EReal :=
  d (ix2 r ⟨256 * g.val + q.val, by omega⟩) * a5 (ix2 0 ⟨256 * g.val + q.val, by omega⟩)
/-- The gradient of a group's square sum, over the group's size. -/
abbrev dsqOf (a3 : Mat 4096 1024) (a4 : Mat 4096 9728) (a5 : Mat 1 1024) (d : Mat 4096 1024) (g : Fin 4) (r : Fin 4096) : EReal :=
  Ideal.div ((∑ l : Fin 256, gyOf a3 a4 g r l * dwOf a5 d g r l) * (Ideal.ofBits .f32 0xBF000000#32
    * Ideal.div (rsOf a3 a4 g r) (Ideal.div (∑ l : Fin 256, gyOf a3 a4 g r l * gyOf a3 a4 g r l) (Ideal.ofBits .f32 0x43800000#32)
      + Ideal.ofBits .f32 0x3727C5AC#32))) (Ideal.ofBits .f32 0x43800000#32)
/-- The gated rows' gradient. -/
abbrev dgyOf (a3 : Mat 4096 1024) (a4 : Mat 4096 9728) (a5 : Mat 1 1024) (d : Mat 4096 1024) (g : Fin 4) (r : Fin 4096) (q : Fin 256) : EReal :=
  dwOf a5 d g r q * rsOf a3 a4 g r + gyOf a3 a4 g r q * dsqOf a3 a4 a5 d g r + dsqOf a3 a4 a5 d g r * gyOf a3 a4 g r q
/-- The gates' entry. -/
abbrev zOf (a4 : Mat 4096 9728) (g : Fin 4) (r : Fin 4096) (q : Fin 256) : EReal := a4 (ix2 r ⟨768 + (256 * g.val + q.val), by omega⟩)
/-- The scan's rows' gradient, in group `g`. -/
abbrev dyAt (a3 : Mat 4096 1024) (a4 : Mat 4096 9728) (a5 : Mat 1 1024) (d : Mat 4096 1024) (g : Fin 4) (r : Fin 4096) (q : Fin 256) : EReal :=
  dgyOf a3 a4 a5 d g r q * (zOf a4 g r q * Ideal.logistic (zOf a4 g r q))
/-- The gates' gradient, in group `g`. -/
abbrev dzAt (a3 : Mat 4096 1024) (a4 : Mat 4096 9728) (a5 : Mat 1 1024) (d : Mat 4096 1024) (g : Fin 4) (r : Fin 4096) (q : Fin 256) : EReal :=
  a3 (ix2 r ⟨256 * g.val + q.val, by omega⟩) * dgyOf a3 a4 a5 d g r q * Ideal.logistic (zOf a4 g r q)
  + zOf a4 g r q * (a3 (ix2 r ⟨256 * g.val + q.val, by omega⟩) * dgyOf a3 a4 a5 d g r q)
    * (Ideal.logistic (zOf a4 g r q) * (1 - Ideal.logistic (zOf a4 g r q)))
/-- A row's part of the weight's gradient, in group `g`. -/
abbrev dnAt (a3 : Mat 4096 1024) (a4 : Mat 4096 9728) (d : Mat 4096 1024) (g : Fin 4) (r : Fin 4096) (q : Fin 256) : EReal :=
  gyOf a3 a4 g r q * rsOf a3 a4 g r * d (ix2 r ⟨256 * g.val + q.val, by omega⟩)
/-- A matrix of 1024 columns, given by groups of 256. -/
def grouped (f : Fin 4 → Fin 4096 → Fin 256 → EReal) : Mat 4096 1024 := fun i =>
  f ⟨(i 1).val / 256, by have : (i 1).val < 1024 := (i 1).isLt; omega⟩ (i 0) ⟨(i 1).val % 256, by omega⟩
theorem grouped_at (f : Fin 4 → Fin 4096 → Fin 256 → EReal) (i : (⟨2, ![4096, 1024]⟩ : Shape).Idx) (g : Fin 4) (q : Fin 256)
    (h : (i 1).val = 256 * g.val + q.val) : grouped f i = f g (i 0) q := by
  have hg : (⟨(i 1).val / 256, by have : (i 1).val < 1024 := (i 1).isLt; omega⟩ : Fin 4) = g := Fin.ext (by dsimp only; omega)
  have hq : (⟨(i 1).val % 256, by omega⟩ : Fin 256) = q := Fin.ext (by dsimp only; omega)
  unfold grouped; rw [hg, hq]

/-- Entries given by groups make up the matrix. -/
theorem eq_grouped (M : Mat 4096 1024) (f : Fin 4 → Fin 4096 → Fin 256 → EReal)
    (h : ∀ (r : Fin 4096) (g : Fin 4) (q : Fin 256), M (ix2 r ⟨256 * g.val + q.val, by omega⟩) = f g r q) : M = grouped f := by
  funext i
  refine Eq.trans (congrArg M (funext fun a => ?_)) (h (i 0) ⟨(i 1).val / 256, by have : (i 1).val < 1024 := (i 1).isLt; omega⟩ ⟨(i 1).val % 256, by omega⟩)
  match a with
  | 0 => rfl
  | 1 => exact Fin.ext (by dsimp only; exact (Nat.div_add_mod _ _).symm)

/-- The weight's gradient. -/
def dnOf (a3 : Mat 4096 1024) (a4 : Mat 4096 9728) (d : Mat 4096 1024) : Mat 1 1024 := fun i =>
  ∑ k : Fin 4096, grouped (dnAt a3 a4 d) (ix2 k (i 1))

/-- Twice a term, taken as a factor, is the term twice. -/
theorem mul_two_mul (s t : EReal) : s * ((2 : EReal) * t) = t * s + s * t := by
  rw [mul_left_comm, mul_comm t s]
  rw [← one_add_one_eq_two, EReal.right_distrib_of_nonneg zero_le_one zero_le_one, one_mul]

/-- The time step: the softplus of the raw step and its bias. -/
abbrev dtpOf (a6 : Mat 4096 16) (a7 : Mat 1 16) : Mat 4096 16 := fun i =>
  max (a6 i + a7 (ix2 0 (i 1))) 0 + Ideal.log1p (Ideal.exp (0 - max (a6 i + a7 (ix2 0 (i 1))) (-(a6 i + a7 (ix2 0 (i 1))))))

/-- The saved logarithms of the attention's normalizers, by pair of heads, row and lane. -/
abbrev Lse : Type := (⟨3, ![2, 4096, 128]⟩ : Shape).Idx → EReal
/-- Head `h`'s normalizer at row `r`. -/
abbrev lh (l : Lse) (h : Fin 4) (r : Fin 4096) : EReal := l (ix3 ⟨h.val / 2, by omega⟩ r ⟨h.val % 2, by omega⟩)
/-- The largest of three. -/
abbrev max3 (a b c : EReal) : EReal := max (max a b) c
/-- The groups' weighted sum at weights `exp (a - max)`. -/
abbrev mix3 (a b c x y z : EReal) : EReal :=
  Ideal.div (Ideal.exp (a - max3 a b c)) (Ideal.exp (a - max3 a b c) + Ideal.exp (b - max3 a b c) + Ideal.exp (c - max3 a b c)) * x
  + Ideal.div (Ideal.exp (b - max3 a b c)) (Ideal.exp (a - max3 a b c) + Ideal.exp (b - max3 a b c) + Ideal.exp (c - max3 a b c)) * y
  + Ideal.div (Ideal.exp (c - max3 a b c)) (Ideal.exp (a - max3 a b c) + Ideal.exp (b - max3 a b c) + Ideal.exp (c - max3 a b c)) * z
/-- The three groups merged. -/
def ycpOf (o0 o1 o2 : Mat 4096 256) (l0 l1 l2 : Lse) : Mat 4096 256 := fun i =>
  mix3 (lh l0 ⟨(i 1).val / 64, by have : (i 1).val < 256 := (i 1).isLt; omega⟩ (i 0))
    (lh l1 ⟨(i 1).val / 64, by have : (i 1).val < 256 := (i 1).isLt; omega⟩ (i 0))
    (lh l2 ⟨(i 1).val / 64, by have : (i 1).val < 256 := (i 1).isLt; omega⟩ (i 0)) (o0 i) (o1 i) (o2 i)
theorem ycpOf_at (o0 o1 o2 : Mat 4096 256) (l0 l1 l2 : Lse) (i : (⟨2, ![4096, 256]⟩ : Shape).Idx) (h : Fin 4) (q : Fin 64)
    (e : (i 1).val = 64 * h.val + q.val) :
    ycpOf o0 o1 o2 l0 l1 l2 i = mix3 (lh l0 h (i 0)) (lh l1 h (i 0)) (lh l2 h (i 0)) (o0 i) (o1 i) (o2 i) := by
  have hh : (⟨(i 1).val / 64, by have : (i 1).val < 256 := (i 1).isLt; omega⟩ : Fin 4) = h := Fin.ext (by dsimp only; omega)
  unfold ycpOf; rw [hh]

end Cert.RowSpec

end
-- ==== Proof.RowMerge.lean ====
/-
  THE GATED MERGE OF THE THREE BRANCHES, BACKWARD. Three runs of gates, one per branch, each the logistic function of a row of
  the mixer's wide product plus the gates' bias. The kernel walks 256 rows at a time, writing back the gates' gradient and each
  branch's, and adding up the bias's gradient over all the walk; both it and the reference leave the formulas below.
-/
module

public import proofs.«01_k».proof.Proof.RowSpec
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit

@[expose] public section

set_option maxRecDepth 16384

noncomputable section

namespace Cert.Kernel9Ideal.Mix

open Cert.Kernel9Ideal Cert.Kernel9Ideal.Gen Idealize.ShloMosaic Idealize.ShloMosaic.TcCoe Idealize.SL.Sem Cert.FfnSpec Cert.MixSpec Cert.RowSpec
open Idealize.ShloMosaic.Pipeline (Dat Cfg Window BodyObligation cellOf)

variable (m : (ℓ : Loc nD τ sig) → Buf (Elt Ideal) ℓ) (c : Dev nD)

/-- The mixer's wide product. -/
abbrev A0 : Mat 4096 9728 := m ((c : Thread nD τ).loc main_arg0)
/-- The gates' bias. -/
abbrev A1 : Mat 1 3072 := m ((c : Thread nD τ).loc main_arg1)
/-- The pooling branch's rows. -/
abbrev A2 : Mat 4096 1024 := m ((c : Thread nD τ).loc main_arg2)
/-- The scan branch's rows. -/
abbrev A3 : Mat 4096 1024 := m ((c : Thread nD τ).loc main_arg3)
/-- The attention branch's rows. -/
abbrev A4 : Mat 4096 1024 := m ((c : Thread nD τ).loc main_arg4)
/-- The incoming gradient. -/
abbrev A5 : Mat 4096 1024 := m ((c : Thread nD τ).loc main_arg5)

theorem idx0 : ∀ t : Fin grid0.N, win0_0.index t 0 = t.val ∧ win0_0.index t 1 = 6 := by decide +kernel
theorem idx1 : ∀ t : Fin grid0.N, win0_1.index t 0 = t.val ∧ win0_1.index t 1 = 7 := by decide +kernel
theorem idx2 : ∀ t : Fin grid0.N, win0_2.index t 0 = t.val ∧ win0_2.index t 1 = 8 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel
theorem idx10 : ∀ t : Fin grid0.N, win0_10.index t 0 = t.val ∧ win0_10.index t 1 = 0 := by decide +kernel
theorem idx11 : ∀ t : Fin grid0.N, win0_11.index t 0 = t.val ∧ win0_11.index t 1 = 0 := by decide +kernel
theorem idx12 : ∀ t : Fin grid0.N, win0_12.index t 0 = 0 ∧ win0_12.index t 1 = 0 := by decide +kernel

/-- Row `r` of the rows walked at point `t`. -/
def row (t : Fin cfg0.N) (r : Fin 256) : Fin 4096 := ⟨256 * t.val + r.val, by have ht : t.val < 16 := t.isLt; omega⟩
theorem gates0 (t : Fin cfg0.N) (y : S256x1024.Idx) :
    X0_0 m c t y = A0 m c (ix2 (row t (y 0)) ⟨6144 + (y 1).val, by have h : (y 1).val < 1024 := (y 1).isLt; omega⟩) := by
  have ht : t.val < 16 := t.isLt
  unfold X0_0 Window.fill
  rw [dif_pos (moved0_0 t y)]
  unfold A0 row
  blk_point [iblk, V, (idx0 t).1, (idx0 t).2]
theorem gates1 (t : Fin cfg0.N) (y : S256x1024.Idx) :
    X0_1 m c t y = A0 m c (ix2 (row t (y 0)) ⟨7168 + (y 1).val, by have h : (y 1).val < 1024 := (y 1).isLt; omega⟩) := by
  have ht : t.val < 16 := t.isLt
  unfold X0_1 Window.fill
  rw [dif_pos (moved0_1 t y)]
  unfold A0 row
  blk_point [iblk, V, (idx1 t).1, (idx1 t).2]
theorem gates2 (t : Fin cfg0.N) (y : S256x1024.Idx) :
    X0_2 m c t y = A0 m c (ix2 (row t (y 0)) ⟨8192 + (y 1).val, by have h : (y 1).val < 1024 := (y 1).isLt; omega⟩) := by
  have ht : t.val < 16 := t.isLt
  unfold X0_2 Window.fill
  rw [dif_pos (moved0_2 t y)]
  unfold A0 row
  blk_point [iblk, V, (idx2 t).1, (idx2 t).2]

theorem arr9_eq : (Gen.dats m 0 c).arrAt 9 (cfgs 0).N = dyOf (A0 m c) (A1 m c) (A5 m c) 0 := by
  refine (dats m 0 c).arrAt_eq_of_covers 9 _ (by decide +kernel) fun t hf y => ?_
  have ht : t.val < 16 := t.isLt
  blk_simp
  rw [after0_9]
  by_cases h : t.val % 16 = 0
  · rw [outsAt0_A m c t h (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dyOf, gOf]
    simp only [gates0]
    unfold A0 A1 A5 row
    blk_point [iblk, V, (idx0 t).1, (idx0 t).2, (idx6 t).1, (idx6 t).2, (idx7 t).1, (idx7 t).2, (idx9 t).1, (idx9 t).2]
  · rw [outsAt0_B m c t h (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dyOf, gOf]
    simp only [gates0]
    unfold A0 A1 A5 row
    blk_point [iblk, V, (idx0 t).1, (idx0 t).2, (idx6 t).1, (idx6 t).2, (idx7 t).1, (idx7 t).2, (idx9 t).1, (idx9 t).2]

theorem arr10_eq : (Gen.dats m 0 c).arrAt 10 (cfgs 0).N = dyOf (A0 m c) (A1 m c) (A5 m c) 1 := by
  refine (dats m 0 c).arrAt_eq_of_covers 10 _ (by decide +kernel) fun t hf y => ?_
  have ht : t.val < 16 := t.isLt
  blk_simp
  rw [after0_10]
  by_cases h : t.val % 16 = 0
  · rw [outsAt0_A m c t h (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dyOf, gOf]
    simp only [gates1]
    unfold A0 A1 A5 row
    blk_point [iblk, V, (idx1 t).1, (idx1 t).2, (idx6 t).1, (idx6 t).2, (idx7 t).1, (idx7 t).2, (idx10 t).1, (idx10 t).2]
  · rw [outsAt0_B m c t h (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dyOf, gOf]
    simp only [gates1]
    unfold A0 A1 A5 row
    blk_point [iblk, V, (idx1 t).1, (idx1 t).2, (idx6 t).1, (idx6 t).2, (idx7 t).1, (idx7 t).2, (idx10 t).1, (idx10 t).2]

theorem arr11_eq : (Gen.dats m 0 c).arrAt 11 (cfgs 0).N = dyOf (A0 m c) (A1 m c) (A5 m c) 2 := by
  refine (dats m 0 c).arrAt_eq_of_covers 11 _ (by decide +kernel) fun t hf y => ?_
  have ht : t.val < 16 := t.isLt
  blk_simp
  rw [after0_11]
  by_cases h : t.val % 16 = 0
  · rw [outsAt0_A m c t h (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dyOf, gOf]
    simp only [gates2]
    unfold A0 A1 A5 row
    blk_point [iblk, V, (idx2 t).1, (idx2 t).2, (idx6 t).1, (idx6 t).2, (idx7 t).1, (idx7 t).2, (idx11 t).1, (idx11 t).2]
  · rw [outsAt0_B m c t h (by omega)]
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dyOf, gOf]
    simp only [gates2]
    unfold A0 A1 A5 row
    blk_point [iblk, V, (idx2 t).1, (idx2 t).2, (idx6 t).1, (idx6 t).2, (idx7 t).1, (idx7 t).2, (idx11 t).1, (idx11 t).2]

/-- The gates' gradient. -/
theorem arr8_eq : (Gen.dats m 0 c).arrAt 8 (cfgs 0).N = dgOf (A0 m c) (A1 m c) (A2 m c) (A3 m c) (A4 m c) (A5 m c) := by
  refine (dats m 0 c).arrAt_eq_of_covers 8 _ (by decide +kernel) fun t hf y => ?_
  have ht : t.val < 16 := t.isLt
  blk_simp
  rw [after0_8]
  by_cases h : t.val % 16 = 0
  · rw [outsAt0_A m c t h (by omega)]
    frame_out
    canon_tiles x h
    · rw [dgOf_at _ _ _ _ _ _ _ 2 (x 1) (by blk_simp [(idx8 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dgPart, gOf, pick]
      simp only [gates2]
      unfold A0 A1 A4 A5 row
      blk_point [iblk, V, (idx2 t).1, (idx2 t).2, (idx5 t).1, (idx5 t).2, (idx6 t).1, (idx6 t).2, (idx7 t).1, (idx7 t).2, (idx8 t).1, (idx8 t).2]
    · rw [dgOf_at _ _ _ _ _ _ _ 1 (x 1) (by blk_simp [(idx8 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dgPart, gOf, pick]
      simp only [gates1]
      unfold A0 A1 A3 A5 row
      blk_point [iblk, V, (idx1 t).1, (idx1 t).2, (idx4 t).1, (idx4 t).2, (idx6 t).1, (idx6 t).2, (idx7 t).1, (idx7 t).2, (idx8 t).1, (idx8 t).2]
    · rw [dgOf_at _ _ _ _ _ _ _ 0 (x 1) (by blk_simp [(idx8 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dgPart, gOf, pick]
      simp only [gates0]
      unfold A0 A1 A2 A5 row
      blk_point [iblk, V, (idx0 t).1, (idx0 t).2, (idx3 t).1, (idx3 t).2, (idx6 t).1, (idx6 t).2, (idx7 t).1, (idx7 t).2, (idx8 t).1, (idx8 t).2]
  · rw [outsAt0_B m c t h (by omega)]
    frame_out
    canon_tiles x h
    · rw [dgOf_at _ _ _ _ _ _ _ 2 (x 1) (by blk_simp [(idx8 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dgPart, gOf, pick]
      simp only [gates2]
      unfold A0 A1 A4 A5 row
      blk_point [iblk, V, (idx2 t).1, (idx2 t).2, (idx5 t).1, (idx5 t).2, (idx6 t).1, (idx6 t).2, (idx7 t).1, (idx7 t).2, (idx8 t).1, (idx8 t).2]
    · rw [dgOf_at _ _ _ _ _ _ _ 1 (x 1) (by blk_simp [(idx8 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dgPart, gOf, pick]
      simp only [gates1]
      unfold A0 A1 A3 A5 row
      blk_point [iblk, V, (idx1 t).1, (idx1 t).2, (idx4 t).1, (idx4 t).2, (idx6 t).1, (idx6 t).2, (idx7 t).1, (idx7 t).2, (idx8 t).1, (idx8 t).2]
    · rw [dgOf_at _ _ _ _ _ _ _ 0 (x 1) (by blk_simp [(idx8 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dgPart, gOf, pick]
      simp only [gates0]
      unfold A0 A1 A2 A5 row
      blk_point [iblk, V, (idx0 t).1, (idx0 t).2, (idx3 t).1, (idx3 t).2, (idx6 t).1, (idx6 t).2, (idx7 t).1, (idx7 t).2, (idx8 t).1, (idx8 t).2]

section payloads
variable (v2 v3 v4 v5 v6 v14 v21 v29 : Vec Ideal S256x1024 .f32) (v7 v37 : Vec Ideal S1x3072 .f32)

theorem pay11_2 (q : Fin 1024) (hq : 2048 + q.val < 3072) :
    k0_pay11 v2 v5 v6 v7 (ix2 0 ⟨2048 + q.val, hq⟩) = ∑ k : Fin 256, k0_pay10 v2 v5 v6 v7 (ix2 k q) := by
  pointwise [k0_pay11]
theorem pay11_0 (q : Fin 2048) (hq : q.val < 3072) : k0_pay11 v2 v5 v6 v7 (ix2 0 ⟨q.val, hq⟩) = 0 := by
  pointwise [k0_pay11]
theorem pay14_0 (q : Fin 1024) (hq : 0 + q.val < 3072) :
    k0_pay14 v3 v4 v14 v21 v29 v37 (ix2 0 ⟨0 + q.val, hq⟩) = v37 (ix2 0 ⟨0 + q.val, hq⟩) + ∑ k : Fin 256, k0_pay13 v3 v14 v29 (ix2 k q) := by
  pointwise [k0_pay14]
  split <;> rw [add_zero]
theorem pay14_1 (q : Fin 1024) (hq : 1024 + q.val < 3072) :
    k0_pay14 v3 v4 v14 v21 v29 v37 (ix2 0 ⟨1024 + q.val, hq⟩)
      = v37 (ix2 0 ⟨1024 + q.val, hq⟩) + ∑ k : Fin 256, k0_pay12 v4 v21 v29 (ix2 k q) := by
  pointwise [k0_pay14]
  rw [dif_pos (by omega)]
theorem pay14_2 (q : Fin 1024) (hq : 2048 + q.val < 3072) :
    k0_pay14 v3 v4 v14 v21 v29 v37 (ix2 0 ⟨2048 + q.val, hq⟩) = v37 (ix2 0 ⟨2048 + q.val, hq⟩) := by
  pointwise [k0_pay14]
  rw [dif_neg (by omega), add_zero]
end payloads

/-- What a point adds to the bias's gradient. -/
def part (t : Fin cfg0.N) : S1x3072.Idx → EReal := k0_pay14 (iblk m c 3 t) (iblk m c 4 t) (k0_pay3 (X0_0 m c t) (iblk m c 7 t))
  (k0_pay5 (X0_1 m c t) (iblk m c 7 t)) (k0_pay7 (iblk m c 6 t)) (k0_pay11 (X0_2 m c t) (iblk m c 5 t) (iblk m c 6 t) (iblk m c 7 t))
theorem part_0 (t : Fin cfg0.N) (q : Fin 1024) (hq : 0 + q.val < 3072) :
    part m c t (ix2 0 ⟨0 + q.val, hq⟩) = ∑ k : Fin 256, dgPart (A0 m c) (A1 m c) (A2 m c) (A5 m c) 0 (row t k) q := by
  have ht : t.val < 16 := t.isLt
  unfold part
  rw [pay14_0, pay11_0 _ _ _ _ ⟨0 + q.val, by omega⟩ hq, zero_add]
  refine Finset.sum_congr rfl fun k _ => ?_
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dgPart, gOf]
  simp only [gates0]
  unfold A0 A1 A2 A5 row
  blk_point [iblk, V, (idx0 t).1, (idx0 t).2, (idx3 t).1, (idx3 t).2, (idx6 t).1, (idx6 t).2, (idx7 t).1, (idx7 t).2]
theorem part_1 (t : Fin cfg0.N) (q : Fin 1024) (hq : 1024 + q.val < 3072) :
    part m c t (ix2 0 ⟨1024 + q.val, hq⟩) = ∑ k : Fin 256, dgPart (A0 m c) (A1 m c) (A3 m c) (A5 m c) 1 (row t k) q := by
  have ht : t.val < 16 := t.isLt
  unfold part
  rw [pay14_1, pay11_0 _ _ _ _ ⟨1024 + q.val, by omega⟩ hq, zero_add]
  refine Finset.sum_congr rfl fun k _ => ?_
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dgPart, gOf]
  simp only [gates1]
  unfold A0 A1 A3 A5 row
  blk_point [iblk, V, (idx1 t).1, (idx1 t).2, (idx4 t).1, (idx4 t).2, (idx6 t).1, (idx6 t).2, (idx7 t).1, (idx7 t).2]
theorem part_2 (t : Fin cfg0.N) (q : Fin 1024) (hq : 2048 + q.val < 3072) :
    part m c t (ix2 0 ⟨2048 + q.val, hq⟩) = ∑ k : Fin 256, dgPart (A0 m c) (A1 m c) (A4 m c) (A5 m c) 2 (row t k) q := by
  have ht : t.val < 16 := t.isLt
  unfold part
  rw [pay14_2, pay11_2]
  refine Finset.sum_congr rfl fun k _ => ?_
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, dgPart, gOf]
  simp only [gates2]
  unfold A0 A1 A4 A5 row
  blk_point [iblk, V, (idx2 t).1, (idx2 t).2, (idx5 t).1, (idx5 t).2, (idx6 t).1, (idx6 t).2, (idx7 t).1, (idx7 t).2]

theorem part_eq (t : Fin cfg0.N) (y : S1x3072.Idx) :
    part m c t y = ∑ k : Fin 256, dgOf (A0 m c) (A1 m c) (A2 m c) (A3 m c) (A4 m c) (A5 m c) (ix2 (row t k) (y 1)) := by
  obtain ⟨p, q, h⟩ : ∃ (p : Fin 3) (q : Fin 1024), (y 1).val = 1024 * p.val + q.val := by
    have h : (y 1).val < 3072 := (y 1).isLt
    exact ⟨⟨(y 1).val / 1024, by omega⟩, ⟨(y 1).val % 1024, by omega⟩, by dsimp only; omega⟩
  have hy : y = ix2 0 ⟨1024 * p.val + q.val, by omega⟩ := by
    funext a; refine Fin.ext ?_
    match a with
    | 0 => have h0 : (y 0).val < 1 := (y 0).isLt; exact Nat.lt_one_iff.mp h0
    | 1 => exact h
  rw [Finset.sum_congr rfl fun k _ => dgOf_at (A0 m c) (A1 m c) (A2 m c) (A3 m c) (A4 m c) (A5 m c) (ix2 (row t k) (y 1)) p q h, hy]
  match p with
  | 0 => exact part_0 m c t q (by omega)
  | 1 => exact part_1 m c t q (by omega)
  | 2 => exact part_2 m c t q (by omega)

/-- The bias's gradient, added up. -/
theorem arr12_eq : (Gen.dats m 0 c).arrAt 12 (cfgs 0).N = dgbOf (A0 m c) (A1 m c) (A2 m c) (A3 m c) (A4 m c) (A5 m c) := by
  refine (dats m 0 c).arrAt_eq_of_covers 12 _ (by decide +kernel) fun t hf y => ?_
  have ht : t.val < 16 := t.isLt
  have h15 := (flush0_12 t).mp hf
  blk_simp
  rw [after0_12, Pipeline.eq_sum_fin_of_reset_step_apply_of_flush (fun n h => (outsAt0 m c n h).2.2.2.2) 16 (fun _ => 0)
    (fun t j => part m c t j)
    (fun t h j => by
      have ht : t.val < 16 := t.isLt
      rw [outsAt0_A m c t h (by omega)]; frame_out; exact (zero_add _).symm)
    (fun t h j => by
      have ht : t.val < 16 := t.isLt
      rw [outsAt0_B m c t h (by omega)]; frame_out; pointwise [k0_pay1]; rfl) t h15, zero_add]
  rw [Finset.sum_congr rfl fun s _ => part_eq m c _ _]
  unfold dgbOf
  refine Fin.sum_mul_add_congr (n := 256) fun p k hl => ?_
  unfold row
  blk_point [(idx12 t).1, (idx12 t).2]
  exact Fin.ext (by dsimp only; omega)

/-- The kernel's run. -/
theorem run_kernel (ρ : Dev nD → PrngReg) :
    θ_run defs (onTc (τ := τ) (main (F := Ideal))) ⟨m, fun _ => 0, ρ⟩ fun r => ∀ c : Dev nD,
      r.2.mem ((c : Thread nD τ).loc main_v0_0) = dgOf (A0 m c) (A1 m c) (A2 m c) (A3 m c) (A4 m c) (A5 m c)
      ∧ r.2.mem ((c : Thread nD τ).loc main_v0_1) = dyOf (A0 m c) (A1 m c) (A5 m c) 0
      ∧ r.2.mem ((c : Thread nD τ).loc main_v0_2) = dyOf (A0 m c) (A1 m c) (A5 m c) 1
      ∧ r.2.mem ((c : Thread nD τ).loc main_v0_3) = dyOf (A0 m c) (A1 m c) (A5 m c) 2
      ∧ r.2.mem ((c : Thread nD τ).loc main_v0_4) = dgbOf (A0 m c) (A1 m c) (A2 m c) (A3 m c) (A4 m c) (A5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (arr8_eq m c), (h c).2.1.trans (arr9_eq m c), (h c).2.2.1.trans (arr10_eq m c), (h c).2.2.2.1.trans (arr11_eq m c), (h c).2.2.2.2.1.trans (arr12_eq m c), (h c).2.2.2.2.2⟩) (Value.run_blocks m ρ)

end Cert.Kernel9Ideal.Mix

namespace Cert.Reference9Ideal.Mix

open Cert.Reference9Ideal Cert.Reference9Ideal.Gen Cert.Reference9Ideal.Read Idealize.ShloMosaic Idealize.ShloMosaic.TcCoe Idealize.SL.Sem Cert.FfnSpec Cert.MixSpec Cert.RowSpec

variable (a0 : Mat 4096 9728) (a1 : Mat 1 3072) (a2 a3 a4 a5 : Mat 4096 1024)

theorem dg_0 (r : Fin 4096) (q : Fin 1024) :
    val_main_v42 (F := Ideal) a0 a1 a2 a3 a4 a5 (ix3 r 0 q) = dgPart a0 a1 a2 a5 0 r q := by
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_2, val_main_v31, val_main_v32, val_main_v33, val_main_v34, val_main_cst_3, val_main_v35, val_main_v36, val_main_v37, val_main_v38, val_main_v39, val_main_cst_4, val_main_v40, val_main_v41, val_main_v42, val_main_cst_5, val_main_v43, val_main_v44, val_main_cst_6, val_main_v45, val_main_v46, val_main_v47, val_main_v48, val_main_v49, val_main_v50, val_main_v51, dgPart, gOf, Ideal.logistic]
theorem dg_1 (r : Fin 4096) (q : Fin 1024) :
    val_main_v42 (F := Ideal) a0 a1 a2 a3 a4 a5 (ix3 r 1 q) = dgPart a0 a1 a3 a5 1 r q := by
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_2, val_main_v31, val_main_v32, val_main_v33, val_main_v34, val_main_cst_3, val_main_v35, val_main_v36, val_main_v37, val_main_v38, val_main_v39, val_main_cst_4, val_main_v40, val_main_v41, val_main_v42, val_main_cst_5, val_main_v43, val_main_v44, val_main_cst_6, val_main_v45, val_main_v46, val_main_v47, val_main_v48, val_main_v49, val_main_v50, val_main_v51, dgPart, gOf, Ideal.logistic]
theorem dg_2 (r : Fin 4096) (q : Fin 1024) :
    val_main_v42 (F := Ideal) a0 a1 a2 a3 a4 a5 (ix3 r 2 q) = dgPart a0 a1 a4 a5 2 r q := by
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_2, val_main_v31, val_main_v32, val_main_v33, val_main_v34, val_main_cst_3, val_main_v35, val_main_v36, val_main_v37, val_main_v38, val_main_v39, val_main_cst_4, val_main_v40, val_main_v41, val_main_v42, val_main_cst_5, val_main_v43, val_main_v44, val_main_cst_6, val_main_v45, val_main_v46, val_main_v47, val_main_v48, val_main_v49, val_main_v50, val_main_v51, dgPart, gOf, Ideal.logistic]

theorem dg_at (r : Fin 4096) (p : Fin 3) (q : Fin 1024) :
    val_main_v42 (F := Ideal) a0 a1 a2 a3 a4 a5 (ix3 r p q) = dgPart a0 a1 (pick a2 a3 a4 p) a5 p r q :=
  match p with
  | 0 => dg_0 a0 a1 a2 a3 a4 a5 r q
  | 1 => dg_1 a0 a1 a2 a3 a4 a5 r q
  | 2 => dg_2 a0 a1 a2 a3 a4 a5 r q

theorem res_dg : val_main_v48 (F := Ideal) a0 a1 a2 a3 a4 a5 = dgOf a0 a1 a2 a3 a4 a5 := by
  funext i
  refine Eq.trans ?_ (dg_at a0 a1 a2 a3 a4 a5 _ _ _)
  pointwise [val_main_v48, val_main_v47]

theorem res_dgb : val_main_v46 (F := Ideal) a0 a1 a2 a3 a4 a5 = dgbOf a0 a1 a2 a3 a4 a5 := by
  funext i
  unfold dgbOf dgOf
  pointwise [val_main_v46, val_main_v45, val_main_v44, val_main_v43, val_main_cst_5, val_main_cst_6]
  rw [Fin.sum_univ_one]
  exact Finset.sum_congr rfl fun k _ => dg_at a0 a1 a2 a3 a4 a5 _ _ _

theorem res_dy0 : val_main_v49 (F := Ideal) a0 a1 a5 = dyOf a0 a1 a5 0 := by
  funext i
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_2, val_main_v31, val_main_v32, val_main_v33, val_main_v34, val_main_cst_3, val_main_v35, val_main_v36, val_main_v37, val_main_v38, val_main_v39, val_main_cst_4, val_main_v40, val_main_v41, val_main_v42, val_main_cst_5, val_main_v43, val_main_v44, val_main_cst_6, val_main_v45, val_main_v46, val_main_v47, val_main_v48, val_main_v49, val_main_v50, val_main_v51, dyOf, gOf, Ideal.logistic]
theorem res_dy1 : val_main_v50 (F := Ideal) a0 a1 a5 = dyOf a0 a1 a5 1 := by
  funext i
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_2, val_main_v31, val_main_v32, val_main_v33, val_main_v34, val_main_cst_3, val_main_v35, val_main_v36, val_main_v37, val_main_v38, val_main_v39, val_main_cst_4, val_main_v40, val_main_v41, val_main_v42, val_main_cst_5, val_main_v43, val_main_v44, val_main_cst_6, val_main_v45, val_main_v46, val_main_v47, val_main_v48, val_main_v49, val_main_v50, val_main_v51, dyOf, gOf, Ideal.logistic]
theorem res_dy2 : val_main_v51 (F := Ideal) a0 a1 a5 = dyOf a0 a1 a5 2 := by
  funext i
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst_2, val_main_v31, val_main_v32, val_main_v33, val_main_v34, val_main_cst_3, val_main_v35, val_main_v36, val_main_v37, val_main_v38, val_main_v39, val_main_cst_4, val_main_v40, val_main_v41, val_main_v42, val_main_cst_5, val_main_v43, val_main_v44, val_main_cst_6, val_main_v45, val_main_v46, val_main_v47, val_main_v48, val_main_v49, val_main_v50, val_main_v51, dyOf, gOf, Ideal.logistic]

end Cert.Reference9Ideal.Mix

end
-- ==== Proof.RowPool.lean ====
/-
  THE POOLING BRANCH'S BIAS AND SCALE, BACKWARD. The kernel walks 256 rows at a time, writing back the rows' gradient and the
  scaled rows, and adding up the bias's and the scale's gradients over all the walk; both it and the reference leave the formulas
  below.
-/
module

public import proofs.«01_k».proof.Proof.MixSpec
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit

@[expose] public section

set_option maxRecDepth 16384

noncomputable section

namespace Cert.Kernel10Ideal.Mix

open Cert.Kernel10Ideal Cert.Kernel10Ideal.Gen Idealize.ShloMosaic Idealize.ShloMosaic.TcCoe Idealize.SL.Sem Cert.FfnSpec Cert.MixSpec
open Idealize.ShloMosaic.Pipeline (Dat Cfg Window BodyObligation cellOf)

/-- A row's gradient. -/
abbrev dtOf (a2 : Mat 1 768) (a3 : Mat 4096 768) : Mat 4096 768 := fun i => a3 i * a2 (ix2 0 (i 1))
/-- The scaled rows. -/
abbrev t2Of (a0 : Mat 4096 768) (a1 a2 : Mat 1 768) : Mat 4096 768 := fun i => (a0 i + a1 (ix2 0 (i 1))) * a2 (ix2 0 (i 1))
/-- The bias's gradient. -/
abbrev dbOf (a2 : Mat 1 768) (a3 : Mat 4096 768) : Mat 1 768 := fun i => ∑ k : Fin 4096, a3 (ix2 k (i 1)) * a2 (ix2 0 (i 1))
/-- The scale's gradient. -/
abbrev dsOf (a0 : Mat 4096 768) (a1 : Mat 1 768) (a3 : Mat 4096 768) : Mat 1 768 := fun i =>
  ∑ k : Fin 4096, (a0 (ix2 k (i 1)) + a1 (ix2 0 (i 1))) * a3 (ix2 k (i 1))

variable (m : (ℓ : Loc nD τ sig) → Buf (Elt Ideal) ℓ) (c : Dev nD)

/-- The rows. -/
abbrev A0 : Mat 4096 768 := m ((c : Thread nD τ).loc main_arg0)
/-- The bias. -/
abbrev A1 : Mat 1 768 := m ((c : Thread nD τ).loc main_arg1)
/-- The scale. -/
abbrev A2 : Mat 1 768 := m ((c : Thread nD τ).loc main_arg2)
/-- The incoming gradient. -/
abbrev A3 : Mat 4096 768 := m ((c : Thread nD τ).loc main_arg3)

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel

/-- Every point's rows. -/
theorem out4_eq (t : Fin cfg0.N) : (outsAt0 m c t.val t.isLt).1 = k0_pay5 (iblk m c 1 t) (iblk m c 3 t) := by
  have ht : t.val < 16 := t.isLt
  by_cases h : t.val % 16 = 0
  · rw [outsAt0_A m c t h (by omega) h (by omega)]; frame_out
  · rw [outsAt0_B m c t h (by omega) h (by omega)]; frame_out

theorem out5_eq (t : Fin cfg0.N) : (outsAt0 m c t.val t.isLt).2.1 = k0_pay6 (iblk m c 0 t) (iblk m c 2 t) (iblk m c 3 t) := by
  have ht : t.val < 16 := t.isLt
  by_cases h : t.val % 16 = 0
  · rw [outsAt0_A m c t h (by omega) h (by omega)]; frame_out
  · rw [outsAt0_B m c t h (by omega) h (by omega)]; frame_out

theorem arr4_eq : (Gen.dats m 0 c).arrAt 4 (cfgs 0).N = dtOf (A2 m c) (A3 m c) := by
  refine (dats m 0 c).arrAt_eq_of_covers 4 _ (by decide +kernel) fun t hf y => ?_
  have ht : t.val < 16 := t.isLt
  blk_simp
  rw [after0_4, out4_eq]
  pointwise [k0_pay5, k0_pay3, dtOf]
  unfold A2 A3
  blk_point [iblk, V, (idx1 t).1, (idx1 t).2, (idx3 t).1, (idx3 t).2, (idx4 t).1, (idx4 t).2]

theorem arr5_eq : (Gen.dats m 0 c).arrAt 5 (cfgs 0).N = t2Of (A0 m c) (A1 m c) (A2 m c) := by
  refine (dats m 0 c).arrAt_eq_of_covers 5 _ (by decide +kernel) fun t hf y => ?_
  have ht : t.val < 16 := t.isLt
  blk_simp
  rw [after0_5, out5_eq]
  pointwise [k0_pay6, k0_pay1, t2Of]
  unfold A0 A1 A2
  blk_point [iblk, V, (idx0 t).1, (idx0 t).2, (idx2 t).1, (idx2 t).2, (idx3 t).1, (idx3 t).2, (idx5 t).1, (idx5 t).2]

/-- The bias's gradient, added up. -/
theorem arr6_eq : (Gen.dats m 0 c).arrAt 6 (cfgs 0).N = dbOf (A2 m c) (A3 m c) := by
  refine (dats m 0 c).arrAt_eq_of_covers 6 _ (by decide +kernel) fun t hf y => ?_
  have ht : t.val < 16 := t.isLt
  have h15 := (flush0_6 t).mp hf
  blk_simp
  rw [after0_6, Pipeline.eq_sum_fin_of_reset_step_apply_of_flush (fun n h => (outsAt0 m c n h).2.2.1) 16 (fun _ => 0)
    (fun t j => k0_pay4 (iblk m c 1 t) (iblk m c 3 t) j)
    (fun t h j => by
      have ht : t.val < 16 := t.isLt
      rw [outsAt0_A m c t h (by omega) h (by omega)]; frame_out; exact (zero_add _).symm)
    (fun t h j => by
      have ht : t.val < 16 := t.isLt
      rw [outsAt0_B m c t h (by omega) h (by omega)]; frame_out; pointwise [k0_pay7]) t h15, zero_add]
  pointwise [k0_pay4, k0_pay3, dbOf]
  refine Fin.sum_mul_add_congr (n := 256) fun p k hl => ?_
  have hp : 16 * (t.val / 16) + p.val < cfg0.N := Pipeline.run_point_lt_of_flush t h15 p
  unfold A2 A3
  blk_point [iblk, V, (idx1 ⟨16 * (t.val / 16) + p.val, hp⟩).1, (idx1 ⟨16 * (t.val / 16) + p.val, hp⟩).2, (idx3 ⟨16 * (t.val / 16) + p.val, hp⟩).1, (idx3 ⟨16 * (t.val / 16) + p.val, hp⟩).2, (idx6 t).1, (idx6 t).2]

/-- The scale's gradient, added up. -/
theorem arr7_eq : (Gen.dats m 0 c).arrAt 7 (cfgs 0).N = dsOf (A0 m c) (A1 m c) (A3 m c) := by
  refine (dats m 0 c).arrAt_eq_of_covers 7 _ (by decide +kernel) fun t hf y => ?_
  have ht : t.val < 16 := t.isLt
  have h15 := (flush0_7 t).mp hf
  blk_simp
  rw [after0_7, Pipeline.eq_sum_fin_of_reset_step_apply_of_flush (fun n h => (outsAt0 m c n h).2.2.2) 16 (fun _ => 0)
    (fun t j => k0_pay2 (iblk m c 0 t) (iblk m c 1 t) (iblk m c 2 t) j)
    (fun t h j => by
      have ht : t.val < 16 := t.isLt
      rw [outsAt0_A m c t h (by omega) h (by omega)]; frame_out; exact (zero_add _).symm)
    (fun t h j => by
      have ht : t.val < 16 := t.isLt
      rw [outsAt0_B m c t h (by omega) h (by omega)]; frame_out; pointwise [k0_pay8]) t h15, zero_add]
  pointwise [k0_pay2, k0_pay1, dsOf]
  refine Fin.sum_mul_add_congr (n := 256) fun p k hl => ?_
  have hp : 16 * (t.val / 16) + p.val < cfg0.N := Pipeline.run_point_lt_of_flush t h15 p
  unfold A0 A1 A3
  blk_point [iblk, V, (idx0 ⟨16 * (t.val / 16) + p.val, hp⟩).1, (idx0 ⟨16 * (t.val / 16) + p.val, hp⟩).2, (idx1 ⟨16 * (t.val / 16) + p.val, hp⟩).1, (idx1 ⟨16 * (t.val / 16) + p.val, hp⟩).2, (idx2 ⟨16 * (t.val / 16) + p.val, hp⟩).1, (idx2 ⟨16 * (t.val / 16) + p.val, hp⟩).2, (idx7 t).1, (idx7 t).2]

/-- The kernel's run. -/
theorem run_kernel (ρ : Dev nD → PrngReg) :
    θ_run defs (onTc (τ := τ) (main (F := Ideal))) ⟨m, fun _ => 0, ρ⟩ fun r => ∀ c : Dev nD,
      r.2.mem ((c : Thread nD τ).loc main_v0_0) = dtOf (A2 m c) (A3 m c)
      ∧ r.2.mem ((c : Thread nD τ).loc main_v0_1) = t2Of (A0 m c) (A1 m c) (A2 m c)
      ∧ r.2.mem ((c : Thread nD τ).loc main_v0_2) = dbOf (A2 m c) (A3 m c)
      ∧ r.2.mem ((c : Thread nD τ).loc main_v0_3) = dsOf (A0 m c) (A1 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4_eq m c), (h c).2.1.trans (arr5_eq m c), (h c).2.2.1.trans (arr6_eq m c), (h c).2.2.2.1.trans (arr7_eq m c), (h c).2.2.2.2⟩) (Value.run_blocks m ρ)

end Cert.Kernel10Ideal.Mix

namespace Cert.Reference10Ideal.Mix

open Cert.Reference10Ideal Cert.Reference10Ideal.Gen Cert.Reference10Ideal.Read Idealize.ShloMosaic Idealize.ShloMosaic.TcCoe Idealize.SL.Sem Cert.FfnSpec Cert.MixSpec

theorem res_dt (a2 : Mat 1 768) (a3 : Mat 4096 768) :
    val_main_v11 (F := Ideal) a2 a3 = fun i => a3 i * a2 (ix2 0 (i 1)) := by
  funext i
  pointwise [val_main_v11, val_main_v8, val_main_v7]

theorem res_t2 (a0 : Mat 4096 768) (a1 a2 : Mat 1 768) :
    val_main_v12 (F := Ideal) a0 a1 a2 = fun i => (a0 i + a1 (ix2 0 (i 1))) * a2 (ix2 0 (i 1)) := by
  funext i
  pointwise [val_main_v12, val_main_v3, val_main_v2, val_main_v1, val_main_v0]

theorem res_db (a2 : Mat 1 768) (a3 : Mat 4096 768) :
    val_main_v10 (F := Ideal) a2 a3 = fun i => ∑ k : Fin 4096, a3 (ix2 k (i 1)) * a2 (ix2 0 (i 1)) := by
  funext i
  pointwise [val_main_v10, val_main_v9, val_main_v8, val_main_v7, val_main_cst_0]

theorem res_ds (a0 : Mat 4096 768) (a1 : Mat 1 768) (a3 : Mat 4096 768) :
    val_main_v6 (F := Ideal) a0 a1 a3 = fun i => ∑ k : Fin 4096, (a0 (ix2 k (i 1)) + a1 (ix2 0 (i 1))) * a3 (ix2 k (i 1)) := by
  funext i
  pointwise [val_main_v6, val_main_v5, val_main_v4, val_main_v1, val_main_v0, val_main_cst]

end Cert.Reference10Ideal.Mix

end
-- ==== Proof.RowLoss.lean ====
/-
  THE LOSS. The kernel walks 256 rows at a time, writing back the output's gradient, and adding up each block's squared errors,
  scaled once; the reference halves the sum of the rows' mean squares. The two scalings meet at the real 1 / 2048, which goes
  through the sums, infinities or not.
-/
module

public import proofs.«01_k».proof.Proof.MixSpec
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit

@[expose] public section

set_option maxRecDepth 16384

noncomputable section

namespace Cert.RowLoss

open Idealize.ShloMosaic

/-- The three binary fractions the two programs write out, and their divisor. -/
theorem c1024 : Ideal.ofBits .f32 0x3A800000#32 = (((1 : ℝ) / 1024 : ℝ) : EReal) := by
  simp [Ideal.ofBits, Ideal.ieee, -EReal.coe_mul]; norm_num
theorem c2048 : Ideal.ofBits .f32 0x3A000000#32 = (((1 : ℝ) / 2048 : ℝ) : EReal) := by
  simp [Ideal.ofBits, Ideal.ieee, -EReal.coe_mul]; norm_num
theorem chalf : Ideal.ofBits .f32 0x3F000000#32 = (((1 : ℝ) / 2 : ℝ) : EReal) := by
  simp [Ideal.ofBits, Ideal.ieee, -EReal.coe_mul]; norm_num
theorem ctwo : Ideal.ofBits .f32 0x40000000#32 = ((2 : ℝ) : EReal) := by
  simp [Ideal.ofBits, Ideal.ieee, -EReal.coe_mul]; norm_num
theorem c1k : Ideal.ofBits .f32 0x44800000#32 = ((1024 : ℝ) : EReal) := by
  simp [Ideal.ofBits, Ideal.ieee, -EReal.coe_mul]; norm_num

/-- A nonnegative real goes through a sum of extended reals. -/
theorem coe_mul_sum {ι : Type*} (s : Finset ι) (f : ι → EReal) {r : ℝ} (h : 0 ≤ r) :
    (r : EReal) * ∑ i ∈ s, f i = ∑ i ∈ s, (r : EReal) * f i := by
  classical
  induction s using Finset.induction_on with
  | empty => rw [Finset.sum_empty, Finset.sum_empty, mul_zero]
  | insert a s ha ih =>
    rw [Finset.sum_insert ha, Finset.sum_insert ha,
      EReal.left_distrib_of_nonneg_of_ne_top (EReal.coe_nonneg.mpr h) (EReal.coe_ne_top r), ih]

theorem sum_mul_coe {ι : Type*} (s : Finset ι) (f : ι → EReal) {r : ℝ} (h : 0 ≤ r) :
    (∑ i ∈ s, f i) * (r : EReal) = ∑ i ∈ s, f i * (r : EReal) := by
  rw [mul_comm, coe_mul_sum s f h]
  exact Finset.sum_congr rfl fun i _ => mul_comm _ _

end Cert.RowLoss

namespace Cert.Kernel11Ideal.Mix

open Cert.Kernel11Ideal Cert.Kernel11Ideal.Gen Idealize.ShloMosaic Idealize.ShloMosaic.TcCoe Idealize.SL.Sem Cert.FfnSpec Cert.MixSpec
open Idealize.ShloMosaic.Pipeline (Dat Cfg Window BodyObligation cellOf)

/-- The output's gradient. -/
abbrev dyOf (a0 a1 : Mat 4096 1024) : Mat 4096 1024 := fun i => (a0 i - a1 i) * (((1 : ℝ) / 1024 : ℝ) : EReal)
/-- The loss, in every lane. -/
abbrev lossOf (a0 a1 : Mat 4096 1024) : Mat 1 128 := fun _ =>
  ∑ k : Fin 4096, (∑ l : Fin 1024, (a0 (ix2 k l) - a1 (ix2 k l)) * (a0 (ix2 k l) - a1 (ix2 k l))) * (((1 : ℝ) / 2048 : ℝ) : EReal)

variable (m : (ℓ : Loc nD τ sig) → Buf (Elt Ideal) ℓ) (c : Dev nD)

/-- The output. -/
abbrev A0 : Mat 4096 1024 := m ((c : Thread nD τ).loc main_arg0)
/-- The target. -/
abbrev A1 : Mat 4096 1024 := m ((c : Thread nD τ).loc main_arg1)

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel

/-- Every point's gradient. -/
theorem out2_eq (t : Fin cfg0.N) : (outsAt0 m c t.val t.isLt).1 = k0_pay2 (iblk m c 0 t) (iblk m c 1 t) := by
  have ht : t.val < 16 := t.isLt
  by_cases h : t.val % 16 = 0
  · rw [outsAt0_A m c t h (by omega)]; frame_out
  · rw [outsAt0_B m c t h (by omega)]; frame_out

theorem arr2_eq : (Gen.dats m 0 c).arrAt 2 (cfgs 0).N = dyOf (A0 m c) (A1 m c) := by
  refine (dats m 0 c).arrAt_eq_of_covers 2 _ (by decide +kernel) fun t hf y => ?_
  have ht : t.val < 16 := t.isLt
  blk_simp
  rw [after0_2, out2_eq]
  pointwise [k0_pay2, k0_pay1, dyOf, Cert.RowLoss.c1024]
  unfold A0 A1
  blk_point [iblk, V, (idx0 t).1, (idx0 t).2, (idx1 t).1, (idx1 t).2, (idx2 t).1, (idx2 t).2]

/-- One block's share of the loss, a row at a time. -/
theorem pay3_at (v0 v1 : Vec Ideal S256x1024 .f32) (j : S1x128.Idx) : k0_pay3 v0 v1 j
    = ∑ k : Fin 256, (∑ l : Fin 1024, (v0 (ix2 k l) - v1 (ix2 k l)) * (v0 (ix2 k l) - v1 (ix2 k l))) * (((1 : ℝ) / 2048 : ℝ) : EReal) := by
  rw [← Cert.RowLoss.sum_mul_coe _ _ (by norm_num)]
  pointwise [k0_pay3, k0_pay1, Cert.RowLoss.c2048]

/-- The loss, added up. -/
theorem arr3_eq : (Gen.dats m 0 c).arrAt 3 (cfgs 0).N = lossOf (A0 m c) (A1 m c) := by
  refine (dats m 0 c).arrAt_eq_of_covers 3 _ (by decide +kernel) fun t hf y => ?_
  have ht : t.val < 16 := t.isLt
  have h15 := (flush0_3 t).mp hf
  blk_simp
  rw [after0_3, Pipeline.eq_sum_fin_of_reset_step_apply_of_flush (fun n h => (outsAt0 m c n h).2) 16 (fun _ => 0)
    (fun t j => k0_pay3 (iblk m c 0 t) (iblk m c 1 t) j)
    (fun t h j => by
      have ht : t.val < 16 := t.isLt
      rw [outsAt0_A m c t h (by omega)]; frame_out; exact (zero_add _).symm)
    (fun t h j => by
      have ht : t.val < 16 := t.isLt
      rw [outsAt0_B m c t h (by omega)]; frame_out; pointwise [k0_pay4]) t h15, zero_add]
  simp only [pay3_at]
  refine Fin.sum_mul_add_congr (n := 256) fun p k hl => ?_
  have hp : 16 * (t.val / 16) + p.val < cfg0.N := Pipeline.run_point_lt_of_flush t h15 p
  congr 1
  refine Finset.sum_congr rfl fun l _ => ?_
  unfold A0 A1
  blk_point [iblk, V, (idx0 ⟨16 * (t.val / 16) + p.val, hp⟩).1, (idx0 ⟨16 * (t.val / 16) + p.val, hp⟩).2, (idx1 ⟨16 * (t.val / 16) + p.val, hp⟩).1, (idx1 ⟨16 * (t.val / 16) + p.val, hp⟩).2]

/-- The kernel's run. -/
theorem run_kernel (ρ : Dev nD → PrngReg) :
    θ_run defs (onTc (τ := τ) (main (F := Ideal))) ⟨m, fun _ => 0, ρ⟩ fun r => ∀ c : Dev nD,
      r.2.mem ((c : Thread nD τ).loc main_v0_0) = dyOf (A0 m c) (A1 m c)
      ∧ r.2.mem ((c : Thread nD τ).loc main_v0_1) = lossOf (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2_eq m c), (h c).2.1.trans (arr3_eq m c), (h c).2.2⟩) (Value.run_blocks m ρ)

end Cert.Kernel11Ideal.Mix

namespace Cert.Reference11Ideal.Mix

open Cert.Reference11Ideal Cert.Reference11Ideal.Gen Cert.Reference11Ideal.Read Idealize.ShloMosaic Idealize.ShloMosaic.TcCoe Idealize.SL.Sem Cert.FfnSpec Cert.MixSpec

theorem res_dy (a0 a1 : Mat 4096 1024) :
    val_main_v14 (F := Ideal) a0 a1 = fun i => (a0 i - a1 i) * (((1 : ℝ) / 1024 : ℝ) : EReal) := by
  funext i
  pointwise [val_main_v14, val_main_v13, val_main_v12, val_main_v11, val_main_v10, val_main_v9, val_main_v3, val_main_v2, val_main_v0,
    val_main_cst, val_main_cst_4, val_main_cst_5, val_main_cst_6, Cert.RowLoss.chalf, Cert.RowLoss.ctwo, Cert.RowLoss.c1k]
  rw [Ideal.div_coe (by norm_num), ← mul_assoc, ← EReal.coe_mul, ← EReal.coe_mul, mul_comm]
  congr 2
  norm_num

theorem res_loss (a0 a1 : Mat 4096 1024) :
    val_main_v15 (F := Ideal) a0 a1 = fun _ =>
      ∑ k : Fin 4096, (∑ l : Fin 1024, (a0 (ix2 k l) - a1 (ix2 k l)) * (a0 (ix2 k l) - a1 (ix2 k l))) * (((1 : ℝ) / 2048 : ℝ) : EReal) := by
  funext i
  pointwise [val_main_v15, val_main_v8, val_main_v7, val_main_v6, val_main_v5, val_main_v4, val_main_v1, val_main_v0,
    val_main_cst_0, val_main_cst_1, val_main_cst_2, val_main_cst_3, Cert.RowLoss.chalf, Cert.RowLoss.c1k]
  rw [Cert.RowLoss.coe_mul_sum _ _ (by norm_num)]
  refine Finset.sum_congr rfl fun k _ => ?_
  rw [Ideal.div_coe (by norm_num), mul_comm, mul_assoc, ← EReal.coe_mul]
  congr 2
  norm_num
end Cert.Reference11Ideal.Mix

end
-- ==== Proof.RowFwd.lean ====
/-
  THE GATED MERGE OF THE THREE BRANCHES, FORWARD. The kernel walks 256 rows at a time; both it and the reference leave RowSpec.lean's
  merged rows.
-/
module

public import proofs.«01_k».proof.Proof.RowSpec
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit

@[expose] public section

set_option maxRecDepth 16384

noncomputable section

namespace Cert.Kernel12Ideal.Mix

open Cert.Kernel12Ideal Cert.Kernel12Ideal.Gen Idealize.ShloMosaic Idealize.ShloMosaic.TcCoe Idealize.SL.Sem Cert.FfnSpec Cert.MixSpec Cert.RowSpec
open Idealize.ShloMosaic.Pipeline (Dat Cfg Window BodyObligation cellOf)

variable (m : (ℓ : Loc nD τ sig) → Buf (Elt Ideal) ℓ) (c : Dev nD)

/-- The mixer's wide product. -/
abbrev A0 : Mat 4096 9728 := m ((c : Thread nD τ).loc main_arg0)
/-- The gates' bias. -/
abbrev A1 : Mat 1 3072 := m ((c : Thread nD τ).loc main_arg1)
/-- The pooling branch's rows. -/
abbrev A2 : Mat 4096 1024 := m ((c : Thread nD τ).loc main_arg2)
/-- The scan branch's rows. -/
abbrev A3 : Mat 4096 1024 := m ((c : Thread nD τ).loc main_arg3)
/-- The attention branch's rows. -/
abbrev A4 : Mat 4096 1024 := m ((c : Thread nD τ).loc main_arg4)

theorem idx0 : ∀ t : Fin grid0.N, win0_0.index t 0 = t.val ∧ win0_0.index t 1 = 6 := by decide +kernel
theorem idx1 : ∀ t : Fin grid0.N, win0_1.index t 0 = t.val ∧ win0_1.index t 1 = 7 := by decide +kernel
theorem idx2 : ∀ t : Fin grid0.N, win0_2.index t 0 = t.val ∧ win0_2.index t 1 = 8 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = t.val ∧ win0_7.index t 1 = 0 := by decide +kernel

/-- Row `r` of the rows walked at point `t`. -/
def row (t : Fin cfg0.N) (r : Fin 256) : Fin 4096 := ⟨256 * t.val + r.val, by have ht : t.val < 16 := t.isLt; omega⟩
theorem gates0 (t : Fin cfg0.N) (y : S256x1024.Idx) :
    X0_0 m c t y = A0 m c (ix2 (row t (y 0)) ⟨6144 + (y 1).val, by have h : (y 1).val < 1024 := (y 1).isLt; omega⟩) := by
  have ht : t.val < 16 := t.isLt
  unfold X0_0 Window.fill
  rw [dif_pos (moved0_0 t y)]
  unfold A0 row
  blk_point [iblk, V, (idx0 t).1, (idx0 t).2]
theorem gates1 (t : Fin cfg0.N) (y : S256x1024.Idx) :
    X0_1 m c t y = A0 m c (ix2 (row t (y 0)) ⟨7168 + (y 1).val, by have h : (y 1).val < 1024 := (y 1).isLt; omega⟩) := by
  have ht : t.val < 16 := t.isLt
  unfold X0_1 Window.fill
  rw [dif_pos (moved0_1 t y)]
  unfold A0 row
  blk_point [iblk, V, (idx1 t).1, (idx1 t).2]
theorem gates2 (t : Fin cfg0.N) (y : S256x1024.Idx) :
    X0_2 m c t y = A0 m c (ix2 (row t (y 0)) ⟨8192 + (y 1).val, by have h : (y 1).val < 1024 := (y 1).isLt; omega⟩) := by
  have ht : t.val < 16 := t.isLt
  unfold X0_2 Window.fill
  rw [dif_pos (moved0_2 t y)]
  unfold A0 row
  blk_point [iblk, V, (idx2 t).1, (idx2 t).2]

theorem arr7_eq : (Gen.dats m 0 c).arrAt 7 (cfgs 0).N = mergedOf (A0 m c) (A1 m c) (A2 m c) (A3 m c) (A4 m c) := by
  refine (dats m 0 c).arrAt_eq_of_covers 7 _ (by decide +kernel) fun t hf y => ?_
  have ht : t.val < 16 := t.isLt
  blk_simp
  rw [after0_7]
  unfold outsAt0
  frame_out
  pointwise [k0_pay1, mergedOf, gOf]
  simp only [gates0, gates1, gates2]
  unfold A0 A1 A2 A3 A4 row
  blk_point [iblk, V, (idx0 t).1, (idx0 t).2, (idx1 t).1, (idx1 t).2, (idx2 t).1, (idx2 t).2, (idx3 t).1, (idx3 t).2, (idx4 t).1, (idx4 t).2, (idx5 t).1, (idx5 t).2, (idx6 t).1, (idx6 t).2, (idx7 t).1, (idx7 t).2]

/-- The kernel's run. -/
theorem run_kernel (ρ : Dev nD → PrngReg) :
    θ_run defs (onTc (τ := τ) (main (F := Ideal))) ⟨m, fun _ => 0, ρ⟩ fun r => ∀ c : Dev nD,
      r.2.mem ((c : Thread nD τ).loc main_v0) = mergedOf (A0 m c) (A1 m c) (A2 m c) (A3 m c) (A4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (arr7_eq m c), (h c).2⟩) (Value.run_blocks m ρ)

end Cert.Kernel12Ideal.Mix

namespace Cert.Reference12Ideal.Mix

open Cert.Reference12Ideal Cert.Reference12Ideal.Gen Cert.Reference12Ideal.Read Idealize.ShloMosaic Idealize.ShloMosaic.TcCoe Idealize.SL.Sem Cert.FfnSpec Cert.RowSpec

theorem res_merged (a0 : Mat 4096 9728) (a1 : Mat 1 3072) (a2 a3 a4 : Mat 4096 1024) :
    val_main_v23 (F := Ideal) a0 a1 a2 a3 a4 = mergedOf a0 a1 a2 a3 a4 := by
  funext i
  pointwise [val_main_v0, val_main_v1, val_main_v2, val_main_v3, val_main_v4, val_main_v5, val_main_v6, val_main_v7, val_main_cst, val_main_v8, val_main_v9, val_main_cst_0, val_main_v10, val_main_v11, val_main_v12, val_main_v13, val_main_v14, val_main_v15, val_main_v16, val_main_v17, val_main_v18, val_main_v19, val_main_v20, val_main_v21, val_main_v22, val_main_v23, mergedOf, gOf, Ideal.logistic]

end Cert.Reference12Ideal.Mix

end
-- ==== Proof.RowMixer.lean ====
/-
  THE MIXER'S ROW BY ROW CALLS: the pooling branch's bias and scale, the scan's gated norm, its time step, and the merge of the
  three attention groups by their normalizers. Four kernels, each block of rows from the same rows of its arguments.
-/
module

public import proofs.«01_k».proof.Proof.MixSpec
public import proofs.«01_k».proof.Proof.RowSpec
public import proofs.«01_k».proof.Proof.Gen.Kernel13Ideal.Frame
public import proofs.«01_k».proof.Proof.Gen.Reference13Ideal.Run
public import proofs.«01_k».proof.Proof.Gen.Reference13Ideal.Read
public import Idealize.ShloMosaic.Lib.Pipeline.ValueKit

@[expose] public section

set_option maxRecDepth 16384

noncomputable section

namespace Cert.Kernel13Ideal.Mix

open Cert.RowSpec Cert.Kernel13Ideal Cert.Kernel13Ideal.Gen Idealize.ShloMosaic Idealize.ShloMosaic.TcCoe Idealize.SL.Sem Cert.FfnSpec Cert.MixSpec
open Idealize.ShloMosaic.Pipeline (Dat Cfg Window BodyObligation cellOf)

section arrays
variable (V : (c : Dev nD) → (b : Ref sig .tc) → Buf (Elt Ideal) ((c : Thread nD τ).loc b)) (c : Dev nD)

/-- The arguments, as the regions find them. -/
abbrev Tp : Mat 4096 768 := V c main_arg0
abbrev Pb : Mat 1 768 := V c main_arg1
abbrev Ps : Mat 1 768 := V c main_arg2
abbrev Ys : Mat 4096 1024 := V c main_arg3
abbrev Hc : Mat 4096 9728 := V c main_arg4
abbrev Nw : Mat 1 1024 := V c main_arg5
abbrev Dr : Mat 4096 16 := V c main_arg6
abbrev Db : Mat 1 16 := V c main_arg7
abbrev O0 : Mat 4096 256 := V c main_arg8
abbrev O1 : Mat 4096 256 := V c main_arg9
abbrev O2 : Mat 4096 256 := V c main_arg10
abbrev L0 : Lse := V c main_arg11
abbrev L1 : Lse := V c main_arg12
abbrev L2 : Lse := V c main_arg13

theorem idx0_0 : ∀ t : Fin grid0.N, win0_0.index t 0 = t.val ∧ win0_0.index t 1 = 0 := by decide +kernel
theorem idx0_1 : ∀ t : Fin grid0.N, win0_1.index t 0 = 0 ∧ win0_1.index t 1 = 0 := by decide +kernel
theorem idx0_2 : ∀ t : Fin grid0.N, win0_2.index t 0 = 0 ∧ win0_2.index t 1 = 0 := by decide +kernel
theorem idx0_3 : ∀ t : Fin grid0.N, win0_3.index t 0 = t.val ∧ win0_3.index t 1 = 0 := by decide +kernel
theorem idx1_0 : ∀ t : Fin grid1.N, win1_0.index t 0 = t.val ∧ win1_0.index t 1 = 0 := by decide +kernel
theorem idx1_4 : ∀ t : Fin grid1.N, win1_4.index t 0 = t.val ∧ win1_4.index t 1 = 3 := by decide +kernel
theorem idx1_1 : ∀ t : Fin grid1.N, win1_1.index t 0 = t.val ∧ win1_1.index t 1 = 1 := by decide +kernel
theorem idx1_5 : ∀ t : Fin grid1.N, win1_5.index t 0 = t.val ∧ win1_5.index t 1 = 4 := by decide +kernel
theorem idx1_2 : ∀ t : Fin grid1.N, win1_2.index t 0 = t.val ∧ win1_2.index t 1 = 2 := by decide +kernel
theorem idx1_6 : ∀ t : Fin grid1.N, win1_6.index t 0 = t.val ∧ win1_6.index t 1 = 5 := by decide +kernel
theorem idx1_3 : ∀ t : Fin grid1.N, win1_3.index t 0 = t.val ∧ win1_3.index t 1 = 3 := by decide +kernel
theorem idx1_7 : ∀ t : Fin grid1.N, win1_7.index t 0 = t.val ∧ win1_7.index t 1 = 6 := by decide +kernel
theorem idx1_8 : ∀ t : Fin grid1.N, win1_8.index t 0 = 0 ∧ win1_8.index t 1 = 0 := by decide +kernel
theorem idx1_9 : ∀ t : Fin grid1.N, win1_9.index t 0 = t.val ∧ win1_9.index t 1 = 0 := by decide +kernel
theorem idx2_0 : ∀ t : Fin grid2.N, win2_0.index t 0 = t.val ∧ win2_0.index t 1 = 0 := by decide +kernel
theorem idx2_1 : ∀ t : Fin grid2.N, win2_1.index t 0 = 0 ∧ win2_1.index t 1 = 0 := by decide +kernel
theorem idx2_2 : ∀ t : Fin grid2.N, win2_2.index t 0 = t.val ∧ win2_2.index t 1 = 0 := by decide +kernel
theorem idx3_0 : ∀ t : Fin grid3.N, win3_0.index t 0 = t.val / 2 ∧ win3_0.index t 1 = t.val % 2 := by decide +kernel
theorem idx3_1 : ∀ t : Fin grid3.N, win3_1.index t 0 = t.val / 2 ∧ win3_1.index t 1 = t.val % 2 := by decide +kernel
theorem idx3_2 : ∀ t : Fin grid3.N, win3_2.index t 0 = t.val / 2 ∧ win3_2.index t 1 = t.val % 2 := by decide +kernel
theorem idx3_6 : ∀ t : Fin grid3.N, win3_6.index t 0 = t.val / 2 ∧ win3_6.index t 1 = t.val % 2 := by decide +kernel
theorem idx3_3 : ∀ t : Fin grid3.N, win3_3.index t 0 = t.val % 2 ∧ win3_3.index t 1 = t.val / 2 ∧ win3_3.index t 2 = 0 := by decide +kernel
theorem idx3_4 : ∀ t : Fin grid3.N, win3_4.index t 0 = t.val % 2 ∧ win3_4.index t 1 = t.val / 2 ∧ win3_4.index t 2 = 0 := by decide +kernel
theorem idx3_5 : ∀ t : Fin grid3.N, win3_5.index t 0 = t.val % 2 ∧ win3_5.index t 1 = t.val / 2 ∧ win3_5.index t 2 = 0 := by decide +kernel

/-- The pooling branch. -/
theorem arr0_3 : (dat0 V c).arrAt 3 cfg0.N = fun i => (Tp V c i + Pb V c (ix2 0 (i 1))) * Ps V c (ix2 0 (i 1)) := by
  refine (dat0 V c).arrAt_eq_of_covers 3 _ (by decide +kernel) fun t hf y => ?_
  blk_simp
  rw [after0_3]
  frame_out
  have ht : t.val < 16 := t.isLt
  pointwise [k0_pay1]
  unfold Tp Pb Ps
  blk_point [iblk0, (idx0_0 t).1, (idx0_0 t).2, (idx0_1 t).1, (idx0_1 t).2, (idx0_2 t).1, (idx0_2 t).2, (idx0_3 t).1, (idx0_3 t).2]

/-- The gated norm, a group of lanes at a time. -/
theorem arr1_9 : (dat1 V c).arrAt 9 cfg1.N = ybnOf (Ys V c) (Hc V c) (Nw V c) := by
  refine (dat1 V c).arrAt_eq_of_covers 9 _ (by decide +kernel) fun t hf y => ?_
  have ht : t.val < 16 := t.isLt
  blk_simp
  rw [after1_9]
  unfold out1_9
  canon_tiles x h
  · rw [ybnOf_at _ _ _ _ 3 (x 1) (by blk_simp [(idx1_9 t).2]; omega)]
    pointwise [k1_pay9, gyOf, rsOf]
    unfold Ys Hc Nw
    blk_point [iblk1, (idx1_3 t).1, (idx1_3 t).2, (idx1_7 t).1, (idx1_7 t).2, (idx1_8 t).1, (idx1_8 t).2, (idx1_9 t).1, (idx1_9 t).2]
  · rw [ybnOf_at _ _ _ _ 2 (x 1) (by blk_simp [(idx1_9 t).2]; omega)]
    pointwise [k1_pay8, gyOf, rsOf]
    unfold Ys Hc Nw
    blk_point [iblk1, (idx1_2 t).1, (idx1_2 t).2, (idx1_6 t).1, (idx1_6 t).2, (idx1_8 t).1, (idx1_8 t).2, (idx1_9 t).1, (idx1_9 t).2]
  · rw [ybnOf_at _ _ _ _ 1 (x 1) (by blk_simp [(idx1_9 t).2]; omega)]
    pointwise [k1_pay7, k1_pay2, k1_pay3, k1_pay4, k1_pay5, gyOf, rsOf]
    unfold Ys Hc Nw
    blk_point [iblk1, (idx1_1 t).1, (idx1_1 t).2, (idx1_5 t).1, (idx1_5 t).2, (idx1_8 t).1, (idx1_8 t).2, (idx1_9 t).1, (idx1_9 t).2]
  · rw [ybnOf_at _ _ _ _ 0 (x 1) (by blk_simp [(idx1_9 t).2]; omega)]
    pointwise [k1_pay6, k1_pay1, gyOf, rsOf]
    unfold Ys Hc Nw
    blk_point [iblk1, (idx1_0 t).1, (idx1_0 t).2, (idx1_4 t).1, (idx1_4 t).2, (idx1_8 t).1, (idx1_8 t).2, (idx1_9 t).1, (idx1_9 t).2]

/-- The time step. -/
theorem arr2_2 : (dat2 V c).arrAt 2 cfg2.N = dtpOf (Dr V c) (Db V c) := by
  refine (dat2 V c).arrAt_eq_of_covers 2 _ (by decide +kernel) fun t hf y => ?_
  blk_simp
  rw [after2_2]
  frame_out
  have ht : t.val < 4 := t.isLt
  pointwise [k2_pay1, dtpOf, Ideal.absf_def]
  unfold Dr Db
  blk_point [iblk2, (idx2_0 t).1, (idx2_0 t).2, (idx2_1 t).1, (idx2_1 t).2, (idx2_2 t).1, (idx2_2 t).2]

/-- The merge, a head at a time. -/
theorem arr3_6 : (dat3 V c).arrAt 6 cfg3.N = ycpOf (O0 V c) (O1 V c) (O2 V c) (L0 V c) (L1 V c) (L2 V c) := by
  refine (dat3 V c).arrAt_eq_of_covers 6 _ (by decide +kernel) fun t hf y => ?_
  have ht : t.val < 16 := t.isLt
  blk_simp
  rw [after3_6]
  unfold out3_6
  canon_tiles x h
  · rw [ycpOf_at _ _ _ _ _ _ _ ⟨2 * (t.val % 2) + 1, by omega⟩ (x 1) (by blk_simp [(idx3_6 t).2]; dsimp only; omega)]
    pointwise [k3_pay1, mix3, max3, lh]
    unfold O0 O1 O2 L0 L1 L2
    blk_point [iblk3, (idx3_0 t).1, (idx3_0 t).2, (idx3_1 t).1, (idx3_1 t).2, (idx3_2 t).1, (idx3_2 t).2, (idx3_6 t).1, (idx3_6 t).2, (idx3_3 t).1, (idx3_3 t).2.1, (idx3_3 t).2.2, (idx3_4 t).1, (idx3_4 t).2.1, (idx3_4 t).2.2, (idx3_5 t).1, (idx3_5 t).2.1, (idx3_5 t).2.2]
  · rw [ycpOf_at _ _ _ _ _ _ _ ⟨2 * (t.val % 2) + 0, by omega⟩ (x 1) (by blk_simp [(idx3_6 t).2]; dsimp only; omega)]
    pointwise [k3_pay2, mix3, max3, lh]
    unfold O0 O1 O2 L0 L1 L2
    blk_point [iblk3, (idx3_0 t).1, (idx3_0 t).2, (idx3_1 t).1, (idx3_1 t).2, (idx3_2 t).1, (idx3_2 t).2, (idx3_6 t).1, (idx3_6 t).2, (idx3_3 t).1, (idx3_3 t).2.1, (idx3_3 t).2.2, (idx3_4 t).1, (idx3_4 t).2.1, (idx3_4 t).2.2, (idx3_5 t).1, (idx3_5 t).2.1, (idx3_5 t).2.2]

end arrays

section run
open Idealize.ShloMosaic.Tactic Idealize.SL Idealize.SL.RA Idealize.SL.BI
open scoped Idealize.SL.BI
open Idealize.SL.BI.BIBase Idealize.SL.BI.Laws Idealize.SL.ProofMode Idealize.ShloMosaic.Rounds

/-- The resources of the run. -/
abbrev Res : Type := MT nD τ sig Unit (Elt Ideal) ℕ (UR sig nD τ) ℕ

variable (m : (ℓ : Loc nD τ sig) → Buf (Elt Ideal) ℓ) (ρ : Dev nD → PrngReg)

-- the launch's implicit arguments are found by unifying its conclusion with this one, through plain definitions in types
set_option backward.isDefEq.respectTransparency.types false in
/-- The four kernels run, and leave every buffer as the last region's exit has it. -/
theorem run_all : θ_run defs (onTc (τ := τ) (main (F := Ideal))) ⟨m, fun _ => 0, ρ⟩ fun r =>
    ∀ c : Dev nD, ∀ b ∈ Pipeline.ucRefs τ sig, r.2.mem (((c : Thread nD τ)).1, b) = W4 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

variable (c : Dev nD)

/-- The arguments. -/
abbrev A0 : Mat 4096 768 := m ((c : Thread nD τ).loc main_arg0)
abbrev A1 : Mat 1 768 := m ((c : Thread nD τ).loc main_arg1)
abbrev A2 : Mat 1 768 := m ((c : Thread nD τ).loc main_arg2)
abbrev A3 : Mat 4096 1024 := m ((c : Thread nD τ).loc main_arg3)
abbrev A4 : Mat 4096 9728 := m ((c : Thread nD τ).loc main_arg4)
abbrev A5 : Mat 1 1024 := m ((c : Thread nD τ).loc main_arg5)
abbrev A6 : Mat 4096 16 := m ((c : Thread nD τ).loc main_arg6)
abbrev A7 : Mat 1 16 := m ((c : Thread nD τ).loc main_arg7)
abbrev A8 : Mat 4096 256 := m ((c : Thread nD τ).loc main_arg8)
abbrev A9 : Mat 4096 256 := m ((c : Thread nD τ).loc main_arg9)
abbrev A10 : Mat 4096 256 := m ((c : Thread nD τ).loc main_arg10)
abbrev A11 : Lse := m ((c : Thread nD τ).loc main_arg11)
abbrev A12 : Lse := m ((c : Thread nD τ).loc main_arg12)
abbrev A13 : Lse := m ((c : Thread nD τ).loc main_arg13)
theorem at_0 : W1 m ρ c (Proc.devRef .tc main_v0) = (fun i => (A0 m c i + A1 m c (ix2 0 (i 1))) * A2 m c (ix2 0 (i 1)) : Mat 4096 768) := by
  refine (W1_arr m ρ c 3).trans ((arr0_3 (V0 m ρ) c).trans ?_)
  rfl
theorem at_1 : W2 m ρ c (Proc.devRef .tc main_v1) = (ybnOf (A3 m c) (A4 m c) (A5 m c) : Mat 4096 1024) := by
  refine (W2_arr m ρ c 9).trans ((arr1_9 (V1 m ρ) c).trans ?_)
  unfold Ys Hc Nw
  rw [show V1 m ρ c main_arg3 = A3 m c from W1_args m ρ c main_arg3 (by decide),
    show V1 m ρ c main_arg4 = A4 m c from W1_args m ρ c main_arg4 (by decide),
    show V1 m ρ c main_arg5 = A5 m c from W1_args m ρ c main_arg5 (by decide)]
theorem at_2 : W3 m ρ c (Proc.devRef .tc main_v2) = (dtpOf (A6 m c) (A7 m c) : Mat 4096 16) := by
  refine (W3_arr m ρ c 2).trans ((arr2_2 (V2 m ρ) c).trans ?_)
  unfold Dr Db
  rw [show V2 m ρ c main_arg6 = A6 m c from W2_args m ρ c main_arg6 (by decide),
    show V2 m ρ c main_arg7 = A7 m c from W2_args m ρ c main_arg7 (by decide)]
theorem at_3 : W4 m ρ c (Proc.devRef .tc main_v3) = (ycpOf (A8 m c) (A9 m c) (A10 m c) (A11 m c) (A12 m c) (A13 m c) : Mat 4096 256) := by
  refine (W4_arr m ρ c 6).trans ((arr3_6 (V3 m ρ) c).trans ?_)
  unfold O0 O1 O2 L0 L1 L2
  rw [show V3 m ρ c main_arg8 = A8 m c from W3_args m ρ c main_arg8 (by decide),
    show V3 m ρ c main_arg9 = A9 m c from W3_args m ρ c main_arg9 (by decide),
    show V3 m ρ c main_arg10 = A10 m c from W3_args m ρ c main_arg10 (by decide),
    show V3 m ρ c main_arg11 = A11 m c from W3_args m ρ c main_arg11 (by decide),
    show V3 m ρ c main_arg12 = A12 m c from W3_args m ρ c main_arg12 (by decide),
    show V3 m ρ c main_arg13 = A13 m c from W3_args m ρ c main_arg13 (by decide)]
theorem end_0 : W4 m ρ c (Proc.devRef .tc main_v0) = (fun i => (A0 m c i + A1 m c (ix2 0 (i 1))) * A2 m c (ix2 0 (i 1)) : Mat 4096 768) :=
  ((W4_of m ρ c main_v0 (by decide +kernel)).trans ((W3_of m ρ c main_v0 (by decide +kernel)).trans ((W2_of m ρ c main_v0 (by decide +kernel)).trans (at_0 m ρ c))))
theorem end_1 : W4 m ρ c (Proc.devRef .tc main_v1) = (ybnOf (A3 m c) (A4 m c) (A5 m c) : Mat 4096 1024) :=
  ((W4_of m ρ c main_v1 (by decide +kernel)).trans ((W3_of m ρ c main_v1 (by decide +kernel)).trans (at_1 m ρ c)))
theorem end_2 : W4 m ρ c (Proc.devRef .tc main_v2) = (dtpOf (A6 m c) (A7 m c) : Mat 4096 16) :=
  ((W4_of m ρ c main_v2 (by decide +kernel)).trans (at_2 m ρ c))
theorem end_3 : W4 m ρ c (Proc.devRef .tc main_v3) = (ycpOf (A8 m c) (A9 m c) (A10 m c) (A11 m c) (A12 m c) (A13 m c) : Mat 4096 256) :=
  (at_3 m ρ c)

/-- The four results, and the arguments kept. -/
theorem run_kernel : θ_run defs (onTc (τ := τ) (main (F := Ideal))) ⟨m, fun _ => 0, ρ⟩ fun r => ∀ c : Dev nD,
    r.2.mem ((c : Thread nD τ).loc main_v0) = (fun i => (A0 m c i + A1 m c (ix2 0 (i 1))) * A2 m c (ix2 0 (i 1)) : Mat 4096 768)
    ∧ r.2.mem ((c : Thread nD τ).loc main_v1) = (ybnOf (A3 m c) (A4 m c) (A5 m c) : Mat 4096 1024)
    ∧ r.2.mem ((c : Thread nD τ).loc main_v2) = (dtpOf (A6 m c) (A7 m c) : Mat 4096 16)
    ∧ r.2.mem ((c : Thread nD τ).loc main_v3) = (ycpOf (A8 m c) (A9 m c) (A10 m c) (A11 m c) (A12 m c) (A13 m c) : Mat 4096 256)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13) :=
  (θ_run defs _ _).mono (fun r h c =>
    ⟨(h c _ (mem_uc main_v0 (by decide))).trans (end_0 m ρ c),
      (h c _ (mem_uc main_v1 (by decide))).trans (end_1 m ρ c),
      (h c _ (mem_uc main_v2 (by decide))).trans (end_2 m ρ c),
      (h c _ (mem_uc main_v3 (by decide))).trans (end_3 m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c)⟩)
    (run_all m ρ)
end run

end Cert.Kernel13Ideal.Mix

end
-- ==== Proof.RowMixerRef.lean ====
/-
  THE REFERENCE OF THE MIXER'S ROW BY ROW CALLS leaves RowSpec.lean's formulas.
-/
module

public import proofs.«01_k».proof.Proof.RowSpec
public import proofs.«01_k».proof.Proof.Gen.Reference13Ideal.Run
public import proofs.«01_k».proof.Proof.Gen.Reference13Ideal.Read
public import Idealize.ShloMosaic.Lib.Pipeline.ValueKit

@[expose] public section

set_option maxRecDepth 16384

noncomputable section

namespace Cert.Reference13Ideal.Mix

open Cert.RowSpec Cert.Reference13Ideal Cert.Reference13Ideal.Gen Cert.Reference13Ideal.Read Idealize.ShloMosaic Idealize.ShloMosaic.TcCoe Idealize.SL.Sem Cert.FfnSpec Cert.MixSpec

/-- The bits of minus infinity. -/
theorem bits_bot : Ideal.ofBits .f32 0xFF800000#32 = (⊥ : EReal) := by simp [Ideal.ofBits, Ideal.ieee]
/-- The largest of three, folded up from minus infinity. -/
theorem fold_three (f : Fin 3 → EReal) : Finset.fold max ⊥ f Finset.univ = max (max (f 0) (f 1)) (f 2) := by
  rw [show (Finset.univ : Finset (Fin 3)) = {0, 1, 2} by decide, Finset.fold_insert (by decide), Finset.fold_insert (by decide),
    Finset.fold_singleton, max_eq_left (bot_le : ⊥ ≤ f 2), max_assoc]

theorem res_t2 (a0 : Mat 4096 768) (a1 a2 : Mat 1 768) :
    val_main_v49 (F := Ideal) a0 a1 a2 = fun i => (a0 i + a1 (ix2 0 (i 1))) * a2 (ix2 0 (i 1)) := by
  funext i
  pointwise [val_main_v49, val_main_v3, val_main_v2, val_main_v1, val_main_v0]

theorem res_ybn (a3 : Mat 4096 1024) (a4 : Mat 4096 9728) (a5 : Mat 1 1024) :
    val_main_v50 (F := Ideal) a3 a4 a5 = ybnOf a3 a4 a5 := by
  funext i
  have hi : (i 1).val < 1024 := (i 1).isLt
  refine Eq.trans ?_ (ybnOf_at _ _ _ i ⟨(i 1).val / 256, by omega⟩ ⟨(i 1).val % 256, by omega⟩ (by dsimp only; omega)).symm
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v50, val_main_cst, val_main_cst_0, val_main_cst_1,
    val_main_call0_v0, val_main_call0_v1, val_main_call0_v2, val_main_call0_v3, val_main_call0_v4, val_main_call0_v5, val_main_call0_cst, val_main_call0_cst_0, gyOf, rsOf, Ideal.logistic]
  have hj : ix2 (i 0) ⟨(i 1).val, hi⟩ = i := funext fun a => by match a with | 0 => rfl | 1 => rfl
  simp only [Nat.mul_comm 256, Nat.div_add_mod']
  congr 3
  exact congrArg a3 hj.symm

theorem res_dt (a6 : Mat 4096 16) (a7 : Mat 1 16) : val_main_v23 (F := Ideal) a6 a7 = dtpOf a6 a7 := by
  funext i
  pointwise [val_main_v23, val_main_v22, val_main_v21, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11, dtpOf, Ideal.absf_def]
  rw [if_neg (fun h => h rfl), zero_sub]

theorem res_ycp (a8 a9 a10 : Mat 4096 256) (a11 a12 a13 : Lse) :
    val_main_v48 (F := Ideal) a8 a9 a10 a11 a12 a13 = ycpOf a8 a9 a10 a11 a12 a13 := by
  funext i
  have hi : (i 1).val < 256 := (i 1).isLt
  refine Eq.trans ?_ (ycpOf_at _ _ _ _ _ _ i ⟨(i 1).val / 64, by omega⟩ ⟨(i 1).val % 64, by omega⟩ (by dsimp only; omega)).symm
  pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_cst_2, val_main_cst_3, val_main_cst_4, lh, mix3, max3, bits_bot]
  simp only [fold_three, Fin.sum_univ_three, bot_le, max_eq_right, Fin.val_zero, Fin.val_one, Fin.val_two, Nat.reduceLT, Nat.reduceSub,
    Nat.lt_irrefl, ↓reduceDIte]

end Cert.Reference13Ideal.Mix

end
-- ==== Proof.MixPool.lean ====
/-
  THE POOLING BRANCH'S OWN PRODUCT AND ITS GRADIENTS. Three kernels, each a product tile by tile; their results are
  MixSpec.lean's, and so are the reference's.
-/
module

public import proofs.«01_k».proof.Proof.MixSpec
public import proofs.«01_k».proof.Proof.Gen.Kernel14Ideal.Frame
public import proofs.«01_k».proof.Proof.Gen.Reference14Ideal.Run
public import proofs.«01_k».proof.Proof.Gen.Reference14Ideal.Read
public import Idealize.ShloMosaic.Lib.Pipeline.ValueKit

@[expose] public section

set_option maxRecDepth 16384

noncomputable section

namespace Cert.Kernel14Ideal.Mix

open Cert.Kernel14Ideal Cert.Kernel14Ideal.Gen Idealize.ShloMosaic Idealize.ShloMosaic.TcCoe Idealize.SL.Sem Cert.FfnSpec Cert.MixSpec
open Idealize.ShloMosaic.Pipeline (Dat Cfg Window BodyObligation cellOf)

section arrays
variable (V : (c : Dev nD) → (b : Ref sig .tc) → Buf (Elt Ideal) ((c : Thread nD τ).loc b)) (c : Dev nD)

/-- The pooled rows, the weight and the product's gradient. -/
abbrev T : Mat 4096 768 := V c main_arg0
abbrev Pp : Mat 768 768 := V c main_arg1
abbrev Dy : Mat 4096 768 := V c main_arg2

theorem idx0_0 : ∀ t : Fin grid0.N, win0_0.index t 0 = t.val ∧ win0_0.index t 1 = 0 := by decide +kernel
theorem idx0_1 : ∀ t : Fin grid0.N, win0_1.index t 0 = 0 ∧ win0_1.index t 1 = 0 := by decide +kernel
theorem idx0_2 : ∀ t : Fin grid0.N, win0_2.index t 0 = t.val ∧ win0_2.index t 1 = 0 := by decide +kernel
theorem idx1_0 : ∀ t : Fin grid1.N, win1_0.index t 0 = t.val ∧ win1_0.index t 1 = 0 := by decide +kernel
theorem idx1_1 : ∀ t : Fin grid1.N, win1_1.index t 0 = 0 ∧ win1_1.index t 1 = 0 := by decide +kernel
theorem idx1_2 : ∀ t : Fin grid1.N, win1_2.index t 0 = t.val ∧ win1_2.index t 1 = 0 := by decide +kernel
theorem idx2_0 : ∀ t : Fin grid2.N, win2_0.index t 0 = 0 ∧ win2_0.index t 1 = 0 := by decide +kernel
theorem idx2_1 : ∀ t : Fin grid2.N, win2_1.index t 0 = 0 ∧ win2_1.index t 1 = t.val := by decide +kernel
theorem idx2_2 : ∀ t : Fin grid2.N, win2_2.index t 0 = 0 ∧ win2_2.index t 1 = t.val := by decide +kernel

/-- The product. -/
theorem arr0_2 : (dat0 V c).arrAt 2 cfg0.N = mulOf (T V c) (Pp V c) := by
  refine (dat0 V c).arrAt_eq_of_covers 2 _ (by decide +kernel) fun t hf y => ?_
  blk_simp
  rw [after0_2]
  frame_out
  have ht : t.val < 4 := t.isLt
  pointwise [k0_pay1, mulOf]
  unfold T Pp
  blk_point [iblk0, (idx0_0 t).1, (idx0_0 t).2, (idx0_1 t).1, (idx0_1 t).2, (idx0_2 t).1, (idx0_2 t).2]

/-- The rows' gradient. -/
theorem arr1_2 : (dat1 V c).arrAt 2 cfg1.N = mulRows (Dy V c) (Pp V c) := by
  refine (dat1 V c).arrAt_eq_of_covers 2 _ (by decide +kernel) fun t hf y => ?_
  blk_simp
  rw [after1_2]
  frame_out
  have ht : t.val < 4 := t.isLt
  pointwise [k1_pay1, mulRows]
  unfold Dy Pp
  blk_point [iblk1, (idx1_0 t).1, (idx1_0 t).2, (idx1_1 t).1, (idx1_1 t).2, (idx1_2 t).1, (idx1_2 t).2]

/-- The weight's gradient. -/
theorem arr2_2 : (dat2 V c).arrAt 2 cfg2.N = mulCols (T V c) (Dy V c) := by
  refine (dat2 V c).arrAt_eq_of_covers 2 _ (by decide +kernel) fun t hf y => ?_
  blk_simp
  rw [after2_2]
  frame_out
  have ht : t.val < 2 := t.isLt
  pointwise [k2_pay1, mulCols]
  unfold T Dy
  blk_point [iblk2, (idx2_0 t).1, (idx2_0 t).2, (idx2_1 t).1, (idx2_1 t).2, (idx2_2 t).1, (idx2_2 t).2]

end arrays

/-! ### The run -/

section run
open Idealize.ShloMosaic.Tactic Idealize.SL Idealize.SL.RA Idealize.SL.BI
open scoped Idealize.SL.BI
open Idealize.SL.BI.BIBase Idealize.SL.BI.Laws Idealize.SL.ProofMode Idealize.ShloMosaic.Rounds

/-- The resources of the run. -/
abbrev Res : Type := MT nD τ sig Unit (Elt Ideal) ℕ (UR sig nD τ) ℕ

variable (m : (ℓ : Loc nD τ sig) → Buf (Elt Ideal) ℓ) (ρ : Dev nD → PrngReg)

-- the launch's implicit arguments are found by unifying its conclusion with this one, through plain definitions in types
set_option backward.isDefEq.respectTransparency.types false in
/-- The three kernels run, and leave every buffer as the last region's exit has it. -/
theorem run_all : θ_run defs (onTc (τ := τ) (main (F := Ideal))) ⟨m, fun _ => 0, ρ⟩ fun r =>
    ∀ c : Dev nD, ∀ b ∈ Pipeline.ucRefs τ sig, r.2.mem (((c : Thread nD τ)).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

variable (c : Dev nD)

/-- The arguments. -/
abbrev A0 : Mat 4096 768 := m ((c : Thread nD τ).loc main_arg0)
abbrev A1 : Mat 768 768 := m ((c : Thread nD τ).loc main_arg1)
abbrev A2 : Mat 4096 768 := m ((c : Thread nD τ).loc main_arg2)

theorem at_0 : W1 m ρ c (Proc.devRef .tc main_v0) = mulOf (A0 m c) (A1 m c) := by
  refine (W1_arr m ρ c 2).trans ((arr0_2 (V0 m ρ) c).trans ?_)
  rfl
theorem at_1 : W2 m ρ c (Proc.devRef .tc main_v1) = mulRows (A2 m c) (A1 m c) := by
  refine (W2_arr m ρ c 2).trans ((arr1_2 (V1 m ρ) c).trans ?_)
  unfold Dy Pp
  rw [show V1 m ρ c main_arg2 = A2 m c from W1_args m ρ c main_arg2 (by decide),
    show V1 m ρ c main_arg1 = A1 m c from W1_args m ρ c main_arg1 (by decide)]
theorem at_2 : W3 m ρ c (Proc.devRef .tc main_v2) = mulCols (A0 m c) (A2 m c) := by
  refine (W3_arr m ρ c 2).trans ((arr2_2 (V2 m ρ) c).trans ?_)
  unfold T Dy
  rw [show V2 m ρ c main_arg0 = A0 m c from W2_args m ρ c main_arg0 (by decide),
    show V2 m ρ c main_arg2 = A2 m c from W2_args m ρ c main_arg2 (by decide)]

theorem end_0 : W3 m ρ c (Proc.devRef .tc main_v0) = mulOf (A0 m c) (A1 m c) :=
  ((W3_of m ρ c main_v0 (by decide +kernel)).trans ((W2_of m ρ c main_v0 (by decide +kernel)).trans (at_0 m ρ c)))
theorem end_1 : W3 m ρ c (Proc.devRef .tc main_v1) = mulRows (A2 m c) (A1 m c) :=
  ((W3_of m ρ c main_v1 (by decide +kernel)).trans (at_1 m ρ c))
theorem end_2 : W3 m ρ c (Proc.devRef .tc main_v2) = mulCols (A0 m c) (A2 m c) :=
  (at_2 m ρ c)

/-- The three results, and the arguments kept. -/
theorem run_kernel : θ_run defs (onTc (τ := τ) (main (F := Ideal))) ⟨m, fun _ => 0, ρ⟩ fun r => ∀ c : Dev nD,
    r.2.mem ((c : Thread nD τ).loc main_v0) = mulOf (A0 m c) (A1 m c)
    ∧ r.2.mem ((c : Thread nD τ).loc main_v1) = mulRows (A2 m c) (A1 m c)
    ∧ r.2.mem ((c : Thread nD τ).loc main_v2) = mulCols (A0 m c) (A2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c =>
    ⟨(h c _ (mem_uc main_v0 (by decide))).trans (end_0 m ρ c),
      (h c _ (mem_uc main_v1 (by decide))).trans (end_1 m ρ c),
      (h c _ (mem_uc main_v2 (by decide))).trans (end_2 m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c)⟩)
    (run_all m ρ)
end run

end Cert.Kernel14Ideal.Mix

namespace Cert.Reference14Ideal.Mix

open Cert.Reference14Ideal Cert.Reference14Ideal.Gen Cert.Reference14Ideal.Read Idealize.ShloMosaic Idealize.ShloMosaic.TcCoe Idealize.SL.Sem Cert.FfnSpec Cert.MixSpec

variable (a0 : Mat 4096 768) (a1 : Mat 768 768) (a2 : Mat 4096 768)

theorem res_0 : val_main_v2 (F := Ideal) a0 a1 = mulOf a0 a1 := by
  funext i
  pointwise [val_main_v2, val_main_v1, val_main_v0, mulOf]
theorem res_1 : val_main_v6 (F := Ideal) a1 a2 = mulRows a2 a1 := by
  funext i
  pointwise [val_main_v6, val_main_v3, val_main_v1, mulRows]
theorem res_2 : val_main_v5 (F := Ideal) a0 a2 = mulCols a0 a2 := by
  funext i
  pointwise [val_main_v5, val_main_v4, val_main_v3, val_main_v0, mulCols]
  exact Finset.sum_congr rfl fun k _ => mul_comm _ _

end Cert.Reference14Ideal.Mix

end
-- ==== Proof.RowGnb.lean ====
/-
  THE SCAN BRANCH'S GATED NORM, BACKWARD. The kernel walks 256 rows at a time and does the four groups of 256 columns one after
  the other, writing back the rows' and the gates' gradients and adding up the weight's over all the walk; both it and the
  reference leave the formulas below.
-/
module

public import proofs.«01_k».proof.Proof.RowSpec
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit

@[expose] public section

set_option maxRecDepth 16384

noncomputable section

namespace Cert.Kernel15Ideal.Mix

open Cert.Kernel15Ideal Cert.Kernel15Ideal.Gen Idealize.ShloMosaic Idealize.ShloMosaic.TcCoe Idealize.SL.Sem Cert.FfnSpec Cert.MixSpec Cert.RowSpec
open Idealize.ShloMosaic.Pipeline (Dat Cfg Window BodyObligation cellOf)

variable (m : (ℓ : Loc nD τ sig) → Buf (Elt Ideal) ℓ) (c : Dev nD)

/-- The scan's rows. -/
abbrev A0 : Mat 4096 1024 := m ((c : Thread nD τ).loc main_arg0)
/-- The mixer's wide product, whose columns from 768 on are the gates. -/
abbrev A1 : Mat 4096 9728 := m ((c : Thread nD τ).loc main_arg1)
/-- The norm's weight. -/
abbrev A2 : Mat 1 1024 := m ((c : Thread nD τ).loc main_arg2)
/-- The incoming gradient. -/
abbrev A3 : Mat 4096 1024 := m ((c : Thread nD τ).loc main_arg3)

theorem idx0 : ∀ t : Fin grid0.N, win0_0.index t 0 = t.val ∧ win0_0.index t 1 = 0 := by decide +kernel
theorem idx1 : ∀ t : Fin grid0.N, win0_1.index t 0 = t.val ∧ win0_1.index t 1 = 1 := by decide +kernel
theorem idx2 : ∀ t : Fin grid0.N, win0_2.index t 0 = t.val ∧ win0_2.index t 1 = 2 := by decide +kernel
theorem idx3 : ∀ t : Fin grid0.N, win0_3.index t 0 = t.val ∧ win0_3.index t 1 = 3 := by decide +kernel
theorem idx4 : ∀ t : Fin grid0.N, win0_4.index t 0 = t.val ∧ win0_4.index t 1 = 3 := by decide +kernel
theorem idx5 : ∀ t : Fin grid0.N, win0_5.index t 0 = t.val ∧ win0_5.index t 1 = 4 := by decide +kernel
theorem idx6 : ∀ t : Fin grid0.N, win0_6.index t 0 = t.val ∧ win0_6.index t 1 = 5 := by decide +kernel
theorem idx7 : ∀ t : Fin grid0.N, win0_7.index t 0 = t.val ∧ win0_7.index t 1 = 6 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 1 := by decide +kernel
theorem idx10 : ∀ t : Fin grid0.N, win0_10.index t 0 = t.val ∧ win0_10.index t 1 = 2 := by decide +kernel
theorem idx11 : ∀ t : Fin grid0.N, win0_11.index t 0 = t.val ∧ win0_11.index t 1 = 3 := by decide +kernel
theorem idx12 : ∀ t : Fin grid0.N, win0_12.index t 0 = 0 ∧ win0_12.index t 1 = 0 := by decide +kernel
theorem idx13 : ∀ t : Fin grid0.N, win0_13.index t 0 = t.val ∧ win0_13.index t 1 = 0 := by decide +kernel
theorem idx14 : ∀ t : Fin grid0.N, win0_14.index t 0 = t.val ∧ win0_14.index t 1 = 0 := by decide +kernel
theorem idx15 : ∀ t : Fin grid0.N, win0_15.index t 0 = 0 ∧ win0_15.index t 1 = 0 := by decide +kernel

/-- Row `r` of the rows walked at point `t`. -/
def row (t : Fin cfg0.N) (r : Fin 256) : Fin 4096 := ⟨256 * t.val + r.val, by have ht : t.val < 16 := t.isLt; omega⟩
/-- What a point adds to the weight's gradient. -/
def part (t : Fin cfg0.N) (y : S1x1024.Idx) : EReal := ∑ k : Fin 256, grouped (dnAt (A0 m c) (A1 m c) (A3 m c)) (ix2 (row t k) (y 1))
theorem part_at (t : Fin cfg0.N) (y : S1x1024.Idx) (g : Fin 4) (q : Fin 256) (h : (y 1).val = 256 * g.val + q.val) :
    part m c t y = ∑ k : Fin 256, dnAt (A0 m c) (A1 m c) (A3 m c) g (row t k) q :=
  Finset.sum_congr rfl fun k _ => grouped_at _ (ix2 (row t k) (y 1)) g q h

set_option maxHeartbeats 4000000 in
theorem out15_A (t : Fin cfg0.N) (h : t.val % 16 = 0) (y : S1x1024.Idx) : (outsAt0 m c t.val t.isLt).2.2 y = part m c t y := by
  have ht : t.val < 16 := t.isLt
  rw [outsAt0_A m c t h (by omega) h (by omega) h (by omega) h (by omega)]
  frame_out
  canon_tiles x h
  · rw [part_at m c t y 3 (x 1) (by have e : ((3 : Fin 4)).val = 3 := rfl; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dnAt, gyOf, rsOf]
    refine Finset.sum_congr rfl fun k _ => ?_
    unfold A0 A1 A3 row
    blk_point [iblk, V, (idx3 t).1, (idx3 t).2, (idx7 t).1, (idx7 t).2, (idx11 t).1, (idx11 t).2, (idx15 t).1, (idx15 t).2]
  · rw [part_at m c t y 2 (x 1) (by have e : ((2 : Fin 4)).val = 2 := rfl; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dnAt, gyOf, rsOf]
    refine Finset.sum_congr rfl fun k _ => ?_
    unfold A0 A1 A3 row
    blk_point [iblk, V, (idx2 t).1, (idx2 t).2, (idx6 t).1, (idx6 t).2, (idx10 t).1, (idx10 t).2, (idx15 t).1, (idx15 t).2]
  · rw [part_at m c t y 1 (x 1) (by have e : ((1 : Fin 4)).val = 1 := rfl; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dnAt, gyOf, rsOf]
    refine Finset.sum_congr rfl fun k _ => ?_
    unfold A0 A1 A3 row
    blk_point [iblk, V, (idx1 t).1, (idx1 t).2, (idx5 t).1, (idx5 t).2, (idx9 t).1, (idx9 t).2, (idx15 t).1, (idx15 t).2]
  · rw [part_at m c t y 0 (x 1) (by have e : ((0 : Fin 4)).val = 0 := rfl; omega)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dnAt, gyOf, rsOf]
    refine Finset.sum_congr rfl fun k _ => ?_
    unfold A0 A1 A3 row
    blk_point [iblk, V, (idx0 t).1, (idx0 t).2, (idx4 t).1, (idx4 t).2, (idx8 t).1, (idx8 t).2, (idx15 t).1, (idx15 t).2]

set_option maxHeartbeats 4000000 in
theorem out15_B (t : Fin cfg0.N) (h : ¬t.val % 16 = 0) (y : S1x1024.Idx) :
    (outsAt0 m c t.val t.isLt).2.2 y = (outsAt0 m c (t.val - 1) (by have := t.isLt; omega)).2.2 y + part m c t y := by
  have ht : t.val < 16 := t.isLt
  rw [outsAt0_B m c t h (by omega) h (by omega) h (by omega) h (by omega)]
  frame_out
  canon_tiles x h
  · rw [part_at m c t y 3 (x 1) (by have e : ((3 : Fin 4)).val = 3 := rfl; omega)]
    have hy : y = ix2 0 ⟨768 + (x 1).val, by have := (y 1).isLt; have e : (y 1).val < 1024 := this; omega⟩ := funext fun a => Fin.ext (by
      match a with
      | 0 => have h0 : (y 0).val < 1 := (y 0).isLt; exact Nat.lt_one_iff.mp h0
      | 1 => exact h1)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dnAt, gyOf, rsOf]
    refine congrArg₂ (· + ·) (congrArg _ hy.symm) (Finset.sum_congr rfl fun k _ => ?_)
    unfold A0 A1 A3 row
    blk_point [iblk, V, (idx3 t).1, (idx3 t).2, (idx7 t).1, (idx7 t).2, (idx11 t).1, (idx11 t).2, (idx15 t).1, (idx15 t).2]
  · rw [part_at m c t y 2 (x 1) (by have e : ((2 : Fin 4)).val = 2 := rfl; omega)]
    have hy : y = ix2 0 ⟨512 + (x 1).val, by have := (y 1).isLt; have e : (y 1).val < 1024 := this; omega⟩ := funext fun a => Fin.ext (by
      match a with
      | 0 => have h0 : (y 0).val < 1 := (y 0).isLt; exact Nat.lt_one_iff.mp h0
      | 1 => exact h1)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dnAt, gyOf, rsOf]
    refine congrArg₂ (· + ·) (congrArg _ hy.symm) (Finset.sum_congr rfl fun k _ => ?_)
    unfold A0 A1 A3 row
    blk_point [iblk, V, (idx2 t).1, (idx2 t).2, (idx6 t).1, (idx6 t).2, (idx10 t).1, (idx10 t).2, (idx15 t).1, (idx15 t).2]
  · rw [part_at m c t y 1 (x 1) (by have e : ((1 : Fin 4)).val = 1 := rfl; omega)]
    have hy : y = ix2 0 ⟨256 + (x 1).val, by have := (y 1).isLt; have e : (y 1).val < 1024 := this; omega⟩ := funext fun a => Fin.ext (by
      match a with
      | 0 => have h0 : (y 0).val < 1 := (y 0).isLt; exact Nat.lt_one_iff.mp h0
      | 1 => exact h1)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dnAt, gyOf, rsOf]
    refine congrArg₂ (· + ·) (congrArg _ hy.symm) (Finset.sum_congr rfl fun k _ => ?_)
    unfold A0 A1 A3 row
    blk_point [iblk, V, (idx1 t).1, (idx1 t).2, (idx5 t).1, (idx5 t).2, (idx9 t).1, (idx9 t).2, (idx15 t).1, (idx15 t).2]
  · rw [part_at m c t y 0 (x 1) (by have e : ((0 : Fin 4)).val = 0 := rfl; omega)]
    have hy : y = ix2 0 ⟨(x 1).val, by have := (y 1).isLt; have e : (y 1).val < 1024 := this; omega⟩ := funext fun a => Fin.ext (by
      match a with
      | 0 => have h0 : (y 0).val < 1 := (y 0).isLt; exact Nat.lt_one_iff.mp h0
      | 1 => exact h1)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dnAt, gyOf, rsOf]
    refine congrArg₂ (· + ·) (congrArg _ hy.symm) (Finset.sum_congr rfl fun k _ => ?_)
    unfold A0 A1 A3 row
    blk_point [iblk, V, (idx0 t).1, (idx0 t).2, (idx4 t).1, (idx4 t).2, (idx8 t).1, (idx8 t).2, (idx15 t).1, (idx15 t).2]

set_option maxHeartbeats 4000000 in
/-- The rows' gradient. -/
theorem arr13_eq : (Gen.dats m 0 c).arrAt 13 (cfgs 0).N = grouped (dyAt (A0 m c) (A1 m c) (A2 m c) (A3 m c)) := by
  refine (dats m 0 c).arrAt_eq_of_covers 13 _ (by decide +kernel) fun t hf y => ?_
  have ht : t.val < 16 := t.isLt
  blk_simp
  rw [after0_13]
  by_cases h : t.val % 16 = 0
  · rw [outsAt0_A m c t h (by omega) h (by omega) h (by omega) h (by omega)]
    frame_out
    canon_tiles x h
    · rw [grouped_at _ _ 3 (x 1) (by blk_simp [(idx13 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dyAt, dgyOf, dsqOf, dwOf, gyOf, rsOf, zOf, Fin.sum_univ_one]
      unfold A0 A1 A2 A3
      blk_point [iblk, V, (idx3 t).1, (idx3 t).2, (idx7 t).1, (idx7 t).2, (idx11 t).1, (idx11 t).2, (idx12 t).1, (idx12 t).2, (idx13 t).1, (idx13 t).2]
    · rw [grouped_at _ _ 2 (x 1) (by blk_simp [(idx13 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dyAt, dgyOf, dsqOf, dwOf, gyOf, rsOf, zOf, Fin.sum_univ_one]
      unfold A0 A1 A2 A3
      blk_point [iblk, V, (idx2 t).1, (idx2 t).2, (idx6 t).1, (idx6 t).2, (idx10 t).1, (idx10 t).2, (idx12 t).1, (idx12 t).2, (idx13 t).1, (idx13 t).2]
    · rw [grouped_at _ _ 1 (x 1) (by blk_simp [(idx13 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dyAt, dgyOf, dsqOf, dwOf, gyOf, rsOf, zOf, Fin.sum_univ_one]
      unfold A0 A1 A2 A3
      blk_point [iblk, V, (idx1 t).1, (idx1 t).2, (idx5 t).1, (idx5 t).2, (idx9 t).1, (idx9 t).2, (idx12 t).1, (idx12 t).2, (idx13 t).1, (idx13 t).2]
    · rw [grouped_at _ _ 0 (x 1) (by blk_simp [(idx13 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dyAt, dgyOf, dsqOf, dwOf, gyOf, rsOf, zOf, Fin.sum_univ_one]
      unfold A0 A1 A2 A3
      blk_point [iblk, V, (idx0 t).1, (idx0 t).2, (idx4 t).1, (idx4 t).2, (idx8 t).1, (idx8 t).2, (idx12 t).1, (idx12 t).2, (idx13 t).1, (idx13 t).2]
  · rw [outsAt0_B m c t h (by omega) h (by omega) h (by omega) h (by omega)]
    frame_out
    canon_tiles x h
    · rw [grouped_at _ _ 3 (x 1) (by blk_simp [(idx13 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dyAt, dgyOf, dsqOf, dwOf, gyOf, rsOf, zOf, Fin.sum_univ_one]
      unfold A0 A1 A2 A3
      blk_point [iblk, V, (idx3 t).1, (idx3 t).2, (idx7 t).1, (idx7 t).2, (idx11 t).1, (idx11 t).2, (idx12 t).1, (idx12 t).2, (idx13 t).1, (idx13 t).2]
    · rw [grouped_at _ _ 2 (x 1) (by blk_simp [(idx13 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dyAt, dgyOf, dsqOf, dwOf, gyOf, rsOf, zOf, Fin.sum_univ_one]
      unfold A0 A1 A2 A3
      blk_point [iblk, V, (idx2 t).1, (idx2 t).2, (idx6 t).1, (idx6 t).2, (idx10 t).1, (idx10 t).2, (idx12 t).1, (idx12 t).2, (idx13 t).1, (idx13 t).2]
    · rw [grouped_at _ _ 1 (x 1) (by blk_simp [(idx13 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dyAt, dgyOf, dsqOf, dwOf, gyOf, rsOf, zOf, Fin.sum_univ_one]
      unfold A0 A1 A2 A3
      blk_point [iblk, V, (idx1 t).1, (idx1 t).2, (idx5 t).1, (idx5 t).2, (idx9 t).1, (idx9 t).2, (idx12 t).1, (idx12 t).2, (idx13 t).1, (idx13 t).2]
    · rw [grouped_at _ _ 0 (x 1) (by blk_simp [(idx13 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dyAt, dgyOf, dsqOf, dwOf, gyOf, rsOf, zOf, Fin.sum_univ_one]
      unfold A0 A1 A2 A3
      blk_point [iblk, V, (idx0 t).1, (idx0 t).2, (idx4 t).1, (idx4 t).2, (idx8 t).1, (idx8 t).2, (idx12 t).1, (idx12 t).2, (idx13 t).1, (idx13 t).2]

set_option maxHeartbeats 4000000 in
/-- The gates' gradient. -/
theorem arr14_eq : (Gen.dats m 0 c).arrAt 14 (cfgs 0).N = grouped (dzAt (A0 m c) (A1 m c) (A2 m c) (A3 m c)) := by
  refine (dats m 0 c).arrAt_eq_of_covers 14 _ (by decide +kernel) fun t hf y => ?_
  have ht : t.val < 16 := t.isLt
  blk_simp
  rw [after0_14]
  by_cases h : t.val % 16 = 0
  · rw [outsAt0_A m c t h (by omega) h (by omega) h (by omega) h (by omega)]
    frame_out
    canon_tiles x h
    · rw [grouped_at _ _ 3 (x 1) (by blk_simp [(idx14 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dzAt, dgyOf, dsqOf, dwOf, gyOf, rsOf, zOf, Fin.sum_univ_one]
      unfold A0 A1 A2 A3
      blk_point [iblk, V, (idx3 t).1, (idx3 t).2, (idx7 t).1, (idx7 t).2, (idx11 t).1, (idx11 t).2, (idx12 t).1, (idx12 t).2, (idx14 t).1, (idx14 t).2]
    · rw [grouped_at _ _ 2 (x 1) (by blk_simp [(idx14 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dzAt, dgyOf, dsqOf, dwOf, gyOf, rsOf, zOf, Fin.sum_univ_one]
      unfold A0 A1 A2 A3
      blk_point [iblk, V, (idx2 t).1, (idx2 t).2, (idx6 t).1, (idx6 t).2, (idx10 t).1, (idx10 t).2, (idx12 t).1, (idx12 t).2, (idx14 t).1, (idx14 t).2]
    · rw [grouped_at _ _ 1 (x 1) (by blk_simp [(idx14 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dzAt, dgyOf, dsqOf, dwOf, gyOf, rsOf, zOf, Fin.sum_univ_one]
      unfold A0 A1 A2 A3
      blk_point [iblk, V, (idx1 t).1, (idx1 t).2, (idx5 t).1, (idx5 t).2, (idx9 t).1, (idx9 t).2, (idx12 t).1, (idx12 t).2, (idx14 t).1, (idx14 t).2]
    · rw [grouped_at _ _ 0 (x 1) (by blk_simp [(idx14 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dzAt, dgyOf, dsqOf, dwOf, gyOf, rsOf, zOf, Fin.sum_univ_one]
      unfold A0 A1 A2 A3
      blk_point [iblk, V, (idx0 t).1, (idx0 t).2, (idx4 t).1, (idx4 t).2, (idx8 t).1, (idx8 t).2, (idx12 t).1, (idx12 t).2, (idx14 t).1, (idx14 t).2]
  · rw [outsAt0_B m c t h (by omega) h (by omega) h (by omega) h (by omega)]
    frame_out
    canon_tiles x h
    · rw [grouped_at _ _ 3 (x 1) (by blk_simp [(idx14 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dzAt, dgyOf, dsqOf, dwOf, gyOf, rsOf, zOf, Fin.sum_univ_one]
      unfold A0 A1 A2 A3
      blk_point [iblk, V, (idx3 t).1, (idx3 t).2, (idx7 t).1, (idx7 t).2, (idx11 t).1, (idx11 t).2, (idx12 t).1, (idx12 t).2, (idx14 t).1, (idx14 t).2]
    · rw [grouped_at _ _ 2 (x 1) (by blk_simp [(idx14 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dzAt, dgyOf, dsqOf, dwOf, gyOf, rsOf, zOf, Fin.sum_univ_one]
      unfold A0 A1 A2 A3
      blk_point [iblk, V, (idx2 t).1, (idx2 t).2, (idx6 t).1, (idx6 t).2, (idx10 t).1, (idx10 t).2, (idx12 t).1, (idx12 t).2, (idx14 t).1, (idx14 t).2]
    · rw [grouped_at _ _ 1 (x 1) (by blk_simp [(idx14 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dzAt, dgyOf, dsqOf, dwOf, gyOf, rsOf, zOf, Fin.sum_univ_one]
      unfold A0 A1 A2 A3
      blk_point [iblk, V, (idx1 t).1, (idx1 t).2, (idx5 t).1, (idx5 t).2, (idx9 t).1, (idx9 t).2, (idx12 t).1, (idx12 t).2, (idx14 t).1, (idx14 t).2]
    · rw [grouped_at _ _ 0 (x 1) (by blk_simp [(idx14 t).2]; omega)]
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dzAt, dgyOf, dsqOf, dwOf, gyOf, rsOf, zOf, Fin.sum_univ_one]
      unfold A0 A1 A2 A3
      blk_point [iblk, V, (idx0 t).1, (idx0 t).2, (idx4 t).1, (idx4 t).2, (idx8 t).1, (idx8 t).2, (idx12 t).1, (idx12 t).2, (idx14 t).1, (idx14 t).2]

/-- The weight's gradient, added up. -/
theorem arr15_eq : (Gen.dats m 0 c).arrAt 15 (cfgs 0).N = dnOf (A0 m c) (A1 m c) (A3 m c) := by
  refine (dats m 0 c).arrAt_eq_of_covers 15 _ (by decide +kernel) fun t hf y => ?_
  have ht : t.val < 16 := t.isLt
  have h15 := (flush0_15 t).mp hf
  blk_simp
  rw [after0_15, Pipeline.eq_sum_fin_of_reset_step_apply_of_flush (fun n h => (outsAt0 m c n h).2.2) 16 (fun _ => 0)
    (fun t j => part m c t j)
    (fun t h j => (out15_A m c t h j).trans (zero_add _).symm)
    (fun t h j => out15_B m c t h j) t h15, zero_add]
  unfold part dnOf
  refine Fin.sum_mul_add_congr (n := 256) fun p k hl => ?_
  unfold row
  blk_point [(idx15 t).1, (idx15 t).2]

/-- The kernel's run. -/
theorem run_kernel (ρ : Dev nD → PrngReg) :
    θ_run defs (onTc (τ := τ) (main (F := Ideal))) ⟨m, fun _ => 0, ρ⟩ fun r => ∀ c : Dev nD,
      r.2.mem ((c : Thread nD τ).loc main_v0_0) = grouped (dyAt (A0 m c) (A1 m c) (A2 m c) (A3 m c))
      ∧ r.2.mem ((c : Thread nD τ).loc main_v0_1) = grouped (dzAt (A0 m c) (A1 m c) (A2 m c) (A3 m c))
      ∧ r.2.mem ((c : Thread nD τ).loc main_v0_2) = dnOf (A0 m c) (A1 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr13_eq m c), (h c).2.1.trans (arr14_eq m c), (h c).2.2.1.trans (arr15_eq m c), (h c).2.2.2⟩) (Value.run_blocks m ρ)
end Cert.Kernel15Ideal.Mix

end
-- ==== Proof.RowGnbRef.lean ====
/-
  THE GATED NORM, BACKWARD: what the reference computes. Its square has the derivative `2·t`; the kernel has `t·t`, and adds the
  term twice.
-/
module

public import proofs.«01_k».proof.Proof.RowSpec
public import proofs.«01_k».proof.Proof.Gen.Reference15Ideal.Run
public import proofs.«01_k».proof.Proof.Gen.Reference15Ideal.Read
public import Idealize.ShloMosaic.Lib.Pipeline.ValueKit

@[expose] public section

set_option maxRecDepth 16384

noncomputable section

namespace Cert.Reference15Ideal.Mix

open Cert.Reference15Ideal Cert.Reference15Ideal.Gen Cert.Reference15Ideal.Read Idealize.ShloMosaic Idealize.ShloMosaic.TcCoe Idealize.SL.Sem Cert.FfnSpec Cert.MixSpec Cert.RowSpec

variable (a3 : Mat 4096 1024) (a4 : Mat 4096 9728) (a5 : Mat 1 1024) (d : Mat 4096 1024)

/-- The bits of two. -/
theorem bits_two : Ideal.ofBits .f32 0x40000000#32 = (2 : EReal) := by simp [Ideal.ofBits, Ideal.ieee, -EReal.coe_mul]; norm_num; rfl

/-- The gated rows' gradient. -/
theorem v39_at (r : Fin 4096) (g : Fin 4) (q : Fin 256) :
    val_main_v39 (F := Ideal) a3 a4 a5 d (ix3 r g q) = dgyOf a3 a4 a5 d g r q := by
  unfold dgyOf
  rw [add_assoc, ← mul_two_mul, ← bits_two]
  pointwise [val_main_v0, val_main_call0_v0, val_main_call0_v1, val_main_call0_cst, val_main_call0_v2, val_main_call0_v3, val_main_call0_cst_0, val_main_call0_v4, val_main_v1_2, val_main_call0_cst_1, val_main_call0_v6, val_main_call0_v7, val_main_v1_1, val_main_v1_0, val_main_v2, val_main_v3, val_main_v4, val_main_cst, val_main_v5, val_main_v6, val_main_cst_0, val_main_v7, val_main_v8, val_main_cst_1, val_main_v9, val_main_v10, val_main_cst_2, val_main_v11, val_main_v12, val_main_v13, val_main_v14, val_main_cst_3, val_main_v15, val_main_v16, val_main_v17, val_main_v18, val_main_v19, val_main_v20, val_main_v21, val_main_v22, val_main_cst_4, val_main_v23, val_main_v24, val_main_v25, val_main_v26, val_main_v27, val_main_v28, val_main_cst_5, val_main_v29, val_main_v30, val_main_v31, val_main_v32, val_main_v33, val_main_cst_6, val_main_v34, val_main_v35, val_main_cst_7, val_main_v36, val_main_v37, val_main_v38, val_main_v39, dgyOf, dsqOf, dwOf, gyOf, rsOf, zOf, Ideal.logistic, Fin.sum_univ_one]
  simp only [Nat.mul_comm 256]

theorem res_dy : val_main_v42 (F := Ideal) a3 a4 a5 d = grouped (dyAt a3 a4 a5 d) := by
  refine eq_grouped _ _ fun r g q => ?_
  unfold dyAt
  rw [← v39_at]
  pointwise [val_main_v0, val_main_call0_v0, val_main_call0_v1, val_main_call0_cst, val_main_call0_v2, val_main_call0_v3, val_main_call0_cst_0, val_main_call0_v4, val_main_v1_2, val_main_call0_cst_1, val_main_call0_v6, val_main_call0_v7, val_main_v1_1, val_main_v1_0, val_main_v42, val_main_v40, zOf, Ideal.logistic]

theorem res_dz : val_main_v44 (F := Ideal) a3 a4 a5 d = grouped (dzAt a3 a4 a5 d) := by
  refine eq_grouped _ _ fun r g q => ?_
  unfold dzAt
  rw [← v39_at]
  pointwise [val_main_v0, val_main_call0_v0, val_main_call0_v1, val_main_call0_cst, val_main_call0_v2, val_main_call0_v3, val_main_call0_cst_0, val_main_call0_v4, val_main_v1_2, val_main_call0_cst_1, val_main_call0_v6, val_main_call0_v7, val_main_v1_1, val_main_v1_0, val_main_call1_v0, val_main_call1_v1, val_main_call1_v2, val_main_v44, val_main_v43, val_main_v41, val_main_v40, zOf, Ideal.logistic]

/-- A row's part of the weight's gradient. -/
theorem v22_eq : val_main_v22 (F := Ideal) a3 a4 d = grouped (dnAt a3 a4 d) := by
  refine eq_grouped _ _ fun r g q => ?_
  have hd : (256 * g.val + q.val) / 256 = g.val := by omega
  have hm : (256 * g.val + q.val) % 256 = q.val := by omega
  pointwise [val_main_v0, val_main_call0_v0, val_main_call0_v1, val_main_call0_cst, val_main_call0_v2, val_main_call0_v3, val_main_call0_cst_0, val_main_call0_v4, val_main_v1_2, val_main_call0_cst_1, val_main_call0_v6, val_main_call0_v7, val_main_v1_1, val_main_v1_0, val_main_v2, val_main_v3, val_main_v4, val_main_cst, val_main_v5, val_main_v6, val_main_cst_0, val_main_v7, val_main_v8, val_main_cst_1, val_main_v9, val_main_v10, val_main_cst_2, val_main_v11, val_main_v12, val_main_v13, val_main_v14, val_main_cst_3, val_main_v15, val_main_v16, val_main_v17, val_main_v18, val_main_v19, val_main_v20, val_main_v21, val_main_v22, dnAt, gyOf, rsOf, Ideal.logistic]
  simp only [Nat.mul_comm _ 256, hd, hm, Fin.eta]

theorem res_dn : val_main_v24 (F := Ideal) a3 a4 d = dnOf a3 a4 d := by
  funext i
  unfold dnOf
  rw [← v22_eq]
  pointwise [val_main_v24, val_main_v23, val_main_cst_4]

end Cert.Reference15Ideal.Mix

end
-- ==== Proof.ConvSpec.lean ====
/-
  THE SCAN BRANCH'S CONVOLUTION: what it computes, forward and backward. Each of the 2048 columns is convolved along the rows of
  each batch with four taps, of which the last meets the row itself, then the bias is added and `silu` is taken.
-/
module

public import proofs.«01_k».proof.Proof.MixSpec
public import Idealize.ShloMosaic.Lib.WordCmp

@[expose] public section

set_option maxRecDepth 16384

noncomputable section

namespace Cert.ConvSpec

open Idealize.ShloMosaic Idealize.ShloMosaic.WordCmp Cert.FfnSpec Cert.MixSpec

/-- A column `s` rows earlier, zero before the batch begins. -/
def tap (X : Fin 2048 → EReal) (s : ℕ) (r : Fin 2048) : EReal := if h : s ≤ r.val then X ⟨r.val - s, by omega⟩ else 0
/-- A column `s` rows later, zero after the batch ends. -/
def ahead (X : Fin 2048 → EReal) (s : ℕ) (r : Fin 2048) : EReal := if h : r.val + s < 2048 then X ⟨r.val + s, h⟩ else 0

theorem tap_zero (X : Fin 2048 → EReal) (r : Fin 2048) : tap X 0 r = X r := dif_pos (Nat.zero_le _)

/-- The convolution of a column, from its taps and bias. -/
abbrev convAt (X : Fin 2048 → EReal) (w0 w1 w2 w3 b : EReal) (r : Fin 2048) : EReal :=
  b + w3 * X r + w2 * tap X 1 r + w1 * tap X 2 r + w0 * tap X 3 r
/-- The gradient of `c`, from that of `silu c`. -/
abbrev dsilu (d c : EReal) : EReal := d * Ideal.logistic c + c * d * (Ideal.logistic c * (1 - Ideal.logistic c))
/-- The column's gradient, from that of its convolution. -/
abbrev convT (D : Fin 2048 → EReal) (w0 w1 w2 w3 : EReal) (r : Fin 2048) : EReal :=
  w3 * D r + w2 * ahead D 1 r + w1 * ahead D 2 r + w0 * ahead D 3 r

variable (x : Mat 4096 9728) (w : Mat 4 2048) (b : Mat 1 2048) (d : Mat 4096 2048)

/-- Column `q` of batch `n` of the convolved rows. -/
abbrev col (n : Fin 2) (q : Fin 2048) (r : Fin 2048) : EReal :=
  x (ix2 ⟨2048 * n.val + r.val, by omega⟩ ⟨1792 + q.val, by omega⟩)
/-- The convolved column. -/
abbrev cOf (n : Fin 2) (q : Fin 2048) (r : Fin 2048) : EReal :=
  convAt (col x n q) (w (ix2 0 q)) (w (ix2 1 q)) (w (ix2 2 q)) (w (ix2 3 q)) (b (ix2 0 q)) r
/-- Its gradient. -/
def dcOf (n : Fin 2) (q : Fin 2048) (r : Fin 2048) : EReal := dsilu (d (ix2 ⟨2048 * n.val + r.val, by omega⟩ q)) (cOf x w b n q r)
/-- The `silu` of the convolution. -/
abbrev actAt (n : Fin 2) (q : Fin 2048) (r : Fin 2048) : EReal := cOf x w b n q r * Ideal.logistic (cOf x w b n q r)
/-- The gradient of the convolved rows. -/
abbrev dxAt (n : Fin 2) (q : Fin 2048) (r : Fin 2048) : EReal :=
  convT (dcOf x w b d n q) (w (ix2 0 q)) (w (ix2 1 q)) (w (ix2 2 q)) (w (ix2 3 q)) r

/-- A matrix given by batches, columns and rows of the batch. -/
def batched (f : Fin 2 → Fin 2048 → Fin 2048 → EReal) : Mat 4096 2048 := fun i =>
  f ⟨(i 0).val / 2048, by have : (i 0).val < 4096 := (i 0).isLt; omega⟩ (i 1) ⟨(i 0).val % 2048, by omega⟩

/-- Column `q`'s part of tap `k`'s gradient, in batch `n`. -/
abbrev dwAt (k : Fin 4) (n : Fin 2) (q : Fin 2048) : EReal := ∑ r : Fin 2048, dcOf x w b d n q r * tap (col x n q) (3 - k.val) r
/-- The taps' gradient. -/
def dwOf : Mat 4 2048 := fun i => ∑ n : Fin 2, dwAt x w b d (i 0) n (i 1)
/-- The bias's gradient. -/
def dbOf : Mat 1 2048 := fun i => ∑ n : Fin 2, ∑ r : Fin 2048, dcOf x w b d n (i 1) r

theorem batched_at (f : Fin 2 → Fin 2048 → Fin 2048 → EReal) (i : (⟨2, ![4096, 2048]⟩ : Shape).Idx) (n : Fin 2) (q r : Fin 2048)
    (h0 : (i 0).val = 2048 * n.val + r.val) (h1 : (i 1).val = q.val) : batched f i = f n q r := by
  have hn : (⟨(i 0).val / 2048, by have : (i 0).val < 4096 := (i 0).isLt; omega⟩ : Fin 2) = n := Fin.ext (by dsimp only; omega)
  have hr : (⟨(i 0).val % 2048, by omega⟩ : Fin 2048) = r := Fin.ext (by dsimp only; omega)
  have hq : i 1 = q := Fin.ext h1
  unfold batched; rw [hn, hr, hq]

/-- Entries given by batches make up the matrix. -/
theorem eq_batched (M : Mat 4096 2048) (f : Fin 2 → Fin 2048 → Fin 2048 → EReal)
    (h : ∀ (n : Fin 2) (r q : Fin 2048), M (ix2 ⟨2048 * n.val + r.val, by omega⟩ q) = f n q r) : M = batched f := by
  funext i
  refine Eq.trans (congrArg M (funext fun a => ?_)) (h ⟨(i 0).val / 2048, by have : (i 0).val < 4096 := (i 0).isLt; omega⟩ ⟨(i 0).val % 2048, by omega⟩ (i 1))
  match a with
  | 0 => exact Fin.ext (by dsimp only; exact (Nat.div_add_mod _ _).symm)
  | 1 => rfl

theorem dwOf_at (i : (⟨2, ![4, 2048]⟩ : Shape).Idx) (k : Fin 4) (q : Fin 2048) (h0 : (i 0).val = k.val) (h1 : (i 1).val = q.val) :
    dwOf x w b d i = ∑ n : Fin 2, dwAt x w b d k n q := by
  rw [← show i 0 = k from Fin.ext h0, ← show i 1 = q from Fin.ext h1]; rfl
theorem dbOf_at (i : (⟨2, ![1, 2048]⟩ : Shape).Idx) (q : Fin 2048) (h1 : (i 1).val = q.val) :
    dbOf x w b d i = ∑ n : Fin 2, ∑ r : Fin 2048, dcOf x w b d n q r := by
  rw [← show i 1 = q from Fin.ext h1]; rfl

/-- The taps' products, in either order. -/
theorem conv_order (b a0 a1 a2 a3 : EReal) : b + a0 + a1 + a2 + a3 = b + a3 + a2 + a1 + a0 := by ac_rfl

/-- A choice by the rows' number: rows from `s` on. -/
theorem select_ge (r : Fin 2048) (s : ℕ) (hs : s < 2048) (u v : EReal) :
    Scalar.select (IntOp.cmpi CmpIPredicate.sge (BitVec.ofNat 32 r.val) (BitVec.ofNat 32 s)) u v = if s ≤ r.val then u else v := by
  rw [cmpi_sge_ofNat (by norm_num; omega) (by norm_num; omega)]
  by_cases h : s ≤ r.val <;> simp [h, Scalar.select]
/-- A choice by the rows' number: rows before `s`. -/
theorem select_lt (r : Fin 2048) (s : ℕ) (hs : s < 2048) (u v : EReal) :
    Scalar.select (IntOp.cmpi CmpIPredicate.slt (BitVec.ofNat 32 r.val) (BitVec.ofNat 32 s)) u v = if r.val < s then u else v := by
  rw [cmpi_slt_ofNat (by norm_num; omega) (by norm_num; omega)]
  by_cases h : r.val < s <;> simp [h, Scalar.select]

/-- Rows turned by `s`, with the first `s` set to zero. -/
theorem tap_eq (X : Fin 2048 → EReal) (s : ℕ) (hs : s < 2048) (r : Fin 2048) (h : (r.val + 2048 - s) % 2048 < 2048) :
    (if s ≤ r.val then X ⟨(r.val + 2048 - s) % 2048, h⟩ else 0) = tap X s r := by
  unfold tap
  by_cases e : s ≤ r.val
  · rw [if_pos e, dif_pos e]; exact congrArg X (Fin.ext (by dsimp only; omega))
  · rw [if_neg e, dif_neg e]
/-- Rows turned by `u = 2048 - s`, with the last `s` set to zero. -/
theorem ahead_eq (X : Fin 2048 → EReal) (u s : ℕ) (hs : u + s = 2048) (r : Fin 2048) (h : (r.val + 2048 - u) % 2048 < 2048) :
    (if r.val < u then X ⟨(r.val + 2048 - u) % 2048, h⟩ else 0) = ahead X s r := by
  unfold ahead
  by_cases e : r.val < u
  · rw [if_pos e, dif_pos (by omega)]; exact congrArg X (Fin.ext (by dsimp only; omega))
  · rw [if_neg e, dif_neg (by omega)]
/-- Rows turned by `s`, with the first `s` set to zero, under a factor. -/
theorem mul_tap_eq (X : Fin 2048 → EReal) (w : EReal) (s : ℕ) (hs : s < 2048) (r : Fin 2048) (h : (r.val + 2048 - s) % 2048 < 2048) :
    (if s ≤ r.val then w * X ⟨(r.val + 2048 - s) % 2048, h⟩ else 0) = w * tap X s r := by
  rw [← tap_eq X s hs r h]
  split
  · rfl
  · exact (mul_zero w).symm
/-- A later row under a factor. -/
theorem mul_ahead' (X : Fin 2048 → EReal) (w : EReal) (s : ℕ) (r : Fin 2048) :
    (if h : r.val + s < 2048 then w * X ⟨r.val + s, h⟩ else 0) = w * ahead X s r := by
  unfold ahead
  split
  · rfl
  · exact (mul_zero w).symm
/-- Rows turned by `u = 2048 - s`, with the last `s` set to zero, under a factor. -/
theorem mul_ahead_eq (X : Fin 2048 → EReal) (w : EReal) (u s : ℕ) (hs : u + s = 2048) (r : Fin 2048) (h : (r.val + 2048 - u) % 2048 < 2048) :
    (if r.val < u then w * X ⟨(r.val + 2048 - u) % 2048, h⟩ else 0) = w * ahead X s r := by
  rw [← ahead_eq X u s hs r h]
  split
  · rfl
  · exact (mul_zero w).symm

end Cert.ConvSpec

end
-- ==== Proof.ConvBwd.lean ====
/-
  THE SCAN BRANCH'S CONVOLUTION, BACKWARD. Each point holds one batch's rows of 128 columns, computes the convolution again, then
  the gradient of its rows; those of the taps and the bias are added up over the two batches.
-/
module

public import proofs.«01_k».proof.Proof.ConvSpec
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit

@[expose] public section

set_option maxRecDepth 16384

noncomputable section

namespace Cert.Kernel16Ideal.Mix

open Cert.Kernel16Ideal Cert.Kernel16Ideal.Gen Idealize.ShloMosaic Idealize.ShloMosaic.TcCoe Idealize.SL.Sem Cert.FfnSpec Cert.MixSpec Cert.ConvSpec
open Idealize.ShloMosaic.Pipeline (Dat Cfg Window BodyObligation cellOf)

variable (m : (ℓ : Loc nD τ sig) → Buf (Elt Ideal) ℓ) (c : Dev nD)

/-- The mixer's wide product, whose columns from 1792 on are convolved. -/
abbrev A0 : Mat 4096 9728 := m ((c : Thread nD τ).loc main_arg0)
/-- The four taps. -/
abbrev A1 : Mat 4 2048 := m ((c : Thread nD τ).loc main_arg1)
/-- The bias. -/
abbrev A2 : Mat 1 2048 := m ((c : Thread nD τ).loc main_arg2)
/-- The incoming gradient. -/
abbrev A3 : Mat 4096 2048 := m ((c : Thread nD τ).loc main_arg3)

theorem idx0 : ∀ t : Fin grid0.N, win0_0.index t 0 = t.val % 2 ∧ win0_0.index t 1 = t.val / 2 + 14 := by decide +kernel
theorem idx1 : ∀ t : Fin grid0.N, win0_1.index t 0 = 0 ∧ win0_1.index t 1 = t.val / 2 := by decide +kernel
theorem idx2 : ∀ t : Fin grid0.N, win0_2.index t 0 = 0 ∧ win0_2.index t 1 = t.val / 2 := by decide +kernel
theorem idx3 : ∀ t : Fin grid0.N, win0_3.index t 0 = t.val % 2 ∧ win0_3.index t 1 = t.val / 2 := by decide +kernel
theorem idx4 : ∀ t : Fin grid0.N, win0_4.index t 0 = t.val % 2 ∧ win0_4.index t 1 = t.val / 2 := by decide +kernel
theorem idx5 : ∀ t : Fin grid0.N, win0_5.index t 0 = 0 ∧ win0_5.index t 1 = t.val / 2 := by decide +kernel
theorem idx6 : ∀ t : Fin grid0.N, win0_6.index t 0 = 0 ∧ win0_6.index t 1 = t.val / 2 := by decide +kernel

/-- A point of a block, from its two coordinates. -/
theorem eta (y : S2048x128.Idx) : y = ix2 (y 0) (y 1) := funext fun a => by
  match a with
  | 0 => rfl
  | 1 => rfl
/-- The batch walked at point `t`. -/
def bat (t : Fin cfg0.N) : Fin 2 := ⟨t.val % 2, by omega⟩
/-- Column `q` of the block walked at point `t`. -/
def lane (t : Fin cfg0.N) (q : Fin 128) : Fin 2048 := ⟨128 * (t.val / 2) + q.val, by have ht : t.val < 32 := t.isLt; omega⟩
theorem blk0 (t : Fin cfg0.N) (r : Fin 2048) (q : Fin 128) : iblk m c 0 t (ix2 r q) = col (A0 m c) (bat t) (lane t q) r := by
  have ht : t.val < 32 := t.isLt
  unfold A0 bat lane
  blk_point [iblk, V, (idx0 t).1, (idx0 t).2]
theorem blk1 (t : Fin cfg0.N) (k : Fin 4) (q : Fin 128) : iblk m c 1 t (ix2 k q) = A1 m c (ix2 k (lane t q)) := by
  have ht : t.val < 32 := t.isLt
  unfold A1 lane
  blk_point [iblk, V, (idx1 t).1, (idx1 t).2]
theorem blk2 (t : Fin cfg0.N) (q : Fin 128) : iblk m c 2 t (ix2 0 q) = A2 m c (ix2 0 (lane t q)) := by
  have ht : t.val < 32 := t.isLt
  unfold A2 lane
  blk_point [iblk, V, (idx2 t).1, (idx2 t).2]
theorem blk3 (t : Fin cfg0.N) (r : Fin 2048) (q : Fin 128) : iblk m c 3 t (ix2 r q) = A3 m c (ix2 ⟨2048 * (bat t).val + r.val, by omega⟩ (lane t q)) := by
  have ht : t.val < 32 := t.isLt
  unfold A3 bat lane
  blk_point [iblk, V, (idx3 t).1, (idx3 t).2]

/-- The rows, one row earlier. -/
theorem pay5_at (v : Vec Ideal S2048x128 .f32) (r : Fin 2048) (q : Fin 128) :
    k0_pay5 v (ix2 r q) = tap (fun r => v (ix2 r q)) 1 r := by
  pointwise [k0_pay5]
  exact (select_ge r 1 (by omega) _ _).trans (tap_eq (fun r => v (ix2 r q)) 1 (by omega) r _)
/-- The rows, two rows earlier. -/
theorem pay6_at (v : Vec Ideal S2048x128 .f32) (r : Fin 2048) (q : Fin 128) :
    k0_pay6 v (ix2 r q) = tap (fun r => v (ix2 r q)) 2 r := by
  pointwise [k0_pay6]
  exact (select_ge r 2 (by omega) _ _).trans (tap_eq (fun r => v (ix2 r q)) 2 (by omega) r _)
/-- The rows, three rows earlier. -/
theorem pay7_at (v : Vec Ideal S2048x128 .f32) (r : Fin 2048) (q : Fin 128) :
    k0_pay7 v (ix2 r q) = tap (fun r => v (ix2 r q)) 3 r := by
  pointwise [k0_pay7]
  exact (select_ge r 3 (by omega) _ _).trans (tap_eq (fun r => v (ix2 r q)) 3 (by omega) r _)
/-- The convolution's gradient. -/
theorem pay9_at (v : Vec Ideal S2048x128 .f32) (w0 w1 w2 w3 b : Vec Ideal S1x128 .f32) (d : Vec Ideal S2048x128 .f32) (r : Fin 2048) (q : Fin 128) :
    k0_pay9 (k0_pay7 v) (k0_pay8 v b w3 w2 w1) w0 d (ix2 r q)
      = dsilu (d (ix2 r q)) (convAt (fun r => v (ix2 r q)) (w0 (ix2 0 q)) (w1 (ix2 0 q)) (w2 (ix2 0 q)) (w3 (ix2 0 q)) (b (ix2 0 q)) r) := by
  pointwise [k0_pay9, k0_pay8, pay5_at, pay6_at, pay7_at]
/-- The gradient of the rows, the last term. -/
theorem pay12_at (D t : FVec Ideal S2048x128 .f32) (w0 : Vec Ideal S1x128 .f32) (r : Fin 2048) (q : Fin 128) :
    k0_pay12 D t w0 (k0_pay11 (iota .tc S2048x1 32 [0] iota_S2048x1_d0_w32)) 2045#32 (ix2 r q)
      = t (ix2 r q) + w0 (ix2 0 q) * ahead (fun r => D (ix2 r q)) 3 r := by
  pointwise [k0_pay11, k0_pay12]
  refine congrArg _ ?_
  exact (select_lt r 2045 (by omega) _ _).trans (mul_ahead_eq (fun r => D (ix2 r q)) _ 2045 3 (by omega) r _)
/-- The gradient of the rows, its first three terms. -/
theorem pay10_at (a b : FVec Ideal S2048x128 .f32) (w0 w1 w2 w3 : Vec Ideal S1x128 .f32) (d : Vec Ideal S2048x128 .f32) (r : Fin 2048) (q : Fin 128) :
    k0_pay10 (iota .tc S2048x1 32 [0] iota_S2048x1_d0_w32) a b w0 d w3 w2 w1 (ix2 r q)
      = w3 (ix2 0 q) * k0_pay9 a b w0 d (ix2 r q) + w2 (ix2 0 q) * ahead (fun r => k0_pay9 a b w0 d (ix2 r q)) 1 r
        + w1 (ix2 0 q) * ahead (fun r => k0_pay9 a b w0 d (ix2 r q)) 2 r := by
  pointwise [k0_pay10]
  refine congrArg₂ _ (congrArg _ ?_) ?_
  · exact (select_lt r 2047 (by omega) _ _).trans (mul_ahead_eq (fun r => k0_pay9 a b w0 d (ix2 r q)) _ 2047 1 (by omega) r _)
  · exact (select_lt r 2046 (by omega) _ _).trans (mul_ahead_eq (fun r => k0_pay9 a b w0 d (ix2 r q)) _ 2046 2 (by omega) r _)

theorem out4_A (t : Fin cfg0.N) (h : t.val % 2 = 0) (r : Fin 2048) (q : Fin 128) :
    (outsAt0 m c t.val t.isLt).1 (ix2 r q) = dxAt (A0 m c) (A1 m c) (A2 m c) (A3 m c) (bat t) (lane t q) r := by
  rw [outsAt0_A m c t h (by omega) h (by omega) h (by omega) h (by omega) h (by omega)]
  frame_out
  refine (pay12_at _ _ _ r q).trans ?_
  rw [pay10_at]
  pointwise [pay9_at]
  simp only [blk0, blk1, blk2, blk3]
  rfl

theorem out4_B (t : Fin cfg0.N) (h : ¬t.val % 2 = 0) (r : Fin 2048) (q : Fin 128) :
    (outsAt0 m c t.val t.isLt).1 (ix2 r q) = dxAt (A0 m c) (A1 m c) (A2 m c) (A3 m c) (bat t) (lane t q) r := by
  rw [outsAt0_B m c t h (by omega) h (by omega) h (by omega) h (by omega) h (by omega)]
  frame_out
  refine (pay12_at _ _ _ r q).trans ?_
  rw [pay10_at]
  pointwise [pay9_at]
  simp only [blk0, blk1, blk2, blk3]
  rfl

/-- The gradient of the rows. -/
theorem arr4_eq : (Gen.dats m 0 c).arrAt 4 (cfgs 0).N = batched (dxAt (A0 m c) (A1 m c) (A2 m c) (A3 m c)) := by
  refine (dats m 0 c).arrAt_eq_of_covers 4 _ (by decide +kernel) fun t hf y => ?_
  have ht : t.val < 32 := t.isLt
  blk_simp
  rw [after0_4]
  rw [batched_at _ _ (bat t) (lane t (y 1)) (y 0) (by
    show _ = 2048 * (t.val % 2) + (y 0).val; blk_simp [(idx4 t).1]; omega) (by
    show _ = 128 * (t.val / 2) + (y 1).val; blk_simp [(idx4 t).2]; omega)]
  refine (congrArg (outsAt0 m c t.val t.isLt).1 (eta y)).trans ?_
  by_cases h : t.val % 2 = 0
  · exact out4_A m c t h (y 0) (y 1)
  · exact out4_B m c t h (y 0) (y 1)

/-- What a point adds to the bias's gradient. -/
def partB (t : Fin cfg0.N) (q : Fin 128) : EReal := ∑ r : Fin 2048, dcOf (A0 m c) (A1 m c) (A2 m c) (A3 m c) (bat t) (lane t q) r
/-- What a point adds to the taps' gradient. -/
def partW (t : Fin cfg0.N) (k : Fin 4) (q : Fin 128) : EReal := dwAt (A0 m c) (A1 m c) (A2 m c) (A3 m c) k (bat t) (lane t q)

theorem eta1 (y : S1x128.Idx) : y = ix2 0 (y 1) := funext fun a => by
  match a with
  | 0 => exact Fin.ext (Nat.lt_one_iff.mp (y 0).isLt)
  | 1 => rfl

theorem out6_A (t : Fin cfg0.N) (h : t.val % 2 = 0) (q : Fin 128) : (outsAt0 m c t.val t.isLt).2.2 (ix2 0 q) = partB m c t q := by
  rw [outsAt0_A m c t h (by omega) h (by omega) h (by omega) h (by omega) h (by omega)]
  frame_out
  pointwise [k0_pay3, pay9_at]
  simp only [blk0, blk1, blk2, blk3]
  rfl
theorem out6_B (t : Fin cfg0.N) (h : ¬t.val % 2 = 0) (q : Fin 128) : (outsAt0 m c t.val t.isLt).2.2 (ix2 0 q)
    = (outsAt0 m c (t.val - 1) (by have := t.isLt; omega)).2.2 (ix2 0 q) + partB m c t q := by
  rw [outsAt0_B m c t h (by omega) h (by omega) h (by omega) h (by omega) h (by omega)]
  frame_out
  pointwise [k0_pay4, k0_pay3, pay9_at]
  simp only [blk0, blk1, blk2, blk3]
  rfl
/-- A block's column of the convolution's gradient. -/
theorem dc_at (t : Fin cfg0.N) (r : Fin 2048) (q : Fin 128) :
    dsilu (iblk m c 3 t (ix2 r q)) (convAt (fun r => iblk m c 0 t (ix2 r q)) (iblk m c 1 t (ix2 0 q)) (iblk m c 1 t (ix2 1 q))
      (iblk m c 1 t (ix2 2 q)) (iblk m c 1 t (ix2 3 q)) (iblk m c 2 t (ix2 0 q)) r) = dcOf (A0 m c) (A1 m c) (A2 m c) (A3 m c) (bat t) (lane t q) r := by
  simp only [blk0, blk1, blk2, blk3]
  rfl
theorem sum0 (t : Fin cfg0.N) (q : Fin 128) :
    ∑ r : Fin 2048, dsilu (iblk m c 3 t (ix2 r q)) (convAt (fun r => iblk m c 0 t (ix2 r q)) (iblk m c 1 t (ix2 0 q)) (iblk m c 1 t (ix2 1 q))
      (iblk m c 1 t (ix2 2 q)) (iblk m c 1 t (ix2 3 q)) (iblk m c 2 t (ix2 0 q)) r) * tap (fun r => iblk m c 0 t (ix2 r q)) 3 r = partW m c t 0 q := by
  simp only [blk0, blk1, blk2, blk3]
  rfl
theorem sum1 (t : Fin cfg0.N) (q : Fin 128) :
    ∑ r : Fin 2048, dsilu (iblk m c 3 t (ix2 r q)) (convAt (fun r => iblk m c 0 t (ix2 r q)) (iblk m c 1 t (ix2 0 q)) (iblk m c 1 t (ix2 1 q))
      (iblk m c 1 t (ix2 2 q)) (iblk m c 1 t (ix2 3 q)) (iblk m c 2 t (ix2 0 q)) r) * tap (fun r => iblk m c 0 t (ix2 r q)) 2 r = partW m c t 1 q := by
  simp only [blk0, blk1, blk2, blk3]
  rfl
theorem sum2 (t : Fin cfg0.N) (q : Fin 128) :
    ∑ r : Fin 2048, dsilu (iblk m c 3 t (ix2 r q)) (convAt (fun r => iblk m c 0 t (ix2 r q)) (iblk m c 1 t (ix2 0 q)) (iblk m c 1 t (ix2 1 q))
      (iblk m c 1 t (ix2 2 q)) (iblk m c 1 t (ix2 3 q)) (iblk m c 2 t (ix2 0 q)) r) * tap (fun r => iblk m c 0 t (ix2 r q)) 1 r = partW m c t 2 q := by
  simp only [blk0, blk1, blk2, blk3]
  rfl
theorem sum3 (t : Fin cfg0.N) (q : Fin 128) :
    ∑ r : Fin 2048, dsilu (iblk m c 3 t (ix2 r q)) (convAt (fun r => iblk m c 0 t (ix2 r q)) (iblk m c 1 t (ix2 0 q)) (iblk m c 1 t (ix2 1 q))
      (iblk m c 1 t (ix2 2 q)) (iblk m c 1 t (ix2 3 q)) (iblk m c 2 t (ix2 0 q)) r) * iblk m c 0 t (ix2 r q) = partW m c t 3 q := by
  simp only [blk0, blk1, blk2, blk3]
  exact Finset.sum_congr rfl fun r _ => congrArg _ (tap_zero _ r).symm

theorem out5_A (t : Fin cfg0.N) (h : t.val % 2 = 0) (y : S4x128.Idx) : (outsAt0 m c t.val t.isLt).2.1 y = partW m c t (y 0) (y 1) := by
  rw [outsAt0_A m c t h (by omega) h (by omega) h (by omega) h (by omega) h (by omega)]
  frame_out
  canon_tiles x h
  · pointwise [k0_pay1, k0_pay19, k0_pay13, k0_pay15, k0_pay17, pay5_at, pay6_at, pay7_at, pay9_at]
    exact (sum0 m c t (x 1)).trans (congrArg₂ (partW m c t) (Fin.ext (by show 0 = (y 0).val; omega)) (Fin.ext h1.symm))
  · pointwise [k0_pay1, k0_pay19, k0_pay13, k0_pay15, k0_pay17, pay5_at, pay6_at, pay7_at, pay9_at]
    exact (sum1 m c t (x 1)).trans (congrArg₂ (partW m c t) (Fin.ext (by show 1 = (y 0).val; omega)) (Fin.ext h1.symm))
  · pointwise [k0_pay1, k0_pay19, k0_pay13, k0_pay15, k0_pay17, pay5_at, pay6_at, pay7_at, pay9_at]
    exact (sum2 m c t (x 1)).trans (congrArg₂ (partW m c t) (Fin.ext (by show 2 = (y 0).val; omega)) (Fin.ext h1.symm))
  · pointwise [k0_pay1, k0_pay19, k0_pay13, k0_pay15, k0_pay17, pay5_at, pay6_at, pay7_at, pay9_at]
    exact (sum3 m c t (x 1)).trans (congrArg₂ (partW m c t) (Fin.ext (by show 3 = (y 0).val; omega)) (Fin.ext h1.symm))
theorem out5_B (t : Fin cfg0.N) (h : ¬t.val % 2 = 0) (y : S4x128.Idx) : (outsAt0 m c t.val t.isLt).2.1 y
    = (outsAt0 m c (t.val - 1) (by have := t.isLt; omega)).2.1 y + partW m c t (y 0) (y 1) := by
  rw [outsAt0_B m c t h (by omega) h (by omega) h (by omega) h (by omega) h (by omega)]
  frame_out
  canon_tiles x h
  · have hy : y = ix2 0 (x 1) := funext fun a => Fin.ext (by
      match a with
      | 0 => show (y 0).val = 0; omega
      | 1 => exact h1)
    pointwise [k0_pay2, k0_pay14, k0_pay16, k0_pay18, k0_pay1, k0_pay19, k0_pay13, k0_pay15, k0_pay17, pay5_at, pay6_at, pay7_at, pay9_at]
    exact congrArg₂ (· + ·) (congrArg _ hy.symm) ((sum0 m c t (x 1)).trans (congrArg₂ (partW m c t) (Fin.ext (by show 0 = (y 0).val; omega)) (Fin.ext h1.symm)))
  · have hy : y = ix2 1 (x 1) := funext fun a => Fin.ext (by
      match a with
      | 0 => show (y 0).val = 1; omega
      | 1 => exact h1)
    pointwise [k0_pay2, k0_pay14, k0_pay16, k0_pay18, k0_pay1, k0_pay19, k0_pay13, k0_pay15, k0_pay17, pay5_at, pay6_at, pay7_at, pay9_at]
    exact congrArg₂ (· + ·) (congrArg _ hy.symm) ((sum1 m c t (x 1)).trans (congrArg₂ (partW m c t) (Fin.ext (by show 1 = (y 0).val; omega)) (Fin.ext h1.symm)))
  · have hy : y = ix2 2 (x 1) := funext fun a => Fin.ext (by
      match a with
      | 0 => show (y 0).val = 2; omega
      | 1 => exact h1)
    pointwise [k0_pay2, k0_pay14, k0_pay16, k0_pay18, k0_pay1, k0_pay19, k0_pay13, k0_pay15, k0_pay17, pay5_at, pay6_at, pay7_at, pay9_at]
    exact congrArg₂ (· + ·) (congrArg _ hy.symm) ((sum2 m c t (x 1)).trans (congrArg₂ (partW m c t) (Fin.ext (by show 2 = (y 0).val; omega)) (Fin.ext h1.symm)))
  · have hy : y = ix2 3 (x 1) := funext fun a => Fin.ext (by
      match a with
      | 0 => show (y 0).val = 3; omega
      | 1 => exact h1)
    pointwise [k0_pay2, k0_pay14, k0_pay16, k0_pay18, k0_pay1, k0_pay19, k0_pay13, k0_pay15, k0_pay17, pay5_at, pay6_at, pay7_at, pay9_at]
    exact congrArg₂ (· + ·) (congrArg _ hy.symm) ((sum3 m c t (x 1)).trans (congrArg₂ (partW m c t) (Fin.ext (by show 3 = (y 0).val; omega)) (Fin.ext h1.symm)))

/-- The taps' gradient over both batches. -/
theorem acc5 (t : Fin cfg0.N) (h1 : t.val % 2 = 1) (k : Fin 4) (q : Fin 128) :
    (outsAt0 m c t.val t.isLt).2.1 (ix2 k q) = ∑ n : Fin 2, dwAt (A0 m c) (A1 m c) (A2 m c) (A3 m c) k n (lane t q) := by
  have ht : t.val < 32 := t.isLt
  rw [Pipeline.eq_sum_fin_of_reset_step_apply_of_flush (fun n h => (outsAt0 m c n h).2.1) 2 (fun _ => 0)
    (fun t j => partW m c t (j 0) (j 1))
    (fun t h j => (out5_A m c t h j).trans (zero_add _).symm)
    (fun t h j => out5_B m c t h j) t h1, zero_add]
  unfold partW
  refine Finset.sum_congr rfl fun n _ => ?_
  have hn := n.isLt
  have hb : bat ⟨2 * (t.val / 2) + n.val, by show _ < 32; omega⟩ = n := Fin.ext (by show (2 * (t.val / 2) + n.val) % 2 = n.val; omega)
  have hl : lane ⟨2 * (t.val / 2) + n.val, by show _ < 32; omega⟩ q = lane t q := Fin.ext (by
    show 128 * ((2 * (t.val / 2) + n.val) / 2) + q.val = 128 * (t.val / 2) + q.val; omega)
  exact congrArg₂ (dwAt (A0 m c) (A1 m c) (A2 m c) (A3 m c) k) hb hl

/-- The bias's gradient over both batches. -/
theorem acc6 (t : Fin cfg0.N) (h1 : t.val % 2 = 1) (q : Fin 128) :
    (outsAt0 m c t.val t.isLt).2.2 (ix2 0 q) = ∑ n : Fin 2, ∑ r : Fin 2048, dcOf (A0 m c) (A1 m c) (A2 m c) (A3 m c) n (lane t q) r := by
  have ht : t.val < 32 := t.isLt
  rw [Pipeline.eq_sum_fin_of_reset_step_apply_of_flush (fun n h => (outsAt0 m c n h).2.2) 2 (fun _ => 0)
    (fun t j => partB m c t (j 1))
    (fun t h j => ((congrArg _ (eta1 j)).trans (out6_A m c t h (j 1))).trans (zero_add _).symm)
    (fun t h j => ((congrArg _ (eta1 j)).trans (out6_B m c t h (j 1))).trans (congrArg (· + _) (congrArg _ (eta1 j).symm))) t h1, zero_add]
  unfold partB
  refine Finset.sum_congr rfl fun n _ => ?_
  have hn := n.isLt
  have hb : bat ⟨2 * (t.val / 2) + n.val, by show _ < 32; omega⟩ = n := Fin.ext (by show (2 * (t.val / 2) + n.val) % 2 = n.val; omega)
  have hl : lane ⟨2 * (t.val / 2) + n.val, by show _ < 32; omega⟩ q = lane t q := Fin.ext (by
    show 128 * ((2 * (t.val / 2) + n.val) / 2) + q.val = 128 * (t.val / 2) + q.val; omega)
  exact congrArg₂ (fun n q => ∑ r : Fin 2048, dcOf (A0 m c) (A1 m c) (A2 m c) (A3 m c) n q r) hb hl

theorem eta4 (y : S4x128.Idx) : y = ix2 (y 0) (y 1) := funext fun a => by
  match a with
  | 0 => rfl
  | 1 => rfl

/-- The taps' gradient. -/
theorem arr5_eq : (Gen.dats m 0 c).arrAt 5 (cfgs 0).N = dwOf (A0 m c) (A1 m c) (A2 m c) (A3 m c) := by
  refine (dats m 0 c).arrAt_eq_of_covers 5 _ (by decide +kernel) fun t hf y => ?_
  have ht : t.val < 32 := t.isLt
  have h1 := (flush0_5 t).mp hf
  blk_simp
  rw [after0_5]
  rw [dwOf_at _ _ _ _ _ (y 0) (lane t (y 1)) (by blk_simp [(idx5 t).1]) (by
    show _ = 128 * (t.val / 2) + (y 1).val; blk_simp [(idx5 t).2]; omega)]
  exact (congrArg (outsAt0 m c t.val t.isLt).2.1 (eta4 y)).trans (acc5 m c t h1 (y 0) (y 1))

/-- The bias's gradient. -/
theorem arr6_eq : (Gen.dats m 0 c).arrAt 6 (cfgs 0).N = dbOf (A0 m c) (A1 m c) (A2 m c) (A3 m c) := by
  refine (dats m 0 c).arrAt_eq_of_covers 6 _ (by decide +kernel) fun t hf y => ?_
  have ht : t.val < 32 := t.isLt
  have h1 := (flush0_6 t).mp hf
  blk_simp
  rw [after0_6]
  rw [dbOf_at _ _ _ _ _ (lane t (y 1)) (by
    show _ = 128 * (t.val / 2) + (y 1).val; blk_simp [(idx6 t).2]; omega)]
  exact (congrArg (outsAt0 m c t.val t.isLt).2.2 (eta1 y)).trans (acc6 m c t h1 (y 1))

/-- The kernel's run. -/
theorem run_kernel (ρ : Dev nD → PrngReg) :
    θ_run defs (onTc (τ := τ) (main (F := Ideal))) ⟨m, fun _ => 0, ρ⟩ fun r => ∀ c : Dev nD,
      r.2.mem ((c : Thread nD τ).loc main_v0_0) = batched (dxAt (A0 m c) (A1 m c) (A2 m c) (A3 m c))
      ∧ r.2.mem ((c : Thread nD τ).loc main_v0_1) = dwOf (A0 m c) (A1 m c) (A2 m c) (A3 m c)
      ∧ r.2.mem ((c : Thread nD τ).loc main_v0_2) = dbOf (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4_eq m c), (h c).2.1.trans (arr5_eq m c), (h c).2.2.1.trans (arr6_eq m c), (h c).2.2.2⟩) (Value.run_blocks m ρ)

end Cert.Kernel16Ideal.Mix

end
-- ==== Proof.ConvBwdRef.lean ====
module

public import proofs.«01_k».proof.Proof.ConvSpec
public import proofs.«01_k».proof.Proof.Gen.Reference16Ideal.Run
public import proofs.«01_k».proof.Proof.Gen.Reference16Ideal.Read
public import Idealize.ShloMosaic.Lib.Pipeline.ValueKit

@[expose] public section

set_option maxRecDepth 16384

noncomputable section

namespace Cert.Reference16Ideal.Mix

open Cert.Reference16Ideal Cert.Reference16Ideal.Gen Cert.Reference16Ideal.Read Idealize.ShloMosaic Idealize.ShloMosaic.TcCoe Idealize.SL.Sem Cert.FfnSpec Cert.MixSpec Cert.ConvSpec

variable (x : Mat 4096 9728) (w : Mat 4 2048) (b : Mat 1 2048) (d : Mat 4096 2048)

/-- The column, three zeros before it. -/
theorem v3_at (s : ℕ) (k : ℕ) (hk : k + s = 3) (n : Fin 2) (r q : Fin 2048) (h : k + r.val < 2051) :
    val_main_v3 (F := Ideal) x (ix3 n ⟨k + r.val, h⟩ q) = tap (col x n q) s r := by
  unfold tap
  by_cases e : s ≤ r.val
  · rw [dif_pos e]
    pointwise [val_main_v3, val_main_v2, val_main_v1, val_main_v0, val_main_cst]
    rw [dif_neg (by omega)]
    exact congrArg x (congrArg (ix2 · _) (Fin.ext (by dsimp only; omega)))
  · rw [dif_neg e]
    pointwise [val_main_v3, val_main_v2, val_main_v1, val_main_v0, val_main_cst]
    rw [dif_pos (by omega)]
theorem v3_0 (n : Fin 2) (r q : Fin 2048) (h : r.val < 2051) : val_main_v3 (F := Ideal) x (ix3 n ⟨r.val, h⟩ q) = tap (col x n q) 3 r := by
  rw [← v3_at x 3 0 rfl n r q (by omega)]
  exact congrArg (val_main_v3 (F := Ideal) x) (congrArg (ix3 n · q) (Fin.ext (Nat.zero_add _).symm))
theorem v3_1 (n : Fin 2) (r q : Fin 2048) (h : 1 + r.val < 2051) : val_main_v3 (F := Ideal) x (ix3 n ⟨1 + r.val, h⟩ q) = tap (col x n q) 2 r :=
  v3_at x 2 1 rfl n r q h
theorem v3_2 (n : Fin 2) (r q : Fin 2048) (h : 2 + r.val < 2051) : val_main_v3 (F := Ideal) x (ix3 n ⟨2 + r.val, h⟩ q) = tap (col x n q) 1 r :=
  v3_at x 1 2 rfl n r q h
theorem v3_3 (n : Fin 2) (r q : Fin 2048) (h : 3 + r.val < 2051) : val_main_v3 (F := Ideal) x (ix3 n ⟨3 + r.val, h⟩ q) = col x n q r :=
  (v3_at x 0 3 rfl n r q h).trans (dif_pos (Nat.zero_le _))

/-- The convolution: the reference adds the taps up from the earliest. -/
theorem c_at (n : Fin 2) (r q : Fin 2048) : val_main_v34 (F := Ideal) x w b (ix3 n r q) = cOf x w b n q r := by
  unfold cOf convAt
  rw [← conv_order]
  pointwise [val_main_cst, val_main_cst_0, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, v3_0, v3_1, v3_2, v3_3]

/-- The convolution's gradient. -/
theorem dc_at (n : Fin 2) (r q : Fin 2048) : val_main_v38 (F := Ideal) x w b d (ix3 n r q) = dcOf x w b d n q r := by
  unfold dcOf dsilu
  rw [← c_at]
  pointwise [val_main_call0_v0, val_main_call0_v1, val_main_call0_cst, val_main_call0_v2, val_main_call0_v3, val_main_call0_cst_0, val_main_call0_v4, val_main_v35_2, val_main_call0_cst_1, val_main_call0_v6, val_main_call0_v7, val_main_v35_1, val_main_v35_0, val_main_call1_v0, val_main_call1_v1, val_main_call1_v2, val_main_v37, val_main_v38, Ideal.logistic]
  simp only [Nat.mul_comm 2048]
/-- The gradient of the padded columns is a sum of four, shifted. -/
theorem res_dx : val_main_v88 (F := Ideal) x w b d = batched (dxAt x w b d) := by
  refine eq_batched _ _ fun n r q => ?_
  pointwise [val_main_v5, val_main_v6, val_main_v8, val_main_v14, val_main_v15, val_main_v17, val_main_v21, val_main_v22, val_main_v24, val_main_v28, val_main_v29, val_main_v31, val_main_v39, val_main_v40, val_main_cst_3, val_main_v45, val_main_v48, val_main_v49, val_main_cst_7, val_main_v54, val_main_v55, val_main_v59, val_main_v60, val_main_cst_11, val_main_v65, val_main_v66, val_main_v74, val_main_v75, val_main_cst_17, val_main_v80, val_main_v81, val_main_v86, val_main_v87, val_main_v88, dc_at]
  unfold dxAt convT
  refine congrArg₂ _ (congrArg₂ _ (congrArg _ ?_) ?_) ?_
  · rw [← mul_ahead' (s := 1)]
    split
    · rename_i e; rw [dif_pos (by omega)]; exact congrArg (_ * dcOf x w b d n q ·) (Fin.ext (by dsimp only; omega))
    · rename_i e; rw [dif_neg (by omega)]
  · rw [← mul_ahead' (s := 2)]
    split
    · rename_i e; rw [dif_pos (by omega)]; exact congrArg (_ * dcOf x w b d n q ·) (Fin.ext (by dsimp only; omega))
    · rename_i e; rw [dif_neg (by omega)]
  · rw [← mul_ahead' (s := 3)]
    split
    · rename_i e; rw [dif_pos (by omega)]; exact congrArg (_ * dcOf x w b d n q ·) (Fin.ext (by dsimp only; omega))
    · rename_i e; rw [dif_neg (by omega)]

/-- The host's sum over the first two of three axes. -/
theorem sum_first_two (a c : ℕ) (X : (⟨3, ![a, c, 2048]⟩ : Shape).Idx → EReal) (r : (⟨3, ![a, c, 2048]⟩ : Shape).ReducesTo [0, 1] S2048) (q : Fin 2048) :
    Ideal.hostReduceAdd r X 0 (ix1 q) = ∑ n : Fin a, ∑ k : Fin c, X (ix3 n k q) := by
  unfold Ideal.hostReduceAdd
  rw [zero_add, ← Fintype.sum_prod_type' (f := fun n k => X (ix3 n k q))]
  have hd : ∀ y : (⟨3, ![a, c, 2048]⟩ : Shape).Idx, r.drop y = ix1 (y 2) := fun y => by
    funext e
    match e with
    | ⟨0, _⟩ => rfl
  have hy3 : ∀ y : (⟨3, ![a, c, 2048]⟩ : Shape).Idx, r.drop y = ix1 q → ix3 (y 0) (y 1) q = y := fun y hy => by
    rw [hd] at hy
    have h2 : y 2 = q := congrFun hy 0
    funext e
    match e with
    | ⟨0, _⟩ => rfl
    | ⟨1, _⟩ => rfl
    | ⟨2, _⟩ => exact h2.symm
  refine Finset.sum_bij' (fun y _ => (y 0, y 1)) (fun p _ => ix3 p.1 p.2 q) (fun _ _ => Finset.mem_univ _) (fun p _ => ?_) (fun y hy => ?_) (fun p _ => rfl) (fun y hy => ?_)
  · simp only [Finset.mem_filter, Finset.mem_univ, true_and, hd]; rfl
  · exact hy3 y (Finset.mem_filter.1 hy).2
  · exact congrArg X (hy3 y (Finset.mem_filter.1 hy).2).symm

theorem res_db : val_main_v73 (F := Ideal) x w b d = dbOf x w b d := by
  funext i
  unfold dbOf
  pointwise [val_main_v73, val_main_v72, val_main_v71, val_main_v70, val_main_cst_13, val_main_cst_14, sum_first_two, dc_at, Fin.sum_univ_one]
theorem dw_at (k : Fin 4) (q : Fin 2048) : val_main_v84 (F := Ideal) x w b d (ix2 k q) = ∑ n : Fin 2, dwAt x w b d k n q := by
  pointwise [val_main_cst_0, val_main_v7, val_main_v16, val_main_v23, val_main_v30, val_main_v41, val_main_cst_1, val_main_v42, val_main_v43, val_main_cst_2, val_main_v44, val_main_cst_3, val_main_v46, val_main_cst_4, val_main_v47, val_main_v50, val_main_cst_5, val_main_v51, val_main_v52, val_main_cst_6, val_main_v53, val_main_cst_7, val_main_v56, val_main_cst_8, val_main_v57, val_main_v58, val_main_v61, val_main_cst_9, val_main_v62, val_main_v63, val_main_cst_10, val_main_v64, val_main_cst_11, val_main_v67, val_main_cst_12, val_main_v68, val_main_v69, val_main_cst_13, val_main_cst_14, val_main_v76, val_main_cst_15, val_main_v77, val_main_v78, val_main_cst_16, val_main_v79, val_main_cst_17, val_main_v82, val_main_cst_18, val_main_v83, val_main_v84, v3_0, v3_1, v3_2, v3_3, dc_at, sum_first_two, Fin.sum_univ_one]
  match k with
  | 0 =>
    refine (congrArg₂ (· + ·) (congrArg₂ (· + ·) (congrArg₂ (· + ·) (dif_neg (by decide)) (dif_neg (by decide))) (dif_neg (by decide))) (dif_pos (by decide))).trans ?_
    simp only [zero_add, add_zero]
    rfl
  | 1 =>
    refine (congrArg₂ (· + ·) (congrArg₂ (· + ·) (congrArg₂ (· + ·) (dif_neg (by decide)) (dif_neg (by decide))) (dif_pos (by decide))) (dif_neg (by decide))).trans ?_
    simp only [zero_add, add_zero]
    rfl
  | 2 =>
    refine (congrArg₂ (· + ·) (congrArg₂ (· + ·) (congrArg₂ (· + ·) (dif_neg (by decide)) (dif_pos (by decide))) (dif_neg (by decide))) (dif_neg (by decide))).trans ?_
    simp only [zero_add, add_zero]
    rfl
  | 3 =>
    refine (congrArg₂ (· + ·) (congrArg₂ (· + ·) (congrArg₂ (· + ·) (dif_pos (by decide)) (dif_neg (by decide))) (dif_neg (by decide))) (dif_neg (by decide))).trans ?_
    simp only [zero_add, add_zero]
    exact Finset.sum_congr rfl fun n _ => Finset.sum_congr rfl fun r _ => congrArg (dcOf x w b d n q r * ·) (tap_zero (col x n q) r).symm
theorem res_dw : val_main_v84 (F := Ideal) x w b d = dwOf x w b d := by
  funext i
  have e : i = ix2 (i 0) (i 1) := funext fun a => by
    match a with
    | 0 => rfl
    | 1 => rfl
  exact (congrArg (val_main_v84 (F := Ideal) x w b d) e).trans (dw_at x w b d (i 0) (i 1))

end Cert.Reference16Ideal.Mix

end
-- ==== Proof.ConvFwd.lean ====
/-
  THE SCAN BRANCH'S CONVOLUTION, FORWARD. Each point holds one batch's rows of 128 columns, turns them by one, two and three rows
  under a mask, and adds the four products.
-/
module

public import proofs.«01_k».proof.Proof.ConvSpec
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit

@[expose] public section

set_option maxRecDepth 16384

noncomputable section

namespace Cert.Kernel17Ideal.Mix

open Cert.Kernel17Ideal Cert.Kernel17Ideal.Gen Idealize.ShloMosaic Idealize.ShloMosaic.TcCoe Idealize.SL.Sem Cert.FfnSpec Cert.MixSpec Cert.ConvSpec
open Idealize.ShloMosaic.Pipeline (Dat Cfg Window BodyObligation cellOf)

variable (m : (ℓ : Loc nD τ sig) → Buf (Elt Ideal) ℓ) (c : Dev nD)

/-- The mixer's wide product, whose columns from 1792 on are convolved. -/
abbrev A0 : Mat 4096 9728 := m ((c : Thread nD τ).loc main_arg0)
/-- The four taps. -/
abbrev A1 : Mat 4 2048 := m ((c : Thread nD τ).loc main_arg1)
/-- The bias. -/
abbrev A2 : Mat 1 2048 := m ((c : Thread nD τ).loc main_arg2)

theorem idx0 : ∀ t : Fin grid0.N, win0_0.index t 0 = t.val / 16 ∧ win0_0.index t 1 = t.val % 16 + 14 := by decide +kernel
theorem idx1 : ∀ t : Fin grid0.N, win0_1.index t 0 = 0 ∧ win0_1.index t 1 = t.val % 16 := by decide +kernel
theorem idx2 : ∀ t : Fin grid0.N, win0_2.index t 0 = 0 ∧ win0_2.index t 1 = t.val % 16 := by decide +kernel
theorem idx3 : ∀ t : Fin grid0.N, win0_3.index t 0 = t.val / 16 ∧ win0_3.index t 1 = t.val % 16 := by decide +kernel

/-- A point of a block, from its two coordinates. -/
theorem eta (y : S2048x128.Idx) : y = ix2 (y 0) (y 1) := funext fun a => by
  match a with
  | 0 => rfl
  | 1 => rfl
/-- The batch walked at point `t`. -/
def bat (t : Fin cfg0.N) : Fin 2 := ⟨t.val / 16, by have ht : t.val < 32 := t.isLt; omega⟩
/-- Column `q` of the block walked at point `t`. -/
def lane (t : Fin cfg0.N) (q : Fin 128) : Fin 2048 := ⟨128 * (t.val % 16) + q.val, by have ht : t.val < 32 := t.isLt; omega⟩
theorem blk0 (t : Fin cfg0.N) (r : Fin 2048) (q : Fin 128) : iblk m c 0 t (ix2 r q) = col (A0 m c) (bat t) (lane t q) r := by
  have ht : t.val < 32 := t.isLt
  unfold A0 bat lane
  blk_point [iblk, V, (idx0 t).1, (idx0 t).2]
theorem blk1 (t : Fin cfg0.N) (k : Fin 4) (q : Fin 128) : iblk m c 1 t (ix2 k q) = A1 m c (ix2 k (lane t q)) := by
  have ht : t.val < 32 := t.isLt
  unfold A1 lane
  blk_point [iblk, V, (idx1 t).1, (idx1 t).2]
theorem blk2 (t : Fin cfg0.N) (q : Fin 128) : iblk m c 2 t (ix2 0 q) = A2 m c (ix2 0 (lane t q)) := by
  have ht : t.val < 32 := t.isLt
  unfold A2 lane
  blk_point [iblk, V, (idx2 t).1, (idx2 t).2]

/-- What the convolution adds up before the earliest tap. -/
theorem pay2_at (v : Vec Ideal S2048x128 .f32) (w1 w2 w3 b : Vec Ideal S1x128 .f32) (r : Fin 2048) (q : Fin 128) :
    k0_pay2 v b w3 w2 w1 (ix2 r q) = b (ix2 0 q) + w3 (ix2 0 q) * v (ix2 r q) + w2 (ix2 0 q) * tap (fun r => v (ix2 r q)) 1 r
      + w1 (ix2 0 q) * tap (fun r => v (ix2 r q)) 2 r := by
  pointwise [k0_pay2]
  refine congrArg₂ _ (congrArg _ ?_) ?_
  · exact (select_ge r 1 (by omega) _ _).trans (mul_tap_eq (fun r => v (ix2 r q)) _ 1 (by omega) r _)
  · exact (select_ge r 2 (by omega) _ _).trans (mul_tap_eq (fun r => v (ix2 r q)) _ 2 (by omega) r _)
/-- The activation. -/
theorem pay1_at (v : Vec Ideal S2048x128 .f32) (w0 w1 w2 w3 b : Vec Ideal S1x128 .f32) (r : Fin 2048) (q : Fin 128) :
    k0_pay1 (k0_pay2 v b w3 w2 w1) w0 (k0_pay3 v) k0_pay4 (k0_pay5 (F := Ideal)) (ix2 r q)
      = convAt (fun r => v (ix2 r q)) (w0 (ix2 0 q)) (w1 (ix2 0 q)) (w2 (ix2 0 q)) (w3 (ix2 0 q)) (b (ix2 0 q)) r
        * Ideal.logistic (convAt (fun r => v (ix2 r q)) (w0 (ix2 0 q)) (w1 (ix2 0 q)) (w2 (ix2 0 q)) (w3 (ix2 0 q)) (b (ix2 0 q)) r) := by
  have e := (select_ge r 3 (by omega) _ _).trans (mul_tap_eq (fun r => v (ix2 r q)) (w0 (ix2 0 q)) 3 (by omega) r (by omega))
  beta_reduce at e
  pointwise [k0_pay1, k0_pay3, k0_pay4, k0_pay5, pay2_at]
  rw [e]

/-- What point `t` leaves. -/
theorem out_at (t : Fin cfg0.N) (r : Fin 2048) (q : Fin 128) :
    out0_3 (iblk m c 0 t) (iblk m c 1 t) (iblk m c 2 t) (ix2 r q) = actAt (A0 m c) (A1 m c) (A2 m c) (bat t) (lane t q) r := by
  unfold out0_3
  frame_out
  pointwise [pay1_at]
  simp only [blk0, blk1, blk2]

/-- The activation's array. -/
theorem arr3_eq : (Gen.dats m 0 c).arrAt 3 (cfgs 0).N = batched (actAt (A0 m c) (A1 m c) (A2 m c)) := by
  refine (dats m 0 c).arrAt_eq_of_covers 3 _ (by decide +kernel) fun t hf y => ?_
  have ht : t.val < 32 := t.isLt
  blk_simp
  rw [after0_3]
  rw [batched_at _ _ (bat t) (lane t (y 1)) (y 0) (by
    show _ = 2048 * (t.val / 16) + (y 0).val; blk_simp [(idx3 t).1]; omega) (by
    show _ = 128 * (t.val % 16) + (y 1).val; blk_simp [(idx3 t).2]; omega)]
  exact (congrArg (out0_3 (iblk m c 0 t) (iblk m c 1 t) (iblk m c 2 t)) (eta y)).trans (out_at m c t (y 0) (y 1))

/-- The kernel's run. -/
theorem run_kernel (ρ : Dev nD → PrngReg) :
    θ_run defs (onTc (τ := τ) (main (F := Ideal))) ⟨m, fun _ => 0, ρ⟩ fun r => ∀ c : Dev nD,
      r.2.mem ((c : Thread nD τ).loc main_v0) = batched (actAt (A0 m c) (A1 m c) (A2 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3_eq m c), (h c).2⟩) (Value.run_blocks m ρ)

end Cert.Kernel17Ideal.Mix

end
-- ==== Proof.ConvFwdRef.lean ====
module

public import proofs.«01_k».proof.Proof.ConvSpec
public import proofs.«01_k».proof.Proof.Gen.Reference17Ideal.Run
public import proofs.«01_k».proof.Proof.Gen.Reference17Ideal.Read
public import Idealize.ShloMosaic.Lib.Pipeline.ValueKit

@[expose] public section

set_option maxRecDepth 16384

noncomputable section

namespace Cert.Reference17Ideal.Mix

open Cert.Reference17Ideal Cert.Reference17Ideal.Gen Cert.Reference17Ideal.Read Idealize.ShloMosaic Idealize.ShloMosaic.TcCoe Idealize.SL.Sem Cert.FfnSpec Cert.MixSpec Cert.ConvSpec

variable (x : Mat 4096 9728) (w : Mat 4 2048) (b : Mat 1 2048) (d : Mat 4096 2048)

/-- The column, three zeros before it. -/
theorem v3_at (s : ℕ) (k : ℕ) (hk : k + s = 3) (n : Fin 2) (r q : Fin 2048) (h : k + r.val < 2051) :
    val_main_v3 (F := Ideal) x (ix3 n ⟨k + r.val, h⟩ q) = tap (col x n q) s r := by
  unfold tap
  by_cases e : s ≤ r.val
  · rw [dif_pos e]
    pointwise [val_main_v3, val_main_v2, val_main_v1, val_main_v0, val_main_cst]
    rw [dif_neg (by omega)]
    exact congrArg x (congrArg (ix2 · _) (Fin.ext (by dsimp only; omega)))
  · rw [dif_neg e]
    pointwise [val_main_v3, val_main_v2, val_main_v1, val_main_v0, val_main_cst]
    rw [dif_pos (by omega)]
theorem v3_0 (n : Fin 2) (r q : Fin 2048) (h : r.val < 2051) : val_main_v3 (F := Ideal) x (ix3 n ⟨r.val, h⟩ q) = tap (col x n q) 3 r := by
  rw [← v3_at x 3 0 rfl n r q (by omega)]
  exact congrArg (val_main_v3 (F := Ideal) x) (congrArg (ix3 n · q) (Fin.ext (Nat.zero_add _).symm))
theorem v3_1 (n : Fin 2) (r q : Fin 2048) (h : 1 + r.val < 2051) : val_main_v3 (F := Ideal) x (ix3 n ⟨1 + r.val, h⟩ q) = tap (col x n q) 2 r :=
  v3_at x 2 1 rfl n r q h
theorem v3_2 (n : Fin 2) (r q : Fin 2048) (h : 2 + r.val < 2051) : val_main_v3 (F := Ideal) x (ix3 n ⟨2 + r.val, h⟩ q) = tap (col x n q) 1 r :=
  v3_at x 1 2 rfl n r q h
theorem v3_3 (n : Fin 2) (r q : Fin 2048) (h : 3 + r.val < 2051) : val_main_v3 (F := Ideal) x (ix3 n ⟨3 + r.val, h⟩ q) = col x n q r :=
  (v3_at x 0 3 rfl n r q h).trans (dif_pos (Nat.zero_le _))

/-- The convolution: the reference adds the taps up from the earliest. -/
theorem c_at (n : Fin 2) (r q : Fin 2048) : val_main_v33 (F := Ideal) x w b (ix3 n r q) = cOf x w b n q r := by
  unfold cOf convAt
  rw [← conv_order]
  pointwise [val_main_cst, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, v3_0, v3_1, v3_2, v3_3]

theorem res_act : val_main_v35 (F := Ideal) x w b = batched (actAt x w b) := by
  refine eq_batched _ _ fun n r q => ?_
  unfold actAt
  rw [← c_at]
  pointwise [val_main_call0_v0, val_main_call0_v1, val_main_call0_cst, val_main_call0_v2, val_main_call0_v3, val_main_call0_cst_0, val_main_call0_v4, val_main_call0_v5, val_main_v35, val_main_v34, Ideal.logistic]

end Cert.Reference17Ideal.Mix

end
-- ==== Proof.PoolSpec.lean ====
/-
  THE MULTI-SCALE POOLING. Columns come in four groups of 192, averaged over the last 2, 4, 8 and 16 rows of the batch (over
  fewer near its start), and the column itself is taken off. Sums over a window are built by doubling in the kernel and by a
  band matrix in the reference.
-/
module

public import proofs.«01_k».proof.Proof.ConvSpec

@[expose] public section

set_option maxRecDepth 16384

noncomputable section

namespace Cert.PoolSpec

open Idealize.ShloMosaic WordCmp Cert.FfnSpec Cert.MixSpec Cert.ConvSpec

/-- The number of rows averaged at row `r`, at most `w`. -/
abbrev cnt (w : ℕ) (r : Fin 2048) : EReal :=
  FloatOps.sitofp (F := Ideal) FTy.f32 (IntOp.minsi (IntOp.addi (BitVec.ofNat 32 r.val) 1#32) (BitVec.ofNat 32 w))
/-- The sum of the last `n` rows of a column. -/
def win (X : Fin 2048 → EReal) (n : ℕ) (r : Fin 2048) : EReal := ∑ k ∈ Finset.range n, tap X k r
/-- The sum of the next `n` rows of a column, this one included. -/
def fore (X : Fin 2048 → EReal) (n : ℕ) (r : Fin 2048) : EReal := ∑ k ∈ Finset.range n, ahead X k r
/-- The window of column `q`. -/
def wid (q : Fin 768) : ℕ := if q.val / 192 = 0 then 2 else if q.val / 192 = 1 then 4 else if q.val / 192 = 2 then 8 else 16
/-- The pooled column less itself. -/
abbrev poolAt (X : Fin 2048 → EReal) (w : ℕ) (r : Fin 2048) : EReal := win X w r * Ideal.div 1 (cnt w r) - X r
/-- The gradient of the column, from that of its pooled rest. -/
abbrev poolT (D : Fin 2048 → EReal) (w : ℕ) (r : Fin 2048) : EReal := fore (fun r => D r * Ideal.div 1 (cnt w r)) w r - D r

/-- Column `q` of a matrix of at least 768 columns, in batch `n`. -/
abbrev lead {N : ℕ} (x : Mat 4096 N) (hN : 768 ≤ N) (n : Fin 2) (q : Fin 768) (r : Fin 2048) : EReal :=
  x (ix2 ⟨2048 * n.val + r.val, by omega⟩ ⟨q.val, by omega⟩)
/-- Columns given by batches, as one matrix. -/
def pooled (f : Fin 2 → Fin 768 → Fin 2048 → EReal) : Mat 4096 768 := fun i =>
  f ⟨(i 0).val / 2048, by have : (i 0).val < 4096 := (i 0).isLt; omega⟩ (i 1) ⟨(i 0).val % 2048, by omega⟩

theorem pooled_at (f : Fin 2 → Fin 768 → Fin 2048 → EReal) (i : (⟨2, ![4096, 768]⟩ : Shape).Idx) (n : Fin 2) (q : Fin 768) (r : Fin 2048)
    (h0 : (i 0).val = 2048 * n.val + r.val) (h1 : (i 1).val = q.val) : pooled f i = f n q r := by
  have hn : (⟨(i 0).val / 2048, by have : (i 0).val < 4096 := (i 0).isLt; omega⟩ : Fin 2) = n := Fin.ext (by dsimp only; omega)
  have hr : (⟨(i 0).val % 2048, by omega⟩ : Fin 2048) = r := Fin.ext (by dsimp only; omega)
  have hq : i 1 = q := Fin.ext h1
  unfold pooled; rw [hn, hr, hq]
/-- Entries given by batches make up the matrix. -/
theorem eq_pooled (M : Mat 4096 768) (f : Fin 2 → Fin 768 → Fin 2048 → EReal)
    (h : ∀ (n : Fin 2) (r : Fin 2048) (q : Fin 768), M (ix2 ⟨2048 * n.val + r.val, by omega⟩ q) = f n q r) : M = pooled f := by
  funext i
  refine Eq.trans (congrArg M (funext fun a => ?_)) (h ⟨(i 0).val / 2048, by have : (i 0).val < 4096 := (i 0).isLt; omega⟩ ⟨(i 0).val % 2048, by omega⟩ (i 1))
  match a with
  | 0 => exact Fin.ext (by dsimp only; exact (Nat.div_add_mod _ _).symm)
  | 1 => rfl

/-- The pooled rest of a matrix's first 768 columns. -/
def poolOf {N : ℕ} (x : Mat 4096 N) (hN : 768 ≤ N) (n : Fin 2) (q : Fin 768) (r : Fin 2048) : EReal := poolAt (lead x hN n q) (wid q) r
/-- Its gradient. -/
def poolTOf (d : Mat 4096 768) (n : Fin 2) (q : Fin 768) (r : Fin 2048) : EReal := poolT (lead d (le_refl _) n q) (wid q) r

/-! ## Windows by doubling -/

/-- A later tap of a window is the window's later taps. -/
theorem tap_win (X : Fin 2048 → EReal) (n s : ℕ) (r : Fin 2048) : tap (win X n) s r = ∑ k ∈ Finset.range n, tap X (s + k) r := by
  unfold win tap
  by_cases h : s ≤ r.val
  · rw [dif_pos h]
    refine Finset.sum_congr rfl fun k _ => ?_
    dsimp only
    by_cases e : k ≤ r.val - s
    · rw [dif_pos e, dif_pos (by omega)]; exact congrArg X (Fin.ext (by dsimp only; omega))
    · rw [dif_neg e, dif_neg (by omega)]
  · rw [dif_neg h]
    exact (Finset.sum_eq_zero fun k _ => dif_neg (by omega)).symm
/-- A window and the one before it make one of twice the rows. -/
theorem win_double (X : Fin 2048 → EReal) (n : ℕ) (r : Fin 2048) : win X n r + tap (win X n) n r = win X (n + n) r := by
  rw [tap_win]; unfold win; rw [Finset.sum_range_add]
theorem win_one (X : Fin 2048 → EReal) : win X 1 = X := by
  funext r; unfold win; rw [Finset.sum_range_one, tap_zero]

theorem ahead_zero (X : Fin 2048 → EReal) (r : Fin 2048) : ahead X 0 r = X r := dif_pos r.isLt
/-- Two steps forward, of a sum of a column and itself `n` rows on. -/
theorem ahead_up (X : Fin 2048 → EReal) (n k : ℕ) (r : Fin 2048) :
    ahead (fun r => X r + ahead X n r) k r = ahead X k r + ahead X (n + k) r := by
  unfold ahead
  by_cases h : r.val + k < 2048
  · rw [dif_pos h, dif_pos h]
    dsimp only
    refine congrArg _ ?_
    by_cases e : r.val + k + n < 2048
    · rw [dif_pos e, dif_pos (by omega)]; exact congrArg X (Fin.ext (by dsimp only; omega))
    · rw [dif_neg e, dif_neg (by omega)]
  · rw [dif_neg h, dif_neg h, dif_neg (by omega), add_zero]
theorem fore_up (X : Fin 2048 → EReal) (n : ℕ) (r : Fin 2048) : fore (fun r => X r + ahead X n r) n r = fore X (n + n) r := by
  unfold fore
  rw [Finset.sum_range_add, ← Finset.sum_add_distrib]
  exact Finset.sum_congr rfl fun k _ => ahead_up X n k r
theorem fore_two (X : Fin 2048 → EReal) (r : Fin 2048) : X r + ahead X 1 r = fore X 2 r := by
  unfold fore; rw [Finset.sum_range_succ, Finset.sum_range_one, ahead_zero]
theorem up_none (s : ℕ) (r : Fin 2048) : (0 : EReal) + ahead (fun _ => 0) s r = 0 := by
  unfold ahead; split <;> exact add_zero _

/-- A column, itself `s` rows on, and another. -/
abbrev join (X E : Fin 2048 → EReal) (s : ℕ) (r : Fin 2048) : EReal := X r + ahead X s r + E r
theorem join_none (E : Fin 2048 → EReal) (s : ℕ) : join (fun _ => 0) E s = E := by
  funext r; unfold join; rw [up_none, zero_add]
theorem join_alone (X : Fin 2048 → EReal) (s : ℕ) : join X (fun _ => 0) s = fun r => X r + ahead X s r := by
  funext r; exact add_zero _
/-- Four groups of columns, all but one of them zero, joined from the widest window on: the sum over the window of the one. -/
theorem joined (g : ℕ) (E2 E4 E8 E16 : Fin 2048 → EReal) (h : g < 4) (r : Fin 2048) :
    (join (join (join (fun r => if g = 3 then E16 r else 0) (fun r => if g = 2 then E8 r else 0) 8) (fun r => if g = 1 then E4 r else 0) 4)
        (fun r => if g = 0 then E2 r else 0) 2 r
      + ahead (join (join (join (fun r => if g = 3 then E16 r else 0) (fun r => if g = 2 then E8 r else 0) 8) (fun r => if g = 1 then E4 r else 0) 4)
        (fun r => if g = 0 then E2 r else 0) 2) 1 r)
      = if g = 0 then fore E2 2 r else if g = 1 then fore E4 4 r else if g = 2 then fore E8 8 r else fore E16 16 r := by
  rw [fore_two]
  have hg : g = 0 ∨ g = 1 ∨ g = 2 ∨ g = 3 := by omega
  rcases hg with e | e | e | e <;> subst e
  · exact congrArg (fore · 2 r) ((congrArg (join · E2 2) ((congrArg (join · _ 4) (join_none _ 8)).trans (join_none _ 4))).trans (join_none _ 2))
  · refine (congrArg (fore · 2 r) ((congrArg (join · _ 2) ((congrArg (join · E4 4) (join_none _ 8)).trans (join_none _ 4))).trans (join_alone _ 2))).trans ?_
    exact fore_up E4 2 r
  · refine (congrArg (fore · 2 r) ((congrArg (join · _ 2) ((congrArg (join · _ 4) (join_none E8 8)).trans (join_alone _ 4))).trans (join_alone _ 2))).trans ?_
    exact (fore_up _ 2 r).trans (fore_up E8 4 r)
  · refine (congrArg (fore · 2 r) ((congrArg (join · _ 2) ((congrArg (join · _ 4) (join_alone E16 8)).trans (join_alone _ 4))).trans (join_alone _ 2))).trans ?_
    exact (fore_up _ 2 r).trans ((fore_up _ 4 r).trans (fore_up E16 8 r))

/-! ## Windows by a band matrix -/

/-- A choice by the band. -/
theorem band_eq (w : ℕ) (hw : w ≤ 16) (s r : Fin 2048) (a b : EReal) :
    Scalar.select (IntOp.andi (IntOp.cmpi CmpIPredicate.sle (BitVec.ofNat 32 s.val) (BitVec.ofNat 32 r.val))
        (IntOp.cmpi CmpIPredicate.slt (BitVec.ofNat 32 r.val) (IntOp.addi (BitVec.ofNat 32 s.val) (BitVec.ofNat 32 w)))) a b
      = if s.val ≤ r.val ∧ r.val < s.val + w then a else b := by
  have e : IntOp.addi (BitVec.ofNat 32 s.val) (BitVec.ofNat 32 w) = BitVec.ofNat 32 (s.val + w) := (BitVec.ofNat_add _ _).symm
  rw [e, cmpi_slt_ofNat (by norm_num; omega) (by norm_num; omega), cmpi_sle_ofNat (by norm_num; omega) (by norm_num; omega)]
  by_cases h1 : s.val ≤ r.val <;> by_cases h2 : r.val < s.val + w <;> simp [h1, h2, Scalar.select, IntOp.andi]

theorem tap_sum (X : Fin 2048 → EReal) (k : ℕ) (r : Fin 2048) : tap X k r = ∑ s : Fin 2048, if s.val + k = r.val then X s else 0 := by
  unfold tap
  by_cases h : k ≤ r.val
  · rw [dif_pos h, Finset.sum_eq_single_of_mem (⟨r.val - k, by omega⟩ : Fin 2048) (Finset.mem_univ _)
      fun s _ hs => if_neg fun e => hs (Fin.ext (by dsimp only; omega)), if_pos (by dsimp only; omega)]
  · rw [dif_neg h]
    exact (Finset.sum_eq_zero fun s _ => if_neg (by omega)).symm
theorem ahead_sum (X : Fin 2048 → EReal) (k : ℕ) (r : Fin 2048) : ahead X k r = ∑ s : Fin 2048, if r.val + k = s.val then X s else 0 := by
  unfold ahead
  by_cases h : r.val + k < 2048
  · rw [dif_pos h, Finset.sum_eq_single_of_mem (⟨r.val + k, h⟩ : Fin 2048) (Finset.mem_univ _)
      fun s _ hs => if_neg fun e => hs (Fin.ext (by dsimp only; omega)), if_pos rfl]
  · rw [dif_neg h]
    exact (Finset.sum_eq_zero fun s _ => if_neg (by omega)).symm
/-- Of the steps below `w`, at most one leads from `a` to `b`. -/
theorem one_step (w a b : ℕ) (u : EReal) : (∑ k ∈ Finset.range w, if a + k = b then u else 0) = if a ≤ b ∧ b < a + w then u else 0 := by
  by_cases h : a ≤ b ∧ b < a + w
  · rw [if_pos h, Finset.sum_eq_single_of_mem (b - a) (Finset.mem_range.2 (by omega)) fun k _ hk => if_neg (by omega), if_pos (by omega)]
  · rw [if_neg h]
    exact Finset.sum_eq_zero fun k hk => if_neg (by have := Finset.mem_range.1 hk; omega)
theorem band_win (X : Fin 2048 → EReal) (w : ℕ) (r : Fin 2048) :
    (∑ s : Fin 2048, if s.val ≤ r.val ∧ r.val < s.val + w then X s else 0) = win X w r := by
  unfold win
  simp only [tap_sum]
  rw [Finset.sum_comm]
  exact Finset.sum_congr rfl fun s _ => (one_step w s.val r.val (X s)).symm
theorem band_fore (X : Fin 2048 → EReal) (w : ℕ) (r : Fin 2048) :
    (∑ s : Fin 2048, if r.val ≤ s.val ∧ s.val < r.val + w then X s else 0) = fore X w r := by
  unfold fore
  simp only [ahead_sum]
  rw [Finset.sum_comm]
  exact Finset.sum_congr rfl fun s _ => (one_step w r.val s.val (X s)).symm

/-! ## Groups -/

theorem wid_0 (q : Fin 768) (h : q.val < 192) : wid q = 2 := by unfold wid; rw [if_pos (by omega)]
theorem wid_1 (q : Fin 768) (h : ¬ q.val < 192) (h' : q.val - 192 < 192) : wid q = 4 := by
  unfold wid; rw [if_neg (by omega), if_pos (by omega)]
theorem wid_2 (q : Fin 768) (h : ¬ q.val - 192 < 192) (h' : q.val - 192 - 192 < 192) : wid q = 8 := by
  unfold wid; rw [if_neg (by omega), if_neg (by omega), if_pos (by omega)]
theorem wid_3 (q : Fin 768) (h : ¬ q.val - 192 - 192 < 192) : wid q = 16 := by
  unfold wid; rw [if_neg (by omega), if_neg (by omega), if_neg (by omega)]
/-- A choice by a group's number. -/
theorem select_group (a b : ℕ) (ha : a < 768) (hb : b < 768) (u v : EReal) :
    Scalar.select (IntOp.cmpi CmpIPredicate.eq (BitVec.ofNat 32 a) (BitVec.ofNat 32 b)) u v = if a = b then u else v := by
  rw [cmpi_eq_ofNat (by norm_num; omega) (by norm_num; omega)]
  by_cases h : a = b <;> simp [h, Scalar.select]

/-! ## Means -/

/-- The number of rows averaged is not zero. -/
theorem cnt_ne (w : ℕ) (h0 : 0 < w) (hw : w ≤ 16) (r : Fin 2048) : cnt w r ≠ 0 := by
  have e : IntOp.addi (BitVec.ofNat 32 r.val) 1#32 = BitVec.ofNat 32 (r.val + 1) := (BitVec.ofNat_add _ _).symm
  have hp : 0 < (IntOp.minsi (IntOp.addi (BitVec.ofNat 32 r.val) 1#32) (BitVec.ofNat 32 w)).toInt := by
    rw [e]; unfold IntOp.minsi
    have h1 : (BitVec.ofNat 32 (r.val + 1)).toInt = ((r.val + 1 : ℕ) : ℤ) := toInt_ofNat_of_lt (by norm_num; omega)
    have h2 : (BitVec.ofNat 32 w).toInt = (w : ℤ) := toInt_ofNat_of_lt (by norm_num; omega)
    split
    · rw [h1]; omega
    · rw [h2]; omega
  show (((_ : BitVec 32).toInt : ℝ) : EReal) ≠ 0
  intro h
  have := EReal.coe_eq_zero.1 h
  have := Int.cast_eq_zero.1 this
  omega
/-- Dividing by the number of rows is multiplying by one over it. -/
theorem div_cnt (w : ℕ) (h0 : 0 < w) (hw : w ≤ 16) (r : Fin 2048) (x : EReal) : Ideal.div x (cnt w r) = x * Ideal.div 1 (cnt w r) := by
  unfold Ideal.div
  rw [if_neg (cnt_ne w h0 hw r), if_neg (cnt_ne w h0 hw r), one_mul]

end Cert.PoolSpec

end
-- ==== Proof.PoolBwd.lean ====
/-
  THE MULTI-SCALE POOLING, BACKWARD. Each point holds one batch's rows of 128 columns of the gradient, and adds up the rows
  after each by halving windows from sixteen rows to two, the groups of the narrower windows joining in between.
-/
module

public import proofs.«01_k».proof.Proof.PoolSpec
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit

@[expose] public section

set_option maxRecDepth 16384

noncomputable section

namespace Cert.Kernel18Ideal.Mix

open Cert.Kernel18Ideal Cert.Kernel18Ideal.Gen Idealize.ShloMosaic Idealize.ShloMosaic.TcCoe Idealize.SL.Sem Cert.FfnSpec Cert.MixSpec Cert.ConvSpec Cert.PoolSpec
open Idealize.ShloMosaic.Pipeline (Dat Cfg Window BodyObligation cellOf)

variable (m : (ℓ : Loc nD τ sig) → Buf (Elt Ideal) ℓ) (c : Dev nD)

/-- The gradient of the pooled columns. -/
abbrev A0 : Mat 4096 768 := m ((c : Thread nD τ).loc main_arg0)

theorem idx0 : ∀ t : Fin grid0.N, win0_0.index t 0 = t.val / 6 ∧ win0_0.index t 1 = t.val % 6 := by decide +kernel
theorem idx1 : ∀ t : Fin grid0.N, win0_1.index t 0 = t.val / 6 ∧ win0_1.index t 1 = t.val % 6 := by decide +kernel
theorem coord1 : ∀ t : Fin grid0.N, (grid0.coords t 1).val = t.val % 6 := by decide +kernel

/-- A point of a block, from its two coordinates. -/
theorem eta (y : S2048x128.Idx) : y = ix2 (y 0) (y 1) := funext fun a => by
  match a with
  | 0 => rfl
  | 1 => rfl
/-- The batch walked at point `t`. -/
def bat (t : Fin cfg0.N) : Fin 2 := ⟨t.val / 6, by have ht : t.val < 12 := t.isLt; omega⟩
/-- Column `q` of the block walked at point `t`. -/
def lane (t : Fin cfg0.N) (q : Fin 128) : Fin 768 := ⟨128 * (t.val % 6) + q.val, by have ht : t.val < 12 := t.isLt; omega⟩
theorem blk0 (t : Fin cfg0.N) (r : Fin 2048) (q : Fin 128) : iblk m c 0 t (ix2 r q) = lead (A0 m c) (le_refl _) (bat t) (lane t q) r := by
  have ht : t.val < 12 := t.isLt
  unfold A0 bat lane
  blk_point [iblk, V, (idx0 t).1, (idx0 t).2]

/-- The quotient by 192 of a column's number, as the kernel computes it. -/
theorem group_at (i : grid0.Coords) (q : Fin 128) : k0_pay2 i (ix2 0 q) = BitVec.ofNat 32 ((128 * (i 1).val + q.val) / 192) := by
  have D : ∀ (j : Fin 6) (q : Fin 128), Scalar.select
        (IntOp.andi
          (IntOp.cmpi CmpIPredicate.ne
            (IntOp.subi
              (BitVec.setWidth 32 (IntOp.cmpi CmpIPredicate.sgt (IntOp.addi (BitVec.ofNat 32 q.val) (Scalar.muli (BitVec.ofNat 32 j.val) 128#32)) 0#32))
              (BitVec.setWidth 32 (IntOp.cmpi CmpIPredicate.slt (IntOp.addi (BitVec.ofNat 32 q.val) (Scalar.muli (BitVec.ofNat 32 j.val) 128#32)) 0#32)))
            (Scalar.subi (Scalar.extui (Scalar.cmpi CmpIPredicate.sgt 192#32 0#32)) (Scalar.extui (Scalar.cmpi CmpIPredicate.slt 192#32 0#32))))
          (IntOp.cmpi CmpIPredicate.ne
            (IntOp.remsi ArithUnit.vector (IntOp.addi (BitVec.ofNat 32 q.val) (Scalar.muli (BitVec.ofNat 32 j.val) 128#32)) 192#32) 0#32))
        (IntOp.subi
          (IntOp.divsi ArithUnit.vector (IntOp.addi (BitVec.ofNat 32 q.val) (Scalar.muli (BitVec.ofNat 32 j.val) 128#32)) 192#32) 1#32)
        (IntOp.divsi ArithUnit.vector (IntOp.addi (BitVec.ofNat 32 q.val) (Scalar.muli (BitVec.ofNat 32 j.val) 128#32)) 192#32)
      = BitVec.ofNat 32 ((128 * j.val + q.val) / 192) := by decide +kernel
  pointwise [k0_pay2]
  exact D (i 1) q

/-- The first column of the rows' numbers. -/
abbrev rows : IVec S2048x1 32 := iota .tc S2048x1 32 [0] iota_S2048x1_d0_w32
/-- A block and itself turned by `u`, its last rows masked. -/
def turned (u : BitVec 32) (V : FVec Ideal S2048x128 .f32) : FVec Ideal S2048x128 .f32 :=
  addf V (select (broadcastTo S2048x128 (shapeCast S2048x1 (cmpi .slt rows (broadcast S2048x1 u)) shapeCasts_S2048x1_S2048x1) broadcasts_S2048x1_S2048x128)
    (dynamicRotate 0 u none V rotates_S2048x128_d0) (broadcast S2048x128 (Scalar.ofBits .f32 0x00000000#32)))
theorem turned8 (V : FVec Ideal S2048x128 .f32) (r : Fin 2048) (q : Fin 128) :
    turned 2040#32 V (ix2 r q) = V (ix2 r q) + ahead (fun r => V (ix2 r q)) 8 r := by
  pointwise [turned]
  exact congrArg _ ((select_lt r 2040 (by omega) _ _).trans (ahead_eq (fun r => V (ix2 r q)) 2040 8 (by omega) r _))
theorem turned4 (V : FVec Ideal S2048x128 .f32) (r : Fin 2048) (q : Fin 128) :
    turned 2044#32 V (ix2 r q) = V (ix2 r q) + ahead (fun r => V (ix2 r q)) 4 r := by
  pointwise [turned]
  exact congrArg _ ((select_lt r 2044 (by omega) _ _).trans (ahead_eq (fun r => V (ix2 r q)) 2044 4 (by omega) r _))
theorem turned2 (V : FVec Ideal S2048x128 .f32) (r : Fin 2048) (q : Fin 128) :
    turned 2046#32 V (ix2 r q) = V (ix2 r q) + ahead (fun r => V (ix2 r q)) 2 r := by
  pointwise [turned]
  exact congrArg _ ((select_lt r 2046 (by omega) _ _).trans (ahead_eq (fun r => V (ix2 r q)) 2046 2 (by omega) r _))
theorem turned1 (V : FVec Ideal S2048x128 .f32) (r : Fin 2048) (q : Fin 128) :
    turned 2047#32 V (ix2 r q) = V (ix2 r q) + ahead (fun r => V (ix2 r q)) 1 r := by
  pointwise [turned]
  exact congrArg _ ((select_lt r 2047 (by omega) _ _).trans (ahead_eq (fun r => V (ix2 r q)) 2047 1 (by omega) r _))

/-! The groups of the four windows, each zero off its own columns. -/

theorem pay8_at (v : Vec Ideal S2048x128 .f32) (i : grid0.Coords) (r : Fin 2048) (q : Fin 128) :
    k0_pay8 v (k0_pay3 i) k0_pay7 (ix2 r q) = if (128 * (i 1).val + q.val) / 192 = 0 then v (ix2 r q) * Ideal.div 1 (cnt 2 r) else 0 := by
  have hi : (i 1).val < 6 := (i 1).isLt
  pointwise [k0_pay8, k0_pay3, group_at, k0_pay7]
  exact select_group _ 0 (by omega) (by omega) _ _
theorem pay9_at (v : Vec Ideal S2048x128 .f32) (i : grid0.Coords) (r : Fin 2048) (q : Fin 128) :
    k0_pay9 v rows (k0_pay4 i) (ix2 r q) = if (128 * (i 1).val + q.val) / 192 = 1 then v (ix2 r q) * Ideal.div 1 (cnt 4 r) else 0 := by
  have hi : (i 1).val < 6 := (i 1).isLt
  pointwise [k0_pay9, k0_pay4, group_at]
  exact select_group _ 1 (by omega) (by omega) _ _
theorem pay10_at (v : Vec Ideal S2048x128 .f32) (i : grid0.Coords) (r : Fin 2048) (q : Fin 128) :
    k0_pay10 v rows (k0_pay5 i) (ix2 r q) = if (128 * (i 1).val + q.val) / 192 = 2 then v (ix2 r q) * Ideal.div 1 (cnt 8 r) else 0 := by
  have hi : (i 1).val < 6 := (i 1).isLt
  pointwise [k0_pay10, k0_pay5, group_at]
  exact select_group _ 2 (by omega) (by omega) _ _
/-- The group of the widest window. -/
def widest (v : Vec Ideal S2048x128 .f32) (i : grid0.Coords) : FVec Ideal S2048x128 .f32 :=
  select (k0_pay12 (k0_pay6 i)) (k0_pay11 v rows) (broadcast S2048x128 (Scalar.ofBits .f32 0x00000000#32))
theorem widest_at (v : Vec Ideal S2048x128 .f32) (i : grid0.Coords) (r : Fin 2048) (q : Fin 128) :
    widest v i (ix2 r q) = if (128 * (i 1).val + q.val) / 192 = 3 then v (ix2 r q) * Ideal.div 1 (cnt 16 r) else 0 := by
  have hi : (i 1).val < 6 := (i 1).isLt
  pointwise [widest, k0_pay12, k0_pay6, k0_pay11, group_at]
  exact select_group _ 3 (by omega) (by omega) _ _
/-- The payload, in its steps. -/
theorem pay1_eq (v : Vec Ideal S2048x128 .f32) (i : grid0.Coords) :
    k0_pay1 v rows (k0_pay8 v (k0_pay3 i) k0_pay7) (k0_pay9 v rows (k0_pay4 i)) (k0_pay10 v rows (k0_pay5 i)) (k0_pay11 v rows) (Scalar.ofBits .f32 0x00000000#32)
        (k0_pay12 (k0_pay6 i))
      = truncf .bf16 (subf (turned 2047#32 (addf (turned 2046#32 (addf (turned 2044#32 (addf (turned 2040#32 (widest v i)) (k0_pay10 v rows (k0_pay5 i))))
          (k0_pay9 v rows (k0_pay4 i)))) (k0_pay8 v (k0_pay3 i) k0_pay7))) v) bitsLt_bf16_f32 := rfl
/-- What a point computes. -/
theorem pay1_at (v : Vec Ideal S2048x128 .f32) (i : grid0.Coords) (r : Fin 2048) (q : Fin 128) :
    k0_pay1 v rows (k0_pay8 v (k0_pay3 i) k0_pay7) (k0_pay9 v rows (k0_pay4 i)) (k0_pay10 v rows (k0_pay5 i)) (k0_pay11 v rows) (Scalar.ofBits .f32 0x00000000#32)
        (k0_pay12 (k0_pay6 i)) (ix2 r q)
      = poolT (fun r => v (ix2 r q)) (if (128 * (i 1).val + q.val) / 192 = 0 then 2 else if (128 * (i 1).val + q.val) / 192 = 1 then 4
          else if (128 * (i 1).val + q.val) / 192 = 2 then 8 else 16) r := by
  have hi : (i 1).val < 6 := (i 1).isLt
  rw [pay1_eq]
  pointwise [turned1, turned2, turned4, turned8, widest_at, pay8_at, pay9_at, pay10_at]
  refine congrArg (· - v (ix2 r q)) ((joined ((128 * (i 1).val + q.val) / 192) (fun r => v (ix2 r q) * Ideal.div 1 (cnt 2 r))
    (fun r => v (ix2 r q) * Ideal.div 1 (cnt 4 r)) (fun r => v (ix2 r q) * Ideal.div 1 (cnt 8 r)) (fun r => v (ix2 r q) * Ideal.div 1 (cnt 16 r)) (by omega) r).trans ?_)
  by_cases h0 : (128 * (i 1).val + q.val) / 192 = 0
  · rw [if_pos h0, if_pos h0]
  · rw [if_neg h0, if_neg h0]
    by_cases h1 : (128 * (i 1).val + q.val) / 192 = 1
    · rw [if_pos h1, if_pos h1]
    · rw [if_neg h1, if_neg h1]
      by_cases h2 : (128 * (i 1).val + q.val) / 192 = 2
      · rw [if_pos h2, if_pos h2]
      · rw [if_neg h2, if_neg h2]

/-- What point `t` leaves. -/
theorem out_at (t : Fin cfg0.N) (r : Fin 2048) (q : Fin 128) :
    out0_1 (grid0.coords t) (iblk m c 0 t) (ix2 r q) = poolTOf (A0 m c) (bat t) (lane t q) r := by
  have hg : (if (128 * (grid0.coords t 1).val + q.val) / 192 = 0 then 2 else if (128 * (grid0.coords t 1).val + q.val) / 192 = 1 then 4
      else if (128 * (grid0.coords t 1).val + q.val) / 192 = 2 then 8 else 16) = wid (lane t q) := by
    rw [coord1 t]; rfl
  unfold out0_1
  frame_out
  rw [show k0_pay13 (grid0.coords t) (iblk m c 0 t) = rows from rfl]
  refine (pay1_at (iblk m c 0 t) (grid0.coords t) r q).trans ?_
  rw [hg]
  simp only [blk0]
  rfl

/-- The gradient. -/
theorem arr1_eq : (Gen.dats m 0 c).arrAt 1 (cfgs 0).N = pooled (poolTOf (A0 m c)) := by
  refine (dats m 0 c).arrAt_eq_of_covers 1 _ (by decide +kernel) fun t hf y => ?_
  have ht : t.val < 12 := t.isLt
  blk_simp
  rw [after0_1]
  rw [pooled_at _ _ (bat t) (lane t (y 1)) (y 0) (by
    show _ = 2048 * (t.val / 6) + (y 0).val; blk_simp [(idx1 t).1]; omega) (by
    show _ = 128 * (t.val % 6) + (y 1).val; blk_simp [(idx1 t).2]; omega)]
  exact (congrArg (out0_1 (grid0.coords t) (iblk m c 0 t)) (eta y)).trans (out_at m c t (y 0) (y 1))

/-- The kernel's run. -/
theorem run_kernel (ρ : Dev nD → PrngReg) :
    θ_run defs (onTc (τ := τ) (main (F := Ideal))) ⟨m, fun _ => 0, ρ⟩ fun r => ∀ c : Dev nD,
      r.2.mem ((c : Thread nD τ).loc main_v0) = pooled (poolTOf (A0 m c))
      ∧ r.2.mem ((c : Thread nD τ).loc main_arg0) = m ((c : Thread nD τ).loc main_arg0) :=
  (θ_run defs _ _).mono (fun r h c => ⟨(h c).1.trans (arr1_eq m c), (h c).2⟩) (Value.run_blocks m ρ)

end Cert.Kernel18Ideal.Mix

end
-- ==== Proof.PoolBwdRef.lean ====
module

public import proofs.«01_k».proof.Proof.PoolSpec
public import proofs.«01_k».proof.Proof.Gen.Reference18Ideal.Run
public import proofs.«01_k».proof.Proof.Gen.Reference18Ideal.Read
public import Idealize.ShloMosaic.Lib.Pipeline.ValueKit

@[expose] public section

set_option maxRecDepth 16384

noncomputable section

namespace Cert.Reference18Ideal.Mix

open Cert.Reference18Ideal Cert.Reference18Ideal.Gen Cert.Reference18Ideal.Read Idealize.ShloMosaic Idealize.ShloMosaic.TcCoe Idealize.SL.Sem Cert.FfnSpec Cert.MixSpec Cert.ConvSpec Cert.PoolSpec

variable (x : Mat 4096 768)

/-- The group of window 2: the part that is the gradient itself, turned round. -/
theorem v148_at (n : Fin 2) (r : Fin 2048) (l : Fin 192) :
    val_main_v148 (F := Ideal) x (ix3 n r l) = -lead x (le_refl _) n ⟨l.val, by omega⟩ r := by
  pointwise [val_main_v148, val_main_v109, val_main_v108]
  exact congrArg (fun z => -x z) (congrArg₂ ix2 (Fin.ext (by dsimp only; omega)) rfl)
/-- The group of window 2: the part that comes through the means. -/
theorem v156_at (n : Fin 2) (r : Fin 2048) (l : Fin 192) :
    val_main_v156 (F := Ideal) x (ix3 n r l) = fore (fun r => lead x (le_refl _) n ⟨l.val, by omega⟩ r * Ideal.div 1 (cnt 2 r)) 2 r := by
  pointwise [val_main_v156, val_main_v155, val_main_v15, val_main_call0_v1, val_main_cst_1, val_main_call0_v0, val_main_cst_0, val_main_v14, val_main_v13, val_main_v12, val_main_v10, val_main_v9, val_main_c, val_main_v5, val_main_v4, val_main_v11, val_main_v3, val_main_v2, val_main_v8, val_main_v7, val_main_v6, val_main_v154, val_main_v153, val_main_v152, val_main_v25, val_main_v20, val_main_v19, val_main_v18, val_main_c_3, val_main_v17, val_main_v16, val_main_c_2, val_main_v109, val_main_v108]
  refine (Finset.sum_congr rfl fun s _ => (band_eq 2 (by omega) r s _ _).trans ?_).trans
    (band_fore (fun r => lead x (le_refl _) n ⟨l.val, by omega⟩ r * Ideal.div 1 (cnt 2 r)) 2 r)
  rw [div_cnt 2 (by omega) (by omega)]
  exact congrArg (fun z => if r.val ≤ s.val ∧ s.val < r.val + 2 then x z * Ideal.div 1 (cnt 2 s) else 0)
    (congrArg₂ ix2 (Fin.ext (by dsimp only; omega)) rfl)
/-- The group of window 4: the part that is the gradient itself, turned round. -/
theorem v136_at (n : Fin 2) (r : Fin 2048) (l : Fin 192) :
    val_main_v136 (F := Ideal) x (ix3 n r l) = -lead x (le_refl _) n ⟨192 + l.val, by omega⟩ r := by
  pointwise [val_main_v136, val_main_v110, val_main_v108]
  exact congrArg (fun z => -x z) (congrArg₂ ix2 (Fin.ext (by dsimp only; omega)) rfl)
/-- The group of window 4: the part that comes through the means. -/
theorem v144_at (n : Fin 2) (r : Fin 2048) (l : Fin 192) :
    val_main_v144 (F := Ideal) x (ix3 n r l) = fore (fun r => lead x (le_refl _) n ⟨192 + l.val, by omega⟩ r * Ideal.div 1 (cnt 4 r)) 4 r := by
  pointwise [val_main_v144, val_main_v143, val_main_v40, val_main_call1_v1, val_main_cst_6, val_main_call1_v0, val_main_cst_5, val_main_v39, val_main_v38, val_main_v37, val_main_v35, val_main_v34, val_main_c_4, val_main_v5, val_main_v4, val_main_v36, val_main_v3, val_main_v2, val_main_v33, val_main_v32, val_main_v31, val_main_v142, val_main_v141, val_main_v140, val_main_v50, val_main_v45, val_main_v44, val_main_v43, val_main_c_8, val_main_v42, val_main_v41, val_main_c_7, val_main_v110, val_main_v108]
  refine (Finset.sum_congr rfl fun s _ => (band_eq 4 (by omega) r s _ _).trans ?_).trans
    (band_fore (fun r => lead x (le_refl _) n ⟨192 + l.val, by omega⟩ r * Ideal.div 1 (cnt 4 r)) 4 r)
  rw [div_cnt 4 (by omega) (by omega)]
  exact congrArg (fun z => if r.val ≤ s.val ∧ s.val < r.val + 4 then x z * Ideal.div 1 (cnt 4 s) else 0)
    (congrArg₂ ix2 (Fin.ext (by dsimp only; omega)) rfl)
/-- The group of window 8: the part that is the gradient itself, turned round. -/
theorem v124_at (n : Fin 2) (r : Fin 2048) (l : Fin 192) :
    val_main_v124 (F := Ideal) x (ix3 n r l) = -lead x (le_refl _) n ⟨384 + l.val, by omega⟩ r := by
  pointwise [val_main_v124, val_main_v111, val_main_v108]
  exact congrArg (fun z => -x z) (congrArg₂ ix2 (Fin.ext (by dsimp only; omega)) rfl)
/-- The group of window 8: the part that comes through the means. -/
theorem v132_at (n : Fin 2) (r : Fin 2048) (l : Fin 192) :
    val_main_v132 (F := Ideal) x (ix3 n r l) = fore (fun r => lead x (le_refl _) n ⟨384 + l.val, by omega⟩ r * Ideal.div 1 (cnt 8 r)) 8 r := by
  pointwise [val_main_v132, val_main_v131, val_main_v65, val_main_call2_v1, val_main_cst_11, val_main_call2_v0, val_main_cst_10, val_main_v64, val_main_v63, val_main_v62, val_main_v60, val_main_v59, val_main_c_9, val_main_v5, val_main_v4, val_main_v61, val_main_v3, val_main_v2, val_main_v58, val_main_v57, val_main_v56, val_main_v130, val_main_v129, val_main_v128, val_main_v75, val_main_v70, val_main_v69, val_main_v68, val_main_c_13, val_main_v67, val_main_v66, val_main_c_12, val_main_v111, val_main_v108]
  refine (Finset.sum_congr rfl fun s _ => (band_eq 8 (by omega) r s _ _).trans ?_).trans
    (band_fore (fun r => lead x (le_refl _) n ⟨384 + l.val, by omega⟩ r * Ideal.div 1 (cnt 8 r)) 8 r)
  rw [div_cnt 8 (by omega) (by omega)]
  exact congrArg (fun z => if r.val ≤ s.val ∧ s.val < r.val + 8 then x z * Ideal.div 1 (cnt 8 s) else 0)
    (congrArg₂ ix2 (Fin.ext (by dsimp only; omega)) rfl)
/-- The group of window 16: the part that is the gradient itself, turned round. -/
theorem v113_at (n : Fin 2) (r : Fin 2048) (l : Fin 192) :
    val_main_v113 (F := Ideal) x (ix3 n r l) = -lead x (le_refl _) n ⟨576 + l.val, by omega⟩ r := by
  pointwise [val_main_v113, val_main_v112, val_main_v108]
  exact congrArg (fun z => -x z) (congrArg₂ ix2 (Fin.ext (by dsimp only; omega)) rfl)
/-- The group of window 16: the part that comes through the means. -/
theorem v120_at (n : Fin 2) (r : Fin 2048) (l : Fin 192) :
    val_main_v120 (F := Ideal) x (ix3 n r l) = fore (fun r => lead x (le_refl _) n ⟨576 + l.val, by omega⟩ r * Ideal.div 1 (cnt 16 r)) 16 r := by
  pointwise [val_main_v120, val_main_v119, val_main_v90, val_main_call3_v1, val_main_cst_16, val_main_call3_v0, val_main_cst_15, val_main_v89, val_main_v88, val_main_v87, val_main_v85, val_main_v84, val_main_c_14, val_main_v5, val_main_v4, val_main_v86, val_main_v3, val_main_v2, val_main_v83, val_main_v82, val_main_v81, val_main_v118, val_main_v117, val_main_v116, val_main_v100, val_main_v95, val_main_v94, val_main_v93, val_main_c_18, val_main_v92, val_main_v91, val_main_c_17, val_main_v112, val_main_v108]
  refine (Finset.sum_congr rfl fun s _ => (band_eq 16 (by omega) r s _ _).trans ?_).trans
    (band_fore (fun r => lead x (le_refl _) n ⟨576 + l.val, by omega⟩ r * Ideal.div 1 (cnt 16 r)) 16 r)
  rw [div_cnt 16 (by omega) (by omega)]
  exact congrArg (fun z => if r.val ≤ s.val ∧ s.val < r.val + 16 then x z * Ideal.div 1 (cnt 16 s) else 0)
    (congrArg₂ ix2 (Fin.ext (by dsimp only; omega)) rfl)
theorem v159_0 (n : Fin 2) (r : Fin 2048) (l : Fin 192) :
    val_main_v159 (F := Ideal) x (ix4 n r 0 l) = poolT (lead x (le_refl _) n ⟨l.val, by omega⟩) 2 r := by
  pointwise [val_main_v159, val_main_v158, val_main_v157, val_main_v151, val_main_v150, val_main_v149, val_main_v147, val_main_v146, val_main_v145, val_main_v139, val_main_v138, val_main_v137, val_main_v135, val_main_v134, val_main_v133, val_main_v127, val_main_v126, val_main_v125, val_main_v123, val_main_v122, val_main_v121, val_main_v115, val_main_v114, val_main_cst_26, val_main_cst_25, val_main_cst_24, val_main_cst_23, val_main_cst_22, val_main_cst_21, val_main_cst_20, val_main_cst_19, v148_at, v156_at, v136_at, v144_at, v124_at, v132_at, v113_at, v120_at]
  exact (add_comm _ _).trans (sub_eq_add_neg _ _).symm
theorem v159_1 (n : Fin 2) (r : Fin 2048) (l : Fin 192) :
    val_main_v159 (F := Ideal) x (ix4 n r 1 l) = poolT (lead x (le_refl _) n ⟨192 + l.val, by omega⟩) 4 r := by
  pointwise [val_main_v159, val_main_v158, val_main_v157, val_main_v151, val_main_v150, val_main_v149, val_main_v147, val_main_v146, val_main_v145, val_main_v139, val_main_v138, val_main_v137, val_main_v135, val_main_v134, val_main_v133, val_main_v127, val_main_v126, val_main_v125, val_main_v123, val_main_v122, val_main_v121, val_main_v115, val_main_v114, val_main_cst_26, val_main_cst_25, val_main_cst_24, val_main_cst_23, val_main_cst_22, val_main_cst_21, val_main_cst_20, val_main_cst_19, v148_at, v156_at, v136_at, v144_at, v124_at, v132_at, v113_at, v120_at]
  exact (add_comm _ _).trans (sub_eq_add_neg _ _).symm
theorem v159_2 (n : Fin 2) (r : Fin 2048) (l : Fin 192) :
    val_main_v159 (F := Ideal) x (ix4 n r 2 l) = poolT (lead x (le_refl _) n ⟨384 + l.val, by omega⟩) 8 r := by
  pointwise [val_main_v159, val_main_v158, val_main_v157, val_main_v151, val_main_v150, val_main_v149, val_main_v147, val_main_v146, val_main_v145, val_main_v139, val_main_v138, val_main_v137, val_main_v135, val_main_v134, val_main_v133, val_main_v127, val_main_v126, val_main_v125, val_main_v123, val_main_v122, val_main_v121, val_main_v115, val_main_v114, val_main_cst_26, val_main_cst_25, val_main_cst_24, val_main_cst_23, val_main_cst_22, val_main_cst_21, val_main_cst_20, val_main_cst_19, v148_at, v156_at, v136_at, v144_at, v124_at, v132_at, v113_at, v120_at]
  exact (add_comm _ _).trans (sub_eq_add_neg _ _).symm
theorem v159_3 (n : Fin 2) (r : Fin 2048) (l : Fin 192) :
    val_main_v159 (F := Ideal) x (ix4 n r 3 l) = poolT (lead x (le_refl _) n ⟨576 + l.val, by omega⟩) 16 r := by
  pointwise [val_main_v159, val_main_v158, val_main_v157, val_main_v151, val_main_v150, val_main_v149, val_main_v147, val_main_v146, val_main_v145, val_main_v139, val_main_v138, val_main_v137, val_main_v135, val_main_v134, val_main_v133, val_main_v127, val_main_v126, val_main_v125, val_main_v123, val_main_v122, val_main_v121, val_main_v115, val_main_v114, val_main_cst_26, val_main_cst_25, val_main_cst_24, val_main_cst_23, val_main_cst_22, val_main_cst_21, val_main_cst_20, val_main_cst_19, v148_at, v156_at, v136_at, v144_at, v124_at, v132_at, v113_at, v120_at]
  exact (add_comm _ _).trans (sub_eq_add_neg _ _).symm

theorem res_pool : val_main_v161 (F := Ideal) x = pooled (poolTOf x) := by
  refine eq_pooled _ _ fun n r q => ?_
  unfold poolTOf
  pointwise [val_main_v161, val_main_v160]
  have hl : q.val % 192 < 192 := Nat.mod_lt _ (by omega)
  by_cases h0 : q.val < 192
  · rw [wid_0 q h0]
    refine (congrArg (fun g => val_main_v159 (F := Ideal) x (ix4 n r g ⟨q.val % 192, hl⟩)) (show _ = (0 : Fin 4) from Fin.ext (by show q.val / 192 = 0; omega))).trans
      ((v159_0 x n r ⟨q.val % 192, hl⟩).trans (congrArg (fun q => poolT (lead x (le_refl _) n q) 2 r) (Fin.ext (by dsimp only; omega))))
  · by_cases h1 : q.val - 192 < 192
    · rw [wid_1 q h0 h1]
      refine (congrArg (fun g => val_main_v159 (F := Ideal) x (ix4 n r g ⟨q.val % 192, hl⟩)) (show _ = (1 : Fin 4) from Fin.ext (by show q.val / 192 = 1; omega))).trans
        ((v159_1 x n r ⟨q.val % 192, hl⟩).trans (congrArg (fun q => poolT (lead x (le_refl _) n q) 4 r) (Fin.ext (by dsimp only; omega))))
    · by_cases h2 : q.val - 192 - 192 < 192
      · rw [wid_2 q h1 h2]
        refine (congrArg (fun g => val_main_v159 (F := Ideal) x (ix4 n r g ⟨q.val % 192, hl⟩)) (show _ = (2 : Fin 4) from Fin.ext (by show q.val / 192 = 2; omega))).trans
          ((v159_2 x n r ⟨q.val % 192, hl⟩).trans (congrArg (fun q => poolT (lead x (le_refl _) n q) 8 r) (Fin.ext (by dsimp only; omega))))
      · rw [wid_3 q h2]
        refine (congrArg (fun g => val_main_v159 (F := Ideal) x (ix4 n r g ⟨q.val % 192, hl⟩)) (show _ = (3 : Fin 4) from Fin.ext (by show q.val / 192 = 3; omega))).trans
          ((v159_3 x n r ⟨q.val % 192, hl⟩).trans (congrArg (fun q => poolT (lead x (le_refl _) n q) 16 r) (Fin.ext (by dsimp only; omega))))

end Cert.Reference18Ideal.Mix

end
-- ==== Proof.PoolFwd.lean ====
/-
  THE MULTI-SCALE POOLING, FORWARD. Each point holds one batch's rows of 128 columns, doubles windows up from one row to sixteen,
  and takes for each column the window of its group.
-/
module

public import proofs.«01_k».proof.Proof.PoolSpec
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit

@[expose] public section

set_option maxRecDepth 16384

noncomputable section

namespace Cert.Kernel19Ideal.Mix

open Cert.Kernel19Ideal Cert.Kernel19Ideal.Gen Idealize.ShloMosaic Idealize.ShloMosaic.TcCoe Idealize.SL.Sem Cert.FfnSpec Cert.MixSpec Cert.ConvSpec Cert.PoolSpec
open Idealize.ShloMosaic.Pipeline (Dat Cfg Window BodyObligation cellOf)

variable (m : (ℓ : Loc nD τ sig) → Buf (Elt Ideal) ℓ) (c : Dev nD)

/-- The mixer's wide product, whose first 768 columns are pooled. -/
abbrev A0 : Mat 4096 9728 := m ((c : Thread nD τ).loc main_arg0)

theorem idx0 : ∀ t : Fin grid0.N, win0_0.index t 0 = t.val / 6 ∧ win0_0.index t 1 = t.val % 6 := by decide +kernel
theorem idx1 : ∀ t : Fin grid0.N, win0_1.index t 0 = t.val / 6 ∧ win0_1.index t 1 = t.val % 6 := by decide +kernel
theorem coord1 : ∀ t : Fin grid0.N, (grid0.coords t 1).val = t.val % 6 := by decide +kernel

/-- A point of a block, from its two coordinates. -/
theorem eta (y : S2048x128.Idx) : y = ix2 (y 0) (y 1) := funext fun a => by
  match a with
  | 0 => rfl
  | 1 => rfl
/-- The batch walked at point `t`. -/
def bat (t : Fin cfg0.N) : Fin 2 := ⟨t.val / 6, by have ht : t.val < 12 := t.isLt; omega⟩
/-- Column `q` of the block walked at point `t`. -/
def lane (t : Fin cfg0.N) (q : Fin 128) : Fin 768 := ⟨128 * (t.val % 6) + q.val, by have ht : t.val < 12 := t.isLt; omega⟩
theorem blk0 (t : Fin cfg0.N) (r : Fin 2048) (q : Fin 128) : iblk m c 0 t (ix2 r q) = lead (A0 m c) (by omega) (bat t) (lane t q) r := by
  have ht : t.val < 12 := t.isLt
  unfold A0 bat lane
  blk_point [iblk, V, (idx0 t).1, (idx0 t).2]

/-- The quotient by 192 of a column's number, as the kernel computes it. -/
theorem group_at (i : grid0.Coords) (q : Fin 128) : k0_pay2 i (ix2 0 q) = BitVec.ofNat 32 ((128 * (i 1).val + q.val) / 192) := by
  have D : ∀ (j : Fin 6) (q : Fin 128), Scalar.select
        (IntOp.andi
          (IntOp.cmpi CmpIPredicate.ne
            (IntOp.subi
              (BitVec.setWidth 32 (IntOp.cmpi CmpIPredicate.sgt (IntOp.addi (BitVec.ofNat 32 q.val) (Scalar.muli (BitVec.ofNat 32 j.val) 128#32)) 0#32))
              (BitVec.setWidth 32 (IntOp.cmpi CmpIPredicate.slt (IntOp.addi (BitVec.ofNat 32 q.val) (Scalar.muli (BitVec.ofNat 32 j.val) 128#32)) 0#32)))
            (Scalar.subi (Scalar.extui (Scalar.cmpi CmpIPredicate.sgt 192#32 0#32)) (Scalar.extui (Scalar.cmpi CmpIPredicate.slt 192#32 0#32))))
          (IntOp.cmpi CmpIPredicate.ne
            (IntOp.remsi ArithUnit.vector (IntOp.addi (BitVec.ofNat 32 q.val) (Scalar.muli (BitVec.ofNat 32 j.val) 128#32)) 192#32) 0#32))
        (IntOp.subi
          (IntOp.divsi ArithUnit.vector (IntOp.addi (BitVec.ofNat 32 q.val) (Scalar.muli (BitVec.ofNat 32 j.val) 128#32)) 192#32) 1#32)
        (IntOp.divsi ArithUnit.vector (IntOp.addi (BitVec.ofNat 32 q.val) (Scalar.muli (BitVec.ofNat 32 j.val) 128#32)) 192#32)
      = BitVec.ofNat 32 ((128 * j.val + q.val) / 192) := by decide +kernel
  pointwise [k0_pay2]
  exact D (i 1) q

/-- The first column of the rows' numbers. -/
abbrev rows : IVec S2048x1 32 := iota .tc S2048x1 32 [0] iota_S2048x1_d0_w32
/-- Two rows. -/
theorem pay12_at (v : Vec Ideal S2048x128 .f32) (r : Fin 2048) (q : Fin 128) :
    k0_pay12 v rows (ix2 r q) = win (fun r => v (ix2 r q)) 2 r := by
  rw [show (2 : ℕ) = 1 + 1 from rfl, ← win_double, win_one]
  pointwise [k0_pay12]
  exact congrArg _ ((select_ge r 1 (by omega) _ _).trans (tap_eq (fun r => v (ix2 r q)) 1 (by omega) r _))
/-- Four rows. -/
theorem pay13_at (v : Vec Ideal S2048x128 .f32) (r : Fin 2048) (q : Fin 128) :
    k0_pay13 v rows (ix2 r q) = win (fun r => v (ix2 r q)) 4 r := by
  rw [show (4 : ℕ) = 2 + 2 from rfl, ← win_double]
  pointwise [k0_pay13, pay12_at]
  exact congrArg _ ((select_ge r 2 (by omega) _ _).trans (tap_eq (win (fun r => v (ix2 r q)) 2) 2 (by omega) r _))
/-- Four rows, turned by four. -/
theorem pay14_at (v : Vec Ideal S2048x128 .f32) (r : Fin 2048) (q : Fin 128) :
    k0_pay14 v rows (ix2 r q) = win (fun r => v (ix2 r q)) 4 ⟨(r.val + 2048 - 4) % 2048, by omega⟩ := by
  pointwise [k0_pay14, pay13_at]
/-- Eight rows. -/
theorem eight (X : Fin 2048 → EReal) (r : Fin 2048) :
    win X 4 r + Scalar.select (IntOp.cmpi CmpIPredicate.sge (BitVec.ofNat 32 r.val) 4#32) (win X 4 ⟨(r.val + 2048 - 4) % 2048, by omega⟩) 0 = win X 8 r :=
  (congrArg _ ((select_ge r 4 (by omega) _ _).trans (tap_eq (win X 4) 4 (by omega) r _))).trans (win_double X 4 r)
/-- Sixteen rows. -/
theorem sixteen (X : Fin 2048 → EReal) (r : Fin 2048) :
    win X 8 r + Scalar.select (IntOp.cmpi CmpIPredicate.sge (BitVec.ofNat 32 r.val) 8#32) (win X 8 ⟨(r.val + 2048 - 8) % 2048, by omega⟩) 0 = win X 16 r :=
  (congrArg _ ((select_ge r 8 (by omega) _ _).trans (tap_eq (win X 8) 8 (by omega) r _))).trans (win_double X 8 r)
/-- What a point computes. -/
theorem pay1_at (v : Vec Ideal S2048x128 .f32) (i : grid0.Coords) (r : Fin 2048) (q : Fin 128) :
    k0_pay1 v rows (k0_pay3 i) (k0_pay4 i) (k0_pay5 i) (k0_pay8 (k0_pay6 (F := Ideal)) k0_pay7) (k0_pay9 (F := Ideal) rows) (k0_pay10 (F := Ideal) rows)
      (k0_pay11 (F := Ideal) rows) (k0_pay12 v rows) (k0_pay13 v rows) (k0_pay14 v rows) (0 : EReal) (k0_pay15 rows) (ix2 r q)
      = poolAt (fun r => v (ix2 r q)) (if (128 * (i 1).val + q.val) / 192 = 0 then 2 else if (128 * (i 1).val + q.val) / 192 = 1 then 4
          else if (128 * (i 1).val + q.val) / 192 = 2 then 8 else 16) r := by
  have hi : (i 1).val < 6 := (i 1).isLt
  have e8 := eight (fun r => v (ix2 r q))
  have e8' := e8 ⟨(r.val + 2048 - 8) % 2048, by omega⟩
  have e16 := sixteen (fun r => v (ix2 r q)) r
  dsimp only at e8 e8' e16
  pointwise [k0_pay1, k0_pay3, k0_pay4, k0_pay5, k0_pay6, k0_pay7, k0_pay8, k0_pay9, k0_pay10, k0_pay11, k0_pay15, pay12_at, pay13_at, pay14_at, group_at]
  rw [e8', e8 r, e16, select_group _ 0 (by omega) (by omega), select_group _ 1 (by omega) (by omega), select_group _ 2 (by omega) (by omega)]
  by_cases h0 : (128 * (i 1).val + q.val) / 192 = 0
  · rw [if_pos h0, if_pos h0]
  · rw [if_neg h0, if_neg h0]
    by_cases h1 : (128 * (i 1).val + q.val) / 192 = 1
    · rw [if_pos h1, if_pos h1]
    · rw [if_neg h1, if_neg h1]
      by_cases h2 : (128 * (i 1).val + q.val) / 192 = 2
      · rw [if_pos h2, if_pos h2]
      · rw [if_neg h2, if_neg h2]

/-- What point `t` leaves. -/
theorem out_at (t : Fin cfg0.N) (r : Fin 2048) (q : Fin 128) :
    out0_1 (grid0.coords t) (iblk m c 0 t) (ix2 r q) = poolOf (A0 m c) (by omega) (bat t) (lane t q) r := by
  have hg : (if (128 * (grid0.coords t 1).val + q.val) / 192 = 0 then 2 else if (128 * (grid0.coords t 1).val + q.val) / 192 = 1 then 4
      else if (128 * (grid0.coords t 1).val + q.val) / 192 = 2 then 8 else 16) = wid (lane t q) := by
    rw [coord1 t]; rfl
  unfold out0_1
  frame_out
  pointwise [k0_pay16]
  refine (pay1_at (iblk m c 0 t) (grid0.coords t) r q).trans ?_
  rw [hg]
  simp only [blk0]
  rfl

/-- The pooled array. -/
theorem arr1_eq : (Gen.dats m 0 c).arrAt 1 (cfgs 0).N = pooled (poolOf (A0 m c) (by omega)) := by
  refine (dats m 0 c).arrAt_eq_of_covers 1 _ (by decide +kernel) fun t hf y => ?_
  have ht : t.val < 12 := t.isLt
  blk_simp
  rw [after0_1]
  rw [pooled_at _ _ (bat t) (lane t (y 1)) (y 0) (by
    show _ = 2048 * (t.val / 6) + (y 0).val; blk_simp [(idx1 t).1]; omega) (by
    show _ = 128 * (t.val % 6) + (y 1).val; blk_simp [(idx1 t).2]; omega)]
  exact (congrArg (out0_1 (grid0.coords t) (iblk m c 0 t)) (eta y)).trans (out_at m c t (y 0) (y 1))

/-- The kernel's run. -/
theorem run_kernel (ρ : Dev nD → PrngReg) :
    θ_run defs (onTc (τ := τ) (main (F := Ideal))) ⟨m, fun _ => 0, ρ⟩ fun r => ∀ c : Dev nD,
      r.2.mem ((c : Thread nD τ).loc main_v0) = pooled (poolOf (A0 m c) (by omega))
      ∧ r.2.mem ((c : Thread nD τ).loc main_arg0) = m ((c : Thread nD τ).loc main_arg0) :=
  (θ_run defs _ _).mono (fun r h c => ⟨(h c).1.trans (arr1_eq m c), (h c).2⟩) (Value.run_blocks m ρ)

end Cert.Kernel19Ideal.Mix

end
-- ==== Proof.PoolFwdRef.lean ====
module

public import proofs.«01_k».proof.Proof.PoolSpec
public import proofs.«01_k».proof.Proof.Gen.Reference19Ideal.Run
public import proofs.«01_k».proof.Proof.Gen.Reference19Ideal.Read
public import Idealize.ShloMosaic.Lib.Pipeline.ValueKit

@[expose] public section

set_option maxRecDepth 16384

noncomputable section

namespace Cert.Reference19Ideal.Mix

open Cert.Reference19Ideal Cert.Reference19Ideal.Gen Cert.Reference19Ideal.Read Idealize.ShloMosaic Idealize.ShloMosaic.TcCoe Idealize.SL.Sem Cert.FfnSpec Cert.MixSpec Cert.ConvSpec Cert.PoolSpec

variable (x : Mat 4096 9728)

/-- The group of window 2. -/
theorem v30_at (n : Fin 2) (r : Fin 2048) (l : Fin 192) (q : Fin 768) (hq : q.val = 0 + l.val) :
    val_main_v30 (F := Ideal) x (ix3 n r l) = poolAt (lead x (by omega) n q) 2 r := by
  pointwise [val_main_cst_0, val_main_call0_v0, val_main_cst, val_main_c, val_main_c_1, val_main_call0_v1, val_main_c_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rw [div_cnt 2 (by omega) (by omega)]
  refine congrArg₂ (· - ·) (congrArg (· * _) ((Finset.sum_congr rfl fun s _ => (band_eq 2 (by omega) s r _ _).trans ?_).trans
    (band_win (lead x (by omega) n q) 2 r))) ?_
  · exact congrArg (fun z => if s.val ≤ r.val ∧ r.val < s.val + 2 then z else 0)
      (congrArg x (congrArg₂ ix2 (Fin.ext (by dsimp only; omega)) (Fin.ext (by dsimp only; omega))))
  · exact congrArg x (congrArg₂ ix2 (Fin.ext (by dsimp only; omega)) (Fin.ext (by dsimp only; omega)))
/-- The group of window 4. -/
theorem v55_at (n : Fin 2) (r : Fin 2048) (l : Fin 192) (q : Fin 768) (hq : q.val = 192 + l.val) :
    val_main_v55 (F := Ideal) x (ix3 n r l) = poolAt (lead x (by omega) n q) 4 r := by
  pointwise [val_main_call1_v0, val_main_call1_v1, val_main_c_3, val_main_cst_4, val_main_cst_5, val_main_c_6, val_main_c_7, val_main_v0, val_main_v1, val_main_v2, val_main_v3, val_main_v4, val_main_v5, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55]
  rw [div_cnt 4 (by omega) (by omega)]
  refine congrArg₂ (· - ·) (congrArg (· * _) ((Finset.sum_congr rfl fun s _ => (band_eq 4 (by omega) s r _ _).trans ?_).trans
    (band_win (lead x (by omega) n q) 4 r))) ?_
  · exact congrArg (fun z => if s.val ≤ r.val ∧ r.val < s.val + 4 then z else 0)
      (congrArg x (congrArg₂ ix2 (Fin.ext (by dsimp only; omega)) (Fin.ext (by dsimp only; omega))))
  · exact congrArg x (congrArg₂ ix2 (Fin.ext (by dsimp only; omega)) (Fin.ext (by dsimp only; omega)))
/-- The group of window 8. -/
theorem v80_at (n : Fin 2) (r : Fin 2048) (l : Fin 192) (q : Fin 768) (hq : q.val = 384 + l.val) :
    val_main_v80 (F := Ideal) x (ix3 n r l) = poolAt (lead x (by omega) n q) 8 r := by
  pointwise [val_main_call2_v0, val_main_call2_v1, val_main_c_8, val_main_cst_9, val_main_cst_10, val_main_c_11, val_main_c_12, val_main_v0, val_main_v1, val_main_v2, val_main_v3, val_main_v4, val_main_v5, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80]
  rw [div_cnt 8 (by omega) (by omega)]
  refine congrArg₂ (· - ·) (congrArg (· * _) ((Finset.sum_congr rfl fun s _ => (band_eq 8 (by omega) s r _ _).trans ?_).trans
    (band_win (lead x (by omega) n q) 8 r))) ?_
  · exact congrArg (fun z => if s.val ≤ r.val ∧ r.val < s.val + 8 then z else 0)
      (congrArg x (congrArg₂ ix2 (Fin.ext (by dsimp only; omega)) (Fin.ext (by dsimp only; omega))))
  · exact congrArg x (congrArg₂ ix2 (Fin.ext (by dsimp only; omega)) (Fin.ext (by dsimp only; omega)))
/-- The group of window 16. -/
theorem v105_at (n : Fin 2) (r : Fin 2048) (l : Fin 192) (q : Fin 768) (hq : q.val = 576 + l.val) :
    val_main_v105 (F := Ideal) x (ix3 n r l) = poolAt (lead x (by omega) n q) 16 r := by
  pointwise [val_main_call3_v0, val_main_call3_v1, val_main_c_13, val_main_cst_14, val_main_cst_15, val_main_c_16, val_main_c_17, val_main_v0, val_main_v1, val_main_v2, val_main_v3, val_main_v4, val_main_v5, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105]
  rw [div_cnt 16 (by omega) (by omega)]
  refine congrArg₂ (· - ·) (congrArg (· * _) ((Finset.sum_congr rfl fun s _ => (band_eq 16 (by omega) s r _ _).trans ?_).trans
    (band_win (lead x (by omega) n q) 16 r))) ?_
  · exact congrArg (fun z => if s.val ≤ r.val ∧ r.val < s.val + 16 then z else 0)
      (congrArg x (congrArg₂ ix2 (Fin.ext (by dsimp only; omega)) (Fin.ext (by dsimp only; omega))))
  · exact congrArg x (congrArg₂ ix2 (Fin.ext (by dsimp only; omega)) (Fin.ext (by dsimp only; omega)))

theorem res_pool : val_main_v108 (F := Ideal) x = pooled (poolOf x (by omega)) := by
  refine eq_pooled _ _ fun n r q => ?_
  unfold poolOf
  pointwise [val_main_v108, val_main_v107, val_main_v106]
  by_cases h0 : q.val < 192
  · exact (dif_pos h0).trans ((v30_at x n r _ q (Nat.zero_add _).symm).trans (by rw [wid_0 q h0]))
  · refine (dif_neg h0).trans ?_
    by_cases h1 : q.val - 192 < 192
    · exact (dif_pos h1).trans ((v55_at x n r ⟨q.val - 192, h1⟩ q (by dsimp only; omega)).trans (by rw [wid_1 q h0 h1]))
    · refine (dif_neg h1).trans ?_
      by_cases h2 : q.val - 192 - 192 < 192
      · exact (dif_pos h2).trans ((v80_at x n r ⟨q.val - 192 - 192, h2⟩ q (by dsimp only; omega)).trans (by rw [wid_2 q h1 h2]))
      · exact (dif_neg h2).trans ((v105_at x n r ⟨q.val - 192 - 192 - 192, by omega⟩ q (by dsimp only; omega)).trans (by rw [wid_3 q h2]))

end Cert.Reference19Ideal.Mix

end
-- ==== Proof.RowClaims.lean ====
/-
  THE FURTHER CALLS' CLAIMS: each reference keeps its arguments and ends quiescent, and computes what its kernel does.
-/
module

public import proofs.«01_k».proof.Defs
public import proofs.«01_k».proof.Proof.RowMerge
public import proofs.«01_k».proof.Proof.RowPool
public import proofs.«01_k».proof.Proof.RowLoss
public import proofs.«01_k».proof.Proof.RowFwd
public import proofs.«01_k».proof.Proof.RowMixer
public import proofs.«01_k».proof.Proof.RowMixerRef
public import proofs.«01_k».proof.Proof.MixPool
public import proofs.«01_k».proof.Proof.RowGnb
public import proofs.«01_k».proof.Proof.RowGnbRef
public import proofs.«01_k».proof.Proof.ConvBwd
public import proofs.«01_k».proof.Proof.ConvBwdRef
public import proofs.«01_k».proof.Proof.ConvFwd
public import proofs.«01_k».proof.Proof.ConvFwdRef
public import proofs.«01_k».proof.Proof.PoolBwd
public import proofs.«01_k».proof.Proof.PoolBwdRef
public import proofs.«01_k».proof.Proof.PoolFwd
public import proofs.«01_k».proof.Proof.PoolFwdRef
public import Idealize.ShloMosaic.Adequacy
public import Idealize.ShloMosaic.Init

@[expose] public section

set_option maxRecDepth 16384

noncomputable section

namespace Cert.Proof

open Idealize.ShloMosaic Idealize.SL.Sem Cert.FfnSpec Cert.MixSpec

theorem reference9_frame : Cert.quiescent_Reference9Ideal := fun m ρ _ =>
  (θ_run _ _ _).mono (fun r h => ⟨fun c => (h c).2.2.2.2.2, sem_eq_zero_of_no_sems rfl r.2⟩) (Cert.Reference9Ideal.Value.run m ρ)
theorem reference10_frame : Cert.quiescent_Reference10Ideal := fun m ρ _ =>
  (θ_run _ _ _).mono (fun r h => ⟨fun c => (h c).2.2.2.2, sem_eq_zero_of_no_sems rfl r.2⟩) (Cert.Reference10Ideal.Value.run m ρ)
theorem reference11_frame : Cert.quiescent_Reference11Ideal := fun m ρ _ =>
  (θ_run _ _ _).mono (fun r h => ⟨fun c => (h c).2.2, sem_eq_zero_of_no_sems rfl r.2⟩) (Cert.Reference11Ideal.Value.run m ρ)
theorem reference12_frame : Cert.quiescent_Reference12Ideal := fun m ρ _ =>
  (θ_run _ _ _).mono (fun r h => ⟨fun c => (h c).2, sem_eq_zero_of_no_sems rfl r.2⟩) (Cert.Reference12Ideal.Value.run m ρ)
theorem reference13_frame : Cert.quiescent_Reference13Ideal := fun m ρ _ =>
  (θ_run _ _ _).mono (fun r h => ⟨fun c => (h c).2.2.2.2, sem_eq_zero_of_no_sems rfl r.2⟩) (Cert.Reference13Ideal.Value.run m ρ)
theorem reference14_frame : Cert.quiescent_Reference14Ideal := fun m ρ _ =>
  (θ_run _ _ _).mono (fun r h => ⟨fun c => (h c).2.2.2, sem_eq_zero_of_no_sems rfl r.2⟩) (Cert.Reference14Ideal.Value.run m ρ)
theorem reference15_frame : Cert.quiescent_Reference15Ideal := fun m ρ _ =>
  (θ_run _ _ _).mono (fun r h => ⟨fun c => (h c).2.2.2, sem_eq_zero_of_no_sems rfl r.2⟩) (Cert.Reference15Ideal.Value.run m ρ)
theorem reference16_frame : Cert.quiescent_Reference16Ideal := fun m ρ _ =>
  (θ_run _ _ _).mono (fun r h => ⟨fun c => (h c).2.2.2, sem_eq_zero_of_no_sems rfl r.2⟩) (Cert.Reference16Ideal.Value.run m ρ)
theorem reference17_frame : Cert.quiescent_Reference17Ideal := fun m ρ _ =>
  (θ_run _ _ _).mono (fun r h => ⟨fun c => (h c).2, sem_eq_zero_of_no_sems rfl r.2⟩) (Cert.Reference17Ideal.Value.run m ρ)
theorem reference18_frame : Cert.quiescent_Reference18Ideal := fun m ρ _ =>
  (θ_run _ _ _).mono (fun r h => ⟨fun c => (h c).2, sem_eq_zero_of_no_sems rfl r.2⟩) (Cert.Reference18Ideal.Value.run m ρ)
theorem reference19_frame : Cert.quiescent_Reference19Ideal := fun m ρ _ =>
  (θ_run _ _ _).mono (fun r h => ⟨fun c => (h c).2, sem_eq_zero_of_no_sems rfl r.2⟩) (Cert.Reference19Ideal.Value.run m ρ)

/-- The gated merge, backward. -/
theorem algebraic9 : Cert.algebraic_Kernel9Ideal_Reference9Ideal := by
  intro m g m' g' _ hargs
  refine ⟨_, _, _, _, _, Cert.Kernel9Ideal.Mix.run_kernel m g, ?_⟩
  refine (θ_run _ _ _).mono (fun r hr c => ?_) (Cert.Reference9Ideal.Value.run m' g')
  obtain ⟨e0, e1, e2, e3, e4, e5⟩ := hargs c
  obtain ⟨r0, r1, r2, r3, r4, rest⟩ := hr c
  refine ⟨r0.trans ?_, r1.trans ?_, r2.trans ?_, r3.trans ?_, r4.trans ?_, rest⟩
  · refine (Cert.Reference9Ideal.Read.val_main_v48_eq _ _ _ _ _ _).trans ?_
    rw [e0, e1, e2, e3, e4, e5]; exact Cert.Reference9Ideal.Mix.res_dg _ _ _ _ _ _
  · refine (Cert.Reference9Ideal.Read.val_main_v49_eq _ _ _).trans ?_
    rw [e0, e1, e5]; exact Cert.Reference9Ideal.Mix.res_dy0 _ _ _
  · refine (Cert.Reference9Ideal.Read.val_main_v50_eq _ _ _).trans ?_
    rw [e0, e1, e5]; exact Cert.Reference9Ideal.Mix.res_dy1 _ _ _
  · refine (Cert.Reference9Ideal.Read.val_main_v51_eq _ _ _).trans ?_
    rw [e0, e1, e5]; exact Cert.Reference9Ideal.Mix.res_dy2 _ _ _
  · refine (Cert.Reference9Ideal.Read.val_main_v46_eq _ _ _ _ _ _).trans ?_
    rw [e0, e1, e2, e3, e4, e5]; exact Cert.Reference9Ideal.Mix.res_dgb _ _ _ _ _ _

/-- The pooling branch's bias and scale, backward. -/
theorem algebraic10 : Cert.algebraic_Kernel10Ideal_Reference10Ideal := by
  intro m g m' g' _ hargs
  refine ⟨_, _, _, _, Cert.Kernel10Ideal.Mix.run_kernel m g, ?_⟩
  refine (θ_run _ _ _).mono (fun r hr c => ?_) (Cert.Reference10Ideal.Value.run m' g')
  obtain ⟨e0, e1, e2, e3⟩ := hargs c
  obtain ⟨r0, r1, r2, r3, rest⟩ := hr c
  refine ⟨r0.trans ?_, r1.trans ?_, r2.trans ?_, r3.trans ?_, rest⟩
  · refine (Cert.Reference10Ideal.Read.val_main_v11_eq _ _).trans ?_
    rw [e2, e3]; exact Cert.Reference10Ideal.Mix.res_dt _ _
  · refine (Cert.Reference10Ideal.Read.val_main_v12_eq _ _ _).trans ?_
    rw [e0, e1, e2]; exact Cert.Reference10Ideal.Mix.res_t2 _ _ _
  · refine (Cert.Reference10Ideal.Read.val_main_v10_eq _ _).trans ?_
    rw [e2, e3]; exact Cert.Reference10Ideal.Mix.res_db _ _
  · refine (Cert.Reference10Ideal.Read.val_main_v6_eq _ _ _).trans ?_
    rw [e0, e1, e3]; exact Cert.Reference10Ideal.Mix.res_ds _ _ _

/-- The loss and its gradient. -/
theorem algebraic11 : Cert.algebraic_Kernel11Ideal_Reference11Ideal := by
  intro m g m' g' _ hargs
  refine ⟨_, _, Cert.Kernel11Ideal.Mix.run_kernel m g, ?_⟩
  refine (θ_run _ _ _).mono (fun r hr c => ?_) (Cert.Reference11Ideal.Value.run m' g')
  obtain ⟨e0, e1⟩ := hargs c
  obtain ⟨r0, r1, rest⟩ := hr c
  refine ⟨r0.trans ?_, r1.trans ?_, rest⟩
  · refine (Cert.Reference11Ideal.Read.val_main_v14_eq _ _).trans ?_
    rw [e0, e1]; exact Cert.Reference11Ideal.Mix.res_dy _ _
  · refine (Cert.Reference11Ideal.Read.val_main_v15_eq _ _).trans ?_
    rw [e0, e1]; exact Cert.Reference11Ideal.Mix.res_loss _ _

/-- The gated merge. -/
theorem algebraic12 : Cert.algebraic_Kernel12Ideal_Reference12Ideal := by
  intro m g m' g' _ hargs
  refine ⟨_, Cert.Kernel12Ideal.Mix.run_kernel m g, ?_⟩
  refine (θ_run _ _ _).mono (fun r hr c => ?_) (Cert.Reference12Ideal.Value.run m' g')
  obtain ⟨e0, e1, e2, e3, e4⟩ := hargs c
  obtain ⟨r0, rest⟩ := hr c
  refine ⟨r0.trans ?_, rest⟩
  · refine (Cert.Reference12Ideal.Read.val_main_v23_eq _ _ _ _ _).trans ?_
    rw [e0, e1, e2, e3, e4]; exact Cert.Reference12Ideal.Mix.res_merged _ _ _ _ _

/-- The mixer's row by row calls. -/
theorem algebraic13 : Cert.algebraic_Kernel13Ideal_Reference13Ideal := by
  intro m g m' g' _ hargs
  refine ⟨_, _, _, _, Cert.Kernel13Ideal.Mix.run_kernel m g, ?_⟩
  refine (θ_run _ _ _).mono (fun r hr c => ?_) (Cert.Reference13Ideal.Value.run m' g')
  obtain ⟨e0, e1, e2, e3, e4, e5, e6, e7, e8, e9, e10, e11, e12, e13⟩ := hargs c
  obtain ⟨r0, r1, r2, r3, rest⟩ := hr c
  refine ⟨r0.trans ?_, r1.trans ?_, r2.trans ?_, r3.trans ?_, rest⟩
  · refine (Cert.Reference13Ideal.Read.val_main_v49_eq _ _ _).trans ?_
    rw [e0, e1, e2]; exact Cert.Reference13Ideal.Mix.res_t2 _ _ _
  · refine (Cert.Reference13Ideal.Read.val_main_v50_eq _ _ _).trans ?_
    rw [e3, e4, e5]; exact Cert.Reference13Ideal.Mix.res_ybn _ _ _
  · refine (Cert.Reference13Ideal.Read.val_main_v23_eq _ _).trans ?_
    rw [e6, e7]; exact Cert.Reference13Ideal.Mix.res_dt _ _
  · refine (Cert.Reference13Ideal.Read.val_main_v48_eq _ _).trans ?_
    rw [e8, e9, e10, e11, e12, e13]; exact Cert.Reference13Ideal.Mix.res_ycp _ _ _ _ _ _

/-- The pooling branch's own product and its gradients. -/
theorem algebraic14 : Cert.algebraic_Kernel14Ideal_Reference14Ideal := by
  intro m g m' g' _ hargs
  refine ⟨_, _, _, Cert.Kernel14Ideal.Mix.run_kernel m g, ?_⟩
  refine (θ_run _ _ _).mono (fun r hr c => ?_) (Cert.Reference14Ideal.Value.run m' g')
  obtain ⟨e0, e1, e2⟩ := hargs c
  obtain ⟨r0, r1, r2, rest⟩ := hr c
  refine ⟨r0.trans ?_, r1.trans ?_, r2.trans ?_, rest⟩
  · refine (Cert.Reference14Ideal.Read.val_main_v2_eq _ _).trans ?_
    rw [e0, e1]; exact Cert.Reference14Ideal.Mix.res_0 _ _
  · refine (Cert.Reference14Ideal.Read.val_main_v6_eq _ _).trans ?_
    rw [e1, e2]; exact Cert.Reference14Ideal.Mix.res_1 _ _
  · refine (Cert.Reference14Ideal.Read.val_main_v5_eq _ _).trans ?_
    rw [e0, e2]; exact Cert.Reference14Ideal.Mix.res_2 _ _

/-- The scan branch's gated norm, backward. -/
theorem algebraic15 : Cert.algebraic_Kernel15Ideal_Reference15Ideal := by
  intro m g m' g' _ hargs
  refine ⟨_, _, _, Cert.Kernel15Ideal.Mix.run_kernel m g, ?_⟩
  refine (θ_run _ _ _).mono (fun r hr c => ?_) (Cert.Reference15Ideal.Value.run m' g')
  obtain ⟨e0, e1, e2, e3⟩ := hargs c
  obtain ⟨r0, r1, r2, rest⟩ := hr c
  refine ⟨r0.trans ?_, r1.trans ?_, r2.trans ?_, rest⟩
  · refine (Cert.Reference15Ideal.Read.val_main_v42_eq _ _).trans ?_
    rw [e0, e1, e2, e3]; exact Cert.Reference15Ideal.Mix.res_dy _ _ _ _
  · refine (Cert.Reference15Ideal.Read.val_main_v44_eq _ _).trans ?_
    rw [e0, e1, e2, e3]; exact Cert.Reference15Ideal.Mix.res_dz _ _ _ _
  · refine (Cert.Reference15Ideal.Read.val_main_v24_eq _ _ _).trans ?_
    rw [e0, e1, e3]; exact Cert.Reference15Ideal.Mix.res_dn _ _ _

/-- The scan branch's convolution, backward. -/
theorem algebraic16 : Cert.algebraic_Kernel16Ideal_Reference16Ideal := by
  intro m g m' g' _ hargs
  refine ⟨_, _, _, Cert.Kernel16Ideal.Mix.run_kernel m g, ?_⟩
  refine (θ_run _ _ _).mono (fun r hr c => ?_) (Cert.Reference16Ideal.Value.run m' g')
  obtain ⟨e0, e1, e2, e3⟩ := hargs c
  obtain ⟨r0, r1, r2, rest⟩ := hr c
  refine ⟨r0.trans ?_, r1.trans ?_, r2.trans ?_, rest⟩
  · refine (Cert.Reference16Ideal.Read.val_main_v88_eq _ _).trans ?_
    rw [e0, e1, e2, e3]; exact Cert.Reference16Ideal.Mix.res_dx _ _ _ _
  · refine (Cert.Reference16Ideal.Read.val_main_v84_eq _ _).trans ?_
    rw [e0, e1, e2, e3]; exact Cert.Reference16Ideal.Mix.res_dw _ _ _ _
  · refine (Cert.Reference16Ideal.Read.val_main_v73_eq _ _).trans ?_
    rw [e0, e1, e2, e3]; exact Cert.Reference16Ideal.Mix.res_db _ _ _ _

/-- The scan branch's convolution. -/
theorem algebraic17 : Cert.algebraic_Kernel17Ideal_Reference17Ideal := by
  intro m g m' g' _ hargs
  refine ⟨_, Cert.Kernel17Ideal.Mix.run_kernel m g, ?_⟩
  refine (θ_run _ _ _).mono (fun r hr c => ?_) (Cert.Reference17Ideal.Value.run m' g')
  obtain ⟨e0, e1, e2⟩ := hargs c
  obtain ⟨r0, rest⟩ := hr c
  refine ⟨r0.trans ?_, rest⟩
  · refine (Cert.Reference17Ideal.Read.val_main_v35_eq _ _).trans ?_
    rw [e0, e1, e2]; exact Cert.Reference17Ideal.Mix.res_act _ _ _

/-- The multi-scale pooling, backward. -/
theorem algebraic18 : Cert.algebraic_Kernel18Ideal_Reference18Ideal := by
  intro m g m' g' _ hargs
  refine ⟨_, Cert.Kernel18Ideal.Mix.run_kernel m g, ?_⟩
  refine (θ_run _ _ _).mono (fun r hr c => ?_) (Cert.Reference18Ideal.Value.run m' g')
  have e0 := hargs c
  obtain ⟨r0, rest⟩ := hr c
  refine ⟨r0.trans ?_, rest⟩
  · refine (Cert.Reference18Ideal.Read.val_main_v161_eq _).trans ?_
    exact (Cert.Reference18Ideal.Mix.res_pool _).trans (congrArg (fun d => Cert.PoolSpec.pooled (Cert.PoolSpec.poolTOf d)) e0)

/-- The multi-scale pooling. -/
theorem algebraic19 : Cert.algebraic_Kernel19Ideal_Reference19Ideal := by
  intro m g m' g' _ hargs
  refine ⟨_, Cert.Kernel19Ideal.Mix.run_kernel m g, ?_⟩
  refine (θ_run _ _ _).mono (fun r hr c => ?_) (Cert.Reference19Ideal.Value.run m' g')
  have e0 := hargs c
  obtain ⟨r0, rest⟩ := hr c
  refine ⟨r0.trans ?_, rest⟩
  · refine (Cert.Reference19Ideal.Read.val_main_v108_eq _ _).trans ?_
    rw [e0]; exact Cert.Reference19Ideal.Mix.res_pool _

end Cert.Proof

end
-- ==== Proof.lean ====
/-
  The certificate's claims, put together: the frames are the generated ones; the value claim takes the kernel's results from
  KernelValue.lean, the reference's from RefValue.lean, and the finiteness of the heads' operands from Finite.lean.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelValue
public import proofs.«01_k».proof.Proof.RefValue
public import proofs.«01_k».proof.Proof.Finite
public import proofs.«01_k».proof.Proof.FfnClaims
public import proofs.«01_k».proof.Proof.MixClaims
public import proofs.«01_k».proof.Proof.RowClaims
public import proofs.«01_k».proof.Proof.Gen.Kernel2.Frame
public import proofs.«01_k».proof.Proof.Gen.Kernel3.Frame
public import proofs.«01_k».proof.Proof.Gen.Kernel4.Frame
public import Idealize.ShloMosaic.Adequacy
public import Idealize.ShloMosaic.Init
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame

@[expose] public section

set_option maxRecDepth 16384

noncomputable section

namespace Cert.Proof

open Idealize.ShloMosaic Idealize.SL.Sem Cert.AttnSpec

/-- The reference's run ends with its arguments kept and every counter at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2.2, sem_eq_zero_of_no_sems rfl r.2⟩) (Cert.ReferenceIdeal.Value.run m g)

/-- The kernel's four gradients are the reference's. -/
theorem algebraic [hPre : Cert.Pre_finite.Facts] : Cert.algebraic_KernelIdeal_ReferenceIdeal_pre_finite := by
  intro m g m' g' hpre hargs
  have F := fun c => Cert.Pre_finite.finite m hpre c
  refine ⟨_, _, _, _, Cert.KernelIdeal.Attn.run_kernel m g fun c => (F c).den, ?_⟩
  refine (θ_run _ _ _).mono (fun r hr c => ?_) (Cert.ReferenceIdeal.Value.run m' g')
  obtain ⟨e0, e1, e2, e3⟩ := hargs c
  obtain ⟨r0, r1, r2, r3, rest⟩ := hr c
  have a0 : Idealize.ShloMosaic.StableHlo.launchContents m' c (Proc.devRef .tc Cert.ReferenceIdeal.main_arg0) = Cert.KernelIdeal.Attn.A0 m c := e0
  have a1 : Idealize.ShloMosaic.StableHlo.launchContents m' c (Proc.devRef .tc Cert.ReferenceIdeal.main_arg1) = Cert.KernelIdeal.Attn.A1 m c := e1
  have a2 : Idealize.ShloMosaic.StableHlo.launchContents m' c (Proc.devRef .tc Cert.ReferenceIdeal.main_arg2) = Cert.KernelIdeal.Attn.A2 m c := e2
  have a3 : Idealize.ShloMosaic.StableHlo.launchContents m' c (Proc.devRef .tc Cert.ReferenceIdeal.main_arg3) = Cert.KernelIdeal.Attn.A3 m c := e3
  refine ⟨r0.trans ?_, r1.trans ?_, r2.trans ?_, r3.trans ?_, rest⟩
  · refine (Cert.ReferenceIdeal.Read.val_main_v143_eq _).trans ?_
    rw [a0, a1, a2, a3]; exact Cert.ReferenceIdeal.Attn.res_q (F c)
  · refine (Cert.ReferenceIdeal.Read.val_main_v144_eq _).trans ?_
    rw [a0, a1, a2, a3]; exact Cert.ReferenceIdeal.Attn.res_k (F c)
  · refine (Cert.ReferenceIdeal.Read.val_main_v145_eq _).trans ?_
    rw [a0, a1, a2]; exact Cert.ReferenceIdeal.Attn.res_v (F c)
  · refine (Cert.ReferenceIdeal.Read.val_main_v121_eq _).trans ?_
    rw [a0, a1, a2, a3]; exact Cert.ReferenceIdeal.Attn.res_b (F c)

theorem claim : Cert.Claim := by
  haveI := Cert.Pre_finite.facts
  exact ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts, Cert.Pre_finite.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    fun m ρ _ => Cert.Kernel8.Gen.frame m ρ, fun m ρ _ => Cert.Kernel8Ideal.Gen.frame m ρ, reference8_frame,
    fun m ρ _ => Cert.Kernel9.Gen.frame m ρ, fun m ρ _ => Cert.Kernel9Ideal.Gen.frame m ρ, reference9_frame,
    fun m ρ _ => Cert.Kernel10.Gen.frame m ρ, fun m ρ _ => Cert.Kernel10Ideal.Gen.frame m ρ, reference10_frame,
    fun m ρ _ => Cert.Kernel11.Gen.frame m ρ, fun m ρ _ => Cert.Kernel11Ideal.Gen.frame m ρ, reference11_frame,
    fun m ρ _ => Cert.Kernel12.Gen.frame m ρ, fun m ρ _ => Cert.Kernel12Ideal.Gen.frame m ρ, reference12_frame,
    fun m ρ _ => Cert.Kernel13.Gen.frame m ρ, fun m ρ _ => Cert.Kernel13Ideal.Gen.frame m ρ, reference13_frame,
    fun m ρ _ => Cert.Kernel14.Gen.frame m ρ, fun m ρ _ => Cert.Kernel14Ideal.Gen.frame m ρ, reference14_frame,
    fun m ρ _ => Cert.Kernel15.Gen.frame m ρ, fun m ρ _ => Cert.Kernel15Ideal.Gen.frame m ρ, reference15_frame,
    fun m ρ _ => Cert.Kernel16.Gen.frame m ρ, fun m ρ _ => Cert.Kernel16Ideal.Gen.frame m ρ, reference16_frame,
    fun m ρ _ => Cert.Kernel17.Gen.frame m ρ, fun m ρ _ => Cert.Kernel17Ideal.Gen.frame m ρ, reference17_frame,
    fun m ρ _ => Cert.Kernel18.Gen.frame m ρ, fun m ρ _ => Cert.Kernel18Ideal.Gen.frame m ρ, reference18_frame,
    fun m ρ _ => Cert.Kernel19.Gen.frame m ρ, fun m ρ _ => Cert.Kernel19Ideal.Gen.frame m ρ, reference19_frame,
    trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19⟩

end Cert.Proof

end
